-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdIdeal_finite_scores [hPre_finite_scores : Cert.Pre_finite_scores.Facts] (m : (ℓ : Loc Cert.MemBwdIdeal.nD Cert.MemBwdIdeal.τ Cert.MemBwdIdeal.sig) → Buf (Elt Ideal) ℓ) : Prop :=
  ∀ c : Dev Cert.MemBwdIdeal.nD,
    (Cert.Pre_finite_scores.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).1 = (fun _ => 1#1)
    ∧ (Cert.Pre_finite_scores.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).2 = (fun _ => 1#1)

def Pre_MemGradIdeal (m : (ℓ : Loc Cert.MemGradIdeal.nD Cert.MemGradIdeal.τ Cert.MemGradIdeal.sig) → Buf (Elt Ideal) ℓ) : Prop :=
  True

def Pre_MemGradIdeal_finite_scores [hPre_finite_scores : Cert.Pre_finite_scores.Facts] (m : (ℓ : Loc Cert.MemGradIdeal.nD Cert.MemGradIdeal.τ Cert.MemGradIdeal.sig) → Buf (Elt Ideal) ℓ) : Prop :=
  ∀ c : Dev Cert.MemGradIdeal.nD,
    (Cert.Pre_finite_scores.fn (F := Ideal) (m ((c.tc : Thread Cert.MemGradIdeal.nD Cert.MemGradIdeal.τ).loc Cert.MemGradIdeal.main_arg0)) (m ((c.tc : Thread Cert.MemGradIdeal.nD Cert.MemGradIdeal.τ).loc Cert.MemGradIdeal.main_arg1)) (m ((c.tc : Thread Cert.MemGradIdeal.nD Cert.MemGradIdeal.τ).loc Cert.MemGradIdeal.main_arg2)) (m ((c.tc : Thread Cert.MemGradIdeal.nD Cert.MemGradIdeal.τ).loc Cert.MemGradIdeal.main_arg3))).1 = (fun _ => 1#1)
    ∧ (Cert.Pre_finite_scores.fn (F := Ideal) (m ((c.tc : Thread Cert.MemGradIdeal.nD Cert.MemGradIdeal.τ).loc Cert.MemGradIdeal.main_arg0)) (m ((c.tc : Thread Cert.MemGradIdeal.nD Cert.MemGradIdeal.τ).loc Cert.MemGradIdeal.main_arg1)) (m ((c.tc : Thread Cert.MemGradIdeal.nD Cert.MemGradIdeal.τ).loc Cert.MemGradIdeal.main_arg2)) (m ((c.tc : Thread Cert.MemGradIdeal.nD Cert.MemGradIdeal.τ).loc Cert.MemGradIdeal.main_arg3))).2 = (fun _ => 1#1)

def Pre_DxnBwd (m : (ℓ : Loc Cert.DxnBwd.nD Cert.DxnBwd.τ Cert.DxnBwd.sig) → Buf (Elt Bits) ℓ) : Prop :=
  True

def Pre_DxnBwdIdeal (m : (ℓ : Loc Cert.DxnBwdIdeal.nD Cert.DxnBwdIdeal.τ Cert.DxnBwdIdeal.sig) → Buf (Elt Ideal) ℓ) : Prop :=
  True

def Pre_DxnGradIdeal (m : (ℓ : Loc Cert.DxnGradIdeal.nD Cert.DxnGradIdeal.τ Cert.DxnGradIdeal.sig) → Buf (Elt Ideal) ℓ) : Prop :=
  True

def Pre_GwinBwd (m : (ℓ : Loc Cert.GwinBwd.nD Cert.GwinBwd.τ Cert.GwinBwd.sig) → Buf (Elt Bits) ℓ) : Prop :=
  True

def Pre_GwinBwdIdeal (m : (ℓ : Loc Cert.GwinBwdIdeal.nD Cert.GwinBwdIdeal.τ Cert.GwinBwdIdeal.sig) → Buf (Elt Ideal) ℓ) : Prop :=
  True

def Pre_GwinGradIdeal (m : (ℓ : Loc Cert.GwinGradIdeal.nD Cert.GwinGradIdeal.τ Cert.GwinGradIdeal.sig) → Buf (Elt Ideal) ℓ) : Prop :=
  True

def Pre_DhnBwd (m : (ℓ : Loc Cert.DhnBwd.nD Cert.DhnBwd.τ Cert.DhnBwd.sig) → Buf (Elt Bits) ℓ) : Prop :=
  True

def Pre_DhnBwdIdeal (m : (ℓ : Loc Cert.DhnBwdIdeal.nD Cert.DhnBwdIdeal.τ Cert.DhnBwdIdeal.sig) → Buf (Elt Ideal) ℓ) : Prop :=
  True

def Pre_DhnGradIdeal (m : (ℓ : Loc Cert.DhnGradIdeal.nD Cert.DhnGradIdeal.τ Cert.DhnGradIdeal.sig) → Buf (Elt Ideal) ℓ) : Prop :=
  True

def Pre_GwupBwd (m : (ℓ : Loc Cert.GwupBwd.nD Cert.GwupBwd.τ Cert.GwupBwd.sig) → Buf (Elt Bits) ℓ) : Prop :=
  True

def Pre_GwupBwdIdeal (m : (ℓ : Loc Cert.GwupBwdIdeal.nD Cert.GwupBwdIdeal.τ Cert.GwupBwdIdeal.sig) → Buf (Elt Ideal) ℓ) : Prop :=
  True

def Pre_GwupGradIdeal (m : (ℓ : Loc Cert.GwupGradIdeal.nD Cert.GwupGradIdeal.τ Cert.GwupGradIdeal.sig) → Buf (Elt Ideal) ℓ) : Prop :=
  True

def Pre_DactBwd (m : (ℓ : Loc Cert.DactBwd.nD Cert.DactBwd.τ Cert.DactBwd.sig) → Buf (Elt Bits) ℓ) : Prop :=
  True

def Pre_DactBwdIdeal (m : (ℓ : Loc Cert.DactBwdIdeal.nD Cert.DactBwdIdeal.τ Cert.DactBwdIdeal.sig) → Buf (Elt Ideal) ℓ) : Prop :=
  True

def Pre_DactGradIdeal (m : (ℓ : Loc Cert.DactGradIdeal.nD Cert.DactGradIdeal.τ Cert.DactGradIdeal.sig) → Buf (Elt Ideal) ℓ) : Prop :=
  True

def Pre_GwdownBwd (m : (ℓ : Loc Cert.GwdownBwd.nD Cert.GwdownBwd.τ Cert.GwdownBwd.sig) → Buf (Elt Bits) ℓ) : Prop :=
  True

def Pre_GwdownBwdIdeal (m : (ℓ : Loc Cert.GwdownBwdIdeal.nD Cert.GwdownBwdIdeal.τ Cert.GwdownBwdIdeal.sig) → Buf (Elt Ideal) ℓ) : Prop :=
  True

def Pre_GwdownGradIdeal (m : (ℓ : Loc Cert.GwdownGradIdeal.nD Cert.GwdownGradIdeal.τ Cert.GwdownGradIdeal.sig) → Buf (Elt Ideal) ℓ) : Prop :=
  True

def Pre_DmergedBwd (m : (ℓ : Loc Cert.DmergedBwd.nD Cert.DmergedBwd.τ Cert.DmergedBwd.sig) → Buf (Elt Bits) ℓ) : Prop :=
  True

def Pre_DmergedBwdIdeal (m : (ℓ : Loc Cert.DmergedBwdIdeal.nD Cert.DmergedBwdIdeal.τ Cert.DmergedBwdIdeal.sig) → Buf (Elt Ideal) ℓ) : Prop :=
  True

def Pre_DmergedGradIdeal (m : (ℓ : Loc Cert.DmergedGradIdeal.nD Cert.DmergedGradIdeal.τ Cert.DmergedGradIdeal.sig) → Buf (Elt Ideal) ℓ) : Prop :=
  True

def Pre_GwoBwd (m : (ℓ : Loc Cert.GwoBwd.nD Cert.GwoBwd.τ Cert.GwoBwd.sig) → Buf (Elt Bits) ℓ) : Prop :=
  True

def Pre_GwoBwdIdeal (m : (ℓ : Loc Cert.GwoBwdIdeal.nD Cert.GwoBwdIdeal.τ Cert.GwoBwdIdeal.sig) → Buf (Elt Ideal) ℓ) : Prop :=
  True

def Pre_GwoGradIdeal (m : (ℓ : Loc Cert.GwoGradIdeal.nD Cert.GwoGradIdeal.τ Cert.GwoGradIdeal.sig) → Buf (Elt Ideal) ℓ) : Prop :=
  True

def Pre_WinFwd (m : (ℓ : Loc Cert.WinFwd.nD Cert.WinFwd.τ Cert.WinFwd.sig) → Buf (Elt Bits) ℓ) : Prop :=
  True

def Pre_WinFwdIdeal (m : (ℓ : Loc Cert.WinFwdIdeal.nD Cert.WinFwdIdeal.τ Cert.WinFwdIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_WupFwd (m : (ℓ : Loc Cert.WupFwd.nD Cert.WupFwd.τ Cert.WupFwd.sig) → Buf (Elt Bits) ℓ) : Prop :=
  True

def Pre_WupFwdIdeal (m : (ℓ : Loc Cert.WupFwdIdeal.nD Cert.WupFwdIdeal.τ Cert.WupFwdIdeal.sig) → Buf (Elt Ideal) ℓ) : Prop :=
  True

def Pre_WupRefIdeal (m : (ℓ : Loc Cert.WupRefIdeal.nD Cert.WupRefIdeal.τ Cert.WupRefIdeal.sig) → Buf (Elt Ideal) ℓ) : Prop :=
  True

def Pre_WdownFwd (m : (ℓ : Loc Cert.WdownFwd.nD Cert.WdownFwd.τ Cert.WdownFwd.sig) → Buf (Elt Bits) ℓ) : Prop :=
  True

def Pre_WdownFwdIdeal (m : (ℓ : Loc Cert.WdownFwdIdeal.nD Cert.WdownFwdIdeal.τ Cert.WdownFwdIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_WoFwd (m : (ℓ : Loc Cert.WoFwd.nD Cert.WoFwd.τ Cert.WoFwd.sig) → Buf (Elt Bits) ℓ) : Prop :=
  True

def Pre_WoFwdIdeal (m : (ℓ : Loc Cert.WoFwdIdeal.nD Cert.WoFwdIdeal.τ Cert.WoFwdIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_DconvBwd (m : (ℓ : Loc Cert.DconvBwd.nD Cert.DconvBwd.τ Cert.DconvBwd.sig) → Buf (Elt Bits) ℓ) : Prop :=
  True

def Pre_DconvBwdIdeal (m : (ℓ : Loc Cert.DconvBwdIdeal.nD Cert.DconvBwdIdeal.τ Cert.DconvBwdIdeal.sig) → Buf (Elt Ideal) ℓ) : Prop :=
  True

def Pre_DconvGradIdeal (m : (ℓ : Loc Cert.DconvGradIdeal.nD Cert.DconvGradIdeal.τ Cert.DconvGradIdeal.sig) → Buf (Elt Ideal) ℓ) : Prop :=
  True

def Pre_GconvBwd (m : (ℓ : Loc Cert.GconvBwd.nD Cert.GconvBwd.τ Cert.GconvBwd.sig) → Buf (Elt Bits) ℓ) : Prop :=
  True

def Pre_GconvBwdIdeal (m : (ℓ : Loc Cert.GconvBwdIdeal.nD Cert.GconvBwdIdeal.τ Cert.GconvBwdIdeal.sig) → Buf (Elt Ideal) ℓ) : Prop :=
  True

def Pre_GconvGradIdeal (m : (ℓ : Loc Cert.GconvGradIdeal.nD Cert.GconvGradIdeal.τ Cert.GconvGradIdeal.sig) → Buf (Elt Ideal) ℓ) : Prop :=
  True

def Pre_DattnBwd (m : (ℓ : Loc Cert.DattnBwd.nD Cert.DattnBwd.τ Cert.DattnBwd.sig) → Buf (Elt Bits) ℓ) : Prop :=
  True

def Pre_DattnBwdIdeal (m : (ℓ : Loc Cert.DattnBwdIdeal.nD Cert.DattnBwdIdeal.τ Cert.DattnBwdIdeal.sig) → Buf (Elt Ideal) ℓ) : Prop :=
  True

def Pre_DattnGradIdeal (m : (ℓ : Loc Cert.DattnGradIdeal.nD Cert.DattnGradIdeal.τ Cert.DattnGradIdeal.sig) → Buf (Elt Ideal) ℓ) : Prop :=
  True

def Pre_GattnBwd (m : (ℓ : Loc Cert.GattnBwd.nD Cert.GattnBwd.τ Cert.GattnBwd.sig) → Buf (Elt Bits) ℓ) : Prop :=
  True

def Pre_GattnBwdIdeal (m : (ℓ : Loc Cert.GattnBwdIdeal.nD Cert.GattnBwdIdeal.τ Cert.GattnBwdIdeal.sig) → Buf (Elt Ideal) ℓ) : Prop :=
  True

def Pre_GattnGradIdeal (m : (ℓ : Loc Cert.GattnGradIdeal.nD Cert.GattnGradIdeal.τ Cert.GattnGradIdeal.sig) → Buf (Elt Ideal) ℓ) : Prop :=
  True

def Pre_DmemBwd (m : (ℓ : Loc Cert.DmemBwd.nD Cert.DmemBwd.τ Cert.DmemBwd.sig) → Buf (Elt Bits) ℓ) : Prop :=
  True

def Pre_DmemBwdIdeal (m : (ℓ : Loc Cert.DmemBwdIdeal.nD Cert.DmemBwdIdeal.τ Cert.DmemBwdIdeal.sig) → Buf (Elt Ideal) ℓ) : Prop :=
  True

def Pre_DmemGradIdeal (m : (ℓ : Loc Cert.DmemGradIdeal.nD Cert.DmemGradIdeal.τ Cert.DmemGradIdeal.sig) → Buf (Elt Ideal) ℓ) : Prop :=
  True

def Pre_GmemBwd (m : (ℓ : Loc Cert.GmemBwd.nD Cert.GmemBwd.τ Cert.GmemBwd.sig) → Buf (Elt Bits) ℓ) : Prop :=
  True

def Pre_GmemBwdIdeal (m : (ℓ : Loc Cert.GmemBwdIdeal.nD Cert.GmemBwdIdeal.τ Cert.GmemBwdIdeal.sig) → Buf (Elt Ideal) ℓ) : Prop :=
  True

def Pre_GmemGradIdeal (m : (ℓ : Loc Cert.GmemGradIdeal.nD Cert.GmemGradIdeal.τ Cert.GmemGradIdeal.sig) → Buf (Elt Ideal) ℓ) : Prop :=
  True

def Pre_WkvFwd (m : (ℓ : Loc Cert.WkvFwd.nD Cert.WkvFwd.τ Cert.WkvFwd.sig) → Buf (Elt Bits) ℓ) : Prop :=
  True

def Pre_WkvFwdIdeal (m : (ℓ : Loc Cert.WkvFwdIdeal.nD Cert.WkvFwdIdeal.τ Cert.WkvFwdIdeal.sig) → Buf (Elt Ideal) ℓ) : Prop :=
  True

def Pre_WkvRefIdeal (m : (ℓ : Loc Cert.WkvRefIdeal.nD Cert.WkvRefIdeal.τ Cert.WkvRefIdeal.sig) → Buf (Elt Ideal) ℓ) : Prop :=
  True

def Pre_DkvBwd (m : (ℓ : Loc Cert.DkvBwd.nD Cert.DkvBwd.τ Cert.DkvBwd.sig) → Buf (Elt Bits) ℓ) : Prop :=
  True

def Pre_DkvBwdIdeal (m : (ℓ : Loc Cert.DkvBwdIdeal.nD Cert.DkvBwdIdeal.τ Cert.DkvBwdIdeal.sig) → Buf (Elt Ideal) ℓ) : Prop :=
  True

def Pre_DkvGradIdeal (m : (ℓ : Loc Cert.DkvGradIdeal.nD Cert.DkvGradIdeal.τ Cert.DkvGradIdeal.sig) → Buf (Elt Ideal) ℓ) : Prop :=
  True

def Pre_GkvBwd (m : (ℓ : Loc Cert.GkvBwd.nD Cert.GkvBwd.τ Cert.GkvBwd.sig) → Buf (Elt Bits) ℓ) : Prop :=
  True

def Pre_GkvBwdIdeal (m : (ℓ : Loc Cert.GkvBwdIdeal.nD Cert.GkvBwdIdeal.τ Cert.GkvBwdIdeal.sig) → Buf (Elt Ideal) ℓ) : Prop :=
  True

def Pre_GkvGradIdeal (m : (ℓ : Loc Cert.GkvGradIdeal.nD Cert.GkvGradIdeal.τ Cert.GkvGradIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdIdeal_finite_inputs [hPre_finite_inputs : Cert.Pre_finite_inputs.Facts] (m : (ℓ : Loc Cert.MemFwdIdeal.nD Cert.MemFwdIdeal.τ Cert.MemFwdIdeal.sig) → Buf (Elt Ideal) ℓ) : Prop :=
  ∀ c : Dev Cert.MemFwdIdeal.nD,
    (Cert.Pre_finite_inputs.fn (F := Ideal) (m ((c.tc : Thread Cert.MemFwdIdeal.nD Cert.MemFwdIdeal.τ).loc Cert.MemFwdIdeal.main_arg0)) (m ((c.tc : Thread Cert.MemFwdIdeal.nD Cert.MemFwdIdeal.τ).loc Cert.MemFwdIdeal.main_arg1))).1 = (fun _ => 1#1)
    ∧ (Cert.Pre_finite_inputs.fn (F := Ideal) (m ((c.tc : Thread Cert.MemFwdIdeal.nD Cert.MemFwdIdeal.τ).loc Cert.MemFwdIdeal.main_arg0)) (m ((c.tc : Thread Cert.MemFwdIdeal.nD Cert.MemFwdIdeal.τ).loc Cert.MemFwdIdeal.main_arg1))).2 = (fun _ => 1#1)

def Pre_MemOutIdeal (m : (ℓ : Loc Cert.MemOutIdeal.nD Cert.MemOutIdeal.τ Cert.MemOutIdeal.sig) → Buf (Elt Ideal) ℓ) : Prop :=
  True

def Pre_MemOutIdeal_finite_inputs [hPre_finite_inputs : Cert.Pre_finite_inputs.Facts] (m : (ℓ : Loc Cert.MemOutIdeal.nD Cert.MemOutIdeal.τ Cert.MemOutIdeal.sig) → Buf (Elt Ideal) ℓ) : Prop :=
  ∀ c : Dev Cert.MemOutIdeal.nD,
    (Cert.Pre_finite_inputs.fn (F := Ideal) (m ((c.tc : Thread Cert.MemOutIdeal.nD Cert.MemOutIdeal.τ).loc Cert.MemOutIdeal.main_arg0)) (m ((c.tc : Thread Cert.MemOutIdeal.nD Cert.MemOutIdeal.τ).loc Cert.MemOutIdeal.main_arg1))).1 = (fun _ => 1#1)
    ∧ (Cert.Pre_finite_inputs.fn (F := Ideal) (m ((c.tc : Thread Cert.MemOutIdeal.nD Cert.MemOutIdeal.τ).loc Cert.MemOutIdeal.main_arg0)) (m ((c.tc : Thread Cert.MemOutIdeal.nD Cert.MemOutIdeal.τ).loc Cert.MemOutIdeal.main_arg1))).2 = (fun _ => 1#1)

def Pre_DnormBwd (m : (ℓ : Loc Cert.DnormBwd.nD Cert.DnormBwd.τ Cert.DnormBwd.sig) → Buf (Elt Bits) ℓ) : Prop :=
  True

def Pre_DnormBwdIdeal (m : (ℓ : Loc Cert.DnormBwdIdeal.nD Cert.DnormBwdIdeal.τ Cert.DnormBwdIdeal.sig) → Buf (Elt Ideal) ℓ) : Prop :=
  True

def Pre_DnormGradIdeal (m : (ℓ : Loc Cert.DnormGradIdeal.nD Cert.DnormGradIdeal.τ Cert.DnormGradIdeal.sig) → Buf (Elt Ideal) ℓ) : Prop :=
  True

def Pre_DtokBwd (m : (ℓ : Loc Cert.DtokBwd.nD Cert.DtokBwd.τ Cert.DtokBwd.sig) → Buf (Elt Bits) ℓ) : Prop :=
  True

def Pre_DtokBwdIdeal (m : (ℓ : Loc Cert.DtokBwdIdeal.nD Cert.DtokBwdIdeal.τ Cert.DtokBwdIdeal.sig) → Buf (Elt Ideal) ℓ) : Prop :=
  True

def Pre_DtokGradIdeal (m : (ℓ : Loc Cert.DtokGradIdeal.nD Cert.DtokGradIdeal.τ Cert.DtokGradIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossGradIdeal (m : (ℓ : Loc Cert.LossGradIdeal.nD Cert.LossGradIdeal.τ Cert.LossGradIdeal.sig) → Buf (Elt Ideal) ℓ) : Prop :=
  True

def Pre_DlnBwd (m : (ℓ : Loc Cert.DlnBwd.nD Cert.DlnBwd.τ Cert.DlnBwd.sig) → Buf (Elt Bits) ℓ) : Prop :=
  True

def Pre_DlnBwdIdeal (m : (ℓ : Loc Cert.DlnBwdIdeal.nD Cert.DlnBwdIdeal.τ Cert.DlnBwdIdeal.sig) → Buf (Elt Ideal) ℓ) : Prop :=
  True

def Pre_DlnBwdIdeal_finite_grads [hPre_finite_grads : Cert.Pre_finite_grads.Facts] (m : (ℓ : Loc Cert.DlnBwdIdeal.nD Cert.DlnBwdIdeal.τ Cert.DlnBwdIdeal.sig) → Buf (Elt Ideal) ℓ) : Prop :=
  ∀ c : Dev Cert.DlnBwdIdeal.nD,
    (Cert.Pre_finite_grads.fn (F := Ideal) (m ((c.tc : Thread Cert.DlnBwdIdeal.nD Cert.DlnBwdIdeal.τ).loc Cert.DlnBwdIdeal.main_arg0)) (m ((c.tc : Thread Cert.DlnBwdIdeal.nD Cert.DlnBwdIdeal.τ).loc Cert.DlnBwdIdeal.main_arg1)) (m ((c.tc : Thread Cert.DlnBwdIdeal.nD Cert.DlnBwdIdeal.τ).loc Cert.DlnBwdIdeal.main_arg2)) (m ((c.tc : Thread Cert.DlnBwdIdeal.nD Cert.DlnBwdIdeal.τ).loc Cert.DlnBwdIdeal.main_arg3))).1 = (fun _ => 1#1)
    ∧ (Cert.Pre_finite_grads.fn (F := Ideal) (m ((c.tc : Thread Cert.DlnBwdIdeal.nD Cert.DlnBwdIdeal.τ).loc Cert.DlnBwdIdeal.main_arg0)) (m ((c.tc : Thread Cert.DlnBwdIdeal.nD Cert.DlnBwdIdeal.τ).loc Cert.DlnBwdIdeal.main_arg1)) (m ((c.tc : Thread Cert.DlnBwdIdeal.nD Cert.DlnBwdIdeal.τ).loc Cert.DlnBwdIdeal.main_arg2)) (m ((c.tc : Thread Cert.DlnBwdIdeal.nD Cert.DlnBwdIdeal.τ).loc Cert.DlnBwdIdeal.main_arg3))).2 = (fun _ => 1#1)

def Pre_DlnGradIdeal (m : (ℓ : Loc Cert.DlnGradIdeal.nD Cert.DlnGradIdeal.τ Cert.DlnGradIdeal.sig) → Buf (Elt Ideal) ℓ) : Prop :=
  True

def Pre_DlnGradIdeal_finite_grads [hPre_finite_grads : Cert.Pre_finite_grads.Facts] (m : (ℓ : Loc Cert.DlnGradIdeal.nD Cert.DlnGradIdeal.τ Cert.DlnGradIdeal.sig) → Buf (Elt Ideal) ℓ) : Prop :=
  ∀ c : Dev Cert.DlnGradIdeal.nD,
    (Cert.Pre_finite_grads.fn (F := Ideal) (m ((c.tc : Thread Cert.DlnGradIdeal.nD Cert.DlnGradIdeal.τ).loc Cert.DlnGradIdeal.main_arg0)) (m ((c.tc : Thread Cert.DlnGradIdeal.nD Cert.DlnGradIdeal.τ).loc Cert.DlnGradIdeal.main_arg1)) (m ((c.tc : Thread Cert.DlnGradIdeal.nD Cert.DlnGradIdeal.τ).loc Cert.DlnGradIdeal.main_arg2)) (m ((c.tc : Thread Cert.DlnGradIdeal.nD Cert.DlnGradIdeal.τ).loc Cert.DlnGradIdeal.main_arg3))).1 = (fun _ => 1#1)
    ∧ (Cert.Pre_finite_grads.fn (F := Ideal) (m ((c.tc : Thread Cert.DlnGradIdeal.nD Cert.DlnGradIdeal.τ).loc Cert.DlnGradIdeal.main_arg0)) (m ((c.tc : Thread Cert.DlnGradIdeal.nD Cert.DlnGradIdeal.τ).loc Cert.DlnGradIdeal.main_arg1)) (m ((c.tc : Thread Cert.DlnGradIdeal.nD Cert.DlnGradIdeal.τ).loc Cert.DlnGradIdeal.main_arg2)) (m ((c.tc : Thread Cert.DlnGradIdeal.nD Cert.DlnGradIdeal.τ).loc Cert.DlnGradIdeal.main_arg3))).2 = (fun _ => 1#1)

def Pre_DkeysBwd (m : (ℓ : Loc Cert.DkeysBwd.nD Cert.DkeysBwd.τ Cert.DkeysBwd.sig) → Buf (Elt Bits) ℓ) : Prop :=
  True

def Pre_DkeysBwdIdeal (m : (ℓ : Loc Cert.DkeysBwdIdeal.nD Cert.DkeysBwdIdeal.τ Cert.DkeysBwdIdeal.sig) → Buf (Elt Ideal) ℓ) : Prop :=
  True

def Pre_DkeysGradIdeal (m : (ℓ : Loc Cert.DkeysGradIdeal.nD Cert.DkeysGradIdeal.τ Cert.DkeysGradIdeal.sig) → Buf (Elt Ideal) ℓ) : Prop :=
  True

def Pre_DvalsBwd (m : (ℓ : Loc Cert.DvalsBwd.nD Cert.DvalsBwd.τ Cert.DvalsBwd.sig) → Buf (Elt Bits) ℓ) : Prop :=
  True

def Pre_DvalsBwdIdeal (m : (ℓ : Loc Cert.DvalsBwdIdeal.nD Cert.DvalsBwdIdeal.τ Cert.DvalsBwdIdeal.sig) → Buf (Elt Ideal) ℓ) : Prop :=
  True

def Pre_DvalsGradIdeal (m : (ℓ : Loc Cert.DvalsGradIdeal.nD Cert.DvalsGradIdeal.τ Cert.DvalsGradIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_TokFwd (m : (ℓ : Loc Cert.TokFwd.nD Cert.TokFwd.τ Cert.TokFwd.sig) → Buf (Elt Bits) ℓ) : Prop :=
  True

def Pre_TokFwdIdeal (m : (ℓ : Loc Cert.TokFwdIdeal.nD Cert.TokFwdIdeal.τ Cert.TokFwdIdeal.sig) → Buf (Elt Ideal) ℓ) : Prop :=
  True

def Pre_TokRefIdeal (m : (ℓ : Loc Cert.TokRefIdeal.nD Cert.TokRefIdeal.τ Cert.TokRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemBwdIdeal_pre_finite_scores [hMemBwdIdeal : Cert.MemBwdIdeal.Facts] [hPre_finite_scores : Cert.Pre_finite_scores.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal_finite_scores m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemGradIdeal [hMemGradIdeal : Cert.MemGradIdeal.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2)
      ∧ r.2.mem ((c.tc : Thread Cert.MemGradIdeal.nD Cert.MemGradIdeal.τ).loc Cert.MemGradIdeal.main_arg3) = m ((c.tc : Thread Cert.MemGradIdeal.nD Cert.MemGradIdeal.τ).loc Cert.MemGradIdeal.main_arg3))
      ∧ r.2.sem = fun _ => 0)

def quiescent_MemGradIdeal_pre_finite_scores [hMemGradIdeal : Cert.MemGradIdeal.Facts] [hPre_finite_scores : Cert.Pre_finite_scores.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal_finite_scores m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2)
      ∧ r.2.mem ((c.tc : Thread Cert.MemGradIdeal.nD Cert.MemGradIdeal.τ).loc Cert.MemGradIdeal.main_arg3) = m ((c.tc : Thread Cert.MemGradIdeal.nD Cert.MemGradIdeal.τ).loc Cert.MemGradIdeal.main_arg3))
      ∧ r.2.sem = fun _ => 0)

def quiescent_DxnBwd [hDxnBwd : Cert.DxnBwd.Facts] : Prop :=
  ∀ (m : (ℓ : Loc Cert.DxnBwd.nD Cert.DxnBwd.τ Cert.DxnBwd.sig) → Buf (Elt Bits) ℓ) (g : Dev Cert.DxnBwd.nD → PrngReg), Pre_DxnBwd m →
    θ_run (Cert.DxnBwd.defs (F := Bits)) (onTc (τ := Cert.DxnBwd.τ) (Cert.DxnBwd.main (F := Bits))) ⟨m, fun _ => 0, g⟩ (fun r => (∀ c : Dev Cert.DxnBwd.nD,
      r.2.mem ((c.tc : Thread Cert.DxnBwd.nD Cert.DxnBwd.τ).loc Cert.DxnBwd.main_arg0) = m ((c.tc : Thread Cert.DxnBwd.nD Cert.DxnBwd.τ).loc Cert.DxnBwd.main_arg0)
      ∧ r.2.mem ((c.tc : Thread Cert.DxnBwd.nD Cert.DxnBwd.τ).loc Cert.DxnBwd.main_arg1) = m ((c.tc : Thread Cert.DxnBwd.nD Cert.DxnBwd.τ).loc Cert.DxnBwd.main_arg1))
      ∧ r.2.sem = fun _ => 0)

def quiescent_DxnBwdIdeal [hDxnBwdIdeal : Cert.DxnBwdIdeal.Facts] : Prop :=
  ∀ (m : (ℓ : Loc Cert.DxnBwdIdeal.nD Cert.DxnBwdIdeal.τ Cert.DxnBwdIdeal.sig) → Buf (Elt Ideal) ℓ) (g : Dev Cert.DxnBwdIdeal.nD → PrngReg), Pre_DxnBwdIdeal m →
    θ_run (Cert.DxnBwdIdeal.defs (F := Ideal)) (onTc (τ := Cert.DxnBwdIdeal.τ) (Cert.DxnBwdIdeal.main (F := Ideal))) ⟨m, fun _ => 0, g⟩ (fun r => (∀ c : Dev Cert.DxnBwdIdeal.nD,
      r.2.mem ((c.tc : Thread Cert.DxnBwdIdeal.nD Cert.DxnBwdIdeal.τ).loc Cert.DxnBwdIdeal.main_arg0) = m ((c.tc : Thread Cert.DxnBwdIdeal.nD Cert.DxnBwdIdeal.τ).loc Cert.DxnBwdIdeal.main_arg0)
      ∧ r.2.mem ((c.tc : Thread Cert.DxnBwdIdeal.nD Cert.DxnBwdIdeal.τ).loc Cert.DxnBwdIdeal.main_arg1) = m ((c.tc : Thread Cert.DxnBwdIdeal.nD Cert.DxnBwdIdeal.τ).loc Cert.DxnBwdIdeal.main_arg1))
      ∧ r.2.sem = fun _ => 0)

def quiescent_DxnGradIdeal [hDxnGradIdeal : Cert.DxnGradIdeal.Facts] : Prop :=
  ∀ (m : (ℓ : Loc Cert.DxnGradIdeal.nD Cert.DxnGradIdeal.τ Cert.DxnGradIdeal.sig) → Buf (Elt Ideal) ℓ) (g : Dev Cert.DxnGradIdeal.nD → PrngReg), Pre_DxnGradIdeal m →
    θ_run (Cert.DxnGradIdeal.defs (F := Ideal)) (onTc (τ := Cert.DxnGradIdeal.τ) (Cert.DxnGradIdeal.main (F := Ideal))) ⟨m, fun _ => 0, g⟩ (fun r => (∀ c : Dev Cert.DxnGradIdeal.nD,
      r.2.mem ((c.tc : Thread Cert.DxnGradIdeal.nD Cert.DxnGradIdeal.τ).loc Cert.DxnGradIdeal.main_arg0) = m ((c.tc : Thread Cert.DxnGradIdeal.nD Cert.DxnGradIdeal.τ).loc Cert.DxnGradIdeal.main_arg0)
      ∧ r.2.mem ((c.tc : Thread Cert.DxnGradIdeal.nD Cert.DxnGradIdeal.τ).loc Cert.DxnGradIdeal.main_arg1) = m ((c.tc : Thread Cert.DxnGradIdeal.nD Cert.DxnGradIdeal.τ).loc Cert.DxnGradIdeal.main_arg1))
      ∧ r.2.sem = fun _ => 0)

def quiescent_GwinBwd [hGwinBwd : Cert.GwinBwd.Facts] : Prop :=
  ∀ (m : (ℓ : Loc Cert.GwinBwd.nD Cert.GwinBwd.τ Cert.GwinBwd.sig) → Buf (Elt Bits) ℓ) (g : Dev Cert.GwinBwd.nD → PrngReg), Pre_GwinBwd m →
    θ_run (Cert.GwinBwd.defs (F := Bits)) (onTc (τ := Cert.GwinBwd.τ) (Cert.GwinBwd.main (F := Bits))) ⟨m, fun _ => 0, g⟩ (fun r => (∀ c : Dev Cert.GwinBwd.nD,
      r.2.mem ((c.tc : Thread Cert.GwinBwd.nD Cert.GwinBwd.τ).loc Cert.GwinBwd.main_arg0) = m ((c.tc : Thread Cert.GwinBwd.nD Cert.GwinBwd.τ).loc Cert.GwinBwd.main_arg0)
      ∧ r.2.mem ((c.tc : Thread Cert.GwinBwd.nD Cert.GwinBwd.τ).loc Cert.GwinBwd.main_arg1) = m ((c.tc : Thread Cert.GwinBwd.nD Cert.GwinBwd.τ).loc Cert.GwinBwd.main_arg1))
      ∧ r.2.sem = fun _ => 0)

def quiescent_GwinBwdIdeal [hGwinBwdIdeal : Cert.GwinBwdIdeal.Facts] : Prop :=
  ∀ (m : (ℓ : Loc Cert.GwinBwdIdeal.nD Cert.GwinBwdIdeal.τ Cert.GwinBwdIdeal.sig) → Buf (Elt Ideal) ℓ) (g : Dev Cert.GwinBwdIdeal.nD → PrngReg), Pre_GwinBwdIdeal m →
    θ_run (Cert.GwinBwdIdeal.defs (F := Ideal)) (onTc (τ := Cert.GwinBwdIdeal.τ) (Cert.GwinBwdIdeal.main (F := Ideal))) ⟨m, fun _ => 0, g⟩ (fun r => (∀ c : Dev Cert.GwinBwdIdeal.nD,
      r.2.mem ((c.tc : Thread Cert.GwinBwdIdeal.nD Cert.GwinBwdIdeal.τ).loc Cert.GwinBwdIdeal.main_arg0) = m ((c.tc : Thread Cert.GwinBwdIdeal.nD Cert.GwinBwdIdeal.τ).loc Cert.GwinBwdIdeal.main_arg0)
      ∧ r.2.mem ((c.tc : Thread Cert.GwinBwdIdeal.nD Cert.GwinBwdIdeal.τ).loc Cert.GwinBwdIdeal.main_arg1) = m ((c.tc : Thread Cert.GwinBwdIdeal.nD Cert.GwinBwdIdeal.τ).loc Cert.GwinBwdIdeal.main_arg1))
      ∧ r.2.sem = fun _ => 0)

def quiescent_GwinGradIdeal [hGwinGradIdeal : Cert.GwinGradIdeal.Facts] : Prop :=
  ∀ (m : (ℓ : Loc Cert.GwinGradIdeal.nD Cert.GwinGradIdeal.τ Cert.GwinGradIdeal.sig) → Buf (Elt Ideal) ℓ) (g : Dev Cert.GwinGradIdeal.nD → PrngReg), Pre_GwinGradIdeal m →
    θ_run (Cert.GwinGradIdeal.defs (F := Ideal)) (onTc (τ := Cert.GwinGradIdeal.τ) (Cert.GwinGradIdeal.main (F := Ideal))) ⟨m, fun _ => 0, g⟩ (fun r => (∀ c : Dev Cert.GwinGradIdeal.nD,
      r.2.mem ((c.tc : Thread Cert.GwinGradIdeal.nD Cert.GwinGradIdeal.τ).loc Cert.GwinGradIdeal.main_arg0) = m ((c.tc : Thread Cert.GwinGradIdeal.nD Cert.GwinGradIdeal.τ).loc Cert.GwinGradIdeal.main_arg0)
      ∧ r.2.mem ((c.tc : Thread Cert.GwinGradIdeal.nD Cert.GwinGradIdeal.τ).loc Cert.GwinGradIdeal.main_arg1) = m ((c.tc : Thread Cert.GwinGradIdeal.nD Cert.GwinGradIdeal.τ).loc Cert.GwinGradIdeal.main_arg1))
      ∧ r.2.sem = fun _ => 0)

def quiescent_DhnBwd [hDhnBwd : Cert.DhnBwd.Facts] : Prop :=
  ∀ (m : (ℓ : Loc Cert.DhnBwd.nD Cert.DhnBwd.τ Cert.DhnBwd.sig) → Buf (Elt Bits) ℓ) (g : Dev Cert.DhnBwd.nD → PrngReg), Pre_DhnBwd m →
    θ_run (Cert.DhnBwd.defs (F := Bits)) (onTc (τ := Cert.DhnBwd.τ) (Cert.DhnBwd.main (F := Bits))) ⟨m, fun _ => 0, g⟩ (fun r => (∀ c : Dev Cert.DhnBwd.nD,
      r.2.mem ((c.tc : Thread Cert.DhnBwd.nD Cert.DhnBwd.τ).loc Cert.DhnBwd.main_arg0) = m ((c.tc : Thread Cert.DhnBwd.nD Cert.DhnBwd.τ).loc Cert.DhnBwd.main_arg0)
      ∧ r.2.mem ((c.tc : Thread Cert.DhnBwd.nD Cert.DhnBwd.τ).loc Cert.DhnBwd.main_arg1) = m ((c.tc : Thread Cert.DhnBwd.nD Cert.DhnBwd.τ).loc Cert.DhnBwd.main_arg1))
      ∧ r.2.sem = fun _ => 0)

def quiescent_DhnBwdIdeal [hDhnBwdIdeal : Cert.DhnBwdIdeal.Facts] : Prop :=
  ∀ (m : (ℓ : Loc Cert.DhnBwdIdeal.nD Cert.DhnBwdIdeal.τ Cert.DhnBwdIdeal.sig) → Buf (Elt Ideal) ℓ) (g : Dev Cert.DhnBwdIdeal.nD → PrngReg), Pre_DhnBwdIdeal m →
    θ_run (Cert.DhnBwdIdeal.defs (F := Ideal)) (onTc (τ := Cert.DhnBwdIdeal.τ) (Cert.DhnBwdIdeal.main (F := Ideal))) ⟨m, fun _ => 0, g⟩ (fun r => (∀ c : Dev Cert.DhnBwdIdeal.nD,
      r.2.mem ((c.tc : Thread Cert.DhnBwdIdeal.nD Cert.DhnBwdIdeal.τ).loc Cert.DhnBwdIdeal.main_arg0) = m ((c.tc : Thread Cert.DhnBwdIdeal.nD Cert.DhnBwdIdeal.τ).loc Cert.DhnBwdIdeal.main_arg0)
      ∧ r.2.mem ((c.tc : Thread Cert.DhnBwdIdeal.nD Cert.DhnBwdIdeal.τ).loc Cert.DhnBwdIdeal.main_arg1) = m ((c.tc : Thread Cert.DhnBwdIdeal.nD Cert.DhnBwdIdeal.τ).loc Cert.DhnBwdIdeal.main_arg1))
      ∧ r.2.sem = fun _ => 0)

def quiescent_DhnGradIdeal [hDhnGradIdeal : Cert.DhnGradIdeal.Facts] : Prop :=
  ∀ (m : (ℓ : Loc Cert.DhnGradIdeal.nD Cert.DhnGradIdeal.τ Cert.DhnGradIdeal.sig) → Buf (Elt Ideal) ℓ) (g : Dev Cert.DhnGradIdeal.nD → PrngReg), Pre_DhnGradIdeal m →
    θ_run (Cert.DhnGradIdeal.defs (F := Ideal)) (onTc (τ := Cert.DhnGradIdeal.τ) (Cert.DhnGradIdeal.main (F := Ideal))) ⟨m, fun _ => 0, g⟩ (fun r => (∀ c : Dev Cert.DhnGradIdeal.nD,
      r.2.mem ((c.tc : Thread Cert.DhnGradIdeal.nD Cert.DhnGradIdeal.τ).loc Cert.DhnGradIdeal.main_arg0) = m ((c.tc : Thread Cert.DhnGradIdeal.nD Cert.DhnGradIdeal.τ).loc Cert.DhnGradIdeal.main_arg0)
      ∧ r.2.mem ((c.tc : Thread Cert.DhnGradIdeal.nD Cert.DhnGradIdeal.τ).loc Cert.DhnGradIdeal.main_arg1) = m ((c.tc : Thread Cert.DhnGradIdeal.nD Cert.DhnGradIdeal.τ).loc Cert.DhnGradIdeal.main_arg1))
      ∧ r.2.sem = fun _ => 0)

def quiescent_GwupBwd [hGwupBwd : Cert.GwupBwd.Facts] : Prop :=
  ∀ (m : (ℓ : Loc Cert.GwupBwd.nD Cert.GwupBwd.τ Cert.GwupBwd.sig) → Buf (Elt Bits) ℓ) (g : Dev Cert.GwupBwd.nD → PrngReg), Pre_GwupBwd m →
    θ_run (Cert.GwupBwd.defs (F := Bits)) (onTc (τ := Cert.GwupBwd.τ) (Cert.GwupBwd.main (F := Bits))) ⟨m, fun _ => 0, g⟩ (fun r => (∀ c : Dev Cert.GwupBwd.nD,
      r.2.mem ((c.tc : Thread Cert.GwupBwd.nD Cert.GwupBwd.τ).loc Cert.GwupBwd.main_arg0) = m ((c.tc : Thread Cert.GwupBwd.nD Cert.GwupBwd.τ).loc Cert.GwupBwd.main_arg0)
      ∧ r.2.mem ((c.tc : Thread Cert.GwupBwd.nD Cert.GwupBwd.τ).loc Cert.GwupBwd.main_arg1) = m ((c.tc : Thread Cert.GwupBwd.nD Cert.GwupBwd.τ).loc Cert.GwupBwd.main_arg1))
      ∧ r.2.sem = fun _ => 0)

def quiescent_GwupBwdIdeal [hGwupBwdIdeal : Cert.GwupBwdIdeal.Facts] : Prop :=
  ∀ (m : (ℓ : Loc Cert.GwupBwdIdeal.nD Cert.GwupBwdIdeal.τ Cert.GwupBwdIdeal.sig) → Buf (Elt Ideal) ℓ) (g : Dev Cert.GwupBwdIdeal.nD → PrngReg), Pre_GwupBwdIdeal m →
    θ_run (Cert.GwupBwdIdeal.defs (F := Ideal)) (onTc (τ := Cert.GwupBwdIdeal.τ) (Cert.GwupBwdIdeal.main (F := Ideal))) ⟨m, fun _ => 0, g⟩ (fun r => (∀ c : Dev Cert.GwupBwdIdeal.nD,
      r.2.mem ((c.tc : Thread Cert.GwupBwdIdeal.nD Cert.GwupBwdIdeal.τ).loc Cert.GwupBwdIdeal.main_arg0) = m ((c.tc : Thread Cert.GwupBwdIdeal.nD Cert.GwupBwdIdeal.τ).loc Cert.GwupBwdIdeal.main_arg0)
      ∧ r.2.mem ((c.tc : Thread Cert.GwupBwdIdeal.nD Cert.GwupBwdIdeal.τ).loc Cert.GwupBwdIdeal.main_arg1) = m ((c.tc : Thread Cert.GwupBwdIdeal.nD Cert.GwupBwdIdeal.τ).loc Cert.GwupBwdIdeal.main_arg1))
      ∧ r.2.sem = fun _ => 0)

def quiescent_GwupGradIdeal [hGwupGradIdeal : Cert.GwupGradIdeal.Facts] : Prop :=
  ∀ (m : (ℓ : Loc Cert.GwupGradIdeal.nD Cert.GwupGradIdeal.τ Cert.GwupGradIdeal.sig) → Buf (Elt Ideal) ℓ) (g : Dev Cert.GwupGradIdeal.nD → PrngReg), Pre_GwupGradIdeal m →
    θ_run (Cert.GwupGradIdeal.defs (F := Ideal)) (onTc (τ := Cert.GwupGradIdeal.τ) (Cert.GwupGradIdeal.main (F := Ideal))) ⟨m, fun _ => 0, g⟩ (fun r => (∀ c : Dev Cert.GwupGradIdeal.nD,
      r.2.mem ((c.tc : Thread Cert.GwupGradIdeal.nD Cert.GwupGradIdeal.τ).loc Cert.GwupGradIdeal.main_arg0) = m ((c.tc : Thread Cert.GwupGradIdeal.nD Cert.GwupGradIdeal.τ).loc Cert.GwupGradIdeal.main_arg0)
      ∧ r.2.mem ((c.tc : Thread Cert.GwupGradIdeal.nD Cert.GwupGradIdeal.τ).loc Cert.GwupGradIdeal.main_arg1) = m ((c.tc : Thread Cert.GwupGradIdeal.nD Cert.GwupGradIdeal.τ).loc Cert.GwupGradIdeal.main_arg1))
      ∧ r.2.sem = fun _ => 0)

def quiescent_DactBwd [hDactBwd : Cert.DactBwd.Facts] : Prop :=
  ∀ (m : (ℓ : Loc Cert.DactBwd.nD Cert.DactBwd.τ Cert.DactBwd.sig) → Buf (Elt Bits) ℓ) (g : Dev Cert.DactBwd.nD → PrngReg), Pre_DactBwd m →
    θ_run (Cert.DactBwd.defs (F := Bits)) (onTc (τ := Cert.DactBwd.τ) (Cert.DactBwd.main (F := Bits))) ⟨m, fun _ => 0, g⟩ (fun r => (∀ c : Dev Cert.DactBwd.nD,
      r.2.mem ((c.tc : Thread Cert.DactBwd.nD Cert.DactBwd.τ).loc Cert.DactBwd.main_arg0) = m ((c.tc : Thread Cert.DactBwd.nD Cert.DactBwd.τ).loc Cert.DactBwd.main_arg0)
      ∧ r.2.mem ((c.tc : Thread Cert.DactBwd.nD Cert.DactBwd.τ).loc Cert.DactBwd.main_arg1) = m ((c.tc : Thread Cert.DactBwd.nD Cert.DactBwd.τ).loc Cert.DactBwd.main_arg1))
      ∧ r.2.sem = fun _ => 0)

def quiescent_DactBwdIdeal [hDactBwdIdeal : Cert.DactBwdIdeal.Facts] : Prop :=
  ∀ (m : (ℓ : Loc Cert.DactBwdIdeal.nD Cert.DactBwdIdeal.τ Cert.DactBwdIdeal.sig) → Buf (Elt Ideal) ℓ) (g : Dev Cert.DactBwdIdeal.nD → PrngReg), Pre_DactBwdIdeal m →
    θ_run (Cert.DactBwdIdeal.defs (F := Ideal)) (onTc (τ := Cert.DactBwdIdeal.τ) (Cert.DactBwdIdeal.main (F := Ideal))) ⟨m, fun _ => 0, g⟩ (fun r => (∀ c : Dev Cert.DactBwdIdeal.nD,
      r.2.mem ((c.tc : Thread Cert.DactBwdIdeal.nD Cert.DactBwdIdeal.τ).loc Cert.DactBwdIdeal.main_arg0) = m ((c.tc : Thread Cert.DactBwdIdeal.nD Cert.DactBwdIdeal.τ).loc Cert.DactBwdIdeal.main_arg0)
      ∧ r.2.mem ((c.tc : Thread Cert.DactBwdIdeal.nD Cert.DactBwdIdeal.τ).loc Cert.DactBwdIdeal.main_arg1) = m ((c.tc : Thread Cert.DactBwdIdeal.nD Cert.DactBwdIdeal.τ).loc Cert.DactBwdIdeal.main_arg1))
      ∧ r.2.sem = fun _ => 0)

def quiescent_DactGradIdeal [hDactGradIdeal : Cert.DactGradIdeal.Facts] : Prop :=
  ∀ (m : (ℓ : Loc Cert.DactGradIdeal.nD Cert.DactGradIdeal.τ Cert.DactGradIdeal.sig) → Buf (Elt Ideal) ℓ) (g : Dev Cert.DactGradIdeal.nD → PrngReg), Pre_DactGradIdeal m →
    θ_run (Cert.DactGradIdeal.defs (F := Ideal)) (onTc (τ := Cert.DactGradIdeal.τ) (Cert.DactGradIdeal.main (F := Ideal))) ⟨m, fun _ => 0, g⟩ (fun r => (∀ c : Dev Cert.DactGradIdeal.nD,
      r.2.mem ((c.tc : Thread Cert.DactGradIdeal.nD Cert.DactGradIdeal.τ).loc Cert.DactGradIdeal.main_arg0) = m ((c.tc : Thread Cert.DactGradIdeal.nD Cert.DactGradIdeal.τ).loc Cert.DactGradIdeal.main_arg0)
      ∧ r.2.mem ((c.tc : Thread Cert.DactGradIdeal.nD Cert.DactGradIdeal.τ).loc Cert.DactGradIdeal.main_arg1) = m ((c.tc : Thread Cert.DactGradIdeal.nD Cert.DactGradIdeal.τ).loc Cert.DactGradIdeal.main_arg1))
      ∧ r.2.sem = fun _ => 0)

def quiescent_GwdownBwd [hGwdownBwd : Cert.GwdownBwd.Facts] : Prop :=
  ∀ (m : (ℓ : Loc Cert.GwdownBwd.nD Cert.GwdownBwd.τ Cert.GwdownBwd.sig) → Buf (Elt Bits) ℓ) (g : Dev Cert.GwdownBwd.nD → PrngReg), Pre_GwdownBwd m →
    θ_run (Cert.GwdownBwd.defs (F := Bits)) (onTc (τ := Cert.GwdownBwd.τ) (Cert.GwdownBwd.main (F := Bits))) ⟨m, fun _ => 0, g⟩ (fun r => (∀ c : Dev Cert.GwdownBwd.nD,
      r.2.mem ((c.tc : Thread Cert.GwdownBwd.nD Cert.GwdownBwd.τ).loc Cert.GwdownBwd.main_arg0) = m ((c.tc : Thread Cert.GwdownBwd.nD Cert.GwdownBwd.τ).loc Cert.GwdownBwd.main_arg0)
      ∧ r.2.mem ((c.tc : Thread Cert.GwdownBwd.nD Cert.GwdownBwd.τ).loc Cert.GwdownBwd.main_arg1) = m ((c.tc : Thread Cert.GwdownBwd.nD Cert.GwdownBwd.τ).loc Cert.GwdownBwd.main_arg1))
      ∧ r.2.sem = fun _ => 0)

def quiescent_GwdownBwdIdeal [hGwdownBwdIdeal : Cert.GwdownBwdIdeal.Facts] : Prop :=
  ∀ (m : (ℓ : Loc Cert.GwdownBwdIdeal.nD Cert.GwdownBwdIdeal.τ Cert.GwdownBwdIdeal.sig) → Buf (Elt Ideal) ℓ) (g : Dev Cert.GwdownBwdIdeal.nD → PrngReg), Pre_GwdownBwdIdeal m →
    θ_run (Cert.GwdownBwdIdeal.defs (F := Ideal)) (onTc (τ := Cert.GwdownBwdIdeal.τ) (Cert.GwdownBwdIdeal.main (F := Ideal))) ⟨m, fun _ => 0, g⟩ (fun r => (∀ c : Dev Cert.GwdownBwdIdeal.nD,
      r.2.mem ((c.tc : Thread Cert.GwdownBwdIdeal.nD Cert.GwdownBwdIdeal.τ).loc Cert.GwdownBwdIdeal.main_arg0) = m ((c.tc : Thread Cert.GwdownBwdIdeal.nD Cert.GwdownBwdIdeal.τ).loc Cert.GwdownBwdIdeal.main_arg0)
      ∧ r.2.mem ((c.tc : Thread Cert.GwdownBwdIdeal.nD Cert.GwdownBwdIdeal.τ).loc Cert.GwdownBwdIdeal.main_arg1) = m ((c.tc : Thread Cert.GwdownBwdIdeal.nD Cert.GwdownBwdIdeal.τ).loc Cert.GwdownBwdIdeal.main_arg1))
      ∧ r.2.sem = fun _ => 0)

def quiescent_GwdownGradIdeal [hGwdownGradIdeal : Cert.GwdownGradIdeal.Facts] : Prop :=
  ∀ (m : (ℓ : Loc Cert.GwdownGradIdeal.nD Cert.GwdownGradIdeal.τ Cert.GwdownGradIdeal.sig) → Buf (Elt Ideal) ℓ) (g : Dev Cert.GwdownGradIdeal.nD → PrngReg), Pre_GwdownGradIdeal m →
    θ_run (Cert.GwdownGradIdeal.defs (F := Ideal)) (onTc (τ := Cert.GwdownGradIdeal.τ) (Cert.GwdownGradIdeal.main (F := Ideal))) ⟨m, fun _ => 0, g⟩ (fun r => (∀ c : Dev Cert.GwdownGradIdeal.nD,
      r.2.mem ((c.tc : Thread Cert.GwdownGradIdeal.nD Cert.GwdownGradIdeal.τ).loc Cert.GwdownGradIdeal.main_arg0) = m ((c.tc : Thread Cert.GwdownGradIdeal.nD Cert.GwdownGradIdeal.τ).loc Cert.GwdownGradIdeal.main_arg0)
      ∧ r.2.mem ((c.tc : Thread Cert.GwdownGradIdeal.nD Cert.GwdownGradIdeal.τ).loc Cert.GwdownGradIdeal.main_arg1) = m ((c.tc : Thread Cert.GwdownGradIdeal.nD Cert.GwdownGradIdeal.τ).loc Cert.GwdownGradIdeal.main_arg1))
      ∧ r.2.sem = fun _ => 0)

def quiescent_DmergedBwd [hDmergedBwd : Cert.DmergedBwd.Facts] : Prop :=
  ∀ (m : (ℓ : Loc Cert.DmergedBwd.nD Cert.DmergedBwd.τ Cert.DmergedBwd.sig) → Buf (Elt Bits) ℓ) (g : Dev Cert.DmergedBwd.nD → PrngReg), Pre_DmergedBwd m →
    θ_run (Cert.DmergedBwd.defs (F := Bits)) (onTc (τ := Cert.DmergedBwd.τ) (Cert.DmergedBwd.main (F := Bits))) ⟨m, fun _ => 0, g⟩ (fun r => (∀ c : Dev Cert.DmergedBwd.nD,
      r.2.mem ((c.tc : Thread Cert.DmergedBwd.nD Cert.DmergedBwd.τ).loc Cert.DmergedBwd.main_arg0) = m ((c.tc : Thread Cert.DmergedBwd.nD Cert.DmergedBwd.τ).loc Cert.DmergedBwd.main_arg0)
      ∧ r.2.mem ((c.tc : Thread Cert.DmergedBwd.nD Cert.DmergedBwd.τ).loc Cert.DmergedBwd.main_arg1) = m ((c.tc : Thread Cert.DmergedBwd.nD Cert.DmergedBwd.τ).loc Cert.DmergedBwd.main_arg1))
      ∧ r.2.sem = fun _ => 0)

def quiescent_DmergedBwdIdeal [hDmergedBwdIdeal : Cert.DmergedBwdIdeal.Facts] : Prop :=
  ∀ (m : (ℓ : Loc Cert.DmergedBwdIdeal.nD Cert.DmergedBwdIdeal.τ Cert.DmergedBwdIdeal.sig) → Buf (Elt Ideal) ℓ) (g : Dev Cert.DmergedBwdIdeal.nD → PrngReg), Pre_DmergedBwdIdeal m →
    θ_run (Cert.DmergedBwdIdeal.defs (F := Ideal)) (onTc (τ := Cert.DmergedBwdIdeal.τ) (Cert.DmergedBwdIdeal.main (F := Ideal))) ⟨m, fun _ => 0, g⟩ (fun r => (∀ c : Dev Cert.DmergedBwdIdeal.nD,
      r.2.mem ((c.tc : Thread Cert.DmergedBwdIdeal.nD Cert.DmergedBwdIdeal.τ).loc Cert.DmergedBwdIdeal.main_arg0) = m ((c.tc : Thread Cert.DmergedBwdIdeal.nD Cert.DmergedBwdIdeal.τ).loc Cert.DmergedBwdIdeal.main_arg0)
      ∧ r.2.mem ((c.tc : Thread Cert.DmergedBwdIdeal.nD Cert.DmergedBwdIdeal.τ).loc Cert.DmergedBwdIdeal.main_arg1) = m ((c.tc : Thread Cert.DmergedBwdIdeal.nD Cert.DmergedBwdIdeal.τ).loc Cert.DmergedBwdIdeal.main_arg1))
      ∧ r.2.sem = fun _ => 0)

def quiescent_DmergedGradIdeal [hDmergedGradIdeal : Cert.DmergedGradIdeal.Facts] : Prop :=
  ∀ (m : (ℓ : Loc Cert.DmergedGradIdeal.nD Cert.DmergedGradIdeal.τ Cert.DmergedGradIdeal.sig) → Buf (Elt Ideal) ℓ) (g : Dev Cert.DmergedGradIdeal.nD → PrngReg), Pre_DmergedGradIdeal m →
    θ_run (Cert.DmergedGradIdeal.defs (F := Ideal)) (onTc (τ := Cert.DmergedGradIdeal.τ) (Cert.DmergedGradIdeal.main (F := Ideal))) ⟨m, fun _ => 0, g⟩ (fun r => (∀ c : Dev Cert.DmergedGradIdeal.nD,
      r.2.mem ((c.tc : Thread Cert.DmergedGradIdeal.nD Cert.DmergedGradIdeal.τ).loc Cert.DmergedGradIdeal.main_arg0) = m ((c.tc : Thread Cert.DmergedGradIdeal.nD Cert.DmergedGradIdeal.τ).loc Cert.DmergedGradIdeal.main_arg0)
      ∧ r.2.mem ((c.tc : Thread Cert.DmergedGradIdeal.nD Cert.DmergedGradIdeal.τ).loc Cert.DmergedGradIdeal.main_arg1) = m ((c.tc : Thread Cert.DmergedGradIdeal.nD Cert.DmergedGradIdeal.τ).loc Cert.DmergedGradIdeal.main_arg1))
      ∧ r.2.sem = fun _ => 0)

def quiescent_GwoBwd [hGwoBwd : Cert.GwoBwd.Facts] : Prop :=
  ∀ (m : (ℓ : Loc Cert.GwoBwd.nD Cert.GwoBwd.τ Cert.GwoBwd.sig) → Buf (Elt Bits) ℓ) (g : Dev Cert.GwoBwd.nD → PrngReg), Pre_GwoBwd m →
    θ_run (Cert.GwoBwd.defs (F := Bits)) (onTc (τ := Cert.GwoBwd.τ) (Cert.GwoBwd.main (F := Bits))) ⟨m, fun _ => 0, g⟩ (fun r => (∀ c : Dev Cert.GwoBwd.nD,
      r.2.mem ((c.tc : Thread Cert.GwoBwd.nD Cert.GwoBwd.τ).loc Cert.GwoBwd.main_arg0) = m ((c.tc : Thread Cert.GwoBwd.nD Cert.GwoBwd.τ).loc Cert.GwoBwd.main_arg0)
      ∧ r.2.mem ((c.tc : Thread Cert.GwoBwd.nD Cert.GwoBwd.τ).loc Cert.GwoBwd.main_arg1) = m ((c.tc : Thread Cert.GwoBwd.nD Cert.GwoBwd.τ).loc Cert.GwoBwd.main_arg1))
      ∧ r.2.sem = fun _ => 0)

def quiescent_GwoBwdIdeal [hGwoBwdIdeal : Cert.GwoBwdIdeal.Facts] : Prop :=
  ∀ (m : (ℓ : Loc Cert.GwoBwdIdeal.nD Cert.GwoBwdIdeal.τ Cert.GwoBwdIdeal.sig) → Buf (Elt Ideal) ℓ) (g : Dev Cert.GwoBwdIdeal.nD → PrngReg), Pre_GwoBwdIdeal m →
    θ_run (Cert.GwoBwdIdeal.defs (F := Ideal)) (onTc (τ := Cert.GwoBwdIdeal.τ) (Cert.GwoBwdIdeal.main (F := Ideal))) ⟨m, fun _ => 0, g⟩ (fun r => (∀ c : Dev Cert.GwoBwdIdeal.nD,
      r.2.mem ((c.tc : Thread Cert.GwoBwdIdeal.nD Cert.GwoBwdIdeal.τ).loc Cert.GwoBwdIdeal.main_arg0) = m ((c.tc : Thread Cert.GwoBwdIdeal.nD Cert.GwoBwdIdeal.τ).loc Cert.GwoBwdIdeal.main_arg0)
      ∧ r.2.mem ((c.tc : Thread Cert.GwoBwdIdeal.nD Cert.GwoBwdIdeal.τ).loc Cert.GwoBwdIdeal.main_arg1) = m ((c.tc : Thread Cert.GwoBwdIdeal.nD Cert.GwoBwdIdeal.τ).loc Cert.GwoBwdIdeal.main_arg1))
      ∧ r.2.sem = fun _ => 0)

def quiescent_GwoGradIdeal [hGwoGradIdeal : Cert.GwoGradIdeal.Facts] : Prop :=
  ∀ (m : (ℓ : Loc Cert.GwoGradIdeal.nD Cert.GwoGradIdeal.τ Cert.GwoGradIdeal.sig) → Buf (Elt Ideal) ℓ) (g : Dev Cert.GwoGradIdeal.nD → PrngReg), Pre_GwoGradIdeal m →
    θ_run (Cert.GwoGradIdeal.defs (F := Ideal)) (onTc (τ := Cert.GwoGradIdeal.τ) (Cert.GwoGradIdeal.main (F := Ideal))) ⟨m, fun _ => 0, g⟩ (fun r => (∀ c : Dev Cert.GwoGradIdeal.nD,
      r.2.mem ((c.tc : Thread Cert.GwoGradIdeal.nD Cert.GwoGradIdeal.τ).loc Cert.GwoGradIdeal.main_arg0) = m ((c.tc : Thread Cert.GwoGradIdeal.nD Cert.GwoGradIdeal.τ).loc Cert.GwoGradIdeal.main_arg0)
      ∧ r.2.mem ((c.tc : Thread Cert.GwoGradIdeal.nD Cert.GwoGradIdeal.τ).loc Cert.GwoGradIdeal.main_arg1) = m ((c.tc : Thread Cert.GwoGradIdeal.nD Cert.GwoGradIdeal.τ).loc Cert.GwoGradIdeal.main_arg1))
      ∧ r.2.sem = fun _ => 0)

def quiescent_WinFwd [hWinFwd : Cert.WinFwd.Facts] : Prop :=
  ∀ (m : (ℓ : Loc Cert.WinFwd.nD Cert.WinFwd.τ Cert.WinFwd.sig) → Buf (Elt Bits) ℓ) (g : Dev Cert.WinFwd.nD → PrngReg), Pre_WinFwd m →
    θ_run (Cert.WinFwd.defs (F := Bits)) (onTc (τ := Cert.WinFwd.τ) (Cert.WinFwd.main (F := Bits))) ⟨m, fun _ => 0, g⟩ (fun r => (∀ c : Dev Cert.WinFwd.nD,
      r.2.mem ((c.tc : Thread Cert.WinFwd.nD Cert.WinFwd.τ).loc Cert.WinFwd.main_arg0) = m ((c.tc : Thread Cert.WinFwd.nD Cert.WinFwd.τ).loc Cert.WinFwd.main_arg0)
      ∧ r.2.mem ((c.tc : Thread Cert.WinFwd.nD Cert.WinFwd.τ).loc Cert.WinFwd.main_arg1) = m ((c.tc : Thread Cert.WinFwd.nD Cert.WinFwd.τ).loc Cert.WinFwd.main_arg1))
      ∧ r.2.sem = fun _ => 0)

def quiescent_WinFwdIdeal [hWinFwdIdeal : Cert.WinFwdIdeal.Facts] : Prop :=
  ∀ (m : (ℓ : Loc Cert.WinFwdIdeal.nD Cert.WinFwdIdeal.τ Cert.WinFwdIdeal.sig) → Buf (Elt Ideal) ℓ) (g : Dev Cert.WinFwdIdeal.nD → PrngReg), Pre_WinFwdIdeal m →
    θ_run (Cert.WinFwdIdeal.defs (F := Ideal)) (onTc (τ := Cert.WinFwdIdeal.τ) (Cert.WinFwdIdeal.main (F := Ideal))) ⟨m, fun _ => 0, g⟩ (fun r => (∀ c : Dev Cert.WinFwdIdeal.nD,
      r.2.mem ((c.tc : Thread Cert.WinFwdIdeal.nD Cert.WinFwdIdeal.τ).loc Cert.WinFwdIdeal.main_arg0) = m ((c.tc : Thread Cert.WinFwdIdeal.nD Cert.WinFwdIdeal.τ).loc Cert.WinFwdIdeal.main_arg0)
      ∧ r.2.mem ((c.tc : Thread Cert.WinFwdIdeal.nD Cert.WinFwdIdeal.τ).loc Cert.WinFwdIdeal.main_arg1) = m ((c.tc : Thread Cert.WinFwdIdeal.nD Cert.WinFwdIdeal.τ).loc Cert.WinFwdIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_WupFwd [hWupFwd : Cert.WupFwd.Facts] : Prop :=
  ∀ (m : (ℓ : Loc Cert.WupFwd.nD Cert.WupFwd.τ Cert.WupFwd.sig) → Buf (Elt Bits) ℓ) (g : Dev Cert.WupFwd.nD → PrngReg), Pre_WupFwd m →
    θ_run (Cert.WupFwd.defs (F := Bits)) (onTc (τ := Cert.WupFwd.τ) (Cert.WupFwd.main (F := Bits))) ⟨m, fun _ => 0, g⟩ (fun r => (∀ c : Dev Cert.WupFwd.nD,
      r.2.mem ((c.tc : Thread Cert.WupFwd.nD Cert.WupFwd.τ).loc Cert.WupFwd.main_arg0) = m ((c.tc : Thread Cert.WupFwd.nD Cert.WupFwd.τ).loc Cert.WupFwd.main_arg0)
      ∧ r.2.mem ((c.tc : Thread Cert.WupFwd.nD Cert.WupFwd.τ).loc Cert.WupFwd.main_arg1) = m ((c.tc : Thread Cert.WupFwd.nD Cert.WupFwd.τ).loc Cert.WupFwd.main_arg1))
      ∧ r.2.sem = fun _ => 0)

def quiescent_WupFwdIdeal [hWupFwdIdeal : Cert.WupFwdIdeal.Facts] : Prop :=
  ∀ (m : (ℓ : Loc Cert.WupFwdIdeal.nD Cert.WupFwdIdeal.τ Cert.WupFwdIdeal.sig) → Buf (Elt Ideal) ℓ) (g : Dev Cert.WupFwdIdeal.nD → PrngReg), Pre_WupFwdIdeal m →
    θ_run (Cert.WupFwdIdeal.defs (F := Ideal)) (onTc (τ := Cert.WupFwdIdeal.τ) (Cert.WupFwdIdeal.main (F := Ideal))) ⟨m, fun _ => 0, g⟩ (fun r => (∀ c : Dev Cert.WupFwdIdeal.nD,
      r.2.mem ((c.tc : Thread Cert.WupFwdIdeal.nD Cert.WupFwdIdeal.τ).loc Cert.WupFwdIdeal.main_arg0) = m ((c.tc : Thread Cert.WupFwdIdeal.nD Cert.WupFwdIdeal.τ).loc Cert.WupFwdIdeal.main_arg0)
      ∧ r.2.mem ((c.tc : Thread Cert.WupFwdIdeal.nD Cert.WupFwdIdeal.τ).loc Cert.WupFwdIdeal.main_arg1) = m ((c.tc : Thread Cert.WupFwdIdeal.nD Cert.WupFwdIdeal.τ).loc Cert.WupFwdIdeal.main_arg1))
      ∧ r.2.sem = fun _ => 0)

def quiescent_WupRefIdeal [hWupRefIdeal : Cert.WupRefIdeal.Facts] : Prop :=
  ∀ (m : (ℓ : Loc Cert.WupRefIdeal.nD Cert.WupRefIdeal.τ Cert.WupRefIdeal.sig) → Buf (Elt Ideal) ℓ) (g : Dev Cert.WupRefIdeal.nD → PrngReg), Pre_WupRefIdeal m →
    θ_run (Cert.WupRefIdeal.defs (F := Ideal)) (onTc (τ := Cert.WupRefIdeal.τ) (Cert.WupRefIdeal.main (F := Ideal))) ⟨m, fun _ => 0, g⟩ (fun r => (∀ c : Dev Cert.WupRefIdeal.nD,
      r.2.mem ((c.tc : Thread Cert.WupRefIdeal.nD Cert.WupRefIdeal.τ).loc Cert.WupRefIdeal.main_arg0) = m ((c.tc : Thread Cert.WupRefIdeal.nD Cert.WupRefIdeal.τ).loc Cert.WupRefIdeal.main_arg0)
      ∧ r.2.mem ((c.tc : Thread Cert.WupRefIdeal.nD Cert.WupRefIdeal.τ).loc Cert.WupRefIdeal.main_arg1) = m ((c.tc : Thread Cert.WupRefIdeal.nD Cert.WupRefIdeal.τ).loc Cert.WupRefIdeal.main_arg1))
      ∧ r.2.sem = fun _ => 0)

def quiescent_WdownFwd [hWdownFwd : Cert.WdownFwd.Facts] : Prop :=
  ∀ (m : (ℓ : Loc Cert.WdownFwd.nD Cert.WdownFwd.τ Cert.WdownFwd.sig) → Buf (Elt Bits) ℓ) (g : Dev Cert.WdownFwd.nD → PrngReg), Pre_WdownFwd m →
    θ_run (Cert.WdownFwd.defs (F := Bits)) (onTc (τ := Cert.WdownFwd.τ) (Cert.WdownFwd.main (F := Bits))) ⟨m, fun _ => 0, g⟩ (fun r => (∀ c : Dev Cert.WdownFwd.nD,
      r.2.mem ((c.tc : Thread Cert.WdownFwd.nD Cert.WdownFwd.τ).loc Cert.WdownFwd.main_arg0) = m ((c.tc : Thread Cert.WdownFwd.nD Cert.WdownFwd.τ).loc Cert.WdownFwd.main_arg0)
      ∧ r.2.mem ((c.tc : Thread Cert.WdownFwd.nD Cert.WdownFwd.τ).loc Cert.WdownFwd.main_arg1) = m ((c.tc : Thread Cert.WdownFwd.nD Cert.WdownFwd.τ).loc Cert.WdownFwd.main_arg1)
      ∧ r.2.mem ((c.tc : Thread Cert.WdownFwd.nD Cert.WdownFwd.τ).loc Cert.WdownFwd.main_arg2) = m ((c.tc : Thread Cert.WdownFwd.nD Cert.WdownFwd.τ).loc Cert.WdownFwd.main_arg2))
      ∧ r.2.sem = fun _ => 0)

def quiescent_WdownFwdIdeal [hWdownFwdIdeal : Cert.WdownFwdIdeal.Facts] : Prop :=
  ∀ (m : (ℓ : Loc Cert.WdownFwdIdeal.nD Cert.WdownFwdIdeal.τ Cert.WdownFwdIdeal.sig) → Buf (Elt Ideal) ℓ) (g : Dev Cert.WdownFwdIdeal.nD → PrngReg), Pre_WdownFwdIdeal m →
    θ_run (Cert.WdownFwdIdeal.defs (F := Ideal)) (onTc (τ := Cert.WdownFwdIdeal.τ) (Cert.WdownFwdIdeal.main (F := Ideal))) ⟨m, fun _ => 0, g⟩ (fun r => (∀ c : Dev Cert.WdownFwdIdeal.nD,
      r.2.mem ((c.tc : Thread Cert.WdownFwdIdeal.nD Cert.WdownFwdIdeal.τ).loc Cert.WdownFwdIdeal.main_arg0) = m ((c.tc : Thread Cert.WdownFwdIdeal.nD Cert.WdownFwdIdeal.τ).loc Cert.WdownFwdIdeal.main_arg0)
      ∧ r.2.mem ((c.tc : Thread Cert.WdownFwdIdeal.nD Cert.WdownFwdIdeal.τ).loc Cert.WdownFwdIdeal.main_arg1) = m ((c.tc : Thread Cert.WdownFwdIdeal.nD Cert.WdownFwdIdeal.τ).loc Cert.WdownFwdIdeal.main_arg1)
      ∧ r.2.mem ((c.tc : Thread Cert.WdownFwdIdeal.nD Cert.WdownFwdIdeal.τ).loc Cert.WdownFwdIdeal.main_arg2) = m ((c.tc : Thread Cert.WdownFwdIdeal.nD Cert.WdownFwdIdeal.τ).loc Cert.WdownFwdIdeal.main_arg2))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1)
      ∧ r.2.mem ((c.tc : Thread Cert.WdownRefIdeal.nD Cert.WdownRefIdeal.τ).loc Cert.WdownRefIdeal.main_arg2) = m ((c.tc : Thread Cert.WdownRefIdeal.nD Cert.WdownRefIdeal.τ).loc Cert.WdownRefIdeal.main_arg2))
      ∧ r.2.sem = fun _ => 0)

def quiescent_WoFwd [hWoFwd : Cert.WoFwd.Facts] : Prop :=
  ∀ (m : (ℓ : Loc Cert.WoFwd.nD Cert.WoFwd.τ Cert.WoFwd.sig) → Buf (Elt Bits) ℓ) (g : Dev Cert.WoFwd.nD → PrngReg), Pre_WoFwd m →
    θ_run (Cert.WoFwd.defs (F := Bits)) (onTc (τ := Cert.WoFwd.τ) (Cert.WoFwd.main (F := Bits))) ⟨m, fun _ => 0, g⟩ (fun r => (∀ c : Dev Cert.WoFwd.nD,
      r.2.mem ((c.tc : Thread Cert.WoFwd.nD Cert.WoFwd.τ).loc Cert.WoFwd.main_arg0) = m ((c.tc : Thread Cert.WoFwd.nD Cert.WoFwd.τ).loc Cert.WoFwd.main_arg0)
      ∧ r.2.mem ((c.tc : Thread Cert.WoFwd.nD Cert.WoFwd.τ).loc Cert.WoFwd.main_arg1) = m ((c.tc : Thread Cert.WoFwd.nD Cert.WoFwd.τ).loc Cert.WoFwd.main_arg1)
      ∧ r.2.mem ((c.tc : Thread Cert.WoFwd.nD Cert.WoFwd.τ).loc Cert.WoFwd.main_arg2) = m ((c.tc : Thread Cert.WoFwd.nD Cert.WoFwd.τ).loc Cert.WoFwd.main_arg2))
      ∧ r.2.sem = fun _ => 0)

def quiescent_WoFwdIdeal [hWoFwdIdeal : Cert.WoFwdIdeal.Facts] : Prop :=
  ∀ (m : (ℓ : Loc Cert.WoFwdIdeal.nD Cert.WoFwdIdeal.τ Cert.WoFwdIdeal.sig) → Buf (Elt Ideal) ℓ) (g : Dev Cert.WoFwdIdeal.nD → PrngReg), Pre_WoFwdIdeal m →
    θ_run (Cert.WoFwdIdeal.defs (F := Ideal)) (onTc (τ := Cert.WoFwdIdeal.τ) (Cert.WoFwdIdeal.main (F := Ideal))) ⟨m, fun _ => 0, g⟩ (fun r => (∀ c : Dev Cert.WoFwdIdeal.nD,
      r.2.mem ((c.tc : Thread Cert.WoFwdIdeal.nD Cert.WoFwdIdeal.τ).loc Cert.WoFwdIdeal.main_arg0) = m ((c.tc : Thread Cert.WoFwdIdeal.nD Cert.WoFwdIdeal.τ).loc Cert.WoFwdIdeal.main_arg0)
      ∧ r.2.mem ((c.tc : Thread Cert.WoFwdIdeal.nD Cert.WoFwdIdeal.τ).loc Cert.WoFwdIdeal.main_arg1) = m ((c.tc : Thread Cert.WoFwdIdeal.nD Cert.WoFwdIdeal.τ).loc Cert.WoFwdIdeal.main_arg1)
      ∧ r.2.mem ((c.tc : Thread Cert.WoFwdIdeal.nD Cert.WoFwdIdeal.τ).loc Cert.WoFwdIdeal.main_arg2) = m ((c.tc : Thread Cert.WoFwdIdeal.nD Cert.WoFwdIdeal.τ).loc Cert.WoFwdIdeal.main_arg2))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_DconvBwd [hDconvBwd : Cert.DconvBwd.Facts] : Prop :=
  ∀ (m : (ℓ : Loc Cert.DconvBwd.nD Cert.DconvBwd.τ Cert.DconvBwd.sig) → Buf (Elt Bits) ℓ) (g : Dev Cert.DconvBwd.nD → PrngReg), Pre_DconvBwd m →
    θ_run (Cert.DconvBwd.defs (F := Bits)) (onTc (τ := Cert.DconvBwd.τ) (Cert.DconvBwd.main (F := Bits))) ⟨m, fun _ => 0, g⟩ (fun r => (∀ c : Dev Cert.DconvBwd.nD,
      r.2.mem ((c.tc : Thread Cert.DconvBwd.nD Cert.DconvBwd.τ).loc Cert.DconvBwd.main_arg0) = m ((c.tc : Thread Cert.DconvBwd.nD Cert.DconvBwd.τ).loc Cert.DconvBwd.main_arg0)
      ∧ r.2.mem ((c.tc : Thread Cert.DconvBwd.nD Cert.DconvBwd.τ).loc Cert.DconvBwd.main_arg1) = m ((c.tc : Thread Cert.DconvBwd.nD Cert.DconvBwd.τ).loc Cert.DconvBwd.main_arg1))
      ∧ r.2.sem = fun _ => 0)

def quiescent_DconvBwdIdeal [hDconvBwdIdeal : Cert.DconvBwdIdeal.Facts] : Prop :=
  ∀ (m : (ℓ : Loc Cert.DconvBwdIdeal.nD Cert.DconvBwdIdeal.τ Cert.DconvBwdIdeal.sig) → Buf (Elt Ideal) ℓ) (g : Dev Cert.DconvBwdIdeal.nD → PrngReg), Pre_DconvBwdIdeal m →
    θ_run (Cert.DconvBwdIdeal.defs (F := Ideal)) (onTc (τ := Cert.DconvBwdIdeal.τ) (Cert.DconvBwdIdeal.main (F := Ideal))) ⟨m, fun _ => 0, g⟩ (fun r => (∀ c : Dev Cert.DconvBwdIdeal.nD,
      r.2.mem ((c.tc : Thread Cert.DconvBwdIdeal.nD Cert.DconvBwdIdeal.τ).loc Cert.DconvBwdIdeal.main_arg0) = m ((c.tc : Thread Cert.DconvBwdIdeal.nD Cert.DconvBwdIdeal.τ).loc Cert.DconvBwdIdeal.main_arg0)
      ∧ r.2.mem ((c.tc : Thread Cert.DconvBwdIdeal.nD Cert.DconvBwdIdeal.τ).loc Cert.DconvBwdIdeal.main_arg1) = m ((c.tc : Thread Cert.DconvBwdIdeal.nD Cert.DconvBwdIdeal.τ).loc Cert.DconvBwdIdeal.main_arg1))
      ∧ r.2.sem = fun _ => 0)

def quiescent_DconvGradIdeal [hDconvGradIdeal : Cert.DconvGradIdeal.Facts] : Prop :=
  ∀ (m : (ℓ : Loc Cert.DconvGradIdeal.nD Cert.DconvGradIdeal.τ Cert.DconvGradIdeal.sig) → Buf (Elt Ideal) ℓ) (g : Dev Cert.DconvGradIdeal.nD → PrngReg), Pre_DconvGradIdeal m →
    θ_run (Cert.DconvGradIdeal.defs (F := Ideal)) (onTc (τ := Cert.DconvGradIdeal.τ) (Cert.DconvGradIdeal.main (F := Ideal))) ⟨m, fun _ => 0, g⟩ (fun r => (∀ c : Dev Cert.DconvGradIdeal.nD,
      r.2.mem ((c.tc : Thread Cert.DconvGradIdeal.nD Cert.DconvGradIdeal.τ).loc Cert.DconvGradIdeal.main_arg0) = m ((c.tc : Thread Cert.DconvGradIdeal.nD Cert.DconvGradIdeal.τ).loc Cert.DconvGradIdeal.main_arg0)
      ∧ r.2.mem ((c.tc : Thread Cert.DconvGradIdeal.nD Cert.DconvGradIdeal.τ).loc Cert.DconvGradIdeal.main_arg1) = m ((c.tc : Thread Cert.DconvGradIdeal.nD Cert.DconvGradIdeal.τ).loc Cert.DconvGradIdeal.main_arg1))
      ∧ r.2.sem = fun _ => 0)

def quiescent_GconvBwd [hGconvBwd : Cert.GconvBwd.Facts] : Prop :=
  ∀ (m : (ℓ : Loc Cert.GconvBwd.nD Cert.GconvBwd.τ Cert.GconvBwd.sig) → Buf (Elt Bits) ℓ) (g : Dev Cert.GconvBwd.nD → PrngReg), Pre_GconvBwd m →
    θ_run (Cert.GconvBwd.defs (F := Bits)) (onTc (τ := Cert.GconvBwd.τ) (Cert.GconvBwd.main (F := Bits))) ⟨m, fun _ => 0, g⟩ (fun r => (∀ c : Dev Cert.GconvBwd.nD,
      r.2.mem ((c.tc : Thread Cert.GconvBwd.nD Cert.GconvBwd.τ).loc Cert.GconvBwd.main_arg0) = m ((c.tc : Thread Cert.GconvBwd.nD Cert.GconvBwd.τ).loc Cert.GconvBwd.main_arg0)
      ∧ r.2.mem ((c.tc : Thread Cert.GconvBwd.nD Cert.GconvBwd.τ).loc Cert.GconvBwd.main_arg1) = m ((c.tc : Thread Cert.GconvBwd.nD Cert.GconvBwd.τ).loc Cert.GconvBwd.main_arg1))
      ∧ r.2.sem = fun _ => 0)

def quiescent_GconvBwdIdeal [hGconvBwdIdeal : Cert.GconvBwdIdeal.Facts] : Prop :=
  ∀ (m : (ℓ : Loc Cert.GconvBwdIdeal.nD Cert.GconvBwdIdeal.τ Cert.GconvBwdIdeal.sig) → Buf (Elt Ideal) ℓ) (g : Dev Cert.GconvBwdIdeal.nD → PrngReg), Pre_GconvBwdIdeal m →
    θ_run (Cert.GconvBwdIdeal.defs (F := Ideal)) (onTc (τ := Cert.GconvBwdIdeal.τ) (Cert.GconvBwdIdeal.main (F := Ideal))) ⟨m, fun _ => 0, g⟩ (fun r => (∀ c : Dev Cert.GconvBwdIdeal.nD,
      r.2.mem ((c.tc : Thread Cert.GconvBwdIdeal.nD Cert.GconvBwdIdeal.τ).loc Cert.GconvBwdIdeal.main_arg0) = m ((c.tc : Thread Cert.GconvBwdIdeal.nD Cert.GconvBwdIdeal.τ).loc Cert.GconvBwdIdeal.main_arg0)
      ∧ r.2.mem ((c.tc : Thread Cert.GconvBwdIdeal.nD Cert.GconvBwdIdeal.τ).loc Cert.GconvBwdIdeal.main_arg1) = m ((c.tc : Thread Cert.GconvBwdIdeal.nD Cert.GconvBwdIdeal.τ).loc Cert.GconvBwdIdeal.main_arg1))
      ∧ r.2.sem = fun _ => 0)

def quiescent_GconvGradIdeal [hGconvGradIdeal : Cert.GconvGradIdeal.Facts] : Prop :=
  ∀ (m : (ℓ : Loc Cert.GconvGradIdeal.nD Cert.GconvGradIdeal.τ Cert.GconvGradIdeal.sig) → Buf (Elt Ideal) ℓ) (g : Dev Cert.GconvGradIdeal.nD → PrngReg), Pre_GconvGradIdeal m →
    θ_run (Cert.GconvGradIdeal.defs (F := Ideal)) (onTc (τ := Cert.GconvGradIdeal.τ) (Cert.GconvGradIdeal.main (F := Ideal))) ⟨m, fun _ => 0, g⟩ (fun r => (∀ c : Dev Cert.GconvGradIdeal.nD,
      r.2.mem ((c.tc : Thread Cert.GconvGradIdeal.nD Cert.GconvGradIdeal.τ).loc Cert.GconvGradIdeal.main_arg0) = m ((c.tc : Thread Cert.GconvGradIdeal.nD Cert.GconvGradIdeal.τ).loc Cert.GconvGradIdeal.main_arg0)
      ∧ r.2.mem ((c.tc : Thread Cert.GconvGradIdeal.nD Cert.GconvGradIdeal.τ).loc Cert.GconvGradIdeal.main_arg1) = m ((c.tc : Thread Cert.GconvGradIdeal.nD Cert.GconvGradIdeal.τ).loc Cert.GconvGradIdeal.main_arg1))
      ∧ r.2.sem = fun _ => 0)

def quiescent_DattnBwd [hDattnBwd : Cert.DattnBwd.Facts] : Prop :=
  ∀ (m : (ℓ : Loc Cert.DattnBwd.nD Cert.DattnBwd.τ Cert.DattnBwd.sig) → Buf (Elt Bits) ℓ) (g : Dev Cert.DattnBwd.nD → PrngReg), Pre_DattnBwd m →
    θ_run (Cert.DattnBwd.defs (F := Bits)) (onTc (τ := Cert.DattnBwd.τ) (Cert.DattnBwd.main (F := Bits))) ⟨m, fun _ => 0, g⟩ (fun r => (∀ c : Dev Cert.DattnBwd.nD,
      r.2.mem ((c.tc : Thread Cert.DattnBwd.nD Cert.DattnBwd.τ).loc Cert.DattnBwd.main_arg0) = m ((c.tc : Thread Cert.DattnBwd.nD Cert.DattnBwd.τ).loc Cert.DattnBwd.main_arg0)
      ∧ r.2.mem ((c.tc : Thread Cert.DattnBwd.nD Cert.DattnBwd.τ).loc Cert.DattnBwd.main_arg1) = m ((c.tc : Thread Cert.DattnBwd.nD Cert.DattnBwd.τ).loc Cert.DattnBwd.main_arg1))
      ∧ r.2.sem = fun _ => 0)

def quiescent_DattnBwdIdeal [hDattnBwdIdeal : Cert.DattnBwdIdeal.Facts] : Prop :=
  ∀ (m : (ℓ : Loc Cert.DattnBwdIdeal.nD Cert.DattnBwdIdeal.τ Cert.DattnBwdIdeal.sig) → Buf (Elt Ideal) ℓ) (g : Dev Cert.DattnBwdIdeal.nD → PrngReg), Pre_DattnBwdIdeal m →
    θ_run (Cert.DattnBwdIdeal.defs (F := Ideal)) (onTc (τ := Cert.DattnBwdIdeal.τ) (Cert.DattnBwdIdeal.main (F := Ideal))) ⟨m, fun _ => 0, g⟩ (fun r => (∀ c : Dev Cert.DattnBwdIdeal.nD,
      r.2.mem ((c.tc : Thread Cert.DattnBwdIdeal.nD Cert.DattnBwdIdeal.τ).loc Cert.DattnBwdIdeal.main_arg0) = m ((c.tc : Thread Cert.DattnBwdIdeal.nD Cert.DattnBwdIdeal.τ).loc Cert.DattnBwdIdeal.main_arg0)
      ∧ r.2.mem ((c.tc : Thread Cert.DattnBwdIdeal.nD Cert.DattnBwdIdeal.τ).loc Cert.DattnBwdIdeal.main_arg1) = m ((c.tc : Thread Cert.DattnBwdIdeal.nD Cert.DattnBwdIdeal.τ).loc Cert.DattnBwdIdeal.main_arg1))
      ∧ r.2.sem = fun _ => 0)

def quiescent_DattnGradIdeal [hDattnGradIdeal : Cert.DattnGradIdeal.Facts] : Prop :=
  ∀ (m : (ℓ : Loc Cert.DattnGradIdeal.nD Cert.DattnGradIdeal.τ Cert.DattnGradIdeal.sig) → Buf (Elt Ideal) ℓ) (g : Dev Cert.DattnGradIdeal.nD → PrngReg), Pre_DattnGradIdeal m →
    θ_run (Cert.DattnGradIdeal.defs (F := Ideal)) (onTc (τ := Cert.DattnGradIdeal.τ) (Cert.DattnGradIdeal.main (F := Ideal))) ⟨m, fun _ => 0, g⟩ (fun r => (∀ c : Dev Cert.DattnGradIdeal.nD,
      r.2.mem ((c.tc : Thread Cert.DattnGradIdeal.nD Cert.DattnGradIdeal.τ).loc Cert.DattnGradIdeal.main_arg0) = m ((c.tc : Thread Cert.DattnGradIdeal.nD Cert.DattnGradIdeal.τ).loc Cert.DattnGradIdeal.main_arg0)
      ∧ r.2.mem ((c.tc : Thread Cert.DattnGradIdeal.nD Cert.DattnGradIdeal.τ).loc Cert.DattnGradIdeal.main_arg1) = m ((c.tc : Thread Cert.DattnGradIdeal.nD Cert.DattnGradIdeal.τ).loc Cert.DattnGradIdeal.main_arg1))
      ∧ r.2.sem = fun _ => 0)

def quiescent_GattnBwd [hGattnBwd : Cert.GattnBwd.Facts] : Prop :=
  ∀ (m : (ℓ : Loc Cert.GattnBwd.nD Cert.GattnBwd.τ Cert.GattnBwd.sig) → Buf (Elt Bits) ℓ) (g : Dev Cert.GattnBwd.nD → PrngReg), Pre_GattnBwd m →
    θ_run (Cert.GattnBwd.defs (F := Bits)) (onTc (τ := Cert.GattnBwd.τ) (Cert.GattnBwd.main (F := Bits))) ⟨m, fun _ => 0, g⟩ (fun r => (∀ c : Dev Cert.GattnBwd.nD,
      r.2.mem ((c.tc : Thread Cert.GattnBwd.nD Cert.GattnBwd.τ).loc Cert.GattnBwd.main_arg0) = m ((c.tc : Thread Cert.GattnBwd.nD Cert.GattnBwd.τ).loc Cert.GattnBwd.main_arg0)
      ∧ r.2.mem ((c.tc : Thread Cert.GattnBwd.nD Cert.GattnBwd.τ).loc Cert.GattnBwd.main_arg1) = m ((c.tc : Thread Cert.GattnBwd.nD Cert.GattnBwd.τ).loc Cert.GattnBwd.main_arg1))
      ∧ r.2.sem = fun _ => 0)

def quiescent_GattnBwdIdeal [hGattnBwdIdeal : Cert.GattnBwdIdeal.Facts] : Prop :=
  ∀ (m : (ℓ : Loc Cert.GattnBwdIdeal.nD Cert.GattnBwdIdeal.τ Cert.GattnBwdIdeal.sig) → Buf (Elt Ideal) ℓ) (g : Dev Cert.GattnBwdIdeal.nD → PrngReg), Pre_GattnBwdIdeal m →
    θ_run (Cert.GattnBwdIdeal.defs (F := Ideal)) (onTc (τ := Cert.GattnBwdIdeal.τ) (Cert.GattnBwdIdeal.main (F := Ideal))) ⟨m, fun _ => 0, g⟩ (fun r => (∀ c : Dev Cert.GattnBwdIdeal.nD,
      r.2.mem ((c.tc : Thread Cert.GattnBwdIdeal.nD Cert.GattnBwdIdeal.τ).loc Cert.GattnBwdIdeal.main_arg0) = m ((c.tc : Thread Cert.GattnBwdIdeal.nD Cert.GattnBwdIdeal.τ).loc Cert.GattnBwdIdeal.main_arg0)
      ∧ r.2.mem ((c.tc : Thread Cert.GattnBwdIdeal.nD Cert.GattnBwdIdeal.τ).loc Cert.GattnBwdIdeal.main_arg1) = m ((c.tc : Thread Cert.GattnBwdIdeal.nD Cert.GattnBwdIdeal.τ).loc Cert.GattnBwdIdeal.main_arg1))
      ∧ r.2.sem = fun _ => 0)

def quiescent_GattnGradIdeal [hGattnGradIdeal : Cert.GattnGradIdeal.Facts] : Prop :=
  ∀ (m : (ℓ : Loc Cert.GattnGradIdeal.nD Cert.GattnGradIdeal.τ Cert.GattnGradIdeal.sig) → Buf (Elt Ideal) ℓ) (g : Dev Cert.GattnGradIdeal.nD → PrngReg), Pre_GattnGradIdeal m →
    θ_run (Cert.GattnGradIdeal.defs (F := Ideal)) (onTc (τ := Cert.GattnGradIdeal.τ) (Cert.GattnGradIdeal.main (F := Ideal))) ⟨m, fun _ => 0, g⟩ (fun r => (∀ c : Dev Cert.GattnGradIdeal.nD,
      r.2.mem ((c.tc : Thread Cert.GattnGradIdeal.nD Cert.GattnGradIdeal.τ).loc Cert.GattnGradIdeal.main_arg0) = m ((c.tc : Thread Cert.GattnGradIdeal.nD Cert.GattnGradIdeal.τ).loc Cert.GattnGradIdeal.main_arg0)
      ∧ r.2.mem ((c.tc : Thread Cert.GattnGradIdeal.nD Cert.GattnGradIdeal.τ).loc Cert.GattnGradIdeal.main_arg1) = m ((c.tc : Thread Cert.GattnGradIdeal.nD Cert.GattnGradIdeal.τ).loc Cert.GattnGradIdeal.main_arg1))
      ∧ r.2.sem = fun _ => 0)

def quiescent_DmemBwd [hDmemBwd : Cert.DmemBwd.Facts] : Prop :=
  ∀ (m : (ℓ : Loc Cert.DmemBwd.nD Cert.DmemBwd.τ Cert.DmemBwd.sig) → Buf (Elt Bits) ℓ) (g : Dev Cert.DmemBwd.nD → PrngReg), Pre_DmemBwd m →
    θ_run (Cert.DmemBwd.defs (F := Bits)) (onTc (τ := Cert.DmemBwd.τ) (Cert.DmemBwd.main (F := Bits))) ⟨m, fun _ => 0, g⟩ (fun r => (∀ c : Dev Cert.DmemBwd.nD,
      r.2.mem ((c.tc : Thread Cert.DmemBwd.nD Cert.DmemBwd.τ).loc Cert.DmemBwd.main_arg0) = m ((c.tc : Thread Cert.DmemBwd.nD Cert.DmemBwd.τ).loc Cert.DmemBwd.main_arg0)
      ∧ r.2.mem ((c.tc : Thread Cert.DmemBwd.nD Cert.DmemBwd.τ).loc Cert.DmemBwd.main_arg1) = m ((c.tc : Thread Cert.DmemBwd.nD Cert.DmemBwd.τ).loc Cert.DmemBwd.main_arg1))
      ∧ r.2.sem = fun _ => 0)

def quiescent_DmemBwdIdeal [hDmemBwdIdeal : Cert.DmemBwdIdeal.Facts] : Prop :=
  ∀ (m : (ℓ : Loc Cert.DmemBwdIdeal.nD Cert.DmemBwdIdeal.τ Cert.DmemBwdIdeal.sig) → Buf (Elt Ideal) ℓ) (g : Dev Cert.DmemBwdIdeal.nD → PrngReg), Pre_DmemBwdIdeal m →
    θ_run (Cert.DmemBwdIdeal.defs (F := Ideal)) (onTc (τ := Cert.DmemBwdIdeal.τ) (Cert.DmemBwdIdeal.main (F := Ideal))) ⟨m, fun _ => 0, g⟩ (fun r => (∀ c : Dev Cert.DmemBwdIdeal.nD,
      r.2.mem ((c.tc : Thread Cert.DmemBwdIdeal.nD Cert.DmemBwdIdeal.τ).loc Cert.DmemBwdIdeal.main_arg0) = m ((c.tc : Thread Cert.DmemBwdIdeal.nD Cert.DmemBwdIdeal.τ).loc Cert.DmemBwdIdeal.main_arg0)
      ∧ r.2.mem ((c.tc : Thread Cert.DmemBwdIdeal.nD Cert.DmemBwdIdeal.τ).loc Cert.DmemBwdIdeal.main_arg1) = m ((c.tc : Thread Cert.DmemBwdIdeal.nD Cert.DmemBwdIdeal.τ).loc Cert.DmemBwdIdeal.main_arg1))
      ∧ r.2.sem = fun _ => 0)

def quiescent_DmemGradIdeal [hDmemGradIdeal : Cert.DmemGradIdeal.Facts] : Prop :=
  ∀ (m : (ℓ : Loc Cert.DmemGradIdeal.nD Cert.DmemGradIdeal.τ Cert.DmemGradIdeal.sig) → Buf (Elt Ideal) ℓ) (g : Dev Cert.DmemGradIdeal.nD → PrngReg), Pre_DmemGradIdeal m →
    θ_run (Cert.DmemGradIdeal.defs (F := Ideal)) (onTc (τ := Cert.DmemGradIdeal.τ) (Cert.DmemGradIdeal.main (F := Ideal))) ⟨m, fun _ => 0, g⟩ (fun r => (∀ c : Dev Cert.DmemGradIdeal.nD,
      r.2.mem ((c.tc : Thread Cert.DmemGradIdeal.nD Cert.DmemGradIdeal.τ).loc Cert.DmemGradIdeal.main_arg0) = m ((c.tc : Thread Cert.DmemGradIdeal.nD Cert.DmemGradIdeal.τ).loc Cert.DmemGradIdeal.main_arg0)
      ∧ r.2.mem ((c.tc : Thread Cert.DmemGradIdeal.nD Cert.DmemGradIdeal.τ).loc Cert.DmemGradIdeal.main_arg1) = m ((c.tc : Thread Cert.DmemGradIdeal.nD Cert.DmemGradIdeal.τ).loc Cert.DmemGradIdeal.main_arg1))
      ∧ r.2.sem = fun _ => 0)

def quiescent_GmemBwd [hGmemBwd : Cert.GmemBwd.Facts] : Prop :=
  ∀ (m : (ℓ : Loc Cert.GmemBwd.nD Cert.GmemBwd.τ Cert.GmemBwd.sig) → Buf (Elt Bits) ℓ) (g : Dev Cert.GmemBwd.nD → PrngReg), Pre_GmemBwd m →
    θ_run (Cert.GmemBwd.defs (F := Bits)) (onTc (τ := Cert.GmemBwd.τ) (Cert.GmemBwd.main (F := Bits))) ⟨m, fun _ => 0, g⟩ (fun r => (∀ c : Dev Cert.GmemBwd.nD,
      r.2.mem ((c.tc : Thread Cert.GmemBwd.nD Cert.GmemBwd.τ).loc Cert.GmemBwd.main_arg0) = m ((c.tc : Thread Cert.GmemBwd.nD Cert.GmemBwd.τ).loc Cert.GmemBwd.main_arg0)
      ∧ r.2.mem ((c.tc : Thread Cert.GmemBwd.nD Cert.GmemBwd.τ).loc Cert.GmemBwd.main_arg1) = m ((c.tc : Thread Cert.GmemBwd.nD Cert.GmemBwd.τ).loc Cert.GmemBwd.main_arg1))
      ∧ r.2.sem = fun _ => 0)

def quiescent_GmemBwdIdeal [hGmemBwdIdeal : Cert.GmemBwdIdeal.Facts] : Prop :=
  ∀ (m : (ℓ : Loc Cert.GmemBwdIdeal.nD Cert.GmemBwdIdeal.τ Cert.GmemBwdIdeal.sig) → Buf (Elt Ideal) ℓ) (g : Dev Cert.GmemBwdIdeal.nD → PrngReg), Pre_GmemBwdIdeal m →
    θ_run (Cert.GmemBwdIdeal.defs (F := Ideal)) (onTc (τ := Cert.GmemBwdIdeal.τ) (Cert.GmemBwdIdeal.main (F := Ideal))) ⟨m, fun _ => 0, g⟩ (fun r => (∀ c : Dev Cert.GmemBwdIdeal.nD,
      r.2.mem ((c.tc : Thread Cert.GmemBwdIdeal.nD Cert.GmemBwdIdeal.τ).loc Cert.GmemBwdIdeal.main_arg0) = m ((c.tc : Thread Cert.GmemBwdIdeal.nD Cert.GmemBwdIdeal.τ).loc Cert.GmemBwdIdeal.main_arg0)
      ∧ r.2.mem ((c.tc : Thread Cert.GmemBwdIdeal.nD Cert.GmemBwdIdeal.τ).loc Cert.GmemBwdIdeal.main_arg1) = m ((c.tc : Thread Cert.GmemBwdIdeal.nD Cert.GmemBwdIdeal.τ).loc Cert.GmemBwdIdeal.main_arg1))
      ∧ r.2.sem = fun _ => 0)

def quiescent_GmemGradIdeal [hGmemGradIdeal : Cert.GmemGradIdeal.Facts] : Prop :=
  ∀ (m : (ℓ : Loc Cert.GmemGradIdeal.nD Cert.GmemGradIdeal.τ Cert.GmemGradIdeal.sig) → Buf (Elt Ideal) ℓ) (g : Dev Cert.GmemGradIdeal.nD → PrngReg), Pre_GmemGradIdeal m →
    θ_run (Cert.GmemGradIdeal.defs (F := Ideal)) (onTc (τ := Cert.GmemGradIdeal.τ) (Cert.GmemGradIdeal.main (F := Ideal))) ⟨m, fun _ => 0, g⟩ (fun r => (∀ c : Dev Cert.GmemGradIdeal.nD,
      r.2.mem ((c.tc : Thread Cert.GmemGradIdeal.nD Cert.GmemGradIdeal.τ).loc Cert.GmemGradIdeal.main_arg0) = m ((c.tc : Thread Cert.GmemGradIdeal.nD Cert.GmemGradIdeal.τ).loc Cert.GmemGradIdeal.main_arg0)
      ∧ r.2.mem ((c.tc : Thread Cert.GmemGradIdeal.nD Cert.GmemGradIdeal.τ).loc Cert.GmemGradIdeal.main_arg1) = m ((c.tc : Thread Cert.GmemGradIdeal.nD Cert.GmemGradIdeal.τ).loc Cert.GmemGradIdeal.main_arg1))
      ∧ r.2.sem = fun _ => 0)

def quiescent_WkvFwd [hWkvFwd : Cert.WkvFwd.Facts] : Prop :=
  ∀ (m : (ℓ : Loc Cert.WkvFwd.nD Cert.WkvFwd.τ Cert.WkvFwd.sig) → Buf (Elt Bits) ℓ) (g : Dev Cert.WkvFwd.nD → PrngReg), Pre_WkvFwd m →
    θ_run (Cert.WkvFwd.defs (F := Bits)) (onTc (τ := Cert.WkvFwd.τ) (Cert.WkvFwd.main (F := Bits))) ⟨m, fun _ => 0, g⟩ (fun r => (∀ c : Dev Cert.WkvFwd.nD,
      r.2.mem ((c.tc : Thread Cert.WkvFwd.nD Cert.WkvFwd.τ).loc Cert.WkvFwd.main_arg0) = m ((c.tc : Thread Cert.WkvFwd.nD Cert.WkvFwd.τ).loc Cert.WkvFwd.main_arg0)
      ∧ r.2.mem ((c.tc : Thread Cert.WkvFwd.nD Cert.WkvFwd.τ).loc Cert.WkvFwd.main_arg1) = m ((c.tc : Thread Cert.WkvFwd.nD Cert.WkvFwd.τ).loc Cert.WkvFwd.main_arg1))
      ∧ r.2.sem = fun _ => 0)

def quiescent_WkvFwdIdeal [hWkvFwdIdeal : Cert.WkvFwdIdeal.Facts] : Prop :=
  ∀ (m : (ℓ : Loc Cert.WkvFwdIdeal.nD Cert.WkvFwdIdeal.τ Cert.WkvFwdIdeal.sig) → Buf (Elt Ideal) ℓ) (g : Dev Cert.WkvFwdIdeal.nD → PrngReg), Pre_WkvFwdIdeal m →
    θ_run (Cert.WkvFwdIdeal.defs (F := Ideal)) (onTc (τ := Cert.WkvFwdIdeal.τ) (Cert.WkvFwdIdeal.main (F := Ideal))) ⟨m, fun _ => 0, g⟩ (fun r => (∀ c : Dev Cert.WkvFwdIdeal.nD,
      r.2.mem ((c.tc : Thread Cert.WkvFwdIdeal.nD Cert.WkvFwdIdeal.τ).loc Cert.WkvFwdIdeal.main_arg0) = m ((c.tc : Thread Cert.WkvFwdIdeal.nD Cert.WkvFwdIdeal.τ).loc Cert.WkvFwdIdeal.main_arg0)
      ∧ r.2.mem ((c.tc : Thread Cert.WkvFwdIdeal.nD Cert.WkvFwdIdeal.τ).loc Cert.WkvFwdIdeal.main_arg1) = m ((c.tc : Thread Cert.WkvFwdIdeal.nD Cert.WkvFwdIdeal.τ).loc Cert.WkvFwdIdeal.main_arg1))
      ∧ r.2.sem = fun _ => 0)

def quiescent_WkvRefIdeal [hWkvRefIdeal : Cert.WkvRefIdeal.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1))
      ∧ r.2.sem = fun _ => 0)

def quiescent_DkvBwd [hDkvBwd : Cert.DkvBwd.Facts] : Prop :=
  ∀ (m : (ℓ : Loc Cert.DkvBwd.nD Cert.DkvBwd.τ Cert.DkvBwd.sig) → Buf (Elt Bits) ℓ) (g : Dev Cert.DkvBwd.nD → PrngReg), Pre_DkvBwd m →
    θ_run (Cert.DkvBwd.defs (F := Bits)) (onTc (τ := Cert.DkvBwd.τ) (Cert.DkvBwd.main (F := Bits))) ⟨m, fun _ => 0, g⟩ (fun r => (∀ c : Dev Cert.DkvBwd.nD,
      r.2.mem ((c.tc : Thread Cert.DkvBwd.nD Cert.DkvBwd.τ).loc Cert.DkvBwd.main_arg0) = m ((c.tc : Thread Cert.DkvBwd.nD Cert.DkvBwd.τ).loc Cert.DkvBwd.main_arg0)
      ∧ r.2.mem ((c.tc : Thread Cert.DkvBwd.nD Cert.DkvBwd.τ).loc Cert.DkvBwd.main_arg1) = m ((c.tc : Thread Cert.DkvBwd.nD Cert.DkvBwd.τ).loc Cert.DkvBwd.main_arg1))
      ∧ r.2.sem = fun _ => 0)

def quiescent_DkvBwdIdeal [hDkvBwdIdeal : Cert.DkvBwdIdeal.Facts] : Prop :=
  ∀ (m : (ℓ : Loc Cert.DkvBwdIdeal.nD Cert.DkvBwdIdeal.τ Cert.DkvBwdIdeal.sig) → Buf (Elt Ideal) ℓ) (g : Dev Cert.DkvBwdIdeal.nD → PrngReg), Pre_DkvBwdIdeal m →
    θ_run (Cert.DkvBwdIdeal.defs (F := Ideal)) (onTc (τ := Cert.DkvBwdIdeal.τ) (Cert.DkvBwdIdeal.main (F := Ideal))) ⟨m, fun _ => 0, g⟩ (fun r => (∀ c : Dev Cert.DkvBwdIdeal.nD,
      r.2.mem ((c.tc : Thread Cert.DkvBwdIdeal.nD Cert.DkvBwdIdeal.τ).loc Cert.DkvBwdIdeal.main_arg0) = m ((c.tc : Thread Cert.DkvBwdIdeal.nD Cert.DkvBwdIdeal.τ).loc Cert.DkvBwdIdeal.main_arg0)
      ∧ r.2.mem ((c.tc : Thread Cert.DkvBwdIdeal.nD Cert.DkvBwdIdeal.τ).loc Cert.DkvBwdIdeal.main_arg1) = m ((c.tc : Thread Cert.DkvBwdIdeal.nD Cert.DkvBwdIdeal.τ).loc Cert.DkvBwdIdeal.main_arg1))
      ∧ r.2.sem = fun _ => 0)

def quiescent_DkvGradIdeal [hDkvGradIdeal : Cert.DkvGradIdeal.Facts] : Prop :=
  ∀ (m : (ℓ : Loc Cert.DkvGradIdeal.nD Cert.DkvGradIdeal.τ Cert.DkvGradIdeal.sig) → Buf (Elt Ideal) ℓ) (g : Dev Cert.DkvGradIdeal.nD → PrngReg), Pre_DkvGradIdeal m →
    θ_run (Cert.DkvGradIdeal.defs (F := Ideal)) (onTc (τ := Cert.DkvGradIdeal.τ) (Cert.DkvGradIdeal.main (F := Ideal))) ⟨m, fun _ => 0, g⟩ (fun r => (∀ c : Dev Cert.DkvGradIdeal.nD,
      r.2.mem ((c.tc : Thread Cert.DkvGradIdeal.nD Cert.DkvGradIdeal.τ).loc Cert.DkvGradIdeal.main_arg0) = m ((c.tc : Thread Cert.DkvGradIdeal.nD Cert.DkvGradIdeal.τ).loc Cert.DkvGradIdeal.main_arg0)
      ∧ r.2.mem ((c.tc : Thread Cert.DkvGradIdeal.nD Cert.DkvGradIdeal.τ).loc Cert.DkvGradIdeal.main_arg1) = m ((c.tc : Thread Cert.DkvGradIdeal.nD Cert.DkvGradIdeal.τ).loc Cert.DkvGradIdeal.main_arg1))
      ∧ r.2.sem = fun _ => 0)

def quiescent_GkvBwd [hGkvBwd : Cert.GkvBwd.Facts] : Prop :=
  ∀ (m : (ℓ : Loc Cert.GkvBwd.nD Cert.GkvBwd.τ Cert.GkvBwd.sig) → Buf (Elt Bits) ℓ) (g : Dev Cert.GkvBwd.nD → PrngReg), Pre_GkvBwd m →
    θ_run (Cert.GkvBwd.defs (F := Bits)) (onTc (τ := Cert.GkvBwd.τ) (Cert.GkvBwd.main (F := Bits))) ⟨m, fun _ => 0, g⟩ (fun r => (∀ c : Dev Cert.GkvBwd.nD,
      r.2.mem ((c.tc : Thread Cert.GkvBwd.nD Cert.GkvBwd.τ).loc Cert.GkvBwd.main_arg0) = m ((c.tc : Thread Cert.GkvBwd.nD Cert.GkvBwd.τ).loc Cert.GkvBwd.main_arg0)
      ∧ r.2.mem ((c.tc : Thread Cert.GkvBwd.nD Cert.GkvBwd.τ).loc Cert.GkvBwd.main_arg1) = m ((c.tc : Thread Cert.GkvBwd.nD Cert.GkvBwd.τ).loc Cert.GkvBwd.main_arg1))
      ∧ r.2.sem = fun _ => 0)

def quiescent_GkvBwdIdeal [hGkvBwdIdeal : Cert.GkvBwdIdeal.Facts] : Prop :=
  ∀ (m : (ℓ : Loc Cert.GkvBwdIdeal.nD Cert.GkvBwdIdeal.τ Cert.GkvBwdIdeal.sig) → Buf (Elt Ideal) ℓ) (g : Dev Cert.GkvBwdIdeal.nD → PrngReg), Pre_GkvBwdIdeal m →
    θ_run (Cert.GkvBwdIdeal.defs (F := Ideal)) (onTc (τ := Cert.GkvBwdIdeal.τ) (Cert.GkvBwdIdeal.main (F := Ideal))) ⟨m, fun _ => 0, g⟩ (fun r => (∀ c : Dev Cert.GkvBwdIdeal.nD,
      r.2.mem ((c.tc : Thread Cert.GkvBwdIdeal.nD Cert.GkvBwdIdeal.τ).loc Cert.GkvBwdIdeal.main_arg0) = m ((c.tc : Thread Cert.GkvBwdIdeal.nD Cert.GkvBwdIdeal.τ).loc Cert.GkvBwdIdeal.main_arg0)
      ∧ r.2.mem ((c.tc : Thread Cert.GkvBwdIdeal.nD Cert.GkvBwdIdeal.τ).loc Cert.GkvBwdIdeal.main_arg1) = m ((c.tc : Thread Cert.GkvBwdIdeal.nD Cert.GkvBwdIdeal.τ).loc Cert.GkvBwdIdeal.main_arg1))
      ∧ r.2.sem = fun _ => 0)

def quiescent_GkvGradIdeal [hGkvGradIdeal : Cert.GkvGradIdeal.Facts] : Prop :=
  ∀ (m : (ℓ : Loc Cert.GkvGradIdeal.nD Cert.GkvGradIdeal.τ Cert.GkvGradIdeal.sig) → Buf (Elt Ideal) ℓ) (g : Dev Cert.GkvGradIdeal.nD → PrngReg), Pre_GkvGradIdeal m →
    θ_run (Cert.GkvGradIdeal.defs (F := Ideal)) (onTc (τ := Cert.GkvGradIdeal.τ) (Cert.GkvGradIdeal.main (F := Ideal))) ⟨m, fun _ => 0, g⟩ (fun r => (∀ c : Dev Cert.GkvGradIdeal.nD,
      r.2.mem ((c.tc : Thread Cert.GkvGradIdeal.nD Cert.GkvGradIdeal.τ).loc Cert.GkvGradIdeal.main_arg0) = m ((c.tc : Thread Cert.GkvGradIdeal.nD Cert.GkvGradIdeal.τ).loc Cert.GkvGradIdeal.main_arg0)
      ∧ r.2.mem ((c.tc : Thread Cert.GkvGradIdeal.nD Cert.GkvGradIdeal.τ).loc Cert.GkvGradIdeal.main_arg1) = m ((c.tc : Thread Cert.GkvGradIdeal.nD Cert.GkvGradIdeal.τ).loc Cert.GkvGradIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdIdeal_pre_finite_inputs [hMemFwdIdeal : Cert.MemFwdIdeal.Facts] [hPre_finite_inputs : Cert.Pre_finite_inputs.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal_finite_inputs m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemOutIdeal [hMemOutIdeal : Cert.MemOutIdeal.Facts] : Prop :=
  ∀ (m : (ℓ : Loc Cert.MemOutIdeal.nD Cert.MemOutIdeal.τ Cert.MemOutIdeal.sig) → Buf (Elt Ideal) ℓ) (g : Dev Cert.MemOutIdeal.nD → PrngReg), Pre_MemOutIdeal m →
    θ_run (Cert.MemOutIdeal.defs (F := Ideal)) (onTc (τ := Cert.MemOutIdeal.τ) (Cert.MemOutIdeal.main (F := Ideal))) ⟨m, fun _ => 0, g⟩ (fun r => (∀ c : Dev Cert.MemOutIdeal.nD,
      r.2.mem ((c.tc : Thread Cert.MemOutIdeal.nD Cert.MemOutIdeal.τ).loc Cert.MemOutIdeal.main_arg0) = m ((c.tc : Thread Cert.MemOutIdeal.nD Cert.MemOutIdeal.τ).loc Cert.MemOutIdeal.main_arg0)
      ∧ r.2.mem ((c.tc : Thread Cert.MemOutIdeal.nD Cert.MemOutIdeal.τ).loc Cert.MemOutIdeal.main_arg1) = m ((c.tc : Thread Cert.MemOutIdeal.nD Cert.MemOutIdeal.τ).loc Cert.MemOutIdeal.main_arg1))
      ∧ r.2.sem = fun _ => 0)

def quiescent_MemOutIdeal_pre_finite_inputs [hMemOutIdeal : Cert.MemOutIdeal.Facts] [hPre_finite_inputs : Cert.Pre_finite_inputs.Facts] : Prop :=
  ∀ (m : (ℓ : Loc Cert.MemOutIdeal.nD Cert.MemOutIdeal.τ Cert.MemOutIdeal.sig) → Buf (Elt Ideal) ℓ) (g : Dev Cert.MemOutIdeal.nD → PrngReg), Pre_MemOutIdeal_finite_inputs m →
    θ_run (Cert.MemOutIdeal.defs (F := Ideal)) (onTc (τ := Cert.MemOutIdeal.τ) (Cert.MemOutIdeal.main (F := Ideal))) ⟨m, fun _ => 0, g⟩ (fun r => (∀ c : Dev Cert.MemOutIdeal.nD,
      r.2.mem ((c.tc : Thread Cert.MemOutIdeal.nD Cert.MemOutIdeal.τ).loc Cert.MemOutIdeal.main_arg0) = m ((c.tc : Thread Cert.MemOutIdeal.nD Cert.MemOutIdeal.τ).loc Cert.MemOutIdeal.main_arg0)
      ∧ r.2.mem ((c.tc : Thread Cert.MemOutIdeal.nD Cert.MemOutIdeal.τ).loc Cert.MemOutIdeal.main_arg1) = m ((c.tc : Thread Cert.MemOutIdeal.nD Cert.MemOutIdeal.τ).loc Cert.MemOutIdeal.main_arg1))
      ∧ r.2.sem = fun _ => 0)

def quiescent_DnormBwd [hDnormBwd : Cert.DnormBwd.Facts] : Prop :=
  ∀ (m : (ℓ : Loc Cert.DnormBwd.nD Cert.DnormBwd.τ Cert.DnormBwd.sig) → Buf (Elt Bits) ℓ) (g : Dev Cert.DnormBwd.nD → PrngReg), Pre_DnormBwd m →
    θ_run (Cert.DnormBwd.defs (F := Bits)) (onTc (τ := Cert.DnormBwd.τ) (Cert.DnormBwd.main (F := Bits))) ⟨m, fun _ => 0, g⟩ (fun r => (∀ c : Dev Cert.DnormBwd.nD,
      r.2.mem ((c.tc : Thread Cert.DnormBwd.nD Cert.DnormBwd.τ).loc Cert.DnormBwd.main_arg0) = m ((c.tc : Thread Cert.DnormBwd.nD Cert.DnormBwd.τ).loc Cert.DnormBwd.main_arg0)
      ∧ r.2.mem ((c.tc : Thread Cert.DnormBwd.nD Cert.DnormBwd.τ).loc Cert.DnormBwd.main_arg1) = m ((c.tc : Thread Cert.DnormBwd.nD Cert.DnormBwd.τ).loc Cert.DnormBwd.main_arg1)
      ∧ r.2.mem ((c.tc : Thread Cert.DnormBwd.nD Cert.DnormBwd.τ).loc Cert.DnormBwd.main_arg2) = m ((c.tc : Thread Cert.DnormBwd.nD Cert.DnormBwd.τ).loc Cert.DnormBwd.main_arg2)
      ∧ r.2.mem ((c.tc : Thread Cert.DnormBwd.nD Cert.DnormBwd.τ).loc Cert.DnormBwd.main_arg3) = m ((c.tc : Thread Cert.DnormBwd.nD Cert.DnormBwd.τ).loc Cert.DnormBwd.main_arg3))
      ∧ r.2.sem = fun _ => 0)

def quiescent_DnormBwdIdeal [hDnormBwdIdeal : Cert.DnormBwdIdeal.Facts] : Prop :=
  ∀ (m : (ℓ : Loc Cert.DnormBwdIdeal.nD Cert.DnormBwdIdeal.τ Cert.DnormBwdIdeal.sig) → Buf (Elt Ideal) ℓ) (g : Dev Cert.DnormBwdIdeal.nD → PrngReg), Pre_DnormBwdIdeal m →
    θ_run (Cert.DnormBwdIdeal.defs (F := Ideal)) (onTc (τ := Cert.DnormBwdIdeal.τ) (Cert.DnormBwdIdeal.main (F := Ideal))) ⟨m, fun _ => 0, g⟩ (fun r => (∀ c : Dev Cert.DnormBwdIdeal.nD,
      r.2.mem ((c.tc : Thread Cert.DnormBwdIdeal.nD Cert.DnormBwdIdeal.τ).loc Cert.DnormBwdIdeal.main_arg0) = m ((c.tc : Thread Cert.DnormBwdIdeal.nD Cert.DnormBwdIdeal.τ).loc Cert.DnormBwdIdeal.main_arg0)
      ∧ r.2.mem ((c.tc : Thread Cert.DnormBwdIdeal.nD Cert.DnormBwdIdeal.τ).loc Cert.DnormBwdIdeal.main_arg1) = m ((c.tc : Thread Cert.DnormBwdIdeal.nD Cert.DnormBwdIdeal.τ).loc Cert.DnormBwdIdeal.main_arg1)
      ∧ r.2.mem ((c.tc : Thread Cert.DnormBwdIdeal.nD Cert.DnormBwdIdeal.τ).loc Cert.DnormBwdIdeal.main_arg2) = m ((c.tc : Thread Cert.DnormBwdIdeal.nD Cert.DnormBwdIdeal.τ).loc Cert.DnormBwdIdeal.main_arg2)
      ∧ r.2.mem ((c.tc : Thread Cert.DnormBwdIdeal.nD Cert.DnormBwdIdeal.τ).loc Cert.DnormBwdIdeal.main_arg3) = m ((c.tc : Thread Cert.DnormBwdIdeal.nD Cert.DnormBwdIdeal.τ).loc Cert.DnormBwdIdeal.main_arg3))
      ∧ r.2.sem = fun _ => 0)

def quiescent_DnormGradIdeal [hDnormGradIdeal : Cert.DnormGradIdeal.Facts] : Prop :=
  ∀ (m : (ℓ : Loc Cert.DnormGradIdeal.nD Cert.DnormGradIdeal.τ Cert.DnormGradIdeal.sig) → Buf (Elt Ideal) ℓ) (g : Dev Cert.DnormGradIdeal.nD → PrngReg), Pre_DnormGradIdeal m →
    θ_run (Cert.DnormGradIdeal.defs (F := Ideal)) (onTc (τ := Cert.DnormGradIdeal.τ) (Cert.DnormGradIdeal.main (F := Ideal))) ⟨m, fun _ => 0, g⟩ (fun r => (∀ c : Dev Cert.DnormGradIdeal.nD,
      r.2.mem ((c.tc : Thread Cert.DnormGradIdeal.nD Cert.DnormGradIdeal.τ).loc Cert.DnormGradIdeal.main_arg0) = m ((c.tc : Thread Cert.DnormGradIdeal.nD Cert.DnormGradIdeal.τ).loc Cert.DnormGradIdeal.main_arg0)
      ∧ r.2.mem ((c.tc : Thread Cert.DnormGradIdeal.nD Cert.DnormGradIdeal.τ).loc Cert.DnormGradIdeal.main_arg1) = m ((c.tc : Thread Cert.DnormGradIdeal.nD Cert.DnormGradIdeal.τ).loc Cert.DnormGradIdeal.main_arg1)
      ∧ r.2.mem ((c.tc : Thread Cert.DnormGradIdeal.nD Cert.DnormGradIdeal.τ).loc Cert.DnormGradIdeal.main_arg2) = m ((c.tc : Thread Cert.DnormGradIdeal.nD Cert.DnormGradIdeal.τ).loc Cert.DnormGradIdeal.main_arg2)
      ∧ r.2.mem ((c.tc : Thread Cert.DnormGradIdeal.nD Cert.DnormGradIdeal.τ).loc Cert.DnormGradIdeal.main_arg3) = m ((c.tc : Thread Cert.DnormGradIdeal.nD Cert.DnormGradIdeal.τ).loc Cert.DnormGradIdeal.main_arg3))
      ∧ r.2.sem = fun _ => 0)

def quiescent_DtokBwd [hDtokBwd : Cert.DtokBwd.Facts] : Prop :=
  ∀ (m : (ℓ : Loc Cert.DtokBwd.nD Cert.DtokBwd.τ Cert.DtokBwd.sig) → Buf (Elt Bits) ℓ) (g : Dev Cert.DtokBwd.nD → PrngReg), Pre_DtokBwd m →
    θ_run (Cert.DtokBwd.defs (F := Bits)) (onTc (τ := Cert.DtokBwd.τ) (Cert.DtokBwd.main (F := Bits))) ⟨m, fun _ => 0, g⟩ (fun r => (∀ c : Dev Cert.DtokBwd.nD,
      r.2.mem ((c.tc : Thread Cert.DtokBwd.nD Cert.DtokBwd.τ).loc Cert.DtokBwd.main_arg0) = m ((c.tc : Thread Cert.DtokBwd.nD Cert.DtokBwd.τ).loc Cert.DtokBwd.main_arg0)
      ∧ r.2.mem ((c.tc : Thread Cert.DtokBwd.nD Cert.DtokBwd.τ).loc Cert.DtokBwd.main_arg1) = m ((c.tc : Thread Cert.DtokBwd.nD Cert.DtokBwd.τ).loc Cert.DtokBwd.main_arg1)
      ∧ r.2.mem ((c.tc : Thread Cert.DtokBwd.nD Cert.DtokBwd.τ).loc Cert.DtokBwd.main_arg2) = m ((c.tc : Thread Cert.DtokBwd.nD Cert.DtokBwd.τ).loc Cert.DtokBwd.main_arg2)
      ∧ r.2.mem ((c.tc : Thread Cert.DtokBwd.nD Cert.DtokBwd.τ).loc Cert.DtokBwd.main_arg3) = m ((c.tc : Thread Cert.DtokBwd.nD Cert.DtokBwd.τ).loc Cert.DtokBwd.main_arg3))
      ∧ r.2.sem = fun _ => 0)

def quiescent_DtokBwdIdeal [hDtokBwdIdeal : Cert.DtokBwdIdeal.Facts] : Prop :=
  ∀ (m : (ℓ : Loc Cert.DtokBwdIdeal.nD Cert.DtokBwdIdeal.τ Cert.DtokBwdIdeal.sig) → Buf (Elt Ideal) ℓ) (g : Dev Cert.DtokBwdIdeal.nD → PrngReg), Pre_DtokBwdIdeal m →
    θ_run (Cert.DtokBwdIdeal.defs (F := Ideal)) (onTc (τ := Cert.DtokBwdIdeal.τ) (Cert.DtokBwdIdeal.main (F := Ideal))) ⟨m, fun _ => 0, g⟩ (fun r => (∀ c : Dev Cert.DtokBwdIdeal.nD,
      r.2.mem ((c.tc : Thread Cert.DtokBwdIdeal.nD Cert.DtokBwdIdeal.τ).loc Cert.DtokBwdIdeal.main_arg0) = m ((c.tc : Thread Cert.DtokBwdIdeal.nD Cert.DtokBwdIdeal.τ).loc Cert.DtokBwdIdeal.main_arg0)
      ∧ r.2.mem ((c.tc : Thread Cert.DtokBwdIdeal.nD Cert.DtokBwdIdeal.τ).loc Cert.DtokBwdIdeal.main_arg1) = m ((c.tc : Thread Cert.DtokBwdIdeal.nD Cert.DtokBwdIdeal.τ).loc Cert.DtokBwdIdeal.main_arg1)
      ∧ r.2.mem ((c.tc : Thread Cert.DtokBwdIdeal.nD Cert.DtokBwdIdeal.τ).loc Cert.DtokBwdIdeal.main_arg2) = m ((c.tc : Thread Cert.DtokBwdIdeal.nD Cert.DtokBwdIdeal.τ).loc Cert.DtokBwdIdeal.main_arg2)
      ∧ r.2.mem ((c.tc : Thread Cert.DtokBwdIdeal.nD Cert.DtokBwdIdeal.τ).loc Cert.DtokBwdIdeal.main_arg3) = m ((c.tc : Thread Cert.DtokBwdIdeal.nD Cert.DtokBwdIdeal.τ).loc Cert.DtokBwdIdeal.main_arg3))
      ∧ r.2.sem = fun _ => 0)

def quiescent_DtokGradIdeal [hDtokGradIdeal : Cert.DtokGradIdeal.Facts] : Prop :=
  ∀ (m : (ℓ : Loc Cert.DtokGradIdeal.nD Cert.DtokGradIdeal.τ Cert.DtokGradIdeal.sig) → Buf (Elt Ideal) ℓ) (g : Dev Cert.DtokGradIdeal.nD → PrngReg), Pre_DtokGradIdeal m →
    θ_run (Cert.DtokGradIdeal.defs (F := Ideal)) (onTc (τ := Cert.DtokGradIdeal.τ) (Cert.DtokGradIdeal.main (F := Ideal))) ⟨m, fun _ => 0, g⟩ (fun r => (∀ c : Dev Cert.DtokGradIdeal.nD,
      r.2.mem ((c.tc : Thread Cert.DtokGradIdeal.nD Cert.DtokGradIdeal.τ).loc Cert.DtokGradIdeal.main_arg0) = m ((c.tc : Thread Cert.DtokGradIdeal.nD Cert.DtokGradIdeal.τ).loc Cert.DtokGradIdeal.main_arg0)
      ∧ r.2.mem ((c.tc : Thread Cert.DtokGradIdeal.nD Cert.DtokGradIdeal.τ).loc Cert.DtokGradIdeal.main_arg1) = m ((c.tc : Thread Cert.DtokGradIdeal.nD Cert.DtokGradIdeal.τ).loc Cert.DtokGradIdeal.main_arg1)
      ∧ r.2.mem ((c.tc : Thread Cert.DtokGradIdeal.nD Cert.DtokGradIdeal.τ).loc Cert.DtokGradIdeal.main_arg2) = m ((c.tc : Thread Cert.DtokGradIdeal.nD Cert.DtokGradIdeal.τ).loc Cert.DtokGradIdeal.main_arg2)
      ∧ r.2.mem ((c.tc : Thread Cert.DtokGradIdeal.nD Cert.DtokGradIdeal.τ).loc Cert.DtokGradIdeal.main_arg3) = m ((c.tc : Thread Cert.DtokGradIdeal.nD Cert.DtokGradIdeal.τ).loc Cert.DtokGradIdeal.main_arg3))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ r.2.sem = fun _ => 0)

def quiescent_DlnBwd [hDlnBwd : Cert.DlnBwd.Facts] : Prop :=
  ∀ (m : (ℓ : Loc Cert.DlnBwd.nD Cert.DlnBwd.τ Cert.DlnBwd.sig) → Buf (Elt Bits) ℓ) (g : Dev Cert.DlnBwd.nD → PrngReg), Pre_DlnBwd m →
    θ_run (Cert.DlnBwd.defs (F := Bits)) (onTc (τ := Cert.DlnBwd.τ) (Cert.DlnBwd.main (F := Bits))) ⟨m, fun _ => 0, g⟩ (fun r => (∀ c : Dev Cert.DlnBwd.nD,
      r.2.mem ((c.tc : Thread Cert.DlnBwd.nD Cert.DlnBwd.τ).loc Cert.DlnBwd.main_arg0) = m ((c.tc : Thread Cert.DlnBwd.nD Cert.DlnBwd.τ).loc Cert.DlnBwd.main_arg0)
      ∧ r.2.mem ((c.tc : Thread Cert.DlnBwd.nD Cert.DlnBwd.τ).loc Cert.DlnBwd.main_arg1) = m ((c.tc : Thread Cert.DlnBwd.nD Cert.DlnBwd.τ).loc Cert.DlnBwd.main_arg1)
      ∧ r.2.mem ((c.tc : Thread Cert.DlnBwd.nD Cert.DlnBwd.τ).loc Cert.DlnBwd.main_arg2) = m ((c.tc : Thread Cert.DlnBwd.nD Cert.DlnBwd.τ).loc Cert.DlnBwd.main_arg2)
      ∧ r.2.mem ((c.tc : Thread Cert.DlnBwd.nD Cert.DlnBwd.τ).loc Cert.DlnBwd.main_arg3) = m ((c.tc : Thread Cert.DlnBwd.nD Cert.DlnBwd.τ).loc Cert.DlnBwd.main_arg3))
      ∧ r.2.sem = fun _ => 0)

def quiescent_DlnBwdIdeal [hDlnBwdIdeal : Cert.DlnBwdIdeal.Facts] : Prop :=
  ∀ (m : (ℓ : Loc Cert.DlnBwdIdeal.nD Cert.DlnBwdIdeal.τ Cert.DlnBwdIdeal.sig) → Buf (Elt Ideal) ℓ) (g : Dev Cert.DlnBwdIdeal.nD → PrngReg), Pre_DlnBwdIdeal m →
    θ_run (Cert.DlnBwdIdeal.defs (F := Ideal)) (onTc (τ := Cert.DlnBwdIdeal.τ) (Cert.DlnBwdIdeal.main (F := Ideal))) ⟨m, fun _ => 0, g⟩ (fun r => (∀ c : Dev Cert.DlnBwdIdeal.nD,
      r.2.mem ((c.tc : Thread Cert.DlnBwdIdeal.nD Cert.DlnBwdIdeal.τ).loc Cert.DlnBwdIdeal.main_arg0) = m ((c.tc : Thread Cert.DlnBwdIdeal.nD Cert.DlnBwdIdeal.τ).loc Cert.DlnBwdIdeal.main_arg0)
      ∧ r.2.mem ((c.tc : Thread Cert.DlnBwdIdeal.nD Cert.DlnBwdIdeal.τ).loc Cert.DlnBwdIdeal.main_arg1) = m ((c.tc : Thread Cert.DlnBwdIdeal.nD Cert.DlnBwdIdeal.τ).loc Cert.DlnBwdIdeal.main_arg1)
      ∧ r.2.mem ((c.tc : Thread Cert.DlnBwdIdeal.nD Cert.DlnBwdIdeal.τ).loc Cert.DlnBwdIdeal.main_arg2) = m ((c.tc : Thread Cert.DlnBwdIdeal.nD Cert.DlnBwdIdeal.τ).loc Cert.DlnBwdIdeal.main_arg2)
      ∧ r.2.mem ((c.tc : Thread Cert.DlnBwdIdeal.nD Cert.DlnBwdIdeal.τ).loc Cert.DlnBwdIdeal.main_arg3) = m ((c.tc : Thread Cert.DlnBwdIdeal.nD Cert.DlnBwdIdeal.τ).loc Cert.DlnBwdIdeal.main_arg3))
      ∧ r.2.sem = fun _ => 0)

def quiescent_DlnBwdIdeal_pre_finite_grads [hDlnBwdIdeal : Cert.DlnBwdIdeal.Facts] [hPre_finite_grads : Cert.Pre_finite_grads.Facts] : Prop :=
  ∀ (m : (ℓ : Loc Cert.DlnBwdIdeal.nD Cert.DlnBwdIdeal.τ Cert.DlnBwdIdeal.sig) → Buf (Elt Ideal) ℓ) (g : Dev Cert.DlnBwdIdeal.nD → PrngReg), Pre_DlnBwdIdeal_finite_grads m →
    θ_run (Cert.DlnBwdIdeal.defs (F := Ideal)) (onTc (τ := Cert.DlnBwdIdeal.τ) (Cert.DlnBwdIdeal.main (F := Ideal))) ⟨m, fun _ => 0, g⟩ (fun r => (∀ c : Dev Cert.DlnBwdIdeal.nD,
      r.2.mem ((c.tc : Thread Cert.DlnBwdIdeal.nD Cert.DlnBwdIdeal.τ).loc Cert.DlnBwdIdeal.main_arg0) = m ((c.tc : Thread Cert.DlnBwdIdeal.nD Cert.DlnBwdIdeal.τ).loc Cert.DlnBwdIdeal.main_arg0)
      ∧ r.2.mem ((c.tc : Thread Cert.DlnBwdIdeal.nD Cert.DlnBwdIdeal.τ).loc Cert.DlnBwdIdeal.main_arg1) = m ((c.tc : Thread Cert.DlnBwdIdeal.nD Cert.DlnBwdIdeal.τ).loc Cert.DlnBwdIdeal.main_arg1)
      ∧ r.2.mem ((c.tc : Thread Cert.DlnBwdIdeal.nD Cert.DlnBwdIdeal.τ).loc Cert.DlnBwdIdeal.main_arg2) = m ((c.tc : Thread Cert.DlnBwdIdeal.nD Cert.DlnBwdIdeal.τ).loc Cert.DlnBwdIdeal.main_arg2)
      ∧ r.2.mem ((c.tc : Thread Cert.DlnBwdIdeal.nD Cert.DlnBwdIdeal.τ).loc Cert.DlnBwdIdeal.main_arg3) = m ((c.tc : Thread Cert.DlnBwdIdeal.nD Cert.DlnBwdIdeal.τ).loc Cert.DlnBwdIdeal.main_arg3))
      ∧ r.2.sem = fun _ => 0)

def quiescent_DlnGradIdeal [hDlnGradIdeal : Cert.DlnGradIdeal.Facts] : Prop :=
  ∀ (m : (ℓ : Loc Cert.DlnGradIdeal.nD Cert.DlnGradIdeal.τ Cert.DlnGradIdeal.sig) → Buf (Elt Ideal) ℓ) (g : Dev Cert.DlnGradIdeal.nD → PrngReg), Pre_DlnGradIdeal m →
    θ_run (Cert.DlnGradIdeal.defs (F := Ideal)) (onTc (τ := Cert.DlnGradIdeal.τ) (Cert.DlnGradIdeal.main (F := Ideal))) ⟨m, fun _ => 0, g⟩ (fun r => (∀ c : Dev Cert.DlnGradIdeal.nD,
      r.2.mem ((c.tc : Thread Cert.DlnGradIdeal.nD Cert.DlnGradIdeal.τ).loc Cert.DlnGradIdeal.main_arg0) = m ((c.tc : Thread Cert.DlnGradIdeal.nD Cert.DlnGradIdeal.τ).loc Cert.DlnGradIdeal.main_arg0)
      ∧ r.2.mem ((c.tc : Thread Cert.DlnGradIdeal.nD Cert.DlnGradIdeal.τ).loc Cert.DlnGradIdeal.main_arg1) = m ((c.tc : Thread Cert.DlnGradIdeal.nD Cert.DlnGradIdeal.τ).loc Cert.DlnGradIdeal.main_arg1)
      ∧ r.2.mem ((c.tc : Thread Cert.DlnGradIdeal.nD Cert.DlnGradIdeal.τ).loc Cert.DlnGradIdeal.main_arg2) = m ((c.tc : Thread Cert.DlnGradIdeal.nD Cert.DlnGradIdeal.τ).loc Cert.DlnGradIdeal.main_arg2)
      ∧ r.2.mem ((c.tc : Thread Cert.DlnGradIdeal.nD Cert.DlnGradIdeal.τ).loc Cert.DlnGradIdeal.main_arg3) = m ((c.tc : Thread Cert.DlnGradIdeal.nD Cert.DlnGradIdeal.τ).loc Cert.DlnGradIdeal.main_arg3))
      ∧ r.2.sem = fun _ => 0)

def quiescent_DlnGradIdeal_pre_finite_grads [hDlnGradIdeal : Cert.DlnGradIdeal.Facts] [hPre_finite_grads : Cert.Pre_finite_grads.Facts] : Prop :=
  ∀ (m : (ℓ : Loc Cert.DlnGradIdeal.nD Cert.DlnGradIdeal.τ Cert.DlnGradIdeal.sig) → Buf (Elt Ideal) ℓ) (g : Dev Cert.DlnGradIdeal.nD → PrngReg), Pre_DlnGradIdeal_finite_grads m →
    θ_run (Cert.DlnGradIdeal.defs (F := Ideal)) (onTc (τ := Cert.DlnGradIdeal.τ) (Cert.DlnGradIdeal.main (F := Ideal))) ⟨m, fun _ => 0, g⟩ (fun r => (∀ c : Dev Cert.DlnGradIdeal.nD,
      r.2.mem ((c.tc : Thread Cert.DlnGradIdeal.nD Cert.DlnGradIdeal.τ).loc Cert.DlnGradIdeal.main_arg0) = m ((c.tc : Thread Cert.DlnGradIdeal.nD Cert.DlnGradIdeal.τ).loc Cert.DlnGradIdeal.main_arg0)
      ∧ r.2.mem ((c.tc : Thread Cert.DlnGradIdeal.nD Cert.DlnGradIdeal.τ).loc Cert.DlnGradIdeal.main_arg1) = m ((c.tc : Thread Cert.DlnGradIdeal.nD Cert.DlnGradIdeal.τ).loc Cert.DlnGradIdeal.main_arg1)
      ∧ r.2.mem ((c.tc : Thread Cert.DlnGradIdeal.nD Cert.DlnGradIdeal.τ).loc Cert.DlnGradIdeal.main_arg2) = m ((c.tc : Thread Cert.DlnGradIdeal.nD Cert.DlnGradIdeal.τ).loc Cert.DlnGradIdeal.main_arg2)
      ∧ r.2.mem ((c.tc : Thread Cert.DlnGradIdeal.nD Cert.DlnGradIdeal.τ).loc Cert.DlnGradIdeal.main_arg3) = m ((c.tc : Thread Cert.DlnGradIdeal.nD Cert.DlnGradIdeal.τ).loc Cert.DlnGradIdeal.main_arg3))
      ∧ r.2.sem = fun _ => 0)

def quiescent_DkeysBwd [hDkeysBwd : Cert.DkeysBwd.Facts] : Prop :=
  ∀ (m : (ℓ : Loc Cert.DkeysBwd.nD Cert.DkeysBwd.τ Cert.DkeysBwd.sig) → Buf (Elt Bits) ℓ) (g : Dev Cert.DkeysBwd.nD → PrngReg), Pre_DkeysBwd m →
    θ_run (Cert.DkeysBwd.defs (F := Bits)) (onTc (τ := Cert.DkeysBwd.τ) (Cert.DkeysBwd.main (F := Bits))) ⟨m, fun _ => 0, g⟩ (fun r => (∀ c : Dev Cert.DkeysBwd.nD,
      r.2.mem ((c.tc : Thread Cert.DkeysBwd.nD Cert.DkeysBwd.τ).loc Cert.DkeysBwd.main_arg0) = m ((c.tc : Thread Cert.DkeysBwd.nD Cert.DkeysBwd.τ).loc Cert.DkeysBwd.main_arg0)
      ∧ r.2.mem ((c.tc : Thread Cert.DkeysBwd.nD Cert.DkeysBwd.τ).loc Cert.DkeysBwd.main_arg1) = m ((c.tc : Thread Cert.DkeysBwd.nD Cert.DkeysBwd.τ).loc Cert.DkeysBwd.main_arg1))
      ∧ r.2.sem = fun _ => 0)

def quiescent_DkeysBwdIdeal [hDkeysBwdIdeal : Cert.DkeysBwdIdeal.Facts] : Prop :=
  ∀ (m : (ℓ : Loc Cert.DkeysBwdIdeal.nD Cert.DkeysBwdIdeal.τ Cert.DkeysBwdIdeal.sig) → Buf (Elt Ideal) ℓ) (g : Dev Cert.DkeysBwdIdeal.nD → PrngReg), Pre_DkeysBwdIdeal m →
    θ_run (Cert.DkeysBwdIdeal.defs (F := Ideal)) (onTc (τ := Cert.DkeysBwdIdeal.τ) (Cert.DkeysBwdIdeal.main (F := Ideal))) ⟨m, fun _ => 0, g⟩ (fun r => (∀ c : Dev Cert.DkeysBwdIdeal.nD,
      r.2.mem ((c.tc : Thread Cert.DkeysBwdIdeal.nD Cert.DkeysBwdIdeal.τ).loc Cert.DkeysBwdIdeal.main_arg0) = m ((c.tc : Thread Cert.DkeysBwdIdeal.nD Cert.DkeysBwdIdeal.τ).loc Cert.DkeysBwdIdeal.main_arg0)
      ∧ r.2.mem ((c.tc : Thread Cert.DkeysBwdIdeal.nD Cert.DkeysBwdIdeal.τ).loc Cert.DkeysBwdIdeal.main_arg1) = m ((c.tc : Thread Cert.DkeysBwdIdeal.nD Cert.DkeysBwdIdeal.τ).loc Cert.DkeysBwdIdeal.main_arg1))
      ∧ r.2.sem = fun _ => 0)

def quiescent_DkeysGradIdeal [hDkeysGradIdeal : Cert.DkeysGradIdeal.Facts] : Prop :=
  ∀ (m : (ℓ : Loc Cert.DkeysGradIdeal.nD Cert.DkeysGradIdeal.τ Cert.DkeysGradIdeal.sig) → Buf (Elt Ideal) ℓ) (g : Dev Cert.DkeysGradIdeal.nD → PrngReg), Pre_DkeysGradIdeal m →
    θ_run (Cert.DkeysGradIdeal.defs (F := Ideal)) (onTc (τ := Cert.DkeysGradIdeal.τ) (Cert.DkeysGradIdeal.main (F := Ideal))) ⟨m, fun _ => 0, g⟩ (fun r => (∀ c : Dev Cert.DkeysGradIdeal.nD,
      r.2.mem ((c.tc : Thread Cert.DkeysGradIdeal.nD Cert.DkeysGradIdeal.τ).loc Cert.DkeysGradIdeal.main_arg0) = m ((c.tc : Thread Cert.DkeysGradIdeal.nD Cert.DkeysGradIdeal.τ).loc Cert.DkeysGradIdeal.main_arg0)
      ∧ r.2.mem ((c.tc : Thread Cert.DkeysGradIdeal.nD Cert.DkeysGradIdeal.τ).loc Cert.DkeysGradIdeal.main_arg1) = m ((c.tc : Thread Cert.DkeysGradIdeal.nD Cert.DkeysGradIdeal.τ).loc Cert.DkeysGradIdeal.main_arg1))
      ∧ r.2.sem = fun _ => 0)

def quiescent_DvalsBwd [hDvalsBwd : Cert.DvalsBwd.Facts] : Prop :=
  ∀ (m : (ℓ : Loc Cert.DvalsBwd.nD Cert.DvalsBwd.τ Cert.DvalsBwd.sig) → Buf (Elt Bits) ℓ) (g : Dev Cert.DvalsBwd.nD → PrngReg), Pre_DvalsBwd m →
    θ_run (Cert.DvalsBwd.defs (F := Bits)) (onTc (τ := Cert.DvalsBwd.τ) (Cert.DvalsBwd.main (F := Bits))) ⟨m, fun _ => 0, g⟩ (fun r => (∀ c : Dev Cert.DvalsBwd.nD,
      r.2.mem ((c.tc : Thread Cert.DvalsBwd.nD Cert.DvalsBwd.τ).loc Cert.DvalsBwd.main_arg0) = m ((c.tc : Thread Cert.DvalsBwd.nD Cert.DvalsBwd.τ).loc Cert.DvalsBwd.main_arg0)
      ∧ r.2.mem ((c.tc : Thread Cert.DvalsBwd.nD Cert.DvalsBwd.τ).loc Cert.DvalsBwd.main_arg1) = m ((c.tc : Thread Cert.DvalsBwd.nD Cert.DvalsBwd.τ).loc Cert.DvalsBwd.main_arg1))
      ∧ r.2.sem = fun _ => 0)

def quiescent_DvalsBwdIdeal [hDvalsBwdIdeal : Cert.DvalsBwdIdeal.Facts] : Prop :=
  ∀ (m : (ℓ : Loc Cert.DvalsBwdIdeal.nD Cert.DvalsBwdIdeal.τ Cert.DvalsBwdIdeal.sig) → Buf (Elt Ideal) ℓ) (g : Dev Cert.DvalsBwdIdeal.nD → PrngReg), Pre_DvalsBwdIdeal m →
    θ_run (Cert.DvalsBwdIdeal.defs (F := Ideal)) (onTc (τ := Cert.DvalsBwdIdeal.τ) (Cert.DvalsBwdIdeal.main (F := Ideal))) ⟨m, fun _ => 0, g⟩ (fun r => (∀ c : Dev Cert.DvalsBwdIdeal.nD,
      r.2.mem ((c.tc : Thread Cert.DvalsBwdIdeal.nD Cert.DvalsBwdIdeal.τ).loc Cert.DvalsBwdIdeal.main_arg0) = m ((c.tc : Thread Cert.DvalsBwdIdeal.nD Cert.DvalsBwdIdeal.τ).loc Cert.DvalsBwdIdeal.main_arg0)
      ∧ r.2.mem ((c.tc : Thread Cert.DvalsBwdIdeal.nD Cert.DvalsBwdIdeal.τ).loc Cert.DvalsBwdIdeal.main_arg1) = m ((c.tc : Thread Cert.DvalsBwdIdeal.nD Cert.DvalsBwdIdeal.τ).loc Cert.DvalsBwdIdeal.main_arg1))
      ∧ r.2.sem = fun _ => 0)

def quiescent_DvalsGradIdeal [hDvalsGradIdeal : Cert.DvalsGradIdeal.Facts] : Prop :=
  ∀ (m : (ℓ : Loc Cert.DvalsGradIdeal.nD Cert.DvalsGradIdeal.τ Cert.DvalsGradIdeal.sig) → Buf (Elt Ideal) ℓ) (g : Dev Cert.DvalsGradIdeal.nD → PrngReg), Pre_DvalsGradIdeal m →
    θ_run (Cert.DvalsGradIdeal.defs (F := Ideal)) (onTc (τ := Cert.DvalsGradIdeal.τ) (Cert.DvalsGradIdeal.main (F := Ideal))) ⟨m, fun _ => 0, g⟩ (fun r => (∀ c : Dev Cert.DvalsGradIdeal.nD,
      r.2.mem ((c.tc : Thread Cert.DvalsGradIdeal.nD Cert.DvalsGradIdeal.τ).loc Cert.DvalsGradIdeal.main_arg0) = m ((c.tc : Thread Cert.DvalsGradIdeal.nD Cert.DvalsGradIdeal.τ).loc Cert.DvalsGradIdeal.main_arg0)
      ∧ r.2.mem ((c.tc : Thread Cert.DvalsGradIdeal.nD Cert.DvalsGradIdeal.τ).loc Cert.DvalsGradIdeal.main_arg1) = m ((c.tc : Thread Cert.DvalsGradIdeal.nD Cert.DvalsGradIdeal.τ).loc Cert.DvalsGradIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_TokFwd [hTokFwd : Cert.TokFwd.Facts] : Prop :=
  ∀ (m : (ℓ : Loc Cert.TokFwd.nD Cert.TokFwd.τ Cert.TokFwd.sig) → Buf (Elt Bits) ℓ) (g : Dev Cert.TokFwd.nD → PrngReg), Pre_TokFwd m →
    θ_run (Cert.TokFwd.defs (F := Bits)) (onTc (τ := Cert.TokFwd.τ) (Cert.TokFwd.main (F := Bits))) ⟨m, fun _ => 0, g⟩ (fun r => (∀ c : Dev Cert.TokFwd.nD,
      r.2.mem ((c.tc : Thread Cert.TokFwd.nD Cert.TokFwd.τ).loc Cert.TokFwd.main_arg0) = m ((c.tc : Thread Cert.TokFwd.nD Cert.TokFwd.τ).loc Cert.TokFwd.main_arg0)
      ∧ r.2.mem ((c.tc : Thread Cert.TokFwd.nD Cert.TokFwd.τ).loc Cert.TokFwd.main_arg1) = m ((c.tc : Thread Cert.TokFwd.nD Cert.TokFwd.τ).loc Cert.TokFwd.main_arg1))
      ∧ r.2.sem = fun _ => 0)

def quiescent_TokFwdIdeal [hTokFwdIdeal : Cert.TokFwdIdeal.Facts] : Prop :=
  ∀ (m : (ℓ : Loc Cert.TokFwdIdeal.nD Cert.TokFwdIdeal.τ Cert.TokFwdIdeal.sig) → Buf (Elt Ideal) ℓ) (g : Dev Cert.TokFwdIdeal.nD → PrngReg), Pre_TokFwdIdeal m →
    θ_run (Cert.TokFwdIdeal.defs (F := Ideal)) (onTc (τ := Cert.TokFwdIdeal.τ) (Cert.TokFwdIdeal.main (F := Ideal))) ⟨m, fun _ => 0, g⟩ (fun r => (∀ c : Dev Cert.TokFwdIdeal.nD,
      r.2.mem ((c.tc : Thread Cert.TokFwdIdeal.nD Cert.TokFwdIdeal.τ).loc Cert.TokFwdIdeal.main_arg0) = m ((c.tc : Thread Cert.TokFwdIdeal.nD Cert.TokFwdIdeal.τ).loc Cert.TokFwdIdeal.main_arg0)
      ∧ r.2.mem ((c.tc : Thread Cert.TokFwdIdeal.nD Cert.TokFwdIdeal.τ).loc Cert.TokFwdIdeal.main_arg1) = m ((c.tc : Thread Cert.TokFwdIdeal.nD Cert.TokFwdIdeal.τ).loc Cert.TokFwdIdeal.main_arg1))
      ∧ r.2.sem = fun _ => 0)

def quiescent_TokRefIdeal [hTokRefIdeal : Cert.TokRefIdeal.Facts] : Prop :=
  ∀ (m : (ℓ : Loc Cert.TokRefIdeal.nD Cert.TokRefIdeal.τ Cert.TokRefIdeal.sig) → Buf (Elt Ideal) ℓ) (g : Dev Cert.TokRefIdeal.nD → PrngReg), Pre_TokRefIdeal m →
    θ_run (Cert.TokRefIdeal.defs (F := Ideal)) (onTc (τ := Cert.TokRefIdeal.τ) (Cert.TokRefIdeal.main (F := Ideal))) ⟨m, fun _ => 0, g⟩ (fun r => (∀ c : Dev Cert.TokRefIdeal.nD,
      r.2.mem ((c.tc : Thread Cert.TokRefIdeal.nD Cert.TokRefIdeal.τ).loc Cert.TokRefIdeal.main_arg0) = m ((c.tc : Thread Cert.TokRefIdeal.nD Cert.TokRefIdeal.τ).loc Cert.TokRefIdeal.main_arg0)
      ∧ r.2.mem ((c.tc : Thread Cert.TokRefIdeal.nD Cert.TokRefIdeal.τ).loc Cert.TokRefIdeal.main_arg1) = m ((c.tc : Thread Cert.TokRefIdeal.nD Cert.TokRefIdeal.τ).loc Cert.TokRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def preserves_MemBwd_MemBwdIdeal : Prop :=
  True

def algebraic_MemBwdIdeal_MemGradIdeal_pre_finite_scores [hMemBwdIdeal : Cert.MemBwdIdeal.Facts] [hMemGradIdeal : Cert.MemGradIdeal.Facts] [hPre_finite_scores : Cert.Pre_finite_scores.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemGradIdeal.nD Cert.MemGradIdeal.τ Cert.MemGradIdeal.sig) → Buf (Elt Ideal) ℓ) (g' : Dev Cert.MemGradIdeal.nD → PrngReg), Pre_MemBwdIdeal_finite_scores m →
    (∀ c : Dev Cert.MemBwdIdeal.nD,
      m' ((c.tc : Thread Cert.MemGradIdeal.nD Cert.MemGradIdeal.τ).loc Cert.MemGradIdeal.main_arg0) = m ((c.tc : Thread Cert.MemBwdIdeal.nD Cert.MemBwdIdeal.τ).loc Cert.MemBwdIdeal.main_arg0)
      ∧ m' ((c.tc : Thread Cert.MemGradIdeal.nD Cert.MemGradIdeal.τ).loc Cert.MemGradIdeal.main_arg1) = m ((c.tc : Thread Cert.MemBwdIdeal.nD Cert.MemBwdIdeal.τ).loc Cert.MemBwdIdeal.main_arg1)
      ∧ m' ((c.tc : Thread Cert.MemGradIdeal.nD Cert.MemGradIdeal.τ).loc Cert.MemGradIdeal.main_arg2) = m ((c.tc : Thread Cert.MemBwdIdeal.nD Cert.MemBwdIdeal.τ).loc Cert.MemBwdIdeal.main_arg2)
      ∧ m' ((c.tc : Thread Cert.MemGradIdeal.nD Cert.MemGradIdeal.τ).loc Cert.MemGradIdeal.main_arg3) = m ((c.tc : Thread Cert.MemBwdIdeal.nD Cert.MemBwdIdeal.τ).loc Cert.MemBwdIdeal.main_arg3)) →
    ∃ (v0 : (c : Dev Cert.MemBwdIdeal.nD) → Buf (Elt Ideal) ((c.tc : Thread Cert.MemBwdIdeal.nD Cert.MemBwdIdeal.τ).loc Cert.MemBwdIdeal.main_v0_0)) (v1 : (c : Dev Cert.MemBwdIdeal.nD) → Buf (Elt Ideal) ((c.tc : Thread Cert.MemBwdIdeal.nD Cert.MemBwdIdeal.τ).loc Cert.MemBwdIdeal.main_v0_1)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v0_0) = v0 c
          ∧ r.2.mem ((c.tc : Thread Cert.MemBwdIdeal.nD Cert.MemBwdIdeal.τ).loc Cert.MemBwdIdeal.main_v0_1) = v1 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ θ_run (Cert.MemGradIdeal.defs (F := Ideal)) (onTc (τ := Cert.MemGradIdeal.τ) (Cert.MemGradIdeal.main (F := Ideal))) ⟨m', fun _ => 0, g'⟩ (fun r => ∀ c : Dev Cert.MemGradIdeal.nD,
          r.2.mem ((c.tc : Thread Cert.MemGradIdeal.nD Cert.MemGradIdeal.τ).loc Cert.MemGradIdeal.main_v80) = v0 c
          ∧ r.2.mem ((c.tc : Thread Cert.MemGradIdeal.nD Cert.MemGradIdeal.τ).loc Cert.MemGradIdeal.main_v76) = v1 c
          ∧ r.2.mem ((c.tc : Thread Cert.MemGradIdeal.nD Cert.MemGradIdeal.τ).loc Cert.MemGradIdeal.main_arg0) = m' ((c.tc : Thread Cert.MemGradIdeal.nD Cert.MemGradIdeal.τ).loc Cert.MemGradIdeal.main_arg0)
          ∧ r.2.mem ((c.tc : Thread Cert.MemGradIdeal.nD Cert.MemGradIdeal.τ).loc Cert.MemGradIdeal.main_arg1) = m' ((c.tc : Thread Cert.MemGradIdeal.nD Cert.MemGradIdeal.τ).loc Cert.MemGradIdeal.main_arg1)
          ∧ r.2.mem ((c.tc : Thread Cert.MemGradIdeal.nD Cert.MemGradIdeal.τ).loc Cert.MemGradIdeal.main_arg2) = m' ((c.tc : Thread Cert.MemGradIdeal.nD Cert.MemGradIdeal.τ).loc Cert.MemGradIdeal.main_arg2)
          ∧ r.2.mem ((c.tc : Thread Cert.MemGradIdeal.nD Cert.MemGradIdeal.τ).loc Cert.MemGradIdeal.main_arg3) = m' ((c.tc : Thread Cert.MemGradIdeal.nD Cert.MemGradIdeal.τ).loc Cert.MemGradIdeal.main_arg3))

def preserves_DxnBwd_DxnBwdIdeal : Prop :=
  True

def algebraic_DxnBwdIdeal_DxnGradIdeal [hDxnBwdIdeal : Cert.DxnBwdIdeal.Facts] [hDxnGradIdeal : Cert.DxnGradIdeal.Facts] : Prop :=
  ∀ (m : (ℓ : Loc Cert.DxnBwdIdeal.nD Cert.DxnBwdIdeal.τ Cert.DxnBwdIdeal.sig) → Buf (Elt Ideal) ℓ) (g : Dev Cert.DxnBwdIdeal.nD → PrngReg)
    (m' : (ℓ : Loc Cert.DxnGradIdeal.nD Cert.DxnGradIdeal.τ Cert.DxnGradIdeal.sig) → Buf (Elt Ideal) ℓ) (g' : Dev Cert.DxnGradIdeal.nD → PrngReg), Pre_DxnBwdIdeal m →
    (∀ c : Dev Cert.DxnBwdIdeal.nD,
      m' ((c.tc : Thread Cert.DxnGradIdeal.nD Cert.DxnGradIdeal.τ).loc Cert.DxnGradIdeal.main_arg0) = m ((c.tc : Thread Cert.DxnBwdIdeal.nD Cert.DxnBwdIdeal.τ).loc Cert.DxnBwdIdeal.main_arg0)
      ∧ m' ((c.tc : Thread Cert.DxnGradIdeal.nD Cert.DxnGradIdeal.τ).loc Cert.DxnGradIdeal.main_arg1) = m ((c.tc : Thread Cert.DxnBwdIdeal.nD Cert.DxnBwdIdeal.τ).loc Cert.DxnBwdIdeal.main_arg1)) →
    ∃ (v0 : (c : Dev Cert.DxnBwdIdeal.nD) → Buf (Elt Ideal) ((c.tc : Thread Cert.DxnBwdIdeal.nD Cert.DxnBwdIdeal.τ).loc Cert.DxnBwdIdeal.main_v0)),
      θ_run (Cert.DxnBwdIdeal.defs (F := Ideal)) (onTc (τ := Cert.DxnBwdIdeal.τ) (Cert.DxnBwdIdeal.main (F := Ideal))) ⟨m, fun _ => 0, g⟩ (fun r => ∀ c : Dev Cert.DxnBwdIdeal.nD,
          r.2.mem ((c.tc : Thread Cert.DxnBwdIdeal.nD Cert.DxnBwdIdeal.τ).loc Cert.DxnBwdIdeal.main_v0) = v0 c
          ∧ r.2.mem ((c.tc : Thread Cert.DxnBwdIdeal.nD Cert.DxnBwdIdeal.τ).loc Cert.DxnBwdIdeal.main_arg0) = m ((c.tc : Thread Cert.DxnBwdIdeal.nD Cert.DxnBwdIdeal.τ).loc Cert.DxnBwdIdeal.main_arg0)
          ∧ r.2.mem ((c.tc : Thread Cert.DxnBwdIdeal.nD Cert.DxnBwdIdeal.τ).loc Cert.DxnBwdIdeal.main_arg1) = m ((c.tc : Thread Cert.DxnBwdIdeal.nD Cert.DxnBwdIdeal.τ).loc Cert.DxnBwdIdeal.main_arg1))
      ∧ θ_run (Cert.DxnGradIdeal.defs (F := Ideal)) (onTc (τ := Cert.DxnGradIdeal.τ) (Cert.DxnGradIdeal.main (F := Ideal))) ⟨m', fun _ => 0, g'⟩ (fun r => ∀ c : Dev Cert.DxnGradIdeal.nD,
          r.2.mem ((c.tc : Thread Cert.DxnGradIdeal.nD Cert.DxnGradIdeal.τ).loc Cert.DxnGradIdeal.main_v11) = v0 c
          ∧ r.2.mem ((c.tc : Thread Cert.DxnGradIdeal.nD Cert.DxnGradIdeal.τ).loc Cert.DxnGradIdeal.main_arg0) = m' ((c.tc : Thread Cert.DxnGradIdeal.nD Cert.DxnGradIdeal.τ).loc Cert.DxnGradIdeal.main_arg0)
          ∧ r.2.mem ((c.tc : Thread Cert.DxnGradIdeal.nD Cert.DxnGradIdeal.τ).loc Cert.DxnGradIdeal.main_arg1) = m' ((c.tc : Thread Cert.DxnGradIdeal.nD Cert.DxnGradIdeal.τ).loc Cert.DxnGradIdeal.main_arg1))

def preserves_GwinBwd_GwinBwdIdeal : Prop :=
  True

def algebraic_GwinBwdIdeal_GwinGradIdeal [hGwinBwdIdeal : Cert.GwinBwdIdeal.Facts] [hGwinGradIdeal : Cert.GwinGradIdeal.Facts] : Prop :=
  ∀ (m : (ℓ : Loc Cert.GwinBwdIdeal.nD Cert.GwinBwdIdeal.τ Cert.GwinBwdIdeal.sig) → Buf (Elt Ideal) ℓ) (g : Dev Cert.GwinBwdIdeal.nD → PrngReg)
    (m' : (ℓ : Loc Cert.GwinGradIdeal.nD Cert.GwinGradIdeal.τ Cert.GwinGradIdeal.sig) → Buf (Elt Ideal) ℓ) (g' : Dev Cert.GwinGradIdeal.nD → PrngReg), Pre_GwinBwdIdeal m →
    (∀ c : Dev Cert.GwinBwdIdeal.nD,
      m' ((c.tc : Thread Cert.GwinGradIdeal.nD Cert.GwinGradIdeal.τ).loc Cert.GwinGradIdeal.main_arg0) = m ((c.tc : Thread Cert.GwinBwdIdeal.nD Cert.GwinBwdIdeal.τ).loc Cert.GwinBwdIdeal.main_arg0)
      ∧ m' ((c.tc : Thread Cert.GwinGradIdeal.nD Cert.GwinGradIdeal.τ).loc Cert.GwinGradIdeal.main_arg1) = m ((c.tc : Thread Cert.GwinBwdIdeal.nD Cert.GwinBwdIdeal.τ).loc Cert.GwinBwdIdeal.main_arg1)) →
    ∃ (v0 : (c : Dev Cert.GwinBwdIdeal.nD) → Buf (Elt Ideal) ((c.tc : Thread Cert.GwinBwdIdeal.nD Cert.GwinBwdIdeal.τ).loc Cert.GwinBwdIdeal.main_v0)),
      θ_run (Cert.GwinBwdIdeal.defs (F := Ideal)) (onTc (τ := Cert.GwinBwdIdeal.τ) (Cert.GwinBwdIdeal.main (F := Ideal))) ⟨m, fun _ => 0, g⟩ (fun r => ∀ c : Dev Cert.GwinBwdIdeal.nD,
          r.2.mem ((c.tc : Thread Cert.GwinBwdIdeal.nD Cert.GwinBwdIdeal.τ).loc Cert.GwinBwdIdeal.main_v0) = v0 c
          ∧ r.2.mem ((c.tc : Thread Cert.GwinBwdIdeal.nD Cert.GwinBwdIdeal.τ).loc Cert.GwinBwdIdeal.main_arg0) = m ((c.tc : Thread Cert.GwinBwdIdeal.nD Cert.GwinBwdIdeal.τ).loc Cert.GwinBwdIdeal.main_arg0)
          ∧ r.2.mem ((c.tc : Thread Cert.GwinBwdIdeal.nD Cert.GwinBwdIdeal.τ).loc Cert.GwinBwdIdeal.main_arg1) = m ((c.tc : Thread Cert.GwinBwdIdeal.nD Cert.GwinBwdIdeal.τ).loc Cert.GwinBwdIdeal.main_arg1))
      ∧ θ_run (Cert.GwinGradIdeal.defs (F := Ideal)) (onTc (τ := Cert.GwinGradIdeal.τ) (Cert.GwinGradIdeal.main (F := Ideal))) ⟨m', fun _ => 0, g'⟩ (fun r => ∀ c : Dev Cert.GwinGradIdeal.nD,
          r.2.mem ((c.tc : Thread Cert.GwinGradIdeal.nD Cert.GwinGradIdeal.τ).loc Cert.GwinGradIdeal.main_v11) = v0 c
          ∧ r.2.mem ((c.tc : Thread Cert.GwinGradIdeal.nD Cert.GwinGradIdeal.τ).loc Cert.GwinGradIdeal.main_arg0) = m' ((c.tc : Thread Cert.GwinGradIdeal.nD Cert.GwinGradIdeal.τ).loc Cert.GwinGradIdeal.main_arg0)
          ∧ r.2.mem ((c.tc : Thread Cert.GwinGradIdeal.nD Cert.GwinGradIdeal.τ).loc Cert.GwinGradIdeal.main_arg1) = m' ((c.tc : Thread Cert.GwinGradIdeal.nD Cert.GwinGradIdeal.τ).loc Cert.GwinGradIdeal.main_arg1))

def preserves_DhnBwd_DhnBwdIdeal : Prop :=
  True

def algebraic_DhnBwdIdeal_DhnGradIdeal [hDhnBwdIdeal : Cert.DhnBwdIdeal.Facts] [hDhnGradIdeal : Cert.DhnGradIdeal.Facts] : Prop :=
  ∀ (m : (ℓ : Loc Cert.DhnBwdIdeal.nD Cert.DhnBwdIdeal.τ Cert.DhnBwdIdeal.sig) → Buf (Elt Ideal) ℓ) (g : Dev Cert.DhnBwdIdeal.nD → PrngReg)
    (m' : (ℓ : Loc Cert.DhnGradIdeal.nD Cert.DhnGradIdeal.τ Cert.DhnGradIdeal.sig) → Buf (Elt Ideal) ℓ) (g' : Dev Cert.DhnGradIdeal.nD → PrngReg), Pre_DhnBwdIdeal m →
    (∀ c : Dev Cert.DhnBwdIdeal.nD,
      m' ((c.tc : Thread Cert.DhnGradIdeal.nD Cert.DhnGradIdeal.τ).loc Cert.DhnGradIdeal.main_arg0) = m ((c.tc : Thread Cert.DhnBwdIdeal.nD Cert.DhnBwdIdeal.τ).loc Cert.DhnBwdIdeal.main_arg0)
      ∧ m' ((c.tc : Thread Cert.DhnGradIdeal.nD Cert.DhnGradIdeal.τ).loc Cert.DhnGradIdeal.main_arg1) = m ((c.tc : Thread Cert.DhnBwdIdeal.nD Cert.DhnBwdIdeal.τ).loc Cert.DhnBwdIdeal.main_arg1)) →
    ∃ (v0 : (c : Dev Cert.DhnBwdIdeal.nD) → Buf (Elt Ideal) ((c.tc : Thread Cert.DhnBwdIdeal.nD Cert.DhnBwdIdeal.τ).loc Cert.DhnBwdIdeal.main_v0)),
      θ_run (Cert.DhnBwdIdeal.defs (F := Ideal)) (onTc (τ := Cert.DhnBwdIdeal.τ) (Cert.DhnBwdIdeal.main (F := Ideal))) ⟨m, fun _ => 0, g⟩ (fun r => ∀ c : Dev Cert.DhnBwdIdeal.nD,
          r.2.mem ((c.tc : Thread Cert.DhnBwdIdeal.nD Cert.DhnBwdIdeal.τ).loc Cert.DhnBwdIdeal.main_v0) = v0 c
          ∧ r.2.mem ((c.tc : Thread Cert.DhnBwdIdeal.nD Cert.DhnBwdIdeal.τ).loc Cert.DhnBwdIdeal.main_arg0) = m ((c.tc : Thread Cert.DhnBwdIdeal.nD Cert.DhnBwdIdeal.τ).loc Cert.DhnBwdIdeal.main_arg0)
          ∧ r.2.mem ((c.tc : Thread Cert.DhnBwdIdeal.nD Cert.DhnBwdIdeal.τ).loc Cert.DhnBwdIdeal.main_arg1) = m ((c.tc : Thread Cert.DhnBwdIdeal.nD Cert.DhnBwdIdeal.τ).loc Cert.DhnBwdIdeal.main_arg1))
      ∧ θ_run (Cert.DhnGradIdeal.defs (F := Ideal)) (onTc (τ := Cert.DhnGradIdeal.τ) (Cert.DhnGradIdeal.main (F := Ideal))) ⟨m', fun _ => 0, g'⟩ (fun r => ∀ c : Dev Cert.DhnGradIdeal.nD,
          r.2.mem ((c.tc : Thread Cert.DhnGradIdeal.nD Cert.DhnGradIdeal.τ).loc Cert.DhnGradIdeal.main_v13) = v0 c
          ∧ r.2.mem ((c.tc : Thread Cert.DhnGradIdeal.nD Cert.DhnGradIdeal.τ).loc Cert.DhnGradIdeal.main_arg0) = m' ((c.tc : Thread Cert.DhnGradIdeal.nD Cert.DhnGradIdeal.τ).loc Cert.DhnGradIdeal.main_arg0)
          ∧ r.2.mem ((c.tc : Thread Cert.DhnGradIdeal.nD Cert.DhnGradIdeal.τ).loc Cert.DhnGradIdeal.main_arg1) = m' ((c.tc : Thread Cert.DhnGradIdeal.nD Cert.DhnGradIdeal.τ).loc Cert.DhnGradIdeal.main_arg1))

def preserves_GwupBwd_GwupBwdIdeal : Prop :=
  True

def algebraic_GwupBwdIdeal_GwupGradIdeal [hGwupBwdIdeal : Cert.GwupBwdIdeal.Facts] [hGwupGradIdeal : Cert.GwupGradIdeal.Facts] : Prop :=
  ∀ (m : (ℓ : Loc Cert.GwupBwdIdeal.nD Cert.GwupBwdIdeal.τ Cert.GwupBwdIdeal.sig) → Buf (Elt Ideal) ℓ) (g : Dev Cert.GwupBwdIdeal.nD → PrngReg)
    (m' : (ℓ : Loc Cert.GwupGradIdeal.nD Cert.GwupGradIdeal.τ Cert.GwupGradIdeal.sig) → Buf (Elt Ideal) ℓ) (g' : Dev Cert.GwupGradIdeal.nD → PrngReg), Pre_GwupBwdIdeal m →
    (∀ c : Dev Cert.GwupBwdIdeal.nD,
      m' ((c.tc : Thread Cert.GwupGradIdeal.nD Cert.GwupGradIdeal.τ).loc Cert.GwupGradIdeal.main_arg0) = m ((c.tc : Thread Cert.GwupBwdIdeal.nD Cert.GwupBwdIdeal.τ).loc Cert.GwupBwdIdeal.main_arg0)
      ∧ m' ((c.tc : Thread Cert.GwupGradIdeal.nD Cert.GwupGradIdeal.τ).loc Cert.GwupGradIdeal.main_arg1) = m ((c.tc : Thread Cert.GwupBwdIdeal.nD Cert.GwupBwdIdeal.τ).loc Cert.GwupBwdIdeal.main_arg1)) →
    ∃ (v0 : (c : Dev Cert.GwupBwdIdeal.nD) → Buf (Elt Ideal) ((c.tc : Thread Cert.GwupBwdIdeal.nD Cert.GwupBwdIdeal.τ).loc Cert.GwupBwdIdeal.main_v0)),
      θ_run (Cert.GwupBwdIdeal.defs (F := Ideal)) (onTc (τ := Cert.GwupBwdIdeal.τ) (Cert.GwupBwdIdeal.main (F := Ideal))) ⟨m, fun _ => 0, g⟩ (fun r => ∀ c : Dev Cert.GwupBwdIdeal.nD,
          r.2.mem ((c.tc : Thread Cert.GwupBwdIdeal.nD Cert.GwupBwdIdeal.τ).loc Cert.GwupBwdIdeal.main_v0) = v0 c
          ∧ r.2.mem ((c.tc : Thread Cert.GwupBwdIdeal.nD Cert.GwupBwdIdeal.τ).loc Cert.GwupBwdIdeal.main_arg0) = m ((c.tc : Thread Cert.GwupBwdIdeal.nD Cert.GwupBwdIdeal.τ).loc Cert.GwupBwdIdeal.main_arg0)
          ∧ r.2.mem ((c.tc : Thread Cert.GwupBwdIdeal.nD Cert.GwupBwdIdeal.τ).loc Cert.GwupBwdIdeal.main_arg1) = m ((c.tc : Thread Cert.GwupBwdIdeal.nD Cert.GwupBwdIdeal.τ).loc Cert.GwupBwdIdeal.main_arg1))
      ∧ θ_run (Cert.GwupGradIdeal.defs (F := Ideal)) (onTc (τ := Cert.GwupGradIdeal.τ) (Cert.GwupGradIdeal.main (F := Ideal))) ⟨m', fun _ => 0, g'⟩ (fun r => ∀ c : Dev Cert.GwupGradIdeal.nD,
          r.2.mem ((c.tc : Thread Cert.GwupGradIdeal.nD Cert.GwupGradIdeal.τ).loc Cert.GwupGradIdeal.main_v13) = v0 c
          ∧ r.2.mem ((c.tc : Thread Cert.GwupGradIdeal.nD Cert.GwupGradIdeal.τ).loc Cert.GwupGradIdeal.main_arg0) = m' ((c.tc : Thread Cert.GwupGradIdeal.nD Cert.GwupGradIdeal.τ).loc Cert.GwupGradIdeal.main_arg0)
          ∧ r.2.mem ((c.tc : Thread Cert.GwupGradIdeal.nD Cert.GwupGradIdeal.τ).loc Cert.GwupGradIdeal.main_arg1) = m' ((c.tc : Thread Cert.GwupGradIdeal.nD Cert.GwupGradIdeal.τ).loc Cert.GwupGradIdeal.main_arg1))

def preserves_DactBwd_DactBwdIdeal : Prop :=
  True

def algebraic_DactBwdIdeal_DactGradIdeal [hDactBwdIdeal : Cert.DactBwdIdeal.Facts] [hDactGradIdeal : Cert.DactGradIdeal.Facts] : Prop :=
  ∀ (m : (ℓ : Loc Cert.DactBwdIdeal.nD Cert.DactBwdIdeal.τ Cert.DactBwdIdeal.sig) → Buf (Elt Ideal) ℓ) (g : Dev Cert.DactBwdIdeal.nD → PrngReg)
    (m' : (ℓ : Loc Cert.DactGradIdeal.nD Cert.DactGradIdeal.τ Cert.DactGradIdeal.sig) → Buf (Elt Ideal) ℓ) (g' : Dev Cert.DactGradIdeal.nD → PrngReg), Pre_DactBwdIdeal m →
    (∀ c : Dev Cert.DactBwdIdeal.nD,
      m' ((c.tc : Thread Cert.DactGradIdeal.nD Cert.DactGradIdeal.τ).loc Cert.DactGradIdeal.main_arg0) = m ((c.tc : Thread Cert.DactBwdIdeal.nD Cert.DactBwdIdeal.τ).loc Cert.DactBwdIdeal.main_arg0)
      ∧ m' ((c.tc : Thread Cert.DactGradIdeal.nD Cert.DactGradIdeal.τ).loc Cert.DactGradIdeal.main_arg1) = m ((c.tc : Thread Cert.DactBwdIdeal.nD Cert.DactBwdIdeal.τ).loc Cert.DactBwdIdeal.main_arg1)) →
    ∃ (v0 : (c : Dev Cert.DactBwdIdeal.nD) → Buf (Elt Ideal) ((c.tc : Thread Cert.DactBwdIdeal.nD Cert.DactBwdIdeal.τ).loc Cert.DactBwdIdeal.main_v0)),
      θ_run (Cert.DactBwdIdeal.defs (F := Ideal)) (onTc (τ := Cert.DactBwdIdeal.τ) (Cert.DactBwdIdeal.main (F := Ideal))) ⟨m, fun _ => 0, g⟩ (fun r => ∀ c : Dev Cert.DactBwdIdeal.nD,
          r.2.mem ((c.tc : Thread Cert.DactBwdIdeal.nD Cert.DactBwdIdeal.τ).loc Cert.DactBwdIdeal.main_v0) = v0 c
          ∧ r.2.mem ((c.tc : Thread Cert.DactBwdIdeal.nD Cert.DactBwdIdeal.τ).loc Cert.DactBwdIdeal.main_arg0) = m ((c.tc : Thread Cert.DactBwdIdeal.nD Cert.DactBwdIdeal.τ).loc Cert.DactBwdIdeal.main_arg0)
          ∧ r.2.mem ((c.tc : Thread Cert.DactBwdIdeal.nD Cert.DactBwdIdeal.τ).loc Cert.DactBwdIdeal.main_arg1) = m ((c.tc : Thread Cert.DactBwdIdeal.nD Cert.DactBwdIdeal.τ).loc Cert.DactBwdIdeal.main_arg1))
      ∧ θ_run (Cert.DactGradIdeal.defs (F := Ideal)) (onTc (τ := Cert.DactGradIdeal.τ) (Cert.DactGradIdeal.main (F := Ideal))) ⟨m', fun _ => 0, g'⟩ (fun r => ∀ c : Dev Cert.DactGradIdeal.nD,
          r.2.mem ((c.tc : Thread Cert.DactGradIdeal.nD Cert.DactGradIdeal.τ).loc Cert.DactGradIdeal.main_v11) = v0 c
          ∧ r.2.mem ((c.tc : Thread Cert.DactGradIdeal.nD Cert.DactGradIdeal.τ).loc Cert.DactGradIdeal.main_arg0) = m' ((c.tc : Thread Cert.DactGradIdeal.nD Cert.DactGradIdeal.τ).loc Cert.DactGradIdeal.main_arg0)
          ∧ r.2.mem ((c.tc : Thread Cert.DactGradIdeal.nD Cert.DactGradIdeal.τ).loc Cert.DactGradIdeal.main_arg1) = m' ((c.tc : Thread Cert.DactGradIdeal.nD Cert.DactGradIdeal.τ).loc Cert.DactGradIdeal.main_arg1))

def preserves_GwdownBwd_GwdownBwdIdeal : Prop :=
  True

def algebraic_GwdownBwdIdeal_GwdownGradIdeal [hGwdownBwdIdeal : Cert.GwdownBwdIdeal.Facts] [hGwdownGradIdeal : Cert.GwdownGradIdeal.Facts] : Prop :=
  ∀ (m : (ℓ : Loc Cert.GwdownBwdIdeal.nD Cert.GwdownBwdIdeal.τ Cert.GwdownBwdIdeal.sig) → Buf (Elt Ideal) ℓ) (g : Dev Cert.GwdownBwdIdeal.nD → PrngReg)
    (m' : (ℓ : Loc Cert.GwdownGradIdeal.nD Cert.GwdownGradIdeal.τ Cert.GwdownGradIdeal.sig) → Buf (Elt Ideal) ℓ) (g' : Dev Cert.GwdownGradIdeal.nD → PrngReg), Pre_GwdownBwdIdeal m →
    (∀ c : Dev Cert.GwdownBwdIdeal.nD,
      m' ((c.tc : Thread Cert.GwdownGradIdeal.nD Cert.GwdownGradIdeal.τ).loc Cert.GwdownGradIdeal.main_arg0) = m ((c.tc : Thread Cert.GwdownBwdIdeal.nD Cert.GwdownBwdIdeal.τ).loc Cert.GwdownBwdIdeal.main_arg0)
      ∧ m' ((c.tc : Thread Cert.GwdownGradIdeal.nD Cert.GwdownGradIdeal.τ).loc Cert.GwdownGradIdeal.main_arg1) = m ((c.tc : Thread Cert.GwdownBwdIdeal.nD Cert.GwdownBwdIdeal.τ).loc Cert.GwdownBwdIdeal.main_arg1)) →
    ∃ (v0 : (c : Dev Cert.GwdownBwdIdeal.nD) → Buf (Elt Ideal) ((c.tc : Thread Cert.GwdownBwdIdeal.nD Cert.GwdownBwdIdeal.τ).loc Cert.GwdownBwdIdeal.main_v0)),
      θ_run (Cert.GwdownBwdIdeal.defs (F := Ideal)) (onTc (τ := Cert.GwdownBwdIdeal.τ) (Cert.GwdownBwdIdeal.main (F := Ideal))) ⟨m, fun _ => 0, g⟩ (fun r => ∀ c : Dev Cert.GwdownBwdIdeal.nD,
          r.2.mem ((c.tc : Thread Cert.GwdownBwdIdeal.nD Cert.GwdownBwdIdeal.τ).loc Cert.GwdownBwdIdeal.main_v0) = v0 c
          ∧ r.2.mem ((c.tc : Thread Cert.GwdownBwdIdeal.nD Cert.GwdownBwdIdeal.τ).loc Cert.GwdownBwdIdeal.main_arg0) = m ((c.tc : Thread Cert.GwdownBwdIdeal.nD Cert.GwdownBwdIdeal.τ).loc Cert.GwdownBwdIdeal.main_arg0)
          ∧ r.2.mem ((c.tc : Thread Cert.GwdownBwdIdeal.nD Cert.GwdownBwdIdeal.τ).loc Cert.GwdownBwdIdeal.main_arg1) = m ((c.tc : Thread Cert.GwdownBwdIdeal.nD Cert.GwdownBwdIdeal.τ).loc Cert.GwdownBwdIdeal.main_arg1))
      ∧ θ_run (Cert.GwdownGradIdeal.defs (F := Ideal)) (onTc (τ := Cert.GwdownGradIdeal.τ) (Cert.GwdownGradIdeal.main (F := Ideal))) ⟨m', fun _ => 0, g'⟩ (fun r => ∀ c : Dev Cert.GwdownGradIdeal.nD,
          r.2.mem ((c.tc : Thread Cert.GwdownGradIdeal.nD Cert.GwdownGradIdeal.τ).loc Cert.GwdownGradIdeal.main_v11) = v0 c
          ∧ r.2.mem ((c.tc : Thread Cert.GwdownGradIdeal.nD Cert.GwdownGradIdeal.τ).loc Cert.GwdownGradIdeal.main_arg0) = m' ((c.tc : Thread Cert.GwdownGradIdeal.nD Cert.GwdownGradIdeal.τ).loc Cert.GwdownGradIdeal.main_arg0)
          ∧ r.2.mem ((c.tc : Thread Cert.GwdownGradIdeal.nD Cert.GwdownGradIdeal.τ).loc Cert.GwdownGradIdeal.main_arg1) = m' ((c.tc : Thread Cert.GwdownGradIdeal.nD Cert.GwdownGradIdeal.τ).loc Cert.GwdownGradIdeal.main_arg1))

def preserves_DmergedBwd_DmergedBwdIdeal : Prop :=
  True

def algebraic_DmergedBwdIdeal_DmergedGradIdeal [hDmergedBwdIdeal : Cert.DmergedBwdIdeal.Facts] [hDmergedGradIdeal : Cert.DmergedGradIdeal.Facts] : Prop :=
  ∀ (m : (ℓ : Loc Cert.DmergedBwdIdeal.nD Cert.DmergedBwdIdeal.τ Cert.DmergedBwdIdeal.sig) → Buf (Elt Ideal) ℓ) (g : Dev Cert.DmergedBwdIdeal.nD → PrngReg)
    (m' : (ℓ : Loc Cert.DmergedGradIdeal.nD Cert.DmergedGradIdeal.τ Cert.DmergedGradIdeal.sig) → Buf (Elt Ideal) ℓ) (g' : Dev Cert.DmergedGradIdeal.nD → PrngReg), Pre_DmergedBwdIdeal m →
    (∀ c : Dev Cert.DmergedBwdIdeal.nD,
      m' ((c.tc : Thread Cert.DmergedGradIdeal.nD Cert.DmergedGradIdeal.τ).loc Cert.DmergedGradIdeal.main_arg0) = m ((c.tc : Thread Cert.DmergedBwdIdeal.nD Cert.DmergedBwdIdeal.τ).loc Cert.DmergedBwdIdeal.main_arg0)
      ∧ m' ((c.tc : Thread Cert.DmergedGradIdeal.nD Cert.DmergedGradIdeal.τ).loc Cert.DmergedGradIdeal.main_arg1) = m ((c.tc : Thread Cert.DmergedBwdIdeal.nD Cert.DmergedBwdIdeal.τ).loc Cert.DmergedBwdIdeal.main_arg1)) →
    ∃ (v0 : (c : Dev Cert.DmergedBwdIdeal.nD) → Buf (Elt Ideal) ((c.tc : Thread Cert.DmergedBwdIdeal.nD Cert.DmergedBwdIdeal.τ).loc Cert.DmergedBwdIdeal.main_v0)),
      θ_run (Cert.DmergedBwdIdeal.defs (F := Ideal)) (onTc (τ := Cert.DmergedBwdIdeal.τ) (Cert.DmergedBwdIdeal.main (F := Ideal))) ⟨m, fun _ => 0, g⟩ (fun r => ∀ c : Dev Cert.DmergedBwdIdeal.nD,
          r.2.mem ((c.tc : Thread Cert.DmergedBwdIdeal.nD Cert.DmergedBwdIdeal.τ).loc Cert.DmergedBwdIdeal.main_v0) = v0 c
          ∧ r.2.mem ((c.tc : Thread Cert.DmergedBwdIdeal.nD Cert.DmergedBwdIdeal.τ).loc Cert.DmergedBwdIdeal.main_arg0) = m ((c.tc : Thread Cert.DmergedBwdIdeal.nD Cert.DmergedBwdIdeal.τ).loc Cert.DmergedBwdIdeal.main_arg0)
          ∧ r.2.mem ((c.tc : Thread Cert.DmergedBwdIdeal.nD Cert.DmergedBwdIdeal.τ).loc Cert.DmergedBwdIdeal.main_arg1) = m ((c.tc : Thread Cert.DmergedBwdIdeal.nD Cert.DmergedBwdIdeal.τ).loc Cert.DmergedBwdIdeal.main_arg1))
      ∧ θ_run (Cert.DmergedGradIdeal.defs (F := Ideal)) (onTc (τ := Cert.DmergedGradIdeal.τ) (Cert.DmergedGradIdeal.main (F := Ideal))) ⟨m', fun _ => 0, g'⟩ (fun r => ∀ c : Dev Cert.DmergedGradIdeal.nD,
          r.2.mem ((c.tc : Thread Cert.DmergedGradIdeal.nD Cert.DmergedGradIdeal.τ).loc Cert.DmergedGradIdeal.main_v11) = v0 c
          ∧ r.2.mem ((c.tc : Thread Cert.DmergedGradIdeal.nD Cert.DmergedGradIdeal.τ).loc Cert.DmergedGradIdeal.main_arg0) = m' ((c.tc : Thread Cert.DmergedGradIdeal.nD Cert.DmergedGradIdeal.τ).loc Cert.DmergedGradIdeal.main_arg0)
          ∧ r.2.mem ((c.tc : Thread Cert.DmergedGradIdeal.nD Cert.DmergedGradIdeal.τ).loc Cert.DmergedGradIdeal.main_arg1) = m' ((c.tc : Thread Cert.DmergedGradIdeal.nD Cert.DmergedGradIdeal.τ).loc Cert.DmergedGradIdeal.main_arg1))

def preserves_GwoBwd_GwoBwdIdeal : Prop :=
  True

def algebraic_GwoBwdIdeal_GwoGradIdeal [hGwoBwdIdeal : Cert.GwoBwdIdeal.Facts] [hGwoGradIdeal : Cert.GwoGradIdeal.Facts] : Prop :=
  ∀ (m : (ℓ : Loc Cert.GwoBwdIdeal.nD Cert.GwoBwdIdeal.τ Cert.GwoBwdIdeal.sig) → Buf (Elt Ideal) ℓ) (g : Dev Cert.GwoBwdIdeal.nD → PrngReg)
    (m' : (ℓ : Loc Cert.GwoGradIdeal.nD Cert.GwoGradIdeal.τ Cert.GwoGradIdeal.sig) → Buf (Elt Ideal) ℓ) (g' : Dev Cert.GwoGradIdeal.nD → PrngReg), Pre_GwoBwdIdeal m →
    (∀ c : Dev Cert.GwoBwdIdeal.nD,
      m' ((c.tc : Thread Cert.GwoGradIdeal.nD Cert.GwoGradIdeal.τ).loc Cert.GwoGradIdeal.main_arg0) = m ((c.tc : Thread Cert.GwoBwdIdeal.nD Cert.GwoBwdIdeal.τ).loc Cert.GwoBwdIdeal.main_arg0)
      ∧ m' ((c.tc : Thread Cert.GwoGradIdeal.nD Cert.GwoGradIdeal.τ).loc Cert.GwoGradIdeal.main_arg1) = m ((c.tc : Thread Cert.GwoBwdIdeal.nD Cert.GwoBwdIdeal.τ).loc Cert.GwoBwdIdeal.main_arg1)) →
    ∃ (v0 : (c : Dev Cert.GwoBwdIdeal.nD) → Buf (Elt Ideal) ((c.tc : Thread Cert.GwoBwdIdeal.nD Cert.GwoBwdIdeal.τ).loc Cert.GwoBwdIdeal.main_v0)),
      θ_run (Cert.GwoBwdIdeal.defs (F := Ideal)) (onTc (τ := Cert.GwoBwdIdeal.τ) (Cert.GwoBwdIdeal.main (F := Ideal))) ⟨m, fun _ => 0, g⟩ (fun r => ∀ c : Dev Cert.GwoBwdIdeal.nD,
          r.2.mem ((c.tc : Thread Cert.GwoBwdIdeal.nD Cert.GwoBwdIdeal.τ).loc Cert.GwoBwdIdeal.main_v0) = v0 c
          ∧ r.2.mem ((c.tc : Thread Cert.GwoBwdIdeal.nD Cert.GwoBwdIdeal.τ).loc Cert.GwoBwdIdeal.main_arg0) = m ((c.tc : Thread Cert.GwoBwdIdeal.nD Cert.GwoBwdIdeal.τ).loc Cert.GwoBwdIdeal.main_arg0)
          ∧ r.2.mem ((c.tc : Thread Cert.GwoBwdIdeal.nD Cert.GwoBwdIdeal.τ).loc Cert.GwoBwdIdeal.main_arg1) = m ((c.tc : Thread Cert.GwoBwdIdeal.nD Cert.GwoBwdIdeal.τ).loc Cert.GwoBwdIdeal.main_arg1))
      ∧ θ_run (Cert.GwoGradIdeal.defs (F := Ideal)) (onTc (τ := Cert.GwoGradIdeal.τ) (Cert.GwoGradIdeal.main (F := Ideal))) ⟨m', fun _ => 0, g'⟩ (fun r => ∀ c : Dev Cert.GwoGradIdeal.nD,
          r.2.mem ((c.tc : Thread Cert.GwoGradIdeal.nD Cert.GwoGradIdeal.τ).loc Cert.GwoGradIdeal.main_v11) = v0 c
          ∧ r.2.mem ((c.tc : Thread Cert.GwoGradIdeal.nD Cert.GwoGradIdeal.τ).loc Cert.GwoGradIdeal.main_arg0) = m' ((c.tc : Thread Cert.GwoGradIdeal.nD Cert.GwoGradIdeal.τ).loc Cert.GwoGradIdeal.main_arg0)
          ∧ r.2.mem ((c.tc : Thread Cert.GwoGradIdeal.nD Cert.GwoGradIdeal.τ).loc Cert.GwoGradIdeal.main_arg1) = m' ((c.tc : Thread Cert.GwoGradIdeal.nD Cert.GwoGradIdeal.τ).loc Cert.GwoGradIdeal.main_arg1))

def preserves_WinFwd_WinFwdIdeal : Prop :=
  True

def algebraic_WinFwdIdeal_WinRefIdeal [hWinFwdIdeal : Cert.WinFwdIdeal.Facts] [hWinRefIdeal : Cert.WinRefIdeal.Facts] : Prop :=
  ∀ (m : (ℓ : Loc Cert.WinFwdIdeal.nD Cert.WinFwdIdeal.τ Cert.WinFwdIdeal.sig) → Buf (Elt Ideal) ℓ) (g : Dev Cert.WinFwdIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinFwdIdeal m →
    (∀ c : Dev Cert.WinFwdIdeal.nD,
      m' ((c.tc : Thread Cert.WinRefIdeal.nD Cert.WinRefIdeal.τ).loc Cert.WinRefIdeal.main_arg0) = m ((c.tc : Thread Cert.WinFwdIdeal.nD Cert.WinFwdIdeal.τ).loc Cert.WinFwdIdeal.main_arg0)
      ∧ m' ((c.tc : Thread Cert.WinRefIdeal.nD Cert.WinRefIdeal.τ).loc Cert.WinRefIdeal.main_arg1) = m ((c.tc : Thread Cert.WinFwdIdeal.nD Cert.WinFwdIdeal.τ).loc Cert.WinFwdIdeal.main_arg1)) →
    ∃ (v0 : (c : Dev Cert.WinFwdIdeal.nD) → Buf (Elt Ideal) ((c.tc : Thread Cert.WinFwdIdeal.nD Cert.WinFwdIdeal.τ).loc Cert.WinFwdIdeal.main_v0)),
      θ_run (Cert.WinFwdIdeal.defs (F := Ideal)) (onTc (τ := Cert.WinFwdIdeal.τ) (Cert.WinFwdIdeal.main (F := Ideal))) ⟨m, fun _ => 0, g⟩ (fun r => ∀ c : Dev Cert.WinFwdIdeal.nD,
          r.2.mem ((c.tc : Thread Cert.WinFwdIdeal.nD Cert.WinFwdIdeal.τ).loc Cert.WinFwdIdeal.main_v0) = v0 c
          ∧ r.2.mem ((c.tc : Thread Cert.WinFwdIdeal.nD Cert.WinFwdIdeal.τ).loc Cert.WinFwdIdeal.main_arg0) = m ((c.tc : Thread Cert.WinFwdIdeal.nD Cert.WinFwdIdeal.τ).loc Cert.WinFwdIdeal.main_arg0)
          ∧ r.2.mem ((c.tc : Thread Cert.WinFwdIdeal.nD Cert.WinFwdIdeal.τ).loc Cert.WinFwdIdeal.main_arg1) = m ((c.tc : Thread Cert.WinFwdIdeal.nD Cert.WinFwdIdeal.τ).loc Cert.WinFwdIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v5) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_WupFwd_WupFwdIdeal : Prop :=
  True

def algebraic_WupFwdIdeal_WupRefIdeal [hWupFwdIdeal : Cert.WupFwdIdeal.Facts] [hWupRefIdeal : Cert.WupRefIdeal.Facts] : Prop :=
  ∀ (m : (ℓ : Loc Cert.WupFwdIdeal.nD Cert.WupFwdIdeal.τ Cert.WupFwdIdeal.sig) → Buf (Elt Ideal) ℓ) (g : Dev Cert.WupFwdIdeal.nD → PrngReg)
    (m' : (ℓ : Loc Cert.WupRefIdeal.nD Cert.WupRefIdeal.τ Cert.WupRefIdeal.sig) → Buf (Elt Ideal) ℓ) (g' : Dev Cert.WupRefIdeal.nD → PrngReg), Pre_WupFwdIdeal m →
    (∀ c : Dev Cert.WupFwdIdeal.nD,
      m' ((c.tc : Thread Cert.WupRefIdeal.nD Cert.WupRefIdeal.τ).loc Cert.WupRefIdeal.main_arg0) = m ((c.tc : Thread Cert.WupFwdIdeal.nD Cert.WupFwdIdeal.τ).loc Cert.WupFwdIdeal.main_arg0)
      ∧ m' ((c.tc : Thread Cert.WupRefIdeal.nD Cert.WupRefIdeal.τ).loc Cert.WupRefIdeal.main_arg1) = m ((c.tc : Thread Cert.WupFwdIdeal.nD Cert.WupFwdIdeal.τ).loc Cert.WupFwdIdeal.main_arg1)) →
    ∃ (v0 : (c : Dev Cert.WupFwdIdeal.nD) → Buf (Elt Ideal) ((c.tc : Thread Cert.WupFwdIdeal.nD Cert.WupFwdIdeal.τ).loc Cert.WupFwdIdeal.main_v0)),
      θ_run (Cert.WupFwdIdeal.defs (F := Ideal)) (onTc (τ := Cert.WupFwdIdeal.τ) (Cert.WupFwdIdeal.main (F := Ideal))) ⟨m, fun _ => 0, g⟩ (fun r => ∀ c : Dev Cert.WupFwdIdeal.nD,
          r.2.mem ((c.tc : Thread Cert.WupFwdIdeal.nD Cert.WupFwdIdeal.τ).loc Cert.WupFwdIdeal.main_v0) = v0 c
          ∧ r.2.mem ((c.tc : Thread Cert.WupFwdIdeal.nD Cert.WupFwdIdeal.τ).loc Cert.WupFwdIdeal.main_arg0) = m ((c.tc : Thread Cert.WupFwdIdeal.nD Cert.WupFwdIdeal.τ).loc Cert.WupFwdIdeal.main_arg0)
          ∧ r.2.mem ((c.tc : Thread Cert.WupFwdIdeal.nD Cert.WupFwdIdeal.τ).loc Cert.WupFwdIdeal.main_arg1) = m ((c.tc : Thread Cert.WupFwdIdeal.nD Cert.WupFwdIdeal.τ).loc Cert.WupFwdIdeal.main_arg1))
      ∧ θ_run (Cert.WupRefIdeal.defs (F := Ideal)) (onTc (τ := Cert.WupRefIdeal.τ) (Cert.WupRefIdeal.main (F := Ideal))) ⟨m', fun _ => 0, g'⟩ (fun r => ∀ c : Dev Cert.WupRefIdeal.nD,
          r.2.mem ((c.tc : Thread Cert.WupRefIdeal.nD Cert.WupRefIdeal.τ).loc Cert.WupRefIdeal.main_v5) = v0 c
          ∧ r.2.mem ((c.tc : Thread Cert.WupRefIdeal.nD Cert.WupRefIdeal.τ).loc Cert.WupRefIdeal.main_arg0) = m' ((c.tc : Thread Cert.WupRefIdeal.nD Cert.WupRefIdeal.τ).loc Cert.WupRefIdeal.main_arg0)
          ∧ r.2.mem ((c.tc : Thread Cert.WupRefIdeal.nD Cert.WupRefIdeal.τ).loc Cert.WupRefIdeal.main_arg1) = m' ((c.tc : Thread Cert.WupRefIdeal.nD Cert.WupRefIdeal.τ).loc Cert.WupRefIdeal.main_arg1))

def preserves_WdownFwd_WdownFwdIdeal : Prop :=
  True

def algebraic_WdownFwdIdeal_WdownRefIdeal [hWdownFwdIdeal : Cert.WdownFwdIdeal.Facts] [hWdownRefIdeal : Cert.WdownRefIdeal.Facts] : Prop :=
  ∀ (m : (ℓ : Loc Cert.WdownFwdIdeal.nD Cert.WdownFwdIdeal.τ Cert.WdownFwdIdeal.sig) → Buf (Elt Ideal) ℓ) (g : Dev Cert.WdownFwdIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownFwdIdeal m →
    (∀ c : Dev Cert.WdownFwdIdeal.nD,
      m' ((c.tc : Thread Cert.WdownRefIdeal.nD Cert.WdownRefIdeal.τ).loc Cert.WdownRefIdeal.main_arg0) = m ((c.tc : Thread Cert.WdownFwdIdeal.nD Cert.WdownFwdIdeal.τ).loc Cert.WdownFwdIdeal.main_arg0)
      ∧ m' ((c.tc : Thread Cert.WdownRefIdeal.nD Cert.WdownRefIdeal.τ).loc Cert.WdownRefIdeal.main_arg1) = m ((c.tc : Thread Cert.WdownFwdIdeal.nD Cert.WdownFwdIdeal.τ).loc Cert.WdownFwdIdeal.main_arg1)
      ∧ m' ((c.tc : Thread Cert.WdownRefIdeal.nD Cert.WdownRefIdeal.τ).loc Cert.WdownRefIdeal.main_arg2) = m ((c.tc : Thread Cert.WdownFwdIdeal.nD Cert.WdownFwdIdeal.τ).loc Cert.WdownFwdIdeal.main_arg2)) →
    ∃ (v0 : (c : Dev Cert.WdownFwdIdeal.nD) → Buf (Elt Ideal) ((c.tc : Thread Cert.WdownFwdIdeal.nD Cert.WdownFwdIdeal.τ).loc Cert.WdownFwdIdeal.main_v0)),
      θ_run (Cert.WdownFwdIdeal.defs (F := Ideal)) (onTc (τ := Cert.WdownFwdIdeal.τ) (Cert.WdownFwdIdeal.main (F := Ideal))) ⟨m, fun _ => 0, g⟩ (fun r => ∀ c : Dev Cert.WdownFwdIdeal.nD,
          r.2.mem ((c.tc : Thread Cert.WdownFwdIdeal.nD Cert.WdownFwdIdeal.τ).loc Cert.WdownFwdIdeal.main_v0) = v0 c
          ∧ r.2.mem ((c.tc : Thread Cert.WdownFwdIdeal.nD Cert.WdownFwdIdeal.τ).loc Cert.WdownFwdIdeal.main_arg0) = m ((c.tc : Thread Cert.WdownFwdIdeal.nD Cert.WdownFwdIdeal.τ).loc Cert.WdownFwdIdeal.main_arg0)
          ∧ r.2.mem ((c.tc : Thread Cert.WdownFwdIdeal.nD Cert.WdownFwdIdeal.τ).loc Cert.WdownFwdIdeal.main_arg1) = m ((c.tc : Thread Cert.WdownFwdIdeal.nD Cert.WdownFwdIdeal.τ).loc Cert.WdownFwdIdeal.main_arg1)
          ∧ r.2.mem ((c.tc : Thread Cert.WdownFwdIdeal.nD Cert.WdownFwdIdeal.τ).loc Cert.WdownFwdIdeal.main_arg2) = m ((c.tc : Thread Cert.WdownFwdIdeal.nD Cert.WdownFwdIdeal.τ).loc Cert.WdownFwdIdeal.main_arg2))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v5) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1)
          ∧ r.2.mem ((c.tc : Thread Cert.WdownRefIdeal.nD Cert.WdownRefIdeal.τ).loc Cert.WdownRefIdeal.main_arg2) = m' ((c.tc : Thread Cert.WdownRefIdeal.nD Cert.WdownRefIdeal.τ).loc Cert.WdownRefIdeal.main_arg2))

def preserves_WoFwd_WoFwdIdeal : Prop :=
  True

def algebraic_WoFwdIdeal_WoRefIdeal [hWoFwdIdeal : Cert.WoFwdIdeal.Facts] [hWoRefIdeal : Cert.WoRefIdeal.Facts] : Prop :=
  ∀ (m : (ℓ : Loc Cert.WoFwdIdeal.nD Cert.WoFwdIdeal.τ Cert.WoFwdIdeal.sig) → Buf (Elt Ideal) ℓ) (g : Dev Cert.WoFwdIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoFwdIdeal m →
    (∀ c : Dev Cert.WoFwdIdeal.nD,
      m' ((c.tc : Thread Cert.WoRefIdeal.nD Cert.WoRefIdeal.τ).loc Cert.WoRefIdeal.main_arg0) = m ((c.tc : Thread Cert.WoFwdIdeal.nD Cert.WoFwdIdeal.τ).loc Cert.WoFwdIdeal.main_arg0)
      ∧ m' ((c.tc : Thread Cert.WoRefIdeal.nD Cert.WoRefIdeal.τ).loc Cert.WoRefIdeal.main_arg1) = m ((c.tc : Thread Cert.WoFwdIdeal.nD Cert.WoFwdIdeal.τ).loc Cert.WoFwdIdeal.main_arg1)
      ∧ m' ((c.tc : Thread Cert.WoRefIdeal.nD Cert.WoRefIdeal.τ).loc Cert.WoRefIdeal.main_arg2) = m ((c.tc : Thread Cert.WoFwdIdeal.nD Cert.WoFwdIdeal.τ).loc Cert.WoFwdIdeal.main_arg2)) →
    ∃ (v0 : (c : Dev Cert.WoFwdIdeal.nD) → Buf (Elt Ideal) ((c.tc : Thread Cert.WoFwdIdeal.nD Cert.WoFwdIdeal.τ).loc Cert.WoFwdIdeal.main_v0)),
      θ_run (Cert.WoFwdIdeal.defs (F := Ideal)) (onTc (τ := Cert.WoFwdIdeal.τ) (Cert.WoFwdIdeal.main (F := Ideal))) ⟨m, fun _ => 0, g⟩ (fun r => ∀ c : Dev Cert.WoFwdIdeal.nD,
          r.2.mem ((c.tc : Thread Cert.WoFwdIdeal.nD Cert.WoFwdIdeal.τ).loc Cert.WoFwdIdeal.main_v0) = v0 c
          ∧ r.2.mem ((c.tc : Thread Cert.WoFwdIdeal.nD Cert.WoFwdIdeal.τ).loc Cert.WoFwdIdeal.main_arg0) = m ((c.tc : Thread Cert.WoFwdIdeal.nD Cert.WoFwdIdeal.τ).loc Cert.WoFwdIdeal.main_arg0)
          ∧ r.2.mem ((c.tc : Thread Cert.WoFwdIdeal.nD Cert.WoFwdIdeal.τ).loc Cert.WoFwdIdeal.main_arg1) = m ((c.tc : Thread Cert.WoFwdIdeal.nD Cert.WoFwdIdeal.τ).loc Cert.WoFwdIdeal.main_arg1)
          ∧ r.2.mem ((c.tc : Thread Cert.WoFwdIdeal.nD Cert.WoFwdIdeal.τ).loc Cert.WoFwdIdeal.main_arg2) = m ((c.tc : Thread Cert.WoFwdIdeal.nD Cert.WoFwdIdeal.τ).loc Cert.WoFwdIdeal.main_arg2))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v5) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2))

def preserves_BranchFwd_BranchFwdIdeal : Prop :=
  True

def algebraic_BranchFwdIdeal_BranchRefIdeal [hBranchFwdIdeal : Cert.BranchFwdIdeal.Facts] [hBranchRefIdeal : Cert.BranchRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchFwdIdeal m →
    (∀ c : Dev Cert.BranchFwdIdeal.nD,
      m' ((c.tc : Thread Cert.BranchRefIdeal.nD Cert.BranchRefIdeal.τ).loc Cert.BranchRefIdeal.main_arg0) = m ((c.tc : Thread Cert.BranchFwdIdeal.nD Cert.BranchFwdIdeal.τ).loc Cert.BranchFwdIdeal.main_arg0)
      ∧ m' ((c.tc : Thread Cert.BranchRefIdeal.nD Cert.BranchRefIdeal.τ).loc Cert.BranchRefIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v0)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v0) = v0 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v5) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_DconvBwd_DconvBwdIdeal : Prop :=
  True

def algebraic_DconvBwdIdeal_DconvGradIdeal [hDconvBwdIdeal : Cert.DconvBwdIdeal.Facts] [hDconvGradIdeal : Cert.DconvGradIdeal.Facts] : Prop :=
  ∀ (m : (ℓ : Loc Cert.DconvBwdIdeal.nD Cert.DconvBwdIdeal.τ Cert.DconvBwdIdeal.sig) → Buf (Elt Ideal) ℓ) (g : Dev Cert.DconvBwdIdeal.nD → PrngReg)
    (m' : (ℓ : Loc Cert.DconvGradIdeal.nD Cert.DconvGradIdeal.τ Cert.DconvGradIdeal.sig) → Buf (Elt Ideal) ℓ) (g' : Dev Cert.DconvGradIdeal.nD → PrngReg), Pre_DconvBwdIdeal m →
    (∀ c : Dev Cert.DconvBwdIdeal.nD,
      m' ((c.tc : Thread Cert.DconvGradIdeal.nD Cert.DconvGradIdeal.τ).loc Cert.DconvGradIdeal.main_arg0) = m ((c.tc : Thread Cert.DconvBwdIdeal.nD Cert.DconvBwdIdeal.τ).loc Cert.DconvBwdIdeal.main_arg0)
      ∧ m' ((c.tc : Thread Cert.DconvGradIdeal.nD Cert.DconvGradIdeal.τ).loc Cert.DconvGradIdeal.main_arg1) = m ((c.tc : Thread Cert.DconvBwdIdeal.nD Cert.DconvBwdIdeal.τ).loc Cert.DconvBwdIdeal.main_arg1)) →
    ∃ (v0 : (c : Dev Cert.DconvBwdIdeal.nD) → Buf (Elt Ideal) ((c.tc : Thread Cert.DconvBwdIdeal.nD Cert.DconvBwdIdeal.τ).loc Cert.DconvBwdIdeal.main_v0)),
      θ_run (Cert.DconvBwdIdeal.defs (F := Ideal)) (onTc (τ := Cert.DconvBwdIdeal.τ) (Cert.DconvBwdIdeal.main (F := Ideal))) ⟨m, fun _ => 0, g⟩ (fun r => ∀ c : Dev Cert.DconvBwdIdeal.nD,
          r.2.mem ((c.tc : Thread Cert.DconvBwdIdeal.nD Cert.DconvBwdIdeal.τ).loc Cert.DconvBwdIdeal.main_v0) = v0 c
          ∧ r.2.mem ((c.tc : Thread Cert.DconvBwdIdeal.nD Cert.DconvBwdIdeal.τ).loc Cert.DconvBwdIdeal.main_arg0) = m ((c.tc : Thread Cert.DconvBwdIdeal.nD Cert.DconvBwdIdeal.τ).loc Cert.DconvBwdIdeal.main_arg0)
          ∧ r.2.mem ((c.tc : Thread Cert.DconvBwdIdeal.nD Cert.DconvBwdIdeal.τ).loc Cert.DconvBwdIdeal.main_arg1) = m ((c.tc : Thread Cert.DconvBwdIdeal.nD Cert.DconvBwdIdeal.τ).loc Cert.DconvBwdIdeal.main_arg1))
      ∧ θ_run (Cert.DconvGradIdeal.defs (F := Ideal)) (onTc (τ := Cert.DconvGradIdeal.τ) (Cert.DconvGradIdeal.main (F := Ideal))) ⟨m', fun _ => 0, g'⟩ (fun r => ∀ c : Dev Cert.DconvGradIdeal.nD,
          r.2.mem ((c.tc : Thread Cert.DconvGradIdeal.nD Cert.DconvGradIdeal.τ).loc Cert.DconvGradIdeal.main_v13) = v0 c
          ∧ r.2.mem ((c.tc : Thread Cert.DconvGradIdeal.nD Cert.DconvGradIdeal.τ).loc Cert.DconvGradIdeal.main_arg0) = m' ((c.tc : Thread Cert.DconvGradIdeal.nD Cert.DconvGradIdeal.τ).loc Cert.DconvGradIdeal.main_arg0)
          ∧ r.2.mem ((c.tc : Thread Cert.DconvGradIdeal.nD Cert.DconvGradIdeal.τ).loc Cert.DconvGradIdeal.main_arg1) = m' ((c.tc : Thread Cert.DconvGradIdeal.nD Cert.DconvGradIdeal.τ).loc Cert.DconvGradIdeal.main_arg1))

def preserves_GconvBwd_GconvBwdIdeal : Prop :=
  True

def algebraic_GconvBwdIdeal_GconvGradIdeal [hGconvBwdIdeal : Cert.GconvBwdIdeal.Facts] [hGconvGradIdeal : Cert.GconvGradIdeal.Facts] : Prop :=
  ∀ (m : (ℓ : Loc Cert.GconvBwdIdeal.nD Cert.GconvBwdIdeal.τ Cert.GconvBwdIdeal.sig) → Buf (Elt Ideal) ℓ) (g : Dev Cert.GconvBwdIdeal.nD → PrngReg)
    (m' : (ℓ : Loc Cert.GconvGradIdeal.nD Cert.GconvGradIdeal.τ Cert.GconvGradIdeal.sig) → Buf (Elt Ideal) ℓ) (g' : Dev Cert.GconvGradIdeal.nD → PrngReg), Pre_GconvBwdIdeal m →
    (∀ c : Dev Cert.GconvBwdIdeal.nD,
      m' ((c.tc : Thread Cert.GconvGradIdeal.nD Cert.GconvGradIdeal.τ).loc Cert.GconvGradIdeal.main_arg0) = m ((c.tc : Thread Cert.GconvBwdIdeal.nD Cert.GconvBwdIdeal.τ).loc Cert.GconvBwdIdeal.main_arg0)
      ∧ m' ((c.tc : Thread Cert.GconvGradIdeal.nD Cert.GconvGradIdeal.τ).loc Cert.GconvGradIdeal.main_arg1) = m ((c.tc : Thread Cert.GconvBwdIdeal.nD Cert.GconvBwdIdeal.τ).loc Cert.GconvBwdIdeal.main_arg1)) →
    ∃ (v0 : (c : Dev Cert.GconvBwdIdeal.nD) → Buf (Elt Ideal) ((c.tc : Thread Cert.GconvBwdIdeal.nD Cert.GconvBwdIdeal.τ).loc Cert.GconvBwdIdeal.main_v0)),
      θ_run (Cert.GconvBwdIdeal.defs (F := Ideal)) (onTc (τ := Cert.GconvBwdIdeal.τ) (Cert.GconvBwdIdeal.main (F := Ideal))) ⟨m, fun _ => 0, g⟩ (fun r => ∀ c : Dev Cert.GconvBwdIdeal.nD,
          r.2.mem ((c.tc : Thread Cert.GconvBwdIdeal.nD Cert.GconvBwdIdeal.τ).loc Cert.GconvBwdIdeal.main_v0) = v0 c
          ∧ r.2.mem ((c.tc : Thread Cert.GconvBwdIdeal.nD Cert.GconvBwdIdeal.τ).loc Cert.GconvBwdIdeal.main_arg0) = m ((c.tc : Thread Cert.GconvBwdIdeal.nD Cert.GconvBwdIdeal.τ).loc Cert.GconvBwdIdeal.main_arg0)
          ∧ r.2.mem ((c.tc : Thread Cert.GconvBwdIdeal.nD Cert.GconvBwdIdeal.τ).loc Cert.GconvBwdIdeal.main_arg1) = m ((c.tc : Thread Cert.GconvBwdIdeal.nD Cert.GconvBwdIdeal.τ).loc Cert.GconvBwdIdeal.main_arg1))
      ∧ θ_run (Cert.GconvGradIdeal.defs (F := Ideal)) (onTc (τ := Cert.GconvGradIdeal.τ) (Cert.GconvGradIdeal.main (F := Ideal))) ⟨m', fun _ => 0, g'⟩ (fun r => ∀ c : Dev Cert.GconvGradIdeal.nD,
          r.2.mem ((c.tc : Thread Cert.GconvGradIdeal.nD Cert.GconvGradIdeal.τ).loc Cert.GconvGradIdeal.main_v13) = v0 c
          ∧ r.2.mem ((c.tc : Thread Cert.GconvGradIdeal.nD Cert.GconvGradIdeal.τ).loc Cert.GconvGradIdeal.main_arg0) = m' ((c.tc : Thread Cert.GconvGradIdeal.nD Cert.GconvGradIdeal.τ).loc Cert.GconvGradIdeal.main_arg0)
          ∧ r.2.mem ((c.tc : Thread Cert.GconvGradIdeal.nD Cert.GconvGradIdeal.τ).loc Cert.GconvGradIdeal.main_arg1) = m' ((c.tc : Thread Cert.GconvGradIdeal.nD Cert.GconvGradIdeal.τ).loc Cert.GconvGradIdeal.main_arg1))

def preserves_DattnBwd_DattnBwdIdeal : Prop :=
  True

def algebraic_DattnBwdIdeal_DattnGradIdeal [hDattnBwdIdeal : Cert.DattnBwdIdeal.Facts] [hDattnGradIdeal : Cert.DattnGradIdeal.Facts] : Prop :=
  ∀ (m : (ℓ : Loc Cert.DattnBwdIdeal.nD Cert.DattnBwdIdeal.τ Cert.DattnBwdIdeal.sig) → Buf (Elt Ideal) ℓ) (g : Dev Cert.DattnBwdIdeal.nD → PrngReg)
    (m' : (ℓ : Loc Cert.DattnGradIdeal.nD Cert.DattnGradIdeal.τ Cert.DattnGradIdeal.sig) → Buf (Elt Ideal) ℓ) (g' : Dev Cert.DattnGradIdeal.nD → PrngReg), Pre_DattnBwdIdeal m →
    (∀ c : Dev Cert.DattnBwdIdeal.nD,
      m' ((c.tc : Thread Cert.DattnGradIdeal.nD Cert.DattnGradIdeal.τ).loc Cert.DattnGradIdeal.main_arg0) = m ((c.tc : Thread Cert.DattnBwdIdeal.nD Cert.DattnBwdIdeal.τ).loc Cert.DattnBwdIdeal.main_arg0)
      ∧ m' ((c.tc : Thread Cert.DattnGradIdeal.nD Cert.DattnGradIdeal.τ).loc Cert.DattnGradIdeal.main_arg1) = m ((c.tc : Thread Cert.DattnBwdIdeal.nD Cert.DattnBwdIdeal.τ).loc Cert.DattnBwdIdeal.main_arg1)) →
    ∃ (v0 : (c : Dev Cert.DattnBwdIdeal.nD) → Buf (Elt Ideal) ((c.tc : Thread Cert.DattnBwdIdeal.nD Cert.DattnBwdIdeal.τ).loc Cert.DattnBwdIdeal.main_v0)),
      θ_run (Cert.DattnBwdIdeal.defs (F := Ideal)) (onTc (τ := Cert.DattnBwdIdeal.τ) (Cert.DattnBwdIdeal.main (F := Ideal))) ⟨m, fun _ => 0, g⟩ (fun r => ∀ c : Dev Cert.DattnBwdIdeal.nD,
          r.2.mem ((c.tc : Thread Cert.DattnBwdIdeal.nD Cert.DattnBwdIdeal.τ).loc Cert.DattnBwdIdeal.main_v0) = v0 c
          ∧ r.2.mem ((c.tc : Thread Cert.DattnBwdIdeal.nD Cert.DattnBwdIdeal.τ).loc Cert.DattnBwdIdeal.main_arg0) = m ((c.tc : Thread Cert.DattnBwdIdeal.nD Cert.DattnBwdIdeal.τ).loc Cert.DattnBwdIdeal.main_arg0)
          ∧ r.2.mem ((c.tc : Thread Cert.DattnBwdIdeal.nD Cert.DattnBwdIdeal.τ).loc Cert.DattnBwdIdeal.main_arg1) = m ((c.tc : Thread Cert.DattnBwdIdeal.nD Cert.DattnBwdIdeal.τ).loc Cert.DattnBwdIdeal.main_arg1))
      ∧ θ_run (Cert.DattnGradIdeal.defs (F := Ideal)) (onTc (τ := Cert.DattnGradIdeal.τ) (Cert.DattnGradIdeal.main (F := Ideal))) ⟨m', fun _ => 0, g'⟩ (fun r => ∀ c : Dev Cert.DattnGradIdeal.nD,
          r.2.mem ((c.tc : Thread Cert.DattnGradIdeal.nD Cert.DattnGradIdeal.τ).loc Cert.DattnGradIdeal.main_v13) = v0 c
          ∧ r.2.mem ((c.tc : Thread Cert.DattnGradIdeal.nD Cert.DattnGradIdeal.τ).loc Cert.DattnGradIdeal.main_arg0) = m' ((c.tc : Thread Cert.DattnGradIdeal.nD Cert.DattnGradIdeal.τ).loc Cert.DattnGradIdeal.main_arg0)
          ∧ r.2.mem ((c.tc : Thread Cert.DattnGradIdeal.nD Cert.DattnGradIdeal.τ).loc Cert.DattnGradIdeal.main_arg1) = m' ((c.tc : Thread Cert.DattnGradIdeal.nD Cert.DattnGradIdeal.τ).loc Cert.DattnGradIdeal.main_arg1))

def preserves_GattnBwd_GattnBwdIdeal : Prop :=
  True

def algebraic_GattnBwdIdeal_GattnGradIdeal [hGattnBwdIdeal : Cert.GattnBwdIdeal.Facts] [hGattnGradIdeal : Cert.GattnGradIdeal.Facts] : Prop :=
  ∀ (m : (ℓ : Loc Cert.GattnBwdIdeal.nD Cert.GattnBwdIdeal.τ Cert.GattnBwdIdeal.sig) → Buf (Elt Ideal) ℓ) (g : Dev Cert.GattnBwdIdeal.nD → PrngReg)
    (m' : (ℓ : Loc Cert.GattnGradIdeal.nD Cert.GattnGradIdeal.τ Cert.GattnGradIdeal.sig) → Buf (Elt Ideal) ℓ) (g' : Dev Cert.GattnGradIdeal.nD → PrngReg), Pre_GattnBwdIdeal m →
    (∀ c : Dev Cert.GattnBwdIdeal.nD,
      m' ((c.tc : Thread Cert.GattnGradIdeal.nD Cert.GattnGradIdeal.τ).loc Cert.GattnGradIdeal.main_arg0) = m ((c.tc : Thread Cert.GattnBwdIdeal.nD Cert.GattnBwdIdeal.τ).loc Cert.GattnBwdIdeal.main_arg0)
      ∧ m' ((c.tc : Thread Cert.GattnGradIdeal.nD Cert.GattnGradIdeal.τ).loc Cert.GattnGradIdeal.main_arg1) = m ((c.tc : Thread Cert.GattnBwdIdeal.nD Cert.GattnBwdIdeal.τ).loc Cert.GattnBwdIdeal.main_arg1)) →
    ∃ (v0 : (c : Dev Cert.GattnBwdIdeal.nD) → Buf (Elt Ideal) ((c.tc : Thread Cert.GattnBwdIdeal.nD Cert.GattnBwdIdeal.τ).loc Cert.GattnBwdIdeal.main_v0)),
      θ_run (Cert.GattnBwdIdeal.defs (F := Ideal)) (onTc (τ := Cert.GattnBwdIdeal.τ) (Cert.GattnBwdIdeal.main (F := Ideal))) ⟨m, fun _ => 0, g⟩ (fun r => ∀ c : Dev Cert.GattnBwdIdeal.nD,
          r.2.mem ((c.tc : Thread Cert.GattnBwdIdeal.nD Cert.GattnBwdIdeal.τ).loc Cert.GattnBwdIdeal.main_v0) = v0 c
          ∧ r.2.mem ((c.tc : Thread Cert.GattnBwdIdeal.nD Cert.GattnBwdIdeal.τ).loc Cert.GattnBwdIdeal.main_arg0) = m ((c.tc : Thread Cert.GattnBwdIdeal.nD Cert.GattnBwdIdeal.τ).loc Cert.GattnBwdIdeal.main_arg0)
          ∧ r.2.mem ((c.tc : Thread Cert.GattnBwdIdeal.nD Cert.GattnBwdIdeal.τ).loc Cert.GattnBwdIdeal.main_arg1) = m ((c.tc : Thread Cert.GattnBwdIdeal.nD Cert.GattnBwdIdeal.τ).loc Cert.GattnBwdIdeal.main_arg1))
      ∧ θ_run (Cert.GattnGradIdeal.defs (F := Ideal)) (onTc (τ := Cert.GattnGradIdeal.τ) (Cert.GattnGradIdeal.main (F := Ideal))) ⟨m', fun _ => 0, g'⟩ (fun r => ∀ c : Dev Cert.GattnGradIdeal.nD,
          r.2.mem ((c.tc : Thread Cert.GattnGradIdeal.nD Cert.GattnGradIdeal.τ).loc Cert.GattnGradIdeal.main_v13) = v0 c
          ∧ r.2.mem ((c.tc : Thread Cert.GattnGradIdeal.nD Cert.GattnGradIdeal.τ).loc Cert.GattnGradIdeal.main_arg0) = m' ((c.tc : Thread Cert.GattnGradIdeal.nD Cert.GattnGradIdeal.τ).loc Cert.GattnGradIdeal.main_arg0)
          ∧ r.2.mem ((c.tc : Thread Cert.GattnGradIdeal.nD Cert.GattnGradIdeal.τ).loc Cert.GattnGradIdeal.main_arg1) = m' ((c.tc : Thread Cert.GattnGradIdeal.nD Cert.GattnGradIdeal.τ).loc Cert.GattnGradIdeal.main_arg1))

def preserves_DmemBwd_DmemBwdIdeal : Prop :=
  True

def algebraic_DmemBwdIdeal_DmemGradIdeal [hDmemBwdIdeal : Cert.DmemBwdIdeal.Facts] [hDmemGradIdeal : Cert.DmemGradIdeal.Facts] : Prop :=
  ∀ (m : (ℓ : Loc Cert.DmemBwdIdeal.nD Cert.DmemBwdIdeal.τ Cert.DmemBwdIdeal.sig) → Buf (Elt Ideal) ℓ) (g : Dev Cert.DmemBwdIdeal.nD → PrngReg)
    (m' : (ℓ : Loc Cert.DmemGradIdeal.nD Cert.DmemGradIdeal.τ Cert.DmemGradIdeal.sig) → Buf (Elt Ideal) ℓ) (g' : Dev Cert.DmemGradIdeal.nD → PrngReg), Pre_DmemBwdIdeal m →
    (∀ c : Dev Cert.DmemBwdIdeal.nD,
      m' ((c.tc : Thread Cert.DmemGradIdeal.nD Cert.DmemGradIdeal.τ).loc Cert.DmemGradIdeal.main_arg0) = m ((c.tc : Thread Cert.DmemBwdIdeal.nD Cert.DmemBwdIdeal.τ).loc Cert.DmemBwdIdeal.main_arg0)
      ∧ m' ((c.tc : Thread Cert.DmemGradIdeal.nD Cert.DmemGradIdeal.τ).loc Cert.DmemGradIdeal.main_arg1) = m ((c.tc : Thread Cert.DmemBwdIdeal.nD Cert.DmemBwdIdeal.τ).loc Cert.DmemBwdIdeal.main_arg1)) →
    ∃ (v0 : (c : Dev Cert.DmemBwdIdeal.nD) → Buf (Elt Ideal) ((c.tc : Thread Cert.DmemBwdIdeal.nD Cert.DmemBwdIdeal.τ).loc Cert.DmemBwdIdeal.main_v0)),
      θ_run (Cert.DmemBwdIdeal.defs (F := Ideal)) (onTc (τ := Cert.DmemBwdIdeal.τ) (Cert.DmemBwdIdeal.main (F := Ideal))) ⟨m, fun _ => 0, g⟩ (fun r => ∀ c : Dev Cert.DmemBwdIdeal.nD,
          r.2.mem ((c.tc : Thread Cert.DmemBwdIdeal.nD Cert.DmemBwdIdeal.τ).loc Cert.DmemBwdIdeal.main_v0) = v0 c
          ∧ r.2.mem ((c.tc : Thread Cert.DmemBwdIdeal.nD Cert.DmemBwdIdeal.τ).loc Cert.DmemBwdIdeal.main_arg0) = m ((c.tc : Thread Cert.DmemBwdIdeal.nD Cert.DmemBwdIdeal.τ).loc Cert.DmemBwdIdeal.main_arg0)
          ∧ r.2.mem ((c.tc : Thread Cert.DmemBwdIdeal.nD Cert.DmemBwdIdeal.τ).loc Cert.DmemBwdIdeal.main_arg1) = m ((c.tc : Thread Cert.DmemBwdIdeal.nD Cert.DmemBwdIdeal.τ).loc Cert.DmemBwdIdeal.main_arg1))
      ∧ θ_run (Cert.DmemGradIdeal.defs (F := Ideal)) (onTc (τ := Cert.DmemGradIdeal.τ) (Cert.DmemGradIdeal.main (F := Ideal))) ⟨m', fun _ => 0, g'⟩ (fun r => ∀ c : Dev Cert.DmemGradIdeal.nD,
          r.2.mem ((c.tc : Thread Cert.DmemGradIdeal.nD Cert.DmemGradIdeal.τ).loc Cert.DmemGradIdeal.main_v13) = v0 c
          ∧ r.2.mem ((c.tc : Thread Cert.DmemGradIdeal.nD Cert.DmemGradIdeal.τ).loc Cert.DmemGradIdeal.main_arg0) = m' ((c.tc : Thread Cert.DmemGradIdeal.nD Cert.DmemGradIdeal.τ).loc Cert.DmemGradIdeal.main_arg0)
          ∧ r.2.mem ((c.tc : Thread Cert.DmemGradIdeal.nD Cert.DmemGradIdeal.τ).loc Cert.DmemGradIdeal.main_arg1) = m' ((c.tc : Thread Cert.DmemGradIdeal.nD Cert.DmemGradIdeal.τ).loc Cert.DmemGradIdeal.main_arg1))

def preserves_GmemBwd_GmemBwdIdeal : Prop :=
  True

def algebraic_GmemBwdIdeal_GmemGradIdeal [hGmemBwdIdeal : Cert.GmemBwdIdeal.Facts] [hGmemGradIdeal : Cert.GmemGradIdeal.Facts] : Prop :=
  ∀ (m : (ℓ : Loc Cert.GmemBwdIdeal.nD Cert.GmemBwdIdeal.τ Cert.GmemBwdIdeal.sig) → Buf (Elt Ideal) ℓ) (g : Dev Cert.GmemBwdIdeal.nD → PrngReg)
    (m' : (ℓ : Loc Cert.GmemGradIdeal.nD Cert.GmemGradIdeal.τ Cert.GmemGradIdeal.sig) → Buf (Elt Ideal) ℓ) (g' : Dev Cert.GmemGradIdeal.nD → PrngReg), Pre_GmemBwdIdeal m →
    (∀ c : Dev Cert.GmemBwdIdeal.nD,
      m' ((c.tc : Thread Cert.GmemGradIdeal.nD Cert.GmemGradIdeal.τ).loc Cert.GmemGradIdeal.main_arg0) = m ((c.tc : Thread Cert.GmemBwdIdeal.nD Cert.GmemBwdIdeal.τ).loc Cert.GmemBwdIdeal.main_arg0)
      ∧ m' ((c.tc : Thread Cert.GmemGradIdeal.nD Cert.GmemGradIdeal.τ).loc Cert.GmemGradIdeal.main_arg1) = m ((c.tc : Thread Cert.GmemBwdIdeal.nD Cert.GmemBwdIdeal.τ).loc Cert.GmemBwdIdeal.main_arg1)) →
    ∃ (v0 : (c : Dev Cert.GmemBwdIdeal.nD) → Buf (Elt Ideal) ((c.tc : Thread Cert.GmemBwdIdeal.nD Cert.GmemBwdIdeal.τ).loc Cert.GmemBwdIdeal.main_v0)),
      θ_run (Cert.GmemBwdIdeal.defs (F := Ideal)) (onTc (τ := Cert.GmemBwdIdeal.τ) (Cert.GmemBwdIdeal.main (F := Ideal))) ⟨m, fun _ => 0, g⟩ (fun r => ∀ c : Dev Cert.GmemBwdIdeal.nD,
          r.2.mem ((c.tc : Thread Cert.GmemBwdIdeal.nD Cert.GmemBwdIdeal.τ).loc Cert.GmemBwdIdeal.main_v0) = v0 c
          ∧ r.2.mem ((c.tc : Thread Cert.GmemBwdIdeal.nD Cert.GmemBwdIdeal.τ).loc Cert.GmemBwdIdeal.main_arg0) = m ((c.tc : Thread Cert.GmemBwdIdeal.nD Cert.GmemBwdIdeal.τ).loc Cert.GmemBwdIdeal.main_arg0)
          ∧ r.2.mem ((c.tc : Thread Cert.GmemBwdIdeal.nD Cert.GmemBwdIdeal.τ).loc Cert.GmemBwdIdeal.main_arg1) = m ((c.tc : Thread Cert.GmemBwdIdeal.nD Cert.GmemBwdIdeal.τ).loc Cert.GmemBwdIdeal.main_arg1))
      ∧ θ_run (Cert.GmemGradIdeal.defs (F := Ideal)) (onTc (τ := Cert.GmemGradIdeal.τ) (Cert.GmemGradIdeal.main (F := Ideal))) ⟨m', fun _ => 0, g'⟩ (fun r => ∀ c : Dev Cert.GmemGradIdeal.nD,
          r.2.mem ((c.tc : Thread Cert.GmemGradIdeal.nD Cert.GmemGradIdeal.τ).loc Cert.GmemGradIdeal.main_v13) = v0 c
          ∧ r.2.mem ((c.tc : Thread Cert.GmemGradIdeal.nD Cert.GmemGradIdeal.τ).loc Cert.GmemGradIdeal.main_arg0) = m' ((c.tc : Thread Cert.GmemGradIdeal.nD Cert.GmemGradIdeal.τ).loc Cert.GmemGradIdeal.main_arg0)
          ∧ r.2.mem ((c.tc : Thread Cert.GmemGradIdeal.nD Cert.GmemGradIdeal.τ).loc Cert.GmemGradIdeal.main_arg1) = m' ((c.tc : Thread Cert.GmemGradIdeal.nD Cert.GmemGradIdeal.τ).loc Cert.GmemGradIdeal.main_arg1))

def preserves_WkvFwd_WkvFwdIdeal : Prop :=
  True

def algebraic_WkvFwdIdeal_WkvRefIdeal [hWkvFwdIdeal : Cert.WkvFwdIdeal.Facts] [hWkvRefIdeal : Cert.WkvRefIdeal.Facts] : Prop :=
  ∀ (m : (ℓ : Loc Cert.WkvFwdIdeal.nD Cert.WkvFwdIdeal.τ Cert.WkvFwdIdeal.sig) → Buf (Elt Ideal) ℓ) (g : Dev Cert.WkvFwdIdeal.nD → PrngReg)
    (m' : (ℓ : Loc Cert.WkvRefIdeal.nD Cert.WkvRefIdeal.τ Cert.WkvRefIdeal.sig) → Buf (Elt Ideal) ℓ) (g' : Dev Cert.WkvRefIdeal.nD → PrngReg), Pre_WkvFwdIdeal m →
    (∀ c : Dev Cert.WkvFwdIdeal.nD,
      m' ((c.tc : Thread Cert.WkvRefIdeal.nD Cert.WkvRefIdeal.τ).loc Cert.WkvRefIdeal.main_arg0) = m ((c.tc : Thread Cert.WkvFwdIdeal.nD Cert.WkvFwdIdeal.τ).loc Cert.WkvFwdIdeal.main_arg0)
      ∧ m' ((c.tc : Thread Cert.WkvRefIdeal.nD Cert.WkvRefIdeal.τ).loc Cert.WkvRefIdeal.main_arg1) = m ((c.tc : Thread Cert.WkvFwdIdeal.nD Cert.WkvFwdIdeal.τ).loc Cert.WkvFwdIdeal.main_arg1)) →
    ∃ (v0 : (c : Dev Cert.WkvFwdIdeal.nD) → Buf (Elt Ideal) ((c.tc : Thread Cert.WkvFwdIdeal.nD Cert.WkvFwdIdeal.τ).loc Cert.WkvFwdIdeal.main_v0)),
      θ_run (Cert.WkvFwdIdeal.defs (F := Ideal)) (onTc (τ := Cert.WkvFwdIdeal.τ) (Cert.WkvFwdIdeal.main (F := Ideal))) ⟨m, fun _ => 0, g⟩ (fun r => ∀ c : Dev Cert.WkvFwdIdeal.nD,
          r.2.mem ((c.tc : Thread Cert.WkvFwdIdeal.nD Cert.WkvFwdIdeal.τ).loc Cert.WkvFwdIdeal.main_v0) = v0 c
          ∧ r.2.mem ((c.tc : Thread Cert.WkvFwdIdeal.nD Cert.WkvFwdIdeal.τ).loc Cert.WkvFwdIdeal.main_arg0) = m ((c.tc : Thread Cert.WkvFwdIdeal.nD Cert.WkvFwdIdeal.τ).loc Cert.WkvFwdIdeal.main_arg0)
          ∧ r.2.mem ((c.tc : Thread Cert.WkvFwdIdeal.nD Cert.WkvFwdIdeal.τ).loc Cert.WkvFwdIdeal.main_arg1) = m ((c.tc : Thread Cert.WkvFwdIdeal.nD Cert.WkvFwdIdeal.τ).loc Cert.WkvFwdIdeal.main_arg1))
      ∧ θ_run (Cert.WkvRefIdeal.defs (F := Ideal)) (onTc (τ := Cert.WkvRefIdeal.τ) (Cert.WkvRefIdeal.main (F := Ideal))) ⟨m', fun _ => 0, g'⟩ (fun r => ∀ c : Dev Cert.WkvRefIdeal.nD,
          r.2.mem ((c.tc : Thread Cert.WkvRefIdeal.nD Cert.WkvRefIdeal.τ).loc Cert.WkvRefIdeal.main_v5) = v0 c
          ∧ r.2.mem ((c.tc : Thread Cert.WkvRefIdeal.nD Cert.WkvRefIdeal.τ).loc Cert.WkvRefIdeal.main_arg0) = m' ((c.tc : Thread Cert.WkvRefIdeal.nD Cert.WkvRefIdeal.τ).loc Cert.WkvRefIdeal.main_arg0)
          ∧ r.2.mem ((c.tc : Thread Cert.WkvRefIdeal.nD Cert.WkvRefIdeal.τ).loc Cert.WkvRefIdeal.main_arg1) = m' ((c.tc : Thread Cert.WkvRefIdeal.nD Cert.WkvRefIdeal.τ).loc Cert.WkvRefIdeal.main_arg1))

def preserves_DkvBwd_DkvBwdIdeal : Prop :=
  True

def algebraic_DkvBwdIdeal_DkvGradIdeal [hDkvBwdIdeal : Cert.DkvBwdIdeal.Facts] [hDkvGradIdeal : Cert.DkvGradIdeal.Facts] : Prop :=
  ∀ (m : (ℓ : Loc Cert.DkvBwdIdeal.nD Cert.DkvBwdIdeal.τ Cert.DkvBwdIdeal.sig) → Buf (Elt Ideal) ℓ) (g : Dev Cert.DkvBwdIdeal.nD → PrngReg)
    (m' : (ℓ : Loc Cert.DkvGradIdeal.nD Cert.DkvGradIdeal.τ Cert.DkvGradIdeal.sig) → Buf (Elt Ideal) ℓ) (g' : Dev Cert.DkvGradIdeal.nD → PrngReg), Pre_DkvBwdIdeal m →
    (∀ c : Dev Cert.DkvBwdIdeal.nD,
      m' ((c.tc : Thread Cert.DkvGradIdeal.nD Cert.DkvGradIdeal.τ).loc Cert.DkvGradIdeal.main_arg0) = m ((c.tc : Thread Cert.DkvBwdIdeal.nD Cert.DkvBwdIdeal.τ).loc Cert.DkvBwdIdeal.main_arg0)
      ∧ m' ((c.tc : Thread Cert.DkvGradIdeal.nD Cert.DkvGradIdeal.τ).loc Cert.DkvGradIdeal.main_arg1) = m ((c.tc : Thread Cert.DkvBwdIdeal.nD Cert.DkvBwdIdeal.τ).loc Cert.DkvBwdIdeal.main_arg1)) →
    ∃ (v0 : (c : Dev Cert.DkvBwdIdeal.nD) → Buf (Elt Ideal) ((c.tc : Thread Cert.DkvBwdIdeal.nD Cert.DkvBwdIdeal.τ).loc Cert.DkvBwdIdeal.main_v0)),
      θ_run (Cert.DkvBwdIdeal.defs (F := Ideal)) (onTc (τ := Cert.DkvBwdIdeal.τ) (Cert.DkvBwdIdeal.main (F := Ideal))) ⟨m, fun _ => 0, g⟩ (fun r => ∀ c : Dev Cert.DkvBwdIdeal.nD,
          r.2.mem ((c.tc : Thread Cert.DkvBwdIdeal.nD Cert.DkvBwdIdeal.τ).loc Cert.DkvBwdIdeal.main_v0) = v0 c
          ∧ r.2.mem ((c.tc : Thread Cert.DkvBwdIdeal.nD Cert.DkvBwdIdeal.τ).loc Cert.DkvBwdIdeal.main_arg0) = m ((c.tc : Thread Cert.DkvBwdIdeal.nD Cert.DkvBwdIdeal.τ).loc Cert.DkvBwdIdeal.main_arg0)
          ∧ r.2.mem ((c.tc : Thread Cert.DkvBwdIdeal.nD Cert.DkvBwdIdeal.τ).loc Cert.DkvBwdIdeal.main_arg1) = m ((c.tc : Thread Cert.DkvBwdIdeal.nD Cert.DkvBwdIdeal.τ).loc Cert.DkvBwdIdeal.main_arg1))
      ∧ θ_run (Cert.DkvGradIdeal.defs (F := Ideal)) (onTc (τ := Cert.DkvGradIdeal.τ) (Cert.DkvGradIdeal.main (F := Ideal))) ⟨m', fun _ => 0, g'⟩ (fun r => ∀ c : Dev Cert.DkvGradIdeal.nD,
          r.2.mem ((c.tc : Thread Cert.DkvGradIdeal.nD Cert.DkvGradIdeal.τ).loc Cert.DkvGradIdeal.main_v11) = v0 c
          ∧ r.2.mem ((c.tc : Thread Cert.DkvGradIdeal.nD Cert.DkvGradIdeal.τ).loc Cert.DkvGradIdeal.main_arg0) = m' ((c.tc : Thread Cert.DkvGradIdeal.nD Cert.DkvGradIdeal.τ).loc Cert.DkvGradIdeal.main_arg0)
          ∧ r.2.mem ((c.tc : Thread Cert.DkvGradIdeal.nD Cert.DkvGradIdeal.τ).loc Cert.DkvGradIdeal.main_arg1) = m' ((c.tc : Thread Cert.DkvGradIdeal.nD Cert.DkvGradIdeal.τ).loc Cert.DkvGradIdeal.main_arg1))

def preserves_GkvBwd_GkvBwdIdeal : Prop :=
  True

def algebraic_GkvBwdIdeal_GkvGradIdeal [hGkvBwdIdeal : Cert.GkvBwdIdeal.Facts] [hGkvGradIdeal : Cert.GkvGradIdeal.Facts] : Prop :=
  ∀ (m : (ℓ : Loc Cert.GkvBwdIdeal.nD Cert.GkvBwdIdeal.τ Cert.GkvBwdIdeal.sig) → Buf (Elt Ideal) ℓ) (g : Dev Cert.GkvBwdIdeal.nD → PrngReg)
    (m' : (ℓ : Loc Cert.GkvGradIdeal.nD Cert.GkvGradIdeal.τ Cert.GkvGradIdeal.sig) → Buf (Elt Ideal) ℓ) (g' : Dev Cert.GkvGradIdeal.nD → PrngReg), Pre_GkvBwdIdeal m →
    (∀ c : Dev Cert.GkvBwdIdeal.nD,
      m' ((c.tc : Thread Cert.GkvGradIdeal.nD Cert.GkvGradIdeal.τ).loc Cert.GkvGradIdeal.main_arg0) = m ((c.tc : Thread Cert.GkvBwdIdeal.nD Cert.GkvBwdIdeal.τ).loc Cert.GkvBwdIdeal.main_arg0)
      ∧ m' ((c.tc : Thread Cert.GkvGradIdeal.nD Cert.GkvGradIdeal.τ).loc Cert.GkvGradIdeal.main_arg1) = m ((c.tc : Thread Cert.GkvBwdIdeal.nD Cert.GkvBwdIdeal.τ).loc Cert.GkvBwdIdeal.main_arg1)) →
    ∃ (v0 : (c : Dev Cert.GkvBwdIdeal.nD) → Buf (Elt Ideal) ((c.tc : Thread Cert.GkvBwdIdeal.nD Cert.GkvBwdIdeal.τ).loc Cert.GkvBwdIdeal.main_v0)),
      θ_run (Cert.GkvBwdIdeal.defs (F := Ideal)) (onTc (τ := Cert.GkvBwdIdeal.τ) (Cert.GkvBwdIdeal.main (F := Ideal))) ⟨m, fun _ => 0, g⟩ (fun r => ∀ c : Dev Cert.GkvBwdIdeal.nD,
          r.2.mem ((c.tc : Thread Cert.GkvBwdIdeal.nD Cert.GkvBwdIdeal.τ).loc Cert.GkvBwdIdeal.main_v0) = v0 c
          ∧ r.2.mem ((c.tc : Thread Cert.GkvBwdIdeal.nD Cert.GkvBwdIdeal.τ).loc Cert.GkvBwdIdeal.main_arg0) = m ((c.tc : Thread Cert.GkvBwdIdeal.nD Cert.GkvBwdIdeal.τ).loc Cert.GkvBwdIdeal.main_arg0)
          ∧ r.2.mem ((c.tc : Thread Cert.GkvBwdIdeal.nD Cert.GkvBwdIdeal.τ).loc Cert.GkvBwdIdeal.main_arg1) = m ((c.tc : Thread Cert.GkvBwdIdeal.nD Cert.GkvBwdIdeal.τ).loc Cert.GkvBwdIdeal.main_arg1))
      ∧ θ_run (Cert.GkvGradIdeal.defs (F := Ideal)) (onTc (τ := Cert.GkvGradIdeal.τ) (Cert.GkvGradIdeal.main (F := Ideal))) ⟨m', fun _ => 0, g'⟩ (fun r => ∀ c : Dev Cert.GkvGradIdeal.nD,
          r.2.mem ((c.tc : Thread Cert.GkvGradIdeal.nD Cert.GkvGradIdeal.τ).loc Cert.GkvGradIdeal.main_v11) = v0 c
          ∧ r.2.mem ((c.tc : Thread Cert.GkvGradIdeal.nD Cert.GkvGradIdeal.τ).loc Cert.GkvGradIdeal.main_arg0) = m' ((c.tc : Thread Cert.GkvGradIdeal.nD Cert.GkvGradIdeal.τ).loc Cert.GkvGradIdeal.main_arg0)
          ∧ r.2.mem ((c.tc : Thread Cert.GkvGradIdeal.nD Cert.GkvGradIdeal.τ).loc Cert.GkvGradIdeal.main_arg1) = m' ((c.tc : Thread Cert.GkvGradIdeal.nD Cert.GkvGradIdeal.τ).loc Cert.GkvGradIdeal.main_arg1))

def preserves_MemFwd_MemFwdIdeal : Prop :=
  True

def algebraic_MemFwdIdeal_MemOutIdeal_pre_finite_inputs [hMemFwdIdeal : Cert.MemFwdIdeal.Facts] [hMemOutIdeal : Cert.MemOutIdeal.Facts] [hPre_finite_inputs : Cert.Pre_finite_inputs.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemOutIdeal.nD Cert.MemOutIdeal.τ Cert.MemOutIdeal.sig) → Buf (Elt Ideal) ℓ) (g' : Dev Cert.MemOutIdeal.nD → PrngReg), Pre_MemFwdIdeal_finite_inputs m →
    (∀ c : Dev Cert.MemFwdIdeal.nD,
      m' ((c.tc : Thread Cert.MemOutIdeal.nD Cert.MemOutIdeal.τ).loc Cert.MemOutIdeal.main_arg0) = m ((c.tc : Thread Cert.MemFwdIdeal.nD Cert.MemFwdIdeal.τ).loc Cert.MemFwdIdeal.main_arg0)
      ∧ m' ((c.tc : Thread Cert.MemOutIdeal.nD Cert.MemOutIdeal.τ).loc Cert.MemOutIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemOutIdeal.defs (F := Ideal)) (onTc (τ := Cert.MemOutIdeal.τ) (Cert.MemOutIdeal.main (F := Ideal))) ⟨m', fun _ => 0, g'⟩ (fun r => ∀ c : Dev Cert.MemOutIdeal.nD,
          r.2.mem ((c.tc : Thread Cert.MemOutIdeal.nD Cert.MemOutIdeal.τ).loc Cert.MemOutIdeal.main_v27) = v0 c
          ∧ r.2.mem ((c.tc : Thread Cert.MemOutIdeal.nD Cert.MemOutIdeal.τ).loc Cert.MemOutIdeal.main_arg0) = m' ((c.tc : Thread Cert.MemOutIdeal.nD Cert.MemOutIdeal.τ).loc Cert.MemOutIdeal.main_arg0)
          ∧ r.2.mem ((c.tc : Thread Cert.MemOutIdeal.nD Cert.MemOutIdeal.τ).loc Cert.MemOutIdeal.main_arg1) = m' ((c.tc : Thread Cert.MemOutIdeal.nD Cert.MemOutIdeal.τ).loc Cert.MemOutIdeal.main_arg1))

def preserves_DnormBwd_DnormBwdIdeal : Prop :=
  True

def algebraic_DnormBwdIdeal_DnormGradIdeal [hDnormBwdIdeal : Cert.DnormBwdIdeal.Facts] [hDnormGradIdeal : Cert.DnormGradIdeal.Facts] : Prop :=
  ∀ (m : (ℓ : Loc Cert.DnormBwdIdeal.nD Cert.DnormBwdIdeal.τ Cert.DnormBwdIdeal.sig) → Buf (Elt Ideal) ℓ) (g : Dev Cert.DnormBwdIdeal.nD → PrngReg)
    (m' : (ℓ : Loc Cert.DnormGradIdeal.nD Cert.DnormGradIdeal.τ Cert.DnormGradIdeal.sig) → Buf (Elt Ideal) ℓ) (g' : Dev Cert.DnormGradIdeal.nD → PrngReg), Pre_DnormBwdIdeal m →
    (∀ c : Dev Cert.DnormBwdIdeal.nD,
      m' ((c.tc : Thread Cert.DnormGradIdeal.nD Cert.DnormGradIdeal.τ).loc Cert.DnormGradIdeal.main_arg0) = m ((c.tc : Thread Cert.DnormBwdIdeal.nD Cert.DnormBwdIdeal.τ).loc Cert.DnormBwdIdeal.main_arg0)
      ∧ m' ((c.tc : Thread Cert.DnormGradIdeal.nD Cert.DnormGradIdeal.τ).loc Cert.DnormGradIdeal.main_arg1) = m ((c.tc : Thread Cert.DnormBwdIdeal.nD Cert.DnormBwdIdeal.τ).loc Cert.DnormBwdIdeal.main_arg1)
      ∧ m' ((c.tc : Thread Cert.DnormGradIdeal.nD Cert.DnormGradIdeal.τ).loc Cert.DnormGradIdeal.main_arg2) = m ((c.tc : Thread Cert.DnormBwdIdeal.nD Cert.DnormBwdIdeal.τ).loc Cert.DnormBwdIdeal.main_arg2)
      ∧ m' ((c.tc : Thread Cert.DnormGradIdeal.nD Cert.DnormGradIdeal.τ).loc Cert.DnormGradIdeal.main_arg3) = m ((c.tc : Thread Cert.DnormBwdIdeal.nD Cert.DnormBwdIdeal.τ).loc Cert.DnormBwdIdeal.main_arg3)) →
    ∃ (v0 : (c : Dev Cert.DnormBwdIdeal.nD) → Buf (Elt Ideal) ((c.tc : Thread Cert.DnormBwdIdeal.nD Cert.DnormBwdIdeal.τ).loc Cert.DnormBwdIdeal.main_v0_0)) (v1 : (c : Dev Cert.DnormBwdIdeal.nD) → Buf (Elt Ideal) ((c.tc : Thread Cert.DnormBwdIdeal.nD Cert.DnormBwdIdeal.τ).loc Cert.DnormBwdIdeal.main_v0_1)) (v2 : (c : Dev Cert.DnormBwdIdeal.nD) → Buf (Elt Ideal) ((c.tc : Thread Cert.DnormBwdIdeal.nD Cert.DnormBwdIdeal.τ).loc Cert.DnormBwdIdeal.main_v0_2)),
      θ_run (Cert.DnormBwdIdeal.defs (F := Ideal)) (onTc (τ := Cert.DnormBwdIdeal.τ) (Cert.DnormBwdIdeal.main (F := Ideal))) ⟨m, fun _ => 0, g⟩ (fun r => ∀ c : Dev Cert.DnormBwdIdeal.nD,
          r.2.mem ((c.tc : Thread Cert.DnormBwdIdeal.nD Cert.DnormBwdIdeal.τ).loc Cert.DnormBwdIdeal.main_v0_0) = v0 c
          ∧ r.2.mem ((c.tc : Thread Cert.DnormBwdIdeal.nD Cert.DnormBwdIdeal.τ).loc Cert.DnormBwdIdeal.main_v0_1) = v1 c
          ∧ r.2.mem ((c.tc : Thread Cert.DnormBwdIdeal.nD Cert.DnormBwdIdeal.τ).loc Cert.DnormBwdIdeal.main_v0_2) = v2 c
          ∧ r.2.mem ((c.tc : Thread Cert.DnormBwdIdeal.nD Cert.DnormBwdIdeal.τ).loc Cert.DnormBwdIdeal.main_arg0) = m ((c.tc : Thread Cert.DnormBwdIdeal.nD Cert.DnormBwdIdeal.τ).loc Cert.DnormBwdIdeal.main_arg0)
          ∧ r.2.mem ((c.tc : Thread Cert.DnormBwdIdeal.nD Cert.DnormBwdIdeal.τ).loc Cert.DnormBwdIdeal.main_arg1) = m ((c.tc : Thread Cert.DnormBwdIdeal.nD Cert.DnormBwdIdeal.τ).loc Cert.DnormBwdIdeal.main_arg1)
          ∧ r.2.mem ((c.tc : Thread Cert.DnormBwdIdeal.nD Cert.DnormBwdIdeal.τ).loc Cert.DnormBwdIdeal.main_arg2) = m ((c.tc : Thread Cert.DnormBwdIdeal.nD Cert.DnormBwdIdeal.τ).loc Cert.DnormBwdIdeal.main_arg2)
          ∧ r.2.mem ((c.tc : Thread Cert.DnormBwdIdeal.nD Cert.DnormBwdIdeal.τ).loc Cert.DnormBwdIdeal.main_arg3) = m ((c.tc : Thread Cert.DnormBwdIdeal.nD Cert.DnormBwdIdeal.τ).loc Cert.DnormBwdIdeal.main_arg3))
      ∧ θ_run (Cert.DnormGradIdeal.defs (F := Ideal)) (onTc (τ := Cert.DnormGradIdeal.τ) (Cert.DnormGradIdeal.main (F := Ideal))) ⟨m', fun _ => 0, g'⟩ (fun r => ∀ c : Dev Cert.DnormGradIdeal.nD,
          r.2.mem ((c.tc : Thread Cert.DnormGradIdeal.nD Cert.DnormGradIdeal.τ).loc Cert.DnormGradIdeal.main_v38) = v0 c
          ∧ r.2.mem ((c.tc : Thread Cert.DnormGradIdeal.nD Cert.DnormGradIdeal.τ).loc Cert.DnormGradIdeal.main_v39) = v1 c
          ∧ r.2.mem ((c.tc : Thread Cert.DnormGradIdeal.nD Cert.DnormGradIdeal.τ).loc Cert.DnormGradIdeal.main_v40) = v2 c
          ∧ r.2.mem ((c.tc : Thread Cert.DnormGradIdeal.nD Cert.DnormGradIdeal.τ).loc Cert.DnormGradIdeal.main_arg0) = m' ((c.tc : Thread Cert.DnormGradIdeal.nD Cert.DnormGradIdeal.τ).loc Cert.DnormGradIdeal.main_arg0)
          ∧ r.2.mem ((c.tc : Thread Cert.DnormGradIdeal.nD Cert.DnormGradIdeal.τ).loc Cert.DnormGradIdeal.main_arg1) = m' ((c.tc : Thread Cert.DnormGradIdeal.nD Cert.DnormGradIdeal.τ).loc Cert.DnormGradIdeal.main_arg1)
          ∧ r.2.mem ((c.tc : Thread Cert.DnormGradIdeal.nD Cert.DnormGradIdeal.τ).loc Cert.DnormGradIdeal.main_arg2) = m' ((c.tc : Thread Cert.DnormGradIdeal.nD Cert.DnormGradIdeal.τ).loc Cert.DnormGradIdeal.main_arg2)
          ∧ r.2.mem ((c.tc : Thread Cert.DnormGradIdeal.nD Cert.DnormGradIdeal.τ).loc Cert.DnormGradIdeal.main_arg3) = m' ((c.tc : Thread Cert.DnormGradIdeal.nD Cert.DnormGradIdeal.τ).loc Cert.DnormGradIdeal.main_arg3))

def preserves_DtokBwd_DtokBwdIdeal : Prop :=
  True

def algebraic_DtokBwdIdeal_DtokGradIdeal [hDtokBwdIdeal : Cert.DtokBwdIdeal.Facts] [hDtokGradIdeal : Cert.DtokGradIdeal.Facts] : Prop :=
  ∀ (m : (ℓ : Loc Cert.DtokBwdIdeal.nD Cert.DtokBwdIdeal.τ Cert.DtokBwdIdeal.sig) → Buf (Elt Ideal) ℓ) (g : Dev Cert.DtokBwdIdeal.nD → PrngReg)
    (m' : (ℓ : Loc Cert.DtokGradIdeal.nD Cert.DtokGradIdeal.τ Cert.DtokGradIdeal.sig) → Buf (Elt Ideal) ℓ) (g' : Dev Cert.DtokGradIdeal.nD → PrngReg), Pre_DtokBwdIdeal m →
    (∀ c : Dev Cert.DtokBwdIdeal.nD,
      m' ((c.tc : Thread Cert.DtokGradIdeal.nD Cert.DtokGradIdeal.τ).loc Cert.DtokGradIdeal.main_arg0) = m ((c.tc : Thread Cert.DtokBwdIdeal.nD Cert.DtokBwdIdeal.τ).loc Cert.DtokBwdIdeal.main_arg0)
      ∧ m' ((c.tc : Thread Cert.DtokGradIdeal.nD Cert.DtokGradIdeal.τ).loc Cert.DtokGradIdeal.main_arg1) = m ((c.tc : Thread Cert.DtokBwdIdeal.nD Cert.DtokBwdIdeal.τ).loc Cert.DtokBwdIdeal.main_arg1)
      ∧ m' ((c.tc : Thread Cert.DtokGradIdeal.nD Cert.DtokGradIdeal.τ).loc Cert.DtokGradIdeal.main_arg2) = m ((c.tc : Thread Cert.DtokBwdIdeal.nD Cert.DtokBwdIdeal.τ).loc Cert.DtokBwdIdeal.main_arg2)
      ∧ m' ((c.tc : Thread Cert.DtokGradIdeal.nD Cert.DtokGradIdeal.τ).loc Cert.DtokGradIdeal.main_arg3) = m ((c.tc : Thread Cert.DtokBwdIdeal.nD Cert.DtokBwdIdeal.τ).loc Cert.DtokBwdIdeal.main_arg3)) →
    ∃ (v0 : (c : Dev Cert.DtokBwdIdeal.nD) → Buf (Elt Ideal) ((c.tc : Thread Cert.DtokBwdIdeal.nD Cert.DtokBwdIdeal.τ).loc Cert.DtokBwdIdeal.main_v0_0)) (v1 : (c : Dev Cert.DtokBwdIdeal.nD) → Buf (Elt Ideal) ((c.tc : Thread Cert.DtokBwdIdeal.nD Cert.DtokBwdIdeal.τ).loc Cert.DtokBwdIdeal.main_v0_1)) (v2 : (c : Dev Cert.DtokBwdIdeal.nD) → Buf (Elt Ideal) ((c.tc : Thread Cert.DtokBwdIdeal.nD Cert.DtokBwdIdeal.τ).loc Cert.DtokBwdIdeal.main_v0_2)),
      θ_run (Cert.DtokBwdIdeal.defs (F := Ideal)) (onTc (τ := Cert.DtokBwdIdeal.τ) (Cert.DtokBwdIdeal.main (F := Ideal))) ⟨m, fun _ => 0, g⟩ (fun r => ∀ c : Dev Cert.DtokBwdIdeal.nD,
          r.2.mem ((c.tc : Thread Cert.DtokBwdIdeal.nD Cert.DtokBwdIdeal.τ).loc Cert.DtokBwdIdeal.main_v0_0) = v0 c
          ∧ r.2.mem ((c.tc : Thread Cert.DtokBwdIdeal.nD Cert.DtokBwdIdeal.τ).loc Cert.DtokBwdIdeal.main_v0_1) = v1 c
          ∧ r.2.mem ((c.tc : Thread Cert.DtokBwdIdeal.nD Cert.DtokBwdIdeal.τ).loc Cert.DtokBwdIdeal.main_v0_2) = v2 c
          ∧ r.2.mem ((c.tc : Thread Cert.DtokBwdIdeal.nD Cert.DtokBwdIdeal.τ).loc Cert.DtokBwdIdeal.main_arg0) = m ((c.tc : Thread Cert.DtokBwdIdeal.nD Cert.DtokBwdIdeal.τ).loc Cert.DtokBwdIdeal.main_arg0)
          ∧ r.2.mem ((c.tc : Thread Cert.DtokBwdIdeal.nD Cert.DtokBwdIdeal.τ).loc Cert.DtokBwdIdeal.main_arg1) = m ((c.tc : Thread Cert.DtokBwdIdeal.nD Cert.DtokBwdIdeal.τ).loc Cert.DtokBwdIdeal.main_arg1)
          ∧ r.2.mem ((c.tc : Thread Cert.DtokBwdIdeal.nD Cert.DtokBwdIdeal.τ).loc Cert.DtokBwdIdeal.main_arg2) = m ((c.tc : Thread Cert.DtokBwdIdeal.nD Cert.DtokBwdIdeal.τ).loc Cert.DtokBwdIdeal.main_arg2)
          ∧ r.2.mem ((c.tc : Thread Cert.DtokBwdIdeal.nD Cert.DtokBwdIdeal.τ).loc Cert.DtokBwdIdeal.main_arg3) = m ((c.tc : Thread Cert.DtokBwdIdeal.nD Cert.DtokBwdIdeal.τ).loc Cert.DtokBwdIdeal.main_arg3))
      ∧ θ_run (Cert.DtokGradIdeal.defs (F := Ideal)) (onTc (τ := Cert.DtokGradIdeal.τ) (Cert.DtokGradIdeal.main (F := Ideal))) ⟨m', fun _ => 0, g'⟩ (fun r => ∀ c : Dev Cert.DtokGradIdeal.nD,
          r.2.mem ((c.tc : Thread Cert.DtokGradIdeal.nD Cert.DtokGradIdeal.τ).loc Cert.DtokGradIdeal.main_v38) = v0 c
          ∧ r.2.mem ((c.tc : Thread Cert.DtokGradIdeal.nD Cert.DtokGradIdeal.τ).loc Cert.DtokGradIdeal.main_v39) = v1 c
          ∧ r.2.mem ((c.tc : Thread Cert.DtokGradIdeal.nD Cert.DtokGradIdeal.τ).loc Cert.DtokGradIdeal.main_v40) = v2 c
          ∧ r.2.mem ((c.tc : Thread Cert.DtokGradIdeal.nD Cert.DtokGradIdeal.τ).loc Cert.DtokGradIdeal.main_arg0) = m' ((c.tc : Thread Cert.DtokGradIdeal.nD Cert.DtokGradIdeal.τ).loc Cert.DtokGradIdeal.main_arg0)
          ∧ r.2.mem ((c.tc : Thread Cert.DtokGradIdeal.nD Cert.DtokGradIdeal.τ).loc Cert.DtokGradIdeal.main_arg1) = m' ((c.tc : Thread Cert.DtokGradIdeal.nD Cert.DtokGradIdeal.τ).loc Cert.DtokGradIdeal.main_arg1)
          ∧ r.2.mem ((c.tc : Thread Cert.DtokGradIdeal.nD Cert.DtokGradIdeal.τ).loc Cert.DtokGradIdeal.main_arg2) = m' ((c.tc : Thread Cert.DtokGradIdeal.nD Cert.DtokGradIdeal.τ).loc Cert.DtokGradIdeal.main_arg2)
          ∧ r.2.mem ((c.tc : Thread Cert.DtokGradIdeal.nD Cert.DtokGradIdeal.τ).loc Cert.DtokGradIdeal.main_arg3) = m' ((c.tc : Thread Cert.DtokGradIdeal.nD Cert.DtokGradIdeal.τ).loc Cert.DtokGradIdeal.main_arg3))

def preserves_LossBwd_LossBwdIdeal : Prop :=
  True

def algebraic_LossBwdIdeal_LossGradIdeal [hLossBwdIdeal : Cert.LossBwdIdeal.Facts] [hLossGradIdeal : Cert.LossGradIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_LossBwdIdeal m →
    (∀ c : Dev Cert.LossBwdIdeal.nD,
      m' ((c.tc : Thread Cert.LossGradIdeal.nD Cert.LossGradIdeal.τ).loc Cert.LossGradIdeal.main_arg0) = m ((c.tc : Thread Cert.LossBwdIdeal.nD Cert.LossBwdIdeal.τ).loc Cert.LossBwdIdeal.main_arg0)
      ∧ m' ((c.tc : Thread Cert.LossGradIdeal.nD Cert.LossGradIdeal.τ).loc Cert.LossGradIdeal.main_arg1) = m ((c.tc : Thread Cert.LossBwdIdeal.nD Cert.LossBwdIdeal.τ).loc Cert.LossBwdIdeal.main_arg1)
      ∧ m' ((c.tc : Thread Cert.LossGradIdeal.nD Cert.LossGradIdeal.τ).loc Cert.LossGradIdeal.main_arg2) = m ((c.tc : Thread Cert.LossBwdIdeal.nD Cert.LossBwdIdeal.τ).loc Cert.LossBwdIdeal.main_arg2)) →
    ∃ (v0 : (c : Dev Cert.LossBwdIdeal.nD) → Buf (Elt Ideal) ((c.tc : Thread Cert.LossBwdIdeal.nD Cert.LossBwdIdeal.τ).loc Cert.LossBwdIdeal.main_v0_0)) (v1 : (c : Dev Cert.LossBwdIdeal.nD) → Buf (Elt Ideal) ((c.tc : Thread Cert.LossBwdIdeal.nD Cert.LossBwdIdeal.τ).loc Cert.LossBwdIdeal.main_v0_1)) (v2 : (c : Dev Cert.LossBwdIdeal.nD) → Buf (Elt Ideal) ((c.tc : Thread Cert.LossBwdIdeal.nD Cert.LossBwdIdeal.τ).loc Cert.LossBwdIdeal.main_v0_2)) (v3 : (c : Dev Cert.LossBwdIdeal.nD) → Buf (Elt Ideal) ((c.tc : Thread Cert.LossBwdIdeal.nD Cert.LossBwdIdeal.τ).loc Cert.LossBwdIdeal.main_v0_3)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v0_0) = v0 c
          ∧ r.2.mem ((c.tc : Thread Cert.LossBwdIdeal.nD Cert.LossBwdIdeal.τ).loc Cert.LossBwdIdeal.main_v0_1) = v1 c
          ∧ r.2.mem ((c.tc : Thread Cert.LossBwdIdeal.nD Cert.LossBwdIdeal.τ).loc Cert.LossBwdIdeal.main_v0_2) = v2 c
          ∧ r.2.mem ((c.tc : Thread Cert.LossBwdIdeal.nD Cert.LossBwdIdeal.τ).loc Cert.LossBwdIdeal.main_v0_3) = v3 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v52) = v0 c
          ∧ r.2.mem ((c.tc : Thread Cert.LossGradIdeal.nD Cert.LossGradIdeal.τ).loc Cert.LossGradIdeal.main_v51) = v1 c
          ∧ r.2.mem ((c.tc : Thread Cert.LossGradIdeal.nD Cert.LossGradIdeal.τ).loc Cert.LossGradIdeal.main_v53) = v2 c
          ∧ r.2.mem ((c.tc : Thread Cert.LossGradIdeal.nD Cert.LossGradIdeal.τ).loc Cert.LossGradIdeal.main_v54) = v3 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2))

def preserves_DlnBwd_DlnBwdIdeal : Prop :=
  True

def algebraic_DlnBwdIdeal_DlnGradIdeal_pre_finite_grads [hDlnBwdIdeal : Cert.DlnBwdIdeal.Facts] [hDlnGradIdeal : Cert.DlnGradIdeal.Facts] [hPre_finite_grads : Cert.Pre_finite_grads.Facts] : Prop :=
  ∀ (m : (ℓ : Loc Cert.DlnBwdIdeal.nD Cert.DlnBwdIdeal.τ Cert.DlnBwdIdeal.sig) → Buf (Elt Ideal) ℓ) (g : Dev Cert.DlnBwdIdeal.nD → PrngReg)
    (m' : (ℓ : Loc Cert.DlnGradIdeal.nD Cert.DlnGradIdeal.τ Cert.DlnGradIdeal.sig) → Buf (Elt Ideal) ℓ) (g' : Dev Cert.DlnGradIdeal.nD → PrngReg), Pre_DlnBwdIdeal_finite_grads m →
    (∀ c : Dev Cert.DlnBwdIdeal.nD,
      m' ((c.tc : Thread Cert.DlnGradIdeal.nD Cert.DlnGradIdeal.τ).loc Cert.DlnGradIdeal.main_arg0) = m ((c.tc : Thread Cert.DlnBwdIdeal.nD Cert.DlnBwdIdeal.τ).loc Cert.DlnBwdIdeal.main_arg0)
      ∧ m' ((c.tc : Thread Cert.DlnGradIdeal.nD Cert.DlnGradIdeal.τ).loc Cert.DlnGradIdeal.main_arg1) = m ((c.tc : Thread Cert.DlnBwdIdeal.nD Cert.DlnBwdIdeal.τ).loc Cert.DlnBwdIdeal.main_arg1)
      ∧ m' ((c.tc : Thread Cert.DlnGradIdeal.nD Cert.DlnGradIdeal.τ).loc Cert.DlnGradIdeal.main_arg2) = m ((c.tc : Thread Cert.DlnBwdIdeal.nD Cert.DlnBwdIdeal.τ).loc Cert.DlnBwdIdeal.main_arg2)
      ∧ m' ((c.tc : Thread Cert.DlnGradIdeal.nD Cert.DlnGradIdeal.τ).loc Cert.DlnGradIdeal.main_arg3) = m ((c.tc : Thread Cert.DlnBwdIdeal.nD Cert.DlnBwdIdeal.τ).loc Cert.DlnBwdIdeal.main_arg3)) →
    ∃ (v0 : (c : Dev Cert.DlnBwdIdeal.nD) → Buf (Elt Ideal) ((c.tc : Thread Cert.DlnBwdIdeal.nD Cert.DlnBwdIdeal.τ).loc Cert.DlnBwdIdeal.main_v0_0)) (v1 : (c : Dev Cert.DlnBwdIdeal.nD) → Buf (Elt Ideal) ((c.tc : Thread Cert.DlnBwdIdeal.nD Cert.DlnBwdIdeal.τ).loc Cert.DlnBwdIdeal.main_v0_1)) (v2 : (c : Dev Cert.DlnBwdIdeal.nD) → Buf (Elt Ideal) ((c.tc : Thread Cert.DlnBwdIdeal.nD Cert.DlnBwdIdeal.τ).loc Cert.DlnBwdIdeal.main_v0_2)),
      θ_run (Cert.DlnBwdIdeal.defs (F := Ideal)) (onTc (τ := Cert.DlnBwdIdeal.τ) (Cert.DlnBwdIdeal.main (F := Ideal))) ⟨m, fun _ => 0, g⟩ (fun r => ∀ c : Dev Cert.DlnBwdIdeal.nD,
          r.2.mem ((c.tc : Thread Cert.DlnBwdIdeal.nD Cert.DlnBwdIdeal.τ).loc Cert.DlnBwdIdeal.main_v0_0) = v0 c
          ∧ r.2.mem ((c.tc : Thread Cert.DlnBwdIdeal.nD Cert.DlnBwdIdeal.τ).loc Cert.DlnBwdIdeal.main_v0_1) = v1 c
          ∧ r.2.mem ((c.tc : Thread Cert.DlnBwdIdeal.nD Cert.DlnBwdIdeal.τ).loc Cert.DlnBwdIdeal.main_v0_2) = v2 c
          ∧ r.2.mem ((c.tc : Thread Cert.DlnBwdIdeal.nD Cert.DlnBwdIdeal.τ).loc Cert.DlnBwdIdeal.main_arg0) = m ((c.tc : Thread Cert.DlnBwdIdeal.nD Cert.DlnBwdIdeal.τ).loc Cert.DlnBwdIdeal.main_arg0)
          ∧ r.2.mem ((c.tc : Thread Cert.DlnBwdIdeal.nD Cert.DlnBwdIdeal.τ).loc Cert.DlnBwdIdeal.main_arg1) = m ((c.tc : Thread Cert.DlnBwdIdeal.nD Cert.DlnBwdIdeal.τ).loc Cert.DlnBwdIdeal.main_arg1)
          ∧ r.2.mem ((c.tc : Thread Cert.DlnBwdIdeal.nD Cert.DlnBwdIdeal.τ).loc Cert.DlnBwdIdeal.main_arg2) = m ((c.tc : Thread Cert.DlnBwdIdeal.nD Cert.DlnBwdIdeal.τ).loc Cert.DlnBwdIdeal.main_arg2)
          ∧ r.2.mem ((c.tc : Thread Cert.DlnBwdIdeal.nD Cert.DlnBwdIdeal.τ).loc Cert.DlnBwdIdeal.main_arg3) = m ((c.tc : Thread Cert.DlnBwdIdeal.nD Cert.DlnBwdIdeal.τ).loc Cert.DlnBwdIdeal.main_arg3))
      ∧ θ_run (Cert.DlnGradIdeal.defs (F := Ideal)) (onTc (τ := Cert.DlnGradIdeal.τ) (Cert.DlnGradIdeal.main (F := Ideal))) ⟨m', fun _ => 0, g'⟩ (fun r => ∀ c : Dev Cert.DlnGradIdeal.nD,
          r.2.mem ((c.tc : Thread Cert.DlnGradIdeal.nD Cert.DlnGradIdeal.τ).loc Cert.DlnGradIdeal.main_v66) = v0 c
          ∧ r.2.mem ((c.tc : Thread Cert.DlnGradIdeal.nD Cert.DlnGradIdeal.τ).loc Cert.DlnGradIdeal.main_v67) = v1 c
          ∧ r.2.mem ((c.tc : Thread Cert.DlnGradIdeal.nD Cert.DlnGradIdeal.τ).loc Cert.DlnGradIdeal.main_v68) = v2 c
          ∧ r.2.mem ((c.tc : Thread Cert.DlnGradIdeal.nD Cert.DlnGradIdeal.τ).loc Cert.DlnGradIdeal.main_arg0) = m' ((c.tc : Thread Cert.DlnGradIdeal.nD Cert.DlnGradIdeal.τ).loc Cert.DlnGradIdeal.main_arg0)
          ∧ r.2.mem ((c.tc : Thread Cert.DlnGradIdeal.nD Cert.DlnGradIdeal.τ).loc Cert.DlnGradIdeal.main_arg1) = m' ((c.tc : Thread Cert.DlnGradIdeal.nD Cert.DlnGradIdeal.τ).loc Cert.DlnGradIdeal.main_arg1)
          ∧ r.2.mem ((c.tc : Thread Cert.DlnGradIdeal.nD Cert.DlnGradIdeal.τ).loc Cert.DlnGradIdeal.main_arg2) = m' ((c.tc : Thread Cert.DlnGradIdeal.nD Cert.DlnGradIdeal.τ).loc Cert.DlnGradIdeal.main_arg2)
          ∧ r.2.mem ((c.tc : Thread Cert.DlnGradIdeal.nD Cert.DlnGradIdeal.τ).loc Cert.DlnGradIdeal.main_arg3) = m' ((c.tc : Thread Cert.DlnGradIdeal.nD Cert.DlnGradIdeal.τ).loc Cert.DlnGradIdeal.main_arg3))

def preserves_DkeysBwd_DkeysBwdIdeal : Prop :=
  True

def algebraic_DkeysBwdIdeal_DkeysGradIdeal [hDkeysBwdIdeal : Cert.DkeysBwdIdeal.Facts] [hDkeysGradIdeal : Cert.DkeysGradIdeal.Facts] : Prop :=
  ∀ (m : (ℓ : Loc Cert.DkeysBwdIdeal.nD Cert.DkeysBwdIdeal.τ Cert.DkeysBwdIdeal.sig) → Buf (Elt Ideal) ℓ) (g : Dev Cert.DkeysBwdIdeal.nD → PrngReg)
    (m' : (ℓ : Loc Cert.DkeysGradIdeal.nD Cert.DkeysGradIdeal.τ Cert.DkeysGradIdeal.sig) → Buf (Elt Ideal) ℓ) (g' : Dev Cert.DkeysGradIdeal.nD → PrngReg), Pre_DkeysBwdIdeal m →
    (∀ c : Dev Cert.DkeysBwdIdeal.nD,
      m' ((c.tc : Thread Cert.DkeysGradIdeal.nD Cert.DkeysGradIdeal.τ).loc Cert.DkeysGradIdeal.main_arg0) = m ((c.tc : Thread Cert.DkeysBwdIdeal.nD Cert.DkeysBwdIdeal.τ).loc Cert.DkeysBwdIdeal.main_arg0)
      ∧ m' ((c.tc : Thread Cert.DkeysGradIdeal.nD Cert.DkeysGradIdeal.τ).loc Cert.DkeysGradIdeal.main_arg1) = m ((c.tc : Thread Cert.DkeysBwdIdeal.nD Cert.DkeysBwdIdeal.τ).loc Cert.DkeysBwdIdeal.main_arg1)) →
    ∃ (v0 : (c : Dev Cert.DkeysBwdIdeal.nD) → Buf (Elt Ideal) ((c.tc : Thread Cert.DkeysBwdIdeal.nD Cert.DkeysBwdIdeal.τ).loc Cert.DkeysBwdIdeal.main_v0)),
      θ_run (Cert.DkeysBwdIdeal.defs (F := Ideal)) (onTc (τ := Cert.DkeysBwdIdeal.τ) (Cert.DkeysBwdIdeal.main (F := Ideal))) ⟨m, fun _ => 0, g⟩ (fun r => ∀ c : Dev Cert.DkeysBwdIdeal.nD,
          r.2.mem ((c.tc : Thread Cert.DkeysBwdIdeal.nD Cert.DkeysBwdIdeal.τ).loc Cert.DkeysBwdIdeal.main_v0) = v0 c
          ∧ r.2.mem ((c.tc : Thread Cert.DkeysBwdIdeal.nD Cert.DkeysBwdIdeal.τ).loc Cert.DkeysBwdIdeal.main_arg0) = m ((c.tc : Thread Cert.DkeysBwdIdeal.nD Cert.DkeysBwdIdeal.τ).loc Cert.DkeysBwdIdeal.main_arg0)
          ∧ r.2.mem ((c.tc : Thread Cert.DkeysBwdIdeal.nD Cert.DkeysBwdIdeal.τ).loc Cert.DkeysBwdIdeal.main_arg1) = m ((c.tc : Thread Cert.DkeysBwdIdeal.nD Cert.DkeysBwdIdeal.τ).loc Cert.DkeysBwdIdeal.main_arg1))
      ∧ θ_run (Cert.DkeysGradIdeal.defs (F := Ideal)) (onTc (τ := Cert.DkeysGradIdeal.τ) (Cert.DkeysGradIdeal.main (F := Ideal))) ⟨m', fun _ => 0, g'⟩ (fun r => ∀ c : Dev Cert.DkeysGradIdeal.nD,
          r.2.mem ((c.tc : Thread Cert.DkeysGradIdeal.nD Cert.DkeysGradIdeal.τ).loc Cert.DkeysGradIdeal.main_v23) = v0 c
          ∧ r.2.mem ((c.tc : Thread Cert.DkeysGradIdeal.nD Cert.DkeysGradIdeal.τ).loc Cert.DkeysGradIdeal.main_arg0) = m' ((c.tc : Thread Cert.DkeysGradIdeal.nD Cert.DkeysGradIdeal.τ).loc Cert.DkeysGradIdeal.main_arg0)
          ∧ r.2.mem ((c.tc : Thread Cert.DkeysGradIdeal.nD Cert.DkeysGradIdeal.τ).loc Cert.DkeysGradIdeal.main_arg1) = m' ((c.tc : Thread Cert.DkeysGradIdeal.nD Cert.DkeysGradIdeal.τ).loc Cert.DkeysGradIdeal.main_arg1))

def preserves_DvalsBwd_DvalsBwdIdeal : Prop :=
  True

def algebraic_DvalsBwdIdeal_DvalsGradIdeal [hDvalsBwdIdeal : Cert.DvalsBwdIdeal.Facts] [hDvalsGradIdeal : Cert.DvalsGradIdeal.Facts] : Prop :=
  ∀ (m : (ℓ : Loc Cert.DvalsBwdIdeal.nD Cert.DvalsBwdIdeal.τ Cert.DvalsBwdIdeal.sig) → Buf (Elt Ideal) ℓ) (g : Dev Cert.DvalsBwdIdeal.nD → PrngReg)
    (m' : (ℓ : Loc Cert.DvalsGradIdeal.nD Cert.DvalsGradIdeal.τ Cert.DvalsGradIdeal.sig) → Buf (Elt Ideal) ℓ) (g' : Dev Cert.DvalsGradIdeal.nD → PrngReg), Pre_DvalsBwdIdeal m →
    (∀ c : Dev Cert.DvalsBwdIdeal.nD,
      m' ((c.tc : Thread Cert.DvalsGradIdeal.nD Cert.DvalsGradIdeal.τ).loc Cert.DvalsGradIdeal.main_arg0) = m ((c.tc : Thread Cert.DvalsBwdIdeal.nD Cert.DvalsBwdIdeal.τ).loc Cert.DvalsBwdIdeal.main_arg0)
      ∧ m' ((c.tc : Thread Cert.DvalsGradIdeal.nD Cert.DvalsGradIdeal.τ).loc Cert.DvalsGradIdeal.main_arg1) = m ((c.tc : Thread Cert.DvalsBwdIdeal.nD Cert.DvalsBwdIdeal.τ).loc Cert.DvalsBwdIdeal.main_arg1)) →
    ∃ (v0 : (c : Dev Cert.DvalsBwdIdeal.nD) → Buf (Elt Ideal) ((c.tc : Thread Cert.DvalsBwdIdeal.nD Cert.DvalsBwdIdeal.τ).loc Cert.DvalsBwdIdeal.main_v0)),
      θ_run (Cert.DvalsBwdIdeal.defs (F := Ideal)) (onTc (τ := Cert.DvalsBwdIdeal.τ) (Cert.DvalsBwdIdeal.main (F := Ideal))) ⟨m, fun _ => 0, g⟩ (fun r => ∀ c : Dev Cert.DvalsBwdIdeal.nD,
          r.2.mem ((c.tc : Thread Cert.DvalsBwdIdeal.nD Cert.DvalsBwdIdeal.τ).loc Cert.DvalsBwdIdeal.main_v0) = v0 c
          ∧ r.2.mem ((c.tc : Thread Cert.DvalsBwdIdeal.nD Cert.DvalsBwdIdeal.τ).loc Cert.DvalsBwdIdeal.main_arg0) = m ((c.tc : Thread Cert.DvalsBwdIdeal.nD Cert.DvalsBwdIdeal.τ).loc Cert.DvalsBwdIdeal.main_arg0)
          ∧ r.2.mem ((c.tc : Thread Cert.DvalsBwdIdeal.nD Cert.DvalsBwdIdeal.τ).loc Cert.DvalsBwdIdeal.main_arg1) = m ((c.tc : Thread Cert.DvalsBwdIdeal.nD Cert.DvalsBwdIdeal.τ).loc Cert.DvalsBwdIdeal.main_arg1))
      ∧ θ_run (Cert.DvalsGradIdeal.defs (F := Ideal)) (onTc (τ := Cert.DvalsGradIdeal.τ) (Cert.DvalsGradIdeal.main (F := Ideal))) ⟨m', fun _ => 0, g'⟩ (fun r => ∀ c : Dev Cert.DvalsGradIdeal.nD,
          r.2.mem ((c.tc : Thread Cert.DvalsGradIdeal.nD Cert.DvalsGradIdeal.τ).loc Cert.DvalsGradIdeal.main_v23) = v0 c
          ∧ r.2.mem ((c.tc : Thread Cert.DvalsGradIdeal.nD Cert.DvalsGradIdeal.τ).loc Cert.DvalsGradIdeal.main_arg0) = m' ((c.tc : Thread Cert.DvalsGradIdeal.nD Cert.DvalsGradIdeal.τ).loc Cert.DvalsGradIdeal.main_arg0)
          ∧ r.2.mem ((c.tc : Thread Cert.DvalsGradIdeal.nD Cert.DvalsGradIdeal.τ).loc Cert.DvalsGradIdeal.main_arg1) = m' ((c.tc : Thread Cert.DvalsGradIdeal.nD Cert.DvalsGradIdeal.τ).loc Cert.DvalsGradIdeal.main_arg1))

def preserves_FfnFwd_FfnFwdIdeal : Prop :=
  True

def algebraic_FfnFwdIdeal_FfnRefIdeal [hFfnFwdIdeal : Cert.FfnFwdIdeal.Facts] [hFfnRefIdeal : Cert.FfnRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnFwdIdeal m →
    (∀ c : Dev Cert.FfnFwdIdeal.nD,
      m' ((c.tc : Thread Cert.FfnRefIdeal.nD Cert.FfnRefIdeal.τ).loc Cert.FfnRefIdeal.main_arg0) = m ((c.tc : Thread Cert.FfnFwdIdeal.nD Cert.FfnFwdIdeal.τ).loc Cert.FfnFwdIdeal.main_arg0)
      ∧ m' ((c.tc : Thread Cert.FfnRefIdeal.nD Cert.FfnRefIdeal.τ).loc Cert.FfnRefIdeal.main_arg1) = m ((c.tc : Thread Cert.FfnFwdIdeal.nD Cert.FfnFwdIdeal.τ).loc Cert.FfnFwdIdeal.main_arg1)
      ∧ m' ((c.tc : Thread Cert.FfnRefIdeal.nD Cert.FfnRefIdeal.τ).loc Cert.FfnRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v0)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_NormFwd_NormFwdIdeal : Prop :=
  True

def algebraic_NormFwdIdeal_NormRefIdeal [hNormFwdIdeal : Cert.NormFwdIdeal.Facts] [hNormRefIdeal : Cert.NormRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormFwdIdeal m →
    (∀ c : Dev Cert.NormFwdIdeal.nD,
      m' ((c.tc : Thread Cert.NormRefIdeal.nD Cert.NormRefIdeal.τ).loc Cert.NormRefIdeal.main_arg0) = m ((c.tc : Thread Cert.NormFwdIdeal.nD Cert.NormFwdIdeal.τ).loc Cert.NormFwdIdeal.main_arg0)
      ∧ m' ((c.tc : Thread Cert.NormRefIdeal.nD Cert.NormRefIdeal.τ).loc Cert.NormRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_TokFwd_TokFwdIdeal : Prop :=
  True

def algebraic_TokFwdIdeal_TokRefIdeal [hTokFwdIdeal : Cert.TokFwdIdeal.Facts] [hTokRefIdeal : Cert.TokRefIdeal.Facts] : Prop :=
  ∀ (m : (ℓ : Loc Cert.TokFwdIdeal.nD Cert.TokFwdIdeal.τ Cert.TokFwdIdeal.sig) → Buf (Elt Ideal) ℓ) (g : Dev Cert.TokFwdIdeal.nD → PrngReg)
    (m' : (ℓ : Loc Cert.TokRefIdeal.nD Cert.TokRefIdeal.τ Cert.TokRefIdeal.sig) → Buf (Elt Ideal) ℓ) (g' : Dev Cert.TokRefIdeal.nD → PrngReg), Pre_TokFwdIdeal m →
    (∀ c : Dev Cert.TokFwdIdeal.nD,
      m' ((c.tc : Thread Cert.TokRefIdeal.nD Cert.TokRefIdeal.τ).loc Cert.TokRefIdeal.main_arg0) = m ((c.tc : Thread Cert.TokFwdIdeal.nD Cert.TokFwdIdeal.τ).loc Cert.TokFwdIdeal.main_arg0)
      ∧ m' ((c.tc : Thread Cert.TokRefIdeal.nD Cert.TokRefIdeal.τ).loc Cert.TokRefIdeal.main_arg1) = m ((c.tc : Thread Cert.TokFwdIdeal.nD Cert.TokFwdIdeal.τ).loc Cert.TokFwdIdeal.main_arg1)) →
    ∃ (v0 : (c : Dev Cert.TokFwdIdeal.nD) → Buf (Elt Ideal) ((c.tc : Thread Cert.TokFwdIdeal.nD Cert.TokFwdIdeal.τ).loc Cert.TokFwdIdeal.main_v0)),
      θ_run (Cert.TokFwdIdeal.defs (F := Ideal)) (onTc (τ := Cert.TokFwdIdeal.τ) (Cert.TokFwdIdeal.main (F := Ideal))) ⟨m, fun _ => 0, g⟩ (fun r => ∀ c : Dev Cert.TokFwdIdeal.nD,
          r.2.mem ((c.tc : Thread Cert.TokFwdIdeal.nD Cert.TokFwdIdeal.τ).loc Cert.TokFwdIdeal.main_v0) = v0 c
          ∧ r.2.mem ((c.tc : Thread Cert.TokFwdIdeal.nD Cert.TokFwdIdeal.τ).loc Cert.TokFwdIdeal.main_arg0) = m ((c.tc : Thread Cert.TokFwdIdeal.nD Cert.TokFwdIdeal.τ).loc Cert.TokFwdIdeal.main_arg0)
          ∧ r.2.mem ((c.tc : Thread Cert.TokFwdIdeal.nD Cert.TokFwdIdeal.τ).loc Cert.TokFwdIdeal.main_arg1) = m ((c.tc : Thread Cert.TokFwdIdeal.nD Cert.TokFwdIdeal.τ).loc Cert.TokFwdIdeal.main_arg1))
      ∧ θ_run (Cert.TokRefIdeal.defs (F := Ideal)) (onTc (τ := Cert.TokRefIdeal.τ) (Cert.TokRefIdeal.main (F := Ideal))) ⟨m', fun _ => 0, g'⟩ (fun r => ∀ c : Dev Cert.TokRefIdeal.nD,
          r.2.mem ((c.tc : Thread Cert.TokRefIdeal.nD Cert.TokRefIdeal.τ).loc Cert.TokRefIdeal.main_v14) = v0 c
          ∧ r.2.mem ((c.tc : Thread Cert.TokRefIdeal.nD Cert.TokRefIdeal.τ).loc Cert.TokRefIdeal.main_arg0) = m' ((c.tc : Thread Cert.TokRefIdeal.nD Cert.TokRefIdeal.τ).loc Cert.TokRefIdeal.main_arg0)
          ∧ r.2.mem ((c.tc : Thread Cert.TokRefIdeal.nD Cert.TokRefIdeal.τ).loc Cert.TokRefIdeal.main_arg1) = m' ((c.tc : Thread Cert.TokRefIdeal.nD Cert.TokRefIdeal.τ).loc Cert.TokRefIdeal.main_arg1))

def preserves_MergeFwd_MergeFwdIdeal : Prop :=
  True

def algebraic_MergeFwdIdeal_MergeRefIdeal [hMergeFwdIdeal : Cert.MergeFwdIdeal.Facts] [hMergeRefIdeal : Cert.MergeRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeFwdIdeal m →
    (∀ c : Dev Cert.MergeFwdIdeal.nD,
      m' ((c.tc : Thread Cert.MergeRefIdeal.nD Cert.MergeRefIdeal.τ).loc Cert.MergeRefIdeal.main_arg0) = m ((c.tc : Thread Cert.MergeFwdIdeal.nD Cert.MergeFwdIdeal.τ).loc Cert.MergeFwdIdeal.main_arg0)
      ∧ m' ((c.tc : Thread Cert.MergeRefIdeal.nD Cert.MergeRefIdeal.τ).loc Cert.MergeRefIdeal.main_arg1) = m ((c.tc : Thread Cert.MergeFwdIdeal.nD Cert.MergeFwdIdeal.τ).loc Cert.MergeFwdIdeal.main_arg1)
      ∧ m' ((c.tc : Thread Cert.MergeRefIdeal.nD Cert.MergeRefIdeal.τ).loc Cert.MergeRefIdeal.main_arg2) = m ((c.tc : Thread Cert.MergeFwdIdeal.nD Cert.MergeFwdIdeal.τ).loc Cert.MergeFwdIdeal.main_arg2)
      ∧ m' ((c.tc : Thread Cert.MergeRefIdeal.nD Cert.MergeRefIdeal.τ).loc Cert.MergeRefIdeal.main_arg3) = m ((c.tc : Thread Cert.MergeFwdIdeal.nD Cert.MergeFwdIdeal.τ).loc Cert.MergeFwdIdeal.main_arg3)
      ∧ m' ((c.tc : Thread Cert.MergeRefIdeal.nD Cert.MergeRefIdeal.τ).loc Cert.MergeRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def Claim : Prop :=
  ∃ (hMemBwd : Cert.MemBwd.Facts) (hMemBwdIdeal : Cert.MemBwdIdeal.Facts) (hMemGradIdeal : Cert.MemGradIdeal.Facts) (hDxnBwd : Cert.DxnBwd.Facts) (hDxnBwdIdeal : Cert.DxnBwdIdeal.Facts) (hDxnGradIdeal : Cert.DxnGradIdeal.Facts) (hGwinBwd : Cert.GwinBwd.Facts) (hGwinBwdIdeal : Cert.GwinBwdIdeal.Facts) (hGwinGradIdeal : Cert.GwinGradIdeal.Facts) (hDhnBwd : Cert.DhnBwd.Facts) (hDhnBwdIdeal : Cert.DhnBwdIdeal.Facts) (hDhnGradIdeal : Cert.DhnGradIdeal.Facts) (hGwupBwd : Cert.GwupBwd.Facts) (hGwupBwdIdeal : Cert.GwupBwdIdeal.Facts) (hGwupGradIdeal : Cert.GwupGradIdeal.Facts) (hDactBwd : Cert.DactBwd.Facts) (hDactBwdIdeal : Cert.DactBwdIdeal.Facts) (hDactGradIdeal : Cert.DactGradIdeal.Facts) (hGwdownBwd : Cert.GwdownBwd.Facts) (hGwdownBwdIdeal : Cert.GwdownBwdIdeal.Facts) (hGwdownGradIdeal : Cert.GwdownGradIdeal.Facts) (hDmergedBwd : Cert.DmergedBwd.Facts) (hDmergedBwdIdeal : Cert.DmergedBwdIdeal.Facts) (hDmergedGradIdeal : Cert.DmergedGradIdeal.Facts) (hGwoBwd : Cert.GwoBwd.Facts) (hGwoBwdIdeal : Cert.GwoBwdIdeal.Facts) (hGwoGradIdeal : Cert.GwoGradIdeal.Facts) (hWinFwd : Cert.WinFwd.Facts) (hWinFwdIdeal : Cert.WinFwdIdeal.Facts) (hWinRefIdeal : Cert.WinRefIdeal.Facts) (hWupFwd : Cert.WupFwd.Facts) (hWupFwdIdeal : Cert.WupFwdIdeal.Facts) (hWupRefIdeal : Cert.WupRefIdeal.Facts) (hWdownFwd : Cert.WdownFwd.Facts) (hWdownFwdIdeal : Cert.WdownFwdIdeal.Facts) (hWdownRefIdeal : Cert.WdownRefIdeal.Facts) (hWoFwd : Cert.WoFwd.Facts) (hWoFwdIdeal : Cert.WoFwdIdeal.Facts) (hWoRefIdeal : Cert.WoRefIdeal.Facts) (hBranchFwd : Cert.BranchFwd.Facts) (hBranchFwdIdeal : Cert.BranchFwdIdeal.Facts) (hBranchRefIdeal : Cert.BranchRefIdeal.Facts) (hDconvBwd : Cert.DconvBwd.Facts) (hDconvBwdIdeal : Cert.DconvBwdIdeal.Facts) (hDconvGradIdeal : Cert.DconvGradIdeal.Facts) (hGconvBwd : Cert.GconvBwd.Facts) (hGconvBwdIdeal : Cert.GconvBwdIdeal.Facts) (hGconvGradIdeal : Cert.GconvGradIdeal.Facts) (hDattnBwd : Cert.DattnBwd.Facts) (hDattnBwdIdeal : Cert.DattnBwdIdeal.Facts) (hDattnGradIdeal : Cert.DattnGradIdeal.Facts) (hGattnBwd : Cert.GattnBwd.Facts) (hGattnBwdIdeal : Cert.GattnBwdIdeal.Facts) (hGattnGradIdeal : Cert.GattnGradIdeal.Facts) (hDmemBwd : Cert.DmemBwd.Facts) (hDmemBwdIdeal : Cert.DmemBwdIdeal.Facts) (hDmemGradIdeal : Cert.DmemGradIdeal.Facts) (hGmemBwd : Cert.GmemBwd.Facts) (hGmemBwdIdeal : Cert.GmemBwdIdeal.Facts) (hGmemGradIdeal : Cert.GmemGradIdeal.Facts) (hWkvFwd : Cert.WkvFwd.Facts) (hWkvFwdIdeal : Cert.WkvFwdIdeal.Facts) (hWkvRefIdeal : Cert.WkvRefIdeal.Facts) (hDkvBwd : Cert.DkvBwd.Facts) (hDkvBwdIdeal : Cert.DkvBwdIdeal.Facts) (hDkvGradIdeal : Cert.DkvGradIdeal.Facts) (hGkvBwd : Cert.GkvBwd.Facts) (hGkvBwdIdeal : Cert.GkvBwdIdeal.Facts) (hGkvGradIdeal : Cert.GkvGradIdeal.Facts) (hMemFwd : Cert.MemFwd.Facts) (hMemFwdIdeal : Cert.MemFwdIdeal.Facts) (hMemOutIdeal : Cert.MemOutIdeal.Facts) (hDnormBwd : Cert.DnormBwd.Facts) (hDnormBwdIdeal : Cert.DnormBwdIdeal.Facts) (hDnormGradIdeal : Cert.DnormGradIdeal.Facts) (hDtokBwd : Cert.DtokBwd.Facts) (hDtokBwdIdeal : Cert.DtokBwdIdeal.Facts) (hDtokGradIdeal : Cert.DtokGradIdeal.Facts) (hLossBwd : Cert.LossBwd.Facts) (hLossBwdIdeal : Cert.LossBwdIdeal.Facts) (hLossGradIdeal : Cert.LossGradIdeal.Facts) (hDlnBwd : Cert.DlnBwd.Facts) (hDlnBwdIdeal : Cert.DlnBwdIdeal.Facts) (hDlnGradIdeal : Cert.DlnGradIdeal.Facts) (hDkeysBwd : Cert.DkeysBwd.Facts) (hDkeysBwdIdeal : Cert.DkeysBwdIdeal.Facts) (hDkeysGradIdeal : Cert.DkeysGradIdeal.Facts) (hDvalsBwd : Cert.DvalsBwd.Facts) (hDvalsBwdIdeal : Cert.DvalsBwdIdeal.Facts) (hDvalsGradIdeal : Cert.DvalsGradIdeal.Facts) (hFfnFwd : Cert.FfnFwd.Facts) (hFfnFwdIdeal : Cert.FfnFwdIdeal.Facts) (hFfnRefIdeal : Cert.FfnRefIdeal.Facts) (hNormFwd : Cert.NormFwd.Facts) (hNormFwdIdeal : Cert.NormFwdIdeal.Facts) (hNormRefIdeal : Cert.NormRefIdeal.Facts) (hTokFwd : Cert.TokFwd.Facts) (hTokFwdIdeal : Cert.TokFwdIdeal.Facts) (hTokRefIdeal : Cert.TokRefIdeal.Facts) (hMergeFwd : Cert.MergeFwd.Facts) (hMergeFwdIdeal : Cert.MergeFwdIdeal.Facts) (hMergeRefIdeal : Cert.MergeRefIdeal.Facts) (hPre_finite_scores : Cert.Pre_finite_scores.Facts) (hPre_finite_inputs : Cert.Pre_finite_inputs.Facts) (hPre_finite_grads : Cert.Pre_finite_grads.Facts),
    quiescent_MemBwd (hMemBwd := hMemBwd)
    ∧ quiescent_MemBwdIdeal (hMemBwdIdeal := hMemBwdIdeal)
    ∧ quiescent_MemBwdIdeal_pre_finite_scores (hMemBwdIdeal := hMemBwdIdeal) (hPre_finite_scores := hPre_finite_scores)
    ∧ quiescent_MemGradIdeal (hMemGradIdeal := hMemGradIdeal)
    ∧ quiescent_MemGradIdeal_pre_finite_scores (hMemGradIdeal := hMemGradIdeal) (hPre_finite_scores := hPre_finite_scores)
    ∧ quiescent_DxnBwd (hDxnBwd := hDxnBwd)
    ∧ quiescent_DxnBwdIdeal (hDxnBwdIdeal := hDxnBwdIdeal)
    ∧ quiescent_DxnGradIdeal (hDxnGradIdeal := hDxnGradIdeal)
    ∧ quiescent_GwinBwd (hGwinBwd := hGwinBwd)
    ∧ quiescent_GwinBwdIdeal (hGwinBwdIdeal := hGwinBwdIdeal)
    ∧ quiescent_GwinGradIdeal (hGwinGradIdeal := hGwinGradIdeal)
    ∧ quiescent_DhnBwd (hDhnBwd := hDhnBwd)
    ∧ quiescent_DhnBwdIdeal (hDhnBwdIdeal := hDhnBwdIdeal)
    ∧ quiescent_DhnGradIdeal (hDhnGradIdeal := hDhnGradIdeal)
    ∧ quiescent_GwupBwd (hGwupBwd := hGwupBwd)
    ∧ quiescent_GwupBwdIdeal (hGwupBwdIdeal := hGwupBwdIdeal)
    ∧ quiescent_GwupGradIdeal (hGwupGradIdeal := hGwupGradIdeal)
    ∧ quiescent_DactBwd (hDactBwd := hDactBwd)
    ∧ quiescent_DactBwdIdeal (hDactBwdIdeal := hDactBwdIdeal)
    ∧ quiescent_DactGradIdeal (hDactGradIdeal := hDactGradIdeal)
    ∧ quiescent_GwdownBwd (hGwdownBwd := hGwdownBwd)
    ∧ quiescent_GwdownBwdIdeal (hGwdownBwdIdeal := hGwdownBwdIdeal)
    ∧ quiescent_GwdownGradIdeal (hGwdownGradIdeal := hGwdownGradIdeal)
    ∧ quiescent_DmergedBwd (hDmergedBwd := hDmergedBwd)
    ∧ quiescent_DmergedBwdIdeal (hDmergedBwdIdeal := hDmergedBwdIdeal)
    ∧ quiescent_DmergedGradIdeal (hDmergedGradIdeal := hDmergedGradIdeal)
    ∧ quiescent_GwoBwd (hGwoBwd := hGwoBwd)
    ∧ quiescent_GwoBwdIdeal (hGwoBwdIdeal := hGwoBwdIdeal)
    ∧ quiescent_GwoGradIdeal (hGwoGradIdeal := hGwoGradIdeal)
    ∧ quiescent_WinFwd (hWinFwd := hWinFwd)
    ∧ quiescent_WinFwdIdeal (hWinFwdIdeal := hWinFwdIdeal)
    ∧ quiescent_WinRefIdeal (hWinRefIdeal := hWinRefIdeal)
    ∧ quiescent_WupFwd (hWupFwd := hWupFwd)
    ∧ quiescent_WupFwdIdeal (hWupFwdIdeal := hWupFwdIdeal)
    ∧ quiescent_WupRefIdeal (hWupRefIdeal := hWupRefIdeal)
    ∧ quiescent_WdownFwd (hWdownFwd := hWdownFwd)
    ∧ quiescent_WdownFwdIdeal (hWdownFwdIdeal := hWdownFwdIdeal)
    ∧ quiescent_WdownRefIdeal (hWdownRefIdeal := hWdownRefIdeal)
    ∧ quiescent_WoFwd (hWoFwd := hWoFwd)
    ∧ quiescent_WoFwdIdeal (hWoFwdIdeal := hWoFwdIdeal)
    ∧ quiescent_WoRefIdeal (hWoRefIdeal := hWoRefIdeal)
    ∧ quiescent_BranchFwd (hBranchFwd := hBranchFwd)
    ∧ quiescent_BranchFwdIdeal (hBranchFwdIdeal := hBranchFwdIdeal)
    ∧ quiescent_BranchRefIdeal (hBranchRefIdeal := hBranchRefIdeal)
    ∧ quiescent_DconvBwd (hDconvBwd := hDconvBwd)
    ∧ quiescent_DconvBwdIdeal (hDconvBwdIdeal := hDconvBwdIdeal)
    ∧ quiescent_DconvGradIdeal (hDconvGradIdeal := hDconvGradIdeal)
    ∧ quiescent_GconvBwd (hGconvBwd := hGconvBwd)
    ∧ quiescent_GconvBwdIdeal (hGconvBwdIdeal := hGconvBwdIdeal)
    ∧ quiescent_GconvGradIdeal (hGconvGradIdeal := hGconvGradIdeal)
    ∧ quiescent_DattnBwd (hDattnBwd := hDattnBwd)
    ∧ quiescent_DattnBwdIdeal (hDattnBwdIdeal := hDattnBwdIdeal)
    ∧ quiescent_DattnGradIdeal (hDattnGradIdeal := hDattnGradIdeal)
    ∧ quiescent_GattnBwd (hGattnBwd := hGattnBwd)
    ∧ quiescent_GattnBwdIdeal (hGattnBwdIdeal := hGattnBwdIdeal)
    ∧ quiescent_GattnGradIdeal (hGattnGradIdeal := hGattnGradIdeal)
    ∧ quiescent_DmemBwd (hDmemBwd := hDmemBwd)
    ∧ quiescent_DmemBwdIdeal (hDmemBwdIdeal := hDmemBwdIdeal)
    ∧ quiescent_DmemGradIdeal (hDmemGradIdeal := hDmemGradIdeal)
    ∧ quiescent_GmemBwd (hGmemBwd := hGmemBwd)
    ∧ quiescent_GmemBwdIdeal (hGmemBwdIdeal := hGmemBwdIdeal)
    ∧ quiescent_GmemGradIdeal (hGmemGradIdeal := hGmemGradIdeal)
    ∧ quiescent_WkvFwd (hWkvFwd := hWkvFwd)
    ∧ quiescent_WkvFwdIdeal (hWkvFwdIdeal := hWkvFwdIdeal)
    ∧ quiescent_WkvRefIdeal (hWkvRefIdeal := hWkvRefIdeal)
    ∧ quiescent_DkvBwd (hDkvBwd := hDkvBwd)
    ∧ quiescent_DkvBwdIdeal (hDkvBwdIdeal := hDkvBwdIdeal)
    ∧ quiescent_DkvGradIdeal (hDkvGradIdeal := hDkvGradIdeal)
    ∧ quiescent_GkvBwd (hGkvBwd := hGkvBwd)
    ∧ quiescent_GkvBwdIdeal (hGkvBwdIdeal := hGkvBwdIdeal)
    ∧ quiescent_GkvGradIdeal (hGkvGradIdeal := hGkvGradIdeal)
    ∧ quiescent_MemFwd (hMemFwd := hMemFwd)
    ∧ quiescent_MemFwdIdeal (hMemFwdIdeal := hMemFwdIdeal)
    ∧ quiescent_MemFwdIdeal_pre_finite_inputs (hMemFwdIdeal := hMemFwdIdeal) (hPre_finite_inputs := hPre_finite_inputs)
    ∧ quiescent_MemOutIdeal (hMemOutIdeal := hMemOutIdeal)
    ∧ quiescent_MemOutIdeal_pre_finite_inputs (hMemOutIdeal := hMemOutIdeal) (hPre_finite_inputs := hPre_finite_inputs)
    ∧ quiescent_DnormBwd (hDnormBwd := hDnormBwd)
    ∧ quiescent_DnormBwdIdeal (hDnormBwdIdeal := hDnormBwdIdeal)
    ∧ quiescent_DnormGradIdeal (hDnormGradIdeal := hDnormGradIdeal)
    ∧ quiescent_DtokBwd (hDtokBwd := hDtokBwd)
    ∧ quiescent_DtokBwdIdeal (hDtokBwdIdeal := hDtokBwdIdeal)
    ∧ quiescent_DtokGradIdeal (hDtokGradIdeal := hDtokGradIdeal)
    ∧ quiescent_LossBwd (hLossBwd := hLossBwd)
    ∧ quiescent_LossBwdIdeal (hLossBwdIdeal := hLossBwdIdeal)
    ∧ quiescent_LossGradIdeal (hLossGradIdeal := hLossGradIdeal)
    ∧ quiescent_DlnBwd (hDlnBwd := hDlnBwd)
    ∧ quiescent_DlnBwdIdeal (hDlnBwdIdeal := hDlnBwdIdeal)
    ∧ quiescent_DlnBwdIdeal_pre_finite_grads (hDlnBwdIdeal := hDlnBwdIdeal) (hPre_finite_grads := hPre_finite_grads)
    ∧ quiescent_DlnGradIdeal (hDlnGradIdeal := hDlnGradIdeal)
    ∧ quiescent_DlnGradIdeal_pre_finite_grads (hDlnGradIdeal := hDlnGradIdeal) (hPre_finite_grads := hPre_finite_grads)
    ∧ quiescent_DkeysBwd (hDkeysBwd := hDkeysBwd)
    ∧ quiescent_DkeysBwdIdeal (hDkeysBwdIdeal := hDkeysBwdIdeal)
    ∧ quiescent_DkeysGradIdeal (hDkeysGradIdeal := hDkeysGradIdeal)
    ∧ quiescent_DvalsBwd (hDvalsBwd := hDvalsBwd)
    ∧ quiescent_DvalsBwdIdeal (hDvalsBwdIdeal := hDvalsBwdIdeal)
    ∧ quiescent_DvalsGradIdeal (hDvalsGradIdeal := hDvalsGradIdeal)
    ∧ quiescent_FfnFwd (hFfnFwd := hFfnFwd)
    ∧ quiescent_FfnFwdIdeal (hFfnFwdIdeal := hFfnFwdIdeal)
    ∧ quiescent_FfnRefIdeal (hFfnRefIdeal := hFfnRefIdeal)
    ∧ quiescent_NormFwd (hNormFwd := hNormFwd)
    ∧ quiescent_NormFwdIdeal (hNormFwdIdeal := hNormFwdIdeal)
    ∧ quiescent_NormRefIdeal (hNormRefIdeal := hNormRefIdeal)
    ∧ quiescent_TokFwd (hTokFwd := hTokFwd)
    ∧ quiescent_TokFwdIdeal (hTokFwdIdeal := hTokFwdIdeal)
    ∧ quiescent_TokRefIdeal (hTokRefIdeal := hTokRefIdeal)
    ∧ quiescent_MergeFwd (hMergeFwd := hMergeFwd)
    ∧ quiescent_MergeFwdIdeal (hMergeFwdIdeal := hMergeFwdIdeal)
    ∧ quiescent_MergeRefIdeal (hMergeRefIdeal := hMergeRefIdeal)
    ∧ preserves_MemBwd_MemBwdIdeal
    ∧ algebraic_MemBwdIdeal_MemGradIdeal_pre_finite_scores (hMemBwdIdeal := hMemBwdIdeal) (hMemGradIdeal := hMemGradIdeal) (hPre_finite_scores := hPre_finite_scores)
    ∧ preserves_DxnBwd_DxnBwdIdeal
    ∧ algebraic_DxnBwdIdeal_DxnGradIdeal (hDxnBwdIdeal := hDxnBwdIdeal) (hDxnGradIdeal := hDxnGradIdeal)
    ∧ preserves_GwinBwd_GwinBwdIdeal
    ∧ algebraic_GwinBwdIdeal_GwinGradIdeal (hGwinBwdIdeal := hGwinBwdIdeal) (hGwinGradIdeal := hGwinGradIdeal)
    ∧ preserves_DhnBwd_DhnBwdIdeal
    ∧ algebraic_DhnBwdIdeal_DhnGradIdeal (hDhnBwdIdeal := hDhnBwdIdeal) (hDhnGradIdeal := hDhnGradIdeal)
    ∧ preserves_GwupBwd_GwupBwdIdeal
    ∧ algebraic_GwupBwdIdeal_GwupGradIdeal (hGwupBwdIdeal := hGwupBwdIdeal) (hGwupGradIdeal := hGwupGradIdeal)
    ∧ preserves_DactBwd_DactBwdIdeal
    ∧ algebraic_DactBwdIdeal_DactGradIdeal (hDactBwdIdeal := hDactBwdIdeal) (hDactGradIdeal := hDactGradIdeal)
    ∧ preserves_GwdownBwd_GwdownBwdIdeal
    ∧ algebraic_GwdownBwdIdeal_GwdownGradIdeal (hGwdownBwdIdeal := hGwdownBwdIdeal) (hGwdownGradIdeal := hGwdownGradIdeal)
    ∧ preserves_DmergedBwd_DmergedBwdIdeal
    ∧ algebraic_DmergedBwdIdeal_DmergedGradIdeal (hDmergedBwdIdeal := hDmergedBwdIdeal) (hDmergedGradIdeal := hDmergedGradIdeal)
    ∧ preserves_GwoBwd_GwoBwdIdeal
    ∧ algebraic_GwoBwdIdeal_GwoGradIdeal (hGwoBwdIdeal := hGwoBwdIdeal) (hGwoGradIdeal := hGwoGradIdeal)
    ∧ preserves_WinFwd_WinFwdIdeal
    ∧ algebraic_WinFwdIdeal_WinRefIdeal (hWinFwdIdeal := hWinFwdIdeal) (hWinRefIdeal := hWinRefIdeal)
    ∧ preserves_WupFwd_WupFwdIdeal
    ∧ algebraic_WupFwdIdeal_WupRefIdeal (hWupFwdIdeal := hWupFwdIdeal) (hWupRefIdeal := hWupRefIdeal)
    ∧ preserves_WdownFwd_WdownFwdIdeal
    ∧ algebraic_WdownFwdIdeal_WdownRefIdeal (hWdownFwdIdeal := hWdownFwdIdeal) (hWdownRefIdeal := hWdownRefIdeal)
    ∧ preserves_WoFwd_WoFwdIdeal
    ∧ algebraic_WoFwdIdeal_WoRefIdeal (hWoFwdIdeal := hWoFwdIdeal) (hWoRefIdeal := hWoRefIdeal)
    ∧ preserves_BranchFwd_BranchFwdIdeal
    ∧ algebraic_BranchFwdIdeal_BranchRefIdeal (hBranchFwdIdeal := hBranchFwdIdeal) (hBranchRefIdeal := hBranchRefIdeal)
    ∧ preserves_DconvBwd_DconvBwdIdeal
    ∧ algebraic_DconvBwdIdeal_DconvGradIdeal (hDconvBwdIdeal := hDconvBwdIdeal) (hDconvGradIdeal := hDconvGradIdeal)
    ∧ preserves_GconvBwd_GconvBwdIdeal
    ∧ algebraic_GconvBwdIdeal_GconvGradIdeal (hGconvBwdIdeal := hGconvBwdIdeal) (hGconvGradIdeal := hGconvGradIdeal)
    ∧ preserves_DattnBwd_DattnBwdIdeal
    ∧ algebraic_DattnBwdIdeal_DattnGradIdeal (hDattnBwdIdeal := hDattnBwdIdeal) (hDattnGradIdeal := hDattnGradIdeal)
    ∧ preserves_GattnBwd_GattnBwdIdeal
    ∧ algebraic_GattnBwdIdeal_GattnGradIdeal (hGattnBwdIdeal := hGattnBwdIdeal) (hGattnGradIdeal := hGattnGradIdeal)
    ∧ preserves_DmemBwd_DmemBwdIdeal
    ∧ algebraic_DmemBwdIdeal_DmemGradIdeal (hDmemBwdIdeal := hDmemBwdIdeal) (hDmemGradIdeal := hDmemGradIdeal)
    ∧ preserves_GmemBwd_GmemBwdIdeal
    ∧ algebraic_GmemBwdIdeal_GmemGradIdeal (hGmemBwdIdeal := hGmemBwdIdeal) (hGmemGradIdeal := hGmemGradIdeal)
    ∧ preserves_WkvFwd_WkvFwdIdeal
    ∧ algebraic_WkvFwdIdeal_WkvRefIdeal (hWkvFwdIdeal := hWkvFwdIdeal) (hWkvRefIdeal := hWkvRefIdeal)
    ∧ preserves_DkvBwd_DkvBwdIdeal
    ∧ algebraic_DkvBwdIdeal_DkvGradIdeal (hDkvBwdIdeal := hDkvBwdIdeal) (hDkvGradIdeal := hDkvGradIdeal)
    ∧ preserves_GkvBwd_GkvBwdIdeal
    ∧ algebraic_GkvBwdIdeal_GkvGradIdeal (hGkvBwdIdeal := hGkvBwdIdeal) (hGkvGradIdeal := hGkvGradIdeal)
    ∧ preserves_MemFwd_MemFwdIdeal
    ∧ algebraic_MemFwdIdeal_MemOutIdeal_pre_finite_inputs (hMemFwdIdeal := hMemFwdIdeal) (hMemOutIdeal := hMemOutIdeal) (hPre_finite_inputs := hPre_finite_inputs)
    ∧ preserves_DnormBwd_DnormBwdIdeal
    ∧ algebraic_DnormBwdIdeal_DnormGradIdeal (hDnormBwdIdeal := hDnormBwdIdeal) (hDnormGradIdeal := hDnormGradIdeal)
    ∧ preserves_DtokBwd_DtokBwdIdeal
    ∧ algebraic_DtokBwdIdeal_DtokGradIdeal (hDtokBwdIdeal := hDtokBwdIdeal) (hDtokGradIdeal := hDtokGradIdeal)
    ∧ preserves_LossBwd_LossBwdIdeal
    ∧ algebraic_LossBwdIdeal_LossGradIdeal (hLossBwdIdeal := hLossBwdIdeal) (hLossGradIdeal := hLossGradIdeal)
    ∧ preserves_DlnBwd_DlnBwdIdeal
    ∧ algebraic_DlnBwdIdeal_DlnGradIdeal_pre_finite_grads (hDlnBwdIdeal := hDlnBwdIdeal) (hDlnGradIdeal := hDlnGradIdeal) (hPre_finite_grads := hPre_finite_grads)
    ∧ preserves_DkeysBwd_DkeysBwdIdeal
    ∧ algebraic_DkeysBwdIdeal_DkeysGradIdeal (hDkeysBwdIdeal := hDkeysBwdIdeal) (hDkeysGradIdeal := hDkeysGradIdeal)
    ∧ preserves_DvalsBwd_DvalsBwdIdeal
    ∧ algebraic_DvalsBwdIdeal_DvalsGradIdeal (hDvalsBwdIdeal := hDvalsBwdIdeal) (hDvalsGradIdeal := hDvalsGradIdeal)
    ∧ preserves_FfnFwd_FfnFwdIdeal
    ∧ algebraic_FfnFwdIdeal_FfnRefIdeal (hFfnFwdIdeal := hFfnFwdIdeal) (hFfnRefIdeal := hFfnRefIdeal)
    ∧ preserves_NormFwd_NormFwdIdeal
    ∧ algebraic_NormFwdIdeal_NormRefIdeal (hNormFwdIdeal := hNormFwdIdeal) (hNormRefIdeal := hNormRefIdeal)
    ∧ preserves_TokFwd_TokFwdIdeal
    ∧ algebraic_TokFwdIdeal_TokRefIdeal (hTokFwdIdeal := hTokFwdIdeal) (hTokRefIdeal := hTokRefIdeal)
    ∧ preserves_MergeFwd_MergeFwdIdeal
    ∧ algebraic_MergeFwdIdeal_MergeRefIdeal (hMergeFwdIdeal := hMergeFwdIdeal) (hMergeRefIdeal := hMergeRefIdeal)
-- ==== Pre_finite_grads.lean ====
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S8192x1024 .f32) (main_arg2 : FVec F S1x1024 .f32) (main_arg3 : FVec F S1x1024 .f32) : IVec S8192x1024 1 × IVec S1x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  (main_v3, main_v6)
-- ==== Pre_finite_inputs.lean ====
abbrev S8192x12288 : Shape := ⟨2, ![8192, 12288]⟩
abbrev S256x2048 : Shape := ⟨2, ![256, 2048]⟩
abbrev S8192x1024 : Shape := ⟨2, ![8192, 1024]⟩
abbrev S_ : Shape := ⟨0, ![]⟩
abbrev S256x1024 : Shape := ⟨2, ![256, 1024]⟩

class Facts : Prop where
  slices_S8192x12288_S8192x1024_0_5120 : S8192x12288.Slices ![0, 5120] S8192x1024
  bitsLt_bf16_f32 : FTy.bits .bf16 < FTy.bits .f32
  bcast_S_S8192x1024 : S_.BroadcastsInDim S8192x1024 (![] : Fin 0 → Fin S8192x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S8192x12288 .bf16) (main_arg1 : FVec F S256x2048 .bf16) : IVec S8192x1024 1 × IVec S256x1024 1 :=
  let main_v0 : FVec F S8192x1024 .bf16 := (extractStridedSlice S8192x1024 ![0, 5120] · slices_S8192x12288_S8192x1024_0_5120) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S256x1024 .bf16 := (extractStridedSlice S256x1024 ![0, 0] · slices_S256x2048_S256x1024_0_0) main_arg1
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  (main_v4, main_v9)
-- ==== Pre_finite_scores.lean ====
abbrev S8192x12288 : Shape := ⟨2, ![8192, 12288]⟩
abbrev S256x2048 : Shape := ⟨2, ![256, 2048]⟩
abbrev S8192x1024 : Shape := ⟨2, ![8192, 1024]⟩
abbrev S_ : Shape := ⟨0, ![]⟩
abbrev S256x1024 : Shape := ⟨2, ![256, 1024]⟩

class Facts : Prop where
  slices_S8192x12288_S8192x1024_0_5120 : S8192x12288.Slices ![0, 5120] S8192x1024
  bitsLt_bf16_f32 : FTy.bits .bf16 < FTy.bits .f32
  bcast_S_S8192x1024 : S_.BroadcastsInDim S8192x1024 (![] : Fin 0 → Fin S8192x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S8192x12288 .bf16) (main_arg1 : FVec F S256x2048 .bf16) (main_arg2 : FVec F S8192x1024 .bf16) (main_arg3 : FVec F S8192x12288 .bf16) : IVec S8192x1024 1 × IVec S256x1024 1 :=
  let main_v0 : FVec F S8192x1024 .bf16 := (extractStridedSlice S8192x1024 ![0, 5120] · slices_S8192x12288_S8192x1024_0_5120) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S256x1024 .bf16 := (extractStridedSlice S256x1024 ![0, 0] · slices_S256x2048_S256x1024_0_0) main_arg1
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  (main_v4, main_v9)
-- ==== MemBwd.lean ====
abbrev S8192x12288 : Shape := ⟨2, ![8192, 12288]⟩
abbrev S256x2048 : Shape := ⟨2, ![256, 2048]⟩
abbrev S8192x1024 : Shape := ⟨2, ![8192, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x12288, .bf16⟩
  | .hbm, ⟨1, _⟩ => ⟨S256x2048, .bf16⟩
  | .hbm, ⟨2, _⟩ => ⟨S8192x1024, .bf16⟩
  | .hbm, ⟨3, _⟩ => ⟨S8192x12288, .bf16⟩
  | .hbm, ⟨4, _⟩ => ⟨S8192x12288, .bf16⟩
  | .hbm, ⟨5, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemGradIdeal.lean ====
abbrev S8192x12288 : Shape := ⟨2, ![8192, 12288]⟩
abbrev S256x2048 : Shape := ⟨2, ![256, 2048]⟩
abbrev S8192x1024 : Shape := ⟨2, ![8192, 1024]⟩
abbrev S1x256x2x4x256 : Shape := ⟨5, ![1, 256, 2, 4, 256]⟩
abbrev S1x8192x4x256 : Shape := ⟨4, ![1, 8192, 4, 256]⟩
abbrev S1x256x1x4x256 : Shape := ⟨5, ![1, 256, 1, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩
abbrev S1x8192x1024 : Shape := ⟨3, ![1, 8192, 1024]⟩
abbrev S1x4x256x256 : Shape := ⟨4, ![1, 4, 256, 256]⟩
abbrev S4x8192 : Shape := ⟨2, ![4, 8192]⟩
abbrev S8192x5120 : Shape := ⟨2, ![8192, 5120]⟩
abbrev S8192x6144 : Shape := ⟨2, ![8192, 6144]⟩

abbrev nBuf : Space → Nat
  | .hbm => 101
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S256x2048, .bf16⟩
  | .hbm, ⟨2, _⟩ => ⟨S8192x1024, .bf16⟩
  | .hbm, ⟨3, _⟩ => ⟨S8192x12288, .bf16⟩
  | .hbm, ⟨4, _⟩ => ⟨S8192x1024, .bf16⟩
  | .hbm, ⟨5, _⟩ => ⟨S8192x1024, .f32⟩
  | .hbm, ⟨6, _⟩ => ⟨S256x2048, .f32⟩
  | .hbm, ⟨7, _⟩ => ⟨S1x256x2x4x256, .f32⟩
  | .hbm, ⟨8, _⟩ => ⟨S1x8192x4x256, .f32⟩
  | .hbm, ⟨9, _⟩ => ⟨S1x256x1x4x256, .f32⟩
  | .hbm, ⟨10, _⟩ => ⟨S1x256x4x256, .f32⟩
  | .hbm, ⟨11, _⟩ => ⟨S1x256x1x4x256, .f32⟩
  | .hbm, ⟨12, _⟩ => ⟨S1x256x4x256, .f32⟩
  | .hbm, ⟨13, _⟩ => ⟨S1x4x8192x256, .f32⟩
  | .hbm, ⟨14, _⟩ => ⟨S_, .f32⟩
  | .hbm, ⟨15, _⟩ => ⟨S1x4x8192x256, .f32⟩
  | .hbm, ⟨16, _⟩ => ⟨S1x4x8192x256, .f32⟩
  | .hbm, ⟨17, _⟩ => ⟨S_, .f32⟩
  | .hbm, ⟨18, _⟩ => ⟨S1x4x8192, .f32⟩
  | .hbm, ⟨19, _⟩ => ⟨S1x4x8192x1, .f32⟩
  | .hbm, ⟨20, _⟩ => ⟨S1x4x8192x256, .f32⟩
  | .hbm, ⟨21, _⟩ => ⟨S1x4x8192x256, .i1⟩
  | .hbm, ⟨22, _⟩ => ⟨S1x4x8192x256, .f32⟩
  | .hbm, ⟨23, _⟩ => ⟨S_, .f32⟩
  | .hbm, ⟨24, _⟩ => ⟨S1x4x8192, .f32⟩
  | .hbm, ⟨25, _⟩ => ⟨S_, .f32⟩
  | .hbm, ⟨26, _⟩ => ⟨S1x4x8192, .f32⟩
  | .hbm, ⟨27, _⟩ => ⟨S1x4x8192, .f32⟩
  | .hbm, ⟨28, _⟩ => ⟨S_, .f32⟩
  | .hbm, ⟨29, _⟩ => ⟨S1x4x8192, .f32⟩
  | .hbm, ⟨30, _⟩ => ⟨S1x4x8192, .i1⟩
  | .hbm, ⟨31, _⟩ => ⟨S_, .f32⟩
  | .hbm, ⟨32, _⟩ => ⟨S1x4x8192, .f32⟩
  | .hbm, ⟨33, _⟩ => ⟨S1x4x8192, .i1⟩
  | .hbm, ⟨34, _⟩ => ⟨S_, .f32⟩
  | .hbm, ⟨35, _⟩ => ⟨S1x4x8192, .f32⟩
  | .hbm, ⟨36, _⟩ => ⟨S_, .f32⟩
  | .hbm, ⟨37, _⟩ => ⟨S1x4x8192, .f32⟩
  | .hbm, ⟨38, _⟩ => ⟨S_, .f32⟩
  | .hbm, ⟨39, _⟩ => ⟨S1x4x8192, .f32⟩
  | .hbm, ⟨40, _⟩ => ⟨S1x4x8192, .f32⟩
  | .hbm, ⟨41, _⟩ => ⟨S1x4x8192, .f32⟩
  | .hbm, ⟨42, _⟩ => ⟨S1x4x8192x1, .f32⟩
  | .hbm, ⟨43, _⟩ => ⟨S1x4x8192x256, .f32⟩
  | .hbm, ⟨44, _⟩ => ⟨S1x4x8192x256, .f32⟩
  | .hbm, ⟨45, _⟩ => ⟨S1x4x8192x256, .f32⟩
  | .hbm, ⟨46, _⟩ => ⟨S_, .f32⟩
  | .hbm, ⟨47, _⟩ => ⟨S1x4x8192, .f32⟩
  | .hbm, ⟨48, _⟩ => ⟨S1x4x8192x1, .f32⟩
  | .hbm, ⟨49, _⟩ => ⟨S1x4x8192x256, .f32⟩
  | .hbm, ⟨50, _⟩ => ⟨S1x4x8192x256, .f32⟩
  | .hbm, ⟨51, _⟩ => ⟨S1x4x8192x1, .f32⟩
  | .hbm, ⟨52, _⟩ => ⟨S_, .f32⟩
  | .hbm, ⟨53, _⟩ => ⟨S1x4x8192x1, .f32⟩
  | .hbm, ⟨54, _⟩ => ⟨S1x4x8192x1, .f32⟩
  | .hbm, ⟨55, _⟩ => ⟨S1x4x256x8192, .f32⟩
  | .hbm, ⟨56, _⟩ => ⟨S1x8192x4x256, .f32⟩
  | .hbm, ⟨57, _⟩ => ⟨S1x8192x1024, .f32⟩
  | .hbm, ⟨58, _⟩ => ⟨S8192x1024, .f32⟩
  | .hbm, ⟨59, _⟩ => ⟨S8192x1024, .f32⟩
  | .hbm, ⟨60, _⟩ => ⟨S1x8192x1024, .f32⟩
  | .hbm, ⟨61, _⟩ => ⟨S1x8192x4x256, .f32⟩
  | .hbm, ⟨62, _⟩ => ⟨S1x4x256x8192, .f32⟩
  | .hbm, ⟨63, _⟩ => ⟨S1x4x8192x256, .f32⟩
  | .hbm, ⟨64, _⟩ => ⟨S1x4x256x256, .f32⟩
  | .hbm, ⟨65, _⟩ => ⟨S1x256x4x256, .f32⟩
  | .hbm, ⟨66, _⟩ => ⟨S1x4x8192x256, .f32⟩
  | .hbm, ⟨67, _⟩ => ⟨S1x4x8192x256, .f32⟩
  | .hbm, ⟨68, _⟩ => ⟨S1x4x8192x256, .f32⟩
  | .hbm, ⟨69, _⟩ => ⟨S_, .f32⟩
  | .hbm, ⟨70, _⟩ => ⟨S1x4x8192, .f32⟩
  | .hbm, ⟨71, _⟩ => ⟨S1x4x8192x1, .f32⟩
  | .hbm, ⟨72, _⟩ => ⟨S1x4x8192x1, .f32⟩
  | .hbm, ⟨73, _⟩ => ⟨S1x4x8192x256, .f32⟩
  | .hbm, ⟨74, _⟩ => ⟨S1x4x8192x256, .f32⟩
  | .hbm, ⟨75, _⟩ => ⟨S_, .f32⟩
  | .hbm, ⟨76, _⟩ => ⟨S4x8192, .f32⟩
  | .hbm, ⟨77, _⟩ => ⟨S1x4x8192, .f32⟩
  | .hbm, ⟨78, _⟩ => ⟨S1x4x8192x256, .f32⟩
  | .hbm, ⟨79, _⟩ => ⟨S1x4x8192x256, .f32⟩
  | .hbm, ⟨80, _⟩ => ⟨S1x4x8192x256, .f32⟩
  | .hbm, ⟨81, _⟩ => ⟨S_, .f32⟩
  | .hbm, ⟨82, _⟩ => ⟨S1x4x8192x256, .f32⟩
  | .hbm, ⟨83, _⟩ => ⟨S1x4x8192x256, .f32⟩
  | .hbm, ⟨84, _⟩ => ⟨S1x4x256x256, .f32⟩
  | .hbm, ⟨85, _⟩ => ⟨S1x256x4x256, .f32⟩
  | .hbm, ⟨86, _⟩ => ⟨S1x4x8192x256, .f32⟩
  | .hbm, ⟨87, _⟩ => ⟨S1x8192x4x256, .f32⟩
  | .hbm, ⟨88, _⟩ => ⟨S1x256x1x4x256, .f32⟩
  | .hbm, ⟨89, _⟩ => ⟨S_, .f32⟩
  | .hbm, ⟨90, _⟩ => ⟨S1x256x2x4x256, .f32⟩
  | .hbm, ⟨91, _⟩ => ⟨S1x256x1x4x256, .f32⟩
  | .hbm, ⟨92, _⟩ => ⟨S_, .f32⟩
  | .hbm, ⟨93, _⟩ => ⟨S1x256x2x4x256, .f32⟩
  | .hbm, ⟨94, _⟩ => ⟨S1x256x2x4x256, .f32⟩
  | .hbm, ⟨95, _⟩ => ⟨S8192x1024, .f32⟩
  | .hbm, ⟨96, _⟩ => ⟨S256x2048, .f32⟩
  | .hbm, ⟨97, _⟩ => ⟨S8192x5120, .bf16⟩
  | .hbm, ⟨98, _⟩ => ⟨S8192x1024, .bf16⟩
  | .hbm, ⟨99, _⟩ => ⟨S8192x6144, .bf16⟩
  | .hbm, ⟨100, _⟩ => ⟨S8192x12288, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== DxnBwd.lean ====
abbrev S8192x12288 : Shape := ⟨2, ![8192, 12288]⟩
abbrev S8x2048x1536 : Shape := ⟨3, ![8, 2048, 1536]⟩
abbrev S8192x2048 : Shape := ⟨2, ![8192, 2048]⟩
abbrev S1024x3072 : Shape := ⟨2, ![1024, 3072]⟩
abbrev S2x1024x1536 : Shape := ⟨3, ![2, 1024, 1536]⟩
abbrev S1024x1024 : Shape := ⟨2, ![1024, 1024]⟩
abbrev S1024x1536 : Shape := ⟨2, ![1024, 1536]⟩
abbrev S1x1024x1536 : Shape := ⟨3, ![1, 1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x12288, .bf16⟩
  | .hbm, ⟨1, _⟩ => ⟨S8x2048x1536, .bf16⟩
  | .hbm, ⟨2, _⟩ => ⟨S8192x2048, .bf16⟩
  | .local _ .vmem, ⟨0, _⟩ => ⟨S1024x3072, .bf16⟩
  | .local _ .vmem, ⟨1, _⟩ => ⟨S1024x3072, .bf16⟩
  | .local _ .vmem, ⟨2, _⟩ => ⟨S2x1024x1536, .bf16⟩
  | .local _ .vmem, ⟨3, _⟩ => ⟨S2x1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_11 : BitVec 32 := 3#32
  let v17 : BitVec 1 := Scalar.cmpi .eq arg2 c3_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxnGradIdeal.lean ====
abbrev S8192x12288 : Shape := ⟨2, ![8192, 12288]⟩
abbrev S8x2048x1536 : Shape := ⟨3, ![8, 2048, 1536]⟩
abbrev S_ : Shape := ⟨0, ![]⟩
abbrev S8192x2048 : Shape := ⟨2, ![8192, 2048]⟩
abbrev S2048x8x1536 : Shape := ⟨3, ![2048, 8, 1536]⟩
abbrev S2048x12288 : Shape := ⟨2, ![2048, 12288]⟩
abbrev S12288x2048 : Shape := ⟨2, ![12288, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S8x2048x1536, .bf16⟩
  | .hbm, ⟨2, _⟩ => ⟨S_, .f32⟩
  | .hbm, ⟨3, _⟩ => ⟨S8192x2048, .f32⟩
  | .hbm, ⟨4, _⟩ => ⟨S8x2048x1536, .f32⟩
  | .hbm, ⟨5, _⟩ => ⟨S2048x8x1536, .f32⟩
  | .hbm, ⟨6, _⟩ => ⟨S2048x12288, .f32⟩
  | .hbm, ⟨7, _⟩ => ⟨S8192x12288, .f32⟩
  | .hbm, ⟨8, _⟩ => ⟨S8192x12288, .f32⟩
  | .hbm, ⟨9, _⟩ => ⟨S12288x2048, .f32⟩
  | .hbm, ⟨10, _⟩ => ⟨S2048x12288, .f32⟩
  | .hbm, ⟨11, _⟩ => ⟨S8192x2048, .f32⟩
  | .hbm, ⟨12, _⟩ => ⟨S2048x8x1536, .f32⟩
  | .hbm, ⟨13, _⟩ => ⟨S8x2048x1536, .f32⟩
  | .hbm, ⟨14, _⟩ => ⟨S8192x2048, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== GwinBwd.lean ====
abbrev S8192x2048 : Shape := ⟨2, ![8192, 2048]⟩
abbrev S8192x12288 : Shape := ⟨2, ![8192, 12288]⟩
abbrev S8x2048x1536 : Shape := ⟨3, ![8, 2048, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S8x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwinGradIdeal.lean ====
abbrev S8192x2048 : Shape := ⟨2, ![8192, 2048]⟩
abbrev S8192x12288 : Shape := ⟨2, ![8192, 12288]⟩
abbrev S_ : Shape := ⟨0, ![]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S12288x2048 : Shape := ⟨2, ![12288, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S_, .f32⟩
  | .hbm, ⟨3, _⟩ => ⟨S8x2048x1536, .f32⟩
  | .hbm, ⟨4, _⟩ => ⟨S8192x2048, .f32⟩
  | .hbm, ⟨5, _⟩ => ⟨S2048x8x1536, .f32⟩
  | .hbm, ⟨6, _⟩ => ⟨S2048x12288, .f32⟩
  | .hbm, ⟨7, _⟩ => ⟨S8192x12288, .f32⟩
  | .hbm, ⟨8, _⟩ => ⟨S8192x12288, .f32⟩
  | .hbm, ⟨9, _⟩ => ⟨S12288x2048, .f32⟩
  | .hbm, ⟨10, _⟩ => ⟨S2048x12288, .f32⟩
  | .hbm, ⟨11, _⟩ => ⟨S8192x2048, .f32⟩
  | .hbm, ⟨12, _⟩ => ⟨S2048x8x1536, .f32⟩
  | .hbm, ⟨13, _⟩ => ⟨S8x2048x1536, .f32⟩
  | .hbm, ⟨14, _⟩ => ⟨S8x2048x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DhnBwd.lean ====
abbrev S2x8192x5632 : Shape := ⟨3, ![2, 8192, 5632]⟩
abbrev S8x2048x1408 : Shape := ⟨3, ![8, 2048, 1408]⟩
abbrev S8192x2048 : Shape := ⟨2, ![8192, 2048]⟩
abbrev S1x1024x2816 : Shape := ⟨3, ![1, 1024, 2816]⟩
abbrev S2x1024x1408 : Shape := ⟨3, ![2, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S8x2048x1408, .bf16⟩
  | .hbm, ⟨2, _⟩ => ⟨S8192x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_13 : BitVec 32 := 3#32
  let v19 : BitVec 1 := Scalar.cmpi .eq arg2 c3_i32_13
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhnGradIdeal.lean ====
abbrev S2x8192x5632 : Shape := ⟨3, ![2, 8192, 5632]⟩
abbrev S8x2048x1408 : Shape := ⟨3, ![8, 2048, 1408]⟩
abbrev S8192x2x5632 : Shape := ⟨3, ![8192, 2, 5632]⟩
abbrev S8192x11264 : Shape := ⟨2, ![8192, 11264]⟩
abbrev S_ : Shape := ⟨0, ![]⟩
abbrev S8192x2048 : Shape := ⟨2, ![8192, 2048]⟩
abbrev S2048x8x1408 : Shape := ⟨3, ![2048, 8, 1408]⟩
abbrev S2048x11264 : Shape := ⟨2, ![2048, 11264]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S8x2048x1408, .bf16⟩
  | .hbm, ⟨2, _⟩ => ⟨S8192x2x5632, .bf16⟩
  | .hbm, ⟨3, _⟩ => ⟨S8192x11264, .bf16⟩
  | .hbm, ⟨4, _⟩ => ⟨S_, .f32⟩
  | .hbm, ⟨5, _⟩ => ⟨S8192x2048, .f32⟩
  | .hbm, ⟨6, _⟩ => ⟨S8x2048x1408, .f32⟩
  | .hbm, ⟨7, _⟩ => ⟨S2048x8x1408, .f32⟩
  | .hbm, ⟨8, _⟩ => ⟨S2048x11264, .f32⟩
  | .hbm, ⟨9, _⟩ => ⟨S8192x11264, .f32⟩
  | .hbm, ⟨10, _⟩ => ⟨S8192x11264, .f32⟩
  | .hbm, ⟨11, _⟩ => ⟨S11264x2048, .f32⟩
  | .hbm, ⟨12, _⟩ => ⟨S2048x11264, .f32⟩
  | .hbm, ⟨13, _⟩ => ⟨S8192x2048, .f32⟩
  | .hbm, ⟨14, _⟩ => ⟨S2048x8x1408, .f32⟩
  | .hbm, ⟨15, _⟩ => ⟨S8x2048x1408, .f32⟩
  | .hbm, ⟨16, _⟩ => ⟨S8192x2048, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== GwupBwd.lean ====
abbrev S8192x2048 : Shape := ⟨2, ![8192, 2048]⟩
abbrev S2x8192x5632 : Shape := ⟨3, ![2, 8192, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwupGradIdeal.lean ====
abbrev S8192x2048 : Shape := ⟨2, ![8192, 2048]⟩
abbrev S2x8192x5632 : Shape := ⟨3, ![2, 8192, 5632]⟩
abbrev S8192x2x5632 : Shape := ⟨3, ![8192, 2, 5632]⟩
abbrev S8192x11264 : Shape := ⟨2, ![8192, 11264]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8192x2x5632, .bf16⟩
  | .hbm, ⟨3, _⟩ => ⟨S8192x11264, .bf16⟩
  | .hbm, ⟨4, _⟩ => ⟨S_, .f32⟩
  | .hbm, ⟨5, _⟩ => ⟨S8x2048x1408, .f32⟩
  | .hbm, ⟨6, _⟩ => ⟨S8192x2048, .f32⟩
  | .hbm, ⟨7, _⟩ => ⟨S2048x8x1408, .f32⟩
  | .hbm, ⟨8, _⟩ => ⟨S2048x11264, .f32⟩
  | .hbm, ⟨9, _⟩ => ⟨S8192x11264, .f32⟩
  | .hbm, ⟨10, _⟩ => ⟨S8192x11264, .f32⟩
  | .hbm, ⟨11, _⟩ => ⟨S11264x2048, .f32⟩
  | .hbm, ⟨12, _⟩ => ⟨S2048x11264, .f32⟩
  | .hbm, ⟨13, _⟩ => ⟨S8192x2048, .f32⟩
  | .hbm, ⟨14, _⟩ => ⟨S2048x8x1408, .f32⟩
  | .hbm, ⟨15, _⟩ => ⟨S8x2048x1408, .f32⟩
  | .hbm, ⟨16, _⟩ => ⟨S8x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== DactBwd.lean ====
abbrev S8192x2048 : Shape := ⟨2, ![8192, 2048]⟩
abbrev S1x5632x2048 : Shape := ⟨3, ![1, 5632, 2048]⟩
abbrev S8192x5632 : Shape := ⟨2, ![8192, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactGradIdeal.lean ====
abbrev S8192x2048 : Shape := ⟨2, ![8192, 2048]⟩
abbrev S1x5632x2048 : Shape := ⟨3, ![1, 5632, 2048]⟩
abbrev S_ : Shape := ⟨0, ![]⟩
abbrev S8192x5632 : Shape := ⟨2, ![8192, 5632]⟩
abbrev S5632x1x2048 : Shape := ⟨3, ![5632, 1, 2048]⟩
abbrev S5632x2048 : Shape := ⟨2, ![5632, 2048]⟩
abbrev S2048x5632 : Shape := ⟨2, ![2048, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x5632x2048, .bf16⟩
  | .hbm, ⟨2, _⟩ => ⟨S_, .f32⟩
  | .hbm, ⟨3, _⟩ => ⟨S8192x5632, .f32⟩
  | .hbm, ⟨4, _⟩ => ⟨S1x5632x2048, .f32⟩
  | .hbm, ⟨5, _⟩ => ⟨S5632x1x2048, .f32⟩
  | .hbm, ⟨6, _⟩ => ⟨S5632x2048, .f32⟩
  | .hbm, ⟨7, _⟩ => ⟨S8192x2048, .f32⟩
  | .hbm, ⟨8, _⟩ => ⟨S8192x2048, .f32⟩
  | .hbm, ⟨9, _⟩ => ⟨S2048x5632, .f32⟩
  | .hbm, ⟨10, _⟩ => ⟨S5632x2048, .f32⟩
  | .hbm, ⟨11, _⟩ => ⟨S8192x5632, .f32⟩
  | .hbm, ⟨12, _⟩ => ⟨S5632x1x2048, .f32⟩
  | .hbm, ⟨13, _⟩ => ⟨S1x5632x2048, .f32⟩
  | .hbm, ⟨14, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== GwdownBwd.lean ====
abbrev S8192x5632 : Shape := ⟨2, ![8192, 5632]⟩
abbrev S8192x2048 : Shape := ⟨2, ![8192, 2048]⟩
abbrev S1x5632x2048 : Shape := ⟨3, ![1, 5632, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S1x5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwdownGradIdeal.lean ====
abbrev S8192x5632 : Shape := ⟨2, ![8192, 5632]⟩
abbrev S8192x2048 : Shape := ⟨2, ![8192, 2048]⟩
abbrev S_ : Shape := ⟨0, ![]⟩
abbrev S1x5632x2048 : Shape := ⟨3, ![1, 5632, 2048]⟩
abbrev S5632x1x2048 : Shape := ⟨3, ![5632, 1, 2048]⟩
abbrev S5632x2048 : Shape := ⟨2, ![5632, 2048]⟩
abbrev S2048x5632 : Shape := ⟨2, ![2048, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S1x5632x2048, .f32⟩
  | .hbm, ⟨4, _⟩ => ⟨S8192x5632, .f32⟩
  | .hbm, ⟨5, _⟩ => ⟨S5632x1x2048, .f32⟩
  | .hbm, ⟨6, _⟩ => ⟨S5632x2048, .f32⟩
  | .hbm, ⟨7, _⟩ => ⟨S8192x2048, .f32⟩
  | .hbm, ⟨8, _⟩ => ⟨S8192x2048, .f32⟩
  | .hbm, ⟨9, _⟩ => ⟨S2048x5632, .f32⟩
  | .hbm, ⟨10, _⟩ => ⟨S5632x2048, .f32⟩
  | .hbm, ⟨11, _⟩ => ⟨S8192x5632, .f32⟩
  | .hbm, ⟨12, _⟩ => ⟨S5632x1x2048, .f32⟩
  | .hbm, ⟨13, _⟩ => ⟨S1x5632x2048, .f32⟩
  | .hbm, ⟨14, _⟩ => ⟨S1x5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DmergedBwd.lean ====
abbrev S8192x2048 : Shape := ⟨2, ![8192, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedGradIdeal.lean ====
abbrev S8192x2048 : Shape := ⟨2, ![8192, 2048]⟩
abbrev S1x2048x2048 : Shape := ⟨3, ![1, 2048, 2048]⟩
abbrev S_ : Shape := ⟨0, ![]⟩
abbrev S2048x1x2048 : Shape := ⟨3, ![2048, 1, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S_, .f32⟩
  | .hbm, ⟨3, _⟩ => ⟨S8192x2048, .f32⟩
  | .hbm, ⟨4, _⟩ => ⟨S1x2048x2048, .f32⟩
  | .hbm, ⟨5, _⟩ => ⟨S2048x1x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S2048x1x2048, .f32⟩
  | .hbm, ⟨13, _⟩ => ⟨S1x2048x2048, .f32⟩
  | .hbm, ⟨14, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== GwoBwd.lean ====
abbrev S8192x2048 : Shape := ⟨2, ![8192, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwoGradIdeal.lean ====
abbrev S8192x2048 : Shape := ⟨2, ![8192, 2048]⟩
abbrev S_ : Shape := ⟨0, ![]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S1x2048x2048, .f32⟩
  | .hbm, ⟨4, _⟩ => ⟨S8192x2048, .f32⟩
  | .hbm, ⟨5, _⟩ => ⟨S2048x1x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S2048x1x2048, .f32⟩
  | .hbm, ⟨13, _⟩ => ⟨S1x2048x2048, .f32⟩
  | .hbm, ⟨14, _⟩ => ⟨S1x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== WinFwd.lean ====
abbrev S8192x2048 : Shape := ⟨2, ![8192, 2048]⟩
abbrev S8x2048x1536 : Shape := ⟨3, ![8, 2048, 1536]⟩
abbrev S8192x12288 : Shape := ⟨2, ![8192, 12288]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x1536, .bf16⟩
  | .hbm, ⟨2, _⟩ => ⟨S8192x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .bf16⟩
  | .local _ .vmem, ⟨5, _⟩ => ⟨S1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S8192x2048 : Shape := ⟨2, ![8192, 2048]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S8192x12288 : Shape := ⟨2, ![8192, 12288]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1536, .bf16⟩
  | .hbm, ⟨2, _⟩ => ⟨S8192x2048, .f32⟩
  | .hbm, ⟨3, _⟩ => ⟨S8x2048x1536, .f32⟩
  | .hbm, ⟨4, _⟩ => ⟨S2048x8x1536, .f32⟩
  | .hbm, ⟨5, _⟩ => ⟨S2048x12288, .f32⟩
  | .hbm, ⟨6, _⟩ => ⟨S8192x12288, .f32⟩
  | .hbm, ⟨7, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== WupFwd.lean ====
abbrev S8192x2048 : Shape := ⟨2, ![8192, 2048]⟩
abbrev S8x2048x1408 : Shape := ⟨3, ![8, 2048, 1408]⟩
abbrev S8192x11264 : Shape := ⟨2, ![8192, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WupRefIdeal.lean ====
abbrev S8192x2048 : Shape := ⟨2, ![8192, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8192x11264 : Shape := ⟨2, ![8192, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S8192x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S8192x11264, .f32⟩
  | .hbm, ⟨7, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== WdownFwd.lean ====
abbrev S8192x5632 : Shape := ⟨2, ![8192, 5632]⟩
abbrev S1x5632x2048 : Shape := ⟨3, ![1, 5632, 2048]⟩
abbrev S8192x2048 : Shape := ⟨2, ![8192, 2048]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WdownRefIdeal.lean ====
abbrev S8192x5632 : Shape := ⟨2, ![8192, 5632]⟩
abbrev S1x5632x2048 : Shape := ⟨3, ![1, 5632, 2048]⟩
abbrev S8192x2048 : Shape := ⟨2, ![8192, 2048]⟩
abbrev S5632x1x2048 : Shape := ⟨3, ![5632, 1, 2048]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .bf16⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x1x2048, .f32⟩
  | .hbm, ⟨6, _⟩ => ⟨S5632x2048, .f32⟩
  | .hbm, ⟨7, _⟩ => ⟨S8192x2048, .f32⟩
  | .hbm, ⟨8, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WoFwd.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WoRefIdeal.lean ====
abbrev S8192x2048 : Shape := ⟨2, ![8192, 2048]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x1x2048, .f32⟩
  | .hbm, ⟨6, _⟩ => ⟨S2048x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchFwd.lean ====
abbrev S8192x1024 : Shape := ⟨2, ![8192, 1024]⟩
abbrev S1x1024x2048 : Shape := ⟨3, ![1, 1024, 2048]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S8192x1024 : Shape := ⟨2, ![8192, 1024]⟩
abbrev S1x1024x2048 : Shape := ⟨3, ![1, 1024, 2048]⟩
abbrev S1024x1x2048 : Shape := ⟨3, ![1024, 1, 2048]⟩
abbrev S1024x2048 : Shape := ⟨2, ![1024, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x2048, .bf16⟩
  | .hbm, ⟨2, _⟩ => ⟨S8192x1024, .f32⟩
  | .hbm, ⟨3, _⟩ => ⟨S1x1024x2048, .f32⟩
  | .hbm, ⟨4, _⟩ => ⟨S1024x1x2048, .f32⟩
  | .hbm, ⟨5, _⟩ => ⟨S1024x2048, .f32⟩
  | .hbm, ⟨6, _⟩ => ⟨S8192x2048, .f32⟩
  | .hbm, ⟨7, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DconvBwd.lean ====
abbrev S3x8192x2048 : Shape := ⟨3, ![3, 8192, 2048]⟩
abbrev S1x1024x2048 : Shape := ⟨3, ![1, 1024, 2048]⟩
abbrev S8192x1024 : Shape := ⟨2, ![8192, 1024]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S3x8192x2048, .bf16⟩
  | .hbm, ⟨1, _⟩ => ⟨S1x1024x2048, .bf16⟩
  | .hbm, ⟨2, _⟩ => ⟨S8192x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1024x1024, .bf16⟩
  | .local _ .vmem, ⟨4, _⟩ => ⟨S1024x1024, .bf16⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DconvGradIdeal.lean ====
abbrev S3x8192x2048 : Shape := ⟨3, ![3, 8192, 2048]⟩
abbrev S1x1024x2048 : Shape := ⟨3, ![1, 1024, 2048]⟩
abbrev S1x8192x2048 : Shape := ⟨3, ![1, 8192, 2048]⟩
abbrev S8192x2048 : Shape := ⟨2, ![8192, 2048]⟩
abbrev S_ : Shape := ⟨0, ![]⟩
abbrev S8192x1024 : Shape := ⟨2, ![8192, 1024]⟩
abbrev S1024x1x2048 : Shape := ⟨3, ![1024, 1, 2048]⟩
abbrev S1024x2048 : Shape := ⟨2, ![1024, 2048]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S1x1024x2048, .bf16⟩
  | .hbm, ⟨2, _⟩ => ⟨S1x8192x2048, .bf16⟩
  | .hbm, ⟨3, _⟩ => ⟨S8192x2048, .bf16⟩
  | .hbm, ⟨4, _⟩ => ⟨S_, .f32⟩
  | .hbm, ⟨5, _⟩ => ⟨S8192x1024, .f32⟩
  | .hbm, ⟨6, _⟩ => ⟨S1x1024x2048, .f32⟩
  | .hbm, ⟨7, _⟩ => ⟨S1024x1x2048, .f32⟩
  | .hbm, ⟨8, _⟩ => ⟨S1024x2048, .f32⟩
  | .hbm, ⟨9, _⟩ => ⟨S8192x2048, .f32⟩
  | .hbm, ⟨10, _⟩ => ⟨S8192x2048, .f32⟩
  | .hbm, ⟨11, _⟩ => ⟨S2048x1024, .f32⟩
  | .hbm, ⟨12, _⟩ => ⟨S1024x2048, .f32⟩
  | .hbm, ⟨13, _⟩ => ⟨S8192x1024, .f32⟩
  | .hbm, ⟨14, _⟩ => ⟨S1024x1x2048, .f32⟩
  | .hbm, ⟨15, _⟩ => ⟨S1x1024x2048, .f32⟩
  | .hbm, ⟨16, _⟩ => ⟨S8192x1024, .bf16⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== GconvBwd.lean ====
abbrev S8192x1024 : Shape := ⟨2, ![8192, 1024]⟩
abbrev S3x8192x2048 : Shape := ⟨3, ![3, 8192, 2048]⟩
abbrev S1x1024x2048 : Shape := ⟨3, ![1, 1024, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S3x8192x2048, .bf16⟩
  | .hbm, ⟨2, _⟩ => ⟨S1x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GconvGradIdeal.lean ====
abbrev S8192x1024 : Shape := ⟨2, ![8192, 1024]⟩
abbrev S3x8192x2048 : Shape := ⟨3, ![3, 8192, 2048]⟩
abbrev S1x8192x2048 : Shape := ⟨3, ![1, 8192, 2048]⟩
abbrev S8192x2048 : Shape := ⟨2, ![8192, 2048]⟩
abbrev S_ : Shape := ⟨0, ![]⟩
abbrev S1x1024x2048 : Shape := ⟨3, ![1, 1024, 2048]⟩
abbrev S1024x1x2048 : Shape := ⟨3, ![1024, 1, 2048]⟩
abbrev S1024x2048 : Shape := ⟨2, ![1024, 2048]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x2048, .bf16⟩
  | .hbm, ⟨2, _⟩ => ⟨S1x8192x2048, .bf16⟩
  | .hbm, ⟨3, _⟩ => ⟨S8192x2048, .bf16⟩
  | .hbm, ⟨4, _⟩ => ⟨S_, .f32⟩
  | .hbm, ⟨5, _⟩ => ⟨S1x1024x2048, .f32⟩
  | .hbm, ⟨6, _⟩ => ⟨S8192x1024, .f32⟩
  | .hbm, ⟨7, _⟩ => ⟨S1024x1x2048, .f32⟩
  | .hbm, ⟨8, _⟩ => ⟨S1024x2048, .f32⟩
  | .hbm, ⟨9, _⟩ => ⟨S8192x2048, .f32⟩
  | .hbm, ⟨10, _⟩ => ⟨S8192x2048, .f32⟩
  | .hbm, ⟨11, _⟩ => ⟨S2048x1024, .f32⟩
  | .hbm, ⟨12, _⟩ => ⟨S1024x2048, .f32⟩
  | .hbm, ⟨13, _⟩ => ⟨S8192x1024, .f32⟩
  | .hbm, ⟨14, _⟩ => ⟨S1024x1x2048, .f32⟩
  | .hbm, ⟨15, _⟩ => ⟨S1x1024x2048, .f32⟩
  | .hbm, ⟨16, _⟩ => ⟨S1x1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== DattnBwd.lean ====
abbrev S3x8192x2048 : Shape := ⟨3, ![3, 8192, 2048]⟩
abbrev S1x1024x2048 : Shape := ⟨3, ![1, 1024, 2048]⟩
abbrev S8192x1024 : Shape := ⟨2, ![8192, 1024]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S3x8192x2048, .bf16⟩
  | .hbm, ⟨1, _⟩ => ⟨S1x1024x2048, .bf16⟩
  | .hbm, ⟨2, _⟩ => ⟨S8192x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1024x1024, .bf16⟩
  | .local _ .vmem, ⟨4, _⟩ => ⟨S1024x1024, .bf16⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DattnGradIdeal.lean ====
abbrev S3x8192x2048 : Shape := ⟨3, ![3, 8192, 2048]⟩
abbrev S1x1024x2048 : Shape := ⟨3, ![1, 1024, 2048]⟩
abbrev S1x8192x2048 : Shape := ⟨3, ![1, 8192, 2048]⟩
abbrev S8192x2048 : Shape := ⟨2, ![8192, 2048]⟩
abbrev S_ : Shape := ⟨0, ![]⟩
abbrev S8192x1024 : Shape := ⟨2, ![8192, 1024]⟩
abbrev S1024x1x2048 : Shape := ⟨3, ![1024, 1, 2048]⟩
abbrev S1024x2048 : Shape := ⟨2, ![1024, 2048]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S1x1024x2048, .bf16⟩
  | .hbm, ⟨2, _⟩ => ⟨S1x8192x2048, .bf16⟩
  | .hbm, ⟨3, _⟩ => ⟨S8192x2048, .bf16⟩
  | .hbm, ⟨4, _⟩ => ⟨S_, .f32⟩
  | .hbm, ⟨5, _⟩ => ⟨S8192x1024, .f32⟩
  | .hbm, ⟨6, _⟩ => ⟨S1x1024x2048, .f32⟩
  | .hbm, ⟨7, _⟩ => ⟨S1024x1x2048, .f32⟩
  | .hbm, ⟨8, _⟩ => ⟨S1024x2048, .f32⟩
  | .hbm, ⟨9, _⟩ => ⟨S8192x2048, .f32⟩
  | .hbm, ⟨10, _⟩ => ⟨S8192x2048, .f32⟩
  | .hbm, ⟨11, _⟩ => ⟨S2048x1024, .f32⟩
  | .hbm, ⟨12, _⟩ => ⟨S1024x2048, .f32⟩
  | .hbm, ⟨13, _⟩ => ⟨S8192x1024, .f32⟩
  | .hbm, ⟨14, _⟩ => ⟨S1024x1x2048, .f32⟩
  | .hbm, ⟨15, _⟩ => ⟨S1x1024x2048, .f32⟩
  | .hbm, ⟨16, _⟩ => ⟨S8192x1024, .bf16⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== GattnBwd.lean ====
abbrev S8192x1024 : Shape := ⟨2, ![8192, 1024]⟩
abbrev S3x8192x2048 : Shape := ⟨3, ![3, 8192, 2048]⟩
abbrev S1x1024x2048 : Shape := ⟨3, ![1, 1024, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S3x8192x2048, .bf16⟩
  | .hbm, ⟨2, _⟩ => ⟨S1x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GattnGradIdeal.lean ====
abbrev S8192x1024 : Shape := ⟨2, ![8192, 1024]⟩
abbrev S3x8192x2048 : Shape := ⟨3, ![3, 8192, 2048]⟩
abbrev S1x8192x2048 : Shape := ⟨3, ![1, 8192, 2048]⟩
abbrev S8192x2048 : Shape := ⟨2, ![8192, 2048]⟩
abbrev S_ : Shape := ⟨0, ![]⟩
abbrev S1x1024x2048 : Shape := ⟨3, ![1, 1024, 2048]⟩
abbrev S1024x1x2048 : Shape := ⟨3, ![1024, 1, 2048]⟩
abbrev S1024x2048 : Shape := ⟨2, ![1024, 2048]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x2048, .bf16⟩
  | .hbm, ⟨2, _⟩ => ⟨S1x8192x2048, .bf16⟩
  | .hbm, ⟨3, _⟩ => ⟨S8192x2048, .bf16⟩
  | .hbm, ⟨4, _⟩ => ⟨S_, .f32⟩
  | .hbm, ⟨5, _⟩ => ⟨S1x1024x2048, .f32⟩
  | .hbm, ⟨6, _⟩ => ⟨S8192x1024, .f32⟩
  | .hbm, ⟨7, _⟩ => ⟨S1024x1x2048, .f32⟩
  | .hbm, ⟨8, _⟩ => ⟨S1024x2048, .f32⟩
  | .hbm, ⟨9, _⟩ => ⟨S8192x2048, .f32⟩
  | .hbm, ⟨10, _⟩ => ⟨S8192x2048, .f32⟩
  | .hbm, ⟨11, _⟩ => ⟨S2048x1024, .f32⟩
  | .hbm, ⟨12, _⟩ => ⟨S1024x2048, .f32⟩
  | .hbm, ⟨13, _⟩ => ⟨S8192x1024, .f32⟩
  | .hbm, ⟨14, _⟩ => ⟨S1024x1x2048, .f32⟩
  | .hbm, ⟨15, _⟩ => ⟨S1x1024x2048, .f32⟩
  | .hbm, ⟨16, _⟩ => ⟨S1x1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== DmemBwd.lean ====
abbrev S3x8192x2048 : Shape := ⟨3, ![3, 8192, 2048]⟩
abbrev S1x1024x2048 : Shape := ⟨3, ![1, 1024, 2048]⟩
abbrev S8192x1024 : Shape := ⟨2, ![8192, 1024]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S3x8192x2048, .bf16⟩
  | .hbm, ⟨1, _⟩ => ⟨S1x1024x2048, .bf16⟩
  | .hbm, ⟨2, _⟩ => ⟨S8192x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1024x1024, .bf16⟩
  | .local _ .vmem, ⟨4, _⟩ => ⟨S1024x1024, .bf16⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmemGradIdeal.lean ====
abbrev S3x8192x2048 : Shape := ⟨3, ![3, 8192, 2048]⟩
abbrev S1x1024x2048 : Shape := ⟨3, ![1, 1024, 2048]⟩
abbrev S1x8192x2048 : Shape := ⟨3, ![1, 8192, 2048]⟩
abbrev S8192x2048 : Shape := ⟨2, ![8192, 2048]⟩
abbrev S_ : Shape := ⟨0, ![]⟩
abbrev S8192x1024 : Shape := ⟨2, ![8192, 1024]⟩
abbrev S1024x1x2048 : Shape := ⟨3, ![1024, 1, 2048]⟩
abbrev S1024x2048 : Shape := ⟨2, ![1024, 2048]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S1x1024x2048, .bf16⟩
  | .hbm, ⟨2, _⟩ => ⟨S1x8192x2048, .bf16⟩
  | .hbm, ⟨3, _⟩ => ⟨S8192x2048, .bf16⟩
  | .hbm, ⟨4, _⟩ => ⟨S_, .f32⟩
  | .hbm, ⟨5, _⟩ => ⟨S8192x1024, .f32⟩
  | .hbm, ⟨6, _⟩ => ⟨S1x1024x2048, .f32⟩
  | .hbm, ⟨7, _⟩ => ⟨S1024x1x2048, .f32⟩
  | .hbm, ⟨8, _⟩ => ⟨S1024x2048, .f32⟩
  | .hbm, ⟨9, _⟩ => ⟨S8192x2048, .f32⟩
  | .hbm, ⟨10, _⟩ => ⟨S8192x2048, .f32⟩
  | .hbm, ⟨11, _⟩ => ⟨S2048x1024, .f32⟩
  | .hbm, ⟨12, _⟩ => ⟨S1024x2048, .f32⟩
  | .hbm, ⟨13, _⟩ => ⟨S8192x1024, .f32⟩
  | .hbm, ⟨14, _⟩ => ⟨S1024x1x2048, .f32⟩
  | .hbm, ⟨15, _⟩ => ⟨S1x1024x2048, .f32⟩
  | .hbm, ⟨16, _⟩ => ⟨S8192x1024, .bf16⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== GmemBwd.lean ====
abbrev S8192x1024 : Shape := ⟨2, ![8192, 1024]⟩
abbrev S3x8192x2048 : Shape := ⟨3, ![3, 8192, 2048]⟩
abbrev S1x1024x2048 : Shape := ⟨3, ![1, 1024, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S3x8192x2048, .bf16⟩
  | .hbm, ⟨2, _⟩ => ⟨S1x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmemGradIdeal.lean ====
abbrev S8192x1024 : Shape := ⟨2, ![8192, 1024]⟩
abbrev S3x8192x2048 : Shape := ⟨3, ![3, 8192, 2048]⟩
abbrev S1x8192x2048 : Shape := ⟨3, ![1, 8192, 2048]⟩
abbrev S8192x2048 : Shape := ⟨2, ![8192, 2048]⟩
abbrev S_ : Shape := ⟨0, ![]⟩
abbrev S1x1024x2048 : Shape := ⟨3, ![1, 1024, 2048]⟩
abbrev S1024x1x2048 : Shape := ⟨3, ![1024, 1, 2048]⟩
abbrev S1024x2048 : Shape := ⟨2, ![1024, 2048]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x2048, .bf16⟩
  | .hbm, ⟨2, _⟩ => ⟨S1x8192x2048, .bf16⟩
  | .hbm, ⟨3, _⟩ => ⟨S8192x2048, .bf16⟩
  | .hbm, ⟨4, _⟩ => ⟨S_, .f32⟩
  | .hbm, ⟨5, _⟩ => ⟨S1x1024x2048, .f32⟩
  | .hbm, ⟨6, _⟩ => ⟨S8192x1024, .f32⟩
  | .hbm, ⟨7, _⟩ => ⟨S1024x1x2048, .f32⟩
  | .hbm, ⟨8, _⟩ => ⟨S1024x2048, .f32⟩
  | .hbm, ⟨9, _⟩ => ⟨S8192x2048, .f32⟩
  | .hbm, ⟨10, _⟩ => ⟨S8192x2048, .f32⟩
  | .hbm, ⟨11, _⟩ => ⟨S2048x1024, .f32⟩
  | .hbm, ⟨12, _⟩ => ⟨S1024x2048, .f32⟩
  | .hbm, ⟨13, _⟩ => ⟨S8192x1024, .f32⟩
  | .hbm, ⟨14, _⟩ => ⟨S1024x1x2048, .f32⟩
  | .hbm, ⟨15, _⟩ => ⟨S1x1024x2048, .f32⟩
  | .hbm, ⟨16, _⟩ => ⟨S1x1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== WkvFwd.lean ====
abbrev S256x2048 : Shape := ⟨2, ![256, 2048]⟩
abbrev S1x2048x2048 : Shape := ⟨3, ![1, 2048, 2048]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S1x2048x2048, .bf16⟩
  | .hbm, ⟨2, _⟩ => ⟨S256x2048, .bf16⟩
  | .local _ .vmem, ⟨0, _⟩ => ⟨S256x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WkvRefIdeal.lean ====
abbrev S256x2048 : Shape := ⟨2, ![256, 2048]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S1x2048x2048, .bf16⟩
  | .hbm, ⟨2, _⟩ => ⟨S256x2048, .f32⟩
  | .hbm, ⟨3, _⟩ => ⟨S1x2048x2048, .f32⟩
  | .hbm, ⟨4, _⟩ => ⟨S2048x1x2048, .f32⟩
  | .hbm, ⟨5, _⟩ => ⟨S2048x2048, .f32⟩
  | .hbm, ⟨6, _⟩ => ⟨S256x2048, .f32⟩
  | .hbm, ⟨7, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DkvBwd.lean ====
abbrev S256x2048 : Shape := ⟨2, ![256, 2048]⟩
abbrev S1x2048x2048 : Shape := ⟨3, ![1, 2048, 2048]⟩
abbrev S1x1024x2048 : Shape := ⟨3, ![1, 1024, 2048]⟩
abbrev S256x1024 : Shape := ⟨2, ![256, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S1x2048x2048, .bf16⟩
  | .hbm, ⟨2, _⟩ => ⟨S256x2048, .bf16⟩
  | .local _ .vmem, ⟨0, _⟩ => ⟨S256x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DkvGradIdeal.lean ====
abbrev S256x2048 : Shape := ⟨2, ![256, 2048]⟩
abbrev S1x2048x2048 : Shape := ⟨3, ![1, 2048, 2048]⟩
abbrev S_ : Shape := ⟨0, ![]⟩
abbrev S2048x1x2048 : Shape := ⟨3, ![2048, 1, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S1x2048x2048, .bf16⟩
  | .hbm, ⟨2, _⟩ => ⟨S_, .f32⟩
  | .hbm, ⟨3, _⟩ => ⟨S256x2048, .f32⟩
  | .hbm, ⟨4, _⟩ => ⟨S1x2048x2048, .f32⟩
  | .hbm, ⟨5, _⟩ => ⟨S2048x1x2048, .f32⟩
  | .hbm, ⟨6, _⟩ => ⟨S2048x2048, .f32⟩
  | .hbm, ⟨7, _⟩ => ⟨S256x2048, .f32⟩
  | .hbm, ⟨8, _⟩ => ⟨S256x2048, .f32⟩
  | .hbm, ⟨9, _⟩ => ⟨S2048x2048, .f32⟩
  | .hbm, ⟨10, _⟩ => ⟨S2048x2048, .f32⟩
  | .hbm, ⟨11, _⟩ => ⟨S256x2048, .f32⟩
  | .hbm, ⟨12, _⟩ => ⟨S2048x1x2048, .f32⟩
  | .hbm, ⟨13, _⟩ => ⟨S1x2048x2048, .f32⟩
  | .hbm, ⟨14, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== GkvBwd.lean ====
abbrev S256x2048 : Shape := ⟨2, ![256, 2048]⟩
abbrev S1x2048x2048 : Shape := ⟨3, ![1, 2048, 2048]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S1x2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024x1024, .bf16⟩
  | .local _ .vmem, ⟨5, _⟩ => ⟨S1x1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GkvGradIdeal.lean ====
abbrev S256x2048 : Shape := ⟨2, ![256, 2048]⟩
abbrev S_ : Shape := ⟨0, ![]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S_, .f32⟩
  | .hbm, ⟨3, _⟩ => ⟨S1x2048x2048, .f32⟩
  | .hbm, ⟨4, _⟩ => ⟨S256x2048, .f32⟩
  | .hbm, ⟨5, _⟩ => ⟨S2048x1x2048, .f32⟩
  | .hbm, ⟨6, _⟩ => ⟨S2048x2048, .f32⟩
  | .hbm, ⟨7, _⟩ => ⟨S256x2048, .f32⟩
  | .hbm, ⟨8, _⟩ => ⟨S256x2048, .f32⟩
  | .hbm, ⟨9, _⟩ => ⟨S2048x2048, .f32⟩
  | .hbm, ⟨10, _⟩ => ⟨S2048x2048, .f32⟩
  | .hbm, ⟨11, _⟩ => ⟨S256x2048, .f32⟩
  | .hbm, ⟨12, _⟩ => ⟨S2048x1x2048, .f32⟩
  | .hbm, ⟨13, _⟩ => ⟨S1x2048x2048, .f32⟩
  | .hbm, ⟨14, _⟩ => ⟨S1x2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== MemFwd.lean ====
abbrev S8192x12288 : Shape := ⟨2, ![8192, 12288]⟩
abbrev S256x2048 : Shape := ⟨2, ![256, 2048]⟩
abbrev S8192x1024 : Shape := ⟨2, ![8192, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x12288, .bf16⟩
  | .hbm, ⟨1, _⟩ => ⟨S256x2048, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemOutIdeal.lean ====
abbrev S8192x12288 : Shape := ⟨2, ![8192, 12288]⟩
abbrev S256x2048 : Shape := ⟨2, ![256, 2048]⟩
abbrev S8192x1024 : Shape := ⟨2, ![8192, 1024]⟩
abbrev S1x256x2x4x256 : Shape := ⟨5, ![1, 256, 2, 4, 256]⟩
abbrev S1x8192x4x256 : Shape := ⟨4, ![1, 8192, 4, 256]⟩
abbrev S1x256x1x4x256 : Shape := ⟨5, ![1, 256, 1, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩
abbrev S1x8192x1024 : Shape := ⟨3, ![1, 8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S256x2048, .bf16⟩
  | .hbm, ⟨2, _⟩ => ⟨S8192x1024, .bf16⟩
  | .hbm, ⟨3, _⟩ => ⟨S8192x1024, .f32⟩
  | .hbm, ⟨4, _⟩ => ⟨S256x2048, .f32⟩
  | .hbm, ⟨5, _⟩ => ⟨S1x256x2x4x256, .f32⟩
  | .hbm, ⟨6, _⟩ => ⟨S1x8192x4x256, .f32⟩
  | .hbm, ⟨7, _⟩ => ⟨S1x256x1x4x256, .f32⟩
  | .hbm, ⟨8, _⟩ => ⟨S1x256x4x256, .f32⟩
  | .hbm, ⟨9, _⟩ => ⟨S1x256x1x4x256, .f32⟩
  | .hbm, ⟨10, _⟩ => ⟨S1x256x4x256, .f32⟩
  | .hbm, ⟨11, _⟩ => ⟨S1x4x8192x256, .f32⟩
  | .hbm, ⟨12, _⟩ => ⟨S_, .f32⟩
  | .hbm, ⟨13, _⟩ => ⟨S1x4x8192x256, .f32⟩
  | .hbm, ⟨14, _⟩ => ⟨S1x4x8192x256, .f32⟩
  | .hbm, ⟨15, _⟩ => ⟨S_, .f32⟩
  | .hbm, ⟨16, _⟩ => ⟨S1x4x8192, .f32⟩
  | .hbm, ⟨17, _⟩ => ⟨S_, .f32⟩
  | .hbm, ⟨18, _⟩ => ⟨S1x4x8192, .f32⟩
  | .hbm, ⟨19, _⟩ => ⟨S1x4x8192, .f32⟩
  | .hbm, ⟨20, _⟩ => ⟨S1x4x8192x1, .f32⟩
  | .hbm, ⟨21, _⟩ => ⟨S1x4x8192x256, .f32⟩
  | .hbm, ⟨22, _⟩ => ⟨S1x4x8192x256, .f32⟩
  | .hbm, ⟨23, _⟩ => ⟨S1x4x8192x256, .f32⟩
  | .hbm, ⟨24, _⟩ => ⟨S_, .f32⟩
  | .hbm, ⟨25, _⟩ => ⟨S1x4x8192, .f32⟩
  | .hbm, ⟨26, _⟩ => ⟨S1x4x8192x1, .f32⟩
  | .hbm, ⟨27, _⟩ => ⟨S1x4x8192x256, .f32⟩
  | .hbm, ⟨28, _⟩ => ⟨S1x4x8192x256, .f32⟩
  | .hbm, ⟨29, _⟩ => ⟨S1x4x256x8192, .f32⟩
  | .hbm, ⟨30, _⟩ => ⟨S1x8192x4x256, .f32⟩
  | .hbm, ⟨31, _⟩ => ⟨S1x8192x1024, .f32⟩
  | .hbm, ⟨32, _⟩ => ⟨S8192x1024, .f32⟩
  | .hbm, ⟨33, _⟩ => ⟨S8192x1024, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== DnormBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnormGradIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== DtokBwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .hbm, ⟨3, _⟩ => ⟨S256x2048, .f32⟩
  | .hbm, ⟨4, _⟩ => ⟨S256x2048, .f32⟩
  | .hbm, ⟨5, _⟩ => ⟨S256x2048, .bf16⟩
  | .hbm, ⟨6, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DtokGradIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 54
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .hbm, ⟨3, _⟩ => ⟨S256x2048, .f32⟩
  | .hbm, ⟨4, _⟩ => ⟨S2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x2048, .f32⟩
  | .hbm, ⟨21, _⟩ => ⟨S256x2048, .f32⟩
  | .hbm, ⟨22, _⟩ => ⟨S1x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S2048, .f32⟩
  | .hbm, ⟨34, _⟩ => ⟨S256x2048, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S256x2048, .f32⟩
  | .hbm, ⟨39, _⟩ => ⟨S256x2048, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256, .f32⟩
  | .hbm, ⟨46, _⟩ => ⟨S256x2048, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S256x2048, .bf16⟩
  | .hbm, ⟨53, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== LossBwd.lean ====
abbrev S8192x2048 : Shape := ⟨2, ![8192, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8x128, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossGradIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8x128, .f32⟩
  | .hbm, ⟨73, _⟩ => ⟨S8192x2048, .bf16⟩
  | .hbm, ⟨74, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== DlnBwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DlnGradIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S1x1024, .f32⟩
  | .hbm, ⟨105, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩
abbrev main_cst_16 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩

abbrev nD : Nat := 1
abbrev τ : Topo := Topo.v7x

variable {F : FTy → Type} [FloatOps F]
-- ==== DkeysBwd.lean ====
abbrev S32x768x1024 : Shape := ⟨3, ![32, 768, 1024]⟩
abbrev S8192x12288 : Shape := ⟨2, ![8192, 12288]⟩
abbrev S1x256x1024 : Shape := ⟨3, ![1, 256, 1024]⟩
abbrev S256x1024 : Shape := ⟨2, ![256, 1024]⟩

abbrev nBuf : Space → Nat
  | .hbm => 3
  | .vmem => 8
  | .smem => 0
  | _ => 0

abbrev bufTy : (tb : Table) → Fin (tcTables nBuf tb) → BufTy
  | .hbm, ⟨0, _⟩ => ⟨S32x768x1024, .f32⟩
  | .hbm, ⟨1, _⟩ => ⟨S8192x12288, .bf16⟩
  | .hbm, ⟨2, _⟩ => ⟨S8192x12288, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .bf16⟩
  | .local _ .vmem, ⟨7, _⟩ => ⟨S256x1024, .bf16⟩
  | _, _ => ⟨S32x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c2_i32 : BitVec 32 := 2#32
  let c0_i32_0 : BitVec 32 := 0#32
  let c0_i32_1 : BitVec 32 := 0#32
  ![v1.toNat, c2_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c1_i32_0 : BitVec 32 := 1#32
  let c0_i32 : BitVec 32 := 0#32
  let c0_i32_1 : BitVec 32 := 0#32
  ![v1.toNat, c1_i32_0.toNat, c0_i32.toNat]

def cc0_transform_2 (i : grid0.Coords) : Fin 3 → Nat :=
  let arg0 : BitVec 32 := BitVec.ofNat 32 (i 0).val
  let c2_i32 : BitVec 32 := 2#32
  let v0 : BitVec 32 := Scalar.addi arg0 c2_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DkeysGradIdeal.lean ====
abbrev S32x768x1024 : Shape := ⟨3, ![32, 768, 1024]⟩
abbrev S8192x12288 : Shape := ⟨2, ![8192, 12288]⟩
abbrev S8192x3072 : Shape := ⟨2, ![8192, 3072]⟩
abbrev S_ : Shape := ⟨0, ![]⟩
abbrev S8192x1024 : Shape := ⟨2, ![8192, 1024]⟩
abbrev S512x1024 : Shape := ⟨2, ![512, 1024]⟩
abbrev S8704x1024 : Shape := ⟨2, ![8704, 1024]⟩
abbrev S34x256x1024 : Shape := ⟨3, ![34, 256, 1024]⟩
abbrev S32x256x1024 : Shape := ⟨3, ![32, 256, 1024]⟩
abbrev S8192x8192 : Shape := ⟨2, ![8192, 8192]⟩

abbrev nBuf : Space → Nat
  | .hbm => 32
  | .vmem => 0
  | .smem => 0
  | _ => 0

abbrev bufTy : (tb : Table) → Fin (tcTables nBuf tb) → BufTy
  | .hbm, ⟨0, _⟩ => ⟨S32x768x1024, .f32⟩
  | .hbm, ⟨1, _⟩ => ⟨S8192x12288, .bf16⟩
  | .hbm, ⟨2, _⟩ => ⟨S8192x3072, .bf16⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S512x1024, .f32⟩
  | .hbm, ⟨7, _⟩ => ⟨S8704x1024, .f32⟩
  | .hbm, ⟨8, _⟩ => ⟨S_, .f32⟩
  | .hbm, ⟨9, _⟩ => ⟨S512x1024, .f32⟩
  | .hbm, ⟨10, _⟩ => ⟨S34x256x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S32x768x1024, .f32⟩
  | .hbm, ⟨15, _⟩ => ⟨S32x256x1024, .f32⟩
  | .hbm, ⟨16, _⟩ => ⟨S32x256x1024, .f32⟩
  | .hbm, ⟨17, _⟩ => ⟨S32x256x1024, .f32⟩
  | .hbm, ⟨18, _⟩ => ⟨S_, .f32⟩
  | .hbm, ⟨19, _⟩ => ⟨S34x256x1024, .f32⟩
  | .hbm, ⟨20, _⟩ => ⟨S_, .f32⟩
  | .hbm, ⟨21, _⟩ => ⟨S34x256x1024, .f32⟩
  | .hbm, ⟨22, _⟩ => ⟨S34x256x1024, .f32⟩
  | .hbm, ⟨23, _⟩ => ⟨S_, .f32⟩
  | .hbm, ⟨24, _⟩ => ⟨S34x256x1024, .f32⟩
  | .hbm, ⟨25, _⟩ => ⟨S34x256x1024, .f32⟩
  | .hbm, ⟨26, _⟩ => ⟨S8704x1024, .f32⟩
  | .hbm, ⟨27, _⟩ => ⟨S512x1024, .f32⟩
  | .hbm, ⟨28, _⟩ => ⟨S8192x1024, .f32⟩
  | .hbm, ⟨29, _⟩ => ⟨S8192x1024, .bf16⟩
  | .hbm, ⟨30, _⟩ => ⟨S8192x8192, .bf16⟩
  | .hbm, ⟨31, _⟩ => ⟨S8192x12288, .bf16⟩
  | _, _ => ⟨S32x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== DvalsBwd.lean ====
abbrev S32x768x1024 : Shape := ⟨3, ![32, 768, 1024]⟩
abbrev S8192x12288 : Shape := ⟨2, ![8192, 12288]⟩
abbrev S1x256x1024 : Shape := ⟨3, ![1, 256, 1024]⟩
abbrev S256x1024 : Shape := ⟨2, ![256, 1024]⟩

abbrev nBuf : Space → Nat
  | .hbm => 3
  | .vmem => 8
  | .smem => 0
  | _ => 0

abbrev bufTy : (tb : Table) → Fin (tcTables nBuf tb) → BufTy
  | .hbm, ⟨0, _⟩ => ⟨S32x768x1024, .f32⟩
  | .hbm, ⟨1, _⟩ => ⟨S8192x12288, .bf16⟩
  | .hbm, ⟨2, _⟩ => ⟨S8192x12288, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .bf16⟩
  | .local _ .vmem, ⟨7, _⟩ => ⟨S256x1024, .bf16⟩
  | _, _ => ⟨S32x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c2_i32 : BitVec 32 := 2#32
  let c0_i32_0 : BitVec 32 := 0#32
  let c0_i32_1 : BitVec 32 := 0#32
  ![v1.toNat, c2_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c1_i32_0 : BitVec 32 := 1#32
  let c0_i32 : BitVec 32 := 0#32
  let c0_i32_1 : BitVec 32 := 0#32
  ![v1.toNat, c1_i32_0.toNat, c0_i32.toNat]

def cc0_transform_2 (i : grid0.Coords) : Fin 3 → Nat :=
  let arg0 : BitVec 32 := BitVec.ofNat 32 (i 0).val
  let c2_i32 : BitVec 32 := 2#32
  let v0 : BitVec 32 := Scalar.addi arg0 c2_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DvalsGradIdeal.lean ====
abbrev S32x768x1024 : Shape := ⟨3, ![32, 768, 1024]⟩
abbrev S8192x12288 : Shape := ⟨2, ![8192, 12288]⟩
abbrev S8192x4096 : Shape := ⟨2, ![8192, 4096]⟩
abbrev S_ : Shape := ⟨0, ![]⟩
abbrev S8192x1024 : Shape := ⟨2, ![8192, 1024]⟩
abbrev S512x1024 : Shape := ⟨2, ![512, 1024]⟩
abbrev S8704x1024 : Shape := ⟨2, ![8704, 1024]⟩
abbrev S34x256x1024 : Shape := ⟨3, ![34, 256, 1024]⟩
abbrev S32x256x1024 : Shape := ⟨3, ![32, 256, 1024]⟩
abbrev S8192x7168 : Shape := ⟨2, ![8192, 7168]⟩

abbrev nBuf : Space → Nat
  | .hbm => 32
  | .vmem => 0
  | .smem => 0
  | _ => 0

abbrev bufTy : (tb : Table) → Fin (tcTables nBuf tb) → BufTy
  | .hbm, ⟨0, _⟩ => ⟨S32x768x1024, .f32⟩
  | .hbm, ⟨1, _⟩ => ⟨S8192x12288, .bf16⟩
  | .hbm, ⟨2, _⟩ => ⟨S8192x4096, .bf16⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S512x1024, .f32⟩
  | .hbm, ⟨7, _⟩ => ⟨S8704x1024, .f32⟩
  | .hbm, ⟨8, _⟩ => ⟨S_, .f32⟩
  | .hbm, ⟨9, _⟩ => ⟨S512x1024, .f32⟩
  | .hbm, ⟨10, _⟩ => ⟨S34x256x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S32x768x1024, .f32⟩
  | .hbm, ⟨15, _⟩ => ⟨S32x256x1024, .f32⟩
  | .hbm, ⟨16, _⟩ => ⟨S32x256x1024, .f32⟩
  | .hbm, ⟨17, _⟩ => ⟨S32x256x1024, .f32⟩
  | .hbm, ⟨18, _⟩ => ⟨S_, .f32⟩
  | .hbm, ⟨19, _⟩ => ⟨S34x256x1024, .f32⟩
  | .hbm, ⟨20, _⟩ => ⟨S_, .f32⟩
  | .hbm, ⟨21, _⟩ => ⟨S34x256x1024, .f32⟩
  | .hbm, ⟨22, _⟩ => ⟨S34x256x1024, .f32⟩
  | .hbm, ⟨23, _⟩ => ⟨S_, .f32⟩
  | .hbm, ⟨24, _⟩ => ⟨S34x256x1024, .f32⟩
  | .hbm, ⟨25, _⟩ => ⟨S34x256x1024, .f32⟩
  | .hbm, ⟨26, _⟩ => ⟨S8704x1024, .f32⟩
  | .hbm, ⟨27, _⟩ => ⟨S512x1024, .f32⟩
  | .hbm, ⟨28, _⟩ => ⟨S8192x1024, .f32⟩
  | .hbm, ⟨29, _⟩ => ⟨S8192x1024, .bf16⟩
  | .hbm, ⟨30, _⟩ => ⟨S8192x7168, .bf16⟩
  | .hbm, ⟨31, _⟩ => ⟨S8192x12288, .bf16⟩
  | _, _ => ⟨S32x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== FfnFwd.lean ====
abbrev S8192x11264 : Shape := ⟨2, ![8192, 11264]⟩
abbrev S3x11264 : Shape := ⟨2, ![3, 11264]⟩
abbrev S1x11264 : Shape := ⟨2, ![1, 11264]⟩
abbrev S8192x5632 : Shape := ⟨2, ![8192, 5632]⟩
abbrev S16x256 : Shape := ⟨2, ![16, 256]⟩
abbrev S1024x256 : Shape := ⟨2, ![1024, 256]⟩
abbrev S3x256 : Shape := ⟨2, ![3, 256]⟩
abbrev S1x256 : Shape := ⟨2, ![1, 256]⟩
abbrev S8x256 : Shape := ⟨2, ![8, 256]⟩
abbrev S32x256 : Shape := ⟨2, ![32, 256]⟩
abbrev S40x256 : Shape := ⟨2, ![40, 256]⟩

abbrev nBuf : Space → Nat
  | .hbm => 4
  | .vmem => 18
  | .smem => 0
  | _ => 0

abbrev bufTy : (tb : Table) → Fin (tcTables nBuf tb) → BufTy
  | .hbm, ⟨0, _⟩ => ⟨S8192x11264, .bf16⟩
  | .hbm, ⟨1, _⟩ => ⟨S3x11264, .f32⟩
  | .hbm, ⟨2, _⟩ => ⟨S1x11264, .f32⟩
  | .hbm, ⟨3, _⟩ => ⟨S8192x5632, .bf16⟩
  | .local _ .vmem, ⟨0, _⟩ => ⟨S16x256, .bf16⟩
  | .local _ .vmem, ⟨1, _⟩ => ⟨S16x256, .bf16⟩
  | .local _ .vmem, ⟨2, _⟩ => ⟨S1024x256, .bf16⟩
  | .local _ .vmem, ⟨3, _⟩ => ⟨S1024x256, .bf16⟩
  | .local _ .vmem, ⟨4, _⟩ => ⟨S16x256, .bf16⟩
  | .local _ .vmem, ⟨5, _⟩ => ⟨S16x256, .bf16⟩
  | .local _ .vmem, ⟨6, _⟩ => ⟨S1024x256, .bf16⟩
  | .local _ .vmem, ⟨7, _⟩ => ⟨S1024x256, .bf16⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1024x256, .bf16⟩
  | .local _ .vmem, ⟨17, _⟩ => ⟨S1024x256, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 22], ![false, false]⟩

@[reducible] def k0_t1_loop : Scf.Loop 32 :=
  let c0_i32_19 : BitVec 32 := 0#32
  let c32_i32 : BitVec 32 := 32#32
  let v20 : BitVec 32 := Scalar.addi c0_i32_19 c32_i32
  let c1_i32 : BitVec 32 := 1#32
  ⟨c0_i32_19, v20, c1_i32⟩
def k0_mult1 (k0_t1 : Fin k0_t1_loop.trips) : BitVec 32 :=
  let c0_i32_19 : BitVec 32 := 0#32
  let c1_i32 : BitVec 32 := 1#32
  let arg11 : BitVec 32 := Scf.iv c0_i32_19 c1_i32 k0_t1
  let c32_i32_21 : BitVec 32 := 32#32
  let v22 : BitVec 32 := Scalar.muli arg11 c32_i32_21
  v22
def k0_off1 (k0_t1 : Fin k0_t1_loop.trips) : Fin 2 → Nat :=
  let c0_i32_19 : BitVec 32 := 0#32
  let c1_i32 : BitVec 32 := 1#32
  let arg11 : BitVec 32 := Scf.iv c0_i32_19 c1_i32 k0_t1
  let c32_i32_21 : BitVec 32 := 32#32
  let v22 : BitVec 32 := Scalar.muli arg11 c32_i32_21
  let v23 : BitVec 32 := v22
  let v24 : Index := Scalar.indexCast v23
  let c0_22 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let v3 : BitVec 32 := Scalar.addi c22_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S8192x11264 : Shape := ⟨2, ![8192, 11264]⟩
abbrev S3x11264 : Shape := ⟨2, ![3, 11264]⟩
abbrev S1x11264 : Shape := ⟨2, ![1, 11264]⟩
abbrev S11264 : Shape := ⟨1, ![11264]⟩
abbrev S_ : Shape := ⟨0, ![]⟩
abbrev S8194x11264 : Shape := ⟨2, ![8194, 11264]⟩
abbrev S8192x5632 : Shape := ⟨2, ![8192, 5632]⟩

abbrev nBuf : Space → Nat
  | .hbm => 47
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S3x11264, .f32⟩
  | .hbm, ⟨2, _⟩ => ⟨S1x11264, .f32⟩
  | .hbm, ⟨3, _⟩ => ⟨S8192x11264, .f32⟩
  | .hbm, ⟨4, _⟩ => ⟨S11264, .f32⟩
  | .hbm, ⟨5, _⟩ => ⟨S_, .i32⟩
  | .hbm, ⟨6, _⟩ => ⟨S_, .f32⟩
  | .hbm, ⟨7, _⟩ => ⟨S8194x11264, .f32⟩
  | .hbm, ⟨8, _⟩ => ⟨S8192x11264, .f32⟩
  | .hbm, ⟨9, _⟩ => ⟨S1x11264, .f32⟩
  | .hbm, ⟨10, _⟩ => ⟨S11264, .f32⟩
  | .hbm, ⟨11, _⟩ => ⟨S1x11264, .f32⟩
  | .hbm, ⟨12, _⟩ => ⟨S8192x11264, .f32⟩
  | .hbm, ⟨13, _⟩ => ⟨S8192x11264, .f32⟩
  | .hbm, ⟨14, _⟩ => ⟨S_, .f32⟩
  | .hbm, ⟨15, _⟩ => ⟨S8192x11264, .f32⟩
  | .hbm, ⟨16, _⟩ => ⟨S8192x11264, .f32⟩
  | .hbm, ⟨17, _⟩ => ⟨S8192x11264, .f32⟩
  | .hbm, ⟨18, _⟩ => ⟨S1x11264, .f32⟩
  | .hbm, ⟨19, _⟩ => ⟨S11264, .f32⟩
  | .hbm, ⟨20, _⟩ => ⟨S1x11264, .f32⟩
  | .hbm, ⟨21, _⟩ => ⟨S8192x11264, .f32⟩
  | .hbm, ⟨22, _⟩ => ⟨S8192x11264, .f32⟩
  | .hbm, ⟨23, _⟩ => ⟨S8192x11264, .f32⟩
  | .hbm, ⟨24, _⟩ => ⟨S8192x11264, .f32⟩
  | .hbm, ⟨25, _⟩ => ⟨S1x11264, .f32⟩
  | .hbm, ⟨26, _⟩ => ⟨S11264, .f32⟩
  | .hbm, ⟨27, _⟩ => ⟨S1x11264, .f32⟩
  | .hbm, ⟨28, _⟩ => ⟨S8192x11264, .f32⟩
  | .hbm, ⟨29, _⟩ => ⟨S8192x11264, .f32⟩
  | .hbm, ⟨30, _⟩ => ⟨S8192x11264, .f32⟩
  | .hbm, ⟨31, _⟩ => ⟨S1x11264, .f32⟩
  | .hbm, ⟨32, _⟩ => ⟨S8192x11264, .f32⟩
  | .hbm, ⟨33, _⟩ => ⟨S8192x11264, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S8192x5632, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== NormFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== TokFwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== TokRefIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MergeFwd.lean ====
abbrev S8192x12288 : Shape := ⟨2, ![8192, 12288]⟩
abbrev S1x6144 : Shape := ⟨2, ![1, 6144]⟩
abbrev S8192x2048 : Shape := ⟨2, ![8192, 2048]⟩
abbrev S512x512 : Shape := ⟨2, ![512, 512]⟩
abbrev S1x512 : Shape := ⟨2, ![1, 512]⟩

abbrev nBuf : Space → Nat
  | .hbm => 6
  | .vmem => 20
  | .smem => 0
  | _ => 0

abbrev bufTy : (tb : Table) → Fin (tcTables nBuf tb) → BufTy
  | .hbm, ⟨0, _⟩ => ⟨S8192x12288, .bf16⟩
  | .hbm, ⟨1, _⟩ => ⟨S1x6144, .f32⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x12288 : Shape := ⟨2, ![8192, 12288]⟩
abbrev S1x6144 : Shape := ⟨2, ![1, 6144]⟩
abbrev S8192x2048 : Shape := ⟨2, ![8192, 2048]⟩
abbrev S8192x6144 : Shape := ⟨2, ![8192, 6144]⟩
abbrev S6144 : Shape := ⟨1, ![6144]⟩
abbrev S_ : Shape := ⟨0, ![]⟩
abbrev S8192x3x2048 : Shape := ⟨3, ![8192, 3, 2048]⟩
abbrev S8192x1x2048 : Shape := ⟨3, ![8192, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S1x6144, .f32⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x6144, .bf16⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S6144, .f32⟩
  | .hbm, ⟨11, _⟩ => ⟨S1x6144, .f32⟩
  | .hbm, ⟨12, _⟩ => ⟨S8192x6144, .f32⟩
  | .hbm, ⟨13, _⟩ => ⟨S8192x6144, .f32⟩
  | .hbm, ⟨14, _⟩ => ⟨S8192x6144, .f32⟩
  | .hbm, ⟨15, _⟩ => ⟨S8192x6144, .f32⟩
  | .hbm, ⟨16, _⟩ => ⟨S_, .f32⟩
  | .hbm, ⟨17, _⟩ => ⟨S8192x6144, .f32⟩
  | .hbm, ⟨18, _⟩ => ⟨S8192x6144, .f32⟩
  | .hbm, ⟨19, _⟩ => ⟨S_, .f32⟩
  | .hbm, ⟨20, _⟩ => ⟨S8192x6144, .f32⟩
  | .hbm, ⟨21, _⟩ => ⟨S8192x6144, .f32⟩
  | .hbm, ⟨22, _⟩ => ⟨S8192x3x2048, .f32⟩
  | .hbm, ⟨23, _⟩ => ⟨S8192x1x2048, .f32⟩
  | .hbm, ⟨24, _⟩ => ⟨S8192x2048, .f32⟩
  | .hbm, ⟨25, _⟩ => ⟨S8192x2048, .f32⟩
  | .hbm, ⟨26, _⟩ => ⟨S8192x1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Softmax.lean ====
/- One row of a softmax over the extended reals and its gradient, in the two forms the programs compute it in. -/
module

public import Idealize.ShloMosaic.PureOps.Ideal

@[expose] public section

noncomputable section

namespace Cert.Softmax

open Idealize.ShloMosaic

variable {J : Type} [Fintype J]

/-- The greatest score of the row. -/
def top (s : J → EReal) : EReal := Finset.univ.fold max ⊥ s

/-- The exponential of a score less the row's greatest one. -/
def ex (s : J → EReal) (j : J) : EReal := Ideal.exp (s j - top s)

/-- The row's sum of exponentials. -/
def den (s : J → EReal) : EReal := ∑ k, ex s k

/-- The probability, as the product with the reciprocal of the sum. -/
def prob (s : J → EReal) (j : J) : EReal := ex s j * Ideal.div 1 (den s)

/-- The gradient of a score, from the probabilities and the gradients `ct` of the probabilities. -/
def grad (s ct : J → EReal) (j : J) : EReal := prob s j * (ct j - ∑ k, ct k * prob s k)

/-- The gradient of a score as the reverse of `exp`, the sum and the division gives it. -/
def gradRef (s ct : J → EReal) (j : J) : EReal :=
  (Ideal.div (ct j) (den s) + -(∑ k, ct k * Ideal.div 1 (den s * den s) * ex s k)) * ex s j

/-- A row of finite scores has a real greatest score, real positive exponentials and a real positive sum. -/
theorem real_row [Nonempty J] (s : J → EReal) (h : ∀ j, s j ≠ ⊥ ∧ s j ≠ ⊤) :
    ∃ (e : J → ℝ) (d : ℝ), (∀ j, 0 < e j) ∧ 0 < d ∧ (∀ j, ex s j = (e j : EReal)) ∧ den s = (d : EReal) := by
  have hs : ∀ j, s j = ((s j).toReal : EReal) := fun j => (EReal.coe_toReal (h j).2 (h j).1).symm
  obtain ⟨k, -, hk⟩ := Finset.exists_mem_eq_sup (Finset.univ : Finset J) Finset.univ_nonempty s
  have ht : top s = ((s k).toReal : EReal) := by
    rw [← hs k, ← hk]; rfl
  have he : ∀ j, ex s j = ((Real.exp ((s j).toReal - (s k).toReal) : ℝ) : EReal) := by
    intro j
    rw [ex, ht, hs j, EReal.toReal_coe, ← EReal.coe_sub, Ideal.exp_coe]
  refine ⟨fun j => Real.exp ((s j).toReal - (s k).toReal), ∑ j, Real.exp ((s j).toReal - (s k).toReal),
    fun j => Real.exp_pos _, Finset.sum_pos (fun j _ => Real.exp_pos _) Finset.univ_nonempty, he, ?_⟩
  rw [den, Finset.sum_congr rfl fun j _ => he j]
  exact (map_sum (⟨⟨((↑) : ℝ → EReal), rfl⟩, EReal.coe_add⟩ : ℝ →+ EReal) _ _).symm

/-- On a row of finite scores the quotient by the sum is the product with its reciprocal. -/
theorem div_den [Nonempty J] (s : J → EReal) (h : ∀ j, s j ≠ ⊥ ∧ s j ≠ ⊤) (j : J) :
    Ideal.div (ex s j) (den s) = prob s j := by
  obtain ⟨e, d, -, hd, -, hS⟩ := real_row s h
  rw [prob, hS, Ideal.div_coe hd.ne', Ideal.div_coe hd.ne', one_mul]

/-- A nonnegative real factor moves into a finite sum of extended reals. -/
theorem sum_mul_real (f : J → EReal) (c : ℝ) (hc : 0 ≤ c) : (∑ k, f k) * (c : EReal) = ∑ k, f k * (c : EReal) := by
  classical
  refine Finset.induction_on (Finset.univ : Finset J) (by simp) fun a t ha ih => ?_
  rw [Finset.sum_insert ha, Finset.sum_insert ha, ← ih,
    EReal.right_distrib_of_nonneg_of_ne_top (EReal.coe_nonneg.2 hc) (EReal.coe_ne_top c)]

/-- The two forms of the gradient of a row of finite scores are equal, whatever the gradients of the probabilities. -/
theorem gradRef_eq [Nonempty J] (s ct : J → EReal) (h : ∀ j, s j ≠ ⊥ ∧ s j ≠ ⊤) (j : J) :
    gradRef s ct j = grad s ct j := by
  obtain ⟨e, d, -, hd, he, hS⟩ := real_row s h
  have hc : (0 : ℝ) ≤ 1 / d := by positivity
  have hdd : d * d ≠ 0 := (mul_pos hd hd).ne'
  have hp : ∀ k, prob s k = ex s k * ((1 / d : ℝ) : EReal) := by
    intro k; rw [prob, hS, Ideal.div_coe hd.ne', one_mul]
  have hterm : ∀ k, ct k * Ideal.div 1 (den s * den s) * ex s k = ct k * prob s k * ((1 / d : ℝ) : EReal) := by
    intro k
    rw [hp, hS, ← EReal.coe_mul, Ideal.div_coe hdd, one_mul, show (1 / (d * d) : ℝ) = 1 / d * (1 / d) by field_simp, EReal.coe_mul]
    ac_rfl
  rw [gradRef, grad, Finset.sum_congr rfl fun k _ => hterm k, ← sum_mul_real _ _ hc, hS, Ideal.div_coe hd.ne', ← EReal.neg_mul,
    ← EReal.right_distrib_of_nonneg_of_ne_top (EReal.coe_nonneg.2 hc) (EReal.coe_ne_top _), hp, sub_eq_add_neg]
  ac_rfl

variable {I D : Type} [Fintype I] [Fintype D]

/-- The scaled scores of queries `q` against keys `k`. -/
def score (c : EReal) (q : I → D → EReal) (k : J → D → EReal) (i : I) (j : J) : EReal := (∑ d, q i d * k j d) * c

/-- The gradient of the unscaled scores: `g` the gradient of the attention's output, `v` its values. -/
def dscore (c : EReal) (q : I → D → EReal) (k : J → D → EReal) (g : I → D → EReal) (v : J → D → EReal) (i : I) (j : J) : EReal :=
  grad (score c q k i) (fun l => ∑ d, g i d * v l d) j * c

end Cert.Softmax

end
-- ==== Proof.MemHead.lean ====
/- What one head of the memory attention's backward kernel computes in one block of 512 tokens, at an index. -/
module

public import proofs.«01_k».proof.Proof.Gen.MemBwdIdeal.Skeleton
public import proofs.«01_k».proof.Proof.Softmax
public import Idealize.ShloMosaic.Lib.Pointwise
public import Idealize.ShloMosaic.Lib.WholeRead

@[expose] public section

noncomputable section

namespace Cert.MemHead

open Cert.MemBwdIdeal Cert.MemBwdIdeal.Gen Idealize.ShloMosaic Cert.Softmax

/-- The scores' scale, 1/16. -/
abbrev scale : EReal := Ideal.ofBits .f32 0x3D800000#32

/-- The rows of a block of `n` rows of 256. -/
abbrev rows {n : Nat} {φ : FTy} (x : FVec Ideal ⟨2, ![n, 256]⟩ φ) (i : Fin n) (d : Fin 256) : EReal := x (ix2 i d)

/-- The word of −∞ is −∞. -/
theorem ofBits_neg_inf : Ideal.ofBits .f32 0xFF800000#32 = (⊥ : EReal) := by simp [Ideal.ofBits, Ideal.ieee]

/-- The probabilities. -/
theorem prob_apply (q : FVec Ideal S512x256 .bf16) (k : FVec Ideal S256x256 .bf16) (i : Fin 512) (j : Fin 256) :
    k0_pay3 (F := Ideal) q k (ix2 i j) = prob (score scale (rows q) (rows k) i) j := by
  pointwise [k0_pay3]
  rw [ofBits_neg_inf]
  rfl

/-- The gradient of the scores before their scale. -/
theorem grad_apply (q g : FVec Ideal S512x256 .bf16) (k v : FVec Ideal S256x256 .bf16) (i : Fin 512) (j : Fin 256) :
    k0_pay5 (F := Ideal) q g k v (ix2 i j) = grad (score scale (rows q) (rows k) i) (fun l => ∑ d, rows g i d * rows v l d) j := by
  have hp := prob_apply q k i
  generalize hP : k0_pay3 (F := Ideal) q k = P at hp
  pointwise [k0_pay5]
  rw [hP]
  simp only [hp]
  rfl

/-- The gradient of the unscaled scores. -/
theorem dscore_apply (q g : FVec Ideal S512x256 .bf16) (k v : FVec Ideal S256x256 .bf16) (i : Fin 512) (j : Fin 256) :
    k0_pay6 (F := Ideal) (k0_pay5 q g k v) scale (ix2 i j)
      = dscore scale (rows q) (rows k) (rows g) (rows v) i j := by
  have hp := grad_apply q g k v i j
  generalize hP : k0_pay5 (F := Ideal) q g k v = P at hp
  pointwise [k0_pay6]
  rw [hp]
  rfl

/-- The gradient of a query. -/
theorem dq_apply (q g : FVec Ideal S512x256 .bf16) (k v : FVec Ideal S256x256 .bf16) (i : Fin 512) (d : Fin 256) :
    k0_pay7 (F := Ideal) (k0_pay5 q g k v) scale k (ix2 i d)
      = ∑ j, dscore scale (rows q) (rows k) (rows g) (rows v) i j * rows k j d := by
  have hp := dscore_apply q g k v i
  generalize hP : k0_pay6 (F := Ideal) (k0_pay5 q g k v) scale = P at hp
  pointwise [k0_pay7]
  rw [hP]
  simp only [hp]

/-- The block's part of the gradient of a key, added to what the output held. -/
theorem dk_apply (q g : FVec Ideal S512x256 .bf16) (k v : FVec Ideal S256x256 .bf16) (a : FVec Ideal S256x256 .f32) (j d : Fin 256) :
    k0_pay8 (F := Ideal) q (k0_pay5 q g k v) scale a (ix2 j d)
      = a (ix2 j d) + ∑ i, dscore scale (rows q) (rows k) (rows g) (rows v) i j * rows q i d := by
  have hp := fun i => dscore_apply q g k v i j
  generalize hP : k0_pay6 (F := Ideal) (k0_pay5 q g k v) scale = P at hp
  pointwise [k0_pay8]
  rw [hP]
  simp only [hp]

/-- The block's part of the gradient of a value, added to what the output held. -/
theorem dv_apply (q g : FVec Ideal S512x256 .bf16) (k : FVec Ideal S256x256 .bf16) (a : FVec Ideal S256x256 .f32) (j d : Fin 256) :
    k0_pay4 (F := Ideal) q g k a (ix2 j d)
      = a (ix2 j d) + ∑ i, prob (score scale (rows q) (rows k) i) j * rows g i d := by
  have hp := fun i => prob_apply q k i j
  generalize hP : k0_pay3 (F := Ideal) q k = P at hp
  pointwise [k0_pay4]
  rw [hP]
  simp only [hp]

/-- Head `h`'s gradient of the queries, from every head's queries, keys, output gradients and values. -/
def dqH {n : ℕ} (q : ℕ → Fin n → Fin 256 → EReal) (k : ℕ → Fin 256 → Fin 256 → EReal) (g : ℕ → Fin n → Fin 256 → EReal)
    (v : ℕ → Fin 256 → Fin 256 → EReal) (h : ℕ) (i : Fin n) (d : Fin 256) : EReal :=
  ∑ j, dscore scale (q h) (k h) (g h) (v h) i j * k h j d

/-- Head `h`'s gradient of the keys. -/
def dkH {n : ℕ} (q : ℕ → Fin n → Fin 256 → EReal) (k : ℕ → Fin 256 → Fin 256 → EReal) (g : ℕ → Fin n → Fin 256 → EReal)
    (v : ℕ → Fin 256 → Fin 256 → EReal) (h : ℕ) (j d : Fin 256) : EReal :=
  ∑ i, dscore scale (q h) (k h) (g h) (v h) i j * q h i d

/-- Head `h`'s gradient of the values. -/
def dvH {n : ℕ} (q : ℕ → Fin n → Fin 256 → EReal) (k : ℕ → Fin 256 → Fin 256 → EReal) (g : ℕ → Fin n → Fin 256 → EReal)
    (h : ℕ) (j d : Fin 256) : EReal :=
  ∑ i, prob (score scale (q h) (k h) i) j * g h i d

/-- The 256 columns of an array from column `off` on. -/
def col {n N : ℕ} [NeZero N] {φ : FTy} (x : FVec Ideal ⟨2, ![n, N]⟩ φ) (off : ℕ) (i : Fin n) (d : Fin 256) : EReal :=
  x (ix2 i (Fin.ofNat N (off + d)))

/-- A load of 256 columns of a memref held at `x` has those columns as its rows. -/
theorem rows_load {n N : ℕ} [NeZero N] (a : Memref sig .tc .vmem ⟨2, ![n, N]⟩ .bf16) (ha : a.IsWhole) (x : FVec Ideal ⟨2, ![n, N]⟩ .bf16)
    (off : ℕ) (inb) :
    rows (φ := .bf16) (View.readAt (Elt Ideal) a.view (Rect.unit (s := ⟨2, ![n, N]⟩) ![0, off] ![n, 256] inb).toLoadRect (ha.unread x)) = col x off := by
  funext i d
  have h1 : off + 256 ≤ N := inb 1
  have hd := d.isLt
  refine (ha.readAt_unread (Val := Elt Ideal) x _ _).trans (congrArg x (funext fun a => Fin.ext ?_))
  match a with
  | ⟨0, _⟩ => show 0 + 1 * i.val = i.val; omega
  | ⟨1, _⟩ =>
    show off + 1 * d.val = (off + d.val) % N
    rw [Nat.mod_eq_of_lt (by omega)]; omega

end Cert.MemHead

end
-- ==== Proof.MemBlock.lean ====
/- What one point of the memory attention's backward kernel leaves in its two outputs. -/
module

public import proofs.«01_k».proof.Proof.MemHead
public import proofs.«01_k».proof.Proof.Gen.MemBwdIdeal.Value
public import Idealize.ShloMosaic.Lib.Tactic
public import Idealize.ShloMosaic.Lib.Pipeline.ReadBack

@[expose] public section

noncomputable section

namespace Cert.MemBlock

open Cert.MemBwdIdeal Cert.MemBwdIdeal.Gen Idealize.ShloMosaic Idealize.ShloMosaic.Tactic Cert.MemHead Cert.Softmax

/-- The gradient of the block's queries: column `y 1` belongs to head `y 1 / 256`. -/
def dq (x0 : FVec Ideal S512x1024 .bf16) (x1 : FVec Ideal S256x2048 .bf16) (x2 : FVec Ideal S512x1024 .bf16) (y : S512x1024.Idx) : EReal :=
  dqH (fun h => col x0 (256 * h)) (fun h => col x1 (256 * h)) (fun h => col x2 (256 * h)) (fun h => col x1 (1024 + 256 * h))
    ((y 1).val / 256) (y 0) (Fin.ofNat 256 (y 1).val)

/-- The block's part of the gradient of the keys (the first 1024 columns) and the values (the last). -/
def dkv (x0 : FVec Ideal S512x1024 .bf16) (x1 : FVec Ideal S256x2048 .bf16) (x2 : FVec Ideal S512x1024 .bf16) (y : S256x2048.Idx) : EReal :=
  if (y 1).val < 1024 then
    dkH (fun h => col x0 (256 * h)) (fun h => col x1 (256 * h)) (fun h => col x2 (256 * h)) (fun h => col x1 (1024 + 256 * h))
      ((y 1).val / 256) (y 0) (Fin.ofNat 256 (y 1).val)
  else
    dvH (fun h => col x0 (256 * h)) (fun h => col x1 (256 * h)) (fun h => col x2 (256 * h))
      (((y 1).val - 1024) / 256) (y 0) (Fin.ofNat 256 (y 1).val)

variable (x0 : FVec Ideal S512x1024 .bf16) (x1 : FVec Ideal S256x2048 .bf16) (x2 : FVec Ideal S512x1024 .bf16)

/-- Head `h`'s store into the queries' gradient is that part of `dq`. -/
theorem dq_piece (h : ℕ) (q g : FVec Ideal S512x256 .bf16) (k v : FVec Ideal S256x256 .bf16) (hq : rows q = col x0 (256 * h))
    (hg : rows g = col x2 (256 * h)) (hk : rows k = col x1 (256 * h)) (hv : rows v = col x1 (1024 + 256 * h)) (inb)
    (x : S512x256.Idx) :
    k0_pay7 (F := Ideal) (k0_pay5 q g k v) scale k x = dq x0 x1 x2 ((Rect.unit (s := S512x1024) ![0, 256 * h] ![512, 256] inb).emb x) := by
  obtain ⟨r, d, rfl⟩ : ∃ (r : Fin _) (d : Fin 256), x = ix2 r d := ⟨x 0, x 1, eq_ix2 x⟩
  have h1 := d.isLt
  rw [dq_apply, hq, hg, hk, hv]
  unfold dq dqH
  have e1 : ((Rect.unit (s := S512x1024) ![0, 256 * h] ![512, 256] inb).emb (ix2 r d) 1).val = 256 * h + d.val :=
    (show 256 * h + 1 * d.val = _ by omega)
  have e0 : (Rect.unit (s := S512x1024) ![0, 256 * h] ![512, 256] inb).emb (ix2 r d) 0 = r :=
    Fin.ext (show 0 + 1 * r.val = _ by omega)
  rw [e0, e1, show (256 * h + d.val) / 256 = h by omega,
    show Fin.ofNat 256 (256 * h + d.val) = d from Fin.ext (show (256 * h + d.val) % 256 = _ by omega)]

/-- Head `h`'s store into the keys' gradient is that part of `dkv`, added to what the output held there. -/
theorem dk_piece (h : ℕ) (hh : h < 4) (q g : FVec Ideal S512x256 .bf16) (k v : FVec Ideal S256x256 .bf16) (a : FVec Ideal S256x256 .f32) (hq : rows q = col x0 (256 * h))
    (hg : rows g = col x2 (256 * h)) (hk : rows (φ := .bf16) k = col x1 (256 * h)) (hv : rows (φ := .bf16) v = col x1 (1024 + 256 * h)) (inb)
    (A : S256x2048.Idx → EReal) (ha : ∀ x, a x = A ((Rect.unit (s := S256x2048) ![0, 256 * h] ![256, 256] inb).emb x))
    (x : S256x256.Idx) :
    k0_pay8 (F := Ideal) q (k0_pay5 q g k v) scale a x
      = A ((Rect.unit (s := S256x2048) ![0, 256 * h] ![256, 256] inb).emb x)
        + dkv x0 x1 x2 ((Rect.unit (s := S256x2048) ![0, 256 * h] ![256, 256] inb).emb x) := by
  obtain ⟨r, d, rfl⟩ : ∃ (r : Fin _) (d : Fin 256), x = ix2 r d := ⟨x 0, x 1, eq_ix2 x⟩
  have h1 := d.isLt
  rw [← ha, dk_apply, hq, hg, hk, hv]
  unfold dkv dkH
  have e1 : ((Rect.unit (s := S256x2048) ![0, 256 * h] ![256, 256] inb).emb (ix2 r d) 1).val = 256 * h + d.val :=
    (show 256 * h + 1 * d.val = _ by omega)
  have e0 : (Rect.unit (s := S256x2048) ![0, 256 * h] ![256, 256] inb).emb (ix2 r d) 0 = r :=
    Fin.ext (show 0 + 1 * r.val = _ by omega)
  rw [e0, e1, if_pos (by omega), show (256 * h + d.val) / 256 = h by omega,
    show Fin.ofNat 256 (256 * h + d.val) = d from Fin.ext (show (256 * h + d.val) % 256 = _ by omega)]

/-- Head `h`'s store into the values' gradient is that part of `dkv`, added to what the output held there. -/
theorem dv_piece (h : ℕ) (q g : FVec Ideal S512x256 .bf16) (k : FVec Ideal S256x256 .bf16) (a : FVec Ideal S256x256 .f32)
    (hq : rows q = col x0 (256 * h)) (hg : rows g = col x2 (256 * h)) (hk : rows k = col x1 (256 * h)) (inb)
    (A : S256x2048.Idx → EReal) (ha : ∀ x, a x = A ((Rect.unit (s := S256x2048) ![0, 1024 + 256 * h] ![256, 256] inb).emb x))
    (x : S256x256.Idx) :
    k0_pay4 (F := Ideal) q g k a x
      = A ((Rect.unit (s := S256x2048) ![0, 1024 + 256 * h] ![256, 256] inb).emb x)
        + dkv x0 x1 x2 ((Rect.unit (s := S256x2048) ![0, 1024 + 256 * h] ![256, 256] inb).emb x) := by
  obtain ⟨r, d, rfl⟩ : ∃ (r : Fin _) (d : Fin 256), x = ix2 r d := ⟨x 0, x 1, eq_ix2 x⟩
  have h1 := d.isLt
  rw [← ha, dv_apply, hq, hg, hk]
  unfold dkv dvH
  have e1 : ((Rect.unit (s := S256x2048) ![0, 1024 + 256 * h] ![256, 256] inb).emb (ix2 r d) 1).val = 1024 + 256 * h + d.val :=
    (show 1024 + 256 * h + 1 * d.val = _ by omega)
  have e0 : (Rect.unit (s := S256x2048) ![0, 1024 + 256 * h] ![256, 256] inb).emb (ix2 r d) 0 = r :=
    Fin.ext (show 0 + 1 * r.val = _ by omega)
  rw [e0, e1, if_neg (by omega), show (1024 + 256 * h + d.val - 1024) / 256 = h by omega,
    show Fin.ofNat 256 (1024 + 256 * h + d.val) = d from Fin.ext (show (1024 + 256 * h + d.val) % 256 = _ by omega)]

/-- A load behind a store that misses it reads zero where the stores before leave zero. -/
theorem readCov_skip_zero (v : View sig .tc .vmem S256x2048 .f32) (p : View.Piece (Elt Ideal) S256x2048 .f32)
    (L : List (View.Piece (Elt Ideal) S256x2048 .f32)) (B : LoadRect S256x2048) (x : B.shape.Idx) (h : LoadRect.disj p.1 B = true)
    (hL : v.readCov (Val := Elt Ideal) L B x = (0 : EReal)) : v.readCov (Val := Elt Ideal) (p :: L) B x = (0 : EReal) :=
  (congrFun (View.readCov_skip v p.1 p.2 L B h) x).trans hL

/-- A load from a memref held at `a` reads `a`. -/
theorem load_emb (v : Memref sig .tc .vmem S256x2048 .f32) (hv : v.IsWhole) (a : FVec Ideal S256x2048 .f32) (r : Rect S256x2048) (x : r.shape.Idx) :
    View.readAt (Elt Ideal) v.view r.toLoadRect (hv.unread a) x = a (r.emb x) :=
  hv.readAt_unread (Val := Elt Ideal) a r.toLoadRect x

/-- A load from the output just filled with zeros reads zero. -/
theorem readCov_fill_zero (v : View sig .tc .vmem S256x2048 .f32) (r : Rect S256x2048) (x : r.toLoadRect.shape.Idx) :
    v.readCov (Val := Elt Ideal) [⟨Rect.unit ![0, 0] S256x2048.size inb_S256x2048_S256x2048_0_0, (k0_pay2 (F := Ideal) : S256x2048.Idx → Elt Ideal .f32)⟩] r.toLoadRect x = (0 : EReal) :=
  (congrFun (View.readCov_fill (Val := Elt Ideal) v inb_S256x2048_S256x2048_0_0 (k0_pay2 (F := Ideal)) [] r
    (fun a => by match a with | ⟨0, _⟩ => rfl | ⟨1, _⟩ => rfl)) x).trans Ideal.ofBits_zero_f32

section Points

variable (c : Dev nD) (i : grid0.Coords) (arg1 : Memref sig .tc .vmem S512x1024 .bf16) (harg1 : arg1.IsWhole)
  (arg2 : Memref sig .tc .vmem S256x2048 .bf16) (harg2 : arg2.IsWhole) (arg3 : Memref sig .tc .vmem S512x1024 .bf16) (harg3 : arg3.IsWhole)
  (arg5 : Memref sig .tc .vmem S512x1024 .bf16) (harg5 : arg5.IsWhole) (arg6 : Memref sig .tc .vmem S256x2048 .f32) (harg6 : arg6.IsWhole)

/-- A later point leaves `dq` of its blocks in the queries' gradient. -/
theorem out_B_dq (hc0 : ¬cond0_0 i) (a : FVec Ideal S256x2048 .f32) (y : S512x1024.Idx) :
    out0_B_3 (F := Ideal) c i arg1 harg1 arg2 harg2 arg3 harg3 arg5 harg5 arg6 harg6 hc0 x0 x1 x2 a y = dq x0 x1 x2 y := by
  have hc := cover0_B_3 (F := Ideal) c i arg1 harg1 arg2 harg2 arg3 harg3 arg5 harg5 arg6 harg6 hc0 x0 x1 x2 a y
  unfold out0_B_3
  refine View.read_writes_apply_of_pieces _ _ (dq x0 x1 x2) _ ?_ y hc
  unfold kernelRun0_B; dsimp only; sl_unfold_run_names
  refine List.forall_mem_cons.2 ⟨?_, List.forall_mem_cons.2 ⟨?_, List.forall_mem_cons.2 ⟨?_, List.forall_mem_cons.2 ⟨?_, by simp⟩⟩⟩⟩
  · exact dq_piece x0 x1 x2 3 _ _ _ _ (rows_load _ harg1 _ _ _) (rows_load _ harg3 _ _ _) (rows_load _ harg2 _ _ _) (rows_load _ harg2 _ _ _) inb_S512x1024_S512x256_0_768
  · exact dq_piece x0 x1 x2 2 _ _ _ _ (rows_load _ harg1 _ _ _) (rows_load _ harg3 _ _ _) (rows_load _ harg2 _ _ _) (rows_load _ harg2 _ _ _) inb_S512x1024_S512x256_0_512
  · exact dq_piece x0 x1 x2 1 _ _ _ _ (rows_load _ harg1 _ _ _) (rows_load _ harg3 _ _ _) (rows_load _ harg2 _ _ _) (rows_load _ harg2 _ _ _) inb_S512x1024_S512x256_0_256
  · exact dq_piece x0 x1 x2 0 _ _ _ _ (rows_load _ harg1 _ _ _) (rows_load _ harg3 _ _ _) (rows_load _ harg2 _ _ _) (rows_load _ harg2 _ _ _) inb_S512x1024_S512x256_0_0

/-- The first point leaves `dq` of its blocks in the queries' gradient. -/
theorem out_A_dq (hc0 : cond0_0 i) (y : S512x1024.Idx) :
    out0_A_3 (F := Ideal) c i arg1 harg1 arg2 harg2 arg3 harg3 arg5 harg5 arg6 harg6 hc0 x0 x1 x2 y = dq x0 x1 x2 y := by
  have hc := cover0_A_3 (F := Ideal) c i arg1 harg1 arg2 harg2 arg3 harg3 arg5 harg5 arg6 harg6 hc0 x0 x1 x2 y
  unfold out0_A_3
  refine View.read_writes_apply_of_pieces _ _ (dq x0 x1 x2) _ ?_ y hc
  unfold kernelRun0_A; dsimp only; sl_unfold_run_names
  refine List.forall_mem_cons.2 ⟨?_, List.forall_mem_cons.2 ⟨?_, List.forall_mem_cons.2 ⟨?_, List.forall_mem_cons.2 ⟨?_, by simp⟩⟩⟩⟩
  · exact dq_piece x0 x1 x2 3 _ _ _ _ (rows_load _ harg1 _ _ _) (rows_load _ harg3 _ _ _) (rows_load _ harg2 _ _ _) (rows_load _ harg2 _ _ _) inb_S512x1024_S512x256_0_768
  · exact dq_piece x0 x1 x2 2 _ _ _ _ (rows_load _ harg1 _ _ _) (rows_load _ harg3 _ _ _) (rows_load _ harg2 _ _ _) (rows_load _ harg2 _ _ _) inb_S512x1024_S512x256_0_512
  · exact dq_piece x0 x1 x2 1 _ _ _ _ (rows_load _ harg1 _ _ _) (rows_load _ harg3 _ _ _) (rows_load _ harg2 _ _ _) (rows_load _ harg2 _ _ _) inb_S512x1024_S512x256_0_256
  · exact dq_piece x0 x1 x2 0 _ _ _ _ (rows_load _ harg1 _ _ _) (rows_load _ harg3 _ _ _) (rows_load _ harg2 _ _ _) (rows_load _ harg2 _ _ _) inb_S512x1024_S512x256_0_0

/-- A later point adds `dkv` of its blocks to the keys' and values' gradient. -/
theorem out_B_dkv (hc0 : ¬cond0_0 i) (a : FVec Ideal S256x2048 .f32) (y : S256x2048.Idx) :
    out0_B_4 (F := Ideal) c i arg1 harg1 arg2 harg2 arg3 harg3 arg5 harg5 arg6 harg6 hc0 x0 x1 x2 a y = a y + dkv x0 x1 x2 y := by
  have hc := cover0_B_4 (F := Ideal) c i arg1 harg1 arg2 harg2 arg3 harg3 arg5 harg5 arg6 harg6 hc0 x0 x1 x2 a y
  unfold out0_B_4
  refine View.read_writes_apply_of_pieces _ _ (fun y => a y + dkv x0 x1 x2 y) _ ?_ y hc
  unfold kernelRun0_B; dsimp only; sl_unfold_run_names
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, by simp⟩⟩⟩⟩⟩⟩⟩⟩
  · exact dk_piece x0 x1 x2 3 (by norm_num) _ _ _ _ _ (rows_load _ harg1 _ _ _) (rows_load _ harg3 _ _ _) (rows_load _ harg2 _ _ _) (rows_load _ harg2 _ _ _) inb_S256x2048_S256x256_0_768 a (load_emb _ harg6 a (Rect.unit ![0, 768] ![256, 256] inb_S256x2048_S256x256_0_768))
  · exact dv_piece x0 x1 x2 3 _ _ _ _ (rows_load _ harg1 _ _ _) (rows_load _ harg3 _ _ _) (rows_load _ harg2 _ _ _) inb_S256x2048_S256x256_0_1792 a (load_emb _ harg6 a (Rect.unit ![0, 1792] ![256, 256] inb_S256x2048_S256x256_0_1792))
  · exact dk_piece x0 x1 x2 2 (by norm_num) _ _ _ _ _ (rows_load _ harg1 _ _ _) (rows_load _ harg3 _ _ _) (rows_load _ harg2 _ _ _) (rows_load _ harg2 _ _ _) inb_S256x2048_S256x256_0_512 a (load_emb _ harg6 a (Rect.unit ![0, 512] ![256, 256] inb_S256x2048_S256x256_0_512))
  · exact dv_piece x0 x1 x2 2 _ _ _ _ (rows_load _ harg1 _ _ _) (rows_load _ harg3 _ _ _) (rows_load _ harg2 _ _ _) inb_S256x2048_S256x256_0_1536 a (load_emb _ harg6 a (Rect.unit ![0, 1536] ![256, 256] inb_S256x2048_S256x256_0_1536))
  · exact dk_piece x0 x1 x2 1 (by norm_num) _ _ _ _ _ (rows_load _ harg1 _ _ _) (rows_load _ harg3 _ _ _) (rows_load _ harg2 _ _ _) (rows_load _ harg2 _ _ _) inb_S256x2048_S256x256_0_256 a (load_emb _ harg6 a (Rect.unit ![0, 256] ![256, 256] inb_S256x2048_S256x256_0_256))
  · exact dv_piece x0 x1 x2 1 _ _ _ _ (rows_load _ harg1 _ _ _) (rows_load _ harg3 _ _ _) (rows_load _ harg2 _ _ _) inb_S256x2048_S256x256_0_1280 a (load_emb _ harg6 a (Rect.unit ![0, 1280] ![256, 256] inb_S256x2048_S256x256_0_1280))
  · exact dk_piece x0 x1 x2 0 (by norm_num) _ _ _ _ _ (rows_load _ harg1 _ _ _) (rows_load _ harg3 _ _ _) (rows_load _ harg2 _ _ _) (rows_load _ harg2 _ _ _) inb_S256x2048_S256x256_0_0 a (load_emb _ harg6 a (Rect.unit ![0, 0] ![256, 256] inb_S256x2048_S256x256_0_0))
  · exact dv_piece x0 x1 x2 0 _ _ _ _ (rows_load _ harg1 _ _ _) (rows_load _ harg3 _ _ _) (rows_load _ harg2 _ _ _) inb_S256x2048_S256x256_0_1024 a (load_emb _ harg6 a (Rect.unit ![0, 1024] ![256, 256] inb_S256x2048_S256x256_0_1024))

/-- The first point leaves `dkv` of its blocks in the keys' and values' gradient. -/
theorem out_A_dkv (hc0 : cond0_0 i) (y : S256x2048.Idx) :
    out0_A_4 (F := Ideal) c i arg1 harg1 arg2 harg2 arg3 harg3 arg5 harg5 arg6 harg6 hc0 x0 x1 x2 y = 0 + dkv x0 x1 x2 y := by
  unfold out0_A_4 kernelRun0_A; dsimp only; sl_unfold_run_names
  refine (View.read_writes_apply_eq_canon _ _ _ _ ?_).trans
    (View.canon_append_of_pieces (Val := Elt Ideal) (S := S256x2048) (e := .f32) (fun y => 0 + dkv x0 x1 x2 y) [_] [_, _, _, _, _, _, _, _] ?_ y ?_)
  · obtain ⟨p, hp, hy⟩ := cover0_A_4 (F := Ideal) c i arg1 harg1 arg2 harg2 arg3 harg3 arg5 harg5 arg6 harg6 hc0 x0 x1 x2 y
    exact ⟨p, hp, hy⟩
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, by simp⟩⟩⟩⟩⟩⟩⟩⟩
  · exact dk_piece x0 x1 x2 3 (by norm_num) _ _ _ _ _ (rows_load _ harg1 _ _ _) (rows_load _ harg3 _ _ _) (rows_load _ harg2 _ _ _) (rows_load _ harg2 _ _ _) inb_S256x2048_S256x256_0_768 (fun _ => 0) (fun _ => readCov_skip_zero _ _ _ _ _ rfl (readCov_skip_zero _ _ _ _ _ rfl (readCov_skip_zero _ _ _ _ _ rfl (readCov_skip_zero _ _ _ _ _ rfl (readCov_skip_zero _ _ _ _ _ rfl (readCov_skip_zero _ _ _ _ _ rfl (readCov_skip_zero _ _ _ _ _ rfl (readCov_fill_zero _ _ _))))))))
  · exact dv_piece x0 x1 x2 3 _ _ _ _ (rows_load _ harg1 _ _ _) (rows_load _ harg3 _ _ _) (rows_load _ harg2 _ _ _) inb_S256x2048_S256x256_0_1792 (fun _ => 0) (fun _ => readCov_skip_zero _ _ _ _ _ rfl (readCov_skip_zero _ _ _ _ _ rfl (readCov_skip_zero _ _ _ _ _ rfl (readCov_skip_zero _ _ _ _ _ rfl (readCov_skip_zero _ _ _ _ _ rfl (readCov_skip_zero _ _ _ _ _ rfl (readCov_fill_zero _ _ _)))))))
  · exact dk_piece x0 x1 x2 2 (by norm_num) _ _ _ _ _ (rows_load _ harg1 _ _ _) (rows_load _ harg3 _ _ _) (rows_load _ harg2 _ _ _) (rows_load _ harg2 _ _ _) inb_S256x2048_S256x256_0_512 (fun _ => 0) (fun _ => readCov_skip_zero _ _ _ _ _ rfl (readCov_skip_zero _ _ _ _ _ rfl (readCov_skip_zero _ _ _ _ _ rfl (readCov_skip_zero _ _ _ _ _ rfl (readCov_skip_zero _ _ _ _ _ rfl (readCov_fill_zero _ _ _))))))
  · exact dv_piece x0 x1 x2 2 _ _ _ _ (rows_load _ harg1 _ _ _) (rows_load _ harg3 _ _ _) (rows_load _ harg2 _ _ _) inb_S256x2048_S256x256_0_1536 (fun _ => 0) (fun _ => readCov_skip_zero _ _ _ _ _ rfl (readCov_skip_zero _ _ _ _ _ rfl (readCov_skip_zero _ _ _ _ _ rfl (readCov_skip_zero _ _ _ _ _ rfl (readCov_fill_zero _ _ _)))))
  · exact dk_piece x0 x1 x2 1 (by norm_num) _ _ _ _ _ (rows_load _ harg1 _ _ _) (rows_load _ harg3 _ _ _) (rows_load _ harg2 _ _ _) (rows_load _ harg2 _ _ _) inb_S256x2048_S256x256_0_256 (fun _ => 0) (fun _ => readCov_skip_zero _ _ _ _ _ rfl (readCov_skip_zero _ _ _ _ _ rfl (readCov_skip_zero _ _ _ _ _ rfl (readCov_fill_zero _ _ _))))
  · exact dv_piece x0 x1 x2 1 _ _ _ _ (rows_load _ harg1 _ _ _) (rows_load _ harg3 _ _ _) (rows_load _ harg2 _ _ _) inb_S256x2048_S256x256_0_1280 (fun _ => 0) (fun _ => readCov_skip_zero _ _ _ _ _ rfl (readCov_skip_zero _ _ _ _ _ rfl (readCov_fill_zero _ _ _)))
  · exact dk_piece x0 x1 x2 0 (by norm_num) _ _ _ _ _ (rows_load _ harg1 _ _ _) (rows_load _ harg3 _ _ _) (rows_load _ harg2 _ _ _) (rows_load _ harg2 _ _ _) inb_S256x2048_S256x256_0_0 (fun _ => 0) (fun _ => readCov_skip_zero _ _ _ _ _ rfl (readCov_fill_zero _ _ _))
  · exact dv_piece x0 x1 x2 0 _ _ _ _ (rows_load _ harg1 _ _ _) (rows_load _ harg3 _ _ _) (rows_load _ harg2 _ _ _) inb_S256x2048_S256x256_0_1024 (fun _ => 0) (fun _ => readCov_fill_zero _ _ _)
  · exact View.cover_of_tiledL (s := S256x2048) _ S256x256.size (by sl_kernel_rfl) y

end Points

end Cert.MemBlock

end
-- ==== Proof.MemArray.lean ====
/- What the memory attention's backward kernel leaves in its two result arrays. -/
module

public import proofs.«01_k».proof.Proof.MemBlock
public import Idealize.ShloMosaic.Lib.Pipeline.Value
public import Idealize.ShloMosaic.Lib.Pipeline.ValueKit

@[expose] public section

noncomputable section

namespace Cert.MemArray

open Cert.MemBwdIdeal Cert.MemBwdIdeal.Gen Idealize.ShloMosaic Idealize.ShloMosaic.TcCoe Idealize.ShloMosaic.Tactic Cert.MemHead Cert.MemBlock
open Idealize.ShloMosaic.Pipeline (Dat)

/-- The gradient of the queries, column `e` of 1024, over all tokens: head `e / 256`. -/
def dqAll (proj : FVec Ideal S8192x12288 .bf16) (kv : FVec Ideal S256x2048 .bf16) (dout : FVec Ideal S8192x1024 .bf16)
    (i : Fin 8192) (e : ℕ) : EReal :=
  dqH (fun h => col proj (5120 + 256 * h)) (fun h => col kv (256 * h)) (fun h => col dout (256 * h)) (fun h => col kv (1024 + 256 * h))
    (e / 256) i (Fin.ofNat 256 e)

/-- The gradient of the keys (the first 1024 columns) and of the values (the last) over all tokens. -/
def dkvAll (proj : FVec Ideal S8192x12288 .bf16) (kv : FVec Ideal S256x2048 .bf16) (dout : FVec Ideal S8192x1024 .bf16)
    (j : Fin 256) (e : ℕ) : EReal :=
  if e < 1024 then
    dkH (fun h => col proj (5120 + 256 * h)) (fun h => col kv (256 * h)) (fun h => col dout (256 * h)) (fun h => col kv (1024 + 256 * h))
      (e / 256) j (Fin.ofNat 256 e)
  else
    dvH (fun h => col proj (5120 + 256 * h)) (fun h => col kv (256 * h)) (fun h => col dout (256 * h)) ((e - 1024) / 256) j (Fin.ofNat 256 e)

/-- Row `i` of block `t` of the tokens. -/
def row (t : ℕ) (i : Fin 512) : Fin 8192 := Fin.ofNat 8192 (512 * t + i.val)

variable (m : (ℓ : Loc nD τ sig) → Buf (Elt Ideal) ℓ) (c : Dev nD)

/-- The projections. -/
abbrev proj : FVec Ideal S8192x12288 .bf16 := m ((c : Thread nD τ).loc main_arg0)
/-- The memory's keys and values. -/
abbrev kv : FVec Ideal S256x2048 .bf16 := m ((c : Thread nD τ).loc main_arg1)
/-- The gradient of the attention's output. -/
abbrev dout : FVec Ideal S8192x1024 .bf16 := m ((c : Thread nD τ).loc main_arg2)

theorem index0 : ∀ t : Fin cfg0.N, win0_0.index t 0 = t.val ∧ win0_0.index t 1 = 5 := by
  show ∀ t : Fin grid0.N, _; decide +kernel
theorem index1 : ∀ t : Fin cfg0.N, win0_1.index t 0 = 0 ∧ win0_1.index t 1 = 0 := by
  show ∀ t : Fin grid0.N, _; decide +kernel
theorem index2 : ∀ t : Fin cfg0.N, win0_2.index t 0 = t.val ∧ win0_2.index t 1 = 0 := by
  show ∀ t : Fin grid0.N, _; decide +kernel
theorem index3 : ∀ t : Fin cfg0.N, win0_3.index t 0 = t.val ∧ win0_3.index t 1 = 5 := by
  show ∀ t : Fin grid0.N, _; decide +kernel
theorem index4 : ∀ t : Fin cfg0.N, win0_4.index t 0 = 0 ∧ win0_4.index t 1 = 0 := by
  show ∀ t : Fin grid0.N, _; decide +kernel

theorem lt16 (t : Fin cfg0.N) : t.val < 16 := lt_of_lt_of_eq t.isLt (show cfg0.N = 16 from N_0)

/-- The queries' block at point `t`. -/
theorem iblk0 (t : Fin cfg0.N) (i : Fin 512) (e : Fin 1024) :
    iblk m c 0 t (ix2 i e) = proj m c (ix2 (row t.val i) (Fin.ofNat 12288 (5120 + e.val))) := by
  have hi := index0 t
  have ht := lt16 t
  refine (congrFun (V_main_arg0 m c) _).trans (congrArg (m _) (funext fun a => Fin.ext ?_))
  have h1 := i.isLt
  have h2 := e.isLt
  match a with
  | ⟨0, _⟩ => show win0_0.index t 0 * 512 + 1 * i.val = (512 * t.val + i.val) % 8192; rw [hi.1]; omega
  | ⟨1, _⟩ => show win0_0.index t 1 * 1024 + 1 * e.val = (5120 + e.val) % 12288; rw [hi.2]; omega

/-- Every point reads all keys and values. -/
theorem iblk1 (t : Fin cfg0.N) : iblk m c 1 t = kv m c := by
  have hi := index1 t
  funext y
  refine (congrFun (V_main_arg1 m c) _).trans (congrArg (m _) (funext fun a => Fin.ext ?_))
  match a with
  | ⟨0, _⟩ => show win0_1.index t 0 * 256 + 1 * (y 0).val = (y 0).val; rw [hi.1]; omega
  | ⟨1, _⟩ => show win0_1.index t 1 * 2048 + 1 * (y 1).val = (y 1).val; rw [hi.2]; omega

/-- The output gradients' block at point `t`. -/
theorem iblk2 (t : Fin cfg0.N) (i : Fin 512) (e : Fin 1024) :
    iblk m c 2 t (ix2 i e) = dout m c (ix2 (row t.val i) e) := by
  have hi := index2 t
  have ht := lt16 t
  refine (congrFun (V_main_arg2 m c) _).trans (congrArg (m _) (funext fun a => Fin.ext ?_))
  have h1 := i.isLt
  match a with
  | ⟨0, _⟩ => show win0_2.index t 0 * 512 + 1 * i.val = (512 * t.val + i.val) % 8192; rw [hi.1]; omega
  | ⟨1, _⟩ => show win0_2.index t 1 * 1024 + 1 * e.val = e.val; rw [hi.2]; omega

theorem col0 (t : Fin cfg0.N) (h : ℕ) (hh : h < 4) :
    col (φ := .bf16) (N := 1024) (iblk m c 0 t) (256 * h) = fun i => col (proj m c) (5120 + 256 * h) (row t.val i) := by
  funext i d
  have := d.isLt
  unfold col
  rw [iblk0]
  refine congrArg (fun x => proj m c (ix2 _ x)) (Fin.ext ?_)
  show (5120 + (256 * h + d.val) % 1024) % 12288 = (5120 + 256 * h + d.val) % 12288
  omega

theorem col2 (t : Fin cfg0.N) (h : ℕ) :
    col (φ := .bf16) (N := 1024) (iblk m c 2 t) (256 * h) = fun i => col (dout m c) (256 * h) (row t.val i) := by
  funext i d
  unfold col
  rw [iblk2]

/-- Point `t`'s gradient of the queries is the whole arrays' at its rows. -/
theorem dq_point (t : Fin cfg0.N) (y : S512x1024.Idx) :
    dq (iblk m c 0 t) (iblk m c 1 t) (iblk m c 2 t) y = dqAll (proj m c) (kv m c) (dout m c) (row t.val (y 0)) (y 1).val := by
  obtain ⟨i, e, rfl⟩ : ∃ (i : Fin 512) (e : Fin 1024), y = ix2 i e := ⟨y 0, y 1, eq_ix2 y⟩
  show dqH _ _ _ _ (e.val / 256) i _ = dqH _ _ _ _ (e.val / 256) (row t.val i) _
  have h1 := e.isLt
  unfold dqH
  dsimp only
  rw [col0 m c t _ (by omega), col2, iblk1]
  rfl

/-- Token `i`'s summand of the keys' gradient. -/
def dkTerm (e : ℕ) (j : Fin 256) (i : Fin 8192) : EReal :=
  Softmax.dscore scale (col (proj m c) (5120 + 256 * (e / 256))) (col (kv m c) (256 * (e / 256)))
    (col (dout m c) (256 * (e / 256))) (col (kv m c) (1024 + 256 * (e / 256))) i j * col (proj m c) (5120 + 256 * (e / 256)) i (Fin.ofNat 256 e)

/-- Token `i`'s summand of the values' gradient. -/
def dvTerm (e : ℕ) (j : Fin 256) (i : Fin 8192) : EReal :=
  Softmax.prob (Softmax.score scale (col (proj m c) (5120 + 256 * ((e - 1024) / 256))) (col (kv m c) (256 * ((e - 1024) / 256))) i) j
    * col (dout m c) (256 * ((e - 1024) / 256)) i (Fin.ofNat 256 e)

/-- Point `t`'s part of the keys' and values' gradient: the summands of its rows. -/
def part (t : ℕ) (y : S256x2048.Idx) : EReal :=
  if (y 1).val < 1024 then ∑ i : Fin 512, dkTerm m c (y 1).val (y 0) (row t i)
  else ∑ i : Fin 512, dvTerm m c (y 1).val (y 0) (row t i)

theorem dkv_point (t : Fin cfg0.N) (y : S256x2048.Idx) :
    dkv (iblk m c 0 t) (iblk m c 1 t) (iblk m c 2 t) y = part m c t.val y := by
  obtain ⟨j, e, rfl⟩ : ∃ (j : Fin 256) (e : Fin 2048), y = ix2 j e := ⟨y 0, y 1, eq_ix2 y⟩
  have h1 := e.isLt
  show (if e.val < 1024 then dkH _ _ _ _ (e.val / 256) j _ else dvH _ _ _ ((e.val - 1024) / 256) j _)
    = if e.val < 1024 then ∑ i : Fin 512, dkTerm m c e.val j (row t.val i) else ∑ i : Fin 512, dvTerm m c e.val j (row t.val i)
  unfold dkH dvH
  dsimp only
  split
  · rw [col0 m c t _ (by omega), col2, iblk1]
    rfl
  · rw [col0 m c t _ (by omega), col2, iblk1]
    rfl

/-- After every point the queries' block holds its rows' gradient. -/
theorem outs_dq (t : Fin cfg0.N) (y : S512x1024.Idx) :
    (outsAt0 m c t.val t.isLt).1 y = dqAll (proj m c) (kv m c) (dout m c) (row t.val (y 0)) (y 1).val := by
  rw [← dq_point]
  by_cases h0 : t.val % 16 = 0
  · rw [outsAt0_A m c t h0]
    dsimp only
    exact out_A_dq ..
  · rw [outsAt0_B m c t h0]
    dsimp only
    exact out_B_dq ..

/-- After point `n` the keys' and values' gradient holds the sum of the points' parts up to there. -/
theorem outs_dkv (y : S256x2048.Idx) : ∀ (n : ℕ) (h : n < cfg0.N), (outsAt0 m c n h).2 y = ∑ t ∈ Finset.range (n + 1), part m c t y
  | 0, h => by
    rw [Finset.sum_range_one, ← dkv_point m c ⟨0, h⟩ y, ← zero_add (dkv _ _ _ _)]
    rw [outsAt0_A m c ⟨0, h⟩ rfl]
    dsimp only
    exact out_A_dkv ..
  | n + 1, h => by
    have h0 : ¬(⟨n + 1, h⟩ : Fin cfg0.N).val % 16 = 0 := by have := lt16 ⟨n + 1, h⟩; dsimp only at this ⊢; omega
    rw [Finset.sum_range_succ, ← dkv_point m c ⟨n + 1, h⟩ y, ← outs_dkv y n (Nat.lt_of_succ_lt h)]
    rw [outsAt0_B m c ⟨n + 1, h⟩ h0]
    dsimp only
    exact out_B_dkv ..

/-- A sum over the tokens is the sum over the points of the sum over a point's rows. -/
theorem sum_rows (f : Fin 8192 → EReal) : ∑ t ∈ Finset.range 16, ∑ i : Fin 512, f (row t i) = ∑ i, f i := by
  rw [← Fin.sum_univ_eq_sum_range (fun t => ∑ i : Fin 512, f (row t i)) 16, ← Fintype.sum_prod_type']
  refine Fintype.sum_equiv (finProdFinEquiv (m := 16) (n := 512)) _ _ fun x => congrArg f (Fin.ext ?_)
  have h1 := x.1.isLt
  have h2 := x.2.isLt
  show (512 * x.1.val + x.2.val) % 8192 = x.2.val + 512 * x.1.val
  omega

/-- All points' parts are the gradient over all tokens. -/
theorem sum_part (y : S256x2048.Idx) : ∑ t ∈ Finset.range 16, part m c t y = dkvAll (proj m c) (kv m c) (dout m c) (y 0) (y 1).val := by
  unfold part dkvAll dkH dvH
  split
  · exact sum_rows (dkTerm m c (y 1).val (y 0))
  · exact sum_rows (dvTerm m c (y 1).val (y 0))

/-- The region finds the aliased array as launched. -/
theorem V_alias : V m c main_v0_0 = m ((c : Thread nD τ).loc main_arg3) := rfl

/-- THE FIRST RESULT: columns 5120 to 6143 hold the queries' gradient, the others what the last argument holds. -/
theorem array_dproj : (dats m 0 c).arrAt 3 cfg0.N = fun i : S8192x12288.Idx =>
    if (i 1).val / 1024 = 5 then dqAll (proj m c) (kv m c) (dout m c) (i 0) ((i 1).val - 5120)
    else m ((c : Thread nD τ).loc main_arg3) i := by
  refine ((dats m 0 c).arrAt_eq_of_coversWhere 3 (fun i : S8192x12288.Idx => dqAll (proj m c) (kv m c) (dout m c) (i 0) ((i 1).val - 5120))
    (P := fun i : S8192x12288.Idx => (i 1).val / 1024 = 5)
    (fun β => β (1 : Fin 2) = 5) (by decide +kernel) (fun t hf y => ?_) (fun j => Iff.rfl)).trans ?_
  · show (dats m 0 c).after 3 t y = _
    rw [after0_3, outs_dq]
    have hi := index3 t
    have ht := lt16 t
    have h1 : (y 0).val < 512 := (y 0).isLt
    refine congr (congrArg _ (Fin.ext ?_)) ?_
    · show (512 * t.val + (y 0).val) % 8192 = win0_3.index t 0 * 512 + 1 * (y 0).val
      rw [hi.1]; omega
    · show (y 1).val = win0_3.index t 1 * 1024 + 1 * (y 1).val - 5120
      rw [hi.2]; omega
  · rw [A_eq]
    rfl

/-- THE SECOND RESULT: the keys' and values' gradient. -/
theorem array_dkv : (dats m 0 c).arrAt 4 cfg0.N = fun y : S256x2048.Idx => dkvAll (proj m c) (kv m c) (dout m c) (y 0) (y 1).val := by
  refine (dats m 0 c).arrAt_eq_of_covers 4 _ (by decide +kernel) fun t hf y => ?_
  show (dats m 0 c).after 4 t y = _
  have h15 : t.val = 15 := by have := (flush0_4 t).mp hf; have := lt16 t; omega
  have hi := index4 t
  rw [after0_4, outs_dkv, h15, sum_part]
  refine congr (congrArg _ (Fin.ext ?_)) ?_
  · show (y 0).val = win0_4.index t 0 * 256 + 1 * (y 0).val
    rw [hi.1]; omega
  · show (y 1).val = win0_4.index t 1 * 2048 + 1 * (y 1).val
    rw [hi.2]; omega

end Cert.MemArray

end
-- ==== Proof.MemRef.lean ====
/- What the reference of the memory attention's backward pass computes, at an index. -/
module

public import proofs.«01_k».proof.Proof.MemArray
public import proofs.«01_k».proof.Proof.Gen.MemGradIdeal.Read
public import Idealize.ShloMosaic.Lib.KernelVsHost
public import Idealize.ShloMosaic.Lib.IdealHost

@[expose] public section

noncomputable section

namespace Cert.MemRef

open Cert.MemGradIdeal Cert.MemGradIdeal.Gen Cert.MemGradIdeal.Read Idealize.ShloMosaic Cert.MemHead Cert.MemArray Cert.Softmax

variable (x0 : FVec Ideal S8192x12288 .bf16) (x1 : FVec Ideal S256x2048 .bf16) (x2 : FVec Ideal S8192x1024 .bf16)

/-- The scaled scores of head `h`. -/
abbrev sc (h : ℕ) (i : Fin 8192) : Fin 256 → EReal := score scale (col x0 (5120 + 256 * h)) (col x1 (256 * h)) i

/-- The gradients of head `h`'s probabilities. -/
abbrev ct (h : ℕ) (i : Fin 8192) (j : Fin 256) : EReal := ∑ d, col x2 (256 * h) i d * col x1 (1024 + 256 * h) j d

/-- The queries. -/
theorem v4 (i : S1x8192x4x256.Idx) : val_main_v4 (F := Ideal) x0 i = col x0 (5120 + 256 * (i 2).val) (i 1) (i 3) := by
  rw [val_main_v4_apply, val_main_v1_apply, val_main_v0_apply]
  have h0 : (i 0).val < 1 := (i 0).isLt
  have h1 : (i 1).val < 8192 := (i 1).isLt
  have h2 : (i 2).val < 4 := (i 2).isLt
  have h3 : (i 3).val < 256 := (i 3).isLt
  refine congrArg x0 (funext fun a => Fin.ext ?_)
  match a with
  | ⟨0, _⟩ => show ((((i 0).val * 8192 + (i 1).val) * 4 + (i 2).val) * 256 + (i 3).val) / 1024 = (i 1).val; omega
  | ⟨1, _⟩ =>
    show 5120 + ((((i 0).val * 8192 + (i 1).val) * 4 + (i 2).val) * 256 + (i 3).val) % 1024 = (5120 + 256 * (i 2).val + (i 3).val) % 12288
    omega

/-- The keys. -/
theorem v6 (i : S1x256x4x256.Idx) : val_main_v6 (F := Ideal) x1 i = col x1 (256 * (i 2).val) (i 1) (i 3) := by
  rw [val_main_v6_apply, val_main_v5_apply, val_main_v3_apply, val_main_v2_apply]
  have h0 : (i 0).val < 1 := (i 0).isLt
  have h1 : (i 1).val < 256 := (i 1).isLt
  have h2 : (i 2).val < 4 := (i 2).isLt
  have h3 : (i 3).val < 256 := (i 3).isLt
  refine congrArg x1 (funext fun a => Fin.ext ?_)
  match a with
  | ⟨0, _⟩ =>
    show ((((0 * 256 + ((((i 0).val * 256 + (i 1).val) * 4 + (i 2).val) * 256 + (i 3).val) / 1024 % 256) * 2 + 0) * 4
      + ((((i 0).val * 256 + (i 1).val) * 4 + (i 2).val) * 256 + (i 3).val) / 256 % 4) * 256
      + ((((i 0).val * 256 + (i 1).val) * 4 + (i 2).val) * 256 + (i 3).val) % 256) / 2048 = (i 1).val
    omega
  | ⟨1, _⟩ =>
    show ((((0 * 256 + ((((i 0).val * 256 + (i 1).val) * 4 + (i 2).val) * 256 + (i 3).val) / 1024 % 256) * 2 + 0) * 4
      + ((((i 0).val * 256 + (i 1).val) * 4 + (i 2).val) * 256 + (i 3).val) / 256 % 4) * 256
      + ((((i 0).val * 256 + (i 1).val) * 4 + (i 2).val) * 256 + (i 3).val) % 256) % 2048 = (256 * (i 2).val + (i 3).val) % 2048
    omega

/-- The values. -/
theorem v8 (i : S1x256x4x256.Idx) : val_main_v8 (F := Ideal) x1 i = col x1 (1024 + 256 * (i 2).val) (i 1) (i 3) := by
  rw [val_main_v8_apply, val_main_v7_apply, val_main_v3_apply, val_main_v2_apply]
  have h0 : (i 0).val < 1 := (i 0).isLt
  have h1 : (i 1).val < 256 := (i 1).isLt
  have h2 : (i 2).val < 4 := (i 2).isLt
  have h3 : (i 3).val < 256 := (i 3).isLt
  refine congrArg x1 (funext fun a => Fin.ext ?_)
  match a with
  | ⟨0, _⟩ =>
    show ((((0 * 256 + ((((i 0).val * 256 + (i 1).val) * 4 + (i 2).val) * 256 + (i 3).val) / 1024 % 256) * 2 + (1 + 0)) * 4
      + ((((i 0).val * 256 + (i 1).val) * 4 + (i 2).val) * 256 + (i 3).val) / 256 % 4) * 256
      + ((((i 0).val * 256 + (i 1).val) * 4 + (i 2).val) * 256 + (i 3).val) % 256) / 2048 = (i 1).val
    omega
  | ⟨1, _⟩ =>
    show ((((0 * 256 + ((((i 0).val * 256 + (i 1).val) * 4 + (i 2).val) * 256 + (i 3).val) / 1024 % 256) * 2 + (1 + 0)) * 4
      + ((((i 0).val * 256 + (i 1).val) * 4 + (i 2).val) * 256 + (i 3).val) / 256 % 4) * 256
      + ((((i 0).val * 256 + (i 1).val) * 4 + (i 2).val) * 256 + (i 3).val) % 256) % 2048 = (1024 + 256 * (i 2).val + (i 3).val) % 2048
    omega

/-- The output's gradients, tokens last. -/
theorem v47 (i : S1x4x256x8192.Idx) : val_main_v47 (F := Ideal) x2 i = col x2 (256 * (i 1).val) (i 3) (i 2) := by
  rw [val_main_v47_apply, val_main_v46_apply, val_main_v45_apply, val_main_v44_apply]
  have h0 : (i 0).val < 1 := (i 0).isLt
  have h1 : (i 1).val < 4 := (i 1).isLt
  have h2 : (i 2).val < 256 := (i 2).isLt
  have h3 : (i 3).val < 8192 := (i 3).isLt
  refine congrArg x2 (funext fun a => Fin.ext ?_)
  match a with
  | ⟨0, _⟩ => show ((((i 0).val * 8192 + (i 3).val) * 4 + (i 1).val) * 256 + (i 2).val) / 1024 % 8192 = (i 3).val; omega
  | ⟨1, _⟩ =>
    show ((((i 0).val * 8192 + (i 3).val) * 4 + (i 1).val) * 256 + (i 2).val) % 1024 = (256 * (i 1).val + (i 2).val) % 1024
    omega

/-- The scores. -/
theorem v11 (i : S1x4x8192x256.Idx) : val_main_v11 (F := Ideal) x0 x1 i = sc x0 x1 (i 1).val (i 2) (i 3) := by
  rw [val_main_v11_apply, val_main_v9_apply, val_main_v10_apply, val_main_cst_apply]
  simp only [v4, v6]
  rfl

/-- The rows' greatest scores. -/
theorem v12 (i : S1x4x8192.Idx) : val_main_v12 (F := Ideal) x0 x1 i = top (sc x0 x1 (i 1).val (i 2)) := by
  unfold val_main_v12
  have h' : S1x4x8192x256.Reduces [3] S1x4x8192 := ⟨reducesTo_S1x4x8192x256_S1x4x8192_d3.1, by decide, reducesTo_S1x4x8192x256_S1x4x8192_d3.2⟩
  rw [Host.reduce_eq_fold_single FloatOps.maximumf _ _ reducesTo_S1x4x8192x256_S1x4x8192_d3 h' h_S_]
  rw [val_main_cst_0_apply]
  show Finset.univ.fold max (Ideal.ofBits .f32 0xFF800000#32) (fun k : Fin 256 => val_main_v11 (F := Ideal) x0 x1 (h'.lift i k)) = _
  simp only [v11]
  rw [ofBits_neg_inf]
  rfl

/-- The exponentials. -/
theorem v32 (i : S1x4x8192x256.Idx) : val_main_v32 (F := Ideal) x0 x1 i = ex (sc x0 x1 (i 1).val (i 2)) (i 3) := by
  rw [val_main_v32_apply, val_main_v31_apply, val_main_v30_apply, val_main_v29_apply, val_main_v19_apply, val_main_v18_apply,
    val_main_cst_2_apply, v11, v12]
  show Ideal.exp (_ - max (Ideal.ofBits .f32 0xFF800000#32) _) = _
  rw [ofBits_neg_inf, max_eq_right bot_le]
  rfl

theorem zero_bits : Ideal.ofBits .f32 0x00000000#32 = (0 : EReal) := by simp [Ideal.ofBits, Ideal.ieee]
theorem one_bits : Ideal.ofBits .f32 0x3F800000#32 = (1 : EReal) := by
  simp [Ideal.ofBits, Ideal.ieee]
  rw [← EReal.coe_mul]; norm_num

/-- The sums of the exponentials. -/
theorem v34 (i : S1x4x8192x1.Idx) : val_main_v34 (F := Ideal) x0 x1 i = den (sc x0 x1 (i 1).val (i 2)) := by
  rw [val_main_v34_apply, val_main_v33_apply, val_main_cst_8_apply]
  simp only [v32]
  show Ideal.ofBits .f32 0x00000000#32 + _ = _
  rw [zero_bits, zero_add]
  rfl

/-- The scores are finite. -/
def Finite : Prop := ∀ (h : ℕ) (i : Fin 8192) (j : Fin 256), h < 4 → sc x0 x1 h i j ≠ ⊥ ∧ sc x0 x1 h i j ≠ ⊤

variable {x0 x1} (hfin : Finite x0 x1)
include hfin

/-- The probabilities. -/
theorem v36 (i : S1x4x8192x256.Idx) : val_main_v36 (F := Ideal) x0 x1 i = prob (sc x0 x1 (i 1).val (i 2)) (i 3) := by
  rw [val_main_v36_apply, val_main_v35_apply, v32, v34]
  exact div_den _ (fun j => hfin _ _ j (i 1).isLt) _

omit hfin in
/-- The gradients of the probabilities. -/
theorem v48 (i : S1x4x8192x256.Idx) : val_main_v48 (F := Ideal) x1 x2 i = ct x1 x2 (i 1).val (i 2) (i 3) := by
  rw [val_main_v48_apply]
  simp only [v47, v8]
  rfl

omit hfin in
/-- The rows' sums. -/
theorem v56 (i : S1x4x8192x1.Idx) : val_main_v56 (F := Ideal) x0 x1 x2 i
    = -(∑ k, ct x1 x2 (i 1).val (i 2) k * Ideal.div 1 (den (sc x0 x1 (i 1).val (i 2)) * den (sc x0 x1 (i 1).val (i 2)))
        * ex (sc x0 x1 (i 1).val (i 2)) k) := by
  have h0 : (i 0).val < 1 := (i 0).isLt
  have h1 : (i 1).val < 4 := (i 1).isLt
  have h2 : (i 2).val < 8192 := (i 2).isLt
  have h3 : (i 3).val < 1 := (i 3).isLt
  rw [val_main_v56_apply, val_main_v55_apply, val_main_v54_apply, val_main_cst_10_apply]
  have e1 : idx_main_v55 i 1 = i 1 := Fin.ext (show ((((i 0).val * 4 + (i 1).val) * 8192 + (i 2).val) * 1 + (i 3).val) / 8192 % 4 = (i 1).val by omega)
  have e2 : idx_main_v55 i 2 = i 2 := Fin.ext (show ((((i 0).val * 4 + (i 1).val) * 8192 + (i 2).val) * 1 + (i 3).val) % 8192 = (i 2).val by omega)
  show -(Ideal.ofBits .f32 0x00000000#32 + _) = _
  rw [zero_bits, zero_add]
  refine congrArg _ (Finset.sum_congr rfl fun k _ => ?_)
  rw [val_main_v53_apply, val_main_v52_apply, val_main_v51_apply, val_main_v39_apply, val_main_v38_apply, val_main_cst_9_apply,
    val_main_v37_apply, v34, v32, v48]
  show ct x1 x2 (idx_main_v55 i 1).val (idx_main_v55 i 2) k
    * Ideal.div (Ideal.ofBits .f32 0x3F800000#32) (den (sc x0 x1 (idx_main_v55 i 1).val (idx_main_v55 i 2)) * den (sc x0 x1 (idx_main_v55 i 1).val (idx_main_v55 i 2)))
    * ex (sc x0 x1 (idx_main_v55 i 1).val (idx_main_v55 i 2)) k = _
  rw [e1, e2, one_bits]

omit hfin in
/-- The sum over the two axes of size one keeps its operand. -/
theorem v59 (i : S4x8192.Idx) : val_main_v59 (F := Ideal) x0 x1 x2 i
    = -(∑ k, ct x1 x2 (i 0).val (i 1) k * Ideal.div 1 (den (sc x0 x1 (i 0).val (i 1)) * den (sc x0 x1 (i 0).val (i 1)))
        * ex (sc x0 x1 (i 0).val (i 1)) k) := by
  unfold val_main_v59
  rw [ValueIdx.hostReduceAdd_apply, val_main_cst_11_apply]
  show Ideal.hostReduceAdd _ _ (Ideal.ofBits .f32 0x00000000#32) i = _
  rw [zero_bits]
  unfold Ideal.hostReduceAdd
  rw [zero_add]
  let i0 : S1x4x8192x1.Idx := fun a => match a with
    | ⟨0, _⟩ => ⟨0, Nat.one_pos⟩
    | ⟨1, _⟩ => ⟨(i 0).val, (i 0).isLt⟩
    | ⟨2, _⟩ => ⟨(i 1).val, (i 1).isLt⟩
    | ⟨3, _⟩ => ⟨0, Nat.one_pos⟩
  have e : (Finset.univ.filter fun j => reducesTo_S1x4x8192x1_S4x8192_d0_3.drop j = i) = {i0} := by
    refine Finset.eq_singleton_iff_unique_mem.2 ⟨Finset.mem_filter.2 ⟨Finset.mem_univ _, funext fun b => Fin.ext ?_⟩, fun j hj => funext fun a => Fin.ext ?_⟩
    · match b with
      | ⟨0, _⟩ => rfl
      | ⟨1, _⟩ => rfl
    · have hj := (Finset.mem_filter.1 hj).2
      have e0 : (j 1).val = (i 0).val := congrArg Fin.val (congrFun hj 0)
      have e1 : (j 2).val = (i 1).val := congrArg Fin.val (congrFun hj 1)
      have h0 : (j 0).val < 1 := (j 0).isLt
      have h3 : (j 3).val < 1 := (j 3).isLt
      match a with
      | ⟨0, _⟩ => show (j 0).val = 0; omega
      | ⟨1, _⟩ => exact e0
      | ⟨2, _⟩ => exact e1
      | ⟨3, _⟩ => show (j 3).val = 0; omega
  rw [e, Finset.sum_singleton, v56]
  rfl

/-- The gradients of the unscaled scores. -/
theorem v65 (i : S1x4x8192x256.Idx) : val_main_v65 (F := Ideal) x0 x1 x2 i
    = dscore scale (col x0 (5120 + 256 * (i 1).val)) (col x1 (256 * (i 1).val)) (col x2 (256 * (i 1).val)) (col x1 (1024 + 256 * (i 1).val)) (i 2) (i 3) := by
  rw [val_main_v65_apply, val_main_v64_apply, val_main_cst_12_apply, val_main_v63_apply, val_main_v62_apply, val_main_v61_apply, val_main_v60_apply,
    val_main_v58_apply, val_main_v57_apply, v48, v34, v59, v32]
  exact congrArg (· * scale) (gradRef_eq (sc x0 x1 (i 1).val (i 2)) (ct x1 x2 (i 1).val (i 2)) (fun j => hfin _ _ j (i 1).isLt) (i 3))

/-- The gradient of the queries. -/
theorem v75 (i : S8192x1024.Idx) : val_main_v75 (F := Ideal) x0 x1 x2 i = dqAll x0 x1 x2 (i 0) (i 1).val := by
  have h0 : (i 0).val < 8192 := (i 0).isLt
  have h1 : (i 1).val < 1024 := (i 1).isLt
  rw [val_main_v75_apply, val_main_v69_apply, val_main_v68_apply]
  simp only [v65 x2 hfin, v6]
  have e1 : idx_main_v75 i 1 = i 0 := Fin.ext (show ((i 0).val * 1024 + (i 1).val) / 1024 % 8192 = (i 0).val by omega)
  have e2 : (idx_main_v75 i 2).val = (i 1).val / 256 := (show ((i 0).val * 1024 + (i 1).val) / 256 % 4 = (i 1).val / 256 by omega)
  have e3 : idx_main_v75 i 3 = Fin.ofNat 256 (i 1).val := Fin.ext (show ((i 0).val * 1024 + (i 1).val) % 256 = (i 1).val % 256 by omega)
  show dqH (fun h => col x0 (5120 + 256 * h)) (fun h => col x1 (256 * h)) (fun h => col x2 (256 * h)) (fun h => col x1 (1024 + 256 * h))
    (idx_main_v75 i 2).val (idx_main_v75 i 1) (idx_main_v75 i 3) = _
  rw [e1, e2, e3]
  rfl

/-- The gradient of the keys. -/
theorem v67 (i : S1x256x4x256.Idx) : val_main_v67 (F := Ideal) x0 x1 x2 i
    = dkH (fun h => col x0 (5120 + 256 * h)) (fun h => col x1 (256 * h)) (fun h => col x2 (256 * h)) (fun h => col x1 (1024 + 256 * h))
      (i 2).val (i 1) (i 3) := by
  rw [val_main_v67_apply, val_main_v66_apply]
  simp only [v65 x2 hfin, v4]
  rfl

/-- The gradient of the values. -/
theorem v50 (i : S1x256x4x256.Idx) : val_main_v50 (F := Ideal) x0 x1 x2 i
    = dvH (fun h => col x0 (5120 + 256 * h)) (fun h => col x1 (256 * h)) (fun h => col x2 (256 * h)) (i 2).val (i 1) (i 3) := by
  rw [val_main_v50_apply, val_main_v49_apply]
  simp only [v36 hfin, v47]
  exact Finset.sum_congr rfl fun k _ => mul_comm _ _

/-- THE SECOND RESULT: the gradient of the keys and values. -/
theorem v76 (i : S256x2048.Idx) : val_main_v76 (F := Ideal) x0 x1 x2 i = dkvAll x0 x1 x2 (i 0) (i 1).val := by
  have h0 : (i 0).val < 256 := (i 0).isLt
  have h1 : (i 1).val < 2048 := (i 1).isLt
  have e1 : idx_main_v76 i 1 = i 0 := Fin.ext (show ((i 0).val * 2048 + (i 1).val) / 2048 % 256 = (i 0).val by omega)
  have e2 : (idx_main_v76 i 2).val = (i 1).val / 1024 := (show ((i 0).val * 2048 + (i 1).val) / 1024 % 2 = (i 1).val / 1024 by omega)
  have e3 : (idx_main_v76 i 3).val = (i 1).val / 256 % 4 := (show ((i 0).val * 2048 + (i 1).val) / 256 % 4 = (i 1).val / 256 % 4 by omega)
  have e4 : idx_main_v76 i 4 = Fin.ofNat 256 (i 1).val := Fin.ext (show ((i 0).val * 2048 + (i 1).val) % 256 = (i 1).val % 256 by omega)
  rw [val_main_v76_apply, val_main_v74_apply]
  unfold dkvAll val_main_v71 val_main_v73
  let k : S1x256x1x4x256.Idx := fun a => match a with
    | ⟨0, _⟩ => ⟨0, Nat.one_pos⟩
    | ⟨1, _⟩ => idx_main_v76 i 1
    | ⟨2, _⟩ => ⟨0, Nat.one_pos⟩
    | ⟨3, _⟩ => idx_main_v76 i 3
    | ⟨4, _⟩ => idx_main_v76 i 4
  show pad _ _ _ _ _ _ _ _ (idx_main_v76 i) + pad _ _ _ _ _ _ _ _ (idx_main_v76 i) = _
  split
  · next h =>
    have e2' : (idx_main_v76 i 2).val = 0 := by omega
    rw [pad_apply_of_not_inside _ _ _ _ _ _ _ _ 2 (by show ¬(1 ≤ (idx_main_v76 i 2).val ∧ _); omega),
      pad_apply_of_inside _ _ _ _ _ _ _ _ k (fun a => match a with
        | ⟨0, _⟩ => by show 0 = 0 + 0 * (0 + 1); omega
        | ⟨1, _⟩ => by show (idx_main_v76 i 1).val = 0 + (idx_main_v76 i 1).val * (0 + 1); omega
        | ⟨2, _⟩ => by show (idx_main_v76 i 2).val = 0 + 0 * (0 + 1); omega
        | ⟨3, _⟩ => by show (idx_main_v76 i 3).val = 0 + (idx_main_v76 i 3).val * (0 + 1); omega
        | ⟨4, _⟩ => by show (idx_main_v76 i 4).val = 0 + (idx_main_v76 i 4).val * (0 + 1); omega),
      val_main_cst_13_apply, val_main_v72_apply, v67 x2 hfin]
    show Ideal.ofBits .f32 0x00000000#32 + dkH _ _ _ _ (idx_main_v76 i 3).val (idx_main_v76 i 1) (idx_main_v76 i 4) = _
    rw [zero_bits, zero_add, e3, e1, e4, show (i 1).val / 256 % 4 = (i 1).val / 256 by omega]
  · next h =>
    have e2' : (idx_main_v76 i 2).val = 1 := by omega
    rw [pad_apply_of_inside _ _ _ _ _ _ _ _ k (fun a => match a with
        | ⟨0, _⟩ => by show 0 = 0 + 0 * (0 + 1); omega
        | ⟨1, _⟩ => by show (idx_main_v76 i 1).val = 0 + (idx_main_v76 i 1).val * (0 + 1); omega
        | ⟨2, _⟩ => by show (idx_main_v76 i 2).val = 1 + 0 * (0 + 1); omega
        | ⟨3, _⟩ => by show (idx_main_v76 i 3).val = 0 + (idx_main_v76 i 3).val * (0 + 1); omega
        | ⟨4, _⟩ => by show (idx_main_v76 i 4).val = 0 + (idx_main_v76 i 4).val * (0 + 1); omega),
      pad_apply_of_not_inside _ _ _ _ _ _ _ _ 2 (by show ¬(0 ≤ (idx_main_v76 i 2).val ∧ ((idx_main_v76 i 2).val - 0) % (0 + 1) = 0 ∧ ((idx_main_v76 i 2).val - 0) / (0 + 1) < 1); omega),
      val_main_cst_14_apply, val_main_v70_apply, v50 x2 hfin]
    show dvH _ _ _ (idx_main_v76 i 3).val (idx_main_v76 i 1) (idx_main_v76 i 4) + Ideal.ofBits .f32 0x00000000#32 = _
    rw [zero_bits, add_zero, e3, e1, e4, show (i 1).val / 256 % 4 = ((i 1).val - 1024) / 256 by omega]

/-- THE FIRST RESULT: columns 5120 to 6143 hold the queries' gradient, the others what the last argument holds. -/
theorem v80 (x3 : FVec Ideal S8192x12288 .bf16) (i : S8192x12288.Idx) : val_main_v80 (F := Ideal) x0 x1 x2 x3 i
    = if (i 1).val / 1024 = 5 then dqAll x0 x1 x2 (i 0) ((i 1).val - 5120) else x3 i := by
  have h0 : (i 0).val < 8192 := (i 0).isLt
  have h1 : (i 1).val < 12288 := (i 1).isLt
  unfold val_main_v80
  rcases Nat.lt_or_ge (i 1).val 5120 with hlo | hlo
  · let k : S8192x5120.Idx := fun a => match a with
      | ⟨0, _⟩ => ⟨(i 0).val, h0⟩
      | ⟨1, _⟩ => ⟨(i 1).val, hlo⟩
    rw [if_neg (by omega), concatenate_apply_piece 1 _ _ i 0 (by simp) S8192x5120 _ rfl rfl 0 rfl k
      (fun b hb => match b with
        | ⟨0, _⟩ => rfl
        | ⟨1, _⟩ => absurd rfl hb) (show 0 + (i 1).val = (i 1).val by omega)]
    rw [val_main_v77_apply]
    exact congrArg x3 (funext fun a => Fin.ext (match a with
      | ⟨0, _⟩ => rfl
      | ⟨1, _⟩ => rfl))
  rcases Nat.lt_or_ge (i 1).val 6144 with hhi | hhi
  · let k : S8192x1024.Idx := fun a => match a with
      | ⟨0, _⟩ => ⟨(i 0).val, h0⟩
      | ⟨1, _⟩ => ⟨(i 1).val - 5120, by show _ < 1024; omega⟩
    rw [if_pos (by omega), concatenate_apply_piece 1 _ _ i 1 (by simp) S8192x1024 _ rfl rfl 5120 rfl k
      (fun b hb => match b with
        | ⟨0, _⟩ => rfl
        | ⟨1, _⟩ => absurd rfl hb) (show 5120 + ((i 1).val - 5120) = (i 1).val by omega)]
    rw [val_main_v78_apply]
    exact v75 x2 hfin k
  · let k : S8192x6144.Idx := fun a => match a with
      | ⟨0, _⟩ => ⟨(i 0).val, h0⟩
      | ⟨1, _⟩ => ⟨(i 1).val - 6144, by show _ < 6144; omega⟩
    rw [if_neg (by omega), concatenate_apply_piece 1 _ _ i 2 (by simp) S8192x6144 _ rfl rfl 6144 rfl k
      (fun b hb => match b with
        | ⟨0, _⟩ => rfl
        | ⟨1, _⟩ => absurd rfl hb) (show 6144 + ((i 1).val - 6144) = (i 1).val by omega)]
    rw [val_main_v79_apply]
    exact congrArg x3 (funext fun a => Fin.ext (match a with
      | ⟨0, _⟩ => rfl
      | ⟨1, _⟩ => show 6144 + ((i 1).val - 6144) = (i 1).val by omega))

end Cert.MemRef

end
-- ==== Proof.MemClaim.lean ====
/- The memory attention's backward pass: finite scores from the stated precondition, and the claims. -/
module

public import proofs.«01_k».proof.Defs
public import proofs.«01_k».proof.Proof.MemRef
public import proofs.«01_k».proof.Proof.Gen.MemBwd
public import proofs.«01_k».proof.Proof.Gen.MemBwd.Frame
public import proofs.«01_k».proof.Proof.Gen.MemGradIdeal.Run

@[expose] public section

noncomputable section

namespace Cert.MemClaim

open Idealize.ShloMosaic Idealize.SL.Sem Cert.MemHead Cert.MemArray Cert.Softmax

theorem preFacts : Cert.Pre_finite_scores.Facts := ⟨by decide, by decide, by decide, by decide, by decide⟩

theorem ofBits_inf : Ideal.ofBits .f32 0x7F800000#32 = (⊤ : EReal) := by simp [Ideal.ofBits, Ideal.ieee]

/-- An extended real whose absolute value compares below infinity is neither infinity. -/
theorem finite_of_cmp (x : EReal) (h : FloatOps.cmpf (F := Ideal) (φ := .f32) .olt (FloatOps.absf (F := Ideal) (φ := .f32) x) (Ideal.ofBits .f32 0x7F800000#32) = 1#1) :
    x ≠ ⊥ ∧ x ≠ ⊤ := by
  rw [ofBits_inf] at h
  constructor
  · rintro rfl
    revert h
    simp [FloatOps.cmpf, FloatOps.absf, Ideal.cmp]
  · rintro rfl
    revert h
    simp [FloatOps.cmpf, FloatOps.absf, Ideal.cmp]

/-- A scaled sum of products of finite numbers is finite. -/
theorem finite_score (c : ℝ) {J D : Type} [Fintype D] (q : D → EReal) (k : J → D → EReal) (hq : ∀ d, q d ≠ ⊥ ∧ q d ≠ ⊤)
    (hk : ∀ j d, k j d ≠ ⊥ ∧ k j d ≠ ⊤) (j : J) : (∑ d, q d * k j d) * (c : EReal) ≠ ⊥ ∧ (∑ d, q d * k j d) * (c : EReal) ≠ ⊤ := by
  have h : (∑ d, q d * k j d) * (c : EReal) = (((∑ d, (q d).toReal * (k j d).toReal) * c : ℝ) : EReal) := by
    rw [EReal.coe_mul]
    congr 1
    rw [show ((∑ d, (q d).toReal * (k j d).toReal : ℝ) : EReal) = ∑ d, (((q d).toReal * (k j d).toReal : ℝ) : EReal) from
      map_sum (⟨⟨((↑) : ℝ → EReal), rfl⟩, EReal.coe_add⟩ : ℝ →+ EReal) _ _]
    refine Finset.sum_congr rfl fun d _ => ?_
    rw [EReal.coe_mul, EReal.coe_toReal (hq d).2 (hq d).1, EReal.coe_toReal (hk j d).2 (hk j d).1]
  rw [h]
  exact ⟨EReal.coe_ne_bot _, EReal.coe_ne_top _⟩

theorem scale_real : ∃ c : ℝ, scale = (c : EReal) := ⟨_, by simp [scale, Ideal.ofBits, Ideal.ieee]; rfl⟩

/-- The precondition makes every scaled score finite. -/
theorem finite_of_pre (m : (ℓ : Loc Cert.MemBwdIdeal.nD Cert.MemBwdIdeal.τ Cert.MemBwdIdeal.sig) → Buf (Elt Ideal) ℓ)
    (hm : Pre_MemBwdIdeal_finite_scores (hPre_finite_scores := preFacts) m) (c : Dev Cert.MemBwdIdeal.nD) :
    Cert.MemRef.Finite (proj m c) (kv m c) := by
  obtain ⟨hq, hk⟩ := hm c
  intro h i j hh
  obtain ⟨s, hs⟩ := scale_real
  rw [Cert.MemRef.sc, score, hs]
  refine finite_score s _ _ (fun d => ?_) (fun j d => ?_) j
  · have hd : d.val < 256 := d.isLt
    have e := congrFun hq (ix2 i (⟨256 * h + d.val, by omega⟩ : Fin 1024))
    have := finite_of_cmp _ e
    refine (congrArg (fun x : EReal => x ≠ ⊥ ∧ x ≠ ⊤) (congrArg (proj m c) (funext fun a => Fin.ext ?_))).mp this
    match a with
    | ⟨0, _⟩ => show 0 + i.val = i.val; omega
    | ⟨1, _⟩ => show 5120 + (256 * h + d.val) = (5120 + 256 * h + d.val) % 12288; omega
  · have hd : d.val < 256 := d.isLt
    have e := congrFun hk (ix2 j (⟨256 * h + d.val, by omega⟩ : Fin 1024))
    have := finite_of_cmp _ e
    refine (congrArg (fun x : EReal => x ≠ ⊥ ∧ x ≠ ⊤) (congrArg (kv m c) (funext fun a => Fin.ext ?_))).mp this
    match a with
    | ⟨0, _⟩ => show 0 + j.val = j.val; omega
    | ⟨1, _⟩ => show 0 + (256 * h + d.val) = (256 * h + d.val) % 2048; omega

/-- The kernel's two results are the reference's, on finite memory queries and keys. -/
theorem algebraic : algebraic_MemBwdIdeal_MemGradIdeal_pre_finite_scores (hMemBwdIdeal := Cert.MemBwdIdeal.Gen.facts)
    (hMemGradIdeal := Cert.MemGradIdeal.Gen.facts) (hPre_finite_scores := preFacts) := by
  intro m ρ m' ρ' hm hagree
  refine ⟨fun c => (Cert.MemBwdIdeal.Gen.dats m 0 c).arrAt 3 Cert.MemBwdIdeal.cfg0.N,
    fun c => (Cert.MemBwdIdeal.Gen.dats m 0 c).arrAt 4 Cert.MemBwdIdeal.cfg0.N, Cert.MemBwdIdeal.Value.run_blocks m ρ, ?_⟩
  refine (θ_run _ _ _).mono (fun r h c => ?_) (Cert.MemGradIdeal.Value.run (F := Ideal) m' ρ')
  obtain ⟨h80, h76, hargs⟩ := h c
  obtain ⟨a0, a1, a2, a3⟩ := hagree c
  have hfin := finite_of_pre m hm c
  refine ⟨h80.trans ?_, h76.trans ?_, hargs⟩
  · rw [Cert.MemGradIdeal.Read.val_main_v80_eq, a0, a1, a2, a3]
    refine Eq.trans (funext fun i => ?_) (array_dproj m c).symm
    exact Cert.MemRef.v80 (x0 := proj m c) (x1 := kv m c) (dout m c) hfin _ i
  · rw [Cert.MemGradIdeal.Read.val_main_v76_eq, a0, a1, a2]
    refine Eq.trans (funext fun i => ?_) (array_dkv m c).symm
    exact Cert.MemRef.v76 (x0 := proj m c) (x1 := kv m c) (dout m c) hfin i

theorem frame_p : quiescent_MemBwd (hMemBwd := Cert.MemBwd.Gen.facts) := fun m ρ _ => Cert.MemBwd.Gen.frame m ρ

theorem frame_pi : quiescent_MemBwdIdeal (hMemBwdIdeal := Cert.MemBwdIdeal.Gen.facts) := fun m ρ _ => Cert.MemBwdIdeal.Gen.frame m ρ

theorem frame_pi_pre : quiescent_MemBwdIdeal_pre_finite_scores (hMemBwdIdeal := Cert.MemBwdIdeal.Gen.facts)
    (hPre_finite_scores := preFacts) := fun m ρ _ => Cert.MemBwdIdeal.Gen.frame m ρ

/-- The reference runs to its end and leaves its arguments; it declares no semaphore. -/
theorem frame_ri : quiescent_MemGradIdeal (hMemGradIdeal := Cert.MemGradIdeal.Gen.facts) := fun m ρ _ =>
  (θ_run _ _ _).mono (fun r h => And.intro (fun c => (h c).2.2) (sem_eq_zero_of_no_sems (by decide) r.2))
    (Cert.MemGradIdeal.Value.run (F := Ideal) m ρ)

theorem frame_ri_pre : quiescent_MemGradIdeal_pre_finite_scores (hMemGradIdeal := Cert.MemGradIdeal.Gen.facts)
    (hPre_finite_scores := preFacts) := fun m ρ _ =>
  (θ_run _ _ _).mono (fun r h => And.intro (fun c => (h c).2.2) (sem_eq_zero_of_no_sems (by decide) r.2))
    (Cert.MemGradIdeal.Value.run (F := Ideal) m ρ)

end Cert.MemClaim

end
-- ==== Proof.Loads.lean ====
/- Loads from memrefs held at known contents, read at an index. -/
module

public import Idealize.ShloMosaic.Lib.WholeRead
public import Idealize.ShloMosaic.Lib.Pointwise

@[expose] public section

noncomputable section

namespace Cert.Loads

open Idealize.ShloMosaic

variable {sig : RefSig} {κ : Kind} {sp : Space} {e : EltTy}

/-- A load of the columns from `off` on. -/
theorem cols {n N b : ℕ} [NeZero N] (a : Memref sig κ sp ⟨2, ![n, N]⟩ e) (ha : a.IsWhole) (x : Vec Ideal ⟨2, ![n, N]⟩ e) (off : ℕ) (inb)
    (i : Fin n) (j : Fin b) :
    View.readAt (Elt Ideal) a.view (Rect.unit (s := ⟨2, ![n, N]⟩) ![0, off] ![n, b] inb).toLoadRect (ha.unread x) (ix2 i j)
      = x (ix2 i (Fin.ofNat N (off + j.val))) := by
  have h1 : off + b ≤ N := inb 1
  have hj := j.isLt
  refine (ha.readAt_unread (Val := Elt Ideal) x _ _).trans (congrArg x (funext fun a => Fin.ext ?_))
  match a with
  | ⟨0, _⟩ => show 0 + 1 * i.val = i.val; omega
  | ⟨1, _⟩ => show off + 1 * j.val = (off + j.val) % N; rw [Nat.mod_eq_of_lt (by omega)]; omega

/-- A load of the whole. -/
theorem all {n N : ℕ} (a : Memref sig κ sp ⟨2, ![n, N]⟩ e) (ha : a.IsWhole) (x : Vec Ideal ⟨2, ![n, N]⟩ e) (inb) (i : Fin n) (j : Fin N) :
    View.readAt (Elt Ideal) a.view (Rect.unit (s := ⟨2, ![n, N]⟩) ![0, 0] ![n, N] inb).toLoadRect (ha.unread x) (ix2 i j) = x (ix2 i j) := by
  refine (ha.readAt_unread (Val := Elt Ideal) x _ _).trans (congrArg x (funext fun a => Fin.ext ?_))
  match a with
  | ⟨0, _⟩ => show 0 + 1 * i.val = i.val; omega
  | ⟨1, _⟩ => show 0 + 1 * j.val = j.val; omega

/-- A load of the slot `k`. -/
theorem slot {s n N : ℕ} (a : Memref sig κ sp ⟨3, ![s, n, N]⟩ e) (ha : a.IsWhole) (x : Vec Ideal ⟨3, ![s, n, N]⟩ e) (k : ℕ) (hk : k < s) (inb)
    (i : Fin n) (j : Fin N) :
    View.readAt (Elt Ideal) a.view (Rect.unit (s := ⟨3, ![s, n, N]⟩) ![k, 0, 0] ![1, n, N] inb).toLoadRect (ha.unread x) (ix3 (0 : Fin 1) i j)
      = x (ix3 ⟨k, hk⟩ i j) := by
  refine (ha.readAt_unread (Val := Elt Ideal) x _ _).trans (congrArg x (funext fun a => Fin.ext ?_))
  match a with
  | ⟨0, _⟩ => show k + 1 * 0 = k; omega
  | ⟨1, _⟩ => show 0 + 1 * i.val = i.val; omega
  | ⟨2, _⟩ => show 0 + 1 * j.val = j.val; omega

/-- A load of the columns from `off` on of a memref of one plane. -/
theorem cols3 {n N b : ℕ} [NeZero N] (a : Memref sig κ sp ⟨3, ![1, n, N]⟩ e) (ha : a.IsWhole) (x : Vec Ideal ⟨3, ![1, n, N]⟩ e) (off : ℕ) (inb)
    (i : Fin n) (j : Fin b) :
    View.readAt (Elt Ideal) a.view (Rect.unit (s := ⟨3, ![1, n, N]⟩) ![0, 0, off] ![1, n, b] inb).toLoadRect (ha.unread x) (ix3 (0 : Fin 1) i j)
      = x (ix3 0 i (Fin.ofNat N (off + j.val))) := by
  have h1 : off + b ≤ N := inb 2
  have hj := j.isLt
  refine (ha.readAt_unread (Val := Elt Ideal) x _ _).trans (congrArg x (funext fun a => Fin.ext ?_))
  match a with
  | ⟨0, _⟩ => rfl
  | ⟨1, _⟩ => show 0 + 1 * i.val = i.val; omega
  | ⟨2, _⟩ => show off + 1 * j.val = (off + j.val) % N; rw [Nat.mod_eq_of_lt (by omega)]; omega

end Cert.Loads

end
-- ==== Proof.DxnBlock.lean ====
/- What one point of the kernel `d_xn` leaves in its accumulator and in its output. -/
module

public import proofs.«01_k».proof.Proof.Gen.DxnBwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.DxnBlock

open Cert.DxnBwdIdeal Cert.DxnBwdIdeal.Gen Idealize.ShloMosaic Idealize.ShloMosaic.Tactic

/-- A point's product: two slots' columns of the first operand against those slots of the second. -/
theorem pay1 (u v : FVec Ideal S1024x1536 .bf16) (p q : FVec Ideal S1x1024x1536 .bf16) (i j : Fin 1024) :
    k0_pay1 (F := Ideal) u p v q (ix2 i j)
      = ∑ e : Fin 1536, u (ix2 i e) * p (ix3 0 j e) + ∑ e : Fin 1536, v (ix2 i e) * q (ix3 0 j e) := by
  pointwise [k0_pay1]

/-- The first store keeps the product. -/
theorem pay2 (u v : FVec Ideal S1024x1536 .bf16) (p q : FVec Ideal S1x1024x1536 .bf16) (i j : Fin 1024) :
    k0_pay2 (F := Ideal) u p v q (ix2 i j) = k0_pay1 (F := Ideal) u p v q (ix2 i j) := by
  unfold k0_pay2
  generalize k0_pay1 (F := Ideal) u p v q = P
  pointwise []

/-- The later stores add it. -/
theorem pay3 (u v : FVec Ideal S1024x1536 .bf16) (p q : FVec Ideal S1x1024x1536 .bf16) (a : FVec Ideal S1024x1024 .f32) (i j : Fin 1024) :
    k0_pay3 (F := Ideal) u p v q a (ix2 i j) = a (ix2 i j) + k0_pay1 (F := Ideal) u p v q (ix2 i j) := by
  unfold k0_pay3
  generalize k0_pay1 (F := Ideal) u p v q = P
  pointwise []

theorem pay4 (u v : FVec Ideal S1024x1536 .bf16) (p q : FVec Ideal S1x1024x1536 .bf16) (a : FVec Ideal S1024x1024 .f32) (i j : Fin 1024) :
    k0_pay4 (F := Ideal) u p v q a (ix2 i j) = a (ix2 i j) + k0_pay1 (F := Ideal) u p v q (ix2 i j) := by
  unfold k0_pay4
  generalize k0_pay1 (F := Ideal) u p v q = P
  pointwise []

/-- The part of the result at `(i, j)` one point adds: its columns of the gradient against its two slots. -/
def part (x0 : FVec Ideal S1024x3072 .bf16) (x1 : FVec Ideal S2x1024x1536 .bf16) (i j : Fin 1024) : EReal :=
  ∑ e : Fin 1536, x0 (ix2 i (Fin.ofNat 3072 e.val)) * x1 (ix3 0 j e) + ∑ e : Fin 1536, x0 (ix2 i (Fin.ofNat 3072 (1536 + e.val))) * x1 (ix3 1 j e)

variable (c : Dev nD) (t : grid0.Coords) (arg3 : Memref sig .tc .vmem S1024x3072 .bf16) (harg3 : arg3.IsWhole)
  (arg4 : Memref sig .tc .vmem S2x1024x1536 .bf16) (harg4 : arg4.IsWhole) (arg5 : Memref sig .tc .vmem S1024x1024 .bf16) (harg5 : arg5.IsWhole)
  (arg6 : Memref sig .tc .vmem S1024x1024 .f32) (harg6 : arg6.IsWhole)
  (x0 : FVec Ideal S1024x3072 .bf16) (x1 : FVec Ideal S2x1024x1536 .bf16) (acc : FVec Ideal S1024x1024 .f32)

/-- A point's product is `part` of its blocks. -/
theorem pay1_loads (inb0 inb1 inb2 inb3) (i j : Fin 1024) :
    k0_pay1 (F := Ideal) (View.readAt (Elt Ideal) arg3.view (Rect.unit (s := S1024x3072) ![0, 0] S1024x1536.size inb0).toLoadRect (harg3.unread x0))
      (View.readAt (Elt Ideal) arg4.view (Rect.unit (s := S2x1024x1536) ![0, 0, 0] S1x1024x1536.size inb1).toLoadRect (harg4.unread x1))
      (View.readAt (Elt Ideal) arg3.view (Rect.unit (s := S1024x3072) ![0, 1536] S1024x1536.size inb2).toLoadRect (harg3.unread x0))
      (View.readAt (Elt Ideal) arg4.view (Rect.unit (s := S2x1024x1536) ![1, 0, 0] S1x1024x1536.size inb3).toLoadRect (harg4.unread x1)) (ix2 i j)
      = part x0 x1 i j := by
  rw [pay1]
  refine congr (congrArg HAdd.hAdd (Finset.sum_congr rfl fun e _ => ?_)) (Finset.sum_congr rfl fun e _ => ?_)
  · exact congr (congrArg HMul.hMul ((Cert.Loads.cols arg3 harg3 x0 0 inb0 i e).trans (by rw [Nat.zero_add]))) (Cert.Loads.slot arg4 harg4 x1 0 (by decide) inb1 j e)
  · exact congr (congrArg HMul.hMul (Cert.Loads.cols arg3 harg3 x0 1536 inb2 i e)) (Cert.Loads.slot arg4 harg4 x1 1 (by decide) inb3 j e)

/-- The first point of a run starts the accumulator at its part. -/
theorem sout_A (hc0 : cond0_0 t) (hc1 : ¬cond0_1 t) (hc2 : ¬cond0_2 t) (i j : Fin 1024) :
    sout0_A_0 (F := Ideal) c t arg3 harg3 arg4 harg4 arg5 harg5 arg6 harg6 hc0 hc1 hc2 x0 x1 (ix2 i j) = part x0 x1 i j := by
  unfold sout0_A_0 kernelRun0_A
  dsimp only
  sl_unfold_run_names
  refine (congrFun (View.read_writes_full (Val := Elt Ideal) _ _ _ _ _) _).trans ?_
  exact (pay2 ..).trans (pay1_loads ..)

/-- A later point adds its part to the accumulator. -/
theorem sout_B (hc0 : ¬cond0_0 t) (hc1 : cond0_1 t) (hc2 : ¬cond0_2 t) (i j : Fin 1024) :
    sout0_B_0 (F := Ideal) c t arg3 harg3 arg4 harg4 arg5 harg5 arg6 harg6 hc0 hc1 hc2 x0 x1 acc (ix2 i j) = acc (ix2 i j) + part x0 x1 i j := by
  unfold sout0_B_0 kernelRun0_B
  dsimp only
  sl_unfold_run_names
  refine (congrFun (View.read_writes_full (Val := Elt Ideal) _ _ _ _ _) _).trans ?_
  exact (pay3 ..).trans (congr (congrArg HAdd.hAdd (Cert.Loads.all arg6 harg6 acc _ i j)) (pay1_loads ..))

/-- The last point of a run stores the accumulator with its part. -/
theorem out_C (hc0 : ¬cond0_0 t) (hc1 : ¬cond0_1 t) (hc2 : cond0_2 t) (i j : Fin 1024) :
    out0_C_2 (F := Ideal) c t arg3 harg3 arg4 harg4 arg5 harg5 arg6 harg6 hc0 hc1 hc2 x0 x1 acc (ix2 i j) = acc (ix2 i j) + part x0 x1 i j := by
  unfold out0_C_2 kernelRun0_C
  dsimp only
  sl_unfold_run_names
  refine (congrFun (View.read_writes_full (Val := Elt Ideal) _ _ _ _ _) _).trans ?_
  exact (pay4 ..).trans (congr (congrArg HAdd.hAdd (Cert.Loads.all arg6 harg6 acc _ i j)) (pay1_loads ..))

end Cert.DxnBlock

end
-- ==== Proof.Sums.lean ====
/- Sums by blocks. -/
module

public import Idealize.ShloMosaic.PureOps.Ideal

@[expose] public section

namespace Cert.Sums

/-- A sum over `K` blocks of `b` is the sum over all. -/
theorem blocks {M : Type} [AddCommMonoid M] (K b N : ℕ) [NeZero N] (h : K * b = N) (f : Fin N → M) :
    ∑ k ∈ Finset.range K, ∑ e : Fin b, f (Fin.ofNat N (b * k + e.val)) = ∑ i, f i := by
  subst h
  rw [← Fin.sum_univ_eq_sum_range (fun k => ∑ e : Fin b, f (Fin.ofNat (K * b) (b * k + e.val))) K, ← Fintype.sum_prod_type']
  refine Fintype.sum_equiv (finProdFinEquiv (m := K) (n := b)) _ _ fun x => congrArg f (Fin.ext ?_)
  have h2 := (finProdFinEquiv x).isLt
  have h3 : (finProdFinEquiv x).val = b * x.1.val + x.2.val := Nat.add_comm _ _
  show (b * x.1.val + x.2.val) % (K * b) = (finProdFinEquiv x).val
  rw [← h3, Nat.mod_eq_of_lt h2]

end Cert.Sums

end
-- ==== Proof.DxnArray.lean ====
/- The array the kernel `d_xn` leaves: the gradient of the input projection's argument. -/
module

public import proofs.«01_k».proof.Proof.DxnBlock
public import proofs.«01_k».proof.Proof.Sums
public import Idealize.ShloMosaic.Lib.Pipeline.Value
public import Idealize.ShloMosaic.Lib.Pipeline.ValueKit

@[expose] public section

noncomputable section

namespace Cert.DxnArray

open Cert.DxnBwdIdeal Cert.DxnBwdIdeal.Gen Idealize.ShloMosaic Idealize.ShloMosaic.TcCoe Cert.DxnBlock
open Idealize.ShloMosaic.Pipeline (Dat)

/-- An entry of the weights, the middle index first. -/
def at3 (w : FVec Ideal S8x2048x1536 .bf16) (q : Fin 2048) (s : Fin 8) (e : Fin 1536) : EReal := w (ix3 s q e)

/-- Column `n`'s summand of the result at `(r, q)`: column `n` of the weights is column `n % 1536` of slot `n / 1536`. -/
def term (a : FVec Ideal S8192x12288 .bf16) (w : FVec Ideal S8x2048x1536 .bf16) (r : Fin 8192) (q : Fin 2048) (n : Fin 12288) : EReal :=
  a (ix2 r n) * at3 w q (Fin.ofNat 8 (n.val / 1536)) (Fin.ofNat 1536 n.val)

variable (m : (ℓ : Loc nD τ sig) → Buf (Elt Ideal) ℓ) (c : Dev nD)

/-- The gradient of the product. -/
abbrev arg0 : FVec Ideal S8192x12288 .bf16 := m ((c : Thread nD τ).loc main_arg0)
/-- The weights. -/
abbrev arg1 : FVec Ideal S8x2048x1536 .bf16 := m ((c : Thread nD τ).loc main_arg1)

theorem index0 : ∀ t : Fin cfg0.N, win0_0.index t 0 = t.val / 8 ∧ win0_0.index t 1 = t.val % 4 := by
  show ∀ t : Fin grid0.N, _; decide +kernel
theorem index1 : ∀ t : Fin cfg0.N, win0_1.index t 0 = t.val % 4 ∧ win0_1.index t 1 = t.val / 4 % 2 ∧ win0_1.index t 2 = 0 := by
  show ∀ t : Fin grid0.N, _; decide +kernel
theorem index2 : ∀ t : Fin cfg0.N, win0_2.index t 0 = t.val / 8 ∧ win0_2.index t 1 = t.val / 4 % 2 := by
  show ∀ t : Fin grid0.N, _; decide +kernel

theorem lt64 (t : Fin cfg0.N) : t.val < 64 := lt_of_lt_of_eq t.isLt (show cfg0.N = 64 from N_0)

/-- Row `i` of point `t`'s block of the result. -/
def row (t : ℕ) (i : Fin 1024) : Fin 8192 := Fin.ofNat 8192 (1024 * (t / 8) + i.val)
/-- Column `j` of point `t`'s block of the result. -/
def col (t : ℕ) (j : Fin 1024) : Fin 2048 := Fin.ofNat 2048 (1024 * (t / 4 % 2) + j.val)

theorem iblk0 (t : Fin cfg0.N) (i : Fin 1024) (e : Fin 3072) :
    iblk m c 0 t (ix2 i e) = arg0 m c (ix2 (row t.val i) (Fin.ofNat 12288 (3072 * (t.val % 4) + e.val))) := by
  have hi := index0 t
  have ht := lt64 t
  refine (congrFun (V_main_arg0 m c) _).trans (congrArg (m _) (funext fun a => Fin.ext ?_))
  have h1 := i.isLt
  have h2 := e.isLt
  match a with
  | ⟨0, _⟩ => show win0_0.index t 0 * 1024 + 1 * i.val = (1024 * (t.val / 8) + i.val) % 8192; rw [hi.1]; omega
  | ⟨1, _⟩ => show win0_0.index t 1 * 3072 + 1 * e.val = (3072 * (t.val % 4) + e.val) % 12288; rw [hi.2]; omega

theorem iblk1 (t : Fin cfg0.N) (s : Fin 2) (j : Fin 1024) (e : Fin 1536) :
    iblk m c 1 t (ix3 s j e) = at3 (arg1 m c) (col t.val j) (Fin.ofNat 8 (2 * (t.val % 4) + s.val)) e := by
  have hi := index1 t
  have ht := lt64 t
  refine (congrFun (V_main_arg1 m c) _).trans (congrArg (m _) (funext fun a => Fin.ext ?_))
  have h1 := s.isLt
  have h2 := j.isLt
  match a with
  | ⟨0, _⟩ => show win0_1.index t 0 * 2 + 1 * s.val = (2 * (t.val % 4) + s.val) % 8; rw [hi.1]; omega
  | ⟨1, _⟩ => show win0_1.index t 1 * 1024 + 1 * j.val = (1024 * (t.val / 4 % 2) + j.val) % 2048; rw [hi.2.1]; omega
  | ⟨2, _⟩ => show win0_1.index t 2 * 1536 + 1 * e.val = e.val; rw [hi.2.2]; omega

/-- Slot `s`'s part of the result at `(r, q)`. -/
def slotPart (r : Fin 8192) (q : Fin 2048) (s : ℕ) : EReal :=
  ∑ e : Fin 1536, term (arg0 m c) (arg1 m c) r q (Fin.ofNat 12288 (1536 * s + e.val))

/-- A point adds its two slots' parts. -/
theorem part_point (t : Fin cfg0.N) (i j : Fin 1024) :
    part (iblk m c 0 t) (iblk m c 1 t) i j
      = slotPart m c (row t.val i) (col t.val j) (2 * (t.val % 4)) + slotPart m c (row t.val i) (col t.val j) (2 * (t.val % 4) + 1) := by
  unfold part slotPart
  refine congr (congrArg HAdd.hAdd (Finset.sum_congr rfl fun e _ => ?_)) (Finset.sum_congr rfl fun e _ => ?_)
  · rw [iblk0, iblk1, term]
    have he := e.isLt
    refine congr (congrArg HMul.hMul (congrArg (fun x => arg0 m c (ix2 _ x)) (Fin.ext ?_))) (congr (congrArg (at3 (arg1 m c) _) (Fin.ext ?_)) (Fin.ext ?_))
    · show (3072 * (t.val % 4) + e.val % 3072) % 12288 = (1536 * (2 * (t.val % 4)) + e.val) % 12288; omega
    · show (2 * (t.val % 4) + 0) % 8 = (1536 * (2 * (t.val % 4)) + e.val) % 12288 / 1536 % 8; omega
    · show e.val = (1536 * (2 * (t.val % 4)) + e.val) % 12288 % 1536; omega
  · rw [iblk0, iblk1, term]
    have he := e.isLt
    refine congr (congrArg HMul.hMul (congrArg (fun x => arg0 m c (ix2 _ x)) (Fin.ext ?_))) (congr (congrArg (at3 (arg1 m c) _) (Fin.ext ?_)) (Fin.ext ?_))
    · show (3072 * (t.val % 4) + (1536 + e.val) % 3072) % 12288 = (1536 * (2 * (t.val % 4) + 1) + e.val) % 12288; omega
    · show (2 * (t.val % 4) + 1) % 8 = (1536 * (2 * (t.val % 4) + 1) + e.val) % 12288 / 1536 % 8; omega
    · show e.val = (1536 * (2 * (t.val % 4) + 1) + e.val) % 12288 % 1536; omega

/-- The first point of a run leaves its part in the accumulator. -/
theorem outs_A (t : Fin cfg0.N) (h0 : t.val % 4 = 0) (i j : Fin 1024) :
    (outsAt0 m c t.val t.isLt).2 (ix2 i j) = part (iblk m c 0 t) (iblk m c 1 t) i j := by
  rw [outsAt0_A m c t h0 (by omega) (by omega)]
  dsimp only
  exact sout_A c _ _ _ _ _ _ _ _ _ _ _ _ _ _ i j

/-- A later point adds its part to the accumulator. -/
theorem outs_B (t : Fin cfg0.N) (h0 : ¬t.val % 4 = 0) (h3 : t.val % 4 ≠ 3) (i j : Fin 1024) :
    (outsAt0 m c t.val t.isLt).2 (ix2 i j) = (outsAt0 m c (t.val - 1) (lt_of_le_of_lt (Nat.sub_le _ _) t.isLt)).2 (ix2 i j) + part (iblk m c 0 t) (iblk m c 1 t) i j := by
  rw [outsAt0_B m c t h0 (by omega) (by omega)]
  dsimp only
  exact sout_B ..

/-- The last point of a run adds its part and stores the sum. -/
theorem outs_C (t : Fin cfg0.N) (h3 : t.val % 4 = 3) (i j : Fin 1024) :
    (outsAt0 m c t.val t.isLt).1 (ix2 i j) = (outsAt0 m c (t.val - 1) (lt_of_le_of_lt (Nat.sub_le _ _) t.isLt)).2 (ix2 i j) + part (iblk m c 0 t) (iblk m c 1 t) i j := by
  rw [outsAt0_C m c t (by omega) (by omega) h3]
  dsimp only
  exact out_C ..

/-- Before the last point of a run the accumulator holds the slots' parts so far. -/
theorem outs_acc (i j : Fin 1024) : ∀ (n : ℕ) (h : n < cfg0.N), n % 4 ≠ 3 →
    (outsAt0 m c n h).2 (ix2 i j) = ∑ s ∈ Finset.range (2 * (n % 4) + 2), slotPart m c (row n i) (col n j) s := by
  intro n
  induction n with
  | zero =>
    intro h h3
    refine (outs_A m c ⟨0, h⟩ rfl i j).trans ((part_point m c ⟨0, h⟩ i j).trans ?_)
    rw [Finset.sum_range_succ, Finset.sum_range_succ, Finset.sum_range_zero, zero_add]
    rfl
  | succ n ih =>
    intro h h3
    by_cases h0 : (n + 1) % 4 = 0
    · refine (outs_A m c ⟨n + 1, h⟩ h0 i j).trans ((part_point m c ⟨n + 1, h⟩ i j).trans ?_)
      dsimp only
      rw [h0, Finset.sum_range_succ, Finset.sum_range_succ, Finset.sum_range_zero, zero_add]
    · refine (outs_B m c ⟨n + 1, h⟩ h0 h3 i j).trans ?_
      refine (congr (congrArg HAdd.hAdd (ih (Nat.lt_of_succ_lt h) (by omega))) (part_point m c ⟨n + 1, h⟩ i j)).trans ?_
      dsimp only
      rw [show row n i = row (n + 1) i by unfold row; congr 3; omega,
        show col n j = col (n + 1) j by unfold col; congr 4; omega, show 2 * ((n + 1) % 4) = 2 * (n % 4) + 2 by omega,
        Finset.sum_range_succ _ (2 * (n % 4) + 2 + 1), Finset.sum_range_succ _ (2 * (n % 4) + 2)]
      exact (add_assoc _ _ _).symm

/-- THE RESULT: every entry is the sum over the columns. -/
theorem array : (dats m 0 c).arrAt 2 cfg0.N = fun y : S8192x2048.Idx => ∑ n, term (arg0 m c) (arg1 m c) (y 0) (y 1) n := by
  refine (dats m 0 c).arrAt_eq_of_covers 2 _ (by decide +kernel) fun t hf y => ?_
  show (dats m 0 c).after 2 t y = _
  have h3 : t.val % 4 = 3 := (flush0_2 t).mp hf
  have hi := index2 t
  have ht := lt64 t
  obtain ⟨i, j, rfl⟩ : ∃ (i j : Fin 1024), y = ix2 i j := ⟨y 0, y 1, eq_ix2 y⟩
  rw [after0_2]
  refine (outs_C m c t h3 i j).trans ?_
  have h1 := i.isLt
  have h2 := j.isLt
  rw [part_point m c t i j, outs_acc m c i j _ _ (by omega), show row (t.val - 1) i = row t.val i by unfold row; congr 3; omega,
    show col (t.val - 1) j = col t.val j by unfold col; congr 4; omega, show 2 * ((t.val - 1) % 4) + 2 = 6 by omega, h3, ← add_assoc,
    ← Finset.sum_range_succ, ← Finset.sum_range_succ]
  refine (Cert.Sums.blocks 8 1536 12288 rfl (term (arg0 m c) (arg1 m c) (row t.val i) (col t.val j))).trans ?_
  refine Finset.sum_congr rfl fun n _ => congrFun (congr (congrArg (term (arg0 m c) (arg1 m c)) (Fin.ext ?_)) (Fin.ext ?_)) n
  · show (1024 * (t.val / 8) + i.val) % 8192 = win0_2.index t 0 * 1024 + 1 * i.val
    rw [hi.1]; omega
  · show (1024 * (t.val / 4 % 2) + j.val) % 2048 = win0_2.index t 1 * 1024 + 1 * j.val
    rw [hi.2]; omega

end Cert.DxnArray

end
-- ==== Proof.DxnClaim.lean ====
/- The kernel `d_xn`: what its reference computes, at an index, and the claims. -/
module

public import proofs.«01_k».proof.Defs
public import proofs.«01_k».proof.Proof.DxnArray
public import proofs.«01_k».proof.Proof.Gen.DxnBwd
public import proofs.«01_k».proof.Proof.Gen.DxnBwd.Frame
public import proofs.«01_k».proof.Proof.Gen.DxnGradIdeal.Read

@[expose] public section

noncomputable section

namespace Cert.DxnClaim

open Idealize.ShloMosaic Idealize.SL.Sem Cert.DxnArray Cert.DxnGradIdeal Cert.DxnGradIdeal.Read

/-- The reference's result is the sum over the columns. -/
theorem ref (x0 : FVec Ideal S8192x12288 .bf16) (x1 : FVec Ideal S8x2048x1536 .bf16) (y : S8192x2048.Idx) :
    val_main_v11 (F := Ideal) x0 x1 y = ∑ n, term x0 x1 (y 0) (y 1) n := by
  refine (val_main_v11_apply ..).trans ((val_main_v8_apply ..).trans (Finset.sum_congr rfl fun n _ => ?_))
  rw [val_main_v3_apply, val_main_v2_apply]
  show _ = x0 (ix2 (y 0) n) * x1 (ix3 (Fin.ofNat 8 (n.val / 1536)) (y 1) (Fin.ofNat 1536 n.val))
  have h0 : (y 1).val < 2048 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => show ((y 1).val * 12288 + n.val) / 1536 % 8 = n.val / 1536 % 8; omega
    | ⟨1, _⟩ => show ((y 1).val * 12288 + n.val) / 12288 = (y 1).val; omega
    | ⟨2, _⟩ => show ((y 1).val * 12288 + n.val) % 1536 = n.val % 1536; omega

/-- The kernel's result is the reference's. -/
theorem algebraic : algebraic_DxnBwdIdeal_DxnGradIdeal (hDxnBwdIdeal := Cert.DxnBwdIdeal.Gen.facts)
    (hDxnGradIdeal := Cert.DxnGradIdeal.Gen.facts) := by
  intro m ρ m' ρ' _ hagree
  refine ⟨fun c => (Cert.DxnBwdIdeal.Gen.dats m 0 c).arrAt 2 Cert.DxnBwdIdeal.cfg0.N, Cert.DxnBwdIdeal.Value.run_blocks m ρ, ?_⟩
  refine (θ_run _ _ _).mono (fun r h c => ?_) (Cert.DxnGradIdeal.Value.run (F := Ideal) m' ρ')
  obtain ⟨hv, hargs⟩ := h c
  obtain ⟨a0, a1⟩ := hagree c
  refine ⟨hv.trans ?_, hargs⟩
  rw [val_main_v11_eq, a0, a1]
  exact Eq.trans (funext fun y => ref (arg0 m c) (arg1 m c) y) (array m c).symm

theorem frame_p : quiescent_DxnBwd (hDxnBwd := Cert.DxnBwd.Gen.facts) := fun m ρ _ => Cert.DxnBwd.Gen.frame m ρ

theorem frame_pi : quiescent_DxnBwdIdeal (hDxnBwdIdeal := Cert.DxnBwdIdeal.Gen.facts) := fun m ρ _ => Cert.DxnBwdIdeal.Gen.frame m ρ

/-- The reference runs to its end and leaves its arguments; it declares no semaphore. -/
theorem frame_ri : quiescent_DxnGradIdeal (hDxnGradIdeal := Cert.DxnGradIdeal.Gen.facts) := fun m ρ _ =>
  (θ_run _ _ _).mono (fun r h => And.intro (fun c => (h c).2) (sem_eq_zero_of_no_sems (by decide) r.2))
    (Cert.DxnGradIdeal.Value.run (F := Ideal) m ρ)

end Cert.DxnClaim

end
-- ==== Proof.GwinBlock.lean ====
/- What one point of the kernel `g_w_in` leaves in its accumulator and in its output. -/
module

public import proofs.«01_k».proof.Proof.Gen.GwinBwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.GwinBlock

open Cert.GwinBwdIdeal Cert.GwinBwdIdeal.Gen Idealize.ShloMosaic Idealize.ShloMosaic.Tactic

/-- The part of the result at `(i, j)` one point adds: its rows of the one operand against those of the other. -/
def part (x0 : FVec Ideal S2048x1024 .bf16) (x1 : FVec Ideal S2048x1536 .bf16) (i : Fin 1024) (j : Fin 1536) : EReal :=
  ∑ e : Fin 2048, x0 (ix2 e i) * x1 (ix2 e j)

variable (x0 : FVec Ideal S2048x1024 .bf16) (x1 : FVec Ideal S2048x1536 .bf16) (acc : FVec Ideal S1024x1536 .f32) (i : Fin 1024) (j : Fin 1536)

/-- A point's product. -/
theorem pay1 : k0_pay1 (F := Ideal) x0 x1 (ix2 i j) = part x0 x1 i j := by
  unfold part
  pointwise [k0_pay1]

/-- The first store keeps the product. -/
theorem pay2 : k0_pay2 (F := Ideal) x0 x1 (ix2 i j) = part x0 x1 i j := by
  rw [← pay1]
  unfold k0_pay2
  generalize k0_pay1 (F := Ideal) x0 x1 = P
  pointwise []

/-- The later stores add it. -/
theorem pay3 : k0_pay3 (F := Ideal) x0 x1 acc (ix2 i j) = acc (ix2 i j) + part x0 x1 i j := by
  rw [← pay1]
  unfold k0_pay3
  generalize k0_pay1 (F := Ideal) x0 x1 = P
  pointwise []

theorem pay4 : k0_pay4 (F := Ideal) x0 x1 acc (ix3 0 i j) = acc (ix2 i j) + part x0 x1 i j := by
  rw [← pay1]
  unfold k0_pay4
  generalize k0_pay1 (F := Ideal) x0 x1 = P
  pointwise []

variable (c : Dev nD) (t : grid0.Coords) (arg3 : Memref sig .tc .vmem S2048x1024 .bf16) (harg3 : arg3.IsWhole)
  (arg4 : Memref sig .tc .vmem S2048x1536 .bf16) (harg4 : arg4.IsWhole) (arg5 : Memref sig .tc .vmem S1x1024x1536 .bf16) (harg5 : arg5.IsWhole)
  (arg6 : Memref sig .tc .vmem S1024x1536 .f32) (harg6 : arg6.IsWhole)

/-- The blocks as loaded are the blocks. -/
theorem part_loads (inb0 inb1) :
    part (View.readAt (Elt Ideal) arg3.view (Rect.unit (s := S2048x1024) ![0, 0] S2048x1024.size inb0).toLoadRect (harg3.unread x0))
      (View.readAt (Elt Ideal) arg4.view (Rect.unit (s := S2048x1536) ![0, 0] S2048x1536.size inb1).toLoadRect (harg4.unread x1)) i j
      = part x0 x1 i j :=
  Finset.sum_congr rfl fun e _ => congr (congrArg HMul.hMul (Cert.Loads.all arg3 harg3 x0 inb0 e i)) (Cert.Loads.all arg4 harg4 x1 inb1 e j)

/-- The first point of a run starts the accumulator at its part. -/
theorem sout_A (hc0 : cond0_0 t) (hc1 : ¬cond0_1 t) (hc2 : ¬cond0_2 t) :
    sout0_A_0 (F := Ideal) c t arg3 harg3 arg4 harg4 arg5 harg5 arg6 harg6 hc0 hc1 hc2 x0 x1 (ix2 i j) = part x0 x1 i j := by
  unfold sout0_A_0 kernelRun0_A
  dsimp only
  sl_unfold_run_names
  refine (congrFun (View.read_writes_full (Val := Elt Ideal) _ _ _ _ _) _).trans ?_
  exact (pay2 ..).trans (part_loads ..)

/-- A later point adds its part to the accumulator. -/
theorem sout_B (hc0 : ¬cond0_0 t) (hc1 : cond0_1 t) (hc2 : ¬cond0_2 t) :
    sout0_B_0 (F := Ideal) c t arg3 harg3 arg4 harg4 arg5 harg5 arg6 harg6 hc0 hc1 hc2 x0 x1 acc (ix2 i j) = acc (ix2 i j) + part x0 x1 i j := by
  unfold sout0_B_0 kernelRun0_B
  dsimp only
  sl_unfold_run_names
  refine (congrFun (View.read_writes_full (Val := Elt Ideal) _ _ _ _ _) _).trans ?_
  exact (pay3 ..).trans (congr (congrArg HAdd.hAdd (Cert.Loads.all arg6 harg6 acc _ i j)) (part_loads ..))

/-- The last point of a run stores the accumulator with its part. -/
theorem out_C (hc0 : ¬cond0_0 t) (hc1 : ¬cond0_1 t) (hc2 : cond0_2 t) :
    out0_C_2 (F := Ideal) c t arg3 harg3 arg4 harg4 arg5 harg5 arg6 harg6 hc0 hc1 hc2 x0 x1 acc (ix3 0 i j) = acc (ix2 i j) + part x0 x1 i j := by
  unfold out0_C_2 kernelRun0_C
  dsimp only
  sl_unfold_run_names
  refine (congrFun (View.read_writes_full (Val := Elt Ideal) _ _ _ _ _) _).trans ?_
  exact (pay4 ..).trans (congr (congrArg HAdd.hAdd (Cert.Loads.all arg6 harg6 acc _ i j)) (part_loads ..))

end Cert.GwinBlock

end
-- ==== Proof.GwinArray.lean ====
/- The array the kernel `g_w_in` leaves: the gradient of the input projection's weights. -/
module

public import proofs.«01_k».proof.Proof.GwinBlock
public import proofs.«01_k».proof.Proof.Sums
public import Idealize.ShloMosaic.Lib.Pipeline.Value
public import Idealize.ShloMosaic.Lib.Pipeline.ValueKit

@[expose] public section

noncomputable section

namespace Cert.GwinArray

open Cert.GwinBwdIdeal Cert.GwinBwdIdeal.Gen Idealize.ShloMosaic Idealize.ShloMosaic.TcCoe Cert.GwinBlock
open Idealize.ShloMosaic.Pipeline (Dat)

/-- Token `n`'s summand of the result at row `r` and column `q` of all columns. -/
def summand (a : FVec Ideal S8192x2048 .bf16) (b : FVec Ideal S8192x12288 .bf16) (r : Fin 2048) (q : ℕ) (n : Fin 8192) : EReal :=
  a (ix2 n r) * b (ix2 n (Fin.ofNat 12288 q))

variable (m : (ℓ : Loc nD τ sig) → Buf (Elt Ideal) ℓ) (c : Dev nD)

/-- The product's first operand. -/
abbrev arg0 : FVec Ideal S8192x2048 .bf16 := m ((c : Thread nD τ).loc main_arg0)
/-- The gradient of the product. -/
abbrev arg1 : FVec Ideal S8192x12288 .bf16 := m ((c : Thread nD τ).loc main_arg1)

theorem index0 : ∀ t : Fin cfg0.N, win0_0.index t 0 = t.val % 4 ∧ win0_0.index t 1 = t.val / 32 := by
  show ∀ t : Fin grid0.N, _; decide +kernel
theorem index1 : ∀ t : Fin cfg0.N, win0_1.index t 0 = t.val % 4 ∧ win0_1.index t 1 = t.val / 4 % 8 := by
  show ∀ t : Fin grid0.N, _; decide +kernel
theorem index2 : ∀ t : Fin cfg0.N, win0_2.index t 0 = t.val / 4 % 8 / 1 ∧ win0_2.index t 1 = t.val / 32 ∧ win0_2.index t 2 = t.val / 4 % 8 % 1 := by
  show ∀ t : Fin grid0.N, _; decide +kernel

theorem lt_pts (t : Fin cfg0.N) : t.val < 64 := lt_of_lt_of_eq t.isLt (show cfg0.N = 64 from N_0)

/-- Row `i` of point `t`'s block of the result. -/
def row (t : ℕ) (i : Fin 1024) : Fin 2048 := Fin.ofNat 2048 (1024 * (t / 32) + i.val)
/-- Column `j` of point `t`'s block of the result, of all columns. -/
def col (t : ℕ) (j : Fin 1536) : ℕ := 1536 * (t / 4 % 8) + j.val

theorem iblk0 (t : Fin cfg0.N) (e : Fin 2048) (i : Fin 1024) :
    iblk m c 0 t (ix2 e i) = arg0 m c (ix2 (Fin.ofNat 8192 (2048 * (t.val % 4) + e.val)) (row t.val i)) := by
  have hi := index0 t
  have ht := lt_pts t
  refine (congrFun (V_main_arg0 m c) _).trans (congrArg (m _) (funext fun a => Fin.ext ?_))
  have h1 := i.isLt
  have h2 := e.isLt
  match a with
  | ⟨0, _⟩ => show win0_0.index t 0 * 2048 + 1 * e.val = (2048 * (t.val % 4) + e.val) % 8192; rw [hi.1]; omega
  | ⟨1, _⟩ => show win0_0.index t 1 * 1024 + 1 * i.val = (1024 * (t.val / 32) + i.val) % 2048; rw [hi.2]; omega

theorem iblk1 (t : Fin cfg0.N) (e : Fin 2048) (j : Fin 1536) :
    iblk m c 1 t (ix2 e j) = (fun b : FVec Ideal S8192x12288 .bf16 => fun (n : Fin 8192) (q : ℕ) => b (ix2 n (Fin.ofNat 12288 q))) (arg1 m c)
      (Fin.ofNat 8192 (2048 * (t.val % 4) + e.val)) (col t.val j) := by
  have hi := index1 t
  have ht := lt_pts t
  refine (congrFun (V_main_arg1 m c) _).trans (congrArg (m _) (funext fun a => Fin.ext ?_))
  have h1 := j.isLt
  have h2 := e.isLt
  match a with
  | ⟨0, _⟩ => show win0_1.index t 0 * 2048 + 1 * e.val = (2048 * (t.val % 4) + e.val) % 8192; rw [hi.1]; omega
  | ⟨1, _⟩ => show win0_1.index t 1 * 1536 + 1 * j.val = (1536 * (t.val / 4 % 8) + j.val) % 12288; rw [hi.2]; omega

/-- The part of the result the `k`-th block of tokens gives. -/
def tokens (r : Fin 2048) (q : ℕ) (k : ℕ) : EReal :=
  ∑ e : Fin 2048, summand (arg0 m c) (arg1 m c) r q (Fin.ofNat 8192 (2048 * k + e.val))

/-- A point adds its block of tokens. -/
theorem part_point (t : Fin cfg0.N) (i : Fin 1024) (j : Fin 1536) :
    part (iblk m c 0 t) (iblk m c 1 t) i j = tokens m c (row t.val i) (col t.val j) (t.val % 4) :=
  Finset.sum_congr rfl fun e _ => congr (congrArg HMul.hMul (iblk0 m c t e i)) (iblk1 m c t e j)

/-- The first point of a run leaves its part in the accumulator. -/
theorem outs_A (t : Fin cfg0.N) (h0 : t.val % 4 = 0) (i : Fin 1024) (j : Fin 1536) :
    (outsAt0 m c t.val t.isLt).2 (ix2 i j) = part (iblk m c 0 t) (iblk m c 1 t) i j := by
  rw [outsAt0_A m c t h0 (by omega) (by omega)]
  dsimp only
  exact sout_A ..

/-- A later point adds its part to the accumulator. -/
theorem outs_B (t : Fin cfg0.N) (h0 : ¬t.val % 4 = 0) (h3 : t.val % 4 ≠ 3) (i : Fin 1024) (j : Fin 1536) :
    (outsAt0 m c t.val t.isLt).2 (ix2 i j) = (outsAt0 m c (t.val - 1) (lt_of_le_of_lt (Nat.sub_le _ _) t.isLt)).2 (ix2 i j) + part (iblk m c 0 t) (iblk m c 1 t) i j := by
  rw [outsAt0_B m c t h0 (by omega) (by omega)]
  dsimp only
  exact sout_B ..

/-- The last point of a run adds its part and stores the sum. -/
theorem outs_C (t : Fin cfg0.N) (h3 : t.val % 4 = 3) (i : Fin 1024) (j : Fin 1536) :
    (outsAt0 m c t.val t.isLt).1 (ix3 0 i j) = (outsAt0 m c (t.val - 1) (lt_of_le_of_lt (Nat.sub_le _ _) t.isLt)).2 (ix2 i j) + part (iblk m c 0 t) (iblk m c 1 t) i j := by
  rw [outsAt0_C m c t (by omega) (by omega) h3]
  dsimp only
  exact out_C ..

/-- Before the last point of a run the accumulator holds the blocks of tokens so far. -/
theorem outs_acc (i : Fin 1024) (j : Fin 1536) : ∀ (n : ℕ) (h : n < cfg0.N), n % 4 ≠ 3 →
    (outsAt0 m c n h).2 (ix2 i j) = ∑ k ∈ Finset.range (n % 4 + 1), tokens m c (row n i) (col n j) k := by
  intro n
  induction n with
  | zero =>
    intro h h3
    refine (outs_A m c ⟨0, h⟩ rfl i j).trans ((part_point m c ⟨0, h⟩ i j).trans ?_)
    rw [Finset.sum_range_succ, Finset.sum_range_zero, zero_add]
  | succ n ih =>
    intro h h3
    by_cases h0 : (n + 1) % 4 = 0
    · refine (outs_A m c ⟨n + 1, h⟩ h0 i j).trans ((part_point m c ⟨n + 1, h⟩ i j).trans ?_)
      dsimp only
      rw [h0, Finset.sum_range_succ, Finset.sum_range_zero, zero_add]
    · refine (outs_B m c ⟨n + 1, h⟩ h0 h3 i j).trans ?_
      refine (congr (congrArg HAdd.hAdd (ih (Nat.lt_of_succ_lt h) (by omega))) (part_point m c ⟨n + 1, h⟩ i j)).trans ?_
      dsimp only
      rw [show row n i = row (n + 1) i by unfold row; congr 3; omega,
        show col n j = col (n + 1) j by unfold col; congr 3; omega, show (n + 1) % 4 = n % 4 + 1 by omega,
        Finset.sum_range_succ _ (n % 4 + 1)]

/-- THE RESULT: every entry is the sum over the tokens. -/
theorem array : (dats m 0 c).arrAt 2 cfg0.N = fun y : S8x2048x1536.Idx => ∑ n, summand (arg0 m c) (arg1 m c) (y 1) (1536 * (y 0).val + (y 2).val) n := by
  refine (dats m 0 c).arrAt_eq_of_covers 2 _ (by decide +kernel) fun t hf y => ?_
  show (dats m 0 c).after 2 t y = _
  have h3 : t.val % 4 = 3 := (flush0_2 t).mp hf
  have hi := index2 t
  have ht := lt_pts t
  obtain ⟨z, i, j, rfl⟩ : ∃ (z : Fin 1) (i : Fin 1024) (j : Fin 1536), y = ix3 z i j := ⟨y 0, y 1, y 2, eq_ix3 y⟩
  obtain rfl : z = 0 := Subsingleton.elim _ _
  rw [after0_2]
  refine (outs_C m c t h3 i j).trans ?_
  have h1 := i.isLt
  have h2 := j.isLt
  rw [part_point m c t i j, outs_acc m c i j _ _ (by omega), show row (t.val - 1) i = row t.val i by unfold row; congr 3; omega,
    show col (t.val - 1) j = col t.val j by unfold col; congr 3; omega, show (t.val - 1) % 4 + 1 = 3 by omega, h3,
    ← Finset.sum_range_succ]
  refine (Cert.Sums.blocks 4 2048 8192 rfl (summand (arg0 m c) (arg1 m c) (row t.val i) (col t.val j))).trans ?_
  refine Finset.sum_congr rfl fun n _ => congrFun (congr (congrArg (summand (arg0 m c) (arg1 m c)) (Fin.ext ?_)) ?_) n
  · show (1024 * (t.val / 32) + i.val) % 2048 = win0_2.index t 1 * 1024 + 1 * i.val
    rw [hi.2.1]; omega
  · show 1536 * (t.val / 4 % 8) + j.val = 1536 * (win0_2.index t 0 * 1 + 1 * 0) + (win0_2.index t 2 * 1536 + 1 * j.val)
    rw [hi.1, hi.2.2]; omega

end Cert.GwinArray

end
-- ==== Proof.GwinClaim.lean ====
/- The kernel `g_w_in`: what its reference computes, at an index, and the claims. -/
module

public import proofs.«01_k».proof.Defs
public import proofs.«01_k».proof.Proof.GwinArray
public import proofs.«01_k».proof.Proof.Gen.GwinBwd
public import proofs.«01_k».proof.Proof.Gen.GwinBwd.Frame
public import proofs.«01_k».proof.Proof.Gen.GwinGradIdeal.Read

@[expose] public section

noncomputable section

namespace Cert.GwinClaim

open Idealize.ShloMosaic Idealize.SL.Sem Cert.GwinArray Cert.GwinGradIdeal Cert.GwinGradIdeal.Read

/-- The reference's result is the sum over the tokens. -/
theorem ref (x0 : FVec Ideal S8192x2048 .bf16) (x1 : FVec Ideal S8192x12288 .bf16) (y : S8x2048x1536.Idx) :
    val_main_v11 (F := Ideal) x0 x1 y = ∑ n, summand x0 x1 (y 1) (1536 * (y 0).val + (y 2).val) n := by
  refine (val_main_v11_apply ..).trans ((val_main_v10_apply ..).trans ((val_main_v9_apply ..).trans ((val_main_v7_apply ..).trans
    ((val_main_v6_apply ..).trans (Finset.sum_congr rfl fun n _ => (mul_comm _ _).trans ?_)))))
  have h0 : (y 0).val < 8 := (y 0).isLt
  have h1 : (y 1).val < 2048 := (y 1).isLt
  have h2 : (y 2).val < 1536 := (y 2).isLt
  show _ = x0 (ix2 n (y 1)) * x1 (ix2 n (Fin.ofNat 12288 (1536 * (y 0).val + (y 2).val)))
  refine congr (congrArg HMul.hMul (congrArg x0 (funext fun a => Fin.ext ?_))) (congrArg x1 (funext fun a => Fin.ext ?_))
  · match a with
    | ⟨0, _⟩ => rfl
    | ⟨1, _⟩ => show (((y 1).val * 8 + (y 0).val) * 1536 + (y 2).val) / 12288 = (y 1).val; omega
  · match a with
    | ⟨0, _⟩ => rfl
    | ⟨1, _⟩ => show (((y 1).val * 8 + (y 0).val) * 1536 + (y 2).val) % 12288 = (1536 * (y 0).val + (y 2).val) % 12288; omega

/-- The kernel's result is the reference's. -/
theorem algebraic : algebraic_GwinBwdIdeal_GwinGradIdeal (hGwinBwdIdeal := Cert.GwinBwdIdeal.Gen.facts)
    (hGwinGradIdeal := Cert.GwinGradIdeal.Gen.facts) := by
  intro m ρ m' ρ' _ hagree
  refine ⟨fun c => (Cert.GwinBwdIdeal.Gen.dats m 0 c).arrAt 2 Cert.GwinBwdIdeal.cfg0.N, Cert.GwinBwdIdeal.Value.run_blocks m ρ, ?_⟩
  refine (θ_run _ _ _).mono (fun r h c => ?_) (Cert.GwinGradIdeal.Value.run (F := Ideal) m' ρ')
  obtain ⟨hv, hargs⟩ := h c
  obtain ⟨a0, a1⟩ := hagree c
  refine ⟨hv.trans ?_, hargs⟩
  rw [val_main_v11_eq, a0, a1]
  exact Eq.trans (funext fun y => ref (arg0 m c) (arg1 m c) y) (array m c).symm

theorem frame_p : quiescent_GwinBwd (hGwinBwd := Cert.GwinBwd.Gen.facts) := fun m ρ _ => Cert.GwinBwd.Gen.frame m ρ

theorem frame_pi : quiescent_GwinBwdIdeal (hGwinBwdIdeal := Cert.GwinBwdIdeal.Gen.facts) := fun m ρ _ => Cert.GwinBwdIdeal.Gen.frame m ρ

/-- The reference runs to its end and leaves its arguments; it declares no semaphore. -/
theorem frame_ri : quiescent_GwinGradIdeal (hGwinGradIdeal := Cert.GwinGradIdeal.Gen.facts) := fun m ρ _ =>
  (θ_run _ _ _).mono (fun r h => And.intro (fun c => (h c).2) (sem_eq_zero_of_no_sems (by decide) r.2))
    (Cert.GwinGradIdeal.Value.run (F := Ideal) m ρ)

end Cert.GwinClaim

end
-- ==== Proof.DhnBlock.lean ====
/- What one point of the kernel `d_hn` leaves in its accumulator and in its output. -/
module

public import proofs.«01_k».proof.Proof.Gen.DhnBwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.DhnBlock

open Cert.DhnBwdIdeal Cert.DhnBwdIdeal.Gen Idealize.ShloMosaic Idealize.ShloMosaic.Tactic

/-- A point's product: two slots' columns of the first operand against those slots of the second. -/
theorem pay1 (u v : FVec Ideal S1x1024x1408 .bf16) (p q : FVec Ideal S1x1024x1408 .bf16) (i j : Fin 1024) :
    k0_pay1 (F := Ideal) u p v q (ix2 i j)
      = ∑ e : Fin 1408, u (ix3 0 i e) * p (ix3 0 j e) + ∑ e : Fin 1408, v (ix3 0 i e) * q (ix3 0 j e) := by
  pointwise [k0_pay1]

/-- The first store keeps the product. -/
theorem pay2 (u v : FVec Ideal S1x1024x1408 .bf16) (p q : FVec Ideal S1x1024x1408 .bf16) (i j : Fin 1024) :
    k0_pay2 (F := Ideal) u p v q (ix2 i j) = k0_pay1 (F := Ideal) u p v q (ix2 i j) := by
  unfold k0_pay2
  generalize k0_pay1 (F := Ideal) u p v q = P
  pointwise []

/-- The later stores add it. -/
theorem pay3 (u v : FVec Ideal S1x1024x1408 .bf16) (p q : FVec Ideal S1x1024x1408 .bf16) (a : FVec Ideal S1024x1024 .f32) (i j : Fin 1024) :
    k0_pay3 (F := Ideal) u p v q a (ix2 i j) = a (ix2 i j) + k0_pay1 (F := Ideal) u p v q (ix2 i j) := by
  unfold k0_pay3
  generalize k0_pay1 (F := Ideal) u p v q = P
  pointwise []

theorem pay4 (u v : FVec Ideal S1x1024x1408 .bf16) (p q : FVec Ideal S1x1024x1408 .bf16) (a : FVec Ideal S1024x1024 .f32) (i j : Fin 1024) :
    k0_pay4 (F := Ideal) u p v q a (ix2 i j) = a (ix2 i j) + k0_pay1 (F := Ideal) u p v q (ix2 i j) := by
  unfold k0_pay4
  generalize k0_pay1 (F := Ideal) u p v q = P
  pointwise []

/-- The part of the result at `(i, j)` one point adds: its columns of the gradient against its two slots. -/
def part (x0 : FVec Ideal S1x1024x2816 .bf16) (x1 : FVec Ideal S2x1024x1408 .bf16) (i j : Fin 1024) : EReal :=
  ∑ e : Fin 1408, x0 (ix3 0 i (Fin.ofNat 2816 e.val)) * x1 (ix3 0 j e) + ∑ e : Fin 1408, x0 (ix3 0 i (Fin.ofNat 2816 (1408 + e.val))) * x1 (ix3 1 j e)

variable (c : Dev nD) (t : grid0.Coords) (arg3 : Memref sig .tc .vmem S1x1024x2816 .bf16) (harg3 : arg3.IsWhole)
  (arg4 : Memref sig .tc .vmem S2x1024x1408 .bf16) (harg4 : arg4.IsWhole) (arg5 : Memref sig .tc .vmem S1024x1024 .bf16) (harg5 : arg5.IsWhole)
  (arg6 : Memref sig .tc .vmem S1024x1024 .f32) (harg6 : arg6.IsWhole)
  (x0 : FVec Ideal S1x1024x2816 .bf16) (x1 : FVec Ideal S2x1024x1408 .bf16) (acc : FVec Ideal S1024x1024 .f32)

/-- A point's product is `part` of its blocks. -/
theorem pay1_loads (inb0 inb1 inb2 inb3) (i j : Fin 1024) :
    k0_pay1 (F := Ideal) (View.readAt (Elt Ideal) arg3.view (Rect.unit (s := S1x1024x2816) ![0, 0, 0] S1x1024x1408.size inb0).toLoadRect (harg3.unread x0))
      (View.readAt (Elt Ideal) arg4.view (Rect.unit (s := S2x1024x1408) ![0, 0, 0] S1x1024x1408.size inb1).toLoadRect (harg4.unread x1))
      (View.readAt (Elt Ideal) arg3.view (Rect.unit (s := S1x1024x2816) ![0, 0, 1408] S1x1024x1408.size inb2).toLoadRect (harg3.unread x0))
      (View.readAt (Elt Ideal) arg4.view (Rect.unit (s := S2x1024x1408) ![1, 0, 0] S1x1024x1408.size inb3).toLoadRect (harg4.unread x1)) (ix2 i j)
      = part x0 x1 i j := by
  rw [pay1]
  refine congr (congrArg HAdd.hAdd (Finset.sum_congr rfl fun e _ => ?_)) (Finset.sum_congr rfl fun e _ => ?_)
  · exact congr (congrArg HMul.hMul ((Cert.Loads.cols3 arg3 harg3 x0 0 inb0 i e).trans (by rw [Nat.zero_add]))) (Cert.Loads.slot arg4 harg4 x1 0 (by decide) inb1 j e)
  · exact congr (congrArg HMul.hMul (Cert.Loads.cols3 arg3 harg3 x0 1408 inb2 i e)) (Cert.Loads.slot arg4 harg4 x1 1 (by decide) inb3 j e)

/-- The first point of a run starts the accumulator at its part. -/
theorem sout_A (hc0 : cond0_0 t) (hc1 : ¬cond0_1 t) (hc2 : ¬cond0_2 t) (i j : Fin 1024) :
    sout0_A_0 (F := Ideal) c t arg3 harg3 arg4 harg4 arg5 harg5 arg6 harg6 hc0 hc1 hc2 x0 x1 (ix2 i j) = part x0 x1 i j := by
  unfold sout0_A_0 kernelRun0_A
  dsimp only
  sl_unfold_run_names
  refine (congrFun (View.read_writes_full (Val := Elt Ideal) _ _ _ _ _) _).trans ?_
  exact (pay2 ..).trans (pay1_loads ..)

/-- A later point adds its part to the accumulator. -/
theorem sout_B (hc0 : ¬cond0_0 t) (hc1 : cond0_1 t) (hc2 : ¬cond0_2 t) (i j : Fin 1024) :
    sout0_B_0 (F := Ideal) c t arg3 harg3 arg4 harg4 arg5 harg5 arg6 harg6 hc0 hc1 hc2 x0 x1 acc (ix2 i j) = acc (ix2 i j) + part x0 x1 i j := by
  unfold sout0_B_0 kernelRun0_B
  dsimp only
  sl_unfold_run_names
  refine (congrFun (View.read_writes_full (Val := Elt Ideal) _ _ _ _ _) _).trans ?_
  exact (pay3 ..).trans (congr (congrArg HAdd.hAdd (Cert.Loads.all arg6 harg6 acc _ i j)) (pay1_loads ..))

/-- The last point of a run stores the accumulator with its part. -/
theorem out_C (hc0 : ¬cond0_0 t) (hc1 : ¬cond0_1 t) (hc2 : cond0_2 t) (i j : Fin 1024) :
    out0_C_2 (F := Ideal) c t arg3 harg3 arg4 harg4 arg5 harg5 arg6 harg6 hc0 hc1 hc2 x0 x1 acc (ix2 i j) = acc (ix2 i j) + part x0 x1 i j := by
  unfold out0_C_2 kernelRun0_C
  dsimp only
  sl_unfold_run_names
  refine (congrFun (View.read_writes_full (Val := Elt Ideal) _ _ _ _ _) _).trans ?_
  exact (pay4 ..).trans (congr (congrArg HAdd.hAdd (Cert.Loads.all arg6 harg6 acc _ i j)) (pay1_loads ..))

end Cert.DhnBlock

end
-- ==== Proof.DhnArray.lean ====
/- The array the kernel `d_hn` leaves: the gradient of the up projection's argument. -/
module

public import proofs.«01_k».proof.Proof.DhnBlock
public import proofs.«01_k».proof.Proof.Sums
public import Idealize.ShloMosaic.Lib.Pipeline.Value
public import Idealize.ShloMosaic.Lib.Pipeline.ValueKit

@[expose] public section

noncomputable section

namespace Cert.DhnArray

open Cert.DhnBwdIdeal Cert.DhnBwdIdeal.Gen Idealize.ShloMosaic Idealize.ShloMosaic.TcCoe Cert.DhnBlock
open Idealize.ShloMosaic.Pipeline (Dat)

/-- An entry of the weights, the middle index first. -/
def at3 (w : FVec Ideal S8x2048x1408 .bf16) (q : Fin 2048) (s : Fin 8) (e : Fin 1408) : EReal := w (ix3 s q e)

/-- An entry of the gradient, the middle index first. -/
def at0 (a : FVec Ideal S2x8192x5632 .bf16) (r : Fin 8192) (h : Fin 2) (e : Fin 5632) : EReal := a (ix3 h r e)

/-- Column `n`'s summand of the result at `(r, q)`: column `n` of the weights is column `n % 1408` of slot `n / 1408`, and column
    `n % 5632` of half `n / 5632` of the gradient. -/
def term (a : FVec Ideal S2x8192x5632 .bf16) (w : FVec Ideal S8x2048x1408 .bf16) (r : Fin 8192) (q : Fin 2048) (n : Fin 11264) : EReal :=
  at0 a r (Fin.ofNat 2 (n.val / 5632)) (Fin.ofNat 5632 n.val) * at3 w q (Fin.ofNat 8 (n.val / 1408)) (Fin.ofNat 1408 n.val)

variable (m : (ℓ : Loc nD τ sig) → Buf (Elt Ideal) ℓ) (c : Dev nD)

/-- The gradient of the product. -/
abbrev arg0 : FVec Ideal S2x8192x5632 .bf16 := m ((c : Thread nD τ).loc main_arg0)
/-- The weights. -/
abbrev arg1 : FVec Ideal S8x2048x1408 .bf16 := m ((c : Thread nD τ).loc main_arg1)

theorem index0 : ∀ t : Fin cfg0.N, win0_0.index t 0 = t.val % 4 / 2 ∧ win0_0.index t 1 = t.val / 8 ∧ win0_0.index t 2 = t.val % 4 % 2 := by
  show ∀ t : Fin grid0.N, _; decide +kernel
theorem index1 : ∀ t : Fin cfg0.N, win0_1.index t 0 = t.val % 4 ∧ win0_1.index t 1 = t.val / 4 % 2 ∧ win0_1.index t 2 = 0 := by
  show ∀ t : Fin grid0.N, _; decide +kernel
theorem index2 : ∀ t : Fin cfg0.N, win0_2.index t 0 = t.val / 8 ∧ win0_2.index t 1 = t.val / 4 % 2 := by
  show ∀ t : Fin grid0.N, _; decide +kernel

theorem lt64 (t : Fin cfg0.N) : t.val < 64 := lt_of_lt_of_eq t.isLt (show cfg0.N = 64 from N_0)

/-- Row `i` of point `t`'s block of the result. -/
def row (t : ℕ) (i : Fin 1024) : Fin 8192 := Fin.ofNat 8192 (1024 * (t / 8) + i.val)
/-- Column `j` of point `t`'s block of the result. -/
def col (t : ℕ) (j : Fin 1024) : Fin 2048 := Fin.ofNat 2048 (1024 * (t / 4 % 2) + j.val)

theorem iblk0 (t : Fin cfg0.N) (i : Fin 1024) (e : Fin 2816) :
    iblk m c 0 t (ix3 0 i e) = at0 (arg0 m c) (row t.val i) (Fin.ofNat 2 (t.val % 4 / 2)) (Fin.ofNat 5632 (2816 * (t.val % 4) + e.val)) := by
  have hi := index0 t
  have ht := lt64 t
  refine (congrFun (V_main_arg0 m c) _).trans (congrArg (m _) (funext fun a => Fin.ext ?_))
  have h1 := i.isLt
  have h2 := e.isLt
  match a with
  | ⟨0, _⟩ => show win0_0.index t 0 * 1 + 1 * 0 = t.val % 4 / 2 % 2; rw [hi.1]; omega
  | ⟨1, _⟩ => show win0_0.index t 1 * 1024 + 1 * i.val = (1024 * (t.val / 8) + i.val) % 8192; rw [hi.2.1]; omega
  | ⟨2, _⟩ => show win0_0.index t 2 * 2816 + 1 * e.val = (2816 * (t.val % 4) + e.val) % 5632; rw [hi.2.2]; omega

theorem iblk1 (t : Fin cfg0.N) (s : Fin 2) (j : Fin 1024) (e : Fin 1408) :
    iblk m c 1 t (ix3 s j e) = at3 (arg1 m c) (col t.val j) (Fin.ofNat 8 (2 * (t.val % 4) + s.val)) e := by
  have hi := index1 t
  have ht := lt64 t
  refine (congrFun (V_main_arg1 m c) _).trans (congrArg (m _) (funext fun a => Fin.ext ?_))
  have h1 := s.isLt
  have h2 := j.isLt
  match a with
  | ⟨0, _⟩ => show win0_1.index t 0 * 2 + 1 * s.val = (2 * (t.val % 4) + s.val) % 8; rw [hi.1]; omega
  | ⟨1, _⟩ => show win0_1.index t 1 * 1024 + 1 * j.val = (1024 * (t.val / 4 % 2) + j.val) % 2048; rw [hi.2.1]; omega
  | ⟨2, _⟩ => show win0_1.index t 2 * 1408 + 1 * e.val = e.val; rw [hi.2.2]; omega

/-- Slot `s`'s part of the result at `(r, q)`. -/
def slotPart (r : Fin 8192) (q : Fin 2048) (s : ℕ) : EReal :=
  ∑ e : Fin 1408, term (arg0 m c) (arg1 m c) r q (Fin.ofNat 11264 (1408 * s + e.val))

/-- A point adds its two slots' parts. -/
theorem part_point (t : Fin cfg0.N) (i j : Fin 1024) :
    part (iblk m c 0 t) (iblk m c 1 t) i j
      = slotPart m c (row t.val i) (col t.val j) (2 * (t.val % 4)) + slotPart m c (row t.val i) (col t.val j) (2 * (t.val % 4) + 1) := by
  unfold part slotPart
  refine congr (congrArg HAdd.hAdd (Finset.sum_congr rfl fun e _ => ?_)) (Finset.sum_congr rfl fun e _ => ?_)
  · rw [iblk0, iblk1, term]
    have he := e.isLt
    refine congr (congrArg HMul.hMul (congr (congrArg (at0 (arg0 m c) _) (Fin.ext ?_)) (Fin.ext ?_))) (congr (congrArg (at3 (arg1 m c) _) (Fin.ext ?_)) (Fin.ext ?_))
    · show t.val % 4 / 2 % 2 = (1408 * (2 * (t.val % 4)) + e.val) % 11264 / 5632 % 2; omega
    · show (2816 * (t.val % 4) + e.val % 2816) % 5632 = (1408 * (2 * (t.val % 4)) + e.val) % 11264 % 5632; omega
    · show (2 * (t.val % 4) + 0) % 8 = (1408 * (2 * (t.val % 4)) + e.val) % 11264 / 1408 % 8; omega
    · show e.val = (1408 * (2 * (t.val % 4)) + e.val) % 11264 % 1408; omega
  · rw [iblk0, iblk1, term]
    have he := e.isLt
    refine congr (congrArg HMul.hMul (congr (congrArg (at0 (arg0 m c) _) (Fin.ext ?_)) (Fin.ext ?_))) (congr (congrArg (at3 (arg1 m c) _) (Fin.ext ?_)) (Fin.ext ?_))
    · show t.val % 4 / 2 % 2 = (1408 * (2 * (t.val % 4) + 1) + e.val) % 11264 / 5632 % 2; omega
    · show (2816 * (t.val % 4) + (1408 + e.val) % 2816) % 5632 = (1408 * (2 * (t.val % 4) + 1) + e.val) % 11264 % 5632; omega
    · show (2 * (t.val % 4) + 1) % 8 = (1408 * (2 * (t.val % 4) + 1) + e.val) % 11264 / 1408 % 8; omega
    · show e.val = (1408 * (2 * (t.val % 4) + 1) + e.val) % 11264 % 1408; omega

/-- The first point of a run leaves its part in the accumulator. -/
theorem outs_A (t : Fin cfg0.N) (h0 : t.val % 4 = 0) (i j : Fin 1024) :
    (outsAt0 m c t.val t.isLt).2 (ix2 i j) = part (iblk m c 0 t) (iblk m c 1 t) i j := by
  rw [outsAt0_A m c t h0 (by omega) (by omega)]
  dsimp only
  exact sout_A c _ _ _ _ _ _ _ _ _ _ _ _ _ _ i j

/-- A later point adds its part to the accumulator. -/
theorem outs_B (t : Fin cfg0.N) (h0 : ¬t.val % 4 = 0) (h3 : t.val % 4 ≠ 3) (i j : Fin 1024) :
    (outsAt0 m c t.val t.isLt).2 (ix2 i j) = (outsAt0 m c (t.val - 1) (lt_of_le_of_lt (Nat.sub_le _ _) t.isLt)).2 (ix2 i j) + part (iblk m c 0 t) (iblk m c 1 t) i j := by
  rw [outsAt0_B m c t h0 (by omega) (by omega)]
  dsimp only
  exact sout_B ..

/-- The last point of a run adds its part and stores the sum. -/
theorem outs_C (t : Fin cfg0.N) (h3 : t.val % 4 = 3) (i j : Fin 1024) :
    (outsAt0 m c t.val t.isLt).1 (ix2 i j) = (outsAt0 m c (t.val - 1) (lt_of_le_of_lt (Nat.sub_le _ _) t.isLt)).2 (ix2 i j) + part (iblk m c 0 t) (iblk m c 1 t) i j := by
  rw [outsAt0_C m c t (by omega) (by omega) h3]
  dsimp only
  exact out_C ..

/-- Before the last point of a run the accumulator holds the slots' parts so far. -/
theorem outs_acc (i j : Fin 1024) : ∀ (n : ℕ) (h : n < cfg0.N), n % 4 ≠ 3 →
    (outsAt0 m c n h).2 (ix2 i j) = ∑ s ∈ Finset.range (2 * (n % 4) + 2), slotPart m c (row n i) (col n j) s := by
  intro n
  induction n with
  | zero =>
    intro h h3
    refine (outs_A m c ⟨0, h⟩ rfl i j).trans ((part_point m c ⟨0, h⟩ i j).trans ?_)
    rw [Finset.sum_range_succ, Finset.sum_range_succ, Finset.sum_range_zero, zero_add]
    rfl
  | succ n ih =>
    intro h h3
    by_cases h0 : (n + 1) % 4 = 0
    · refine (outs_A m c ⟨n + 1, h⟩ h0 i j).trans ((part_point m c ⟨n + 1, h⟩ i j).trans ?_)
      dsimp only
      rw [h0, Finset.sum_range_succ, Finset.sum_range_succ, Finset.sum_range_zero, zero_add]
    · refine (outs_B m c ⟨n + 1, h⟩ h0 h3 i j).trans ?_
      refine (congr (congrArg HAdd.hAdd (ih (Nat.lt_of_succ_lt h) (by omega))) (part_point m c ⟨n + 1, h⟩ i j)).trans ?_
      dsimp only
      rw [show row n i = row (n + 1) i by unfold row; congr 3; omega,
        show col n j = col (n + 1) j by unfold col; congr 4; omega, show 2 * ((n + 1) % 4) = 2 * (n % 4) + 2 by omega,
        Finset.sum_range_succ _ (2 * (n % 4) + 2 + 1), Finset.sum_range_succ _ (2 * (n % 4) + 2)]
      exact (add_assoc _ _ _).symm

/-- THE RESULT: every entry is the sum over the columns. -/
theorem array : (dats m 0 c).arrAt 2 cfg0.N = fun y : S8192x2048.Idx => ∑ n, term (arg0 m c) (arg1 m c) (y 0) (y 1) n := by
  refine (dats m 0 c).arrAt_eq_of_covers 2 _ (by decide +kernel) fun t hf y => ?_
  show (dats m 0 c).after 2 t y = _
  have h3 : t.val % 4 = 3 := (flush0_2 t).mp hf
  have hi := index2 t
  have ht := lt64 t
  obtain ⟨i, j, rfl⟩ : ∃ (i j : Fin 1024), y = ix2 i j := ⟨y 0, y 1, eq_ix2 y⟩
  rw [after0_2]
  refine (outs_C m c t h3 i j).trans ?_
  have h1 := i.isLt
  have h2 := j.isLt
  rw [part_point m c t i j, outs_acc m c i j _ _ (by omega), show row (t.val - 1) i = row t.val i by unfold row; congr 3; omega,
    show col (t.val - 1) j = col t.val j by unfold col; congr 4; omega, show 2 * ((t.val - 1) % 4) + 2 = 6 by omega, h3, ← add_assoc,
    ← Finset.sum_range_succ, ← Finset.sum_range_succ]
  refine (Cert.Sums.blocks 8 1408 11264 rfl (term (arg0 m c) (arg1 m c) (row t.val i) (col t.val j))).trans ?_
  refine Finset.sum_congr rfl fun n _ => congrFun (congr (congrArg (term (arg0 m c) (arg1 m c)) (Fin.ext ?_)) (Fin.ext ?_)) n
  · show (1024 * (t.val / 8) + i.val) % 8192 = win0_2.index t 0 * 1024 + 1 * i.val
    rw [hi.1]; omega
  · show (1024 * (t.val / 4 % 2) + j.val) % 2048 = win0_2.index t 1 * 1024 + 1 * j.val
    rw [hi.2]; omega

end Cert.DhnArray

end
-- ==== Proof.DhnClaim.lean ====
/- The kernel `d_hn`: what its reference computes, at an index, and the claims. -/
module

public import proofs.«01_k».proof.Defs
public import proofs.«01_k».proof.Proof.DhnArray
public import proofs.«01_k».proof.Proof.Gen.DhnBwd
public import proofs.«01_k».proof.Proof.Gen.DhnBwd.Frame
public import proofs.«01_k».proof.Proof.Gen.DhnGradIdeal.Read

@[expose] public section

noncomputable section

namespace Cert.DhnClaim

open Idealize.ShloMosaic Idealize.SL.Sem Cert.DhnArray Cert.DhnGradIdeal Cert.DhnGradIdeal.Read

/-- The reference's result is the sum over the columns. -/
theorem ref (x0 : FVec Ideal S2x8192x5632 .bf16) (x1 : FVec Ideal S8x2048x1408 .bf16) (y : S8192x2048.Idx) :
    val_main_v13 (F := Ideal) x0 x1 y = ∑ n, term x0 x1 (y 0) (y 1) n := by
  refine (val_main_v13_apply ..).trans ((val_main_v10_apply ..).trans (Finset.sum_congr rfl fun n _ => ?_))
  rw [val_main_v5_apply, val_main_v4_apply, val_main_v7_apply, val_main_v1_apply, val_main_v0_apply]
  show _ = x0 (ix3 (Fin.ofNat 2 (n.val / 5632)) (y 0) (Fin.ofNat 5632 n.val)) * x1 (ix3 (Fin.ofNat 8 (n.val / 1408)) (y 1) (Fin.ofNat 1408 n.val))
  have h0 : (y 1).val < 2048 := (y 1).isLt
  have h2 : (y 0).val < 8192 := (y 0).isLt
  have h1 := n.isLt
  refine congr (congrArg HMul.hMul (congrArg x0 (funext fun a => Fin.ext ?_))) (congrArg x1 (funext fun a => Fin.ext ?_))
  · match a with
    | ⟨0, _⟩ => show ((y 0).val * 11264 + n.val) / 5632 % 2 = n.val / 5632 % 2; omega
    | ⟨1, _⟩ => show ((y 0).val * 11264 + n.val) / 11264 = (y 0).val; omega
    | ⟨2, _⟩ => show ((y 0).val * 11264 + n.val) % 5632 = n.val % 5632; omega
  · match a with
    | ⟨0, _⟩ => show ((y 1).val * 11264 + n.val) / 1408 % 8 = n.val / 1408 % 8; omega
    | ⟨1, _⟩ => show ((y 1).val * 11264 + n.val) / 11264 = (y 1).val; omega
    | ⟨2, _⟩ => show ((y 1).val * 11264 + n.val) % 1408 = n.val % 1408; omega

/-- The kernel's result is the reference's. -/
theorem algebraic : algebraic_DhnBwdIdeal_DhnGradIdeal (hDhnBwdIdeal := Cert.DhnBwdIdeal.Gen.facts)
    (hDhnGradIdeal := Cert.DhnGradIdeal.Gen.facts) := by
  intro m ρ m' ρ' _ hagree
  refine ⟨fun c => (Cert.DhnBwdIdeal.Gen.dats m 0 c).arrAt 2 Cert.DhnBwdIdeal.cfg0.N, Cert.DhnBwdIdeal.Value.run_blocks m ρ, ?_⟩
  refine (θ_run _ _ _).mono (fun r h c => ?_) (Cert.DhnGradIdeal.Value.run (F := Ideal) m' ρ')
  obtain ⟨hv, hargs⟩ := h c
  obtain ⟨a0, a1⟩ := hagree c
  refine ⟨hv.trans ?_, hargs⟩
  rw [val_main_v13_eq, a0, a1]
  exact Eq.trans (funext fun y => ref (arg0 m c) (arg1 m c) y) (array m c).symm

theorem frame_p : quiescent_DhnBwd (hDhnBwd := Cert.DhnBwd.Gen.facts) := fun m ρ _ => Cert.DhnBwd.Gen.frame m ρ

theorem frame_pi : quiescent_DhnBwdIdeal (hDhnBwdIdeal := Cert.DhnBwdIdeal.Gen.facts) := fun m ρ _ => Cert.DhnBwdIdeal.Gen.frame m ρ

/-- The reference runs to its end and leaves its arguments; it declares no semaphore. -/
theorem frame_ri : quiescent_DhnGradIdeal (hDhnGradIdeal := Cert.DhnGradIdeal.Gen.facts) := fun m ρ _ =>
  (θ_run _ _ _).mono (fun r h => And.intro (fun c => (h c).2) (sem_eq_zero_of_no_sems (by decide) r.2))
    (Cert.DhnGradIdeal.Value.run (F := Ideal) m ρ)

end Cert.DhnClaim

end
-- ==== Proof.GwupBlock.lean ====
/- What one point of the kernel `g_w_up` leaves in its accumulator and in its output. -/
module

public import proofs.«01_k».proof.Proof.Gen.GwupBwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.GwupBlock

open Cert.GwupBwdIdeal Cert.GwupBwdIdeal.Gen Idealize.ShloMosaic Idealize.ShloMosaic.Tactic

/-- The part of the result at `(i, j)` one point adds: its rows of the one operand against those of the other. -/
def part (x0 : FVec Ideal S2048x1024 .bf16) (x1 : FVec Ideal S1x2048x1408 .bf16) (i : Fin 1024) (j : Fin 1408) : EReal :=
  ∑ e : Fin 2048, x0 (ix2 e i) * x1 (ix3 0 e j)

variable (x0 : FVec Ideal S2048x1024 .bf16) (x1 : FVec Ideal S1x2048x1408 .bf16) (acc : FVec Ideal S1024x1408 .f32) (i : Fin 1024) (j : Fin 1408)

/-- A point's product. -/
theorem pay1 : k0_pay1 (F := Ideal) x0 x1 (ix2 i j) = part x0 x1 i j := by
  unfold part
  pointwise [k0_pay1]

/-- The first store keeps the product. -/
theorem pay2 : k0_pay2 (F := Ideal) x0 x1 (ix2 i j) = part x0 x1 i j := by
  rw [← pay1]
  unfold k0_pay2
  generalize k0_pay1 (F := Ideal) x0 x1 = P
  pointwise []

/-- The later stores add it. -/
theorem pay3 : k0_pay3 (F := Ideal) x0 x1 acc (ix2 i j) = acc (ix2 i j) + part x0 x1 i j := by
  rw [← pay1]
  unfold k0_pay3
  generalize k0_pay1 (F := Ideal) x0 x1 = P
  pointwise []

theorem pay4 : k0_pay4 (F := Ideal) x0 x1 acc (ix3 0 i j) = acc (ix2 i j) + part x0 x1 i j := by
  rw [← pay1]
  unfold k0_pay4
  generalize k0_pay1 (F := Ideal) x0 x1 = P
  pointwise []

variable (c : Dev nD) (t : grid0.Coords) (arg3 : Memref sig .tc .vmem S2048x1024 .bf16) (harg3 : arg3.IsWhole)
  (arg4 : Memref sig .tc .vmem S1x2048x1408 .bf16) (harg4 : arg4.IsWhole) (arg5 : Memref sig .tc .vmem S1x1024x1408 .bf16) (harg5 : arg5.IsWhole)
  (arg6 : Memref sig .tc .vmem S1024x1408 .f32) (harg6 : arg6.IsWhole)

/-- The blocks as loaded are the blocks. -/
theorem part_loads (inb0 inb1) :
    part (View.readAt (Elt Ideal) arg3.view (Rect.unit (s := S2048x1024) ![0, 0] S2048x1024.size inb0).toLoadRect (harg3.unread x0))
      (View.readAt (Elt Ideal) arg4.view (Rect.unit (s := S1x2048x1408) ![0, 0, 0] S1x2048x1408.size inb1).toLoadRect (harg4.unread x1)) i j
      = part x0 x1 i j :=
  Finset.sum_congr rfl fun e _ => congr (congrArg HMul.hMul (Cert.Loads.all arg3 harg3 x0 inb0 e i)) (Cert.Loads.slot arg4 harg4 x1 0 (by decide) inb1 e j)

/-- The first point of a run starts the accumulator at its part. -/
theorem sout_A (hc0 : cond0_0 t) (hc1 : ¬cond0_1 t) (hc2 : ¬cond0_2 t) :
    sout0_A_0 (F := Ideal) c t arg3 harg3 arg4 harg4 arg5 harg5 arg6 harg6 hc0 hc1 hc2 x0 x1 (ix2 i j) = part x0 x1 i j := by
  unfold sout0_A_0 kernelRun0_A
  dsimp only
  sl_unfold_run_names
  refine (congrFun (View.read_writes_full (Val := Elt Ideal) _ _ _ _ _) _).trans ?_
  exact (pay2 ..).trans (part_loads ..)

/-- A later point adds its part to the accumulator. -/
theorem sout_B (hc0 : ¬cond0_0 t) (hc1 : cond0_1 t) (hc2 : ¬cond0_2 t) :
    sout0_B_0 (F := Ideal) c t arg3 harg3 arg4 harg4 arg5 harg5 arg6 harg6 hc0 hc1 hc2 x0 x1 acc (ix2 i j) = acc (ix2 i j) + part x0 x1 i j := by
  unfold sout0_B_0 kernelRun0_B
  dsimp only
  sl_unfold_run_names
  refine (congrFun (View.read_writes_full (Val := Elt Ideal) _ _ _ _ _) _).trans ?_
  exact (pay3 ..).trans (congr (congrArg HAdd.hAdd (Cert.Loads.all arg6 harg6 acc _ i j)) (part_loads ..))

/-- The last point of a run stores the accumulator with its part. -/
theorem out_C (hc0 : ¬cond0_0 t) (hc1 : ¬cond0_1 t) (hc2 : cond0_2 t) :
    out0_C_2 (F := Ideal) c t arg3 harg3 arg4 harg4 arg5 harg5 arg6 harg6 hc0 hc1 hc2 x0 x1 acc (ix3 0 i j) = acc (ix2 i j) + part x0 x1 i j := by
  unfold out0_C_2 kernelRun0_C
  dsimp only
  sl_unfold_run_names
  refine (congrFun (View.read_writes_full (Val := Elt Ideal) _ _ _ _ _) _).trans ?_
  exact (pay4 ..).trans (congr (congrArg HAdd.hAdd (Cert.Loads.all arg6 harg6 acc _ i j)) (part_loads ..))

end Cert.GwupBlock

end
-- ==== Proof.GwupArray.lean ====
/- The array the kernel `g_w_up` leaves: the gradient of the up projection's weights. -/
module

public import proofs.«01_k».proof.Proof.GwupBlock
public import proofs.«01_k».proof.Proof.Sums
public import Idealize.ShloMosaic.Lib.Pipeline.Value
public import Idealize.ShloMosaic.Lib.Pipeline.ValueKit

@[expose] public section

noncomputable section

namespace Cert.GwupArray

open Cert.GwupBwdIdeal Cert.GwupBwdIdeal.Gen Idealize.ShloMosaic Idealize.ShloMosaic.TcCoe Cert.GwupBlock
open Idealize.ShloMosaic.Pipeline (Dat)

/-- Token `n`'s summand of the result at row `r` and column `q` of all columns; column `q` is column `q % 5632` of half `q / 5632`. -/
def summand (a : FVec Ideal S8192x2048 .bf16) (b : FVec Ideal S2x8192x5632 .bf16) (r : Fin 2048) (q : ℕ) (n : Fin 8192) : EReal :=
  a (ix2 n r) * b (ix3 (Fin.ofNat 2 (q / 5632)) n (Fin.ofNat 5632 q))

variable (m : (ℓ : Loc nD τ sig) → Buf (Elt Ideal) ℓ) (c : Dev nD)

/-- The product's first operand. -/
abbrev arg0 : FVec Ideal S8192x2048 .bf16 := m ((c : Thread nD τ).loc main_arg0)
/-- The gradient of the product. -/
abbrev arg1 : FVec Ideal S2x8192x5632 .bf16 := m ((c : Thread nD τ).loc main_arg1)

theorem index0 : ∀ t : Fin cfg0.N, win0_0.index t 0 = t.val % 4 ∧ win0_0.index t 1 = t.val / 32 := by
  show ∀ t : Fin grid0.N, _; decide +kernel
theorem index1 : ∀ t : Fin cfg0.N, win0_1.index t 0 = t.val / 4 % 8 / 4 ∧ win0_1.index t 1 = t.val % 4 ∧ win0_1.index t 2 = t.val / 4 % 8 % 4 := by
  show ∀ t : Fin grid0.N, _; decide +kernel
theorem index2 : ∀ t : Fin cfg0.N, win0_2.index t 0 = t.val / 4 % 8 / 1 ∧ win0_2.index t 1 = t.val / 32 ∧ win0_2.index t 2 = t.val / 4 % 8 % 1 := by
  show ∀ t : Fin grid0.N, _; decide +kernel

theorem lt_pts (t : Fin cfg0.N) : t.val < 64 := lt_of_lt_of_eq t.isLt (show cfg0.N = 64 from N_0)

/-- Row `i` of point `t`'s block of the result. -/
def row (t : ℕ) (i : Fin 1024) : Fin 2048 := Fin.ofNat 2048 (1024 * (t / 32) + i.val)
/-- Column `j` of point `t`'s block of the result, of all columns. -/
def col (t : ℕ) (j : Fin 1408) : ℕ := 1408 * (t / 4 % 8) + j.val

theorem iblk0 (t : Fin cfg0.N) (e : Fin 2048) (i : Fin 1024) :
    iblk m c 0 t (ix2 e i) = arg0 m c (ix2 (Fin.ofNat 8192 (2048 * (t.val % 4) + e.val)) (row t.val i)) := by
  have hi := index0 t
  have ht := lt_pts t
  refine (congrFun (V_main_arg0 m c) _).trans (congrArg (m _) (funext fun a => Fin.ext ?_))
  have h1 := i.isLt
  have h2 := e.isLt
  match a with
  | ⟨0, _⟩ => show win0_0.index t 0 * 2048 + 1 * e.val = (2048 * (t.val % 4) + e.val) % 8192; rw [hi.1]; omega
  | ⟨1, _⟩ => show win0_0.index t 1 * 1024 + 1 * i.val = (1024 * (t.val / 32) + i.val) % 2048; rw [hi.2]; omega

theorem iblk1 (t : Fin cfg0.N) (e : Fin 2048) (j : Fin 1408) :
    iblk m c 1 t (ix3 0 e j) = (fun b : FVec Ideal S2x8192x5632 .bf16 => fun (n : Fin 8192) (q : ℕ) => b (ix3 (Fin.ofNat 2 (q / 5632)) n (Fin.ofNat 5632 q))) (arg1 m c)
      (Fin.ofNat 8192 (2048 * (t.val % 4) + e.val)) (col t.val j) := by
  have hi := index1 t
  have ht := lt_pts t
  refine (congrFun (V_main_arg1 m c) _).trans (congrArg (m _) (funext fun a => Fin.ext ?_))
  have h1 := j.isLt
  have h2 := e.isLt
  match a with
  | ⟨0, _⟩ => show win0_1.index t 0 * 1 + 1 * 0 = (1408 * (t.val / 4 % 8) + j.val) / 5632 % 2; rw [hi.1]; omega
  | ⟨1, _⟩ => show win0_1.index t 1 * 2048 + 1 * e.val = (2048 * (t.val % 4) + e.val) % 8192; rw [hi.2.1]; omega
  | ⟨2, _⟩ => show win0_1.index t 2 * 1408 + 1 * j.val = (1408 * (t.val / 4 % 8) + j.val) % 5632; rw [hi.2.2]; omega

/-- The part of the result the `k`-th block of tokens gives. -/
def tokens (r : Fin 2048) (q : ℕ) (k : ℕ) : EReal :=
  ∑ e : Fin 2048, summand (arg0 m c) (arg1 m c) r q (Fin.ofNat 8192 (2048 * k + e.val))

/-- A point adds its block of tokens. -/
theorem part_point (t : Fin cfg0.N) (i : Fin 1024) (j : Fin 1408) :
    part (iblk m c 0 t) (iblk m c 1 t) i j = tokens m c (row t.val i) (col t.val j) (t.val % 4) :=
  Finset.sum_congr rfl fun e _ => congr (congrArg HMul.hMul (iblk0 m c t e i)) (iblk1 m c t e j)

/-- The first point of a run leaves its part in the accumulator. -/
theorem outs_A (t : Fin cfg0.N) (h0 : t.val % 4 = 0) (i : Fin 1024) (j : Fin 1408) :
    (outsAt0 m c t.val t.isLt).2 (ix2 i j) = part (iblk m c 0 t) (iblk m c 1 t) i j := by
  rw [outsAt0_A m c t h0 (by omega) (by omega)]
  dsimp only
  exact sout_A ..

/-- A later point adds its part to the accumulator. -/
theorem outs_B (t : Fin cfg0.N) (h0 : ¬t.val % 4 = 0) (h3 : t.val % 4 ≠ 3) (i : Fin 1024) (j : Fin 1408) :
    (outsAt0 m c t.val t.isLt).2 (ix2 i j) = (outsAt0 m c (t.val - 1) (lt_of_le_of_lt (Nat.sub_le _ _) t.isLt)).2 (ix2 i j) + part (iblk m c 0 t) (iblk m c 1 t) i j := by
  rw [outsAt0_B m c t h0 (by omega) (by omega)]
  dsimp only
  exact sout_B ..

/-- The last point of a run adds its part and stores the sum. -/
theorem outs_C (t : Fin cfg0.N) (h3 : t.val % 4 = 3) (i : Fin 1024) (j : Fin 1408) :
    (outsAt0 m c t.val t.isLt).1 (ix3 0 i j) = (outsAt0 m c (t.val - 1) (lt_of_le_of_lt (Nat.sub_le _ _) t.isLt)).2 (ix2 i j) + part (iblk m c 0 t) (iblk m c 1 t) i j := by
  rw [outsAt0_C m c t (by omega) (by omega) h3]
  dsimp only
  exact out_C ..

/-- Before the last point of a run the accumulator holds the blocks of tokens so far. -/
theorem outs_acc (i : Fin 1024) (j : Fin 1408) : ∀ (n : ℕ) (h : n < cfg0.N), n % 4 ≠ 3 →
    (outsAt0 m c n h).2 (ix2 i j) = ∑ k ∈ Finset.range (n % 4 + 1), tokens m c (row n i) (col n j) k := by
  intro n
  induction n with
  | zero =>
    intro h h3
    refine (outs_A m c ⟨0, h⟩ rfl i j).trans ((part_point m c ⟨0, h⟩ i j).trans ?_)
    rw [Finset.sum_range_succ, Finset.sum_range_zero, zero_add]
  | succ n ih =>
    intro h h3
    by_cases h0 : (n + 1) % 4 = 0
    · refine (outs_A m c ⟨n + 1, h⟩ h0 i j).trans ((part_point m c ⟨n + 1, h⟩ i j).trans ?_)
      dsimp only
      rw [h0, Finset.sum_range_succ, Finset.sum_range_zero, zero_add]
    · refine (outs_B m c ⟨n + 1, h⟩ h0 h3 i j).trans ?_
      refine (congr (congrArg HAdd.hAdd (ih (Nat.lt_of_succ_lt h) (by omega))) (part_point m c ⟨n + 1, h⟩ i j)).trans ?_
      dsimp only
      rw [show row n i = row (n + 1) i by unfold row; congr 3; omega,
        show col n j = col (n + 1) j by unfold col; congr 3; omega, show (n + 1) % 4 = n % 4 + 1 by omega,
        Finset.sum_range_succ _ (n % 4 + 1)]

/-- THE RESULT: every entry is the sum over the tokens. -/
theorem array : (dats m 0 c).arrAt 2 cfg0.N = fun y : S8x2048x1408.Idx => ∑ n, summand (arg0 m c) (arg1 m c) (y 1) (1408 * (y 0).val + (y 2).val) n := by
  refine (dats m 0 c).arrAt_eq_of_covers 2 _ (by decide +kernel) fun t hf y => ?_
  show (dats m 0 c).after 2 t y = _
  have h3 : t.val % 4 = 3 := (flush0_2 t).mp hf
  have hi := index2 t
  have ht := lt_pts t
  obtain ⟨z, i, j, rfl⟩ : ∃ (z : Fin 1) (i : Fin 1024) (j : Fin 1408), y = ix3 z i j := ⟨y 0, y 1, y 2, eq_ix3 y⟩
  obtain rfl : z = 0 := Subsingleton.elim _ _
  rw [after0_2]
  refine (outs_C m c t h3 i j).trans ?_
  have h1 := i.isLt
  have h2 := j.isLt
  rw [part_point m c t i j, outs_acc m c i j _ _ (by omega), show row (t.val - 1) i = row t.val i by unfold row; congr 3; omega,
    show col (t.val - 1) j = col t.val j by unfold col; congr 3; omega, show (t.val - 1) % 4 + 1 = 3 by omega, h3,
    ← Finset.sum_range_succ]
  refine (Cert.Sums.blocks 4 2048 8192 rfl (summand (arg0 m c) (arg1 m c) (row t.val i) (col t.val j))).trans ?_
  refine Finset.sum_congr rfl fun n _ => congrFun (congr (congrArg (summand (arg0 m c) (arg1 m c)) (Fin.ext ?_)) ?_) n
  · show (1024 * (t.val / 32) + i.val) % 2048 = win0_2.index t 1 * 1024 + 1 * i.val
    rw [hi.2.1]; omega
  · show 1408 * (t.val / 4 % 8) + j.val = 1408 * (win0_2.index t 0 * 1 + 1 * 0) + (win0_2.index t 2 * 1408 + 1 * j.val)
    rw [hi.1, hi.2.2]; omega

end Cert.GwupArray

end
-- ==== Proof.GwupClaim.lean ====
/- The kernel `g_w_up`: what its reference computes, at an index, and the claims. -/
module

public import proofs.«01_k».proof.Defs
public import proofs.«01_k».proof.Proof.GwupArray
public import proofs.«01_k».proof.Proof.Gen.GwupBwd
public import proofs.«01_k».proof.Proof.Gen.GwupBwd.Frame
public import proofs.«01_k».proof.Proof.Gen.GwupGradIdeal.Read

@[expose] public section

noncomputable section

namespace Cert.GwupClaim

open Idealize.ShloMosaic Idealize.SL.Sem Cert.GwupArray Cert.GwupGradIdeal Cert.GwupGradIdeal.Read

/-- The reference's result is the sum over the tokens. -/
theorem ref (x0 : FVec Ideal S8192x2048 .bf16) (x1 : FVec Ideal S2x8192x5632 .bf16) (y : S8x2048x1408.Idx) :
    val_main_v13 (F := Ideal) x0 x1 y = ∑ n, summand x0 x1 (y 1) (1408 * (y 0).val + (y 2).val) n := by
  refine (val_main_v13_apply ..).trans ((val_main_v12_apply ..).trans ((val_main_v11_apply ..).trans ((val_main_v9_apply ..).trans
    ((val_main_v8_apply ..).trans (Finset.sum_congr rfl fun n _ => (mul_comm _ _).trans ?_)))))
  rw [val_main_v7_apply, val_main_v1_apply, val_main_v0_apply]
  have h0 : (y 0).val < 8 := (y 0).isLt
  have h1 : (y 1).val < 2048 := (y 1).isLt
  have h2 : (y 2).val < 1408 := (y 2).isLt
  have h3 := n.isLt
  show _ = x0 (ix2 n (y 1)) * x1 (ix3 (Fin.ofNat 2 ((1408 * (y 0).val + (y 2).val) / 5632)) n (Fin.ofNat 5632 (1408 * (y 0).val + (y 2).val)))
  refine congr (congrArg HMul.hMul (congrArg x0 (funext fun a => Fin.ext ?_))) (congrArg x1 (funext fun a => Fin.ext ?_))
  · match a with
    | ⟨0, _⟩ => rfl
    | ⟨1, _⟩ => show (((y 1).val * 8 + (y 0).val) * 1408 + (y 2).val) / 11264 = (y 1).val; omega
  · match a with
    | ⟨0, _⟩ => show (n.val * 11264 + (((y 1).val * 8 + (y 0).val) * 1408 + (y 2).val) % 11264) / 5632 % 2 = (1408 * (y 0).val + (y 2).val) / 5632 % 2; omega
    | ⟨1, _⟩ => show (n.val * 11264 + (((y 1).val * 8 + (y 0).val) * 1408 + (y 2).val) % 11264) / 11264 = n.val; omega
    | ⟨2, _⟩ => show (n.val * 11264 + (((y 1).val * 8 + (y 0).val) * 1408 + (y 2).val) % 11264) % 5632 = (1408 * (y 0).val + (y 2).val) % 5632; omega

/-- The kernel's result is the reference's. -/
theorem algebraic : algebraic_GwupBwdIdeal_GwupGradIdeal (hGwupBwdIdeal := Cert.GwupBwdIdeal.Gen.facts)
    (hGwupGradIdeal := Cert.GwupGradIdeal.Gen.facts) := by
  intro m ρ m' ρ' _ hagree
  refine ⟨fun c => (Cert.GwupBwdIdeal.Gen.dats m 0 c).arrAt 2 Cert.GwupBwdIdeal.cfg0.N, Cert.GwupBwdIdeal.Value.run_blocks m ρ, ?_⟩
  refine (θ_run _ _ _).mono (fun r h c => ?_) (Cert.GwupGradIdeal.Value.run (F := Ideal) m' ρ')
  obtain ⟨hv, hargs⟩ := h c
  obtain ⟨a0, a1⟩ := hagree c
  refine ⟨hv.trans ?_, hargs⟩
  rw [val_main_v13_eq, a0, a1]
  exact Eq.trans (funext fun y => ref (arg0 m c) (arg1 m c) y) (array m c).symm

theorem frame_p : quiescent_GwupBwd (hGwupBwd := Cert.GwupBwd.Gen.facts) := fun m ρ _ => Cert.GwupBwd.Gen.frame m ρ

theorem frame_pi : quiescent_GwupBwdIdeal (hGwupBwdIdeal := Cert.GwupBwdIdeal.Gen.facts) := fun m ρ _ => Cert.GwupBwdIdeal.Gen.frame m ρ

/-- The reference runs to its end and leaves its arguments; it declares no semaphore. -/
theorem frame_ri : quiescent_GwupGradIdeal (hGwupGradIdeal := Cert.GwupGradIdeal.Gen.facts) := fun m ρ _ =>
  (θ_run _ _ _).mono (fun r h => And.intro (fun c => (h c).2) (sem_eq_zero_of_no_sems (by decide) r.2))
    (Cert.GwupGradIdeal.Value.run (F := Ideal) m ρ)

end Cert.GwupClaim

end
-- ==== Proof.DactBlock.lean ====
/- What one point of the kernel `d_act` leaves in its output. -/
module

public import proofs.«01_k».proof.Proof.Gen.DactBwdIdeal.Value
public import Idealize.ShloMosaic.Lib.Pipeline.Value
public import Idealize.ShloMosaic.Lib.Pipeline.ValueKit
public import Idealize.ShloMosaic.Lib.Pointwise

@[expose] public section

noncomputable section

namespace Cert.DactBlock

open Cert.DactBwdIdeal Cert.DactBwdIdeal.Gen Idealize.ShloMosaic

variable (x0 : FVec Ideal S1024x2048 .bf16) (x1 : FVec Ideal S1x1408x2048 .bf16) (i : Fin 1024) (j : Fin 1408)

/-- A point's product of its blocks. -/
def part : EReal := ∑ e : Fin 2048, x0 (ix2 i e) * x1 (ix3 0 j e)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S1024x2048) inb_S1024x2048_S1024x2048_0_0 x0 (by decide)
  have h1 : View.ld (Val := Elt Ideal) (e' := .bf16) x1 r0_1 = x1 := View.ld_unit_lit (Val := Elt Ideal) (e := .bf16) (S := S1x1408x2048) inb_S1x1408x2048_S1x1408x2048_0_0_0 x1 (by decide)
  exact (congrFun (congr (congrArg (k0_pay1 (F := Ideal)) h0) h1) _).trans (pay1 x0 x1 i j)

end Cert.DactBlock

end
-- ==== Proof.DactArray.lean ====
/- The array the kernel `d_act` leaves: the gradient of the down projection's argument. -/
module

public import proofs.«01_k».proof.Proof.DactBlock

@[expose] public section

noncomputable section

namespace Cert.DactArray

open Cert.DactBwdIdeal Cert.DactBwdIdeal.Gen Idealize.ShloMosaic Idealize.ShloMosaic.TcCoe Cert.DactBlock
open Idealize.ShloMosaic.Pipeline (Dat)

/-- The `n`-th summand of the product at row `r` and column `q`. -/
def summand (a : FVec Ideal S8192x2048 .bf16) (w : FVec Ideal S1x5632x2048 .bf16) (r : Fin 8192) (q : ℕ) (n : Fin 2048) : EReal :=
  a (ix2 r n) * w (ix3 0 (Fin.ofNat 5632 q) n)

variable (m : (ℓ : Loc nD τ sig) → Buf (Elt Ideal) ℓ) (c : Dev nD)

/-- The product's first operand. -/
abbrev arg0 : FVec Ideal S8192x2048 .bf16 := m ((c : Thread nD τ).loc main_arg0)
/-- The weights. -/
abbrev arg1 : FVec Ideal S1x5632x2048 .bf16 := m ((c : Thread nD τ).loc main_arg1)

theorem index0 : ∀ t : Fin cfg0.N, win0_0.index t 0 = t.val / 4 ∧ win0_0.index t 1 = 0 := by
  show ∀ t : Fin grid0.N, _; decide +kernel
theorem index1 : ∀ t : Fin cfg0.N, win0_1.index t 0 = 0 ∧ win0_1.index t 1 = t.val % 4 ∧ win0_1.index t 2 = 0 := by
  show ∀ t : Fin grid0.N, _; decide +kernel
theorem index2 : ∀ t : Fin cfg0.N, win0_2.index t 0 = t.val / 4 ∧ win0_2.index t 1 = t.val % 4 := by
  show ∀ t : Fin grid0.N, _; decide +kernel

theorem lt_pts (t : Fin cfg0.N) : t.val < 32 := lt_of_lt_of_eq t.isLt (show cfg0.N = 32 from N_0)

/-- Row `i` of point `t`'s block of the result. -/
def row (t : ℕ) (i : Fin 1024) : Fin 8192 := Fin.ofNat 8192 (1024 * (t / 4) + i.val)
/-- Column `j` of point `t`'s block of the result. -/
def col (t : ℕ) (j : Fin 1408) : ℕ := 1408 * (t % 4) + j.val

theorem iblk0 (t : Fin cfg0.N) (i : Fin 1024) (e : Fin 2048) : iblk m c 0 t (ix2 i e) = arg0 m c (ix2 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 1024 + 1 * i.val = (1024 * (t.val / 4) + i.val) % 8192; rw [hi.1]; omega
  | ⟨1, _⟩ => show win0_0.index t 1 * 2048 + 1 * e.val = e.val; rw [hi.2]; omega

theorem iblk1 (t : Fin cfg0.N) (e : Fin 2048) (j : Fin 1408) :
    iblk m c 1 t (ix3 0 j e) = (fun w : FVec Ideal S1x5632x2048 .bf16 => fun (q : ℕ) (n : Fin 2048) => w (ix3 0 (Fin.ofNat 5632 q) n)) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = 0; rw [hi.1]
  | ⟨1, _⟩ => show win0_1.index t 1 * 1408 + 1 * j.val = (1408 * (t.val % 4) + j.val) % 5632; rw [hi.2.1]; omega
  | ⟨2, _⟩ => show win0_1.index t 2 * 2048 + 1 * e.val = e.val; rw [hi.2.2]; omega

/-- A point's part in the operands' entries. -/
theorem part_point (t : Fin cfg0.N) (i : Fin 1024) (j : Fin 1408) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S8192x5632.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 1024) (j : Fin 1408), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (1024 * (t.val / 4) + i.val) % 8192 = win0_2.index t 0 * 1024 + 1 * i.val
    rw [hi.1]; omega
  · show 1408 * (t.val % 4) + j.val = win0_2.index t 1 * 1408 + 1 * j.val
    rw [hi.2]; omega

end Cert.DactArray

end
-- ==== Proof.DactClaim.lean ====
/- The kernel `d_act`: what its reference computes, at an index, and the claims. -/
module

public import proofs.«01_k».proof.Defs
public import proofs.«01_k».proof.Proof.DactArray
public import proofs.«01_k».proof.Proof.Gen.DactBwd
public import proofs.«01_k».proof.Proof.Gen.DactBwd.Frame
public import proofs.«01_k».proof.Proof.Gen.DactGradIdeal.Read

@[expose] public section

noncomputable section

namespace Cert.DactClaim

open Idealize.ShloMosaic Idealize.SL.Sem Cert.DactArray Cert.DactGradIdeal Cert.DactGradIdeal.Read

/-- The reference's result is the sum over the columns. -/
theorem ref (x0 : FVec Ideal S8192x2048 .bf16) (x1 : FVec Ideal S1x5632x2048 .bf16) (y : S8192x5632.Idx) :
    val_main_v11 (F := Ideal) x0 x1 y = ∑ n, summand x0 x1 (y 0) (y 1).val n := by
  refine (val_main_v11_apply ..).trans ((val_main_v8_apply ..).trans (Finset.sum_congr rfl fun n _ => ?_))
  rw [val_main_v3_apply, val_main_v2_apply]
  show _ = x0 (ix2 (y 0) n) * x1 (ix3 0 (Fin.ofNat 5632 (y 1).val) n)
  have h0 : (y 1).val < 5632 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => rfl
    | ⟨1, _⟩ => show ((y 1).val * 2048 + n.val) / 2048 = (y 1).val % 5632; omega
    | ⟨2, _⟩ => show ((y 1).val * 2048 + n.val) % 2048 = n.val; omega

/-- The kernel's result is the reference's. -/
theorem algebraic : algebraic_DactBwdIdeal_DactGradIdeal (hDactBwdIdeal := Cert.DactBwdIdeal.Gen.facts)
    (hDactGradIdeal := Cert.DactGradIdeal.Gen.facts) := by
  intro m ρ m' ρ' _ hagree
  refine ⟨fun c => (Cert.DactBwdIdeal.Gen.dats m 0 c).arrAt 2 Cert.DactBwdIdeal.cfg0.N, Cert.DactBwdIdeal.Value.run_blocks m ρ, ?_⟩
  refine (θ_run _ _ _).mono (fun r h c => ?_) (Cert.DactGradIdeal.Value.run (F := Ideal) m' ρ')
  obtain ⟨hv, hargs⟩ := h c
  obtain ⟨a0, a1⟩ := hagree c
  refine ⟨hv.trans ?_, hargs⟩
  rw [val_main_v11_eq, a0, a1]
  exact Eq.trans (funext fun y => ref (arg0 m c) (arg1 m c) y) (array m c).symm

theorem frame_p : quiescent_DactBwd (hDactBwd := Cert.DactBwd.Gen.facts) := fun m ρ _ => Cert.DactBwd.Gen.frame m ρ

theorem frame_pi : quiescent_DactBwdIdeal (hDactBwdIdeal := Cert.DactBwdIdeal.Gen.facts) := fun m ρ _ => Cert.DactBwdIdeal.Gen.frame m ρ

/-- The reference runs to its end and leaves its arguments; it declares no semaphore. -/
theorem frame_ri : quiescent_DactGradIdeal (hDactGradIdeal := Cert.DactGradIdeal.Gen.facts) := fun m ρ _ =>
  (θ_run _ _ _).mono (fun r h => And.intro (fun c => (h c).2) (sem_eq_zero_of_no_sems (by decide) r.2))
    (Cert.DactGradIdeal.Value.run (F := Ideal) m ρ)

end Cert.DactClaim

end
-- ==== Proof.GwdownBlock.lean ====
/- What one point of the kernel `g_w_down` leaves in its accumulator and in its output. -/
module

public import proofs.«01_k».proof.Proof.Gen.GwdownBwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.GwdownBlock

open Cert.GwdownBwdIdeal Cert.GwdownBwdIdeal.Gen Idealize.ShloMosaic Idealize.ShloMosaic.Tactic

/-- The part of the result at `(i, j)` one point adds: its rows of the one operand against those of the other. -/
def part (x0 : FVec Ideal S2048x1408 .bf16) (x1 : FVec Ideal S2048x1024 .bf16) (i : Fin 1408) (j : Fin 1024) : EReal :=
  ∑ e : Fin 2048, x0 (ix2 e i) * x1 (ix2 e j)

variable (x0 : FVec Ideal S2048x1408 .bf16) (x1 : FVec Ideal S2048x1024 .bf16) (acc : FVec Ideal S1408x1024 .f32) (i : Fin 1408) (j : Fin 1024)

/-- A point's product. -/
theorem pay1 : k0_pay1 (F := Ideal) x0 x1 (ix2 i j) = part x0 x1 i j := by
  unfold part
  pointwise [k0_pay1]

/-- The first store keeps the product. -/
theorem pay2 : k0_pay2 (F := Ideal) x0 x1 (ix2 i j) = part x0 x1 i j := by
  rw [← pay1]
  unfold k0_pay2
  generalize k0_pay1 (F := Ideal) x0 x1 = P
  pointwise []

/-- The later stores add it. -/
theorem pay3 : k0_pay3 (F := Ideal) x0 x1 acc (ix2 i j) = acc (ix2 i j) + part x0 x1 i j := by
  rw [← pay1]
  unfold k0_pay3
  generalize k0_pay1 (F := Ideal) x0 x1 = P
  pointwise []

theorem pay4 : k0_pay4 (F := Ideal) x0 x1 acc (ix3 0 i j) = acc (ix2 i j) + part x0 x1 i j := by
  rw [← pay1]
  unfold k0_pay4
  generalize k0_pay1 (F := Ideal) x0 x1 = P
  pointwise []

variable (c : Dev nD) (t : grid0.Coords) (arg3 : Memref sig .tc .vmem S2048x1408 .bf16) (harg3 : arg3.IsWhole)
  (arg4 : Memref sig .tc .vmem S2048x1024 .bf16) (harg4 : arg4.IsWhole) (arg5 : Memref sig .tc .vmem S1x1408x1024 .bf16) (harg5 : arg5.IsWhole)
  (arg6 : Memref sig .tc .vmem S1408x1024 .f32) (harg6 : arg6.IsWhole)

/-- The blocks as loaded are the blocks. -/
theorem part_loads (inb0 inb1) :
    part (View.readAt (Elt Ideal) arg3.view (Rect.unit (s := S2048x1408) ![0, 0] S2048x1408.size inb0).toLoadRect (harg3.unread x0))
      (View.readAt (Elt Ideal) arg4.view (Rect.unit (s := S2048x1024) ![0, 0] S2048x1024.size inb1).toLoadRect (harg4.unread x1)) i j
      = part x0 x1 i j :=
  Finset.sum_congr rfl fun e _ => congr (congrArg HMul.hMul (Cert.Loads.all arg3 harg3 x0 inb0 e i)) (Cert.Loads.all arg4 harg4 x1 inb1 e j)

/-- The first point of a run starts the accumulator at its part. -/
theorem sout_A (hc0 : cond0_0 t) (hc1 : ¬cond0_1 t) (hc2 : ¬cond0_2 t) :
    sout0_A_0 (F := Ideal) c t arg3 harg3 arg4 harg4 arg5 harg5 arg6 harg6 hc0 hc1 hc2 x0 x1 (ix2 i j) = part x0 x1 i j := by
  unfold sout0_A_0 kernelRun0_A
  dsimp only
  sl_unfold_run_names
  refine (congrFun (View.read_writes_full (Val := Elt Ideal) _ _ _ _ _) _).trans ?_
  exact (pay2 ..).trans (part_loads ..)

/-- A later point adds its part to the accumulator. -/
theorem sout_B (hc0 : ¬cond0_0 t) (hc1 : cond0_1 t) (hc2 : ¬cond0_2 t) :
    sout0_B_0 (F := Ideal) c t arg3 harg3 arg4 harg4 arg5 harg5 arg6 harg6 hc0 hc1 hc2 x0 x1 acc (ix2 i j) = acc (ix2 i j) + part x0 x1 i j := by
  unfold sout0_B_0 kernelRun0_B
  dsimp only
  sl_unfold_run_names
  refine (congrFun (View.read_writes_full (Val := Elt Ideal) _ _ _ _ _) _).trans ?_
  exact (pay3 ..).trans (congr (congrArg HAdd.hAdd (Cert.Loads.all arg6 harg6 acc _ i j)) (part_loads ..))

/-- The last point of a run stores the accumulator with its part. -/
theorem out_C (hc0 : ¬cond0_0 t) (hc1 : ¬cond0_1 t) (hc2 : cond0_2 t) :
    out0_C_2 (F := Ideal) c t arg3 harg3 arg4 harg4 arg5 harg5 arg6 harg6 hc0 hc1 hc2 x0 x1 acc (ix3 0 i j) = acc (ix2 i j) + part x0 x1 i j := by
  unfold out0_C_2 kernelRun0_C
  dsimp only
  sl_unfold_run_names
  refine (congrFun (View.read_writes_full (Val := Elt Ideal) _ _ _ _ _) _).trans ?_
  exact (pay4 ..).trans (congr (congrArg HAdd.hAdd (Cert.Loads.all arg6 harg6 acc _ i j)) (part_loads ..))

end Cert.GwdownBlock

end
-- ==== Proof.GwdownArray.lean ====
/- The array the kernel `g_w_down` leaves: the gradient of the down projection's weights. -/
module

public import proofs.«01_k».proof.Proof.GwdownBlock
public import proofs.«01_k».proof.Proof.Sums
public import Idealize.ShloMosaic.Lib.Pipeline.Value
public import Idealize.ShloMosaic.Lib.Pipeline.ValueKit

@[expose] public section

noncomputable section

namespace Cert.GwdownArray

open Cert.GwdownBwdIdeal Cert.GwdownBwdIdeal.Gen Idealize.ShloMosaic Idealize.ShloMosaic.TcCoe Cert.GwdownBlock
open Idealize.ShloMosaic.Pipeline (Dat)

/-- Token `n`'s summand of the result at row `r` and column `q` of all columns. -/
def summand (a : FVec Ideal S8192x5632 .bf16) (b : FVec Ideal S8192x2048 .bf16) (r : Fin 5632) (q : ℕ) (n : Fin 8192) : EReal :=
  a (ix2 n r) * b (ix2 n (Fin.ofNat 2048 q))

variable (m : (ℓ : Loc nD τ sig) → Buf (Elt Ideal) ℓ) (c : Dev nD)

/-- The product's first operand. -/
abbrev arg0 : FVec Ideal S8192x5632 .bf16 := m ((c : Thread nD τ).loc main_arg0)
/-- The gradient of the product. -/
abbrev arg1 : FVec Ideal S8192x2048 .bf16 := m ((c : Thread nD τ).loc main_arg1)

theorem index0 : ∀ t : Fin cfg0.N, win0_0.index t 0 = t.val % 4 ∧ win0_0.index t 1 = t.val / 8 := by
  show ∀ t : Fin grid0.N, _; decide +kernel
theorem index1 : ∀ t : Fin cfg0.N, win0_1.index t 0 = t.val % 4 ∧ win0_1.index t 1 = t.val / 4 % 2 := by
  show ∀ t : Fin grid0.N, _; decide +kernel
theorem index2 : ∀ t : Fin cfg0.N, win0_2.index t 0 = t.val / 4 % 2 / 2 ∧ win0_2.index t 1 = t.val / 8 ∧ win0_2.index t 2 = t.val / 4 % 2 % 2 := by
  show ∀ t : Fin grid0.N, _; decide +kernel

theorem lt_pts (t : Fin cfg0.N) : t.val < 32 := lt_of_lt_of_eq t.isLt (show cfg0.N = 32 from N_0)

/-- Row `i` of point `t`'s block of the result. -/
def row (t : ℕ) (i : Fin 1408) : Fin 5632 := Fin.ofNat 5632 (1408 * (t / 8) + i.val)
/-- Column `j` of point `t`'s block of the result, of all columns. -/
def col (t : ℕ) (j : Fin 1024) : ℕ := 1024 * (t / 4 % 2) + j.val

theorem iblk0 (t : Fin cfg0.N) (e : Fin 2048) (i : Fin 1408) :
    iblk m c 0 t (ix2 e i) = arg0 m c (ix2 (Fin.ofNat 8192 (2048 * (t.val % 4) + e.val)) (row t.val i)) := by
  have hi := index0 t
  have ht := lt_pts t
  refine (congrFun (V_main_arg0 m c) _).trans (congrArg (m _) (funext fun a => Fin.ext ?_))
  have h1 := i.isLt
  have h2 := e.isLt
  match a with
  | ⟨0, _⟩ => show win0_0.index t 0 * 2048 + 1 * e.val = (2048 * (t.val % 4) + e.val) % 8192; rw [hi.1]; omega
  | ⟨1, _⟩ => show win0_0.index t 1 * 1408 + 1 * i.val = (1408 * (t.val / 8) + i.val) % 5632; rw [hi.2]; omega

theorem iblk1 (t : Fin cfg0.N) (e : Fin 2048) (j : Fin 1024) :
    iblk m c 1 t (ix2 e j) = (fun b : FVec Ideal S8192x2048 .bf16 => fun (n : Fin 8192) (q : ℕ) => b (ix2 n (Fin.ofNat 2048 q))) (arg1 m c)
      (Fin.ofNat 8192 (2048 * (t.val % 4) + e.val)) (col t.val j) := by
  have hi := index1 t
  have ht := lt_pts t
  refine (congrFun (V_main_arg1 m c) _).trans (congrArg (m _) (funext fun a => Fin.ext ?_))
  have h1 := j.isLt
  have h2 := e.isLt
  match a with
  | ⟨0, _⟩ => show win0_1.index t 0 * 2048 + 1 * e.val = (2048 * (t.val % 4) + e.val) % 8192; rw [hi.1]; omega
  | ⟨1, _⟩ => show win0_1.index t 1 * 1024 + 1 * j.val = (1024 * (t.val / 4 % 2) + j.val) % 2048; rw [hi.2]; omega

/-- The part of the result the `k`-th block of tokens gives. -/
def tokens (r : Fin 5632) (q : ℕ) (k : ℕ) : EReal :=
  ∑ e : Fin 2048, summand (arg0 m c) (arg1 m c) r q (Fin.ofNat 8192 (2048 * k + e.val))

/-- A point adds its block of tokens. -/
theorem part_point (t : Fin cfg0.N) (i : Fin 1408) (j : Fin 1024) :
    part (iblk m c 0 t) (iblk m c 1 t) i j = tokens m c (row t.val i) (col t.val j) (t.val % 4) :=
  Finset.sum_congr rfl fun e _ => congr (congrArg HMul.hMul (iblk0 m c t e i)) (iblk1 m c t e j)

/-- The first point of a run leaves its part in the accumulator. -/
theorem outs_A (t : Fin cfg0.N) (h0 : t.val % 4 = 0) (i : Fin 1408) (j : Fin 1024) :
    (outsAt0 m c t.val t.isLt).2 (ix2 i j) = part (iblk m c 0 t) (iblk m c 1 t) i j := by
  rw [outsAt0_A m c t h0 (by omega) (by omega)]
  dsimp only
  exact sout_A ..

/-- A later point adds its part to the accumulator. -/
theorem outs_B (t : Fin cfg0.N) (h0 : ¬t.val % 4 = 0) (h3 : t.val % 4 ≠ 3) (i : Fin 1408) (j : Fin 1024) :
    (outsAt0 m c t.val t.isLt).2 (ix2 i j) = (outsAt0 m c (t.val - 1) (lt_of_le_of_lt (Nat.sub_le _ _) t.isLt)).2 (ix2 i j) + part (iblk m c 0 t) (iblk m c 1 t) i j := by
  rw [outsAt0_B m c t h0 (by omega) (by omega)]
  dsimp only
  exact sout_B ..

/-- The last point of a run adds its part and stores the sum. -/
theorem outs_C (t : Fin cfg0.N) (h3 : t.val % 4 = 3) (i : Fin 1408) (j : Fin 1024) :
    (outsAt0 m c t.val t.isLt).1 (ix3 0 i j) = (outsAt0 m c (t.val - 1) (lt_of_le_of_lt (Nat.sub_le _ _) t.isLt)).2 (ix2 i j) + part (iblk m c 0 t) (iblk m c 1 t) i j := by
  rw [outsAt0_C m c t (by omega) (by omega) h3]
  dsimp only
  exact out_C ..

/-- Before the last point of a run the accumulator holds the blocks of tokens so far. -/
theorem outs_acc (i : Fin 1408) (j : Fin 1024) : ∀ (n : ℕ) (h : n < cfg0.N), n % 4 ≠ 3 →
    (outsAt0 m c n h).2 (ix2 i j) = ∑ k ∈ Finset.range (n % 4 + 1), tokens m c (row n i) (col n j) k := by
  intro n
  induction n with
  | zero =>
    intro h h3
    refine (outs_A m c ⟨0, h⟩ rfl i j).trans ((part_point m c ⟨0, h⟩ i j).trans ?_)
    rw [Finset.sum_range_succ, Finset.sum_range_zero, zero_add]
  | succ n ih =>
    intro h h3
    by_cases h0 : (n + 1) % 4 = 0
    · refine (outs_A m c ⟨n + 1, h⟩ h0 i j).trans ((part_point m c ⟨n + 1, h⟩ i j).trans ?_)
      dsimp only
      rw [h0, Finset.sum_range_succ, Finset.sum_range_zero, zero_add]
    · refine (outs_B m c ⟨n + 1, h⟩ h0 h3 i j).trans ?_
      refine (congr (congrArg HAdd.hAdd (ih (Nat.lt_of_succ_lt h) (by omega))) (part_point m c ⟨n + 1, h⟩ i j)).trans ?_
      dsimp only
      rw [show row n i = row (n + 1) i by unfold row; congr 3; omega,
        show col n j = col (n + 1) j by unfold col; congr 3; omega, show (n + 1) % 4 = n % 4 + 1 by omega,
        Finset.sum_range_succ _ (n % 4 + 1)]

/-- THE RESULT: every entry is the sum over the tokens. -/
theorem array : (dats m 0 c).arrAt 2 cfg0.N = fun y : S1x5632x2048.Idx => ∑ n, summand (arg0 m c) (arg1 m c) (y 1) (2048 * (y 0).val + (y 2).val) n := by
  refine (dats m 0 c).arrAt_eq_of_covers 2 _ (by decide +kernel) fun t hf y => ?_
  show (dats m 0 c).after 2 t y = _
  have h3 : t.val % 4 = 3 := (flush0_2 t).mp hf
  have hi := index2 t
  have ht := lt_pts t
  obtain ⟨z, i, j, rfl⟩ : ∃ (z : Fin 1) (i : Fin 1408) (j : Fin 1024), y = ix3 z i j := ⟨y 0, y 1, y 2, eq_ix3 y⟩
  obtain rfl : z = 0 := Subsingleton.elim _ _
  rw [after0_2]
  refine (outs_C m c t h3 i j).trans ?_
  have h1 := i.isLt
  have h2 := j.isLt
  rw [part_point m c t i j, outs_acc m c i j _ _ (by omega), show row (t.val - 1) i = row t.val i by unfold row; congr 3; omega,
    show col (t.val - 1) j = col t.val j by unfold col; congr 3; omega, show (t.val - 1) % 4 + 1 = 3 by omega, h3,
    ← Finset.sum_range_succ]
  refine (Cert.Sums.blocks 4 2048 8192 rfl (summand (arg0 m c) (arg1 m c) (row t.val i) (col t.val j))).trans ?_
  refine Finset.sum_congr rfl fun n _ => congrFun (congr (congrArg (summand (arg0 m c) (arg1 m c)) (Fin.ext ?_)) ?_) n
  · show (1408 * (t.val / 8) + i.val) % 5632 = win0_2.index t 1 * 1408 + 1 * i.val
    rw [hi.2.1]; omega
  · show 1024 * (t.val / 4 % 2) + j.val = 2048 * (win0_2.index t 0 * 1 + 1 * 0) + (win0_2.index t 2 * 1024 + 1 * j.val)
    rw [hi.1, hi.2.2]; omega

end Cert.GwdownArray

end
-- ==== Proof.GwdownClaim.lean ====
/- The kernel `g_w_down`: what its reference computes, at an index, and the claims. -/
module

public import proofs.«01_k».proof.Defs
public import proofs.«01_k».proof.Proof.GwdownArray
public import proofs.«01_k».proof.Proof.Gen.GwdownBwd
public import proofs.«01_k».proof.Proof.Gen.GwdownBwd.Frame
public import proofs.«01_k».proof.Proof.Gen.GwdownGradIdeal.Read

@[expose] public section

noncomputable section

namespace Cert.GwdownClaim

open Idealize.ShloMosaic Idealize.SL.Sem Cert.GwdownArray Cert.GwdownGradIdeal Cert.GwdownGradIdeal.Read

/-- The reference's result is the sum over the tokens. -/
theorem ref (x0 : FVec Ideal S8192x5632 .bf16) (x1 : FVec Ideal S8192x2048 .bf16) (y : S1x5632x2048.Idx) :
    val_main_v11 (F := Ideal) x0 x1 y = ∑ n, summand x0 x1 (y 1) (2048 * (y 0).val + (y 2).val) n := by
  refine (val_main_v11_apply ..).trans ((val_main_v10_apply ..).trans ((val_main_v9_apply ..).trans ((val_main_v7_apply ..).trans
    ((val_main_v6_apply ..).trans (Finset.sum_congr rfl fun n _ => (mul_comm _ _).trans ?_)))))
  have h0 : (y 0).val < 1 := (y 0).isLt
  have h1 : (y 1).val < 5632 := (y 1).isLt
  have h2 : (y 2).val < 2048 := (y 2).isLt
  show _ = x0 (ix2 n (y 1)) * x1 (ix2 n (Fin.ofNat 2048 (2048 * (y 0).val + (y 2).val)))
  refine congr (congrArg HMul.hMul (congrArg x0 (funext fun a => Fin.ext ?_))) (congrArg x1 (funext fun a => Fin.ext ?_))
  · match a with
    | ⟨0, _⟩ => rfl
    | ⟨1, _⟩ => show (((y 1).val * 1 + (y 0).val) * 2048 + (y 2).val) / 2048 = (y 1).val; omega
  · match a with
    | ⟨0, _⟩ => rfl
    | ⟨1, _⟩ => show (((y 1).val * 1 + (y 0).val) * 2048 + (y 2).val) % 2048 = (2048 * (y 0).val + (y 2).val) % 2048; omega

/-- The kernel's result is the reference's. -/
theorem algebraic : algebraic_GwdownBwdIdeal_GwdownGradIdeal (hGwdownBwdIdeal := Cert.GwdownBwdIdeal.Gen.facts)
    (hGwdownGradIdeal := Cert.GwdownGradIdeal.Gen.facts) := by
  intro m ρ m' ρ' _ hagree
  refine ⟨fun c => (Cert.GwdownBwdIdeal.Gen.dats m 0 c).arrAt 2 Cert.GwdownBwdIdeal.cfg0.N, Cert.GwdownBwdIdeal.Value.run_blocks m ρ, ?_⟩
  refine (θ_run _ _ _).mono (fun r h c => ?_) (Cert.GwdownGradIdeal.Value.run (F := Ideal) m' ρ')
  obtain ⟨hv, hargs⟩ := h c
  obtain ⟨a0, a1⟩ := hagree c
  refine ⟨hv.trans ?_, hargs⟩
  rw [val_main_v11_eq, a0, a1]
  exact Eq.trans (funext fun y => ref (arg0 m c) (arg1 m c) y) (array m c).symm

theorem frame_p : quiescent_GwdownBwd (hGwdownBwd := Cert.GwdownBwd.Gen.facts) := fun m ρ _ => Cert.GwdownBwd.Gen.frame m ρ

theorem frame_pi : quiescent_GwdownBwdIdeal (hGwdownBwdIdeal := Cert.GwdownBwdIdeal.Gen.facts) := fun m ρ _ => Cert.GwdownBwdIdeal.Gen.frame m ρ

/-- The reference runs to its end and leaves its arguments; it declares no semaphore. -/
theorem frame_ri : quiescent_GwdownGradIdeal (hGwdownGradIdeal := Cert.GwdownGradIdeal.Gen.facts) := fun m ρ _ =>
  (θ_run _ _ _).mono (fun r h => And.intro (fun c => (h c).2) (sem_eq_zero_of_no_sems (by decide) r.2))
    (Cert.GwdownGradIdeal.Value.run (F := Ideal) m ρ)

end Cert.GwdownClaim

end
-- ==== Proof.DmergedBlock.lean ====
/- What one point of the kernel `d_merged` leaves in its output. -/
module

public import proofs.«01_k».proof.Proof.Gen.DmergedBwdIdeal.Value
public import Idealize.ShloMosaic.Lib.Pipeline.Value
public import Idealize.ShloMosaic.Lib.Pipeline.ValueKit
public import Idealize.ShloMosaic.Lib.Pointwise

@[expose] public section

noncomputable section

namespace Cert.DmergedBlock

open Cert.DmergedBwdIdeal Cert.DmergedBwdIdeal.Gen Idealize.ShloMosaic

variable (x0 : FVec Ideal S1024x2048 .bf16) (x1 : FVec Ideal S1x1024x2048 .bf16) (i : Fin 1024) (j : Fin 1024)

/-- A point's product of its blocks. -/
def part : EReal := ∑ e : Fin 2048, x0 (ix2 i e) * x1 (ix3 0 j e)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S1024x2048) inb_S1024x2048_S1024x2048_0_0 x0 (by decide)
  have h1 : View.ld (Val := Elt Ideal) (e' := .bf16) x1 r0_1 = x1 := View.ld_unit_lit (Val := Elt Ideal) (e := .bf16) (S := S1x1024x2048) inb_S1x1024x2048_S1x1024x2048_0_0_0 x1 (by decide)
  exact (congrFun (congr (congrArg (k0_pay1 (F := Ideal)) h0) h1) _).trans (pay1 x0 x1 i j)

end Cert.DmergedBlock

end
-- ==== Proof.DmergedArray.lean ====
/- The array the kernel `d_merged` leaves: the gradient of the output projection's argument. -/
module

public import proofs.«01_k».proof.Proof.DmergedBlock

@[expose] public section

noncomputable section

namespace Cert.DmergedArray

open Cert.DmergedBwdIdeal Cert.DmergedBwdIdeal.Gen Idealize.ShloMosaic Idealize.ShloMosaic.TcCoe Cert.DmergedBlock
open Idealize.ShloMosaic.Pipeline (Dat)

/-- The `n`-th summand of the product at row `r` and column `q`. -/
def summand (a : FVec Ideal S8192x2048 .bf16) (w : FVec Ideal S1x2048x2048 .bf16) (r : Fin 8192) (q : ℕ) (n : Fin 2048) : EReal :=
  a (ix2 r n) * w (ix3 0 (Fin.ofNat 2048 q) n)

variable (m : (ℓ : Loc nD τ sig) → Buf (Elt Ideal) ℓ) (c : Dev nD)

/-- The product's first operand. -/
abbrev arg0 : FVec Ideal S8192x2048 .bf16 := m ((c : Thread nD τ).loc main_arg0)
/-- The weights. -/
abbrev arg1 : FVec Ideal S1x2048x2048 .bf16 := m ((c : Thread nD τ).loc main_arg1)

theorem index0 : ∀ t : Fin cfg0.N, win0_0.index t 0 = t.val / 2 ∧ win0_0.index t 1 = 0 := by
  show ∀ t : Fin grid0.N, _; decide +kernel
theorem index1 : ∀ t : Fin cfg0.N, win0_1.index t 0 = 0 ∧ win0_1.index t 1 = t.val % 2 ∧ win0_1.index t 2 = 0 := by
  show ∀ t : Fin grid0.N, _; decide +kernel
theorem index2 : ∀ t : Fin cfg0.N, win0_2.index t 0 = t.val / 2 ∧ win0_2.index t 1 = t.val % 2 := by
  show ∀ t : Fin grid0.N, _; decide +kernel

theorem lt_pts (t : Fin cfg0.N) : t.val < 16 := lt_of_lt_of_eq t.isLt (show cfg0.N = 16 from N_0)

/-- Row `i` of point `t`'s block of the result. -/
def row (t : ℕ) (i : Fin 1024) : Fin 8192 := Fin.ofNat 8192 (1024 * (t / 2) + i.val)
/-- Column `j` of point `t`'s block of the result. -/
def col (t : ℕ) (j : Fin 1024) : ℕ := 1024 * (t % 2) + j.val

theorem iblk0 (t : Fin cfg0.N) (i : Fin 1024) (e : Fin 2048) : iblk m c 0 t (ix2 i e) = arg0 m c (ix2 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 1024 + 1 * i.val = (1024 * (t.val / 2) + i.val) % 8192; rw [hi.1]; omega
  | ⟨1, _⟩ => show win0_0.index t 1 * 2048 + 1 * e.val = e.val; rw [hi.2]; omega

theorem iblk1 (t : Fin cfg0.N) (e : Fin 2048) (j : Fin 1024) :
    iblk m c 1 t (ix3 0 j e) = (fun w : FVec Ideal S1x2048x2048 .bf16 => fun (q : ℕ) (n : Fin 2048) => w (ix3 0 (Fin.ofNat 2048 q) n)) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = 0; rw [hi.1]
  | ⟨1, _⟩ => show win0_1.index t 1 * 1024 + 1 * j.val = (1024 * (t.val % 2) + j.val) % 2048; rw [hi.2.1]; omega
  | ⟨2, _⟩ => show win0_1.index t 2 * 2048 + 1 * e.val = e.val; rw [hi.2.2]; omega

/-- A point's part in the operands' entries. -/
theorem part_point (t : Fin cfg0.N) (i : Fin 1024) (j : Fin 1024) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S8192x2048.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 1024) (j : Fin 1024), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (1024 * (t.val / 2) + i.val) % 8192 = win0_2.index t 0 * 1024 + 1 * i.val
    rw [hi.1]; omega
  · show 1024 * (t.val % 2) + j.val = win0_2.index t 1 * 1024 + 1 * j.val
    rw [hi.2]; omega

end Cert.DmergedArray

end
-- ==== Proof.DmergedClaim.lean ====
/- The kernel `d_merged`: what its reference computes, at an index, and the claims. -/
module

public import proofs.«01_k».proof.Defs
public import proofs.«01_k».proof.Proof.DmergedArray
public import proofs.«01_k».proof.Proof.Gen.DmergedBwd
public import proofs.«01_k».proof.Proof.Gen.DmergedBwd.Frame
public import proofs.«01_k».proof.Proof.Gen.DmergedGradIdeal.Read

@[expose] public section

noncomputable section

namespace Cert.DmergedClaim

open Idealize.ShloMosaic Idealize.SL.Sem Cert.DmergedArray Cert.DmergedGradIdeal Cert.DmergedGradIdeal.Read

/-- The reference's result is the sum over the columns. -/
theorem ref (x0 : FVec Ideal S8192x2048 .bf16) (x1 : FVec Ideal S1x2048x2048 .bf16) (y : S8192x2048.Idx) :
    val_main_v11 (F := Ideal) x0 x1 y = ∑ n, summand x0 x1 (y 0) (y 1).val n := by
  refine (val_main_v11_apply ..).trans ((val_main_v8_apply ..).trans (Finset.sum_congr rfl fun n _ => ?_))
  rw [val_main_v3_apply, val_main_v2_apply]
  show _ = x0 (ix2 (y 0) n) * x1 (ix3 0 (Fin.ofNat 2048 (y 1).val) n)
  have h0 : (y 1).val < 2048 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => rfl
    | ⟨1, _⟩ => show ((y 1).val * 2048 + n.val) / 2048 = (y 1).val % 2048; omega
    | ⟨2, _⟩ => show ((y 1).val * 2048 + n.val) % 2048 = n.val; omega

/-- The kernel's result is the reference's. -/
theorem algebraic : algebraic_DmergedBwdIdeal_DmergedGradIdeal (hDmergedBwdIdeal := Cert.DmergedBwdIdeal.Gen.facts)
    (hDmergedGradIdeal := Cert.DmergedGradIdeal.Gen.facts) := by
  intro m ρ m' ρ' _ hagree
  refine ⟨fun c => (Cert.DmergedBwdIdeal.Gen.dats m 0 c).arrAt 2 Cert.DmergedBwdIdeal.cfg0.N, Cert.DmergedBwdIdeal.Value.run_blocks m ρ, ?_⟩
  refine (θ_run _ _ _).mono (fun r h c => ?_) (Cert.DmergedGradIdeal.Value.run (F := Ideal) m' ρ')
  obtain ⟨hv, hargs⟩ := h c
  obtain ⟨a0, a1⟩ := hagree c
  refine ⟨hv.trans ?_, hargs⟩
  rw [val_main_v11_eq, a0, a1]
  exact Eq.trans (funext fun y => ref (arg0 m c) (arg1 m c) y) (array m c).symm

theorem frame_p : quiescent_DmergedBwd (hDmergedBwd := Cert.DmergedBwd.Gen.facts) := fun m ρ _ => Cert.DmergedBwd.Gen.frame m ρ

theorem frame_pi : quiescent_DmergedBwdIdeal (hDmergedBwdIdeal := Cert.DmergedBwdIdeal.Gen.facts) := fun m ρ _ => Cert.DmergedBwdIdeal.Gen.frame m ρ

/-- The reference runs to its end and leaves its arguments; it declares no semaphore. -/
theorem frame_ri : quiescent_DmergedGradIdeal (hDmergedGradIdeal := Cert.DmergedGradIdeal.Gen.facts) := fun m ρ _ =>
  (θ_run _ _ _).mono (fun r h => And.intro (fun c => (h c).2) (sem_eq_zero_of_no_sems (by decide) r.2))
    (Cert.DmergedGradIdeal.Value.run (F := Ideal) m ρ)

end Cert.DmergedClaim

end
-- ==== Proof.GwoBlock.lean ====
/- What one point of the kernel `g_w_o` leaves in its accumulator and in its output. -/
module

public import proofs.«01_k».proof.Proof.Gen.GwoBwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.GwoBlock

open Cert.GwoBwdIdeal Cert.GwoBwdIdeal.Gen Idealize.ShloMosaic Idealize.ShloMosaic.Tactic

/-- The part of the result at `(i, j)` one point adds: its rows of the one operand against those of the other. -/
def part (x0 : FVec Ideal S2048x1024 .bf16) (x1 : FVec Ideal S2048x1024 .bf16) (i : Fin 1024) (j : Fin 1024) : EReal :=
  ∑ e : Fin 2048, x0 (ix2 e i) * x1 (ix2 e j)

variable (x0 : FVec Ideal S2048x1024 .bf16) (x1 : FVec Ideal S2048x1024 .bf16) (acc : FVec Ideal S1024x1024 .f32) (i : Fin 1024) (j : Fin 1024)

/-- A point's product. -/
theorem pay1 : k0_pay1 (F := Ideal) x0 x1 (ix2 i j) = part x0 x1 i j := by
  unfold part
  pointwise [k0_pay1]

/-- The first store keeps the product. -/
theorem pay2 : k0_pay2 (F := Ideal) x0 x1 (ix2 i j) = part x0 x1 i j := by
  rw [← pay1]
  unfold k0_pay2
  generalize k0_pay1 (F := Ideal) x0 x1 = P
  pointwise []

/-- The later stores add it. -/
theorem pay3 : k0_pay3 (F := Ideal) x0 x1 acc (ix2 i j) = acc (ix2 i j) + part x0 x1 i j := by
  rw [← pay1]
  unfold k0_pay3
  generalize k0_pay1 (F := Ideal) x0 x1 = P
  pointwise []

theorem pay4 : k0_pay4 (F := Ideal) x0 x1 acc (ix3 0 i j) = acc (ix2 i j) + part x0 x1 i j := by
  rw [← pay1]
  unfold k0_pay4
  generalize k0_pay1 (F := Ideal) x0 x1 = P
  pointwise []

variable (c : Dev nD) (t : grid0.Coords) (arg3 : Memref sig .tc .vmem S2048x1024 .bf16) (harg3 : arg3.IsWhole)
  (arg4 : Memref sig .tc .vmem S2048x1024 .bf16) (harg4 : arg4.IsWhole) (arg5 : Memref sig .tc .vmem S1x1024x1024 .bf16) (harg5 : arg5.IsWhole)
  (arg6 : Memref sig .tc .vmem S1024x1024 .f32) (harg6 : arg6.IsWhole)

/-- The blocks as loaded are the blocks. -/
theorem part_loads (inb0 inb1) :
    part (View.readAt (Elt Ideal) arg3.view (Rect.unit (s := S2048x1024) ![0, 0] S2048x1024.size inb0).toLoadRect (harg3.unread x0))
      (View.readAt (Elt Ideal) arg4.view (Rect.unit (s := S2048x1024) ![0, 0] S2048x1024.size inb1).toLoadRect (harg4.unread x1)) i j
      = part x0 x1 i j :=
  Finset.sum_congr rfl fun e _ => congr (congrArg HMul.hMul (Cert.Loads.all arg3 harg3 x0 inb0 e i)) (Cert.Loads.all arg4 harg4 x1 inb1 e j)

/-- The first point of a run starts the accumulator at its part. -/
theorem sout_A (hc0 : cond0_0 t) (hc1 : ¬cond0_1 t) (hc2 : ¬cond0_2 t) :
    sout0_A_0 (F := Ideal) c t arg3 harg3 arg4 harg4 arg5 harg5 arg6 harg6 hc0 hc1 hc2 x0 x1 (ix2 i j) = part x0 x1 i j := by
  unfold sout0_A_0 kernelRun0_A
  dsimp only
  sl_unfold_run_names
  refine (congrFun (View.read_writes_full (Val := Elt Ideal) _ _ _ _ _) _).trans ?_
  exact (pay2 ..).trans (part_loads ..)

/-- A later point adds its part to the accumulator. -/
theorem sout_B (hc0 : ¬cond0_0 t) (hc1 : cond0_1 t) (hc2 : ¬cond0_2 t) :
    sout0_B_0 (F := Ideal) c t arg3 harg3 arg4 harg4 arg5 harg5 arg6 harg6 hc0 hc1 hc2 x0 x1 acc (ix2 i j) = acc (ix2 i j) + part x0 x1 i j := by
  unfold sout0_B_0 kernelRun0_B
  dsimp only
  sl_unfold_run_names
  refine (congrFun (View.read_writes_full (Val := Elt Ideal) _ _ _ _ _) _).trans ?_
  exact (pay3 ..).trans (congr (congrArg HAdd.hAdd (Cert.Loads.all arg6 harg6 acc _ i j)) (part_loads ..))

/-- The last point of a run stores the accumulator with its part. -/
theorem out_C (hc0 : ¬cond0_0 t) (hc1 : ¬cond0_1 t) (hc2 : cond0_2 t) :
    out0_C_2 (F := Ideal) c t arg3 harg3 arg4 harg4 arg5 harg5 arg6 harg6 hc0 hc1 hc2 x0 x1 acc (ix3 0 i j) = acc (ix2 i j) + part x0 x1 i j := by
  unfold out0_C_2 kernelRun0_C
  dsimp only
  sl_unfold_run_names
  refine (congrFun (View.read_writes_full (Val := Elt Ideal) _ _ _ _ _) _).trans ?_
  exact (pay4 ..).trans (congr (congrArg HAdd.hAdd (Cert.Loads.all arg6 harg6 acc _ i j)) (part_loads ..))

end Cert.GwoBlock

end
-- ==== Proof.GwoArray.lean ====
/- The array the kernel `g_w_o` leaves: the gradient of the output projection's weights. -/
module

public import proofs.«01_k».proof.Proof.GwoBlock
public import proofs.«01_k».proof.Proof.Sums
public import Idealize.ShloMosaic.Lib.Pipeline.Value
public import Idealize.ShloMosaic.Lib.Pipeline.ValueKit

@[expose] public section

noncomputable section

namespace Cert.GwoArray

open Cert.GwoBwdIdeal Cert.GwoBwdIdeal.Gen Idealize.ShloMosaic Idealize.ShloMosaic.TcCoe Cert.GwoBlock
open Idealize.ShloMosaic.Pipeline (Dat)

/-- Token `n`'s summand of the result at row `r` and column `q` of all columns. -/
def summand (a : FVec Ideal S8192x2048 .bf16) (b : FVec Ideal S8192x2048 .bf16) (r : Fin 2048) (q : ℕ) (n : Fin 8192) : EReal :=
  a (ix2 n r) * b (ix2 n (Fin.ofNat 2048 q))

variable (m : (ℓ : Loc nD τ sig) → Buf (Elt Ideal) ℓ) (c : Dev nD)

/-- The product's first operand. -/
abbrev arg0 : FVec Ideal S8192x2048 .bf16 := m ((c : Thread nD τ).loc main_arg0)
/-- The gradient of the product. -/
abbrev arg1 : FVec Ideal S8192x2048 .bf16 := m ((c : Thread nD τ).loc main_arg1)

theorem index0 : ∀ t : Fin cfg0.N, win0_0.index t 0 = t.val % 4 ∧ win0_0.index t 1 = t.val / 8 := by
  show ∀ t : Fin grid0.N, _; decide +kernel
theorem index1 : ∀ t : Fin cfg0.N, win0_1.index t 0 = t.val % 4 ∧ win0_1.index t 1 = t.val / 4 % 2 := by
  show ∀ t : Fin grid0.N, _; decide +kernel
theorem index2 : ∀ t : Fin cfg0.N, win0_2.index t 0 = t.val / 4 % 2 / 2 ∧ win0_2.index t 1 = t.val / 8 ∧ win0_2.index t 2 = t.val / 4 % 2 % 2 := by
  show ∀ t : Fin grid0.N, _; decide +kernel

theorem lt_pts (t : Fin cfg0.N) : t.val < 16 := lt_of_lt_of_eq t.isLt (show cfg0.N = 16 from N_0)

/-- Row `i` of point `t`'s block of the result. -/
def row (t : ℕ) (i : Fin 1024) : Fin 2048 := Fin.ofNat 2048 (1024 * (t / 8) + i.val)
/-- Column `j` of point `t`'s block of the result, of all columns. -/
def col (t : ℕ) (j : Fin 1024) : ℕ := 1024 * (t / 4 % 2) + j.val

theorem iblk0 (t : Fin cfg0.N) (e : Fin 2048) (i : Fin 1024) :
    iblk m c 0 t (ix2 e i) = arg0 m c (ix2 (Fin.ofNat 8192 (2048 * (t.val % 4) + e.val)) (row t.val i)) := by
  have hi := index0 t
  have ht := lt_pts t
  refine (congrFun (V_main_arg0 m c) _).trans (congrArg (m _) (funext fun a => Fin.ext ?_))
  have h1 := i.isLt
  have h2 := e.isLt
  match a with
  | ⟨0, _⟩ => show win0_0.index t 0 * 2048 + 1 * e.val = (2048 * (t.val % 4) + e.val) % 8192; rw [hi.1]; omega
  | ⟨1, _⟩ => show win0_0.index t 1 * 1024 + 1 * i.val = (1024 * (t.val / 8) + i.val) % 2048; rw [hi.2]; omega

theorem iblk1 (t : Fin cfg0.N) (e : Fin 2048) (j : Fin 1024) :
    iblk m c 1 t (ix2 e j) = (fun b : FVec Ideal S8192x2048 .bf16 => fun (n : Fin 8192) (q : ℕ) => b (ix2 n (Fin.ofNat 2048 q))) (arg1 m c)
      (Fin.ofNat 8192 (2048 * (t.val % 4) + e.val)) (col t.val j) := by
  have hi := index1 t
  have ht := lt_pts t
  refine (congrFun (V_main_arg1 m c) _).trans (congrArg (m _) (funext fun a => Fin.ext ?_))
  have h1 := j.isLt
  have h2 := e.isLt
  match a with
  | ⟨0, _⟩ => show win0_1.index t 0 * 2048 + 1 * e.val = (2048 * (t.val % 4) + e.val) % 8192; rw [hi.1]; omega
  | ⟨1, _⟩ => show win0_1.index t 1 * 1024 + 1 * j.val = (1024 * (t.val / 4 % 2) + j.val) % 2048; rw [hi.2]; omega

/-- The part of the result the `k`-th block of tokens gives. -/
def tokens (r : Fin 2048) (q : ℕ) (k : ℕ) : EReal :=
  ∑ e : Fin 2048, summand (arg0 m c) (arg1 m c) r q (Fin.ofNat 8192 (2048 * k + e.val))

/-- A point adds its block of tokens. -/
theorem part_point (t : Fin cfg0.N) (i : Fin 1024) (j : Fin 1024) :
    part (iblk m c 0 t) (iblk m c 1 t) i j = tokens m c (row t.val i) (col t.val j) (t.val % 4) :=
  Finset.sum_congr rfl fun e _ => congr (congrArg HMul.hMul (iblk0 m c t e i)) (iblk1 m c t e j)

/-- The first point of a run leaves its part in the accumulator. -/
theorem outs_A (t : Fin cfg0.N) (h0 : t.val % 4 = 0) (i : Fin 1024) (j : Fin 1024) :
    (outsAt0 m c t.val t.isLt).2 (ix2 i j) = part (iblk m c 0 t) (iblk m c 1 t) i j := by
  rw [outsAt0_A m c t h0 (by omega) (by omega)]
  dsimp only
  exact sout_A ..

/-- A later point adds its part to the accumulator. -/
theorem outs_B (t : Fin cfg0.N) (h0 : ¬t.val % 4 = 0) (h3 : t.val % 4 ≠ 3) (i : Fin 1024) (j : Fin 1024) :
    (outsAt0 m c t.val t.isLt).2 (ix2 i j) = (outsAt0 m c (t.val - 1) (lt_of_le_of_lt (Nat.sub_le _ _) t.isLt)).2 (ix2 i j) + part (iblk m c 0 t) (iblk m c 1 t) i j := by
  rw [outsAt0_B m c t h0 (by omega) (by omega)]
  dsimp only
  exact sout_B ..

/-- The last point of a run adds its part and stores the sum. -/
theorem outs_C (t : Fin cfg0.N) (h3 : t.val % 4 = 3) (i : Fin 1024) (j : Fin 1024) :
    (outsAt0 m c t.val t.isLt).1 (ix3 0 i j) = (outsAt0 m c (t.val - 1) (lt_of_le_of_lt (Nat.sub_le _ _) t.isLt)).2 (ix2 i j) + part (iblk m c 0 t) (iblk m c 1 t) i j := by
  rw [outsAt0_C m c t (by omega) (by omega) h3]
  dsimp only
  exact out_C ..

/-- Before the last point of a run the accumulator holds the blocks of tokens so far. -/
theorem outs_acc (i : Fin 1024) (j : Fin 1024) : ∀ (n : ℕ) (h : n < cfg0.N), n % 4 ≠ 3 →
    (outsAt0 m c n h).2 (ix2 i j) = ∑ k ∈ Finset.range (n % 4 + 1), tokens m c (row n i) (col n j) k := by
  intro n
  induction n with
  | zero =>
    intro h h3
    refine (outs_A m c ⟨0, h⟩ rfl i j).trans ((part_point m c ⟨0, h⟩ i j).trans ?_)
    rw [Finset.sum_range_succ, Finset.sum_range_zero, zero_add]
  | succ n ih =>
    intro h h3
    by_cases h0 : (n + 1) % 4 = 0
    · refine (outs_A m c ⟨n + 1, h⟩ h0 i j).trans ((part_point m c ⟨n + 1, h⟩ i j).trans ?_)
      dsimp only
      rw [h0, Finset.sum_range_succ, Finset.sum_range_zero, zero_add]
    · refine (outs_B m c ⟨n + 1, h⟩ h0 h3 i j).trans ?_
      refine (congr (congrArg HAdd.hAdd (ih (Nat.lt_of_succ_lt h) (by omega))) (part_point m c ⟨n + 1, h⟩ i j)).trans ?_
      dsimp only
      rw [show row n i = row (n + 1) i by unfold row; congr 3; omega,
        show col n j = col (n + 1) j by unfold col; congr 3; omega, show (n + 1) % 4 = n % 4 + 1 by omega,
        Finset.sum_range_succ _ (n % 4 + 1)]

/-- THE RESULT: every entry is the sum over the tokens. -/
theorem array : (dats m 0 c).arrAt 2 cfg0.N = fun y : S1x2048x2048.Idx => ∑ n, summand (arg0 m c) (arg1 m c) (y 1) (2048 * (y 0).val + (y 2).val) n := by
  refine (dats m 0 c).arrAt_eq_of_covers 2 _ (by decide +kernel) fun t hf y => ?_
  show (dats m 0 c).after 2 t y = _
  have h3 : t.val % 4 = 3 := (flush0_2 t).mp hf
  have hi := index2 t
  have ht := lt_pts t
  obtain ⟨z, i, j, rfl⟩ : ∃ (z : Fin 1) (i : Fin 1024) (j : Fin 1024), y = ix3 z i j := ⟨y 0, y 1, y 2, eq_ix3 y⟩
  obtain rfl : z = 0 := Subsingleton.elim _ _
  rw [after0_2]
  refine (outs_C m c t h3 i j).trans ?_
  have h1 := i.isLt
  have h2 := j.isLt
  rw [part_point m c t i j, outs_acc m c i j _ _ (by omega), show row (t.val - 1) i = row t.val i by unfold row; congr 3; omega,
    show col (t.val - 1) j = col t.val j by unfold col; congr 3; omega, show (t.val - 1) % 4 + 1 = 3 by omega, h3,
    ← Finset.sum_range_succ]
  refine (Cert.Sums.blocks 4 2048 8192 rfl (summand (arg0 m c) (arg1 m c) (row t.val i) (col t.val j))).trans ?_
  refine Finset.sum_congr rfl fun n _ => congrFun (congr (congrArg (summand (arg0 m c) (arg1 m c)) (Fin.ext ?_)) ?_) n
  · show (1024 * (t.val / 8) + i.val) % 2048 = win0_2.index t 1 * 1024 + 1 * i.val
    rw [hi.2.1]; omega
  · show 1024 * (t.val / 4 % 2) + j.val = 2048 * (win0_2.index t 0 * 1 + 1 * 0) + (win0_2.index t 2 * 1024 + 1 * j.val)
    rw [hi.1, hi.2.2]; omega

end Cert.GwoArray

end
-- ==== Proof.GwoClaim.lean ====
/- The kernel `g_w_o`: what its reference computes, at an index, and the claims. -/
module

public import proofs.«01_k».proof.Defs
public import proofs.«01_k».proof.Proof.GwoArray
public import proofs.«01_k».proof.Proof.Gen.GwoBwd
public import proofs.«01_k».proof.Proof.Gen.GwoBwd.Frame
public import proofs.«01_k».proof.Proof.Gen.GwoGradIdeal.Read

@[expose] public section

noncomputable section

namespace Cert.GwoClaim

open Idealize.ShloMosaic Idealize.SL.Sem Cert.GwoArray Cert.GwoGradIdeal Cert.GwoGradIdeal.Read

/-- The reference's result is the sum over the tokens. -/
theorem ref (x0 : FVec Ideal S8192x2048 .bf16) (x1 : FVec Ideal S8192x2048 .bf16) (y : S1x2048x2048.Idx) :
    val_main_v11 (F := Ideal) x0 x1 y = ∑ n, summand x0 x1 (y 1) (2048 * (y 0).val + (y 2).val) n := by
  refine (val_main_v11_apply ..).trans ((val_main_v10_apply ..).trans ((val_main_v9_apply ..).trans ((val_main_v7_apply ..).trans
    ((val_main_v6_apply ..).trans (Finset.sum_congr rfl fun n _ => (mul_comm _ _).trans ?_)))))
  have h0 : (y 0).val < 1 := (y 0).isLt
  have h1 : (y 1).val < 2048 := (y 1).isLt
  have h2 : (y 2).val < 2048 := (y 2).isLt
  show _ = x0 (ix2 n (y 1)) * x1 (ix2 n (Fin.ofNat 2048 (2048 * (y 0).val + (y 2).val)))
  refine congr (congrArg HMul.hMul (congrArg x0 (funext fun a => Fin.ext ?_))) (congrArg x1 (funext fun a => Fin.ext ?_))
  · match a with
    | ⟨0, _⟩ => rfl
    | ⟨1, _⟩ => show (((y 1).val * 1 + (y 0).val) * 2048 + (y 2).val) / 2048 = (y 1).val; omega
  · match a with
    | ⟨0, _⟩ => rfl
    | ⟨1, _⟩ => show (((y 1).val * 1 + (y 0).val) * 2048 + (y 2).val) % 2048 = (2048 * (y 0).val + (y 2).val) % 2048; omega

/-- The kernel's result is the reference's. -/
theorem algebraic : algebraic_GwoBwdIdeal_GwoGradIdeal (hGwoBwdIdeal := Cert.GwoBwdIdeal.Gen.facts)
    (hGwoGradIdeal := Cert.GwoGradIdeal.Gen.facts) := by
  intro m ρ m' ρ' _ hagree
  refine ⟨fun c => (Cert.GwoBwdIdeal.Gen.dats m 0 c).arrAt 2 Cert.GwoBwdIdeal.cfg0.N, Cert.GwoBwdIdeal.Value.run_blocks m ρ, ?_⟩
  refine (θ_run _ _ _).mono (fun r h c => ?_) (Cert.GwoGradIdeal.Value.run (F := Ideal) m' ρ')
  obtain ⟨hv, hargs⟩ := h c
  obtain ⟨a0, a1⟩ := hagree c
  refine ⟨hv.trans ?_, hargs⟩
  rw [val_main_v11_eq, a0, a1]
  exact Eq.trans (funext fun y => ref (arg0 m c) (arg1 m c) y) (array m c).symm

theorem frame_p : quiescent_GwoBwd (hGwoBwd := Cert.GwoBwd.Gen.facts) := fun m ρ _ => Cert.GwoBwd.Gen.frame m ρ

theorem frame_pi : quiescent_GwoBwdIdeal (hGwoBwdIdeal := Cert.GwoBwdIdeal.Gen.facts) := fun m ρ _ => Cert.GwoBwdIdeal.Gen.frame m ρ

/-- The reference runs to its end and leaves its arguments; it declares no semaphore. -/
theorem frame_ri : quiescent_GwoGradIdeal (hGwoGradIdeal := Cert.GwoGradIdeal.Gen.facts) := fun m ρ _ =>
  (θ_run _ _ _).mono (fun r h => And.intro (fun c => (h c).2) (sem_eq_zero_of_no_sems (by decide) r.2))
    (Cert.GwoGradIdeal.Value.run (F := Ideal) m ρ)

end Cert.GwoClaim

end
-- ==== Proof.WinBlock.lean ====
/- What one point of the kernel `w_in` leaves in its output. -/
module

public import proofs.«01_k».proof.Proof.Gen.WinFwdIdeal.Value
public import Idealize.ShloMosaic.Lib.Pipeline.Value
public import Idealize.ShloMosaic.Lib.Pipeline.ValueKit
public import Idealize.ShloMosaic.Lib.Pointwise

@[expose] public section

noncomputable section

namespace Cert.WinBlock

open Cert.WinFwdIdeal Cert.WinFwdIdeal.Gen Idealize.ShloMosaic

variable (x0 : FVec Ideal S1024x2048 .bf16) (x1 : FVec Ideal S1x2048x1536 .bf16) (i : Fin 1024) (j : Fin 1536)

/-- A point's product of its blocks. -/
def part : EReal := ∑ e : Fin 2048, x0 (ix2 i e) * x1 (ix3 0 e j)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S1024x2048) inb_S1024x2048_S1024x2048_0_0 x0 (by decide)
  have h1 : View.ld (Val := Elt Ideal) (e' := .bf16) x1 r0_1 = x1 := View.ld_unit_lit (Val := Elt Ideal) (e := .bf16) (S := S1x2048x1536) inb_S1x2048x1536_S1x2048x1536_0_0_0 x1 (by decide)
  exact (congrFun (congr (congrArg (k0_pay1 (F := Ideal)) h0) h1) _).trans (pay1 x0 x1 i j)

end Cert.WinBlock

end
-- ==== Proof.WinArray.lean ====
/- The array the kernel `w_in` leaves: the input projection. -/
module

public import proofs.«01_k».proof.Proof.WinBlock

@[expose] public section

noncomputable section

namespace Cert.WinArray

open Cert.WinFwdIdeal Cert.WinFwdIdeal.Gen Idealize.ShloMosaic Idealize.ShloMosaic.TcCoe Cert.WinBlock
open Idealize.ShloMosaic.Pipeline (Dat)

/-- The `n`-th summand of the product at row `r` and column `q` (column `q % 1536` of slot `q / 1536` of the weights). -/
def summand (a : FVec Ideal S8192x2048 .bf16) (w : FVec Ideal S8x2048x1536 .bf16) (r : Fin 8192) (q : ℕ) (n : Fin 2048) : EReal :=
  a (ix2 r n) * w (ix3 (Fin.ofNat 8 (q / 1536)) n (Fin.ofNat 1536 q))

variable (m : (ℓ : Loc nD τ sig) → Buf (Elt Ideal) ℓ) (c : Dev nD)

/-- The product's first operand. -/
abbrev arg0 : FVec Ideal S8192x2048 .bf16 := m ((c : Thread nD τ).loc main_arg0)
/-- The weights. -/
abbrev arg1 : FVec Ideal S8x2048x1536 .bf16 := m ((c : Thread nD τ).loc main_arg1)

theorem index0 : ∀ t : Fin cfg0.N, win0_0.index t 0 = t.val / 8 ∧ win0_0.index t 1 = 0 := by
  show ∀ t : Fin grid0.N, _; decide +kernel
theorem index1 : ∀ t : Fin cfg0.N, win0_1.index t 0 = t.val % 8 / 1 ∧ win0_1.index t 1 = 0 ∧ win0_1.index t 2 = t.val % 8 % 1 := by
  show ∀ t : Fin grid0.N, _; decide +kernel
theorem index2 : ∀ t : Fin cfg0.N, win0_2.index t 0 = t.val / 8 ∧ win0_2.index t 1 = t.val % 8 := by
  show ∀ t : Fin grid0.N, _; decide +kernel

theorem lt_pts (t : Fin cfg0.N) : t.val < 64 := lt_of_lt_of_eq t.isLt (show cfg0.N = 64 from N_0)

/-- Row `i` of point `t`'s block of the result. -/
def row (t : ℕ) (i : Fin 1024) : Fin 8192 := Fin.ofNat 8192 (1024 * (t / 8) + i.val)
/-- Column `j` of point `t`'s block of the result. -/
def col (t : ℕ) (j : Fin 1536) : ℕ := 1536 * (t % 8) + j.val

theorem iblk0 (t : Fin cfg0.N) (i : Fin 1024) (e : Fin 2048) : iblk m c 0 t (ix2 i e) = arg0 m c (ix2 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 1024 + 1 * i.val = (1024 * (t.val / 8) + i.val) % 8192; rw [hi.1]; omega
  | ⟨1, _⟩ => show win0_0.index t 1 * 2048 + 1 * e.val = e.val; rw [hi.2]; omega

theorem iblk1 (t : Fin cfg0.N) (e : Fin 2048) (j : Fin 1536) :
    iblk m c 1 t (ix3 0 e j) = (fun w : FVec Ideal S8x2048x1536 .bf16 => fun (q : ℕ) (n : Fin 2048) => w (ix3 (Fin.ofNat 8 (q / 1536)) n (Fin.ofNat 1536 q))) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = (1536 * (t.val % 8) + j.val) / 1536 % 8; rw [hi.1]; omega
  | ⟨1, _⟩ => show win0_1.index t 1 * 2048 + 1 * e.val = e.val; rw [hi.2.1]; omega
  | ⟨2, _⟩ => show win0_1.index t 2 * 1536 + 1 * j.val = (1536 * (t.val % 8) + j.val) % 1536; rw [hi.2.2]; omega

/-- A point's part in the operands' entries. -/
theorem part_point (t : Fin cfg0.N) (i : Fin 1024) (j : Fin 1536) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S8192x12288.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 1024) (j : Fin 1536), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (1024 * (t.val / 8) + i.val) % 8192 = win0_2.index t 0 * 1024 + 1 * i.val
    rw [hi.1]; omega
  · show 1536 * (t.val % 8) + j.val = win0_2.index t 1 * 1536 + 1 * j.val
    rw [hi.2]; omega

end Cert.WinArray

end
-- ==== Proof.WinClaim.lean ====
/- The kernel `w_in`: what its reference computes, at an index, and the claims. -/
module

public import proofs.«01_k».proof.Defs
public import proofs.«01_k».proof.Proof.WinArray
public import proofs.«01_k».proof.Proof.Gen.WinFwd
public import proofs.«01_k».proof.Proof.Gen.WinFwd.Frame
public import proofs.«01_k».proof.Proof.Gen.WinRefIdeal.Read

@[expose] public section

noncomputable section

namespace Cert.WinClaim

open Idealize.ShloMosaic Idealize.SL.Sem Cert.WinArray Cert.WinRefIdeal Cert.WinRefIdeal.Read

/-- The reference's result is the sum over the columns. -/
theorem ref (x0 : FVec Ideal S8192x2048 .bf16) (x1 : FVec Ideal S8x2048x1536 .bf16) (y : S8192x12288.Idx) :
    val_main_v5 (F := Ideal) x0 x1 y = ∑ n, summand x0 x1 (y 0) (y 1).val n := by
  refine (val_main_v5_apply ..).trans ((val_main_v4_apply ..).trans (Finset.sum_congr rfl fun n _ => ?_))
  rw [val_main_v3_apply, val_main_v2_apply]
  show _ = x0 (ix2 (y 0) n) * x1 (ix3 (Fin.ofNat 8 ((y 1).val / 1536)) n (Fin.ofNat 1536 (y 1).val))
  have h0 : (y 1).val < 12288 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => show (n.val * 12288 + (y 1).val) / 1536 % 8 = (y 1).val / 1536 % 8; omega
    | ⟨1, _⟩ => show (n.val * 12288 + (y 1).val) / 12288 = n.val; omega
    | ⟨2, _⟩ => show (n.val * 12288 + (y 1).val) % 1536 = (y 1).val % 1536; omega

/-- The kernel's result is the reference's. -/
theorem algebraic : algebraic_WinFwdIdeal_WinRefIdeal (hWinFwdIdeal := Cert.WinFwdIdeal.Gen.facts)
    (hWinRefIdeal := Cert.WinRefIdeal.Gen.facts) := by
  intro m ρ m' ρ' _ hagree
  refine ⟨fun c => (Cert.WinFwdIdeal.Gen.dats m 0 c).arrAt 2 Cert.WinFwdIdeal.cfg0.N, Cert.WinFwdIdeal.Value.run_blocks m ρ, ?_⟩
  refine (θ_run _ _ _).mono (fun r h c => ?_) (Cert.WinRefIdeal.Value.run (F := Ideal) m' ρ')
  obtain ⟨hv, hargs⟩ := h c
  obtain ⟨a0, a1⟩ := hagree c
  refine ⟨hv.trans ?_, hargs⟩
  rw [val_main_v5_eq, a0, a1]
  exact Eq.trans (funext fun y => ref (arg0 m c) (arg1 m c) y) (array m c).symm

theorem frame_p : quiescent_WinFwd (hWinFwd := Cert.WinFwd.Gen.facts) := fun m ρ _ => Cert.WinFwd.Gen.frame m ρ

theorem frame_pi : quiescent_WinFwdIdeal (hWinFwdIdeal := Cert.WinFwdIdeal.Gen.facts) := fun m ρ _ => Cert.WinFwdIdeal.Gen.frame m ρ

/-- The reference runs to its end and leaves its arguments; it declares no semaphore. -/
theorem frame_ri : quiescent_WinRefIdeal (hWinRefIdeal := Cert.WinRefIdeal.Gen.facts) := fun m ρ _ =>
  (θ_run _ _ _).mono (fun r h => And.intro (fun c => (h c).2) (sem_eq_zero_of_no_sems (by decide) r.2))
    (Cert.WinRefIdeal.Value.run (F := Ideal) m ρ)

end Cert.WinClaim

end
-- ==== Proof.WupBlock.lean ====
/- What one point of the kernel `w_up` leaves in its output. -/
module

public import proofs.«01_k».proof.Proof.Gen.WupFwdIdeal.Value
public import Idealize.ShloMosaic.Lib.Pipeline.Value
public import Idealize.ShloMosaic.Lib.Pipeline.ValueKit
public import Idealize.ShloMosaic.Lib.Pointwise

@[expose] public section

noncomputable section

namespace Cert.WupBlock

open Cert.WupFwdIdeal Cert.WupFwdIdeal.Gen Idealize.ShloMosaic

variable (x0 : FVec Ideal S1024x2048 .bf16) (x1 : FVec Ideal S1x2048x1408 .bf16) (i : Fin 1024) (j : Fin 1408)

/-- A point's product of its blocks. -/
def part : EReal := ∑ e : Fin 2048, x0 (ix2 i e) * x1 (ix3 0 e j)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S1024x2048) inb_S1024x2048_S1024x2048_0_0 x0 (by decide)
  have h1 : View.ld (Val := Elt Ideal) (e' := .bf16) x1 r0_1 = x1 := View.ld_unit_lit (Val := Elt Ideal) (e := .bf16) (S := S1x2048x1408) inb_S1x2048x1408_S1x2048x1408_0_0_0 x1 (by decide)
  exact (congrFun (congr (congrArg (k0_pay1 (F := Ideal)) h0) h1) _).trans (pay1 x0 x1 i j)

end Cert.WupBlock

end
-- ==== Proof.WupArray.lean ====
/- The array the kernel `w_up` leaves: the up projection. -/
module

public import proofs.«01_k».proof.Proof.WupBlock

@[expose] public section

noncomputable section

namespace Cert.WupArray

open Cert.WupFwdIdeal Cert.WupFwdIdeal.Gen Idealize.ShloMosaic Idealize.ShloMosaic.TcCoe Cert.WupBlock
open Idealize.ShloMosaic.Pipeline (Dat)

/-- The `n`-th summand of the product at row `r` and column `q` (column `q % 1408` of slot `q / 1408` of the weights). -/
def summand (a : FVec Ideal S8192x2048 .bf16) (w : FVec Ideal S8x2048x1408 .bf16) (r : Fin 8192) (q : ℕ) (n : Fin 2048) : EReal :=
  a (ix2 r n) * w (ix3 (Fin.ofNat 8 (q / 1408)) n (Fin.ofNat 1408 q))

variable (m : (ℓ : Loc nD τ sig) → Buf (Elt Ideal) ℓ) (c : Dev nD)

/-- The product's first operand. -/
abbrev arg0 : FVec Ideal S8192x2048 .bf16 := m ((c : Thread nD τ).loc main_arg0)
/-- The weights. -/
abbrev arg1 : FVec Ideal S8x2048x1408 .bf16 := m ((c : Thread nD τ).loc main_arg1)

theorem index0 : ∀ t : Fin cfg0.N, win0_0.index t 0 = t.val / 8 ∧ win0_0.index t 1 = 0 := by
  show ∀ t : Fin grid0.N, _; decide +kernel
theorem index1 : ∀ t : Fin cfg0.N, win0_1.index t 0 = t.val % 8 / 1 ∧ win0_1.index t 1 = 0 ∧ win0_1.index t 2 = t.val % 8 % 1 := by
  show ∀ t : Fin grid0.N, _; decide +kernel
theorem index2 : ∀ t : Fin cfg0.N, win0_2.index t 0 = t.val / 8 ∧ win0_2.index t 1 = t.val % 8 := by
  show ∀ t : Fin grid0.N, _; decide +kernel

theorem lt_pts (t : Fin cfg0.N) : t.val < 64 := lt_of_lt_of_eq t.isLt (show cfg0.N = 64 from N_0)

/-- Row `i` of point `t`'s block of the result. -/
def row (t : ℕ) (i : Fin 1024) : Fin 8192 := Fin.ofNat 8192 (1024 * (t / 8) + i.val)
/-- Column `j` of point `t`'s block of the result. -/
def col (t : ℕ) (j : Fin 1408) : ℕ := 1408 * (t % 8) + j.val

theorem iblk0 (t : Fin cfg0.N) (i : Fin 1024) (e : Fin 2048) : iblk m c 0 t (ix2 i e) = arg0 m c (ix2 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 1024 + 1 * i.val = (1024 * (t.val / 8) + i.val) % 8192; rw [hi.1]; omega
  | ⟨1, _⟩ => show win0_0.index t 1 * 2048 + 1 * e.val = e.val; rw [hi.2]; omega

theorem iblk1 (t : Fin cfg0.N) (e : Fin 2048) (j : Fin 1408) :
    iblk m c 1 t (ix3 0 e j) = (fun w : FVec Ideal S8x2048x1408 .bf16 => fun (q : ℕ) (n : Fin 2048) => w (ix3 (Fin.ofNat 8 (q / 1408)) n (Fin.ofNat 1408 q))) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = (1408 * (t.val % 8) + j.val) / 1408 % 8; rw [hi.1]; omega
  | ⟨1, _⟩ => show win0_1.index t 1 * 2048 + 1 * e.val = e.val; rw [hi.2.1]; omega
  | ⟨2, _⟩ => show win0_1.index t 2 * 1408 + 1 * j.val = (1408 * (t.val % 8) + j.val) % 1408; rw [hi.2.2]; omega

/-- A point's part in the operands' entries. -/
theorem part_point (t : Fin cfg0.N) (i : Fin 1024) (j : Fin 1408) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S8192x11264.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 1024) (j : Fin 1408), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (1024 * (t.val / 8) + i.val) % 8192 = win0_2.index t 0 * 1024 + 1 * i.val
    rw [hi.1]; omega
  · show 1408 * (t.val % 8) + j.val = win0_2.index t 1 * 1408 + 1 * j.val
    rw [hi.2]; omega

end Cert.WupArray

end
-- ==== Proof.WupClaim.lean ====
/- The kernel `w_up`: what its reference computes, at an index, and the claims. -/
module

public import proofs.«01_k».proof.Defs
public import proofs.«01_k».proof.Proof.WupArray
public import proofs.«01_k».proof.Proof.Gen.WupFwd
public import proofs.«01_k».proof.Proof.Gen.WupFwd.Frame
public import proofs.«01_k».proof.Proof.Gen.WupRefIdeal.Read

@[expose] public section

noncomputable section

namespace Cert.WupClaim

open Idealize.ShloMosaic Idealize.SL.Sem Cert.WupArray Cert.WupRefIdeal Cert.WupRefIdeal.Read

/-- The reference's result is the sum over the columns. -/
theorem ref (x0 : FVec Ideal S8192x2048 .bf16) (x1 : FVec Ideal S8x2048x1408 .bf16) (y : S8192x11264.Idx) :
    val_main_v5 (F := Ideal) x0 x1 y = ∑ n, summand x0 x1 (y 0) (y 1).val n := by
  refine (val_main_v5_apply ..).trans ((val_main_v4_apply ..).trans (Finset.sum_congr rfl fun n _ => ?_))
  rw [val_main_v3_apply, val_main_v2_apply]
  show _ = x0 (ix2 (y 0) n) * x1 (ix3 (Fin.ofNat 8 ((y 1).val / 1408)) n (Fin.ofNat 1408 (y 1).val))
  have h0 : (y 1).val < 11264 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => show (n.val * 11264 + (y 1).val) / 1408 % 8 = (y 1).val / 1408 % 8; omega
    | ⟨1, _⟩ => show (n.val * 11264 + (y 1).val) / 11264 = n.val; omega
    | ⟨2, _⟩ => show (n.val * 11264 + (y 1).val) % 1408 = (y 1).val % 1408; omega

/-- The kernel's result is the reference's. -/
theorem algebraic : algebraic_WupFwdIdeal_WupRefIdeal (hWupFwdIdeal := Cert.WupFwdIdeal.Gen.facts)
    (hWupRefIdeal := Cert.WupRefIdeal.Gen.facts) := by
  intro m ρ m' ρ' _ hagree
  refine ⟨fun c => (Cert.WupFwdIdeal.Gen.dats m 0 c).arrAt 2 Cert.WupFwdIdeal.cfg0.N, Cert.WupFwdIdeal.Value.run_blocks m ρ, ?_⟩
  refine (θ_run _ _ _).mono (fun r h c => ?_) (Cert.WupRefIdeal.Value.run (F := Ideal) m' ρ')
  obtain ⟨hv, hargs⟩ := h c
  obtain ⟨a0, a1⟩ := hagree c
  refine ⟨hv.trans ?_, hargs⟩
  rw [val_main_v5_eq, a0, a1]
  exact Eq.trans (funext fun y => ref (arg0 m c) (arg1 m c) y) (array m c).symm

theorem frame_p : quiescent_WupFwd (hWupFwd := Cert.WupFwd.Gen.facts) := fun m ρ _ => Cert.WupFwd.Gen.frame m ρ

theorem frame_pi : quiescent_WupFwdIdeal (hWupFwdIdeal := Cert.WupFwdIdeal.Gen.facts) := fun m ρ _ => Cert.WupFwdIdeal.Gen.frame m ρ

/-- The reference runs to its end and leaves its arguments; it declares no semaphore. -/
theorem frame_ri : quiescent_WupRefIdeal (hWupRefIdeal := Cert.WupRefIdeal.Gen.facts) := fun m ρ _ =>
  (θ_run _ _ _).mono (fun r h => And.intro (fun c => (h c).2) (sem_eq_zero_of_no_sems (by decide) r.2))
    (Cert.WupRefIdeal.Value.run (F := Ideal) m ρ)

end Cert.WupClaim

end
-- ==== Proof.WdownBlock.lean ====
/- What one point of the kernel `w_down` leaves in its accumulator and in its output. -/
module

public import proofs.«01_k».proof.Proof.Gen.WdownFwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.WdownBlock

open Cert.WdownFwdIdeal Cert.WdownFwdIdeal.Gen Idealize.ShloMosaic Idealize.ShloMosaic.Tactic

/-- The part of the product at `(i, j)` one point adds: its columns of the one operand against those rows of the weights. -/
def part (x0 : FVec Ideal S1024x2816 .bf16) (x1 : FVec Ideal S1x2816x1024 .bf16) (i : Fin 1024) (j : Fin 1024) : EReal :=
  ∑ e : Fin 2816, x0 (ix2 i e) * x1 (ix3 0 e j)

variable (x0 : FVec Ideal S1024x2816 .bf16) (x1 : FVec Ideal S1x2816x1024 .bf16) (x2 acc : FVec Ideal S1024x1024 .f32) (i : Fin 1024) (j : Fin 1024)

/-- A point's product. -/
theorem pay1 : k0_pay1 (F := Ideal) x0 x1 (ix2 i j) = part x0 x1 i j := by
  unfold part
  pointwise [k0_pay1]

/-- The first store keeps the product. -/
theorem pay2 : k0_pay2 (F := Ideal) x0 x1 (ix2 i j) = part x0 x1 i j := by
  rw [← pay1]
  unfold k0_pay2
  generalize k0_pay1 (F := Ideal) x0 x1 = P
  pointwise []

/-- The last store adds it and the residual. -/
theorem pay4 : k0_pay4 (F := Ideal) x0 x1 acc x2 (ix2 i j) = acc (ix2 i j) + part x0 x1 i j + x2 (ix2 i j) := by
  rw [← pay1]
  unfold k0_pay4
  generalize k0_pay1 (F := Ideal) x0 x1 = P
  pointwise []

variable (c : Dev nD) (t : grid0.Coords) (arg3 : Memref sig .tc .vmem S1024x2816 .bf16) (harg3 : arg3.IsWhole)
  (arg4 : Memref sig .tc .vmem S1x2816x1024 .bf16) (harg4 : arg4.IsWhole) (arg5 : Memref sig .tc .vmem S1024x1024 .f32) (harg5 : arg5.IsWhole)
  (arg6 : Memref sig .tc .vmem S1024x1024 .f32) (harg6 : arg6.IsWhole) (arg7 : Memref sig .tc .vmem S1024x1024 .f32) (harg7 : arg7.IsWhole)

/-- The blocks as loaded are the blocks. -/
theorem part_loads (inb0 inb1) :
    part (View.readAt (Elt Ideal) arg3.view (Rect.unit (s := S1024x2816) ![0, 0] S1024x2816.size inb0).toLoadRect (harg3.unread x0))
      (View.readAt (Elt Ideal) arg4.view (Rect.unit (s := S1x2816x1024) ![0, 0, 0] S1x2816x1024.size inb1).toLoadRect (harg4.unread x1)) i j
      = part x0 x1 i j :=
  Finset.sum_congr rfl fun e _ => congr (congrArg HMul.hMul (Cert.Loads.all arg3 harg3 x0 inb0 i e)) (Cert.Loads.slot arg4 harg4 x1 0 (by decide) inb1 e j)

/-- The first point of a run starts the accumulator at its part. -/
theorem sout_A (hc0 : cond0_0 t) (hc1 : ¬cond0_1 t) (hc2 : ¬cond0_2 t) :
    sout0_A_0 (F := Ideal) c t arg3 harg3 arg4 harg4 arg5 harg5 arg6 harg6 arg7 harg7 hc0 hc1 hc2 x0 x1 x2 (ix2 i j) = part x0 x1 i j := by
  unfold sout0_A_0 kernelRun0_A
  dsimp only
  sl_unfold_run_names
  refine (congrFun (View.read_writes_full (Val := Elt Ideal) _ _ _ _ _) _).trans ?_
  exact (pay2 ..).trans (part_loads ..)

/-- The last point of a run stores the accumulator with its part and the residual. -/
theorem out_B (hc0 : ¬cond0_0 t) (hc1 : ¬cond0_1 t) (hc2 : cond0_2 t) :
    out0_B_3 (F := Ideal) c t arg3 harg3 arg4 harg4 arg5 harg5 arg6 harg6 arg7 harg7 hc0 hc1 hc2 x0 x1 x2 acc (ix2 i j)
      = acc (ix2 i j) + part x0 x1 i j + x2 (ix2 i j) := by
  unfold out0_B_3 kernelRun0_B
  dsimp only
  sl_unfold_run_names
  refine (congrFun (View.read_writes_full (Val := Elt Ideal) _ _ _ _ _) _).trans ?_
  exact (pay4 ..).trans (congr (congrArg HAdd.hAdd (congr (congrArg HAdd.hAdd (Cert.Loads.all arg7 harg7 acc _ i j)) (part_loads ..)))
    (Cert.Loads.all arg5 harg5 x2 _ i j))

end Cert.WdownBlock

end
-- ==== Proof.WdownArray.lean ====
/- The array the kernel `w_down` leaves: the down projection and the residual. -/
module

public import proofs.«01_k».proof.Proof.WdownBlock
public import proofs.«01_k».proof.Proof.Sums
public import Idealize.ShloMosaic.Lib.Pipeline.Value
public import Idealize.ShloMosaic.Lib.Pipeline.ValueKit

@[expose] public section

noncomputable section

namespace Cert.WdownArray

open Cert.WdownFwdIdeal Cert.WdownFwdIdeal.Gen Idealize.ShloMosaic Idealize.ShloMosaic.TcCoe Cert.WdownBlock
open Idealize.ShloMosaic.Pipeline (Dat)

/-- The `n`-th summand of the product at row `r` and column `q`. -/
def summand (a : FVec Ideal S8192x5632 .bf16) (w : FVec Ideal S1x5632x2048 .bf16) (r : Fin 8192) (q : ℕ) (n : Fin 5632) : EReal :=
  a (ix2 r n) * w (ix3 (Fin.ofNat 1 (q / 2048)) n (Fin.ofNat 2048 q))

variable (m : (ℓ : Loc nD τ sig) → Buf (Elt Ideal) ℓ) (c : Dev nD)

/-- The product's first operand. -/
abbrev arg0 : FVec Ideal S8192x5632 .bf16 := m ((c : Thread nD τ).loc main_arg0)
/-- The weights. -/
abbrev arg1 : FVec Ideal S1x5632x2048 .bf16 := m ((c : Thread nD τ).loc main_arg1)
/-- The residual. -/
abbrev arg2 : FVec Ideal S8192x2048 .f32 := m ((c : Thread nD τ).loc main_arg2)

theorem index0 : ∀ t : Fin cfg0.N, win0_0.index t 0 = t.val / 4 ∧ win0_0.index t 1 = t.val % 2 := by
  show ∀ t : Fin grid0.N, _; decide +kernel
theorem index1 : ∀ t : Fin cfg0.N, win0_1.index t 0 = 0 ∧ win0_1.index t 1 = t.val % 2 ∧ win0_1.index t 2 = t.val / 2 % 2 := by
  show ∀ t : Fin grid0.N, _; decide +kernel
theorem index2 : ∀ t : Fin cfg0.N, win0_2.index t 0 = t.val / 4 ∧ win0_2.index t 1 = t.val / 2 % 2 := by
  show ∀ t : Fin grid0.N, _; decide +kernel
theorem index3 : ∀ t : Fin cfg0.N, win0_3.index t 0 = t.val / 4 ∧ win0_3.index t 1 = t.val / 2 % 2 := by
  show ∀ t : Fin grid0.N, _; decide +kernel

theorem lt_pts (t : Fin cfg0.N) : t.val < 32 := lt_of_lt_of_eq t.isLt (show cfg0.N = 32 from N_0)

/-- Row `i` of point `t`'s block of the result. -/
def row (t : ℕ) (i : Fin 1024) : Fin 8192 := Fin.ofNat 8192 (1024 * (t / 4) + i.val)
/-- Column `j` of point `t`'s block of the result. -/
def col (t : ℕ) (j : Fin 1024) : ℕ := 1024 * (t / 2 % 2) + j.val

theorem iblk0 (t : Fin cfg0.N) (i : Fin 1024) (e : Fin 2816) : iblk m c 0 t (ix2 i e) = arg0 m c (ix2 (row t.val i) (Fin.ofNat 5632 (2816 * (t.val % 2) + e.val))) := by
  have hi := index0 t
  have ht := lt_pts t
  refine (congrFun (V_main_arg0 m c) _).trans (congrArg (m _) (funext fun a => Fin.ext ?_))
  have he := e.isLt
  have h1 := i.isLt
  match a with
  | ⟨0, _⟩ => show win0_0.index t 0 * 1024 + 1 * i.val = (1024 * (t.val / 4) + i.val) % 8192; rw [hi.1]; omega
  | ⟨1, _⟩ => show win0_0.index t 1 * 2816 + 1 * e.val = (2816 * (t.val % 2) + e.val) % 5632; rw [hi.2]; omega

theorem iblk1 (t : Fin cfg0.N) (e : Fin 2816) (j : Fin 1024) :
    iblk m c 1 t (ix3 0 e j) = (fun w : FVec Ideal S1x5632x2048 .bf16 => fun (q : ℕ) (n : Fin 5632) => w (ix3 (Fin.ofNat 1 (q / 2048)) n (Fin.ofNat 2048 q))) (arg1 m c) (col t.val j)
      (Fin.ofNat 5632 (2816 * (t.val % 2) + e.val)) := by
  have hi := index1 t
  have ht := lt_pts t
  refine (congrFun (V_main_arg1 m c) _).trans (congrArg (m _) (funext fun a => Fin.ext ?_))
  have he := e.isLt
  have h1 := j.isLt
  match a with
  | ⟨0, _⟩ => show win0_1.index t 0 * 1 + 1 * 0 = (1024 * (t.val / 2 % 2) + j.val) / 2048 % 1; rw [hi.1]; omega
  | ⟨1, _⟩ => show win0_1.index t 1 * 2816 + 1 * e.val = (2816 * (t.val % 2) + e.val) % 5632; rw [hi.2.1]; omega
  | ⟨2, _⟩ => show win0_1.index t 2 * 1024 + 1 * j.val = (1024 * (t.val / 2 % 2) + j.val) % 2048; rw [hi.2.2]; omega

theorem iblk2 (t : Fin cfg0.N) (i : Fin 1024) (j : Fin 1024) :
    iblk m c 2 t (ix2 i j) = arg2 m c (ix2 (row t.val i) (Fin.ofNat 2048 (col t.val j))) := by
  have hi := index2 t
  have ht := lt_pts t
  refine (congrFun (V_main_arg2 m c) _).trans (congrArg (m _) (funext fun a => Fin.ext ?_))
  have h1 := i.isLt
  have h2 := j.isLt
  match a with
  | ⟨0, _⟩ => show win0_2.index t 0 * 1024 + 1 * i.val = (1024 * (t.val / 4) + i.val) % 8192; rw [hi.1]; omega
  | ⟨1, _⟩ => show win0_2.index t 1 * 1024 + 1 * j.val = (1024 * (t.val / 2 % 2) + j.val) % 2048; rw [hi.2]; omega

/-- The part of the product the `k`-th half of its columns gives. -/
def half (r : Fin 8192) (q : ℕ) (k : ℕ) : EReal :=
  ∑ e : Fin 2816, summand (arg0 m c) (arg1 m c) r q (Fin.ofNat 5632 (2816 * k + e.val))

/-- A point adds its half of the columns. -/
theorem part_point (t : Fin cfg0.N) (i : Fin 1024) (j : Fin 1024) :
    part (iblk m c 0 t) (iblk m c 1 t) i j = half m c (row t.val i) (col t.val j) (t.val % 2) :=
  Finset.sum_congr rfl fun e _ => congr (congrArg HMul.hMul (iblk0 m c t i e)) (iblk1 m c t e j)

/-- The first point of a run leaves its part in the accumulator. -/
theorem outs_A (t : Fin cfg0.N) (h0 : t.val % 2 = 0) (i : Fin 1024) (j : Fin 1024) :
    (outsAt0 m c t.val t.isLt).2 (ix2 i j) = part (iblk m c 0 t) (iblk m c 1 t) i j := by
  rw [outsAt0_A m c t h0 (by omega)]
  dsimp only
  exact sout_A ..

/-- The last point of a run adds its part and the residual and stores the sum. -/
theorem outs_B (t : Fin cfg0.N) (h1 : t.val % 2 = 1) (i : Fin 1024) (j : Fin 1024) :
    (outsAt0 m c t.val t.isLt).1 (ix2 i j) = (outsAt0 m c (t.val - 1) (lt_of_le_of_lt (Nat.sub_le _ _) t.isLt)).2 (ix2 i j)
      + part (iblk m c 0 t) (iblk m c 1 t) i j + iblk m c 2 t (ix2 i j) := by
  rw [outsAt0_B m c t (by omega) h1]
  dsimp only
  exact out_B ..

/-- THE RESULT: every entry is the whole sum and the residual. -/
theorem array : (dats m 0 c).arrAt 3 cfg0.N = fun y : S8192x2048.Idx => ∑ n, summand (arg0 m c) (arg1 m c) (y 0) (y 1).val n + arg2 m c y := by
  refine (dats m 0 c).arrAt_eq_of_covers 3 _ (by decide +kernel) fun t hf y => ?_
  show (dats m 0 c).after 3 t y = _
  have hi := index3 t
  have ht := lt_pts t
  obtain ⟨i, j, rfl⟩ : ∃ (i : Fin 1024) (j : Fin 1024), y = ix2 i j := ⟨y 0, y 1, eq_ix2 y⟩
  have ho : t.val % 2 = 1 := (flush0_3 t).mp hf
  rw [after0_3]
  refine (outs_B m c t ho i j).trans ?_
  refine (congr (congrArg HAdd.hAdd (congr (congrArg HAdd.hAdd ((outs_A m c ⟨t.val - 1, lt_of_le_of_lt (Nat.sub_le _ _) t.isLt⟩
    (by dsimp only; omega) i j).trans (part_point m c _ i j))) (part_point m c t i j))) (iblk2 m c t i j)).trans ?_
  dsimp only
  have h1 := i.isLt
  have h2 := j.isLt
  rw [show row (t.val - 1) i = row t.val i by unfold row; congr 3; omega, show col (t.val - 1) j = col t.val j by unfold col; congr 3; omega,
    show (t.val - 1) % 2 = 0 by omega, ho]
  have hs : half m c (row t.val i) (col t.val j) 0 + half m c (row t.val i) (col t.val j) 1
      = ∑ n, summand (arg0 m c) (arg1 m c) (row t.val i) (col t.val j) n := by
    rw [← Cert.Sums.blocks 2 2816 5632 rfl, Finset.sum_range_succ, Finset.sum_range_succ, Finset.sum_range_zero, zero_add]
    rfl
  rw [hs]
  have hr : row t.val i = (((cfg0.win 3).blk t).view.emb (ix2 i j)) 0 := Fin.ext (by
    show (1024 * (t.val / 4) + i.val) % 8192 = win0_3.index t 0 * 1024 + 1 * i.val
    rw [hi.1]; omega)
  have hc : col t.val j = ((((cfg0.win 3).blk t).view.emb (ix2 i j)) 1).val := by
    show 1024 * (t.val / 2 % 2) + j.val = win0_3.index t 1 * 1024 + 1 * j.val
    rw [hi.2]; omega
  refine congr (congrArg HAdd.hAdd (Finset.sum_congr rfl fun n _ => congrFun (congr (congrArg (summand (arg0 m c) (arg1 m c)) hr) hc) n))
    (congrArg (arg2 m c) (funext fun a => ?_))
  match a with
  | ⟨0, _⟩ => exact hr
  | ⟨1, _⟩ =>
    refine Fin.ext ?_
    show col t.val j % 2048 = _
    have hlt : col t.val j < 2048 := by unfold col; omega
    exact (Nat.mod_eq_of_lt hlt).trans hc

end Cert.WdownArray

end
-- ==== Proof.WdownClaim.lean ====
/- The kernel `w_down`: what its reference computes, at an index, and the claims. -/
module

public import proofs.«01_k».proof.Defs
public import proofs.«01_k».proof.Proof.WdownArray
public import proofs.«01_k».proof.Proof.Gen.WdownFwd
public import proofs.«01_k».proof.Proof.Gen.WdownFwd.Frame
public import proofs.«01_k».proof.Proof.Gen.WdownRefIdeal.Read

@[expose] public section

noncomputable section

namespace Cert.WdownClaim

open Idealize.ShloMosaic Idealize.SL.Sem Cert.WdownArray Cert.WdownRefIdeal Cert.WdownRefIdeal.Read

/-- The reference's result is the sum over the columns and the residual. -/
theorem ref (x0 : FVec Ideal S8192x5632 .bf16) (x1 : FVec Ideal S1x5632x2048 .bf16) (x2 : FVec Ideal S8192x2048 .f32) (y : S8192x2048.Idx) :
    val_main_v5 (F := Ideal) x0 x1 x2 y = ∑ n, summand x0 x1 (y 0) (y 1).val n + x2 y := by
  refine (val_main_v5_apply ..).trans ((add_comm _ _).trans (congrArg (· + x2 y) ?_))
  refine (val_main_v4_apply ..).trans (Finset.sum_congr rfl fun n _ => ?_)
  rw [val_main_v3_apply, val_main_v2_apply]
  show _ = x0 (ix2 (y 0) n) * x1 (ix3 (Fin.ofNat 1 ((y 1).val / 2048)) n (Fin.ofNat 2048 (y 1).val))
  have h0 : (y 1).val < 2048 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => show 0 = (y 1).val / 2048 % 1; omega
    | ⟨1, _⟩ => show (n.val * 2048 + (y 1).val) / 2048 = n.val; omega
    | ⟨2, _⟩ => show (n.val * 2048 + (y 1).val) % 2048 = (y 1).val % 2048; omega

/-- The kernel's result is the reference's. -/
theorem algebraic : algebraic_WdownFwdIdeal_WdownRefIdeal (hWdownFwdIdeal := Cert.WdownFwdIdeal.Gen.facts)
    (hWdownRefIdeal := Cert.WdownRefIdeal.Gen.facts) := by
  intro m ρ m' ρ' _ hagree
  refine ⟨fun c => (Cert.WdownFwdIdeal.Gen.dats m 0 c).arrAt 3 Cert.WdownFwdIdeal.cfg0.N, Cert.WdownFwdIdeal.Value.run_blocks m ρ, ?_⟩
  refine (θ_run _ _ _).mono (fun r h c => ?_) (Cert.WdownRefIdeal.Value.run (F := Ideal) m' ρ')
  obtain ⟨hv, hargs⟩ := h c
  obtain ⟨a0, a1, a2⟩ := hagree c
  refine ⟨hv.trans ?_, hargs⟩
  rw [val_main_v5_eq, a0, a1, a2]
  exact Eq.trans (funext fun y => ref (arg0 m c) (arg1 m c) (arg2 m c) y) (array m c).symm

theorem frame_p : quiescent_WdownFwd (hWdownFwd := Cert.WdownFwd.Gen.facts) := fun m ρ _ => Cert.WdownFwd.Gen.frame m ρ

theorem frame_pi : quiescent_WdownFwdIdeal (hWdownFwdIdeal := Cert.WdownFwdIdeal.Gen.facts) := fun m ρ _ => Cert.WdownFwdIdeal.Gen.frame m ρ

/-- The reference runs to its end and leaves its arguments; it declares no semaphore. -/
theorem frame_ri : quiescent_WdownRefIdeal (hWdownRefIdeal := Cert.WdownRefIdeal.Gen.facts) := fun m ρ _ =>
  (θ_run _ _ _).mono (fun r h => And.intro (fun c => (h c).2) (sem_eq_zero_of_no_sems (by decide) r.2))
    (Cert.WdownRefIdeal.Value.run (F := Ideal) m ρ)

end Cert.WdownClaim

end
-- ==== Proof.WoBlock.lean ====
/- What one point of the kernel `w_o` leaves in its output. -/
module

public import proofs.«01_k».proof.Proof.Gen.WoFwdIdeal.Value
public import Idealize.ShloMosaic.Lib.Pipeline.Value
public import Idealize.ShloMosaic.Lib.Pipeline.ValueKit
public import Idealize.ShloMosaic.Lib.Pointwise

@[expose] public section

noncomputable section

namespace Cert.WoBlock

open Cert.WoFwdIdeal Cert.WoFwdIdeal.Gen Idealize.ShloMosaic

variable (x0 : FVec Ideal S1024x2048 .bf16) (x1 : FVec Ideal S1x2048x1024 .bf16) (x2 : FVec Ideal S1024x1024 .f32) (i : Fin 1024) (j : Fin 1024)

/-- A point's product of its blocks, and its block of the residual. -/
def part : EReal := ∑ e : Fin 2048, x0 (ix2 i e) * x1 (ix3 0 e j) + x2 (ix2 i j)

/-- What a point stores. -/
theorem pay1 : k0_pay1 (F := Ideal) x0 x1 x2 (ix2 i j) = part x0 x1 x2 i j := by
  unfold part
  pointwise [k0_pay1]

/-- The output's block after the point. -/
theorem out : out0_3 (F := Ideal) x0 x1 x2 (ix2 i j) = part x0 x1 x2 i j := by
  unfold out0_3
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S1024x2048) inb_S1024x2048_S1024x2048_0_0 x0 (by decide)
  have h1 : View.ld (Val := Elt Ideal) (e' := .bf16) x1 r0_1 = x1 := View.ld_unit_lit (Val := Elt Ideal) (e := .bf16) (S := S1x2048x1024) inb_S1x2048x1024_S1x2048x1024_0_0_0 x1 (by decide)
  have h2 : View.ld (Val := Elt Ideal) (e' := .f32) x2 r0_2 = x2 := View.ld_unit_lit (Val := Elt Ideal) (e := .f32) (S := S1024x1024) inb_S1024x1024_S1024x1024_0_0 x2 (by decide)
  exact (congrFun (congr (congr (congrArg (k0_pay1 (F := Ideal)) h0) h1) h2) _).trans (pay1 x0 x1 x2 i j)

end Cert.WoBlock

end
-- ==== Proof.WoArray.lean ====
/- The array the kernel `w_o` leaves: the output projection and the residual. -/
module

public import proofs.«01_k».proof.Proof.WoBlock

@[expose] public section

noncomputable section

namespace Cert.WoArray

open Cert.WoFwdIdeal Cert.WoFwdIdeal.Gen Idealize.ShloMosaic Idealize.ShloMosaic.TcCoe Cert.WoBlock
open Idealize.ShloMosaic.Pipeline (Dat)

/-- The `n`-th summand of the product at row `r` and column `q`. -/
def summand (a : FVec Ideal S8192x2048 .bf16) (w : FVec Ideal S1x2048x2048 .bf16) (r : Fin 8192) (q : ℕ) (n : Fin 2048) : EReal :=
  a (ix2 r n) * w (ix3 (Fin.ofNat 1 (q / 2048)) n (Fin.ofNat 2048 q))

variable (m : (ℓ : Loc nD τ sig) → Buf (Elt Ideal) ℓ) (c : Dev nD)

/-- The product's first operand. -/
abbrev arg0 : FVec Ideal S8192x2048 .bf16 := m ((c : Thread nD τ).loc main_arg0)
/-- The weights. -/
abbrev arg1 : FVec Ideal S1x2048x2048 .bf16 := m ((c : Thread nD τ).loc main_arg1)
/-- The residual. -/
abbrev arg2 : FVec Ideal S8192x2048 .f32 := m ((c : Thread nD τ).loc main_arg2)

theorem index0 : ∀ t : Fin cfg0.N, win0_0.index t 0 = t.val / 2 ∧ win0_0.index t 1 = 0 := by
  show ∀ t : Fin grid0.N, _; decide +kernel
theorem index1 : ∀ t : Fin cfg0.N, win0_1.index t 0 = t.val % 2 / 2 ∧ win0_1.index t 1 = 0 ∧ win0_1.index t 2 = t.val % 2 % 2 := by
  show ∀ t : Fin grid0.N, _; decide +kernel
theorem index2 : ∀ t : Fin cfg0.N, win0_2.index t 0 = t.val / 2 ∧ win0_2.index t 1 = t.val % 2 := by
  show ∀ t : Fin grid0.N, _; decide +kernel
theorem index3 : ∀ t : Fin cfg0.N, win0_3.index t 0 = t.val / 2 ∧ win0_3.index t 1 = t.val % 2 := by
  show ∀ t : Fin grid0.N, _; decide +kernel

theorem lt_pts (t : Fin cfg0.N) : t.val < 16 := lt_of_lt_of_eq t.isLt (show cfg0.N = 16 from N_0)

/-- Row `i` of point `t`'s block of the result. -/
def row (t : ℕ) (i : Fin 1024) : Fin 8192 := Fin.ofNat 8192 (1024 * (t / 2) + i.val)
/-- Column `j` of point `t`'s block of the result. -/
def col (t : ℕ) (j : Fin 1024) : ℕ := 1024 * (t % 2) + j.val

theorem iblk0 (t : Fin cfg0.N) (i : Fin 1024) (e : Fin 2048) : iblk m c 0 t (ix2 i e) = arg0 m c (ix2 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 1024 + 1 * i.val = (1024 * (t.val / 2) + i.val) % 8192; rw [hi.1]; omega
  | ⟨1, _⟩ => show win0_0.index t 1 * 2048 + 1 * e.val = e.val; rw [hi.2]; omega

theorem iblk1 (t : Fin cfg0.N) (e : Fin 2048) (j : Fin 1024) :
    iblk m c 1 t (ix3 0 e j) = (fun w : FVec Ideal S1x2048x2048 .bf16 => fun (q : ℕ) (n : Fin 2048) => w (ix3 (Fin.ofNat 1 (q / 2048)) n (Fin.ofNat 2048 q))) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = (1024 * (t.val % 2) + j.val) / 2048 % 1; rw [hi.1]; omega
  | ⟨1, _⟩ => show win0_1.index t 1 * 2048 + 1 * e.val = e.val; rw [hi.2.1]; omega
  | ⟨2, _⟩ => show win0_1.index t 2 * 1024 + 1 * j.val = (1024 * (t.val % 2) + j.val) % 2048; rw [hi.2.2]; omega

theorem iblk2 (t : Fin cfg0.N) (i : Fin 1024) (j : Fin 1024) :
    iblk m c 2 t (ix2 i j) = arg2 m c (ix2 (row t.val i) (Fin.ofNat 2048 (col t.val j))) := by
  have hi := index2 t
  have ht := lt_pts t
  refine (congrFun (V_main_arg2 m c) _).trans (congrArg (m _) (funext fun a => Fin.ext ?_))
  have h1 := i.isLt
  have h2 := j.isLt
  match a with
  | ⟨0, _⟩ => show win0_2.index t 0 * 1024 + 1 * i.val = (1024 * (t.val / 2) + i.val) % 8192; rw [hi.1]; omega
  | ⟨1, _⟩ => show win0_2.index t 1 * 1024 + 1 * j.val = (1024 * (t.val % 2) + j.val) % 2048; rw [hi.2]; omega

/-- A point's part in the operands' entries. -/
theorem part_point (t : Fin cfg0.N) (i : Fin 1024) (j : Fin 1024) :
    part (iblk m c 0 t) (iblk m c 1 t) (iblk m c 2 t) i j = ∑ n, summand (arg0 m c) (arg1 m c) (row t.val i) (col t.val j) n + arg2 m c (ix2 (row t.val i) (Fin.ofNat 2048 (col t.val j))) := by
  unfold part
  refine congr (congrArg HAdd.hAdd (Finset.sum_congr rfl fun e _ => ?_)) (iblk2 m c t i j)
  exact congr (congrArg HMul.hMul (iblk0 m c t i e)) (iblk1 m c t e j)

/-- THE RESULT: every entry is the whole sum and the residual. -/
theorem array : (dats m 0 c).arrAt 3 cfg0.N = fun y : S8192x2048.Idx => ∑ n, summand (arg0 m c) (arg1 m c) (y 0) (y 1).val n + arg2 m c y := by
  refine (dats m 0 c).arrAt_eq_of_covers 3 _ (by decide +kernel) fun t hf y => ?_
  show (dats m 0 c).after 3 t y = _
  have hi := index3 t
  have ht := lt_pts t
  obtain ⟨i, j, rfl⟩ : ∃ (i : Fin 1024) (j : Fin 1024), y = ix2 i j := ⟨y 0, y 1, eq_ix2 y⟩
  rw [after0_3]
  refine (out ..).trans ((part_point m c t i j).trans ?_)
  have h1 := i.isLt
  have h2 := j.isLt
  have hr : row t.val i = (((cfg0.win 3).blk t).view.emb (ix2 i j)) 0 := Fin.ext (by
    show (1024 * (t.val / 2) + i.val) % 8192 = win0_3.index t 0 * 1024 + 1 * i.val
    rw [hi.1]; omega)
  have hc : col t.val j = ((((cfg0.win 3).blk t).view.emb (ix2 i j)) 1).val := by
    show 1024 * (t.val % 2) + j.val = win0_3.index t 1 * 1024 + 1 * j.val
    rw [hi.2]; omega
  refine congr (congrArg HAdd.hAdd (Finset.sum_congr rfl fun n _ => congrFun (congr (congrArg (summand (arg0 m c) (arg1 m c)) hr) hc) n))
    (congrArg (arg2 m c) (funext fun a => ?_))
  match a with
  | ⟨0, _⟩ => exact hr
  | ⟨1, _⟩ =>
    refine Fin.ext ?_
    show col t.val j % 2048 = _
    have hlt : col t.val j < 2048 := by unfold col; omega
    exact (Nat.mod_eq_of_lt hlt).trans hc

end Cert.WoArray

end
-- ==== Proof.WoClaim.lean ====
/- The kernel `w_o`: what its reference computes, at an index, and the claims. -/
module

public import proofs.«01_k».proof.Defs
public import proofs.«01_k».proof.Proof.WoArray
public import proofs.«01_k».proof.Proof.Gen.WoFwd
public import proofs.«01_k».proof.Proof.Gen.WoFwd.Frame
public import proofs.«01_k».proof.Proof.Gen.WoRefIdeal.Read

@[expose] public section

noncomputable section

namespace Cert.WoClaim

open Idealize.ShloMosaic Idealize.SL.Sem Cert.WoArray Cert.WoRefIdeal Cert.WoRefIdeal.Read

/-- The reference's result is the sum over the columns and the residual. -/
theorem ref (x0 : FVec Ideal S8192x2048 .bf16) (x1 : FVec Ideal S1x2048x2048 .bf16) (x2 : FVec Ideal S8192x2048 .f32) (y : S8192x2048.Idx) :
    val_main_v5 (F := Ideal) x0 x1 x2 y = ∑ n, summand x0 x1 (y 0) (y 1).val n + x2 y := by
  refine (val_main_v5_apply ..).trans ((add_comm _ _).trans (congrArg (· + x2 y) ?_))
  refine (val_main_v4_apply ..).trans (Finset.sum_congr rfl fun n _ => ?_)
  rw [val_main_v3_apply, val_main_v2_apply]
  show _ = x0 (ix2 (y 0) n) * x1 (ix3 (Fin.ofNat 1 ((y 1).val / 2048)) n (Fin.ofNat 2048 (y 1).val))
  have h0 : (y 1).val < 2048 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => show 0 = (y 1).val / 2048 % 1; omega
    | ⟨1, _⟩ => show (n.val * 2048 + (y 1).val) / 2048 = n.val; omega
    | ⟨2, _⟩ => show (n.val * 2048 + (y 1).val) % 2048 = (y 1).val % 2048; omega

/-- The kernel's result is the reference's. -/
theorem algebraic : algebraic_WoFwdIdeal_WoRefIdeal (hWoFwdIdeal := Cert.WoFwdIdeal.Gen.facts)
    (hWoRefIdeal := Cert.WoRefIdeal.Gen.facts) := by
  intro m ρ m' ρ' _ hagree
  refine ⟨fun c => (Cert.WoFwdIdeal.Gen.dats m 0 c).arrAt 3 Cert.WoFwdIdeal.cfg0.N, Cert.WoFwdIdeal.Value.run_blocks m ρ, ?_⟩
  refine (θ_run _ _ _).mono (fun r h c => ?_) (Cert.WoRefIdeal.Value.run (F := Ideal) m' ρ')
  obtain ⟨hv, hargs⟩ := h c
  obtain ⟨a0, a1, a2⟩ := hagree c
  refine ⟨hv.trans ?_, hargs⟩
  rw [val_main_v5_eq, a0, a1, a2]
  exact Eq.trans (funext fun y => ref (arg0 m c) (arg1 m c) (arg2 m c) y) (array m c).symm

theorem frame_p : quiescent_WoFwd (hWoFwd := Cert.WoFwd.Gen.facts) := fun m ρ _ => Cert.WoFwd.Gen.frame m ρ

theorem frame_pi : quiescent_WoFwdIdeal (hWoFwdIdeal := Cert.WoFwdIdeal.Gen.facts) := fun m ρ _ => Cert.WoFwdIdeal.Gen.frame m ρ

/-- The reference runs to its end and leaves its arguments; it declares no semaphore. -/
theorem frame_ri : quiescent_WoRefIdeal (hWoRefIdeal := Cert.WoRefIdeal.Gen.facts) := fun m ρ _ =>
  (θ_run _ _ _).mono (fun r h => And.intro (fun c => (h c).2) (sem_eq_zero_of_no_sems (by decide) r.2))
    (Cert.WoRefIdeal.Value.run (F := Ideal) m ρ)

end Cert.WoClaim

end
-- ==== Proof.BranchBlock.lean ====
/- What one point of the kernel `w_conv_out` leaves in its output. -/
module

public import proofs.«01_k».proof.Proof.Gen.BranchFwdIdeal.Value
public import Idealize.ShloMosaic.Lib.Pipeline.Value
public import Idealize.ShloMosaic.Lib.Pipeline.ValueKit
public import Idealize.ShloMosaic.Lib.Pointwise

@[expose] public section

noncomputable section

namespace Cert.BranchBlock

open Cert.BranchFwdIdeal Cert.BranchFwdIdeal.Gen Idealize.ShloMosaic

variable (x0 : FVec Ideal S1024x1024 .bf16) (x1 : FVec Ideal S1x1024x1024 .bf16) (i : Fin 1024) (j : Fin 1024)

/-- A point's product of its blocks. -/
def part : EReal := ∑ e : Fin 1024, x0 (ix2 i e) * x1 (ix3 0 e j)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S1024x1024) inb_S1024x1024_S1024x1024_0_0 x0 (by decide)
  have h1 : View.ld (Val := Elt Ideal) (e' := .bf16) x1 r0_1 = x1 := View.ld_unit_lit (Val := Elt Ideal) (e := .bf16) (S := S1x1024x1024) inb_S1x1024x1024_S1x1024x1024_0_0_0 x1 (by decide)
  exact (congrFun (congr (congrArg (k0_pay1 (F := Ideal)) h0) h1) _).trans (pay1 x0 x1 i j)

end Cert.BranchBlock

end
-- ==== Proof.BranchArray.lean ====
/- The array the kernel `w_conv_out` leaves: the output product of a branch. -/
module

public import proofs.«01_k».proof.Proof.BranchBlock

@[expose] public section

noncomputable section

namespace Cert.BranchArray

open Cert.BranchFwdIdeal Cert.BranchFwdIdeal.Gen Idealize.ShloMosaic Idealize.ShloMosaic.TcCoe Cert.BranchBlock
open Idealize.ShloMosaic.Pipeline (Dat)

/-- The `n`-th summand of the product at row `r` and column `q`. -/
def summand (a : FVec Ideal S8192x1024 .bf16) (w : FVec Ideal S1x1024x2048 .bf16) (r : Fin 8192) (q : ℕ) (n : Fin 1024) : EReal :=
  a (ix2 r n) * w (ix3 (Fin.ofNat 1 (q / 2048)) n (Fin.ofNat 2048 q))

variable (m : (ℓ : Loc nD τ sig) → Buf (Elt Ideal) ℓ) (c : Dev nD)

/-- The product's first operand. -/
abbrev arg0 : FVec Ideal S8192x1024 .bf16 := m ((c : Thread nD τ).loc main_arg0)
/-- The weights. -/
abbrev arg1 : FVec Ideal S1x1024x2048 .bf16 := m ((c : Thread nD τ).loc main_arg1)

theorem index0 : ∀ t : Fin cfg0.N, win0_0.index t 0 = t.val / 2 ∧ win0_0.index t 1 = 0 := by
  show ∀ t : Fin grid0.N, _; decide +kernel
theorem index1 : ∀ t : Fin cfg0.N, win0_1.index t 0 = t.val % 2 / 2 ∧ win0_1.index t 1 = 0 ∧ win0_1.index t 2 = t.val % 2 % 2 := by
  show ∀ t : Fin grid0.N, _; decide +kernel
theorem index2 : ∀ t : Fin cfg0.N, win0_2.index t 0 = t.val / 2 ∧ win0_2.index t 1 = t.val % 2 := by
  show ∀ t : Fin grid0.N, _; decide +kernel

theorem lt_pts (t : Fin cfg0.N) : t.val < 16 := lt_of_lt_of_eq t.isLt (show cfg0.N = 16 from N_0)

/-- Row `i` of point `t`'s block of the result. -/
def row (t : ℕ) (i : Fin 1024) : Fin 8192 := Fin.ofNat 8192 (1024 * (t / 2) + i.val)
/-- Column `j` of point `t`'s block of the result. -/
def col (t : ℕ) (j : Fin 1024) : ℕ := 1024 * (t % 2) + j.val

theorem iblk0 (t : Fin cfg0.N) (i : Fin 1024) (e : Fin 1024) : iblk m c 0 t (ix2 i e) = arg0 m c (ix2 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 1024 + 1 * i.val = (1024 * (t.val / 2) + i.val) % 8192; rw [hi.1]; omega
  | ⟨1, _⟩ => show win0_0.index t 1 * 1024 + 1 * e.val = e.val; rw [hi.2]; omega

theorem iblk1 (t : Fin cfg0.N) (e : Fin 1024) (j : Fin 1024) :
    iblk m c 1 t (ix3 0 e j) = (fun w : FVec Ideal S1x1024x2048 .bf16 => fun (q : ℕ) (n : Fin 1024) => w (ix3 (Fin.ofNat 1 (q / 2048)) n (Fin.ofNat 2048 q))) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = (1024 * (t.val % 2) + j.val) / 2048 % 1; rw [hi.1]; omega
  | ⟨1, _⟩ => show win0_1.index t 1 * 1024 + 1 * e.val = e.val; rw [hi.2.1]; omega
  | ⟨2, _⟩ => show win0_1.index t 2 * 1024 + 1 * j.val = (1024 * (t.val % 2) + j.val) % 2048; rw [hi.2.2]; omega

/-- A point's part in the operands' entries. -/
theorem part_point (t : Fin cfg0.N) (i : Fin 1024) (j : Fin 1024) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S8192x2048.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 1024) (j : Fin 1024), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (1024 * (t.val / 2) + i.val) % 8192 = win0_2.index t 0 * 1024 + 1 * i.val
    rw [hi.1]; omega
  · show 1024 * (t.val % 2) + j.val = win0_2.index t 1 * 1024 + 1 * j.val
    rw [hi.2]; omega

end Cert.BranchArray

end
-- ==== Proof.BranchClaim.lean ====
/- The kernel `w_conv_out`: what its reference computes, at an index, and the claims. -/
module

public import proofs.«01_k».proof.Defs
public import proofs.«01_k».proof.Proof.BranchArray
public import proofs.«01_k».proof.Proof.Gen.BranchFwd
public import proofs.«01_k».proof.Proof.Gen.BranchFwd.Frame
public import proofs.«01_k».proof.Proof.Gen.BranchRefIdeal.Read

@[expose] public section

noncomputable section

namespace Cert.BranchClaim

open Idealize.ShloMosaic Idealize.SL.Sem Cert.BranchArray Cert.BranchRefIdeal Cert.BranchRefIdeal.Read

/-- The reference's result is the sum over the columns. -/
theorem ref (x0 : FVec Ideal S8192x1024 .bf16) (x1 : FVec Ideal S1x1024x2048 .bf16) (y : S8192x2048.Idx) :
    val_main_v5 (F := Ideal) x0 x1 y = ∑ n, summand x0 x1 (y 0) (y 1).val n := by
  refine (val_main_v5_apply ..).trans ((val_main_v4_apply ..).trans (Finset.sum_congr rfl fun n _ => ?_))
  rw [val_main_v3_apply, val_main_v2_apply]
  show _ = x0 (ix2 (y 0) n) * x1 (ix3 (Fin.ofNat 1 ((y 1).val / 2048)) n (Fin.ofNat 2048 (y 1).val))
  have h0 : (y 1).val < 2048 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => show 0 = (y 1).val / 2048 % 1; omega
    | ⟨1, _⟩ => show (n.val * 2048 + (y 1).val) / 2048 = n.val; omega
    | ⟨2, _⟩ => show (n.val * 2048 + (y 1).val) % 2048 = (y 1).val % 2048; omega

/-- The kernel's result is the reference's. -/
theorem algebraic : algebraic_BranchFwdIdeal_BranchRefIdeal (hBranchFwdIdeal := Cert.BranchFwdIdeal.Gen.facts)
    (hBranchRefIdeal := Cert.BranchRefIdeal.Gen.facts) := by
  intro m ρ m' ρ' _ hagree
  refine ⟨fun c => (Cert.BranchFwdIdeal.Gen.dats m 0 c).arrAt 2 Cert.BranchFwdIdeal.cfg0.N, Cert.BranchFwdIdeal.Value.run_blocks m ρ, ?_⟩
  refine (θ_run _ _ _).mono (fun r h c => ?_) (Cert.BranchRefIdeal.Value.run (F := Ideal) m' ρ')
  obtain ⟨hv, hargs⟩ := h c
  obtain ⟨a0, a1⟩ := hagree c
  refine ⟨hv.trans ?_, hargs⟩
  rw [val_main_v5_eq, a0, a1]
  exact Eq.trans (funext fun y => ref (arg0 m c) (arg1 m c) y) (array m c).symm

theorem frame_p : quiescent_BranchFwd (hBranchFwd := Cert.BranchFwd.Gen.facts) := fun m ρ _ => Cert.BranchFwd.Gen.frame m ρ

theorem frame_pi : quiescent_BranchFwdIdeal (hBranchFwdIdeal := Cert.BranchFwdIdeal.Gen.facts) := fun m ρ _ => Cert.BranchFwdIdeal.Gen.frame m ρ

/-- The reference runs to its end and leaves its arguments; it declares no semaphore. -/
theorem frame_ri : quiescent_BranchRefIdeal (hBranchRefIdeal := Cert.BranchRefIdeal.Gen.facts) := fun m ρ _ =>
  (θ_run _ _ _).mono (fun r h => And.intro (fun c => (h c).2) (sem_eq_zero_of_no_sems (by decide) r.2))
    (Cert.BranchRefIdeal.Value.run (F := Ideal) m ρ)

end Cert.BranchClaim

end
-- ==== Proof.DconvBlock.lean ====
/- What one point of the kernel `d_conv_out` leaves in its output. -/
module

public import proofs.«01_k».proof.Proof.Gen.DconvBwdIdeal.Value
public import Idealize.ShloMosaic.Lib.Pipeline.Value
public import Idealize.ShloMosaic.Lib.Pipeline.ValueKit
public import Idealize.ShloMosaic.Lib.Pointwise

@[expose] public section

noncomputable section

namespace Cert.DconvBlock

open Cert.DconvBwdIdeal Cert.DconvBwdIdeal.Gen Idealize.ShloMosaic

variable (x0 : FVec Ideal S1x1024x2048 .bf16) (x1 : FVec Ideal S1x1024x2048 .bf16) (i : Fin 1024) (j : Fin 1024)

/-- A point's product of its blocks. -/
def part : EReal := ∑ e : Fin 2048, x0 (ix3 0 i e) * x1 (ix3 0 j e)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S1x1024x2048) inb_S1x1024x2048_S1x1024x2048_0_0_0 x0 (by decide)
  have h1 : View.ld (Val := Elt Ideal) (e' := .bf16) x1 r0_0 = x1 := View.ld_unit_lit (Val := Elt Ideal) (e := .bf16) (S := S1x1024x2048) inb_S1x1024x2048_S1x1024x2048_0_0_0 x1 (by decide)
  exact (congrFun (congr (congrArg (k0_pay1 (F := Ideal)) h0) h1) _).trans (pay1 x0 x1 i j)

end Cert.DconvBlock

end
-- ==== Proof.DconvArray.lean ====
/- The array the kernel `d_conv_out` leaves: the gradient of the convolution branch's output product, in its argument. -/
module

public import proofs.«01_k».proof.Proof.DconvBlock

@[expose] public section

noncomputable section

namespace Cert.DconvArray

open Cert.DconvBwdIdeal Cert.DconvBwdIdeal.Gen Idealize.ShloMosaic Idealize.ShloMosaic.TcCoe Cert.DconvBlock
open Idealize.ShloMosaic.Pipeline (Dat)

/-- The `n`-th summand of the product at row `r` and column `q`. -/
def summand (a : FVec Ideal S3x8192x2048 .bf16) (w : FVec Ideal S1x1024x2048 .bf16) (r : Fin 8192) (q : ℕ) (n : Fin 2048) : EReal :=
  a (ix3 0 r n) * w (ix3 0 (Fin.ofNat 1024 q) n)

variable (m : (ℓ : Loc nD τ sig) → Buf (Elt Ideal) ℓ) (c : Dev nD)

/-- The product's first operand. -/
abbrev arg0 : FVec Ideal S3x8192x2048 .bf16 := m ((c : Thread nD τ).loc main_arg0)
/-- The weights. -/
abbrev arg1 : FVec Ideal S1x1024x2048 .bf16 := m ((c : Thread nD τ).loc main_arg1)

theorem index0 : ∀ t : Fin cfg0.N, win0_0.index t 0 = 0 ∧ win0_0.index t 1 = t.val / 1 ∧ win0_0.index t 2 = 0 := by
  show ∀ t : Fin grid0.N, _; decide +kernel
theorem index1 : ∀ t : Fin cfg0.N, win0_1.index t 0 = 0 ∧ win0_1.index t 1 = t.val % 1 ∧ win0_1.index t 2 = 0 := by
  show ∀ t : Fin grid0.N, _; decide +kernel
theorem index2 : ∀ t : Fin cfg0.N, win0_2.index t 0 = t.val / 1 ∧ win0_2.index t 1 = t.val % 1 := by
  show ∀ t : Fin grid0.N, _; decide +kernel

theorem lt_pts (t : Fin cfg0.N) : t.val < 8 := lt_of_lt_of_eq t.isLt (show cfg0.N = 8 from N_0)

/-- Row `i` of point `t`'s block of the result. -/
def row (t : ℕ) (i : Fin 1024) : Fin 8192 := Fin.ofNat 8192 (1024 * (t / 1) + i.val)
/-- Column `j` of point `t`'s block of the result. -/
def col (t : ℕ) (j : Fin 1024) : ℕ := 1024 * (t % 1) + j.val

theorem iblk0 (t : Fin cfg0.N) (i : Fin 1024) (e : Fin 2048) : iblk m c 0 t (ix3 0 i e) = arg0 m c (ix3 0 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 1 + 1 * 0 = 0; rw [hi.1]
  | ⟨1, _⟩ => show win0_0.index t 1 * 1024 + 1 * i.val = (1024 * (t.val / 1) + i.val) % 8192; rw [hi.2.1]; omega
  | ⟨2, _⟩ => show win0_0.index t 2 * 2048 + 1 * e.val = e.val; rw [hi.2.2]; omega

theorem iblk1 (t : Fin cfg0.N) (e : Fin 2048) (j : Fin 1024) :
    iblk m c 1 t (ix3 0 j e) = (fun w : FVec Ideal S1x1024x2048 .bf16 => fun (q : ℕ) (n : Fin 2048) => w (ix3 0 (Fin.ofNat 1024 q) n)) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = 0; rw [hi.1]
  | ⟨1, _⟩ => show win0_1.index t 1 * 1024 + 1 * j.val = (1024 * (t.val % 1) + j.val) % 1024; rw [hi.2.1]; omega
  | ⟨2, _⟩ => show win0_1.index t 2 * 2048 + 1 * e.val = e.val; rw [hi.2.2]; omega

/-- A point's part in the operands' entries. -/
theorem part_point (t : Fin cfg0.N) (i : Fin 1024) (j : Fin 1024) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S8192x1024.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 1024) (j : Fin 1024), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (1024 * (t.val / 1) + i.val) % 8192 = win0_2.index t 0 * 1024 + 1 * i.val
    rw [hi.1]; omega
  · show 1024 * (t.val % 1) + j.val = win0_2.index t 1 * 1024 + 1 * j.val
    rw [hi.2]; omega

end Cert.DconvArray

end
-- ==== Proof.DconvClaim.lean ====
/- The kernel `d_conv_out`: what its reference computes, at an index, and the claims. -/
module

public import proofs.«01_k».proof.Defs
public import proofs.«01_k».proof.Proof.DconvArray
public import proofs.«01_k».proof.Proof.Gen.DconvBwd
public import proofs.«01_k».proof.Proof.Gen.DconvBwd.Frame
public import proofs.«01_k».proof.Proof.Gen.DconvGradIdeal.Read

@[expose] public section

noncomputable section

namespace Cert.DconvClaim

open Idealize.ShloMosaic Idealize.SL.Sem Cert.DconvArray Cert.DconvGradIdeal Cert.DconvGradIdeal.Read

/-- The reference's result is the sum over the columns. -/
theorem ref (x0 : FVec Ideal S3x8192x2048 .bf16) (x1 : FVec Ideal S1x1024x2048 .bf16) (y : S8192x1024.Idx) :
    val_main_v13 (F := Ideal) x0 x1 y = ∑ n, summand x0 x1 (y 0) (y 1).val n := by
  refine (val_main_v13_apply ..).trans ((val_main_v10_apply ..).trans (Finset.sum_congr rfl fun n _ => ?_))
  rw [val_main_v5_apply, val_main_v4_apply, val_main_v7_apply, val_main_v1_apply, val_main_v0_apply]
  show _ = x0 (ix3 0 (y 0) n) * x1 (ix3 0 (Fin.ofNat 1024 (y 1).val) n)
  have h0 : (y 1).val < 1024 := (y 1).isLt
  have h1 := n.isLt
  have h2 : (y 0).val < 8192 := (y 0).isLt
  refine congr (congrArg HMul.hMul (congrArg x0 (funext fun a => Fin.ext ?_))) (congrArg x1 (funext fun a => Fin.ext ?_))
  · match a with
    | ⟨0, _⟩ => rfl
    | ⟨1, _⟩ => show ((y 0).val * 2048 + n.val) / 2048 % 8192 = (y 0).val; omega
    | ⟨2, _⟩ => show ((y 0).val * 2048 + n.val) % 2048 = n.val; omega
  · match a with
    | ⟨0, _⟩ => rfl
    | ⟨1, _⟩ => show ((y 1).val * 2048 + n.val) / 2048 = (y 1).val % 1024; omega
    | ⟨2, _⟩ => show ((y 1).val * 2048 + n.val) % 2048 = n.val; omega

/-- The kernel's result is the reference's. -/
theorem algebraic : algebraic_DconvBwdIdeal_DconvGradIdeal (hDconvBwdIdeal := Cert.DconvBwdIdeal.Gen.facts)
    (hDconvGradIdeal := Cert.DconvGradIdeal.Gen.facts) := by
  intro m ρ m' ρ' _ hagree
  refine ⟨fun c => (Cert.DconvBwdIdeal.Gen.dats m 0 c).arrAt 2 Cert.DconvBwdIdeal.cfg0.N, Cert.DconvBwdIdeal.Value.run_blocks m ρ, ?_⟩
  refine (θ_run _ _ _).mono (fun r h c => ?_) (Cert.DconvGradIdeal.Value.run (F := Ideal) m' ρ')
  obtain ⟨hv, hargs⟩ := h c
  obtain ⟨a0, a1⟩ := hagree c
  refine ⟨hv.trans ?_, hargs⟩
  rw [val_main_v13_eq, a0, a1]
  exact Eq.trans (funext fun y => ref (arg0 m c) (arg1 m c) y) (array m c).symm

theorem frame_p : quiescent_DconvBwd (hDconvBwd := Cert.DconvBwd.Gen.facts) := fun m ρ _ => Cert.DconvBwd.Gen.frame m ρ

theorem frame_pi : quiescent_DconvBwdIdeal (hDconvBwdIdeal := Cert.DconvBwdIdeal.Gen.facts) := fun m ρ _ => Cert.DconvBwdIdeal.Gen.frame m ρ

/-- The reference runs to its end and leaves its arguments; it declares no semaphore. -/
theorem frame_ri : quiescent_DconvGradIdeal (hDconvGradIdeal := Cert.DconvGradIdeal.Gen.facts) := fun m ρ _ =>
  (θ_run _ _ _).mono (fun r h => And.intro (fun c => (h c).2) (sem_eq_zero_of_no_sems (by decide) r.2))
    (Cert.DconvGradIdeal.Value.run (F := Ideal) m ρ)

end Cert.DconvClaim

end
-- ==== Proof.GconvBlock.lean ====
/- What one point of the kernel `g_w_conv_out` leaves in its accumulator and in its output. -/
module

public import proofs.«01_k».proof.Proof.Gen.GconvBwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.GconvBlock

open Cert.GconvBwdIdeal Cert.GconvBwdIdeal.Gen Idealize.ShloMosaic Idealize.ShloMosaic.Tactic

/-- The part of the result at `(i, j)` one point adds: its rows of the one operand against those of the other. -/
def part (x0 : FVec Ideal S2048x1024 .bf16) (x1 : FVec Ideal S1x2048x1024 .bf16) (i : Fin 1024) (j : Fin 1024) : EReal :=
  ∑ e : Fin 2048, x0 (ix2 e i) * x1 (ix3 0 e j)

variable (x0 : FVec Ideal S2048x1024 .bf16) (x1 : FVec Ideal S1x2048x1024 .bf16) (acc : FVec Ideal S1024x1024 .f32) (i : Fin 1024) (j : Fin 1024)

/-- A point's product. -/
theorem pay1 : k0_pay1 (F := Ideal) x0 x1 (ix2 i j) = part x0 x1 i j := by
  unfold part
  pointwise [k0_pay1]

/-- The first store keeps the product. -/
theorem pay2 : k0_pay2 (F := Ideal) x0 x1 (ix2 i j) = part x0 x1 i j := by
  rw [← pay1]
  unfold k0_pay2
  generalize k0_pay1 (F := Ideal) x0 x1 = P
  pointwise []

/-- The later stores add it. -/
theorem pay3 : k0_pay3 (F := Ideal) x0 x1 acc (ix2 i j) = acc (ix2 i j) + part x0 x1 i j := by
  rw [← pay1]
  unfold k0_pay3
  generalize k0_pay1 (F := Ideal) x0 x1 = P
  pointwise []

theorem pay4 : k0_pay4 (F := Ideal) x0 x1 acc (ix3 0 i j) = acc (ix2 i j) + part x0 x1 i j := by
  rw [← pay1]
  unfold k0_pay4
  generalize k0_pay1 (F := Ideal) x0 x1 = P
  pointwise []

variable (c : Dev nD) (t : grid0.Coords) (arg3 : Memref sig .tc .vmem S2048x1024 .bf16) (harg3 : arg3.IsWhole)
  (arg4 : Memref sig .tc .vmem S1x2048x1024 .bf16) (harg4 : arg4.IsWhole) (arg5 : Memref sig .tc .vmem S1x1024x1024 .bf16) (harg5 : arg5.IsWhole)
  (arg6 : Memref sig .tc .vmem S1024x1024 .f32) (harg6 : arg6.IsWhole)

/-- The blocks as loaded are the blocks. -/
theorem part_loads (inb0 inb1) :
    part (View.readAt (Elt Ideal) arg3.view (Rect.unit (s := S2048x1024) ![0, 0] S2048x1024.size inb0).toLoadRect (harg3.unread x0))
      (View.readAt (Elt Ideal) arg4.view (Rect.unit (s := S1x2048x1024) ![0, 0, 0] S1x2048x1024.size inb1).toLoadRect (harg4.unread x1)) i j
      = part x0 x1 i j :=
  Finset.sum_congr rfl fun e _ => congr (congrArg HMul.hMul (Cert.Loads.all arg3 harg3 x0 inb0 e i)) (Cert.Loads.slot arg4 harg4 x1 0 (by decide) inb1 e j)

/-- The first point of a run starts the accumulator at its part. -/
theorem sout_A (hc0 : cond0_0 t) (hc1 : ¬cond0_1 t) (hc2 : ¬cond0_2 t) :
    sout0_A_0 (F := Ideal) c t arg3 harg3 arg4 harg4 arg5 harg5 arg6 harg6 hc0 hc1 hc2 x0 x1 (ix2 i j) = part x0 x1 i j := by
  unfold sout0_A_0 kernelRun0_A
  dsimp only
  sl_unfold_run_names
  refine (congrFun (View.read_writes_full (Val := Elt Ideal) _ _ _ _ _) _).trans ?_
  exact (pay2 ..).trans (part_loads ..)

/-- A later point adds its part to the accumulator. -/
theorem sout_B (hc0 : ¬cond0_0 t) (hc1 : cond0_1 t) (hc2 : ¬cond0_2 t) :
    sout0_B_0 (F := Ideal) c t arg3 harg3 arg4 harg4 arg5 harg5 arg6 harg6 hc0 hc1 hc2 x0 x1 acc (ix2 i j) = acc (ix2 i j) + part x0 x1 i j := by
  unfold sout0_B_0 kernelRun0_B
  dsimp only
  sl_unfold_run_names
  refine (congrFun (View.read_writes_full (Val := Elt Ideal) _ _ _ _ _) _).trans ?_
  exact (pay3 ..).trans (congr (congrArg HAdd.hAdd (Cert.Loads.all arg6 harg6 acc _ i j)) (part_loads ..))

/-- The last point of a run stores the accumulator with its part. -/
theorem out_C (hc0 : ¬cond0_0 t) (hc1 : ¬cond0_1 t) (hc2 : cond0_2 t) :
    out0_C_2 (F := Ideal) c t arg3 harg3 arg4 harg4 arg5 harg5 arg6 harg6 hc0 hc1 hc2 x0 x1 acc (ix3 0 i j) = acc (ix2 i j) + part x0 x1 i j := by
  unfold out0_C_2 kernelRun0_C
  dsimp only
  sl_unfold_run_names
  refine (congrFun (View.read_writes_full (Val := Elt Ideal) _ _ _ _ _) _).trans ?_
  exact (pay4 ..).trans (congr (congrArg HAdd.hAdd (Cert.Loads.all arg6 harg6 acc _ i j)) (part_loads ..))

end Cert.GconvBlock

end
-- ==== Proof.GconvArray.lean ====
/- The array the kernel `g_w_conv_out` leaves: the gradient of the convolution branch's output weights. -/
module

public import proofs.«01_k».proof.Proof.GconvBlock
public import proofs.«01_k».proof.Proof.Sums
public import Idealize.ShloMosaic.Lib.Pipeline.Value
public import Idealize.ShloMosaic.Lib.Pipeline.ValueKit

@[expose] public section

noncomputable section

namespace Cert.GconvArray

open Cert.GconvBwdIdeal Cert.GconvBwdIdeal.Gen Idealize.ShloMosaic Idealize.ShloMosaic.TcCoe Cert.GconvBlock
open Idealize.ShloMosaic.Pipeline (Dat)

/-- Token `n`'s summand of the result at row `r` and column `q` of all columns. -/
def summand (a : FVec Ideal S8192x1024 .bf16) (b : FVec Ideal S3x8192x2048 .bf16) (r : Fin 1024) (q : ℕ) (n : Fin 8192) : EReal :=
  a (ix2 n r) * b (ix3 0 n (Fin.ofNat 2048 q))

variable (m : (ℓ : Loc nD τ sig) → Buf (Elt Ideal) ℓ) (c : Dev nD)

/-- The product's first operand. -/
abbrev arg0 : FVec Ideal S8192x1024 .bf16 := m ((c : Thread nD τ).loc main_arg0)
/-- The gradient of the product. -/
abbrev arg1 : FVec Ideal S3x8192x2048 .bf16 := m ((c : Thread nD τ).loc main_arg1)

theorem index0 : ∀ t : Fin cfg0.N, win0_0.index t 0 = t.val % 4 ∧ win0_0.index t 1 = t.val / 8 := by
  show ∀ t : Fin grid0.N, _; decide +kernel
theorem index1 : ∀ t : Fin cfg0.N, win0_1.index t 0 = 0 ∧ win0_1.index t 1 = t.val % 4 ∧ win0_1.index t 2 = t.val / 4 % 2 := by
  show ∀ t : Fin grid0.N, _; decide +kernel
theorem index2 : ∀ t : Fin cfg0.N, win0_2.index t 0 = t.val / 4 % 2 / 2 ∧ win0_2.index t 1 = t.val / 8 ∧ win0_2.index t 2 = t.val / 4 % 2 % 2 := by
  show ∀ t : Fin grid0.N, _; decide +kernel

theorem lt_pts (t : Fin cfg0.N) : t.val < 8 := lt_of_lt_of_eq t.isLt (show cfg0.N = 8 from N_0)

/-- Row `i` of point `t`'s block of the result. -/
def row (t : ℕ) (i : Fin 1024) : Fin 1024 := Fin.ofNat 1024 (1024 * (t / 8) + i.val)
/-- Column `j` of point `t`'s block of the result, of all columns. -/
def col (t : ℕ) (j : Fin 1024) : ℕ := 1024 * (t / 4 % 2) + j.val

theorem iblk0 (t : Fin cfg0.N) (e : Fin 2048) (i : Fin 1024) :
    iblk m c 0 t (ix2 e i) = arg0 m c (ix2 (Fin.ofNat 8192 (2048 * (t.val % 4) + e.val)) (row t.val i)) := by
  have hi := index0 t
  have ht := lt_pts t
  refine (congrFun (V_main_arg0 m c) _).trans (congrArg (m _) (funext fun a => Fin.ext ?_))
  have h1 := i.isLt
  have h2 := e.isLt
  match a with
  | ⟨0, _⟩ => show win0_0.index t 0 * 2048 + 1 * e.val = (2048 * (t.val % 4) + e.val) % 8192; rw [hi.1]; omega
  | ⟨1, _⟩ => show win0_0.index t 1 * 1024 + 1 * i.val = (1024 * (t.val / 8) + i.val) % 1024; rw [hi.2]; omega

theorem iblk1 (t : Fin cfg0.N) (e : Fin 2048) (j : Fin 1024) :
    iblk m c 1 t (ix3 0 e j) = (fun b : FVec Ideal S3x8192x2048 .bf16 => fun (n : Fin 8192) (q : ℕ) => b (ix3 0 n (Fin.ofNat 2048 q))) (arg1 m c)
      (Fin.ofNat 8192 (2048 * (t.val % 4) + e.val)) (col t.val j) := by
  have hi := index1 t
  have ht := lt_pts t
  refine (congrFun (V_main_arg1 m c) _).trans (congrArg (m _) (funext fun a => Fin.ext ?_))
  have h1 := j.isLt
  have h2 := e.isLt
  match a with
  | ⟨0, _⟩ => show win0_1.index t 0 * 1 + 1 * 0 = 0; rw [hi.1]
  | ⟨1, _⟩ => show win0_1.index t 1 * 2048 + 1 * e.val = (2048 * (t.val % 4) + e.val) % 8192; rw [hi.2.1]; omega
  | ⟨2, _⟩ => show win0_1.index t 2 * 1024 + 1 * j.val = (1024 * (t.val / 4 % 2) + j.val) % 2048; rw [hi.2.2]; omega

/-- The part of the result the `k`-th block of tokens gives. -/
def tokens (r : Fin 1024) (q : ℕ) (k : ℕ) : EReal :=
  ∑ e : Fin 2048, summand (arg0 m c) (arg1 m c) r q (Fin.ofNat 8192 (2048 * k + e.val))

/-- A point adds its block of tokens. -/
theorem part_point (t : Fin cfg0.N) (i : Fin 1024) (j : Fin 1024) :
    part (iblk m c 0 t) (iblk m c 1 t) i j = tokens m c (row t.val i) (col t.val j) (t.val % 4) :=
  Finset.sum_congr rfl fun e _ => congr (congrArg HMul.hMul (iblk0 m c t e i)) (iblk1 m c t e j)

/-- The first point of a run leaves its part in the accumulator. -/
theorem outs_A (t : Fin cfg0.N) (h0 : t.val % 4 = 0) (i : Fin 1024) (j : Fin 1024) :
    (outsAt0 m c t.val t.isLt).2 (ix2 i j) = part (iblk m c 0 t) (iblk m c 1 t) i j := by
  rw [outsAt0_A m c t h0 (by omega) (by omega)]
  dsimp only
  exact sout_A ..

/-- A later point adds its part to the accumulator. -/
theorem outs_B (t : Fin cfg0.N) (h0 : ¬t.val % 4 = 0) (h3 : t.val % 4 ≠ 3) (i : Fin 1024) (j : Fin 1024) :
    (outsAt0 m c t.val t.isLt).2 (ix2 i j) = (outsAt0 m c (t.val - 1) (lt_of_le_of_lt (Nat.sub_le _ _) t.isLt)).2 (ix2 i j) + part (iblk m c 0 t) (iblk m c 1 t) i j := by
  rw [outsAt0_B m c t h0 (by omega) (by omega)]
  dsimp only
  exact sout_B ..

/-- The last point of a run adds its part and stores the sum. -/
theorem outs_C (t : Fin cfg0.N) (h3 : t.val % 4 = 3) (i : Fin 1024) (j : Fin 1024) :
    (outsAt0 m c t.val t.isLt).1 (ix3 0 i j) = (outsAt0 m c (t.val - 1) (lt_of_le_of_lt (Nat.sub_le _ _) t.isLt)).2 (ix2 i j) + part (iblk m c 0 t) (iblk m c 1 t) i j := by
  rw [outsAt0_C m c t (by omega) (by omega) h3]
  dsimp only
  exact out_C ..

/-- Before the last point of a run the accumulator holds the blocks of tokens so far. -/
theorem outs_acc (i : Fin 1024) (j : Fin 1024) : ∀ (n : ℕ) (h : n < cfg0.N), n % 4 ≠ 3 →
    (outsAt0 m c n h).2 (ix2 i j) = ∑ k ∈ Finset.range (n % 4 + 1), tokens m c (row n i) (col n j) k := by
  intro n
  induction n with
  | zero =>
    intro h h3
    refine (outs_A m c ⟨0, h⟩ rfl i j).trans ((part_point m c ⟨0, h⟩ i j).trans ?_)
    rw [Finset.sum_range_succ, Finset.sum_range_zero, zero_add]
  | succ n ih =>
    intro h h3
    by_cases h0 : (n + 1) % 4 = 0
    · refine (outs_A m c ⟨n + 1, h⟩ h0 i j).trans ((part_point m c ⟨n + 1, h⟩ i j).trans ?_)
      dsimp only
      rw [h0, Finset.sum_range_succ, Finset.sum_range_zero, zero_add]
    · refine (outs_B m c ⟨n + 1, h⟩ h0 h3 i j).trans ?_
      refine (congr (congrArg HAdd.hAdd (ih (Nat.lt_of_succ_lt h) (by omega))) (part_point m c ⟨n + 1, h⟩ i j)).trans ?_
      dsimp only
      rw [show row n i = row (n + 1) i by unfold row; congr 3; omega,
        show col n j = col (n + 1) j by unfold col; congr 3; omega, show (n + 1) % 4 = n % 4 + 1 by omega,
        Finset.sum_range_succ _ (n % 4 + 1)]

/-- THE RESULT: every entry is the sum over the tokens. -/
theorem array : (dats m 0 c).arrAt 2 cfg0.N = fun y : S1x1024x2048.Idx => ∑ n, summand (arg0 m c) (arg1 m c) (y 1) (2048 * (y 0).val + (y 2).val) n := by
  refine (dats m 0 c).arrAt_eq_of_covers 2 _ (by decide +kernel) fun t hf y => ?_
  show (dats m 0 c).after 2 t y = _
  have h3 : t.val % 4 = 3 := (flush0_2 t).mp hf
  have hi := index2 t
  have ht := lt_pts t
  obtain ⟨z, i, j, rfl⟩ : ∃ (z : Fin 1) (i : Fin 1024) (j : Fin 1024), y = ix3 z i j := ⟨y 0, y 1, y 2, eq_ix3 y⟩
  obtain rfl : z = 0 := Subsingleton.elim _ _
  rw [after0_2]
  refine (outs_C m c t h3 i j).trans ?_
  have h1 := i.isLt
  have h2 := j.isLt
  rw [part_point m c t i j, outs_acc m c i j _ _ (by omega), show row (t.val - 1) i = row t.val i by unfold row; congr 3; omega,
    show col (t.val - 1) j = col t.val j by unfold col; congr 3; omega, show (t.val - 1) % 4 + 1 = 3 by omega, h3,
    ← Finset.sum_range_succ]
  refine (Cert.Sums.blocks 4 2048 8192 rfl (summand (arg0 m c) (arg1 m c) (row t.val i) (col t.val j))).trans ?_
  refine Finset.sum_congr rfl fun n _ => congrFun (congr (congrArg (summand (arg0 m c) (arg1 m c)) (Fin.ext ?_)) ?_) n
  · show (1024 * (t.val / 8) + i.val) % 1024 = win0_2.index t 1 * 1024 + 1 * i.val
    rw [hi.2.1]; omega
  · show 1024 * (t.val / 4 % 2) + j.val = 2048 * (win0_2.index t 0 * 1 + 1 * 0) + (win0_2.index t 2 * 1024 + 1 * j.val)
    rw [hi.1, hi.2.2]; omega

end Cert.GconvArray

end
-- ==== Proof.GconvClaim.lean ====
/- The kernel `g_w_conv_out`: what its reference computes, at an index, and the claims. -/
module

public import proofs.«01_k».proof.Defs
public import proofs.«01_k».proof.Proof.GconvArray
public import proofs.«01_k».proof.Proof.Gen.GconvBwd
public import proofs.«01_k».proof.Proof.Gen.GconvBwd.Frame
public import proofs.«01_k».proof.Proof.Gen.GconvGradIdeal.Read

@[expose] public section

noncomputable section

namespace Cert.GconvClaim

open Idealize.ShloMosaic Idealize.SL.Sem Cert.GconvArray Cert.GconvGradIdeal Cert.GconvGradIdeal.Read

/-- The reference's result is the sum over the tokens. -/
theorem ref (x0 : FVec Ideal S8192x1024 .bf16) (x1 : FVec Ideal S3x8192x2048 .bf16) (y : S1x1024x2048.Idx) :
    val_main_v13 (F := Ideal) x0 x1 y = ∑ n, summand x0 x1 (y 1) (2048 * (y 0).val + (y 2).val) n := by
  refine (val_main_v13_apply ..).trans ((val_main_v12_apply ..).trans ((val_main_v11_apply ..).trans ((val_main_v9_apply ..).trans
    ((val_main_v8_apply ..).trans (Finset.sum_congr rfl fun n _ => (mul_comm _ _).trans ?_)))))
  rw [val_main_v7_apply, val_main_v1_apply, val_main_v0_apply]
  have h0 : (y 0).val < 1 := (y 0).isLt
  have h1 : (y 1).val < 1024 := (y 1).isLt
  have h2 : (y 2).val < 2048 := (y 2).isLt
  have h3 := n.isLt
  show _ = x0 (ix2 n (y 1)) * x1 (ix3 0 n (Fin.ofNat 2048 (2048 * (y 0).val + (y 2).val)))
  refine congr (congrArg HMul.hMul (congrArg x0 (funext fun a => Fin.ext ?_))) (congrArg x1 (funext fun a => Fin.ext ?_))
  · match a with
    | ⟨0, _⟩ => rfl
    | ⟨1, _⟩ => show (((y 1).val * 1 + (y 0).val) * 2048 + (y 2).val) / 2048 = (y 1).val; omega
  · match a with
    | ⟨0, _⟩ => rfl
    | ⟨1, _⟩ => show (n.val * 2048 + (((y 1).val * 1 + (y 0).val) * 2048 + (y 2).val) % 2048) / 2048 % 8192 = n.val; omega
    | ⟨2, _⟩ => show (n.val * 2048 + (((y 1).val * 1 + (y 0).val) * 2048 + (y 2).val) % 2048) % 2048 = (2048 * (y 0).val + (y 2).val) % 2048; omega

/-- The kernel's result is the reference's. -/
theorem algebraic : algebraic_GconvBwdIdeal_GconvGradIdeal (hGconvBwdIdeal := Cert.GconvBwdIdeal.Gen.facts)
    (hGconvGradIdeal := Cert.GconvGradIdeal.Gen.facts) := by
  intro m ρ m' ρ' _ hagree
  refine ⟨fun c => (Cert.GconvBwdIdeal.Gen.dats m 0 c).arrAt 2 Cert.GconvBwdIdeal.cfg0.N, Cert.GconvBwdIdeal.Value.run_blocks m ρ, ?_⟩
  refine (θ_run _ _ _).mono (fun r h c => ?_) (Cert.GconvGradIdeal.Value.run (F := Ideal) m' ρ')
  obtain ⟨hv, hargs⟩ := h c
  obtain ⟨a0, a1⟩ := hagree c
  refine ⟨hv.trans ?_, hargs⟩
  rw [val_main_v13_eq, a0, a1]
  exact Eq.trans (funext fun y => ref (arg0 m c) (arg1 m c) y) (array m c).symm

theorem frame_p : quiescent_GconvBwd (hGconvBwd := Cert.GconvBwd.Gen.facts) := fun m ρ _ => Cert.GconvBwd.Gen.frame m ρ

theorem frame_pi : quiescent_GconvBwdIdeal (hGconvBwdIdeal := Cert.GconvBwdIdeal.Gen.facts) := fun m ρ _ => Cert.GconvBwdIdeal.Gen.frame m ρ

/-- The reference runs to its end and leaves its arguments; it declares no semaphore. -/
theorem frame_ri : quiescent_GconvGradIdeal (hGconvGradIdeal := Cert.GconvGradIdeal.Gen.facts) := fun m ρ _ =>
  (θ_run _ _ _).mono (fun r h => And.intro (fun c => (h c).2) (sem_eq_zero_of_no_sems (by decide) r.2))
    (Cert.GconvGradIdeal.Value.run (F := Ideal) m ρ)

end Cert.GconvClaim

end
-- ==== Proof.DattnBlock.lean ====
/- What one point of the kernel `d_attn_out` leaves in its output. -/
module

public import proofs.«01_k».proof.Proof.Gen.DattnBwdIdeal.Value
public import Idealize.ShloMosaic.Lib.Pipeline.Value
public import Idealize.ShloMosaic.Lib.Pipeline.ValueKit
public import Idealize.ShloMosaic.Lib.Pointwise

@[expose] public section

noncomputable section

namespace Cert.DattnBlock

open Cert.DattnBwdIdeal Cert.DattnBwdIdeal.Gen Idealize.ShloMosaic

variable (x0 : FVec Ideal S1x1024x2048 .bf16) (x1 : FVec Ideal S1x1024x2048 .bf16) (i : Fin 1024) (j : Fin 1024)

/-- A point's product of its blocks. -/
def part : EReal := ∑ e : Fin 2048, x0 (ix3 0 i e) * x1 (ix3 0 j e)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S1x1024x2048) inb_S1x1024x2048_S1x1024x2048_0_0_0 x0 (by decide)
  have h1 : View.ld (Val := Elt Ideal) (e' := .bf16) x1 r0_0 = x1 := View.ld_unit_lit (Val := Elt Ideal) (e := .bf16) (S := S1x1024x2048) inb_S1x1024x2048_S1x1024x2048_0_0_0 x1 (by decide)
  exact (congrFun (congr (congrArg (k0_pay1 (F := Ideal)) h0) h1) _).trans (pay1 x0 x1 i j)

end Cert.DattnBlock

end
-- ==== Proof.DattnArray.lean ====
/- The array the kernel `d_attn_out` leaves: the gradient of the attention branch's output product, in its argument. -/
module

public import proofs.«01_k».proof.Proof.DattnBlock

@[expose] public section

noncomputable section

namespace Cert.DattnArray

open Cert.DattnBwdIdeal Cert.DattnBwdIdeal.Gen Idealize.ShloMosaic Idealize.ShloMosaic.TcCoe Cert.DattnBlock
open Idealize.ShloMosaic.Pipeline (Dat)

/-- The `n`-th summand of the product at row `r` and column `q`. -/
def summand (a : FVec Ideal S3x8192x2048 .bf16) (w : FVec Ideal S1x1024x2048 .bf16) (r : Fin 8192) (q : ℕ) (n : Fin 2048) : EReal :=
  a (ix3 1 r n) * w (ix3 0 (Fin.ofNat 1024 q) n)

variable (m : (ℓ : Loc nD τ sig) → Buf (Elt Ideal) ℓ) (c : Dev nD)

/-- The product's first operand. -/
abbrev arg0 : FVec Ideal S3x8192x2048 .bf16 := m ((c : Thread nD τ).loc main_arg0)
/-- The weights. -/
abbrev arg1 : FVec Ideal S1x1024x2048 .bf16 := m ((c : Thread nD τ).loc main_arg1)

theorem index0 : ∀ t : Fin cfg0.N, win0_0.index t 0 = 1 ∧ win0_0.index t 1 = t.val / 1 ∧ win0_0.index t 2 = 0 := by
  show ∀ t : Fin grid0.N, _; decide +kernel
theorem index1 : ∀ t : Fin cfg0.N, win0_1.index t 0 = 0 ∧ win0_1.index t 1 = t.val % 1 ∧ win0_1.index t 2 = 0 := by
  show ∀ t : Fin grid0.N, _; decide +kernel
theorem index2 : ∀ t : Fin cfg0.N, win0_2.index t 0 = t.val / 1 ∧ win0_2.index t 1 = t.val % 1 := by
  show ∀ t : Fin grid0.N, _; decide +kernel

theorem lt_pts (t : Fin cfg0.N) : t.val < 8 := lt_of_lt_of_eq t.isLt (show cfg0.N = 8 from N_0)

/-- Row `i` of point `t`'s block of the result. -/
def row (t : ℕ) (i : Fin 1024) : Fin 8192 := Fin.ofNat 8192 (1024 * (t / 1) + i.val)
/-- Column `j` of point `t`'s block of the result. -/
def col (t : ℕ) (j : Fin 1024) : ℕ := 1024 * (t % 1) + j.val

theorem iblk0 (t : Fin cfg0.N) (i : Fin 1024) (e : Fin 2048) : iblk m c 0 t (ix3 0 i e) = arg0 m c (ix3 1 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 1 + 1 * 0 = 1; rw [hi.1]
  | ⟨1, _⟩ => show win0_0.index t 1 * 1024 + 1 * i.val = (1024 * (t.val / 1) + i.val) % 8192; rw [hi.2.1]; omega
  | ⟨2, _⟩ => show win0_0.index t 2 * 2048 + 1 * e.val = e.val; rw [hi.2.2]; omega

theorem iblk1 (t : Fin cfg0.N) (e : Fin 2048) (j : Fin 1024) :
    iblk m c 1 t (ix3 0 j e) = (fun w : FVec Ideal S1x1024x2048 .bf16 => fun (q : ℕ) (n : Fin 2048) => w (ix3 0 (Fin.ofNat 1024 q) n)) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = 0; rw [hi.1]
  | ⟨1, _⟩ => show win0_1.index t 1 * 1024 + 1 * j.val = (1024 * (t.val % 1) + j.val) % 1024; rw [hi.2.1]; omega
  | ⟨2, _⟩ => show win0_1.index t 2 * 2048 + 1 * e.val = e.val; rw [hi.2.2]; omega

/-- A point's part in the operands' entries. -/
theorem part_point (t : Fin cfg0.N) (i : Fin 1024) (j : Fin 1024) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S8192x1024.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 1024) (j : Fin 1024), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (1024 * (t.val / 1) + i.val) % 8192 = win0_2.index t 0 * 1024 + 1 * i.val
    rw [hi.1]; omega
  · show 1024 * (t.val % 1) + j.val = win0_2.index t 1 * 1024 + 1 * j.val
    rw [hi.2]; omega

end Cert.DattnArray

end
-- ==== Proof.DattnClaim.lean ====
/- The kernel `d_attn_out`: what its reference computes, at an index, and the claims. -/
module

public import proofs.«01_k».proof.Defs
public import proofs.«01_k».proof.Proof.DattnArray
public import proofs.«01_k».proof.Proof.Gen.DattnBwd
public import proofs.«01_k».proof.Proof.Gen.DattnBwd.Frame
public import proofs.«01_k».proof.Proof.Gen.DattnGradIdeal.Read

@[expose] public section

noncomputable section

namespace Cert.DattnClaim

open Idealize.ShloMosaic Idealize.SL.Sem Cert.DattnArray Cert.DattnGradIdeal Cert.DattnGradIdeal.Read

/-- The reference's result is the sum over the columns. -/
theorem ref (x0 : FVec Ideal S3x8192x2048 .bf16) (x1 : FVec Ideal S1x1024x2048 .bf16) (y : S8192x1024.Idx) :
    val_main_v13 (F := Ideal) x0 x1 y = ∑ n, summand x0 x1 (y 0) (y 1).val n := by
  refine (val_main_v13_apply ..).trans ((val_main_v10_apply ..).trans (Finset.sum_congr rfl fun n _ => ?_))
  rw [val_main_v5_apply, val_main_v4_apply, val_main_v7_apply, val_main_v1_apply, val_main_v0_apply]
  show _ = x0 (ix3 1 (y 0) n) * x1 (ix3 0 (Fin.ofNat 1024 (y 1).val) n)
  have h0 : (y 1).val < 1024 := (y 1).isLt
  have h1 := n.isLt
  have h2 : (y 0).val < 8192 := (y 0).isLt
  refine congr (congrArg HMul.hMul (congrArg x0 (funext fun a => Fin.ext ?_))) (congrArg x1 (funext fun a => Fin.ext ?_))
  · match a with
    | ⟨0, _⟩ => rfl
    | ⟨1, _⟩ => show ((y 0).val * 2048 + n.val) / 2048 % 8192 = (y 0).val; omega
    | ⟨2, _⟩ => show ((y 0).val * 2048 + n.val) % 2048 = n.val; omega
  · match a with
    | ⟨0, _⟩ => rfl
    | ⟨1, _⟩ => show ((y 1).val * 2048 + n.val) / 2048 = (y 1).val % 1024; omega
    | ⟨2, _⟩ => show ((y 1).val * 2048 + n.val) % 2048 = n.val; omega

/-- The kernel's result is the reference's. -/
theorem algebraic : algebraic_DattnBwdIdeal_DattnGradIdeal (hDattnBwdIdeal := Cert.DattnBwdIdeal.Gen.facts)
    (hDattnGradIdeal := Cert.DattnGradIdeal.Gen.facts) := by
  intro m ρ m' ρ' _ hagree
  refine ⟨fun c => (Cert.DattnBwdIdeal.Gen.dats m 0 c).arrAt 2 Cert.DattnBwdIdeal.cfg0.N, Cert.DattnBwdIdeal.Value.run_blocks m ρ, ?_⟩
  refine (θ_run _ _ _).mono (fun r h c => ?_) (Cert.DattnGradIdeal.Value.run (F := Ideal) m' ρ')
  obtain ⟨hv, hargs⟩ := h c
  obtain ⟨a0, a1⟩ := hagree c
  refine ⟨hv.trans ?_, hargs⟩
  rw [val_main_v13_eq, a0, a1]
  exact Eq.trans (funext fun y => ref (arg0 m c) (arg1 m c) y) (array m c).symm

theorem frame_p : quiescent_DattnBwd (hDattnBwd := Cert.DattnBwd.Gen.facts) := fun m ρ _ => Cert.DattnBwd.Gen.frame m ρ

theorem frame_pi : quiescent_DattnBwdIdeal (hDattnBwdIdeal := Cert.DattnBwdIdeal.Gen.facts) := fun m ρ _ => Cert.DattnBwdIdeal.Gen.frame m ρ

/-- The reference runs to its end and leaves its arguments; it declares no semaphore. -/
theorem frame_ri : quiescent_DattnGradIdeal (hDattnGradIdeal := Cert.DattnGradIdeal.Gen.facts) := fun m ρ _ =>
  (θ_run _ _ _).mono (fun r h => And.intro (fun c => (h c).2) (sem_eq_zero_of_no_sems (by decide) r.2))
    (Cert.DattnGradIdeal.Value.run (F := Ideal) m ρ)

end Cert.DattnClaim

end
-- ==== Proof.GattnBlock.lean ====
/- What one point of the kernel `g_w_attn_out` leaves in its accumulator and in its output. -/
module

public import proofs.«01_k».proof.Proof.Gen.GattnBwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.GattnBlock

open Cert.GattnBwdIdeal Cert.GattnBwdIdeal.Gen Idealize.ShloMosaic Idealize.ShloMosaic.Tactic

/-- The part of the result at `(i, j)` one point adds: its rows of the one operand against those of the other. -/
def part (x0 : FVec Ideal S2048x1024 .bf16) (x1 : FVec Ideal S1x2048x1024 .bf16) (i : Fin 1024) (j : Fin 1024) : EReal :=
  ∑ e : Fin 2048, x0 (ix2 e i) * x1 (ix3 0 e j)

variable (x0 : FVec Ideal S2048x1024 .bf16) (x1 : FVec Ideal S1x2048x1024 .bf16) (acc : FVec Ideal S1024x1024 .f32) (i : Fin 1024) (j : Fin 1024)

/-- A point's product. -/
theorem pay1 : k0_pay1 (F := Ideal) x0 x1 (ix2 i j) = part x0 x1 i j := by
  unfold part
  pointwise [k0_pay1]

/-- The first store keeps the product. -/
theorem pay2 : k0_pay2 (F := Ideal) x0 x1 (ix2 i j) = part x0 x1 i j := by
  rw [← pay1]
  unfold k0_pay2
  generalize k0_pay1 (F := Ideal) x0 x1 = P
  pointwise []

/-- The later stores add it. -/
theorem pay3 : k0_pay3 (F := Ideal) x0 x1 acc (ix2 i j) = acc (ix2 i j) + part x0 x1 i j := by
  rw [← pay1]
  unfold k0_pay3
  generalize k0_pay1 (F := Ideal) x0 x1 = P
  pointwise []

theorem pay4 : k0_pay4 (F := Ideal) x0 x1 acc (ix3 0 i j) = acc (ix2 i j) + part x0 x1 i j := by
  rw [← pay1]
  unfold k0_pay4
  generalize k0_pay1 (F := Ideal) x0 x1 = P
  pointwise []

variable (c : Dev nD) (t : grid0.Coords) (arg3 : Memref sig .tc .vmem S2048x1024 .bf16) (harg3 : arg3.IsWhole)
  (arg4 : Memref sig .tc .vmem S1x2048x1024 .bf16) (harg4 : arg4.IsWhole) (arg5 : Memref sig .tc .vmem S1x1024x1024 .bf16) (harg5 : arg5.IsWhole)
  (arg6 : Memref sig .tc .vmem S1024x1024 .f32) (harg6 : arg6.IsWhole)

/-- The blocks as loaded are the blocks. -/
theorem part_loads (inb0 inb1) :
    part (View.readAt (Elt Ideal) arg3.view (Rect.unit (s := S2048x1024) ![0, 0] S2048x1024.size inb0).toLoadRect (harg3.unread x0))
      (View.readAt (Elt Ideal) arg4.view (Rect.unit (s := S1x2048x1024) ![0, 0, 0] S1x2048x1024.size inb1).toLoadRect (harg4.unread x1)) i j
      = part x0 x1 i j :=
  Finset.sum_congr rfl fun e _ => congr (congrArg HMul.hMul (Cert.Loads.all arg3 harg3 x0 inb0 e i)) (Cert.Loads.slot arg4 harg4 x1 0 (by decide) inb1 e j)

/-- The first point of a run starts the accumulator at its part. -/
theorem sout_A (hc0 : cond0_0 t) (hc1 : ¬cond0_1 t) (hc2 : ¬cond0_2 t) :
    sout0_A_0 (F := Ideal) c t arg3 harg3 arg4 harg4 arg5 harg5 arg6 harg6 hc0 hc1 hc2 x0 x1 (ix2 i j) = part x0 x1 i j := by
  unfold sout0_A_0 kernelRun0_A
  dsimp only
  sl_unfold_run_names
  refine (congrFun (View.read_writes_full (Val := Elt Ideal) _ _ _ _ _) _).trans ?_
  exact (pay2 ..).trans (part_loads ..)

/-- A later point adds its part to the accumulator. -/
theorem sout_B (hc0 : ¬cond0_0 t) (hc1 : cond0_1 t) (hc2 : ¬cond0_2 t) :
    sout0_B_0 (F := Ideal) c t arg3 harg3 arg4 harg4 arg5 harg5 arg6 harg6 hc0 hc1 hc2 x0 x1 acc (ix2 i j) = acc (ix2 i j) + part x0 x1 i j := by
  unfold sout0_B_0 kernelRun0_B
  dsimp only
  sl_unfold_run_names
  refine (congrFun (View.read_writes_full (Val := Elt Ideal) _ _ _ _ _) _).trans ?_
  exact (pay3 ..).trans (congr (congrArg HAdd.hAdd (Cert.Loads.all arg6 harg6 acc _ i j)) (part_loads ..))

/-- The last point of a run stores the accumulator with its part. -/
theorem out_C (hc0 : ¬cond0_0 t) (hc1 : ¬cond0_1 t) (hc2 : cond0_2 t) :
    out0_C_2 (F := Ideal) c t arg3 harg3 arg4 harg4 arg5 harg5 arg6 harg6 hc0 hc1 hc2 x0 x1 acc (ix3 0 i j) = acc (ix2 i j) + part x0 x1 i j := by
  unfold out0_C_2 kernelRun0_C
  dsimp only
  sl_unfold_run_names
  refine (congrFun (View.read_writes_full (Val := Elt Ideal) _ _ _ _ _) _).trans ?_
  exact (pay4 ..).trans (congr (congrArg HAdd.hAdd (Cert.Loads.all arg6 harg6 acc _ i j)) (part_loads ..))

end Cert.GattnBlock

end
-- ==== Proof.GattnArray.lean ====
/- The array the kernel `g_w_attn_out` leaves: the gradient of the attention branch's output weights. -/
module

public import proofs.«01_k».proof.Proof.GattnBlock
public import proofs.«01_k».proof.Proof.Sums
public import Idealize.ShloMosaic.Lib.Pipeline.Value
public import Idealize.ShloMosaic.Lib.Pipeline.ValueKit

@[expose] public section

noncomputable section

namespace Cert.GattnArray

open Cert.GattnBwdIdeal Cert.GattnBwdIdeal.Gen Idealize.ShloMosaic Idealize.ShloMosaic.TcCoe Cert.GattnBlock
open Idealize.ShloMosaic.Pipeline (Dat)

/-- Token `n`'s summand of the result at row `r` and column `q` of all columns. -/
def summand (a : FVec Ideal S8192x1024 .bf16) (b : FVec Ideal S3x8192x2048 .bf16) (r : Fin 1024) (q : ℕ) (n : Fin 8192) : EReal :=
  a (ix2 n r) * b (ix3 1 n (Fin.ofNat 2048 q))

variable (m : (ℓ : Loc nD τ sig) → Buf (Elt Ideal) ℓ) (c : Dev nD)

/-- The product's first operand. -/
abbrev arg0 : FVec Ideal S8192x1024 .bf16 := m ((c : Thread nD τ).loc main_arg0)
/-- The gradient of the product. -/
abbrev arg1 : FVec Ideal S3x8192x2048 .bf16 := m ((c : Thread nD τ).loc main_arg1)

theorem index0 : ∀ t : Fin cfg0.N, win0_0.index t 0 = t.val % 4 ∧ win0_0.index t 1 = t.val / 8 := by
  show ∀ t : Fin grid0.N, _; decide +kernel
theorem index1 : ∀ t : Fin cfg0.N, win0_1.index t 0 = 1 ∧ win0_1.index t 1 = t.val % 4 ∧ win0_1.index t 2 = t.val / 4 % 2 := by
  show ∀ t : Fin grid0.N, _; decide +kernel
theorem index2 : ∀ t : Fin cfg0.N, win0_2.index t 0 = t.val / 4 % 2 / 2 ∧ win0_2.index t 1 = t.val / 8 ∧ win0_2.index t 2 = t.val / 4 % 2 % 2 := by
  show ∀ t : Fin grid0.N, _; decide +kernel

theorem lt_pts (t : Fin cfg0.N) : t.val < 8 := lt_of_lt_of_eq t.isLt (show cfg0.N = 8 from N_0)

/-- Row `i` of point `t`'s block of the result. -/
def row (t : ℕ) (i : Fin 1024) : Fin 1024 := Fin.ofNat 1024 (1024 * (t / 8) + i.val)
/-- Column `j` of point `t`'s block of the result, of all columns. -/
def col (t : ℕ) (j : Fin 1024) : ℕ := 1024 * (t / 4 % 2) + j.val

theorem iblk0 (t : Fin cfg0.N) (e : Fin 2048) (i : Fin 1024) :
    iblk m c 0 t (ix2 e i) = arg0 m c (ix2 (Fin.ofNat 8192 (2048 * (t.val % 4) + e.val)) (row t.val i)) := by
  have hi := index0 t
  have ht := lt_pts t
  refine (congrFun (V_main_arg0 m c) _).trans (congrArg (m _) (funext fun a => Fin.ext ?_))
  have h1 := i.isLt
  have h2 := e.isLt
  match a with
  | ⟨0, _⟩ => show win0_0.index t 0 * 2048 + 1 * e.val = (2048 * (t.val % 4) + e.val) % 8192; rw [hi.1]; omega
  | ⟨1, _⟩ => show win0_0.index t 1 * 1024 + 1 * i.val = (1024 * (t.val / 8) + i.val) % 1024; rw [hi.2]; omega

theorem iblk1 (t : Fin cfg0.N) (e : Fin 2048) (j : Fin 1024) :
    iblk m c 1 t (ix3 0 e j) = (fun b : FVec Ideal S3x8192x2048 .bf16 => fun (n : Fin 8192) (q : ℕ) => b (ix3 1 n (Fin.ofNat 2048 q))) (arg1 m c)
      (Fin.ofNat 8192 (2048 * (t.val % 4) + e.val)) (col t.val j) := by
  have hi := index1 t
  have ht := lt_pts t
  refine (congrFun (V_main_arg1 m c) _).trans (congrArg (m _) (funext fun a => Fin.ext ?_))
  have h1 := j.isLt
  have h2 := e.isLt
  match a with
  | ⟨0, _⟩ => show win0_1.index t 0 * 1 + 1 * 0 = 1; rw [hi.1]
  | ⟨1, _⟩ => show win0_1.index t 1 * 2048 + 1 * e.val = (2048 * (t.val % 4) + e.val) % 8192; rw [hi.2.1]; omega
  | ⟨2, _⟩ => show win0_1.index t 2 * 1024 + 1 * j.val = (1024 * (t.val / 4 % 2) + j.val) % 2048; rw [hi.2.2]; omega

/-- The part of the result the `k`-th block of tokens gives. -/
def tokens (r : Fin 1024) (q : ℕ) (k : ℕ) : EReal :=
  ∑ e : Fin 2048, summand (arg0 m c) (arg1 m c) r q (Fin.ofNat 8192 (2048 * k + e.val))

/-- A point adds its block of tokens. -/
theorem part_point (t : Fin cfg0.N) (i : Fin 1024) (j : Fin 1024) :
    part (iblk m c 0 t) (iblk m c 1 t) i j = tokens m c (row t.val i) (col t.val j) (t.val % 4) :=
  Finset.sum_congr rfl fun e _ => congr (congrArg HMul.hMul (iblk0 m c t e i)) (iblk1 m c t e j)

/-- The first point of a run leaves its part in the accumulator. -/
theorem outs_A (t : Fin cfg0.N) (h0 : t.val % 4 = 0) (i : Fin 1024) (j : Fin 1024) :
    (outsAt0 m c t.val t.isLt).2 (ix2 i j) = part (iblk m c 0 t) (iblk m c 1 t) i j := by
  rw [outsAt0_A m c t h0 (by omega) (by omega)]
  dsimp only
  exact sout_A ..

/-- A later point adds its part to the accumulator. -/
theorem outs_B (t : Fin cfg0.N) (h0 : ¬t.val % 4 = 0) (h3 : t.val % 4 ≠ 3) (i : Fin 1024) (j : Fin 1024) :
    (outsAt0 m c t.val t.isLt).2 (ix2 i j) = (outsAt0 m c (t.val - 1) (lt_of_le_of_lt (Nat.sub_le _ _) t.isLt)).2 (ix2 i j) + part (iblk m c 0 t) (iblk m c 1 t) i j := by
  rw [outsAt0_B m c t h0 (by omega) (by omega)]
  dsimp only
  exact sout_B ..

/-- The last point of a run adds its part and stores the sum. -/
theorem outs_C (t : Fin cfg0.N) (h3 : t.val % 4 = 3) (i : Fin 1024) (j : Fin 1024) :
    (outsAt0 m c t.val t.isLt).1 (ix3 0 i j) = (outsAt0 m c (t.val - 1) (lt_of_le_of_lt (Nat.sub_le _ _) t.isLt)).2 (ix2 i j) + part (iblk m c 0 t) (iblk m c 1 t) i j := by
  rw [outsAt0_C m c t (by omega) (by omega) h3]
  dsimp only
  exact out_C ..

/-- Before the last point of a run the accumulator holds the blocks of tokens so far. -/
theorem outs_acc (i : Fin 1024) (j : Fin 1024) : ∀ (n : ℕ) (h : n < cfg0.N), n % 4 ≠ 3 →
    (outsAt0 m c n h).2 (ix2 i j) = ∑ k ∈ Finset.range (n % 4 + 1), tokens m c (row n i) (col n j) k := by
  intro n
  induction n with
  | zero =>
    intro h h3
    refine (outs_A m c ⟨0, h⟩ rfl i j).trans ((part_point m c ⟨0, h⟩ i j).trans ?_)
    rw [Finset.sum_range_succ, Finset.sum_range_zero, zero_add]
  | succ n ih =>
    intro h h3
    by_cases h0 : (n + 1) % 4 = 0
    · refine (outs_A m c ⟨n + 1, h⟩ h0 i j).trans ((part_point m c ⟨n + 1, h⟩ i j).trans ?_)
      dsimp only
      rw [h0, Finset.sum_range_succ, Finset.sum_range_zero, zero_add]
    · refine (outs_B m c ⟨n + 1, h⟩ h0 h3 i j).trans ?_
      refine (congr (congrArg HAdd.hAdd (ih (Nat.lt_of_succ_lt h) (by omega))) (part_point m c ⟨n + 1, h⟩ i j)).trans ?_
      dsimp only
      rw [show row n i = row (n + 1) i by unfold row; congr 3; omega,
        show col n j = col (n + 1) j by unfold col; congr 3; omega, show (n + 1) % 4 = n % 4 + 1 by omega,
        Finset.sum_range_succ _ (n % 4 + 1)]

/-- THE RESULT: every entry is the sum over the tokens. -/
theorem array : (dats m 0 c).arrAt 2 cfg0.N = fun y : S1x1024x2048.Idx => ∑ n, summand (arg0 m c) (arg1 m c) (y 1) (2048 * (y 0).val + (y 2).val) n := by
  refine (dats m 0 c).arrAt_eq_of_covers 2 _ (by decide +kernel) fun t hf y => ?_
  show (dats m 0 c).after 2 t y = _
  have h3 : t.val % 4 = 3 := (flush0_2 t).mp hf
  have hi := index2 t
  have ht := lt_pts t
  obtain ⟨z, i, j, rfl⟩ : ∃ (z : Fin 1) (i : Fin 1024) (j : Fin 1024), y = ix3 z i j := ⟨y 0, y 1, y 2, eq_ix3 y⟩
  obtain rfl : z = 0 := Subsingleton.elim _ _
  rw [after0_2]
  refine (outs_C m c t h3 i j).trans ?_
  have h1 := i.isLt
  have h2 := j.isLt
  rw [part_point m c t i j, outs_acc m c i j _ _ (by omega), show row (t.val - 1) i = row t.val i by unfold row; congr 3; omega,
    show col (t.val - 1) j = col t.val j by unfold col; congr 3; omega, show (t.val - 1) % 4 + 1 = 3 by omega, h3,
    ← Finset.sum_range_succ]
  refine (Cert.Sums.blocks 4 2048 8192 rfl (summand (arg0 m c) (arg1 m c) (row t.val i) (col t.val j))).trans ?_
  refine Finset.sum_congr rfl fun n _ => congrFun (congr (congrArg (summand (arg0 m c) (arg1 m c)) (Fin.ext ?_)) ?_) n
  · show (1024 * (t.val / 8) + i.val) % 1024 = win0_2.index t 1 * 1024 + 1 * i.val
    rw [hi.2.1]; omega
  · show 1024 * (t.val / 4 % 2) + j.val = 2048 * (win0_2.index t 0 * 1 + 1 * 0) + (win0_2.index t 2 * 1024 + 1 * j.val)
    rw [hi.1, hi.2.2]; omega

end Cert.GattnArray

end
-- ==== Proof.GattnClaim.lean ====
/- The kernel `g_w_attn_out`: what its reference computes, at an index, and the claims. -/
module

public import proofs.«01_k».proof.Defs
public import proofs.«01_k».proof.Proof.GattnArray
public import proofs.«01_k».proof.Proof.Gen.GattnBwd
public import proofs.«01_k».proof.Proof.Gen.GattnBwd.Frame
public import proofs.«01_k».proof.Proof.Gen.GattnGradIdeal.Read

@[expose] public section

noncomputable section

namespace Cert.GattnClaim

open Idealize.ShloMosaic Idealize.SL.Sem Cert.GattnArray Cert.GattnGradIdeal Cert.GattnGradIdeal.Read

/-- The reference's result is the sum over the tokens. -/
theorem ref (x0 : FVec Ideal S8192x1024 .bf16) (x1 : FVec Ideal S3x8192x2048 .bf16) (y : S1x1024x2048.Idx) :
    val_main_v13 (F := Ideal) x0 x1 y = ∑ n, summand x0 x1 (y 1) (2048 * (y 0).val + (y 2).val) n := by
  refine (val_main_v13_apply ..).trans ((val_main_v12_apply ..).trans ((val_main_v11_apply ..).trans ((val_main_v9_apply ..).trans
    ((val_main_v8_apply ..).trans (Finset.sum_congr rfl fun n _ => (mul_comm _ _).trans ?_)))))
  rw [val_main_v7_apply, val_main_v1_apply, val_main_v0_apply]
  have h0 : (y 0).val < 1 := (y 0).isLt
  have h1 : (y 1).val < 1024 := (y 1).isLt
  have h2 : (y 2).val < 2048 := (y 2).isLt
  have h3 := n.isLt
  show _ = x0 (ix2 n (y 1)) * x1 (ix3 1 n (Fin.ofNat 2048 (2048 * (y 0).val + (y 2).val)))
  refine congr (congrArg HMul.hMul (congrArg x0 (funext fun a => Fin.ext ?_))) (congrArg x1 (funext fun a => Fin.ext ?_))
  · match a with
    | ⟨0, _⟩ => rfl
    | ⟨1, _⟩ => show (((y 1).val * 1 + (y 0).val) * 2048 + (y 2).val) / 2048 = (y 1).val; omega
  · match a with
    | ⟨0, _⟩ => rfl
    | ⟨1, _⟩ => show (n.val * 2048 + (((y 1).val * 1 + (y 0).val) * 2048 + (y 2).val) % 2048) / 2048 % 8192 = n.val; omega
    | ⟨2, _⟩ => show (n.val * 2048 + (((y 1).val * 1 + (y 0).val) * 2048 + (y 2).val) % 2048) % 2048 = (2048 * (y 0).val + (y 2).val) % 2048; omega

/-- The kernel's result is the reference's. -/
theorem algebraic : algebraic_GattnBwdIdeal_GattnGradIdeal (hGattnBwdIdeal := Cert.GattnBwdIdeal.Gen.facts)
    (hGattnGradIdeal := Cert.GattnGradIdeal.Gen.facts) := by
  intro m ρ m' ρ' _ hagree
  refine ⟨fun c => (Cert.GattnBwdIdeal.Gen.dats m 0 c).arrAt 2 Cert.GattnBwdIdeal.cfg0.N, Cert.GattnBwdIdeal.Value.run_blocks m ρ, ?_⟩
  refine (θ_run _ _ _).mono (fun r h c => ?_) (Cert.GattnGradIdeal.Value.run (F := Ideal) m' ρ')
  obtain ⟨hv, hargs⟩ := h c
  obtain ⟨a0, a1⟩ := hagree c
  refine ⟨hv.trans ?_, hargs⟩
  rw [val_main_v13_eq, a0, a1]
  exact Eq.trans (funext fun y => ref (arg0 m c) (arg1 m c) y) (array m c).symm

theorem frame_p : quiescent_GattnBwd (hGattnBwd := Cert.GattnBwd.Gen.facts) := fun m ρ _ => Cert.GattnBwd.Gen.frame m ρ

theorem frame_pi : quiescent_GattnBwdIdeal (hGattnBwdIdeal := Cert.GattnBwdIdeal.Gen.facts) := fun m ρ _ => Cert.GattnBwdIdeal.Gen.frame m ρ

/-- The reference runs to its end and leaves its arguments; it declares no semaphore. -/
theorem frame_ri : quiescent_GattnGradIdeal (hGattnGradIdeal := Cert.GattnGradIdeal.Gen.facts) := fun m ρ _ =>
  (θ_run _ _ _).mono (fun r h => And.intro (fun c => (h c).2) (sem_eq_zero_of_no_sems (by decide) r.2))
    (Cert.GattnGradIdeal.Value.run (F := Ideal) m ρ)

end Cert.GattnClaim

end
-- ==== Proof.DmemBlock.lean ====
/- What one point of the kernel `d_mem_out` leaves in its output. -/
module

public import proofs.«01_k».proof.Proof.Gen.DmemBwdIdeal.Value
public import Idealize.ShloMosaic.Lib.Pipeline.Value
public import Idealize.ShloMosaic.Lib.Pipeline.ValueKit
public import Idealize.ShloMosaic.Lib.Pointwise

@[expose] public section

noncomputable section

namespace Cert.DmemBlock

open Cert.DmemBwdIdeal Cert.DmemBwdIdeal.Gen Idealize.ShloMosaic

variable (x0 : FVec Ideal S1x1024x2048 .bf16) (x1 : FVec Ideal S1x1024x2048 .bf16) (i : Fin 1024) (j : Fin 1024)

/-- A point's product of its blocks. -/
def part : EReal := ∑ e : Fin 2048, x0 (ix3 0 i e) * x1 (ix3 0 j e)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S1x1024x2048) inb_S1x1024x2048_S1x1024x2048_0_0_0 x0 (by decide)
  have h1 : View.ld (Val := Elt Ideal) (e' := .bf16) x1 r0_0 = x1 := View.ld_unit_lit (Val := Elt Ideal) (e := .bf16) (S := S1x1024x2048) inb_S1x1024x2048_S1x1024x2048_0_0_0 x1 (by decide)
  exact (congrFun (congr (congrArg (k0_pay1 (F := Ideal)) h0) h1) _).trans (pay1 x0 x1 i j)

end Cert.DmemBlock

end
-- ==== Proof.DmemArray.lean ====
/- The array the kernel `d_mem_out` leaves: the gradient of the memory branch's output product, in its argument. -/
module

public import proofs.«01_k».proof.Proof.DmemBlock

@[expose] public section

noncomputable section

namespace Cert.DmemArray

open Cert.DmemBwdIdeal Cert.DmemBwdIdeal.Gen Idealize.ShloMosaic Idealize.ShloMosaic.TcCoe Cert.DmemBlock
open Idealize.ShloMosaic.Pipeline (Dat)

/-- The `n`-th summand of the product at row `r` and column `q`. -/
def summand (a : FVec Ideal S3x8192x2048 .bf16) (w : FVec Ideal S1x1024x2048 .bf16) (r : Fin 8192) (q : ℕ) (n : Fin 2048) : EReal :=
  a (ix3 2 r n) * w (ix3 0 (Fin.ofNat 1024 q) n)

variable (m : (ℓ : Loc nD τ sig) → Buf (Elt Ideal) ℓ) (c : Dev nD)

/-- The product's first operand. -/
abbrev arg0 : FVec Ideal S3x8192x2048 .bf16 := m ((c : Thread nD τ).loc main_arg0)
/-- The weights. -/
abbrev arg1 : FVec Ideal S1x1024x2048 .bf16 := m ((c : Thread nD τ).loc main_arg1)

theorem index0 : ∀ t : Fin cfg0.N, win0_0.index t 0 = 2 ∧ win0_0.index t 1 = t.val / 1 ∧ win0_0.index t 2 = 0 := by
  show ∀ t : Fin grid0.N, _; decide +kernel
theorem index1 : ∀ t : Fin cfg0.N, win0_1.index t 0 = 0 ∧ win0_1.index t 1 = t.val % 1 ∧ win0_1.index t 2 = 0 := by
  show ∀ t : Fin grid0.N, _; decide +kernel
theorem index2 : ∀ t : Fin cfg0.N, win0_2.index t 0 = t.val / 1 ∧ win0_2.index t 1 = t.val % 1 := by
  show ∀ t : Fin grid0.N, _; decide +kernel

theorem lt_pts (t : Fin cfg0.N) : t.val < 8 := lt_of_lt_of_eq t.isLt (show cfg0.N = 8 from N_0)

/-- Row `i` of point `t`'s block of the result. -/
def row (t : ℕ) (i : Fin 1024) : Fin 8192 := Fin.ofNat 8192 (1024 * (t / 1) + i.val)
/-- Column `j` of point `t`'s block of the result. -/
def col (t : ℕ) (j : Fin 1024) : ℕ := 1024 * (t % 1) + j.val

theorem iblk0 (t : Fin cfg0.N) (i : Fin 1024) (e : Fin 2048) : iblk m c 0 t (ix3 0 i e) = arg0 m c (ix3 2 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 1 + 1 * 0 = 2; rw [hi.1]
  | ⟨1, _⟩ => show win0_0.index t 1 * 1024 + 1 * i.val = (1024 * (t.val / 1) + i.val) % 8192; rw [hi.2.1]; omega
  | ⟨2, _⟩ => show win0_0.index t 2 * 2048 + 1 * e.val = e.val; rw [hi.2.2]; omega

theorem iblk1 (t : Fin cfg0.N) (e : Fin 2048) (j : Fin 1024) :
    iblk m c 1 t (ix3 0 j e) = (fun w : FVec Ideal S1x1024x2048 .bf16 => fun (q : ℕ) (n : Fin 2048) => w (ix3 0 (Fin.ofNat 1024 q) n)) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = 0; rw [hi.1]
  | ⟨1, _⟩ => show win0_1.index t 1 * 1024 + 1 * j.val = (1024 * (t.val % 1) + j.val) % 1024; rw [hi.2.1]; omega
  | ⟨2, _⟩ => show win0_1.index t 2 * 2048 + 1 * e.val = e.val; rw [hi.2.2]; omega

/-- A point's part in the operands' entries. -/
theorem part_point (t : Fin cfg0.N) (i : Fin 1024) (j : Fin 1024) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S8192x1024.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 1024) (j : Fin 1024), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (1024 * (t.val / 1) + i.val) % 8192 = win0_2.index t 0 * 1024 + 1 * i.val
    rw [hi.1]; omega
  · show 1024 * (t.val % 1) + j.val = win0_2.index t 1 * 1024 + 1 * j.val
    rw [hi.2]; omega

end Cert.DmemArray

end
-- ==== Proof.DmemClaim.lean ====
/- The kernel `d_mem_out`: what its reference computes, at an index, and the claims. -/
module

public import proofs.«01_k».proof.Defs
public import proofs.«01_k».proof.Proof.DmemArray
public import proofs.«01_k».proof.Proof.Gen.DmemBwd
public import proofs.«01_k».proof.Proof.Gen.DmemBwd.Frame
public import proofs.«01_k».proof.Proof.Gen.DmemGradIdeal.Read

@[expose] public section

noncomputable section

namespace Cert.DmemClaim

open Idealize.ShloMosaic Idealize.SL.Sem Cert.DmemArray Cert.DmemGradIdeal Cert.DmemGradIdeal.Read

/-- The reference's result is the sum over the columns. -/
theorem ref (x0 : FVec Ideal S3x8192x2048 .bf16) (x1 : FVec Ideal S1x1024x2048 .bf16) (y : S8192x1024.Idx) :
    val_main_v13 (F := Ideal) x0 x1 y = ∑ n, summand x0 x1 (y 0) (y 1).val n := by
  refine (val_main_v13_apply ..).trans ((val_main_v10_apply ..).trans (Finset.sum_congr rfl fun n _ => ?_))
  rw [val_main_v5_apply, val_main_v4_apply, val_main_v7_apply, val_main_v1_apply, val_main_v0_apply]
  show _ = x0 (ix3 2 (y 0) n) * x1 (ix3 0 (Fin.ofNat 1024 (y 1).val) n)
  have h0 : (y 1).val < 1024 := (y 1).isLt
  have h1 := n.isLt
  have h2 : (y 0).val < 8192 := (y 0).isLt
  refine congr (congrArg HMul.hMul (congrArg x0 (funext fun a => Fin.ext ?_))) (congrArg x1 (funext fun a => Fin.ext ?_))
  · match a with
    | ⟨0, _⟩ => rfl
    | ⟨1, _⟩ => show ((y 0).val * 2048 + n.val) / 2048 % 8192 = (y 0).val; omega
    | ⟨2, _⟩ => show ((y 0).val * 2048 + n.val) % 2048 = n.val; omega
  · match a with
    | ⟨0, _⟩ => rfl
    | ⟨1, _⟩ => show ((y 1).val * 2048 + n.val) / 2048 = (y 1).val % 1024; omega
    | ⟨2, _⟩ => show ((y 1).val * 2048 + n.val) % 2048 = n.val; omega

/-- The kernel's result is the reference's. -/
theorem algebraic : algebraic_DmemBwdIdeal_DmemGradIdeal (hDmemBwdIdeal := Cert.DmemBwdIdeal.Gen.facts)
    (hDmemGradIdeal := Cert.DmemGradIdeal.Gen.facts) := by
  intro m ρ m' ρ' _ hagree
  refine ⟨fun c => (Cert.DmemBwdIdeal.Gen.dats m 0 c).arrAt 2 Cert.DmemBwdIdeal.cfg0.N, Cert.DmemBwdIdeal.Value.run_blocks m ρ, ?_⟩
  refine (θ_run _ _ _).mono (fun r h c => ?_) (Cert.DmemGradIdeal.Value.run (F := Ideal) m' ρ')
  obtain ⟨hv, hargs⟩ := h c
  obtain ⟨a0, a1⟩ := hagree c
  refine ⟨hv.trans ?_, hargs⟩
  rw [val_main_v13_eq, a0, a1]
  exact Eq.trans (funext fun y => ref (arg0 m c) (arg1 m c) y) (array m c).symm

theorem frame_p : quiescent_DmemBwd (hDmemBwd := Cert.DmemBwd.Gen.facts) := fun m ρ _ => Cert.DmemBwd.Gen.frame m ρ

theorem frame_pi : quiescent_DmemBwdIdeal (hDmemBwdIdeal := Cert.DmemBwdIdeal.Gen.facts) := fun m ρ _ => Cert.DmemBwdIdeal.Gen.frame m ρ

/-- The reference runs to its end and leaves its arguments; it declares no semaphore. -/
theorem frame_ri : quiescent_DmemGradIdeal (hDmemGradIdeal := Cert.DmemGradIdeal.Gen.facts) := fun m ρ _ =>
  (θ_run _ _ _).mono (fun r h => And.intro (fun c => (h c).2) (sem_eq_zero_of_no_sems (by decide) r.2))
    (Cert.DmemGradIdeal.Value.run (F := Ideal) m ρ)

end Cert.DmemClaim

end
-- ==== Proof.GmemBlock.lean ====
/- What one point of the kernel `g_w_mem_out` leaves in its accumulator and in its output. -/
module

public import proofs.«01_k».proof.Proof.Gen.GmemBwdIdeal.Value
public import Idealize.ShloMosaic.Lib.Tactic
public import Idealize.ShloMosaic.Lib.VecWindow
public import proofs.«01_k».proof.Proof.Loads
public import Idealize.ShloMosaic.Lib.Pointwise

@[expose] public section

noncomputable section

namespace Cert.GmemBlock

open Cert.GmemBwdIdeal Cert.GmemBwdIdeal.Gen Idealize.ShloMosaic Idealize.ShloMosaic.Tactic

/-- The part of the result at `(i, j)` one point adds: its rows of the one operand against those of the other. -/
def part (x0 : FVec Ideal S2048x1024 .bf16) (x1 : FVec Ideal S1x2048x1024 .bf16) (i : Fin 1024) (j : Fin 1024) : EReal :=
  ∑ e : Fin 2048, x0 (ix2 e i) * x1 (ix3 0 e j)

variable (x0 : FVec Ideal S2048x1024 .bf16) (x1 : FVec Ideal S1x2048x1024 .bf16) (acc : FVec Ideal S1024x1024 .f32) (i : Fin 1024) (j : Fin 1024)

/-- A point's product. -/
theorem pay1 : k0_pay1 (F := Ideal) x0 x1 (ix2 i j) = part x0 x1 i j := by
  unfold part
  pointwise [k0_pay1]

/-- The first store keeps the product. -/
theorem pay2 : k0_pay2 (F := Ideal) x0 x1 (ix2 i j) = part x0 x1 i j := by
  rw [← pay1]
  unfold k0_pay2
  generalize k0_pay1 (F := Ideal) x0 x1 = P
  pointwise []

/-- The later stores add it. -/
theorem pay3 : k0_pay3 (F := Ideal) x0 x1 acc (ix2 i j) = acc (ix2 i j) + part x0 x1 i j := by
  rw [← pay1]
  unfold k0_pay3
  generalize k0_pay1 (F := Ideal) x0 x1 = P
  pointwise []

theorem pay4 : k0_pay4 (F := Ideal) x0 x1 acc (ix3 0 i j) = acc (ix2 i j) + part x0 x1 i j := by
  rw [← pay1]
  unfold k0_pay4
  generalize k0_pay1 (F := Ideal) x0 x1 = P
  pointwise []

variable (c : Dev nD) (t : grid0.Coords) (arg3 : Memref sig .tc .vmem S2048x1024 .bf16) (harg3 : arg3.IsWhole)
  (arg4 : Memref sig .tc .vmem S1x2048x1024 .bf16) (harg4 : arg4.IsWhole) (arg5 : Memref sig .tc .vmem S1x1024x1024 .bf16) (harg5 : arg5.IsWhole)
  (arg6 : Memref sig .tc .vmem S1024x1024 .f32) (harg6 : arg6.IsWhole)

/-- The blocks as loaded are the blocks. -/
theorem part_loads (inb0 inb1) :
    part (View.readAt (Elt Ideal) arg3.view (Rect.unit (s := S2048x1024) ![0, 0] S2048x1024.size inb0).toLoadRect (harg3.unread x0))
      (View.readAt (Elt Ideal) arg4.view (Rect.unit (s := S1x2048x1024) ![0, 0, 0] S1x2048x1024.size inb1).toLoadRect (harg4.unread x1)) i j
      = part x0 x1 i j :=
  Finset.sum_congr rfl fun e _ => congr (congrArg HMul.hMul (Cert.Loads.all arg3 harg3 x0 inb0 e i)) (Cert.Loads.slot arg4 harg4 x1 0 (by decide) inb1 e j)

/-- The first point of a run starts the accumulator at its part. -/
theorem sout_A (hc0 : cond0_0 t) (hc1 : ¬cond0_1 t) (hc2 : ¬cond0_2 t) :
    sout0_A_0 (F := Ideal) c t arg3 harg3 arg4 harg4 arg5 harg5 arg6 harg6 hc0 hc1 hc2 x0 x1 (ix2 i j) = part x0 x1 i j := by
  unfold sout0_A_0 kernelRun0_A
  dsimp only
  sl_unfold_run_names
  refine (congrFun (View.read_writes_full (Val := Elt Ideal) _ _ _ _ _) _).trans ?_
  exact (pay2 ..).trans (part_loads ..)

/-- A later point adds its part to the accumulator. -/
theorem sout_B (hc0 : ¬cond0_0 t) (hc1 : cond0_1 t) (hc2 : ¬cond0_2 t) :
    sout0_B_0 (F := Ideal) c t arg3 harg3 arg4 harg4 arg5 harg5 arg6 harg6 hc0 hc1 hc2 x0 x1 acc (ix2 i j) = acc (ix2 i j) + part x0 x1 i j := by
  unfold sout0_B_0 kernelRun0_B
  dsimp only
  sl_unfold_run_names
  refine (congrFun (View.read_writes_full (Val := Elt Ideal) _ _ _ _ _) _).trans ?_
  exact (pay3 ..).trans (congr (congrArg HAdd.hAdd (Cert.Loads.all arg6 harg6 acc _ i j)) (part_loads ..))

/-- The last point of a run stores the accumulator with its part. -/
theorem out_C (hc0 : ¬cond0_0 t) (hc1 : ¬cond0_1 t) (hc2 : cond0_2 t) :
    out0_C_2 (F := Ideal) c t arg3 harg3 arg4 harg4 arg5 harg5 arg6 harg6 hc0 hc1 hc2 x0 x1 acc (ix3 0 i j) = acc (ix2 i j) + part x0 x1 i j := by
  unfold out0_C_2 kernelRun0_C
  dsimp only
  sl_unfold_run_names
  refine (congrFun (View.read_writes_full (Val := Elt Ideal) _ _ _ _ _) _).trans ?_
  exact (pay4 ..).trans (congr (congrArg HAdd.hAdd (Cert.Loads.all arg6 harg6 acc _ i j)) (part_loads ..))

end Cert.GmemBlock

end
-- ==== Proof.GmemArray.lean ====
/- The array the kernel `g_w_mem_out` leaves: the gradient of the memory branch's output weights. -/
module

public import proofs.«01_k».proof.Proof.GmemBlock
public import proofs.«01_k».proof.Proof.Sums
public import Idealize.ShloMosaic.Lib.Pipeline.Value
public import Idealize.ShloMosaic.Lib.Pipeline.ValueKit

@[expose] public section

noncomputable section

namespace Cert.GmemArray

open Cert.GmemBwdIdeal Cert.GmemBwdIdeal.Gen Idealize.ShloMosaic Idealize.ShloMosaic.TcCoe Cert.GmemBlock
open Idealize.ShloMosaic.Pipeline (Dat)

/-- Token `n`'s summand of the result at row `r` and column `q` of all columns. -/
def summand (a : FVec Ideal S8192x1024 .bf16) (b : FVec Ideal S3x8192x2048 .bf16) (r : Fin 1024) (q : ℕ) (n : Fin 8192) : EReal :=
  a (ix2 n r) * b (ix3 2 n (Fin.ofNat 2048 q))

variable (m : (ℓ : Loc nD τ sig) → Buf (Elt Ideal) ℓ) (c : Dev nD)

/-- The product's first operand. -/
abbrev arg0 : FVec Ideal S8192x1024 .bf16 := m ((c : Thread nD τ).loc main_arg0)
/-- The gradient of the product. -/
abbrev arg1 : FVec Ideal S3x8192x2048 .bf16 := m ((c : Thread nD τ).loc main_arg1)

theorem index0 : ∀ t : Fin cfg0.N, win0_0.index t 0 = t.val % 4 ∧ win0_0.index t 1 = t.val / 8 := by
  show ∀ t : Fin grid0.N, _; decide +kernel
theorem index1 : ∀ t : Fin cfg0.N, win0_1.index t 0 = 2 ∧ win0_1.index t 1 = t.val % 4 ∧ win0_1.index t 2 = t.val / 4 % 2 := by
  show ∀ t : Fin grid0.N, _; decide +kernel
theorem index2 : ∀ t : Fin cfg0.N, win0_2.index t 0 = t.val / 4 % 2 / 2 ∧ win0_2.index t 1 = t.val / 8 ∧ win0_2.index t 2 = t.val / 4 % 2 % 2 := by
  show ∀ t : Fin grid0.N, _; decide +kernel

theorem lt_pts (t : Fin cfg0.N) : t.val < 8 := lt_of_lt_of_eq t.isLt (show cfg0.N = 8 from N_0)

/-- Row `i` of point `t`'s block of the result. -/
def row (t : ℕ) (i : Fin 1024) : Fin 1024 := Fin.ofNat 1024 (1024 * (t / 8) + i.val)
/-- Column `j` of point `t`'s block of the result, of all columns. -/
def col (t : ℕ) (j : Fin 1024) : ℕ := 1024 * (t / 4 % 2) + j.val

theorem iblk0 (t : Fin cfg0.N) (e : Fin 2048) (i : Fin 1024) :
    iblk m c 0 t (ix2 e i) = arg0 m c (ix2 (Fin.ofNat 8192 (2048 * (t.val % 4) + e.val)) (row t.val i)) := by
  have hi := index0 t
  have ht := lt_pts t
  refine (congrFun (V_main_arg0 m c) _).trans (congrArg (m _) (funext fun a => Fin.ext ?_))
  have h1 := i.isLt
  have h2 := e.isLt
  match a with
  | ⟨0, _⟩ => show win0_0.index t 0 * 2048 + 1 * e.val = (2048 * (t.val % 4) + e.val) % 8192; rw [hi.1]; omega
  | ⟨1, _⟩ => show win0_0.index t 1 * 1024 + 1 * i.val = (1024 * (t.val / 8) + i.val) % 1024; rw [hi.2]; omega

theorem iblk1 (t : Fin cfg0.N) (e : Fin 2048) (j : Fin 1024) :
    iblk m c 1 t (ix3 0 e j) = (fun b : FVec Ideal S3x8192x2048 .bf16 => fun (n : Fin 8192) (q : ℕ) => b (ix3 2 n (Fin.ofNat 2048 q))) (arg1 m c)
      (Fin.ofNat 8192 (2048 * (t.val % 4) + e.val)) (col t.val j) := by
  have hi := index1 t
  have ht := lt_pts t
  refine (congrFun (V_main_arg1 m c) _).trans (congrArg (m _) (funext fun a => Fin.ext ?_))
  have h1 := j.isLt
  have h2 := e.isLt
  match a with
  | ⟨0, _⟩ => show win0_1.index t 0 * 1 + 1 * 0 = 2; rw [hi.1]
  | ⟨1, _⟩ => show win0_1.index t 1 * 2048 + 1 * e.val = (2048 * (t.val % 4) + e.val) % 8192; rw [hi.2.1]; omega
  | ⟨2, _⟩ => show win0_1.index t 2 * 1024 + 1 * j.val = (1024 * (t.val / 4 % 2) + j.val) % 2048; rw [hi.2.2]; omega

/-- The part of the result the `k`-th block of tokens gives. -/
def tokens (r : Fin 1024) (q : ℕ) (k : ℕ) : EReal :=
  ∑ e : Fin 2048, summand (arg0 m c) (arg1 m c) r q (Fin.ofNat 8192 (2048 * k + e.val))

/-- A point adds its block of tokens. -/
theorem part_point (t : Fin cfg0.N) (i : Fin 1024) (j : Fin 1024) :
    part (iblk m c 0 t) (iblk m c 1 t) i j = tokens m c (row t.val i) (col t.val j) (t.val % 4) :=
  Finset.sum_congr rfl fun e _ => congr (congrArg HMul.hMul (iblk0 m c t e i)) (iblk1 m c t e j)

/-- The first point of a run leaves its part in the accumulator. -/
theorem outs_A (t : Fin cfg0.N) (h0 : t.val % 4 = 0) (i : Fin 1024) (j : Fin 1024) :
    (outsAt0 m c t.val t.isLt).2 (ix2 i j) = part (iblk m c 0 t) (iblk m c 1 t) i j := by
  rw [outsAt0_A m c t h0 (by omega) (by omega)]
  dsimp only
  exact sout_A ..

/-- A later point adds its part to the accumulator. -/
theorem outs_B (t : Fin cfg0.N) (h0 : ¬t.val % 4 = 0) (h3 : t.val % 4 ≠ 3) (i : Fin 1024) (j : Fin 1024) :
    (outsAt0 m c t.val t.isLt).2 (ix2 i j) = (outsAt0 m c (t.val - 1) (lt_of_le_of_lt (Nat.sub_le _ _) t.isLt)).2 (ix2 i j) + part (iblk m c 0 t) (iblk m c 1 t) i j := by
  rw [outsAt0_B m c t h0 (by omega) (by omega)]
  dsimp only
  exact sout_B ..

/-- The last point of a run adds its part and stores the sum. -/
theorem outs_C (t : Fin cfg0.N) (h3 : t.val % 4 = 3) (i : Fin 1024) (j : Fin 1024) :
    (outsAt0 m c t.val t.isLt).1 (ix3 0 i j) = (outsAt0 m c (t.val - 1) (lt_of_le_of_lt (Nat.sub_le _ _) t.isLt)).2 (ix2 i j) + part (iblk m c 0 t) (iblk m c 1 t) i j := by
  rw [outsAt0_C m c t (by omega) (by omega) h3]
  dsimp only
  exact out_C ..

/-- Before the last point of a run the accumulator holds the blocks of tokens so far. -/
theorem outs_acc (i : Fin 1024) (j : Fin 1024) : ∀ (n : ℕ) (h : n < cfg0.N), n % 4 ≠ 3 →
    (outsAt0 m c n h).2 (ix2 i j) = ∑ k ∈ Finset.range (n % 4 + 1), tokens m c (row n i) (col n j) k := by
  intro n
  induction n with
  | zero =>
    intro h h3
    refine (outs_A m c ⟨0, h⟩ rfl i j).trans ((part_point m c ⟨0, h⟩ i j).trans ?_)
    rw [Finset.sum_range_succ, Finset.sum_range_zero, zero_add]
  | succ n ih =>
    intro h h3
    by_cases h0 : (n + 1) % 4 = 0
    · refine (outs_A m c ⟨n + 1, h⟩ h0 i j).trans ((part_point m c ⟨n + 1, h⟩ i j).trans ?_)
      dsimp only
      rw [h0, Finset.sum_range_succ, Finset.sum_range_zero, zero_add]
    · refine (outs_B m c ⟨n + 1, h⟩ h0 h3 i j).trans ?_
      refine (congr (congrArg HAdd.hAdd (ih (Nat.lt_of_succ_lt h) (by omega))) (part_point m c ⟨n + 1, h⟩ i j)).trans ?_
      dsimp only
      rw [show row n i = row (n + 1) i by unfold row; congr 3; omega,
        show col n j = col (n + 1) j by unfold col; congr 3; omega, show (n + 1) % 4 = n % 4 + 1 by omega,
        Finset.sum_range_succ _ (n % 4 + 1)]

/-- THE RESULT: every entry is the sum over the tokens. -/
theorem array : (dats m 0 c).arrAt 2 cfg0.N = fun y : S1x1024x2048.Idx => ∑ n, summand (arg0 m c) (arg1 m c) (y 1) (2048 * (y 0).val + (y 2).val) n := by
  refine (dats m 0 c).arrAt_eq_of_covers 2 _ (by decide +kernel) fun t hf y => ?_
  show (dats m 0 c).after 2 t y = _
  have h3 : t.val % 4 = 3 := (flush0_2 t).mp hf
  have hi := index2 t
  have ht := lt_pts t
  obtain ⟨z, i, j, rfl⟩ : ∃ (z : Fin 1) (i : Fin 1024) (j : Fin 1024), y = ix3 z i j := ⟨y 0, y 1, y 2, eq_ix3 y⟩
  obtain rfl : z = 0 := Subsingleton.elim _ _
  rw [after0_2]
  refine (outs_C m c t h3 i j).trans ?_
  have h1 := i.isLt
  have h2 := j.isLt
  rw [part_point m c t i j, outs_acc m c i j _ _ (by omega), show row (t.val - 1) i = row t.val i by unfold row; congr 3; omega,
    show col (t.val - 1) j = col t.val j by unfold col; congr 3; omega, show (t.val - 1) % 4 + 1 = 3 by omega, h3,
    ← Finset.sum_range_succ]
  refine (Cert.Sums.blocks 4 2048 8192 rfl (summand (arg0 m c) (arg1 m c) (row t.val i) (col t.val j))).trans ?_
  refine Finset.sum_congr rfl fun n _ => congrFun (congr (congrArg (summand (arg0 m c) (arg1 m c)) (Fin.ext ?_)) ?_) n
  · show (1024 * (t.val / 8) + i.val) % 1024 = win0_2.index t 1 * 1024 + 1 * i.val
    rw [hi.2.1]; omega
  · show 1024 * (t.val / 4 % 2) + j.val = 2048 * (win0_2.index t 0 * 1 + 1 * 0) + (win0_2.index t 2 * 1024 + 1 * j.val)
    rw [hi.1, hi.2.2]; omega

end Cert.GmemArray

end
-- ==== Proof.GmemClaim.lean ====
/- The kernel `g_w_mem_out`: what its reference computes, at an index, and the claims. -/
module

public import proofs.«01_k».proof.Defs
public import proofs.«01_k».proof.Proof.GmemArray
public import proofs.«01_k».proof.Proof.Gen.GmemBwd
public import proofs.«01_k».proof.Proof.Gen.GmemBwd.Frame
public import proofs.«01_k».proof.Proof.Gen.GmemGradIdeal.Read

@[expose] public section

noncomputable section

namespace Cert.GmemClaim

open Idealize.ShloMosaic Idealize.SL.Sem Cert.GmemArray Cert.GmemGradIdeal Cert.GmemGradIdeal.Read

/-- The reference's result is the sum over the tokens. -/
theorem ref (x0 : FVec Ideal S8192x1024 .bf16) (x1 : FVec Ideal S3x8192x2048 .bf16) (y : S1x1024x2048.Idx) :
    val_main_v13 (F := Ideal) x0 x1 y = ∑ n, summand x0 x1 (y 1) (2048 * (y 0).val + (y 2).val) n := by
  refine (val_main_v13_apply ..).trans ((val_main_v12_apply ..).trans ((val_main_v11_apply ..).trans ((val_main_v9_apply ..).trans
    ((val_main_v8_apply ..).trans (Finset.sum_congr rfl fun n _ => (mul_comm _ _).trans ?_)))))
  rw [val_main_v7_apply, val_main_v1_apply, val_main_v0_apply]
  have h0 : (y 0).val < 1 := (y 0).isLt
  have h1 : (y 1).val < 1024 := (y 1).isLt
  have h2 : (y 2).val < 2048 := (y 2).isLt
  have h3 := n.isLt
  show _ = x0 (ix2 n (y 1)) * x1 (ix3 2 n (Fin.ofNat 2048 (2048 * (y 0).val + (y 2).val)))
  refine congr (congrArg HMul.hMul (congrArg x0 (funext fun a => Fin.ext ?_))) (congrArg x1 (funext fun a => Fin.ext ?_))
  · match a with
    | ⟨0, _⟩ => rfl
    | ⟨1, _⟩ => show (((y 1).val * 1 + (y 0).val) * 2048 + (y 2).val) / 2048 = (y 1).val; omega
  · match a with
    | ⟨0, _⟩ => rfl
    | ⟨1, _⟩ => show (n.val * 2048 + (((y 1).val * 1 + (y 0).val) * 2048 + (y 2).val) % 2048) / 2048 % 8192 = n.val; omega
    | ⟨2, _⟩ => show (n.val * 2048 + (((y 1).val * 1 + (y 0).val) * 2048 + (y 2).val) % 2048) % 2048 = (2048 * (y 0).val + (y 2).val) % 2048; omega

/-- The kernel's result is the reference's. -/
theorem algebraic : algebraic_GmemBwdIdeal_GmemGradIdeal (hGmemBwdIdeal := Cert.GmemBwdIdeal.Gen.facts)
    (hGmemGradIdeal := Cert.GmemGradIdeal.Gen.facts) := by
  intro m ρ m' ρ' _ hagree
  refine ⟨fun c => (Cert.GmemBwdIdeal.Gen.dats m 0 c).arrAt 2 Cert.GmemBwdIdeal.cfg0.N, Cert.GmemBwdIdeal.Value.run_blocks m ρ, ?_⟩
  refine (θ_run _ _ _).mono (fun r h c => ?_) (Cert.GmemGradIdeal.Value.run (F := Ideal) m' ρ')
  obtain ⟨hv, hargs⟩ := h c
  obtain ⟨a0, a1⟩ := hagree c
  refine ⟨hv.trans ?_, hargs⟩
  rw [val_main_v13_eq, a0, a1]
  exact Eq.trans (funext fun y => ref (arg0 m c) (arg1 m c) y) (array m c).symm

theorem frame_p : quiescent_GmemBwd (hGmemBwd := Cert.GmemBwd.Gen.facts) := fun m ρ _ => Cert.GmemBwd.Gen.frame m ρ

theorem frame_pi : quiescent_GmemBwdIdeal (hGmemBwdIdeal := Cert.GmemBwdIdeal.Gen.facts) := fun m ρ _ => Cert.GmemBwdIdeal.Gen.frame m ρ

/-- The reference runs to its end and leaves its arguments; it declares no semaphore. -/
theorem frame_ri : quiescent_GmemGradIdeal (hGmemGradIdeal := Cert.GmemGradIdeal.Gen.facts) := fun m ρ _ =>
  (θ_run _ _ _).mono (fun r h => And.intro (fun c => (h c).2) (sem_eq_zero_of_no_sems (by decide) r.2))
    (Cert.GmemGradIdeal.Value.run (F := Ideal) m ρ)

end Cert.GmemClaim

end
-- ==== Proof.WkvBlock.lean ====
/- What one point of the kernel `w_mem_kv` leaves in its output. -/
module

public import proofs.«01_k».proof.Proof.Gen.WkvFwdIdeal.Value
public import Idealize.ShloMosaic.Lib.Pipeline.Value
public import Idealize.ShloMosaic.Lib.Pipeline.ValueKit
public import Idealize.ShloMosaic.Lib.Pointwise

@[expose] public section

noncomputable section

namespace Cert.WkvBlock

open Cert.WkvFwdIdeal Cert.WkvFwdIdeal.Gen Idealize.ShloMosaic

variable (x0 : FVec Ideal S256x2048 .bf16) (x1 : FVec Ideal S1x2048x1024 .bf16) (i : Fin 256) (j : Fin 1024)

/-- A point's product of its blocks. -/
def part : EReal := ∑ e : Fin 2048, x0 (ix2 i e) * x1 (ix3 0 e j)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S256x2048) inb_S256x2048_S256x2048_0_0 x0 (by decide)
  have h1 : View.ld (Val := Elt Ideal) (e' := .bf16) x1 r0_1 = x1 := View.ld_unit_lit (Val := Elt Ideal) (e := .bf16) (S := S1x2048x1024) inb_S1x2048x1024_S1x2048x1024_0_0_0 x1 (by decide)
  exact (congrFun (congr (congrArg (k0_pay1 (F := Ideal)) h0) h1) _).trans (pay1 x0 x1 i j)

end Cert.WkvBlock

end
-- ==== Proof.WkvArray.lean ====
/- The array the kernel `w_mem_kv` leaves: the projection of the memory tokens. -/
module

public import proofs.«01_k».proof.Proof.WkvBlock

@[expose] public section

noncomputable section

namespace Cert.WkvArray

open Cert.WkvFwdIdeal Cert.WkvFwdIdeal.Gen Idealize.ShloMosaic Idealize.ShloMosaic.TcCoe Cert.WkvBlock
open Idealize.ShloMosaic.Pipeline (Dat)

/-- The `n`-th summand of the product at row `r` and column `q`. -/
def summand (a : FVec Ideal S256x2048 .bf16) (w : FVec Ideal S1x2048x2048 .bf16) (r : Fin 256) (q : ℕ) (n : Fin 2048) : EReal :=
  a (ix2 r n) * w (ix3 (Fin.ofNat 1 (q / 2048)) n (Fin.ofNat 2048 q))

variable (m : (ℓ : Loc nD τ sig) → Buf (Elt Ideal) ℓ) (c : Dev nD)

/-- The product's first operand. -/
abbrev arg0 : FVec Ideal S256x2048 .bf16 := m ((c : Thread nD τ).loc main_arg0)
/-- The weights. -/
abbrev arg1 : FVec Ideal S1x2048x2048 .bf16 := m ((c : Thread nD τ).loc main_arg1)

theorem index0 : ∀ t : Fin cfg0.N, win0_0.index t 0 = t.val / 2 ∧ win0_0.index t 1 = 0 := by
  show ∀ t : Fin grid0.N, _; decide +kernel
theorem index1 : ∀ t : Fin cfg0.N, win0_1.index t 0 = t.val % 2 / 2 ∧ win0_1.index t 1 = 0 ∧ win0_1.index t 2 = t.val % 2 % 2 := by
  show ∀ t : Fin grid0.N, _; decide +kernel
theorem index2 : ∀ t : Fin cfg0.N, win0_2.index t 0 = t.val / 2 ∧ win0_2.index t 1 = t.val % 2 := by
  show ∀ t : Fin grid0.N, _; decide +kernel

theorem lt_pts (t : Fin cfg0.N) : t.val < 2 := lt_of_lt_of_eq t.isLt (show cfg0.N = 2 from N_0)

/-- Row `i` of point `t`'s block of the result. -/
def row (t : ℕ) (i : Fin 256) : Fin 256 := Fin.ofNat 256 (256 * (t / 2) + i.val)
/-- Column `j` of point `t`'s block of the result. -/
def col (t : ℕ) (j : Fin 1024) : ℕ := 1024 * (t % 2) + j.val

theorem iblk0 (t : Fin cfg0.N) (i : Fin 256) (e : Fin 2048) : iblk m c 0 t (ix2 i e) = arg0 m c (ix2 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 256 + 1 * i.val = (256 * (t.val / 2) + i.val) % 256; rw [hi.1]; omega
  | ⟨1, _⟩ => show win0_0.index t 1 * 2048 + 1 * e.val = e.val; rw [hi.2]; omega

theorem iblk1 (t : Fin cfg0.N) (e : Fin 2048) (j : Fin 1024) :
    iblk m c 1 t (ix3 0 e j) = (fun w : FVec Ideal S1x2048x2048 .bf16 => fun (q : ℕ) (n : Fin 2048) => w (ix3 (Fin.ofNat 1 (q / 2048)) n (Fin.ofNat 2048 q))) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = (1024 * (t.val % 2) + j.val) / 2048 % 1; rw [hi.1]; omega
  | ⟨1, _⟩ => show win0_1.index t 1 * 2048 + 1 * e.val = e.val; rw [hi.2.1]; omega
  | ⟨2, _⟩ => show win0_1.index t 2 * 1024 + 1 * j.val = (1024 * (t.val % 2) + j.val) % 2048; rw [hi.2.2]; omega

/-- A point's part in the operands' entries. -/
theorem part_point (t : Fin cfg0.N) (i : Fin 256) (j : Fin 1024) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S256x2048.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 256) (j : Fin 1024), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (256 * (t.val / 2) + i.val) % 256 = win0_2.index t 0 * 256 + 1 * i.val
    rw [hi.1]; omega
  · show 1024 * (t.val % 2) + j.val = win0_2.index t 1 * 1024 + 1 * j.val
    rw [hi.2]; omega

end Cert.WkvArray

end
-- ==== Proof.WkvClaim.lean ====
/- The kernel `w_mem_kv`: what its reference computes, at an index, and the claims. -/
module

public import proofs.«01_k».proof.Defs
public import proofs.«01_k».proof.Proof.WkvArray
public import proofs.«01_k».proof.Proof.Gen.WkvFwd
public import proofs.«01_k».proof.Proof.Gen.WkvFwd.Frame
public import proofs.«01_k».proof.Proof.Gen.WkvRefIdeal.Read

@[expose] public section

noncomputable section

namespace Cert.WkvClaim

open Idealize.ShloMosaic Idealize.SL.Sem Cert.WkvArray Cert.WkvRefIdeal Cert.WkvRefIdeal.Read

/-- The reference's result is the sum over the columns. -/
theorem ref (x0 : FVec Ideal S256x2048 .bf16) (x1 : FVec Ideal S1x2048x2048 .bf16) (y : S256x2048.Idx) :
    val_main_v5 (F := Ideal) x0 x1 y = ∑ n, summand x0 x1 (y 0) (y 1).val n := by
  refine (val_main_v5_apply ..).trans ((val_main_v4_apply ..).trans (Finset.sum_congr rfl fun n _ => ?_))
  rw [val_main_v3_apply, val_main_v2_apply]
  show _ = x0 (ix2 (y 0) n) * x1 (ix3 (Fin.ofNat 1 ((y 1).val / 2048)) n (Fin.ofNat 2048 (y 1).val))
  have h0 : (y 1).val < 2048 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => show 0 = (y 1).val / 2048 % 1; omega
    | ⟨1, _⟩ => show (n.val * 2048 + (y 1).val) / 2048 = n.val; omega
    | ⟨2, _⟩ => show (n.val * 2048 + (y 1).val) % 2048 = (y 1).val % 2048; omega

/-- The kernel's result is the reference's. -/
theorem algebraic : algebraic_WkvFwdIdeal_WkvRefIdeal (hWkvFwdIdeal := Cert.WkvFwdIdeal.Gen.facts)
    (hWkvRefIdeal := Cert.WkvRefIdeal.Gen.facts) := by
  intro m ρ m' ρ' _ hagree
  refine ⟨fun c => (Cert.WkvFwdIdeal.Gen.dats m 0 c).arrAt 2 Cert.WkvFwdIdeal.cfg0.N, Cert.WkvFwdIdeal.Value.run_blocks m ρ, ?_⟩
  refine (θ_run _ _ _).mono (fun r h c => ?_) (Cert.WkvRefIdeal.Value.run (F := Ideal) m' ρ')
  obtain ⟨hv, hargs⟩ := h c
  obtain ⟨a0, a1⟩ := hagree c
  refine ⟨hv.trans ?_, hargs⟩
  rw [val_main_v5_eq, a0, a1]
  exact Eq.trans (funext fun y => ref (arg0 m c) (arg1 m c) y) (array m c).symm

theorem frame_p : quiescent_WkvFwd (hWkvFwd := Cert.WkvFwd.Gen.facts) := fun m ρ _ => Cert.WkvFwd.Gen.frame m ρ

theorem frame_pi : quiescent_WkvFwdIdeal (hWkvFwdIdeal := Cert.WkvFwdIdeal.Gen.facts) := fun m ρ _ => Cert.WkvFwdIdeal.Gen.frame m ρ

/-- The reference runs to its end and leaves its arguments; it declares no semaphore. -/
theorem frame_ri : quiescent_WkvRefIdeal (hWkvRefIdeal := Cert.WkvRefIdeal.Gen.facts) := fun m ρ _ =>
  (θ_run _ _ _).mono (fun r h => And.intro (fun c => (h c).2) (sem_eq_zero_of_no_sems (by decide) r.2))
    (Cert.WkvRefIdeal.Value.run (F := Ideal) m ρ)

end Cert.WkvClaim

end
-- ==== Proof.DkvBlock.lean ====
/- What one point of the kernel `d_mem_norm` leaves in its output. -/
module

public import proofs.«01_k».proof.Proof.Gen.DkvBwdIdeal.Value
public import Idealize.ShloMosaic.Lib.Pipeline.Value
public import Idealize.ShloMosaic.Lib.Pipeline.ValueKit
public import Idealize.ShloMosaic.Lib.Pointwise

@[expose] public section

noncomputable section

namespace Cert.DkvBlock

open Cert.DkvBwdIdeal Cert.DkvBwdIdeal.Gen Idealize.ShloMosaic

variable (x0 : FVec Ideal S256x2048 .bf16) (x1 : FVec Ideal S1x1024x2048 .bf16) (i : Fin 256) (j : Fin 1024)

/-- A point's product of its blocks. -/
def part : EReal := ∑ e : Fin 2048, x0 (ix2 i e) * x1 (ix3 0 j e)

/-- What a point stores. -/
theorem pay1 : k0_pay1 (F := Ideal) x0 x1 (ix2 i j) = part x0 x1 i j := by
  unfold part
  pointwise [k0_pay1]

/-- The output's block after the point. -/
theorem out : out0_2 (F := Ideal) x0 x1 (ix2 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S256x2048) inb_S256x2048_S256x2048_0_0 x0 (by decide)
  have h1 : View.ld (Val := Elt Ideal) (e' := .bf16) x1 r0_1 = x1 := View.ld_unit_lit (Val := Elt Ideal) (e := .bf16) (S := S1x1024x2048) inb_S1x1024x2048_S1x1024x2048_0_0_0 x1 (by decide)
  exact (congrFun (congr (congrArg (k0_pay1 (F := Ideal)) h0) h1) _).trans (pay1 x0 x1 i j)

end Cert.DkvBlock

end
-- ==== Proof.DkvArray.lean ====
/- The array the kernel `d_mem_norm` leaves: the gradient of the memory tokens' projection, in its argument. -/
module

public import proofs.«01_k».proof.Proof.DkvBlock

@[expose] public section

noncomputable section

namespace Cert.DkvArray

open Cert.DkvBwdIdeal Cert.DkvBwdIdeal.Gen Idealize.ShloMosaic Idealize.ShloMosaic.TcCoe Cert.DkvBlock
open Idealize.ShloMosaic.Pipeline (Dat)

/-- The `n`-th summand of the product at row `r` and column `q`. -/
def summand (a : FVec Ideal S256x2048 .bf16) (w : FVec Ideal S1x2048x2048 .bf16) (r : Fin 256) (q : ℕ) (n : Fin 2048) : EReal :=
  a (ix2 r n) * w (ix3 0 (Fin.ofNat 2048 q) n)

variable (m : (ℓ : Loc nD τ sig) → Buf (Elt Ideal) ℓ) (c : Dev nD)

/-- The product's first operand. -/
abbrev arg0 : FVec Ideal S256x2048 .bf16 := m ((c : Thread nD τ).loc main_arg0)
/-- The weights. -/
abbrev arg1 : FVec Ideal S1x2048x2048 .bf16 := m ((c : Thread nD τ).loc main_arg1)

theorem index0 : ∀ t : Fin cfg0.N, win0_0.index t 0 = t.val / 2 ∧ win0_0.index t 1 = 0 := by
  show ∀ t : Fin grid0.N, _; decide +kernel
theorem index1 : ∀ t : Fin cfg0.N, win0_1.index t 0 = 0 ∧ win0_1.index t 1 = t.val % 2 ∧ win0_1.index t 2 = 0 := by
  show ∀ t : Fin grid0.N, _; decide +kernel
theorem index2 : ∀ t : Fin cfg0.N, win0_2.index t 0 = t.val / 2 ∧ win0_2.index t 1 = t.val % 2 := by
  show ∀ t : Fin grid0.N, _; decide +kernel

theorem lt_pts (t : Fin cfg0.N) : t.val < 2 := lt_of_lt_of_eq t.isLt (show cfg0.N = 2 from N_0)

/-- Row `i` of point `t`'s block of the result. -/
def row (t : ℕ) (i : Fin 256) : Fin 256 := Fin.ofNat 256 (256 * (t / 2) + i.val)
/-- Column `j` of point `t`'s block of the result. -/
def col (t : ℕ) (j : Fin 1024) : ℕ := 1024 * (t % 2) + j.val

theorem iblk0 (t : Fin cfg0.N) (i : Fin 256) (e : Fin 2048) : iblk m c 0 t (ix2 i e) = arg0 m c (ix2 (row t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 256 + 1 * i.val = (256 * (t.val / 2) + i.val) % 256; rw [hi.1]; omega
  | ⟨1, _⟩ => show win0_0.index t 1 * 2048 + 1 * e.val = e.val; rw [hi.2]; omega

theorem iblk1 (t : Fin cfg0.N) (e : Fin 2048) (j : Fin 1024) :
    iblk m c 1 t (ix3 0 j e) = (fun w : FVec Ideal S1x2048x2048 .bf16 => fun (q : ℕ) (n : Fin 2048) => w (ix3 0 (Fin.ofNat 2048 q) n)) (arg1 m c) (col t.val j) e := by
  have hi := index1 t
  have ht := lt_pts t
  refine (congrFun (V_main_arg1 m c) _).trans (congrArg (m _) (funext fun a => Fin.ext ?_))
  have h1 := j.isLt
  match a with
  | ⟨0, _⟩ => show win0_1.index t 0 * 1 + 1 * 0 = 0; rw [hi.1]
  | ⟨1, _⟩ => show win0_1.index t 1 * 1024 + 1 * j.val = (1024 * (t.val % 2) + j.val) % 2048; rw [hi.2.1]; omega
  | ⟨2, _⟩ => show win0_1.index t 2 * 2048 + 1 * e.val = e.val; rw [hi.2.2]; omega

/-- A point's part in the operands' entries. -/
theorem part_point (t : Fin cfg0.N) (i : Fin 256) (j : Fin 1024) :
    part (iblk m c 0 t) (iblk m c 1 t) i j = ∑ n, summand (arg0 m c) (arg1 m c) (row t.val i) (col t.val j) n :=
  Finset.sum_congr rfl fun e _ => congr (congrArg HMul.hMul (iblk0 m c t i e)) (iblk1 m c t e j)

/-- THE RESULT: every entry is the whole sum. -/
theorem array : (dats m 0 c).arrAt 2 cfg0.N = fun y : S256x2048.Idx => ∑ n, summand (arg0 m c) (arg1 m c) (y 0) (y 1).val n := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 256) (j : Fin 1024), y = ix2 i j := ⟨y 0, y 1, eq_ix2 y⟩
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (256 * (t.val / 2) + i.val) % 256 = win0_2.index t 0 * 256 + 1 * i.val
    rw [hi.1]; omega
  · show 1024 * (t.val % 2) + j.val = win0_2.index t 1 * 1024 + 1 * j.val
    rw [hi.2]; omega

end Cert.DkvArray

end
-- ==== Proof.DkvClaim.lean ====
/- The kernel `d_mem_norm`: what its reference computes, at an index, and the claims. -/
module

public import proofs.«01_k».proof.Defs
public import proofs.«01_k».proof.Proof.DkvArray
public import proofs.«01_k».proof.Proof.Gen.DkvBwd
public import proofs.«01_k».proof.Proof.Gen.DkvBwd.Frame
public import proofs.«01_k».proof.Proof.Gen.DkvGradIdeal.Read

@[expose] public section

noncomputable section

namespace Cert.DkvClaim

open Idealize.ShloMosaic Idealize.SL.Sem Cert.DkvArray Cert.DkvGradIdeal Cert.DkvGradIdeal.Read

/-- The reference's result is the sum over the columns. -/
theorem ref (x0 : FVec Ideal S256x2048 .bf16) (x1 : FVec Ideal S1x2048x2048 .bf16) (y : S256x2048.Idx) :
    val_main_v11 (F := Ideal) x0 x1 y = ∑ n, summand x0 x1 (y 0) (y 1).val n := by
  refine (val_main_v11_apply ..).trans ((val_main_v8_apply ..).trans (Finset.sum_congr rfl fun n _ => ?_))
  rw [val_main_v3_apply, val_main_v2_apply]
  show _ = x0 (ix2 (y 0) n) * x1 (ix3 0 (Fin.ofNat 2048 (y 1).val) n)
  have h0 : (y 1).val < 2048 := (y 1).isLt
  have h1 := n.isLt
  refine congr (congrArg HMul.hMul (congrArg x0 (funext fun a => Fin.ext ?_))) (congrArg x1 (funext fun a => Fin.ext ?_))
  · match a with
    | ⟨0, _⟩ => rfl
    | ⟨1, _⟩ => rfl
  · match a with
    | ⟨0, _⟩ => rfl
    | ⟨1, _⟩ => show ((y 1).val * 2048 + n.val) / 2048 = (y 1).val % 2048; omega
    | ⟨2, _⟩ => show ((y 1).val * 2048 + n.val) % 2048 = n.val; omega

/-- The kernel's result is the reference's. -/
theorem algebraic : algebraic_DkvBwdIdeal_DkvGradIdeal (hDkvBwdIdeal := Cert.DkvBwdIdeal.Gen.facts)
    (hDkvGradIdeal := Cert.DkvGradIdeal.Gen.facts) := by
  intro m ρ m' ρ' _ hagree
  refine ⟨fun c => (Cert.DkvBwdIdeal.Gen.dats m 0 c).arrAt 2 Cert.DkvBwdIdeal.cfg0.N, Cert.DkvBwdIdeal.Value.run_blocks m ρ, ?_⟩
  refine (θ_run _ _ _).mono (fun r h c => ?_) (Cert.DkvGradIdeal.Value.run (F := Ideal) m' ρ')
  obtain ⟨hv, hargs⟩ := h c
  obtain ⟨a0, a1⟩ := hagree c
  refine ⟨hv.trans ?_, hargs⟩
  rw [val_main_v11_eq, a0, a1]
  exact Eq.trans (funext fun y => ref (arg0 m c) (arg1 m c) y) (array m c).symm

theorem frame_p : quiescent_DkvBwd (hDkvBwd := Cert.DkvBwd.Gen.facts) := fun m ρ _ => Cert.DkvBwd.Gen.frame m ρ

theorem frame_pi : quiescent_DkvBwdIdeal (hDkvBwdIdeal := Cert.DkvBwdIdeal.Gen.facts) := fun m ρ _ => Cert.DkvBwdIdeal.Gen.frame m ρ

/-- The reference runs to its end and leaves its arguments; it declares no semaphore. -/
theorem frame_ri : quiescent_DkvGradIdeal (hDkvGradIdeal := Cert.DkvGradIdeal.Gen.facts) := fun m ρ _ =>
  (θ_run _ _ _).mono (fun r h => And.intro (fun c => (h c).2) (sem_eq_zero_of_no_sems (by decide) r.2))
    (Cert.DkvGradIdeal.Value.run (F := Ideal) m ρ)

end Cert.DkvClaim

end
-- ==== Proof.GkvBlock.lean ====
/- What one point of the kernel `g_w_mem_kv` leaves in its output. -/
module

public import proofs.«01_k».proof.Proof.Gen.GkvBwdIdeal.Value
public import Idealize.ShloMosaic.Lib.Pipeline.Value
public import Idealize.ShloMosaic.Lib.Pipeline.ValueKit
public import Idealize.ShloMosaic.Lib.Pointwise

@[expose] public section

noncomputable section

namespace Cert.GkvBlock

open Cert.GkvBwdIdeal Cert.GkvBwdIdeal.Gen Idealize.ShloMosaic

variable (x0 : FVec Ideal S256x1024 .bf16) (x1 : FVec Ideal S256x1024 .bf16) (i : Fin 1024) (j : Fin 1024)

/-- A point's product of its blocks. -/
def part : EReal := ∑ e : Fin 256, x0 (ix2 e i) * x1 (ix2 e j)

/-- What a point stores. -/
theorem pay1 : k0_pay1 (F := Ideal) x0 x1 (ix3 0 i j) = part x0 x1 i j := by
  unfold part
  pointwise [k0_pay1]

/-- The output's block after the point. -/
theorem out : out0_2 (F := Ideal) x0 x1 (ix3 0 i j) = part x0 x1 i j := by
  unfold out0_2
  refine (congrFun (View.canon_cons_unit_lit (Val := Elt Ideal) _ _ _ (by decide)) _).trans ?_
  have h0 : View.ld (Val := Elt Ideal) (e' := .bf16) x0 r0_0 = x0 := View.ld_unit_lit (Val := Elt Ideal) (e := .bf16) (S := S256x1024) inb_S256x1024_S256x1024_0_0 x0 (by decide)
  have h1 : View.ld (Val := Elt Ideal) (e' := .bf16) x1 r0_0 = x1 := View.ld_unit_lit (Val := Elt Ideal) (e := .bf16) (S := S256x1024) inb_S256x1024_S256x1024_0_0 x1 (by decide)
  exact (congrFun (congr (congrArg (k0_pay1 (F := Ideal)) h0) h1) _).trans (pay1 x0 x1 i j)

end Cert.GkvBlock

end
-- ==== Proof.GkvArray.lean ====
/- The array the kernel `g_w_mem_kv` leaves: the gradient of the weights of the memory tokens' projection. -/
module

public import proofs.«01_k».proof.Proof.GkvBlock

@[expose] public section

noncomputable section

namespace Cert.GkvArray

open Cert.GkvBwdIdeal Cert.GkvBwdIdeal.Gen Idealize.ShloMosaic Idealize.ShloMosaic.TcCoe Cert.GkvBlock
open Idealize.ShloMosaic.Pipeline (Dat)

/-- Memory token `n`'s summand of the result at row `r` and column `q`. -/
def summand (a b : FVec Ideal S256x2048 .bf16) (r : Fin 2048) (q : ℕ) (n : Fin 256) : EReal :=
  a (ix2 n r) * b (ix2 n (Fin.ofNat 2048 q))

variable (m : (ℓ : Loc nD τ sig) → Buf (Elt Ideal) ℓ) (c : Dev nD)

/-- The product's first operand. -/
abbrev arg0 : FVec Ideal S256x2048 .bf16 := m ((c : Thread nD τ).loc main_arg0)
/-- The gradient of the product. -/
abbrev arg1 : FVec Ideal S256x2048 .bf16 := m ((c : Thread nD τ).loc main_arg1)

theorem index0 : ∀ t : Fin cfg0.N, win0_0.index t 0 = 0 ∧ win0_0.index t 1 = t.val / 2 := by
  show ∀ t : Fin grid0.N, _; decide +kernel
theorem index1 : ∀ t : Fin cfg0.N, win0_1.index t 0 = 0 ∧ win0_1.index t 1 = t.val % 2 := by
  show ∀ t : Fin grid0.N, _; decide +kernel
theorem index2 : ∀ t : Fin cfg0.N, win0_2.index t 0 = 0 ∧ win0_2.index t 1 = t.val / 2 ∧ win0_2.index t 2 = t.val % 2 := by
  show ∀ t : Fin grid0.N, _; decide +kernel

theorem lt_pts (t : Fin cfg0.N) : t.val < 4 := lt_of_lt_of_eq t.isLt (show cfg0.N = 4 from N_0)

/-- Row `i` of point `t`'s block of the result. -/
def row (t : ℕ) (i : Fin 1024) : Fin 2048 := Fin.ofNat 2048 (1024 * (t / 2) + i.val)
/-- Column `j` of point `t`'s block of the result. -/
def col (t : ℕ) (j : Fin 1024) : ℕ := 1024 * (t % 2) + j.val

theorem iblk0 (t : Fin cfg0.N) (e : Fin 256) (i : Fin 1024) : iblk m c 0 t (ix2 e i) = arg0 m c (ix2 e (row t.val i)) := by
  have hi := index0 t
  have ht := lt_pts t
  refine (congrFun (V_main_arg0 m c) _).trans (congrArg (m _) (funext fun a => Fin.ext ?_))
  have h1 := i.isLt
  match a with
  | ⟨0, _⟩ => show win0_0.index t 0 * 256 + 1 * e.val = e.val; rw [hi.1]; omega
  | ⟨1, _⟩ => show win0_0.index t 1 * 1024 + 1 * i.val = (1024 * (t.val / 2) + i.val) % 2048; rw [hi.2]; omega

theorem iblk1 (t : Fin cfg0.N) (e : Fin 256) (j : Fin 1024) : iblk m c 1 t (ix2 e j) = arg1 m c (ix2 e (Fin.ofNat 2048 (col t.val j))) := by
  have hi := index1 t
  have ht := lt_pts t
  refine (congrFun (V_main_arg1 m c) _).trans (congrArg (m _) (funext fun a => Fin.ext ?_))
  have h1 := j.isLt
  match a with
  | ⟨0, _⟩ => show win0_1.index t 0 * 256 + 1 * e.val = e.val; rw [hi.1]; omega
  | ⟨1, _⟩ => show win0_1.index t 1 * 1024 + 1 * j.val = (1024 * (t.val % 2) + j.val) % 2048; rw [hi.2]; omega

/-- A point's part in the operands' entries. -/
theorem part_point (t : Fin cfg0.N) (i : Fin 1024) (j : Fin 1024) :
    part (iblk m c 0 t) (iblk m c 1 t) i j = ∑ n, summand (arg0 m c) (arg1 m c) (row t.val i) (col t.val j) n :=
  Finset.sum_congr rfl fun e _ => congr (congrArg HMul.hMul (iblk0 m c t e i)) (iblk1 m c t e j)

/-- THE RESULT: every entry is the sum over the memory tokens. -/
theorem array : (dats m 0 c).arrAt 2 cfg0.N = fun y : S1x2048x2048.Idx => ∑ n, summand (arg0 m c) (arg1 m c) (y 1) (2048 * (y 0).val + (y 2).val) n := by
  refine (dats m 0 c).arrAt_eq_of_covers 2 _ (by decide +kernel) fun t hf y => ?_
  show (dats m 0 c).after 2 t y = _
  have hi := index2 t
  have ht := lt_pts t
  obtain ⟨z, i, j, rfl⟩ : ∃ (z : Fin 1) (i : Fin 1024) (j : Fin 1024), y = ix3 z i j := ⟨y 0, y 1, y 2, eq_ix3 y⟩
  obtain rfl : z = 0 := Subsingleton.elim _ _
  rw [after0_2]
  refine (out ..).trans ((part_point m c t i j).trans ?_)
  have h1 := i.isLt
  have h2 := j.isLt
  refine Finset.sum_congr rfl fun n _ => congrFun (congr (congrArg (summand (arg0 m c) (arg1 m c)) (Fin.ext ?_)) ?_) n
  · show (1024 * (t.val / 2) + i.val) % 2048 = win0_2.index t 1 * 1024 + 1 * i.val
    rw [hi.2.1]; omega
  · show 1024 * (t.val % 2) + j.val = 2048 * (win0_2.index t 0 * 1 + 1 * 0) + (win0_2.index t 2 * 1024 + 1 * j.val)
    rw [hi.1, hi.2.2]; omega

end Cert.GkvArray

end
-- ==== Proof.GkvClaim.lean ====
/- The kernel `g_w_mem_kv`: what its reference computes, at an index, and the claims. -/
module

public import proofs.«01_k».proof.Defs
public import proofs.«01_k».proof.Proof.GkvArray
public import proofs.«01_k».proof.Proof.Gen.GkvBwd
public import proofs.«01_k».proof.Proof.Gen.GkvBwd.Frame
public import proofs.«01_k».proof.Proof.Gen.GkvGradIdeal.Read

@[expose] public section

noncomputable section

namespace Cert.GkvClaim

open Idealize.ShloMosaic Idealize.SL.Sem Cert.GkvArray Cert.GkvGradIdeal Cert.GkvGradIdeal.Read

/-- The reference's result is the sum over the memory tokens. -/
theorem ref (x0 : FVec Ideal S256x2048 .bf16) (x1 : FVec Ideal S256x2048 .bf16) (y : S1x2048x2048.Idx) :
    val_main_v11 (F := Ideal) x0 x1 y = ∑ n, summand x0 x1 (y 1) (2048 * (y 0).val + (y 2).val) n := by
  refine (val_main_v11_apply ..).trans ((val_main_v10_apply ..).trans ((val_main_v9_apply ..).trans ((val_main_v7_apply ..).trans
    ((val_main_v6_apply ..).trans (Finset.sum_congr rfl fun n _ => (mul_comm _ _).trans ?_)))))
  have h0 : (y 0).val < 1 := (y 0).isLt
  have h1 : (y 1).val < 2048 := (y 1).isLt
  have h2 : (y 2).val < 2048 := (y 2).isLt
  show _ = x0 (ix2 n (y 1)) * x1 (ix2 n (Fin.ofNat 2048 (2048 * (y 0).val + (y 2).val)))
  refine congr (congrArg HMul.hMul (congrArg x0 (funext fun a => Fin.ext ?_))) (congrArg x1 (funext fun a => Fin.ext ?_))
  · match a with
    | ⟨0, _⟩ => rfl
    | ⟨1, _⟩ => show (((y 1).val * 1 + (y 0).val) * 2048 + (y 2).val) / 2048 = (y 1).val; omega
  · match a with
    | ⟨0, _⟩ => rfl
    | ⟨1, _⟩ => show (((y 1).val * 1 + (y 0).val) * 2048 + (y 2).val) % 2048 = (2048 * (y 0).val + (y 2).val) % 2048; omega

/-- The kernel's result is the reference's. -/
theorem algebraic : algebraic_GkvBwdIdeal_GkvGradIdeal (hGkvBwdIdeal := Cert.GkvBwdIdeal.Gen.facts)
    (hGkvGradIdeal := Cert.GkvGradIdeal.Gen.facts) := by
  intro m ρ m' ρ' _ hagree
  refine ⟨fun c => (Cert.GkvBwdIdeal.Gen.dats m 0 c).arrAt 2 Cert.GkvBwdIdeal.cfg0.N, Cert.GkvBwdIdeal.Value.run_blocks m ρ, ?_⟩
  refine (θ_run _ _ _).mono (fun r h c => ?_) (Cert.GkvGradIdeal.Value.run (F := Ideal) m' ρ')
  obtain ⟨hv, hargs⟩ := h c
  obtain ⟨a0, a1⟩ := hagree c
  refine ⟨hv.trans ?_, hargs⟩
  rw [val_main_v11_eq, a0, a1]
  exact Eq.trans (funext fun y => ref (arg0 m c) (arg1 m c) y) (array m c).symm

theorem frame_p : quiescent_GkvBwd (hGkvBwd := Cert.GkvBwd.Gen.facts) := fun m ρ _ => Cert.GkvBwd.Gen.frame m ρ

theorem frame_pi : quiescent_GkvBwdIdeal (hGkvBwdIdeal := Cert.GkvBwdIdeal.Gen.facts) := fun m ρ _ => Cert.GkvBwdIdeal.Gen.frame m ρ

/-- The reference runs to its end and leaves its arguments; it declares no semaphore. -/
theorem frame_ri : quiescent_GkvGradIdeal (hGkvGradIdeal := Cert.GkvGradIdeal.Gen.facts) := fun m ρ _ =>
  (θ_run _ _ _).mono (fun r h => And.intro (fun c => (h c).2) (sem_eq_zero_of_no_sems (by decide) r.2))
    (Cert.GkvGradIdeal.Value.run (F := Ideal) m ρ)

end Cert.GkvClaim

end
-- ==== Proof.MemfBlock.lean ====
/- What one point of the memory attention's forward kernel leaves in its output. -/
module

public import proofs.«01_k».proof.Proof.MemHead
public import proofs.«01_k».proof.Proof.Gen.MemFwdIdeal.Value
public import Idealize.ShloMosaic.Lib.Pipeline.Value
public import Idealize.ShloMosaic.Lib.Pipeline.ValueKit
public import Idealize.ShloMosaic.Lib.Pipeline.ReadBack

@[expose] public section

noncomputable section

namespace Cert.MemfBlock

open Cert.MemFwdIdeal Cert.MemFwdIdeal.Gen Idealize.ShloMosaic Cert.MemHead Cert.Softmax

/-- Head `h`'s output, from every head's queries, keys and values. -/
def outH {n : ℕ} (q : ℕ → Fin n → Fin 256 → EReal) (k : ℕ → Fin 256 → Fin 256 → EReal) (v : ℕ → Fin 256 → Fin 256 → EReal)
    (h : ℕ) (i : Fin n) (d : Fin 256) : EReal :=
  ∑ j, prob (score scale (q h) (k h) i) j * v h j d

/-- One head of one block. -/
theorem head_apply (q : FVec Ideal S512x256 .bf16) (k v : FVec Ideal S256x256 .bf16) (i : Fin 512) (d : Fin 256) :
    k0_pay2 (F := Ideal) q k v (ix2 i d) = ∑ j, prob (score scale (rows q) (rows k) i) j * rows v j d := by
  pointwise [k0_pay2]
  rw [ofBits_neg_inf]
  rfl

/-- The block's output: column `y 1` belongs to head `y 1 / 256`. -/
def blk (x0 : FVec Ideal S512x1024 .bf16) (x1 : FVec Ideal S256x2048 .bf16) (y : S512x1024.Idx) : EReal :=
  outH (fun h => col x0 (256 * h)) (fun h => col x1 (256 * h)) (fun h => col x1 (1024 + 256 * h)) ((y 1).val / 256) (y 0) (Fin.ofNat 256 (y 1).val)

variable (x0 : FVec Ideal S512x1024 .bf16) (x1 : FVec Ideal S256x2048 .bf16)

/-- 256 columns read from a block. -/
theorem rows_ld {n N : ℕ} [NeZero N] (x : FVec Ideal ⟨2, ![n, N]⟩ .bf16) (off : ℕ) (inb) :
    rows (φ := .bf16) (View.ld (Val := Elt Ideal) (e' := .bf16) x (Rect.unit (s := ⟨2, ![n, N]⟩) ![0, off] ![n, 256] inb)) = col x off := by
  funext i d
  have h1 : off + 256 ≤ N := inb 1
  have hd := d.isLt
  refine congrArg x (funext fun a => Fin.ext ?_)
  match a with
  | ⟨0, _⟩ => show 0 + 1 * i.val = i.val; omega
  | ⟨1, _⟩ =>
    show off + 1 * d.val = (off + d.val) % N
    rw [Nat.mod_eq_of_lt (by omega)]; omega

/-- Head `h`'s store is that part of `blk`. -/
theorem piece (h : ℕ) (q : FVec Ideal S512x256 .bf16) (k v : FVec Ideal S256x256 .bf16) (hq : rows q = col x0 (256 * h))
    (hk : rows k = col x1 (256 * h)) (hv : rows v = col x1 (1024 + 256 * h)) (inb) (x : S512x256.Idx) :
    k0_pay2 (F := Ideal) q k v x = blk x0 x1 ((Rect.unit (s := S512x1024) ![0, 256 * h] ![512, 256] inb).emb x) := by
  obtain ⟨r, d, rfl⟩ : ∃ (r : Fin _) (d : Fin 256), x = ix2 r d := ⟨x 0, x 1, eq_ix2 x⟩
  have h1 := d.isLt
  rw [head_apply, hq, hk, hv]
  unfold blk outH
  have e1 : ((Rect.unit (s := S512x1024) ![0, 256 * h] ![512, 256] inb).emb (ix2 r d) 1).val = 256 * h + d.val :=
    (show 256 * h + 1 * d.val = _ by omega)
  have e0 : (Rect.unit (s := S512x1024) ![0, 256 * h] ![512, 256] inb).emb (ix2 r d) 0 = r :=
    Fin.ext (show 0 + 1 * r.val = _ by omega)
  rw [e0, e1, show (256 * h + d.val) / 256 = h by omega,
    show Fin.ofNat 256 (256 * h + d.val) = d from Fin.ext (show (256 * h + d.val) % 256 = _ by omega)]

/-- The output's block after the point. -/
theorem out (y : S512x1024.Idx) : out0_2 (F := Ideal) x0 x1 y = blk x0 x1 y := by
  unfold out0_2
  refine View.canon_append_of_pieces (Val := Elt Ideal) (S := S512x1024) (e := .bf16) (blk x0 x1) [] [_, _, _, _] ?_ y
    (cover0_2 (F := Ideal) _ _ _ _ y)
  refine List.forall_mem_cons.2 ⟨?_, List.forall_mem_cons.2 ⟨?_, List.forall_mem_cons.2 ⟨?_, List.forall_mem_cons.2 ⟨?_, by simp⟩⟩⟩⟩
  · exact piece x0 x1 3 _ _ _ (rows_ld x0 768 _) (rows_ld x1 768 _) (rows_ld x1 1792 _) inb_S512x1024_S512x256_0_768
  · exact piece x0 x1 2 _ _ _ (rows_ld x0 512 _) (rows_ld x1 512 _) (rows_ld x1 1536 _) inb_S512x1024_S512x256_0_512
  · exact piece x0 x1 1 _ _ _ (rows_ld x0 256 _) (rows_ld x1 256 _) (rows_ld x1 1280 _) inb_S512x1024_S512x256_0_256
  · exact piece x0 x1 0 _ _ _ (rows_ld x0 0 _) (rows_ld x1 0 _) (rows_ld x1 1024 _) inb_S512x1024_S512x256_0_0

end Cert.MemfBlock

end
-- ==== Proof.MemfArray.lean ====
/- The array the memory attention's forward kernel leaves. -/
module

public import proofs.«01_k».proof.Proof.MemfBlock

@[expose] public section

noncomputable section

namespace Cert.MemfArray

open Cert.MemFwdIdeal Cert.MemFwdIdeal.Gen Idealize.ShloMosaic Idealize.ShloMosaic.TcCoe Cert.MemHead Cert.MemfBlock
open Idealize.ShloMosaic.Pipeline (Dat)

/-- The attention's output over all tokens, column `e` of 1024: head `e / 256`. -/
def outAll (proj : FVec Ideal S8192x12288 .bf16) (kv : FVec Ideal S256x2048 .bf16) (i : Fin 8192) (e : ℕ) : EReal :=
  outH (fun h => col proj (5120 + 256 * h)) (fun h => col kv (256 * h)) (fun h => col kv (1024 + 256 * h)) (e / 256) i (Fin.ofNat 256 e)

/-- Row `i` of block `t` of the tokens. -/
def row (t : ℕ) (i : Fin 512) : Fin 8192 := Fin.ofNat 8192 (512 * t + i.val)

variable (m : (ℓ : Loc nD τ sig) → Buf (Elt Ideal) ℓ) (c : Dev nD)

/-- The projections. -/
abbrev proj : FVec Ideal S8192x12288 .bf16 := m ((c : Thread nD τ).loc main_arg0)
/-- The memory's keys and values. -/
abbrev kv : FVec Ideal S256x2048 .bf16 := m ((c : Thread nD τ).loc main_arg1)

theorem index0 : ∀ t : Fin cfg0.N, win0_0.index t 0 = t.val ∧ win0_0.index t 1 = 5 := by
  show ∀ t : Fin grid0.N, _; decide +kernel
theorem index1 : ∀ t : Fin cfg0.N, win0_1.index t 0 = 0 ∧ win0_1.index t 1 = 0 := by
  show ∀ t : Fin grid0.N, _; decide +kernel
theorem index2 : ∀ t : Fin cfg0.N, win0_2.index t 0 = t.val ∧ win0_2.index t 1 = 0 := by
  show ∀ t : Fin grid0.N, _; decide +kernel

theorem lt16 (t : Fin cfg0.N) : t.val < 16 := lt_of_lt_of_eq t.isLt (show cfg0.N = 16 from N_0)

/-- The queries' block at point `t`. -/
theorem iblk0 (t : Fin cfg0.N) (i : Fin 512) (e : Fin 1024) :
    iblk m c 0 t (ix2 i e) = proj m c (ix2 (row t.val i) (Fin.ofNat 12288 (5120 + e.val))) := by
  have hi := index0 t
  have ht := lt16 t
  refine (congrFun (V_main_arg0 m c) _).trans (congrArg (m _) (funext fun a => Fin.ext ?_))
  have h1 := i.isLt
  have h2 := e.isLt
  match a with
  | ⟨0, _⟩ => show win0_0.index t 0 * 512 + 1 * i.val = (512 * t.val + i.val) % 8192; rw [hi.1]; omega
  | ⟨1, _⟩ => show win0_0.index t 1 * 1024 + 1 * e.val = (5120 + e.val) % 12288; rw [hi.2]; omega

/-- Every point reads all keys and values. -/
theorem iblk1 (t : Fin cfg0.N) : iblk m c 1 t = kv m c := by
  have hi := index1 t
  funext y
  refine (congrFun (V_main_arg1 m c) _).trans (congrArg (m _) (funext fun a => Fin.ext ?_))
  match a with
  | ⟨0, _⟩ => show win0_1.index t 0 * 256 + 1 * (y 0).val = (y 0).val; rw [hi.1]; omega
  | ⟨1, _⟩ => show win0_1.index t 1 * 2048 + 1 * (y 1).val = (y 1).val; rw [hi.2]; omega

theorem col0 (t : Fin cfg0.N) (h : ℕ) (hh : h < 4) :
    col (φ := .bf16) (N := 1024) (iblk m c 0 t) (256 * h) = fun i => col (proj m c) (5120 + 256 * h) (row t.val i) := by
  funext i d
  have := d.isLt
  unfold col
  rw [iblk0]
  refine congrArg (fun x => proj m c (ix2 _ x)) (Fin.ext ?_)
  show (5120 + (256 * h + d.val) % 1024) % 12288 = (5120 + 256 * h + d.val) % 12288
  omega

/-- Point `t`'s output is the whole array's at its rows. -/
theorem point (t : Fin cfg0.N) (y : S512x1024.Idx) :
    out0_2 (F := Ideal) (iblk m c 0 t) (iblk m c 1 t) y = outAll (proj m c) (kv m c) (row t.val (y 0)) (y 1).val := by
  rw [out]
  obtain ⟨i, e, rfl⟩ : ∃ (i : Fin 512) (e : Fin 1024), y = ix2 i e := ⟨y 0, y 1, eq_ix2 y⟩
  show outH _ _ _ (e.val / 256) i _ = outH _ _ _ (e.val / 256) (row t.val i) _
  have h1 := e.isLt
  unfold outH
  dsimp only
  rw [col0 m c t _ (by omega), iblk1]
  rfl

/-- THE RESULT: the attention's output. -/
theorem array : (dats m 0 c).arrAt 2 cfg0.N = fun y : S8192x1024.Idx => outAll (proj m c) (kv m c) (y 0) (y 1).val := by
  refine (dats m 0 c).arrAt_eq_of_covers 2 _ (by decide +kernel) fun t hf y => ?_
  show (dats m 0 c).after 2 t y = _
  have hi := index2 t
  have ht := lt16 t
  have h1 : (y 0).val < 512 := (y 0).isLt
  rw [after0_2, point]
  refine congr (congrArg _ (Fin.ext ?_)) ?_
  · show (512 * t.val + (y 0).val) % 8192 = win0_2.index t 0 * 512 + 1 * (y 0).val
    rw [hi.1]; omega
  · show (y 1).val = win0_2.index t 1 * 1024 + 1 * (y 1).val
    rw [hi.2]; omega

end Cert.MemfArray

end
-- ==== Proof.MemfClaim.lean ====
/- The memory attention's forward pass: what its reference computes, at an index, and the claims. -/
module

public import proofs.«01_k».proof.Defs
public import proofs.«01_k».proof.Proof.MemfArray
public import proofs.«01_k».proof.Proof.MemClaim
public import proofs.«01_k».proof.Proof.Gen.MemFwd
public import proofs.«01_k».proof.Proof.Gen.MemFwd.Frame
public import proofs.«01_k».proof.Proof.Gen.MemOutIdeal.Run
public import proofs.«01_k».proof.Proof.Gen.MemOutIdeal.Read
public import Idealize.ShloMosaic.Lib.KernelVsHost
public import Idealize.ShloMosaic.Lib.IdealHost

@[expose] public section

noncomputable section

namespace Cert.MemfClaim

open Idealize.ShloMosaic Idealize.SL.Sem Cert.MemHead Cert.MemfBlock Cert.MemfArray Cert.Softmax
open Cert.MemRef (sc Finite zero_bits)
open Cert.MemClaim (finite_of_cmp finite_score scale_real)

section Ref

open Cert.MemOutIdeal Cert.MemOutIdeal.Gen Cert.MemOutIdeal.Read

variable (x0 : FVec Ideal S8192x12288 .bf16) (x1 : FVec Ideal S256x2048 .bf16)

/-- The queries. -/
theorem v4 (i : S1x8192x4x256.Idx) : val_main_v4 (F := Ideal) x0 i = col x0 (5120 + 256 * (i 2).val) (i 1) (i 3) := by
  rw [val_main_v4_apply, val_main_v1_apply, val_main_v0_apply]
  have h0 : (i 0).val < 1 := (i 0).isLt
  have h1 : (i 1).val < 8192 := (i 1).isLt
  have h2 : (i 2).val < 4 := (i 2).isLt
  have h3 : (i 3).val < 256 := (i 3).isLt
  refine congrArg x0 (funext fun a => Fin.ext ?_)
  match a with
  | ⟨0, _⟩ => show ((((i 0).val * 8192 + (i 1).val) * 4 + (i 2).val) * 256 + (i 3).val) / 1024 = (i 1).val; omega
  | ⟨1, _⟩ =>
    show 5120 + ((((i 0).val * 8192 + (i 1).val) * 4 + (i 2).val) * 256 + (i 3).val) % 1024 = (5120 + 256 * (i 2).val + (i 3).val) % 12288
    omega

/-- The keys. -/
theorem v6 (i : S1x256x4x256.Idx) : val_main_v6 (F := Ideal) x1 i = col x1 (256 * (i 2).val) (i 1) (i 3) := by
  rw [val_main_v6_apply, val_main_v5_apply, val_main_v3_apply, val_main_v2_apply]
  have h0 : (i 0).val < 1 := (i 0).isLt
  have h1 : (i 1).val < 256 := (i 1).isLt
  have h2 : (i 2).val < 4 := (i 2).isLt
  have h3 : (i 3).val < 256 := (i 3).isLt
  refine congrArg x1 (funext fun a => Fin.ext ?_)
  match a with
  | ⟨0, _⟩ =>
    show ((((0 * 256 + ((((i 0).val * 256 + (i 1).val) * 4 + (i 2).val) * 256 + (i 3).val) / 1024 % 256) * 2 + 0) * 4
      + ((((i 0).val * 256 + (i 1).val) * 4 + (i 2).val) * 256 + (i 3).val) / 256 % 4) * 256
      + ((((i 0).val * 256 + (i 1).val) * 4 + (i 2).val) * 256 + (i 3).val) % 256) / 2048 = (i 1).val
    omega
  | ⟨1, _⟩ =>
    show ((((0 * 256 + ((((i 0).val * 256 + (i 1).val) * 4 + (i 2).val) * 256 + (i 3).val) / 1024 % 256) * 2 + 0) * 4
      + ((((i 0).val * 256 + (i 1).val) * 4 + (i 2).val) * 256 + (i 3).val) / 256 % 4) * 256
      + ((((i 0).val * 256 + (i 1).val) * 4 + (i 2).val) * 256 + (i 3).val) % 256) % 2048 = (256 * (i 2).val + (i 3).val) % 2048
    omega

/-- The values. -/
theorem v8 (i : S1x256x4x256.Idx) : val_main_v8 (F := Ideal) x1 i = col x1 (1024 + 256 * (i 2).val) (i 1) (i 3) := by
  rw [val_main_v8_apply, val_main_v7_apply, val_main_v3_apply, val_main_v2_apply]
  have h0 : (i 0).val < 1 := (i 0).isLt
  have h1 : (i 1).val < 256 := (i 1).isLt
  have h2 : (i 2).val < 4 := (i 2).isLt
  have h3 : (i 3).val < 256 := (i 3).isLt
  refine congrArg x1 (funext fun a => Fin.ext ?_)
  match a with
  | ⟨0, _⟩ =>
    show ((((0 * 256 + ((((i 0).val * 256 + (i 1).val) * 4 + (i 2).val) * 256 + (i 3).val) / 1024 % 256) * 2 + (1 + 0)) * 4
      + ((((i 0).val * 256 + (i 1).val) * 4 + (i 2).val) * 256 + (i 3).val) / 256 % 4) * 256
      + ((((i 0).val * 256 + (i 1).val) * 4 + (i 2).val) * 256 + (i 3).val) % 256) / 2048 = (i 1).val
    omega
  | ⟨1, _⟩ =>
    show ((((0 * 256 + ((((i 0).val * 256 + (i 1).val) * 4 + (i 2).val) * 256 + (i 3).val) / 1024 % 256) * 2 + (1 + 0)) * 4
      + ((((i 0).val * 256 + (i 1).val) * 4 + (i 2).val) * 256 + (i 3).val) / 256 % 4) * 256
      + ((((i 0).val * 256 + (i 1).val) * 4 + (i 2).val) * 256 + (i 3).val) % 256) % 2048 = (1024 + 256 * (i 2).val + (i 3).val) % 2048
    omega

/-- The scores. -/
theorem v11 (i : S1x4x8192x256.Idx) : val_main_v11 (F := Ideal) x0 x1 i = sc x0 x1 (i 1).val (i 2) (i 3) := by
  rw [val_main_v11_apply, val_main_v9_apply, val_main_v10_apply, val_main_cst_apply]
  simp only [v4, v6]
  rfl

/-- The rows' greatest scores. -/
theorem v12 (i : S1x4x8192.Idx) : val_main_v12 (F := Ideal) x0 x1 i = top (sc x0 x1 (i 1).val (i 2)) := by
  unfold val_main_v12
  have h' : S1x4x8192x256.Reduces [3] S1x4x8192 := ⟨reducesTo_S1x4x8192x256_S1x4x8192_d3.1, by decide, reducesTo_S1x4x8192x256_S1x4x8192_d3.2⟩
  rw [Host.reduce_eq_fold_single FloatOps.maximumf _ _ reducesTo_S1x4x8192x256_S1x4x8192_d3 h' h_S_]
  rw [val_main_cst_0_apply]
  show Finset.univ.fold max (Ideal.ofBits .f32 0xFF800000#32) (fun k : Fin 256 => val_main_v11 (F := Ideal) x0 x1 (h'.lift i k)) = _
  simp only [v11]
  rw [ofBits_neg_inf]
  rfl

/-- The exponentials. -/
theorem v18 (i : S1x4x8192x256.Idx) : val_main_v18 (F := Ideal) x0 x1 i = ex (sc x0 x1 (i 1).val (i 2)) (i 3) := by
  rw [val_main_v18_apply, val_main_v17_apply, val_main_v16_apply, val_main_v15_apply, val_main_v14_apply, val_main_v13_apply,
    val_main_cst_1_apply, v11, v12]
  show Ideal.exp (_ - max (Ideal.ofBits .f32 0xFF800000#32) _) = _
  rw [ofBits_neg_inf, max_eq_right bot_le]
  rfl

/-- The sums of the exponentials. -/
theorem v20 (i : S1x4x8192x1.Idx) : val_main_v20 (F := Ideal) x0 x1 i = den (sc x0 x1 (i 1).val (i 2)) := by
  rw [val_main_v20_apply, val_main_v19_apply, val_main_cst_2_apply]
  simp only [v18]
  show Ideal.ofBits .f32 0x00000000#32 + _ = _
  rw [zero_bits, zero_add]
  rfl

variable {x0 x1} (hfin : Finite x0 x1)
include hfin

/-- The probabilities. -/
theorem v22 (i : S1x4x8192x256.Idx) : val_main_v22 (F := Ideal) x0 x1 i = prob (sc x0 x1 (i 1).val (i 2)) (i 3) := by
  rw [val_main_v22_apply, val_main_v21_apply, v18, v20]
  exact div_den _ (fun j => hfin _ _ j (i 1).isLt) _

/-- The reference's result. -/
theorem ref (i : S8192x1024.Idx) : val_main_v27 (F := Ideal) x0 x1 i = outAll x0 x1 (i 0) (i 1).val := by
  have h0 : (i 0).val < 8192 := (i 0).isLt
  have h1 : (i 1).val < 1024 := (i 1).isLt
  rw [val_main_v27_apply, val_main_v26_apply, val_main_v25_apply, val_main_v24_apply, val_main_v23_apply]
  simp only [v22 hfin, v8]
  have e1 : idx_main_v25 (idx_main_v26 i) 1 = i 0 :=
    Fin.ext (show ((0 * 8192 + ((i 0).val * 1024 + (i 1).val) / 1024 % 8192) * 1024 + ((i 0).val * 1024 + (i 1).val) % 1024) / 1024 % 8192 = (i 0).val by omega)
  have e2 : (idx_main_v25 (idx_main_v26 i) 2).val = (i 1).val / 256 :=
    (show ((0 * 8192 + ((i 0).val * 1024 + (i 1).val) / 1024 % 8192) * 1024 + ((i 0).val * 1024 + (i 1).val) % 1024) / 256 % 4 = (i 1).val / 256 by omega)
  have e3 : idx_main_v25 (idx_main_v26 i) 3 = Fin.ofNat 256 (i 1).val :=
    Fin.ext (show ((0 * 8192 + ((i 0).val * 1024 + (i 1).val) / 1024 % 8192) * 1024 + ((i 0).val * 1024 + (i 1).val) % 1024) % 256 = (i 1).val % 256 by omega)
  refine Eq.trans (Finset.sum_congr rfl fun k _ => mul_comm _ _) ?_
  show outH (fun h => col x0 (5120 + 256 * h)) (fun h => col x1 (256 * h)) (fun h => col x1 (1024 + 256 * h))
    (idx_main_v25 (idx_main_v26 i) 2).val (idx_main_v25 (idx_main_v26 i) 1) (idx_main_v25 (idx_main_v26 i) 3) = _
  rw [e1, e2, e3]
  rfl

end Ref

theorem preFacts : Cert.Pre_finite_inputs.Facts := ⟨by decide, by decide, by decide, by decide, by decide⟩

/-- The precondition makes every scaled score finite. -/
theorem finite_of_pre (m : (ℓ : Loc Cert.MemFwdIdeal.nD Cert.MemFwdIdeal.τ Cert.MemFwdIdeal.sig) → Buf (Elt Ideal) ℓ)
    (hm : Pre_MemFwdIdeal_finite_inputs (hPre_finite_inputs := preFacts) m) (c : Dev Cert.MemFwdIdeal.nD) :
    Cert.MemRef.Finite (proj m c) (kv m c) := by
  obtain ⟨hq, hk⟩ := hm c
  intro h i j hh
  obtain ⟨s, hs⟩ := scale_real
  rw [Cert.MemRef.sc, score, hs]
  refine finite_score s _ _ (fun d => ?_) (fun j d => ?_) j
  · have hd : d.val < 256 := d.isLt
    have e := congrFun hq (ix2 i (⟨256 * h + d.val, by omega⟩ : Fin 1024))
    have := finite_of_cmp _ e
    refine (congrArg (fun x : EReal => x ≠ ⊥ ∧ x ≠ ⊤) (congrArg (proj m c) (funext fun a => Fin.ext ?_))).mp this
    match a with
    | ⟨0, _⟩ => show 0 + i.val = i.val; omega
    | ⟨1, _⟩ => show 5120 + (256 * h + d.val) = (5120 + 256 * h + d.val) % 12288; omega
  · have hd : d.val < 256 := d.isLt
    have e := congrFun hk (ix2 j (⟨256 * h + d.val, by omega⟩ : Fin 1024))
    have := finite_of_cmp _ e
    refine (congrArg (fun x : EReal => x ≠ ⊥ ∧ x ≠ ⊤) (congrArg (kv m c) (funext fun a => Fin.ext ?_))).mp this
    match a with
    | ⟨0, _⟩ => show 0 + j.val = j.val; omega
    | ⟨1, _⟩ => show 0 + (256 * h + d.val) = (256 * h + d.val) % 2048; omega

/-- The kernel's result is the reference's, on finite memory queries and keys. -/
theorem algebraic : algebraic_MemFwdIdeal_MemOutIdeal_pre_finite_inputs (hMemFwdIdeal := Cert.MemFwdIdeal.Gen.facts)
    (hMemOutIdeal := Cert.MemOutIdeal.Gen.facts) (hPre_finite_inputs := preFacts) := by
  intro m ρ m' ρ' hm hagree
  refine ⟨fun c => (Cert.MemFwdIdeal.Gen.dats m 0 c).arrAt 2 Cert.MemFwdIdeal.cfg0.N, Cert.MemFwdIdeal.Value.run_blocks m ρ, ?_⟩
  refine (θ_run _ _ _).mono (fun r h c => ?_) (Cert.MemOutIdeal.Value.run (F := Ideal) m' ρ')
  obtain ⟨hv, hargs⟩ := h c
  obtain ⟨a0, a1⟩ := hagree c
  have hfin := finite_of_pre m hm c
  refine ⟨hv.trans ?_, hargs⟩
  rw [Cert.MemOutIdeal.Read.val_main_v27_eq, a0, a1]
  exact Eq.trans (funext fun i => ref (x0 := proj m c) (x1 := kv m c) hfin i) (array m c).symm

theorem frame_p : quiescent_MemFwd (hMemFwd := Cert.MemFwd.Gen.facts) := fun m ρ _ => Cert.MemFwd.Gen.frame m ρ

theorem frame_pi : quiescent_MemFwdIdeal (hMemFwdIdeal := Cert.MemFwdIdeal.Gen.facts) := fun m ρ _ => Cert.MemFwdIdeal.Gen.frame m ρ

theorem frame_pi_pre : quiescent_MemFwdIdeal_pre_finite_inputs (hMemFwdIdeal := Cert.MemFwdIdeal.Gen.facts)
    (hPre_finite_inputs := preFacts) := fun m ρ _ => Cert.MemFwdIdeal.Gen.frame m ρ

/-- The reference runs to its end and leaves its arguments; it declares no semaphore. -/
theorem frame_ri : quiescent_MemOutIdeal (hMemOutIdeal := Cert.MemOutIdeal.Gen.facts) := fun m ρ _ =>
  (θ_run _ _ _).mono (fun r h => And.intro (fun c => (h c).2) (sem_eq_zero_of_no_sems (by decide) r.2))
    (Cert.MemOutIdeal.Value.run (F := Ideal) m ρ)

theorem frame_ri_pre : quiescent_MemOutIdeal_pre_finite_inputs (hMemOutIdeal := Cert.MemOutIdeal.Gen.facts)
    (hPre_finite_inputs := preFacts) := fun m ρ _ =>
  (θ_run _ _ _).mono (fun r h => And.intro (fun c => (h c).2) (sem_eq_zero_of_no_sems (by decide) r.2))
    (Cert.MemOutIdeal.Value.run (F := Ideal) m ρ)

end Cert.MemfClaim

end
-- ==== Proof.Rms.lean ====
/- One row of the normalization by the root mean square, over the extended reals: what it computes, and that the two forms of
   its gradient are equal. -/
module

public import proofs.«01_k».proof.Proof.Softmax
public import Idealize.ShloMosaic.Lib.Pointwise

@[expose] public section

noncomputable section

namespace Cert.Rms

open Idealize.ShloMosaic

/-- Row `i` of an array. -/
def row {n N : ℕ} {φ : FTy} (x : FVec Ideal ⟨2, ![n, N]⟩ φ) (i : Fin n) (j : Fin N) : EReal := x (ix2 i j)

variable {J : Type} [Fintype J]

/-- The number of columns, the constant added to the mean, and minus a half. -/
abbrev cD : EReal := Ideal.ofBits .f32 0x45000000#32
abbrev cEps : EReal := Ideal.ofBits .f32 0x358637BD#32
abbrev cHalf : EReal := Ideal.ofBits .f32 0xBF000000#32

theorem cD_eq : cD = ((2048 : ℝ) : EReal) := by
  simp [cD, Ideal.ofBits, Ideal.ieee]; rw [← EReal.coe_mul]; norm_num

theorem cHalf_eq : cHalf = ((-(1 / 2) : ℝ) : EReal) := by
  simp [cHalf, Ideal.ofBits, Ideal.ieee]; rw [← EReal.coe_mul]; norm_num

theorem cEps_eq : ∃ e : ℝ, 0 < e ∧ cEps = (e : EReal) := by
  refine ⟨_, ?_, by simp [cEps, Ideal.ofBits, Ideal.ieee]; rfl⟩
  norm_num

/-- The mean of the squares, and the constant. -/
def var (x : J → EReal) : EReal := Ideal.div (∑ j, x j * x j) cD + cEps

/-- The reciprocal root. -/
def inv (x : J → EReal) : EReal := Ideal.rsqrt (var x)

/-- The gradient of the row, from the gradient `a` of the normalized row. -/
def grad (x a : J → EReal) (j : J) : EReal :=
  inv x * (a j - x j * inv x * Ideal.div (∑ k, a k * (x k * inv x)) cD)

/-- The gradient of each square of the row, as the reverse of the root, the sum and the division gives it. -/
def gradSq (x a : J → EReal) : EReal :=
  Ideal.div ((∑ k, x k * a k) * (cHalf * Ideal.div (inv x) (var x))) cD

/-- The gradient of the row as the reverse of the product, the square and the root gives it. -/
def gradRef (x a : J → EReal) (j : J) : EReal := a j * inv x + x j * gradSq x a + gradSq x a * x j

theorem sq_nonneg (x : EReal) : 0 ≤ x * x := by
  induction x with
  | bot => simp
  | top => simp
  | coe r => exact_mod_cast mul_self_nonneg r

theorem sq_eq_top {x : EReal} (h : x * x ≠ ⊤) : x ≠ ⊥ ∧ x ≠ ⊤ := by
  constructor <;> rintro rfl <;> exact h (by simp)

/-- Either the mean of the squares is infinite and the reciprocal root zero, or the row is finite, the mean of the squares
    positive and the reciprocal root its real one. -/
theorem cases (x : J → EReal) : var x = ⊤ ∧ inv x = 0
    ∨ (∀ j, ∃ r : ℝ, x j = (r : EReal)) ∧ ∃ v : ℝ, 0 < v ∧ var x = (v : EReal) ∧ inv x = (((Real.sqrt v)⁻¹ : ℝ) : EReal) := by
  obtain ⟨e, he, hE⟩ := cEps_eq
  have hv : var x = (∑ j, x j * x j) * ((1 / 2048 : ℝ) : EReal) + (e : EReal) := by
    rw [var, cD_eq, Ideal.div_coe (by norm_num), hE]
  have hs : 0 ≤ ∑ j, x j * x j := Finset.sum_nonneg fun j _ => sq_nonneg _
  rcases eq_or_ne (∑ j, x j * x j) ⊤ with h | h
  · left
    have : var x = ⊤ := by
      rw [hv, h, EReal.top_mul_coe_of_pos (by norm_num), EReal.top_add_coe]
    exact ⟨this, by rw [inv, this, Ideal.rsqrt_top]⟩
  · right
    refine ⟨fun j => ?_, ?_⟩
    · have hj : x j * x j ≠ ⊤ := fun hj => h (top_le_iff.mp (hj ▸ Finset.single_le_sum (f := fun j => x j * x j) (fun j _ => sq_nonneg _) (Finset.mem_univ j)))
      obtain ⟨h1, h2⟩ := sq_eq_top hj
      exact ⟨_, (EReal.coe_toReal h2 h1).symm⟩
    · have hb : ∑ j, x j * x j ≠ ⊥ := fun hb => by rw [hb] at hs; exact absurd hs (by simp)
      generalize ∑ j, x j * x j = s at *
      lift s to ℝ using ⟨h, hb⟩
      have hs' : 0 ≤ s := by exact_mod_cast hs
      have hpos : 0 < s * (1 / 2048) + e := by positivity
      have hvr : var x = ((s * (1 / 2048) + e : ℝ) : EReal) := by rw [hv]; norm_cast
      refine ⟨s * (1 / 2048) + e, hpos, hvr, ?_⟩
      rw [inv, hvr, Ideal.rsqrt_coe, if_neg hpos.not_gt, if_neg hpos.ne']

theorem twice (S : EReal) (k : ℝ) : S * (k : EReal) + S * (k : EReal) = S * ((2 * k : ℝ) : EReal) := by
  induction S with
  | coe s => norm_cast; ring
  | bot =>
    rcases lt_trichotomy k 0 with h | rfl | h
    · rw [EReal.bot_mul_coe_of_neg h, EReal.bot_mul_coe_of_neg (by linarith)]; rfl
    · simp
    · rw [EReal.bot_mul_coe_of_pos h, EReal.bot_mul_coe_of_pos (by linarith)]; rfl
  | top =>
    rcases lt_trichotomy k 0 with h | rfl | h
    · rw [EReal.top_mul_coe_of_neg h, EReal.top_mul_coe_of_neg (by linarith)]; rfl
    · simp
    · rw [EReal.top_mul_coe_of_pos h, EReal.top_mul_coe_of_pos (by linarith)]; rfl

/-- The two forms of the gradient are equal, whatever the row and the gradient of the normalized row. -/
theorem gradRef_eq (x a : J → EReal) (j : J) : gradRef x a j = grad x a j := by
  rcases cases x with ⟨hv, hr⟩ | ⟨hx, v, hv0, hv, hr⟩
  · have hd : Ideal.div (0 : EReal) ⊤ = 0 := by simp [Ideal.div]
    have hc : gradSq x a = 0 := by
      rw [gradSq, hr, hv, hd, mul_zero, mul_zero, cD_eq, Ideal.div_coe (by norm_num), zero_mul]
    rw [gradRef, grad, hc, hr]; simp
  · obtain ⟨y, hy⟩ := hx j
    set r : ℝ := (Real.sqrt v)⁻¹ with hrdef
    have hr0 : 0 < r := inv_pos.mpr (Real.sqrt_pos.mpr hv0)
    have hrr : r * r = 1 / v := by
      rw [hrdef, ← mul_inv, Real.mul_self_sqrt hv0.le, one_div]
    have hsum : ∑ k, a k * (x k * inv x) = (∑ k, x k * a k) * (r : EReal) := by
      rw [hr, Softmax.sum_mul_real _ _ hr0.le]
      exact Finset.sum_congr rfl fun k _ => by ac_rfl
    have hc : gradSq x a = (∑ k, x k * a k) * ((-(1 / 2) * (r * (1 / v)) * (1 / 2048) : ℝ) : EReal) := by
      rw [gradSq, hr, hv, cHalf_eq, cD_eq, Ideal.div_coe hv0.ne', Ideal.div_coe (by norm_num)]
      push_cast
      ac_rfl
    rw [gradRef, grad, hsum, hc, hy, hr, cD_eq, Ideal.div_coe (by norm_num)]
    generalize ∑ k, x k * a k = S
    generalize a j = A
    have e1 : (y : EReal) * (S * ((-(1 / 2) * (r * (1 / v)) * (1 / 2048) : ℝ) : EReal))
        = S * ((y * (-(1 / 2) * (r * (1 / v)) * (1 / 2048)) : ℝ) : EReal) := by
      rw [EReal.coe_mul y]; ac_rfl
    have e2 : (S * ((-(1 / 2) * (r * (1 / v)) * (1 / 2048) : ℝ) : EReal)) * (y : EReal)
        = S * ((y * (-(1 / 2) * (r * (1 / v)) * (1 / 2048)) : ℝ) : EReal) := by
      rw [EReal.coe_mul y]; ac_rfl
    have e3 : (y : EReal) * (r : EReal) * (S * (r : EReal) * ((1 / 2048 : ℝ) : EReal)) = S * ((y * r * r * (1 / 2048) : ℝ) : EReal) := by
      push_cast; ac_rfl
    rw [e1, e2, e3, add_assoc, twice, sub_eq_add_neg,
      EReal.left_distrib_of_nonneg_of_ne_top (EReal.coe_nonneg.2 hr0.le) (EReal.coe_ne_top r), mul_comm A]
    congr 1
    rw [← mul_neg, mul_comm (r : EReal), ← EReal.coe_neg, mul_assoc S, ← EReal.coe_mul]
    congr 2
    rw [← hrr]; ring

end Cert.Rms

end
-- ==== Proof.DnormBlock.lean ====
/- What one point of the normalization's backward kernel leaves in its three outputs. -/
module

public import proofs.«01_k».proof.Proof.Gen.DnormBwdIdeal.Value
public import proofs.«01_k».proof.Proof.Rms
public import proofs.«01_k».proof.Proof.Loads
public import Idealize.ShloMosaic.Lib.Tactic
public import Idealize.ShloMosaic.Lib.VecWindow
public import Idealize.ShloMosaic.Lib.Pointwise
public import Idealize.ShloMosaic.Lib.Pipeline.ReadBack

@[expose] public section

noncomputable section

namespace Cert.DnormBlock

open Cert.DnormBwdIdeal Cert.DnormBwdIdeal.Gen Idealize.ShloMosaic Idealize.ShloMosaic.Tactic Cert.Rms

/-- The block's gradient at row `i`: the normalization's, and the residual's. -/
def dh (x : FVec Ideal S256x2048 .f32) (g : FVec Ideal S1x2048 .f32) (d : FVec Ideal S256x2048 .bf16) (e : FVec Ideal S256x2048 .f32)
    (i : Fin 256) (j : Fin 2048) : EReal :=
  grad (row x i) (fun k => row d i k * row g 0 k) j + row e i j

/-- The block's part of the gain's gradient. -/
def dg (x : FVec Ideal S256x2048 .f32) (d : FVec Ideal S256x2048 .bf16) (j : Fin 2048) : EReal :=
  ∑ i, row d i j * (row x i j * inv (row x i))

/-- The reciprocal roots of the rows. -/
theorem pay3 (x : FVec Ideal S256x2048 .f32) (i : Fin 256) : k0_pay3 (F := Ideal) x (ix2 i 0) = inv (row x i) := by
  pointwise [k0_pay3]
  rfl

/-- The normalized rows. -/
theorem pay4 (x : FVec Ideal S256x2048 .f32) (i : Fin 256) (j : Fin 2048) :
    k0_pay4 (F := Ideal) x (ix2 i j) = row x i j * inv (row x i) := by
  have h := pay3 x i
  generalize hP : k0_pay3 (F := Ideal) x = P at h
  pointwise [k0_pay4]
  rw [hP, h]
  rfl

/-- The gain's gradient, added to what the output held. -/
theorem pay7 (x : FVec Ideal S256x2048 .f32) (d : FVec Ideal S256x2048 .bf16) (a : FVec Ideal S1x2048 .f32) (j : Fin 2048) :
    k0_pay7 (F := Ideal) x d a (ix2 0 j) = a (ix2 0 j) + dg x d j := by
  have h := fun i => pay4 x i j
  generalize hP : k0_pay4 (F := Ideal) x = P at h
  pointwise [k0_pay7, k0_pay5]
  rw [hP]
  simp only [h]
  rfl

/-- The rows' gradient. -/
theorem pay8 (x : FVec Ideal S256x2048 .f32) (g : FVec Ideal S1x2048 .f32) (d : FVec Ideal S256x2048 .bf16) (i : Fin 256) (j : Fin 2048) :
    k0_pay8 (F := Ideal) x d g (ix2 i j) = grad (row x i) (fun k => row d i k * row g 0 k) j := by
  have h := fun j => pay4 x i j
  have h3 := pay3 x i
  generalize hP : k0_pay4 (F := Ideal) x = P at h
  generalize hQ : k0_pay3 (F := Ideal) x = Q at h3
  pointwise [k0_pay8, k0_pay5]
  rw [hP, hQ]
  simp only [h, h3]
  rfl

theorem pay1 (x : FVec Ideal S256x2048 .f32) (g : FVec Ideal S1x2048 .f32) (d : FVec Ideal S256x2048 .bf16) (e : FVec Ideal S256x2048 .f32)
    (i : Fin 256) (j : Fin 2048) : k0_pay1 (F := Ideal) (k0_pay8 x d g) e (ix2 i j) = dh x g d e i j := by
  have h := pay8 x g d i j
  generalize k0_pay8 (F := Ideal) x d g = P at h
  pointwise [k0_pay1]
  rw [h]
  rfl

theorem pay2 (x : FVec Ideal S256x2048 .f32) (g : FVec Ideal S1x2048 .f32) (d : FVec Ideal S256x2048 .bf16) (e : FVec Ideal S256x2048 .f32)
    (i : Fin 256) (j : Fin 2048) : k0_pay2 (F := Ideal) (k0_pay8 x d g) e (ix2 i j) = dh x g d e i j := by
  have h := pay1 x g d e i j
  generalize hP : k0_pay1 (F := Ideal) (k0_pay8 x d g) e = P at h
  pointwise [k0_pay2]
  rw [hP, h]

/-- A load of a whole block reads the block. -/
theorem load_all {e : EltTy} {n N : ℕ} (a : Memref sig .tc .vmem ⟨2, ![n, N]⟩ e) (ha : a.IsWhole) (x : Vec Ideal ⟨2, ![n, N]⟩ e) (inb) :
    View.readAt (Elt Ideal) a.view (Rect.unit (s := ⟨2, ![n, N]⟩) ![0, 0] ![n, N] inb).toLoadRect (ha.unread x) = x := by
  funext y
  obtain ⟨r, d, rfl⟩ : ∃ (r : Fin n) (d : Fin N), y = ix2 r d := ⟨y 0, y 1, eq_ix2 y⟩
  exact Cert.Loads.all a ha x inb r d

section Points

variable (c : Dev nD) (t : grid0.Coords) (arg1 : Memref sig .tc .vmem S256x2048 .f32) (harg1 : arg1.IsWhole)
  (arg2 : Memref sig .tc .vmem S1x2048 .f32) (harg2 : arg2.IsWhole) (arg3 : Memref sig .tc .vmem S256x2048 .bf16) (harg3 : arg3.IsWhole)
  (arg4 : Memref sig .tc .vmem S256x2048 .f32) (harg4 : arg4.IsWhole) (arg5 : Memref sig .tc .vmem S256x2048 .f32) (harg5 : arg5.IsWhole)
  (arg6 : Memref sig .tc .vmem S256x2048 .bf16) (harg6 : arg6.IsWhole) (arg7 : Memref sig .tc .vmem S1x2048 .f32) (harg7 : arg7.IsWhole)
  (x0 : FVec Ideal S256x2048 .f32) (x1 : FVec Ideal S1x2048 .f32) (x2 : FVec Ideal S256x2048 .bf16) (x3 : FVec Ideal S256x2048 .f32)
  (a : FVec Ideal S1x2048 .f32)

theorem out_A_dh (hc0 : cond0_0 t) (i : Fin 256) (j : Fin 2048) :
    out0_A_4 (F := Ideal) c t arg1 harg1 arg2 harg2 arg3 harg3 arg4 harg4 arg5 harg5 arg6 harg6 arg7 harg7 hc0 x0 x1 x2 x3 (ix2 i j)
      = dh x0 x1 x2 x3 i j := by
  unfold out0_A_4 kernelRun0_A
  dsimp only
  sl_unfold_run_names
  refine (congrFun (View.read_writes_full (Val := Elt Ideal) _ _ _ _ _) _).trans ?_
  rw [load_all arg1 harg1, load_all arg2 harg2, load_all arg3 harg3, load_all arg4 harg4]
  exact pay1 ..

theorem out_A_dhb (hc0 : cond0_0 t) (i : Fin 256) (j : Fin 2048) :
    out0_A_5 (F := Ideal) c t arg1 harg1 arg2 harg2 arg3 harg3 arg4 harg4 arg5 harg5 arg6 harg6 arg7 harg7 hc0 x0 x1 x2 x3 (ix2 i j)
      = dh x0 x1 x2 x3 i j := by
  unfold out0_A_5 kernelRun0_A
  dsimp only
  sl_unfold_run_names
  refine (congrFun (View.read_writes_full (Val := Elt Ideal) _ _ _ _ _) _).trans ?_
  rw [load_all arg1 harg1, load_all arg2 harg2, load_all arg3 harg3, load_all arg4 harg4]
  exact pay2 ..

/-- A load from the output just filled with zeros reads zero. -/
theorem readCov_fill_zero (v : View sig .tc .vmem S1x2048 .f32) (r : Rect S1x2048) (x : r.toLoadRect.shape.Idx) :
    v.readCov (Val := Elt Ideal) [⟨Rect.unit ![0, 0] S1x2048.size inb_S1x2048_S1x2048_0_0, (k0_pay6 (F := Ideal) : S1x2048.Idx → Elt Ideal .f32)⟩] r.toLoadRect x = (0 : EReal) :=
  (congrFun (View.readCov_fill (Val := Elt Ideal) v inb_S1x2048_S1x2048_0_0 (k0_pay6 (F := Ideal)) [] r
    (fun a => by match a with | ⟨0, _⟩ => rfl | ⟨1, _⟩ => rfl)) x).trans Ideal.ofBits_zero_f32

/-- The first point starts the gain's gradient from zero. -/
theorem out_A_dg (hc0 : cond0_0 t) (j : Fin 2048) :
    out0_A_6 (F := Ideal) c t arg1 harg1 arg2 harg2 arg3 harg3 arg4 harg4 arg5 harg5 arg6 harg6 arg7 harg7 hc0 x0 x1 x2 x3 (ix2 0 j)
      = 0 + dg x0 x2 j := by
  unfold out0_A_6 kernelRun0_A
  dsimp only
  sl_unfold_run_names
  refine (congrFun (View.read_writes_full (Val := Elt Ideal) _ _ _ _ _) _).trans ?_
  rw [load_all arg1 harg1, load_all arg3 harg3]
  exact (pay7 ..).trans (congrArg (· + dg x0 x2 j) (readCov_fill_zero _ (Rect.unit ![0, 0] S1x2048.size inb_S1x2048_S1x2048_0_0) _))

theorem out_B_dh (hc0 : ¬cond0_0 t) (i : Fin 256) (j : Fin 2048) :
    out0_B_4 (F := Ideal) c t arg1 harg1 arg2 harg2 arg3 harg3 arg4 harg4 arg5 harg5 arg6 harg6 arg7 harg7 hc0 x0 x1 x2 x3 a (ix2 i j)
      = dh x0 x1 x2 x3 i j := by
  unfold out0_B_4 kernelRun0_B
  dsimp only
  sl_unfold_run_names
  refine (congrFun (View.read_writes_full (Val := Elt Ideal) _ _ _ _ _) _).trans ?_
  rw [load_all arg1 harg1, load_all arg2 harg2, load_all arg3 harg3, load_all arg4 harg4]
  exact pay1 ..

theorem out_B_dhb (hc0 : ¬cond0_0 t) (i : Fin 256) (j : Fin 2048) :
    out0_B_5 (F := Ideal) c t arg1 harg1 arg2 harg2 arg3 harg3 arg4 harg4 arg5 harg5 arg6 harg6 arg7 harg7 hc0 x0 x1 x2 x3 a (ix2 i j)
      = dh x0 x1 x2 x3 i j := by
  unfold out0_B_5 kernelRun0_B
  dsimp only
  sl_unfold_run_names
  refine (congrFun (View.read_writes_full (Val := Elt Ideal) _ _ _ _ _) _).trans ?_
  rw [load_all arg1 harg1, load_all arg2 harg2, load_all arg3 harg3, load_all arg4 harg4]
  exact pay2 ..

/-- A later point adds its part of the gain's gradient. -/
theorem out_B_dg (hc0 : ¬cond0_0 t) (j : Fin 2048) :
    out0_B_6 (F := Ideal) c t arg1 harg1 arg2 harg2 arg3 harg3 arg4 harg4 arg5 harg5 arg6 harg6 arg7 harg7 hc0 x0 x1 x2 x3 a (ix2 0 j)
      = a (ix2 0 j) + dg x0 x2 j := by
  unfold out0_B_6 kernelRun0_B
  dsimp only
  sl_unfold_run_names
  refine (congrFun (View.read_writes_full (Val := Elt Ideal) _ _ _ _ _) _).trans ?_
  rw [load_all arg1 harg1, load_all arg3 harg3, load_all arg7 harg7]
  exact pay7 ..

end Points

end Cert.DnormBlock

end
-- ==== Proof.DnormArray.lean ====
/- What the normalization's backward kernel leaves in its three result arrays. -/
module

public import proofs.«01_k».proof.Proof.DnormBlock
public import proofs.«01_k».proof.Proof.Sums
public import Idealize.ShloMosaic.Lib.Pipeline.Value
public import Idealize.ShloMosaic.Lib.Pipeline.ValueKit

@[expose] public section

noncomputable section

namespace Cert.DnormArray

open Cert.DnormBwdIdeal Cert.DnormBwdIdeal.Gen Idealize.ShloMosaic Idealize.ShloMosaic.TcCoe Idealize.ShloMosaic.Tactic Cert.Rms Cert.DnormBlock
open Idealize.ShloMosaic.Pipeline (Dat)

/-- Row `i` of block `t`. -/
def rowAt (t : ℕ) (i : Fin 256) : Fin 8192 := Fin.ofNat 8192 (256 * t + i.val)

/-- The gradient of the rows. -/
def dhAll (x : FVec Ideal S8192x2048 .f32) (g : FVec Ideal S1x2048 .f32) (d : FVec Ideal S8192x2048 .bf16) (e : FVec Ideal S8192x2048 .f32)
    (i : Fin 8192) (j : Fin 2048) : EReal :=
  grad (row x i) (fun k => row d i k * row g 0 k) j + row e i j

/-- Row `i`'s summand of the gain's gradient. -/
def dgTerm (x : FVec Ideal S8192x2048 .f32) (d : FVec Ideal S8192x2048 .bf16) (j : Fin 2048) (i : Fin 8192) : EReal :=
  row d i j * (row x i j * inv (row x i))

variable (m : (ℓ : Loc nD τ sig) → Buf (Elt Ideal) ℓ) (c : Dev nD)

/-- The rows, the gain, the gradient of the normalized rows, and the residual's. -/
abbrev X : FVec Ideal S8192x2048 .f32 := m ((c : Thread nD τ).loc main_arg0)
abbrev G : FVec Ideal S1x2048 .f32 := m ((c : Thread nD τ).loc main_arg1)
abbrev D : FVec Ideal S8192x2048 .bf16 := m ((c : Thread nD τ).loc main_arg2)
abbrev E : FVec Ideal S8192x2048 .f32 := m ((c : Thread nD τ).loc main_arg3)

theorem index0 : ∀ t : Fin cfg0.N, win0_0.index t 0 = t.val ∧ win0_0.index t 1 = 0 := by
  show ∀ t : Fin grid0.N, _; decide +kernel
theorem index1 : ∀ t : Fin cfg0.N, win0_1.index t 0 = 0 ∧ win0_1.index t 1 = 0 := by
  show ∀ t : Fin grid0.N, _; decide +kernel
theorem index2 : ∀ t : Fin cfg0.N, win0_2.index t 0 = t.val ∧ win0_2.index t 1 = 0 := by
  show ∀ t : Fin grid0.N, _; decide +kernel
theorem index3 : ∀ t : Fin cfg0.N, win0_3.index t 0 = t.val ∧ win0_3.index t 1 = 0 := by
  show ∀ t : Fin grid0.N, _; decide +kernel
theorem index4 : ∀ t : Fin cfg0.N, win0_4.index t 0 = t.val ∧ win0_4.index t 1 = 0 := by
  show ∀ t : Fin grid0.N, _; decide +kernel
theorem index5 : ∀ t : Fin cfg0.N, win0_5.index t 0 = t.val ∧ win0_5.index t 1 = 0 := by
  show ∀ t : Fin grid0.N, _; decide +kernel
theorem index6 : ∀ t : Fin cfg0.N, win0_6.index t 0 = 0 ∧ win0_6.index t 1 = 0 := by
  show ∀ t : Fin grid0.N, _; decide +kernel

theorem lt32 (t : Fin cfg0.N) : t.val < 32 := lt_of_lt_of_eq t.isLt (show cfg0.N = 32 from N_0)

theorem row0 (t : Fin cfg0.N) (i : Fin 256) : row (φ := .f32) (iblk m c 0 t) i = row (X m c) (rowAt t.val i) := by
  funext j
  have hi := index0 t
  have ht := lt32 t
  show iblk m c 0 t (ix2 i j) = _
  refine (congrFun (V_main_arg0 m c) _).trans (congrArg (m _) (funext fun a => Fin.ext ?_))
  have h1 := i.isLt
  match a with
  | ⟨0, _⟩ => show win0_0.index t 0 * 256 + 1 * i.val = (256 * t.val + i.val) % 8192; rw [hi.1]; omega
  | ⟨1, _⟩ => show win0_0.index t 1 * 2048 + 1 * j.val = j.val; rw [hi.2]; omega

theorem row1 (t : Fin cfg0.N) : row (φ := .f32) (iblk m c 1 t) 0 = row (G m c) 0 := by
  funext j
  have hi := index1 t
  show iblk m c 1 t (ix2 0 j) = _
  refine (congrFun (V_main_arg1 m c) _).trans (congrArg (m _) (funext fun a => Fin.ext ?_))
  match a with
  | ⟨0, _⟩ => show win0_1.index t 0 * 1 + 1 * 0 = 0; rw [hi.1]
  | ⟨1, _⟩ => show win0_1.index t 1 * 2048 + 1 * j.val = j.val; rw [hi.2]; omega

theorem row2 (t : Fin cfg0.N) (i : Fin 256) : row (φ := .bf16) (iblk m c 2 t) i = row (D m c) (rowAt t.val i) := by
  funext j
  have hi := index2 t
  have ht := lt32 t
  show iblk m c 2 t (ix2 i j) = _
  refine (congrFun (V_main_arg2 m c) _).trans (congrArg (m _) (funext fun a => Fin.ext ?_))
  have h1 := i.isLt
  match a with
  | ⟨0, _⟩ => show win0_2.index t 0 * 256 + 1 * i.val = (256 * t.val + i.val) % 8192; rw [hi.1]; omega
  | ⟨1, _⟩ => show win0_2.index t 1 * 2048 + 1 * j.val = j.val; rw [hi.2]; omega

theorem row3 (t : Fin cfg0.N) (i : Fin 256) : row (φ := .f32) (iblk m c 3 t) i = row (E m c) (rowAt t.val i) := by
  funext j
  have hi := index3 t
  have ht := lt32 t
  show iblk m c 3 t (ix2 i j) = _
  refine (congrFun (V_main_arg3 m c) _).trans (congrArg (m _) (funext fun a => Fin.ext ?_))
  have h1 := i.isLt
  match a with
  | ⟨0, _⟩ => show win0_3.index t 0 * 256 + 1 * i.val = (256 * t.val + i.val) % 8192; rw [hi.1]; omega
  | ⟨1, _⟩ => show win0_3.index t 1 * 2048 + 1 * j.val = j.val; rw [hi.2]; omega

theorem dh_point (t : Fin cfg0.N) (i : Fin 256) (j : Fin 2048) :
    dh (iblk m c 0 t) (iblk m c 1 t) (iblk m c 2 t) (iblk m c 3 t) i j = dhAll (X m c) (G m c) (D m c) (E m c) (rowAt t.val i) j := by
  unfold dh dhAll
  rw [row0, row1, row2, row3]

/-- Point `t`'s part of the gain's gradient. -/
def part (t : ℕ) (j : Fin 2048) : EReal := ∑ i : Fin 256, dgTerm (X m c) (D m c) j (rowAt t i)

theorem dg_point (t : Fin cfg0.N) (j : Fin 2048) : dg (iblk m c 0 t) (iblk m c 2 t) j = part m c t.val j := by
  unfold dg part dgTerm
  refine Finset.sum_congr rfl fun i _ => ?_
  rw [row0, row2]

theorem outs_dh (t : Fin cfg0.N) (i : Fin 256) (j : Fin 2048) :
    (outsAt0 m c t.val t.isLt).1 (ix2 i j) = dhAll (X m c) (G m c) (D m c) (E m c) (rowAt t.val i) j := by
  rw [← dh_point]
  by_cases h0 : t.val % 32 = 0
  · rw [outsAt0_A m c t h0]
    dsimp only
    exact out_A_dh ..
  · rw [outsAt0_B m c t h0]
    dsimp only
    exact out_B_dh ..

theorem outs_dhb (t : Fin cfg0.N) (i : Fin 256) (j : Fin 2048) :
    (outsAt0 m c t.val t.isLt).2.1 (ix2 i j) = dhAll (X m c) (G m c) (D m c) (E m c) (rowAt t.val i) j := by
  rw [← dh_point]
  by_cases h0 : t.val % 32 = 0
  · rw [outsAt0_A m c t h0]
    dsimp only
    exact out_A_dhb ..
  · rw [outsAt0_B m c t h0]
    dsimp only
    exact out_B_dhb ..

/-- After point `n` the gain's gradient holds the sum of the points' parts up to there. -/
theorem outs_dg (j : Fin 2048) : ∀ (n : ℕ) (h : n < cfg0.N), (outsAt0 m c n h).2.2 (ix2 0 j) = ∑ t ∈ Finset.range (n + 1), part m c t j
  | 0, h => by
    rw [Finset.sum_range_one, ← dg_point m c ⟨0, h⟩ j, ← zero_add (dg _ _ _)]
    rw [outsAt0_A m c ⟨0, h⟩ rfl]
    dsimp only
    exact out_A_dg ..
  | n + 1, h => by
    have h0 : ¬(⟨n + 1, h⟩ : Fin cfg0.N).val % 32 = 0 := by have := lt32 ⟨n + 1, h⟩; dsimp only at this ⊢; omega
    rw [Finset.sum_range_succ, ← dg_point m c ⟨n + 1, h⟩ j, ← outs_dg j n (Nat.lt_of_succ_lt h)]
    rw [outsAt0_B m c ⟨n + 1, h⟩ h0]
    dsimp only
    exact out_B_dg ..

/-- THE FIRST RESULT: the rows' gradient. -/
theorem array_dh : (dats m 0 c).arrAt 4 cfg0.N
    = fun y : S8192x2048.Idx => dhAll (X m c) (G m c) (D m c) (E m c) (y 0) (y 1) := by
  refine (dats m 0 c).arrAt_eq_of_covers 4 _ (by decide +kernel) fun t hf y => ?_
  show (dats m 0 c).after 4 t y = _
  have hi := index4 t
  have ht := lt32 t
  obtain ⟨i, j, rfl⟩ : ∃ (i : Fin 256) (j : Fin 2048), y = ix2 i j := ⟨y 0, y 1, eq_ix2 y⟩
  rw [after0_4, outs_dh]
  have h1 := i.isLt
  refine congr (congrArg _ (Fin.ext ?_)) (Fin.ext ?_)
  · show (256 * t.val + i.val) % 8192 = win0_4.index t 0 * 256 + 1 * i.val
    rw [hi.1]; omega
  · show j.val = win0_4.index t 1 * 2048 + 1 * j.val
    rw [hi.2]; omega

/-- THE SECOND RESULT: the same. -/
theorem array_dhb : (dats m 0 c).arrAt 5 cfg0.N
    = fun y : S8192x2048.Idx => dhAll (X m c) (G m c) (D m c) (E m c) (y 0) (y 1) := by
  refine (dats m 0 c).arrAt_eq_of_covers 5 _ (by decide +kernel) fun t hf y => ?_
  show (dats m 0 c).after 5 t y = _
  have hi := index5 t
  have ht := lt32 t
  obtain ⟨i, j, rfl⟩ : ∃ (i : Fin 256) (j : Fin 2048), y = ix2 i j := ⟨y 0, y 1, eq_ix2 y⟩
  rw [after0_5, outs_dhb]
  have h1 := i.isLt
  refine congr (congrArg _ (Fin.ext ?_)) (Fin.ext ?_)
  · show (256 * t.val + i.val) % 8192 = win0_5.index t 0 * 256 + 1 * i.val
    rw [hi.1]; omega
  · show j.val = win0_5.index t 1 * 2048 + 1 * j.val
    rw [hi.2]; omega

/-- THE THIRD RESULT: the gain's gradient. -/
theorem array_dg : (dats m 0 c).arrAt 6 cfg0.N = fun y : S1x2048.Idx => ∑ i, dgTerm (X m c) (D m c) (y 1) i := by
  refine (dats m 0 c).arrAt_eq_of_covers 6 _ (by decide +kernel) fun t hf y => ?_
  show (dats m 0 c).after 6 t y = _
  have h31 : t.val = 31 := by have := (flush0_6 t).mp hf; have := lt32 t; omega
  have hi := index6 t
  obtain ⟨i, j, rfl⟩ : ∃ (i : Fin 1) (j : Fin 2048), y = ix2 i j := ⟨y 0, y 1, eq_ix2 y⟩
  obtain rfl : i = 0 := Subsingleton.elim _ _
  rw [after0_6, outs_dg, h31]
  refine (Cert.Sums.blocks 32 256 8192 (by norm_num) (dgTerm (X m c) (D m c) j)).trans ?_
  refine Finset.sum_congr rfl fun k _ => congrArg (fun e => dgTerm (X m c) (D m c) e k) (Fin.ext ?_)
  show j.val = win0_6.index t 1 * 2048 + 1 * j.val
  rw [hi.2]; omega

end Cert.DnormArray

end
-- ==== Proof.DnormClaim.lean ====
/- The normalization's backward pass: what its reference computes, and the claims. -/
module

public import proofs.«01_k».proof.Defs
public import proofs.«01_k».proof.Proof.DnormArray
public import proofs.«01_k».proof.Proof.Gen.DnormBwd
public import proofs.«01_k».proof.Proof.Gen.DnormBwd.Frame
public import proofs.«01_k».proof.Proof.Gen.DnormGradIdeal.Run
public import proofs.«01_k».proof.Proof.Gen.DnormGradIdeal.Read
public import Idealize.ShloMosaic.Lib.KernelVsHost
public import Idealize.ShloMosaic.Lib.IdealHost

@[expose] public section

noncomputable section

namespace Cert.DnormClaim

open Idealize.ShloMosaic Idealize.SL.Sem Cert.Rms Cert.DnormArray

section Reference

open Cert.DnormGradIdeal Cert.DnormGradIdeal.Gen Cert.DnormGradIdeal.Read

variable (x0 : FVec Ideal S8192x2048 .f32) (x1 : FVec Ideal S1x2048 .f32) (x2 : FVec Ideal S8192x2048 .bf16) (x3 : FVec Ideal S8192x2048 .f32)

theorem v2 (i : S8192.Idx) : val_main_v2 (F := Ideal) x0 i = ∑ k, row x0 (i 0) k * row x0 (i 0) k := by
  rw [val_main_v2_apply, val_main_cst_apply]
  show Ideal.ofBits .f32 0x00000000#32 + _ = _
  rw [Ideal.ofBits_zero_f32, zero_add]
  refine Finset.sum_congr rfl fun k _ => ?_
  rw [val_main_v1_apply, show idx_main_v2 i k = ix2 (i 0) k from (eq_ix2 _).trans rfl]
  rfl

theorem v7 (i : S8192x1.Idx) : val_main_v7 (F := Ideal) x0 i = var (row x0 (i 0)) := by
  rw [val_main_v7_apply, val_main_v5_apply, val_main_v3_apply, val_main_v4_apply, val_main_v6_apply, val_main_cst_0_apply, val_main_cst_1_apply, v2]
  rfl

theorem v8 (i : S8192x1.Idx) : val_main_v8 (F := Ideal) x0 i = inv (row x0 (i 0)) := by
  rw [val_main_v8_apply, v7]
  rfl

theorem v11 (i : S8192x1.Idx) : val_main_v11 (F := Ideal) x0 i = cHalf * Ideal.div (inv (row x0 (i 0))) (var (row x0 (i 0))) := by
  rw [val_main_v11_apply, val_main_v10_apply, val_main_v9_apply, val_main_cst_2_apply, v8, v7]
  rfl

theorem v13 (i : S8192x2048.Idx) : val_main_v13 (F := Ideal) x0 i = row x0 (i 0) (i 1) * inv (row x0 (i 0)) := by
  rw [val_main_v13_apply, val_main_v12_apply, v8]
  obtain ⟨r, d, rfl⟩ : ∃ (r : Fin 8192) (d : Fin 2048), i = ix2 r d := ⟨i 0, i 1, eq_ix2 i⟩
  rfl

theorem v22 (i : S8192x2048.Idx) : val_main_v22 (F := Ideal) x1 x2 i = row x2 (i 0) (i 1) * row x1 0 (i 1) := by
  rw [val_main_v22_apply, val_main_v17_apply, val_main_v21_apply, val_main_v14_apply, val_main_v0_apply]
  obtain ⟨r, d, rfl⟩ : ∃ (r : Fin 8192) (d : Fin 2048), i = ix2 r d := ⟨i 0, i 1, eq_ix2 i⟩
  refine congrArg (fun z : EReal => x2 (ix2 r d) * z) (congrArg x1 (funext fun a => Fin.ext ?_))
  have h1 := d.isLt
  match a with
  | ⟨0, _⟩ => rfl
  | ⟨1, _⟩ => show d.val % 2048 = d.val; omega

theorem v25 (i : S8192.Idx) : val_main_v25 (F := Ideal) x0 x1 x2 i = ∑ k, row x0 (i 0) k * (row x2 (i 0) k * row x1 0 k) := by
  rw [val_main_v25_apply, val_main_cst_5_apply]
  show Ideal.ofBits .f32 0x00000000#32 + _ = _
  rw [Ideal.ofBits_zero_f32, zero_add]
  refine Finset.sum_congr rfl fun k _ => ?_
  rw [val_main_v24_apply, v22, show idx_main_v25 i k = ix2 (i 0) k from (eq_ix2 _).trans rfl]
  rfl

theorem v33 (i : S8192x2048.Idx) :
    val_main_v33 (F := Ideal) x0 x1 x2 i = gradSq (row x0 (i 0)) (fun k => row x2 (i 0) k * row x1 0 k) := by
  rw [val_main_v33_apply, val_main_v32_apply, val_main_cst_7_apply]
  show Ideal.ofBits .f32 0x00000000#32 + _ = _
  rw [Ideal.ofBits_zero_f32, zero_add, Fin.sum_univ_one, val_main_v31_apply, val_main_v29_apply, val_main_v30_apply, val_main_cst_6_apply,
    val_main_v26_apply, v11, v25]
  rw [show idx_main_v26 (idx_main_v32 (idx_main_v33 i) 0) 0 = i 0 from Fin.ext (show (i 0).val * 1 + 0 = (i 0).val by omega)]
  rfl

theorem v38 (i : S8192x2048.Idx) : val_main_v38 (F := Ideal) x0 x1 x2 x3 i = dhAll x0 x1 x2 x3 (i 0) (i 1) := by
  rw [val_main_v38_apply, val_main_v37_apply, val_main_v36_apply, val_main_v35_apply, val_main_v34_apply, val_main_v28_apply, val_main_v27_apply,
    v8, v22, v33]
  obtain ⟨r, d, rfl⟩ : ∃ (r : Fin 8192) (d : Fin 2048), i = ix2 r d := ⟨i 0, i 1, eq_ix2 i⟩
  exact congrArg (· + row x3 r d) (gradRef_eq (row x0 r) (fun k => row x2 r k * row x1 0 k) d)

theorem v40 (i : S1x2048.Idx) : val_main_v40 (F := Ideal) x0 x2 i = ∑ k, dgTerm x0 x2 (i 1) k := by
  rw [val_main_v40_apply, val_main_v23_apply, val_main_cst_4_apply]
  show Ideal.ofBits .f32 0x00000000#32 + _ = _
  rw [Ideal.ofBits_zero_f32, zero_add, Fin.sum_univ_one, val_main_v20_apply, val_main_v19_apply, val_main_cst_3_apply]
  show Ideal.ofBits .f32 0x00000000#32 + _ = _
  rw [Ideal.ofBits_zero_f32, zero_add]
  refine Finset.sum_congr rfl fun k _ => ?_
  rw [val_main_v18_apply, val_main_v17_apply, v13]
  obtain ⟨r, d, rfl⟩ : ∃ (r : Fin 1) (d : Fin 2048), i = ix2 r d := ⟨i 0, i 1, eq_ix2 i⟩
  have h1 := d.isLt
  rw [show idx_main_v19 (idx_main_v20 (idx_main_v23 (idx_main_v40 (ix2 r d)) 0)) k = ix2 k d from
    funext fun a => Fin.ext (by match a with | ⟨0, _⟩ => rfl | ⟨1, _⟩ => show 0 * 2048 + d.val = d.val; omega)]
  exact mul_comm _ _

end Reference

/-- The kernel's three results are the reference's. -/
theorem algebraic : algebraic_DnormBwdIdeal_DnormGradIdeal (hDnormBwdIdeal := Cert.DnormBwdIdeal.Gen.facts)
    (hDnormGradIdeal := Cert.DnormGradIdeal.Gen.facts) := by
  intro m ρ m' ρ' hm hagree
  refine ⟨fun c => (Cert.DnormBwdIdeal.Gen.dats m 0 c).arrAt 4 Cert.DnormBwdIdeal.cfg0.N,
    fun c => (Cert.DnormBwdIdeal.Gen.dats m 0 c).arrAt 5 Cert.DnormBwdIdeal.cfg0.N,
    fun c => (Cert.DnormBwdIdeal.Gen.dats m 0 c).arrAt 6 Cert.DnormBwdIdeal.cfg0.N, Cert.DnormBwdIdeal.Value.run_blocks m ρ, ?_⟩
  refine (θ_run _ _ _).mono (fun r h c => ?_) (Cert.DnormGradIdeal.Value.run (F := Ideal) m' ρ')
  obtain ⟨h38, h39, h40, hargs⟩ := h c
  obtain ⟨a0, a1, a2, a3⟩ := hagree c
  refine ⟨h38.trans ?_, h39.trans ?_, h40.trans ?_, hargs⟩
  · rw [Cert.DnormGradIdeal.Read.val_main_v38_eq, a0, a1, a2, a3]
    exact Eq.trans (funext fun i => v38 (X m c) (G m c) (D m c) (E m c) i) (array_dh m c).symm
  · rw [Cert.DnormGradIdeal.Read.val_main_v39_eq, a0, a1, a2, a3]
    exact Eq.trans (funext fun i => (Cert.DnormGradIdeal.Read.val_main_v39_apply ..).trans (v38 (X m c) (G m c) (D m c) (E m c) i)) (array_dhb m c).symm
  · rw [Cert.DnormGradIdeal.Read.val_main_v40_eq, a0, a2]
    exact Eq.trans (funext fun i => v40 (X m c) (D m c) i) (array_dg m c).symm

theorem frame_p : quiescent_DnormBwd (hDnormBwd := Cert.DnormBwd.Gen.facts) := fun m ρ _ => Cert.DnormBwd.Gen.frame m ρ

theorem frame_pi : quiescent_DnormBwdIdeal (hDnormBwdIdeal := Cert.DnormBwdIdeal.Gen.facts) := fun m ρ _ => Cert.DnormBwdIdeal.Gen.frame m ρ

/-- The reference runs to its end and leaves its arguments; it declares no semaphore. -/
theorem frame_ri : quiescent_DnormGradIdeal (hDnormGradIdeal := Cert.DnormGradIdeal.Gen.facts) := fun m ρ _ =>
  (θ_run _ _ _).mono (fun r h => And.intro (fun c => (h c).2.2.2) (sem_eq_zero_of_no_sems (by decide) r.2))
    (Cert.DnormGradIdeal.Value.run (F := Ideal) m ρ)

end Cert.DnormClaim

end
-- ==== Proof.DtokBlock.lean ====
/- What the one point of the backward kernel of the memory tokens' normalization leaves in its three outputs. -/
module

public import proofs.«01_k».proof.Proof.Gen.DtokBwdIdeal.Value
public import proofs.«01_k».proof.Proof.Rms
public import proofs.«01_k».proof.Proof.Loads
public import Idealize.ShloMosaic.Lib.Tactic
public import Idealize.ShloMosaic.Lib.VecWindow
public import Idealize.ShloMosaic.Lib.Pointwise
public import Idealize.ShloMosaic.Lib.Pipeline.ReadBack

@[expose] public section

noncomputable section

namespace Cert.DtokBlock

open Cert.DtokBwdIdeal Cert.DtokBwdIdeal.Gen Idealize.ShloMosaic Idealize.ShloMosaic.Tactic Cert.Rms

/-- The block's gradient at row `i`: the normalization's, and the residual's. -/
def dh (x : FVec Ideal S256x2048 .f32) (g : FVec Ideal S1x2048 .f32) (d : FVec Ideal S256x2048 .bf16) (e : FVec Ideal S256x2048 .f32)
    (i : Fin 256) (j : Fin 2048) : EReal :=
  grad (row x i) (fun k => row d i k * row g 0 k) j + row e i j

/-- The block's part of the gain's gradient. -/
def dg (x : FVec Ideal S256x2048 .f32) (d : FVec Ideal S256x2048 .bf16) (j : Fin 2048) : EReal :=
  ∑ i, row d i j * (row x i j * inv (row x i))

/-- The reciprocal roots of the rows. -/
theorem pay3 (x : FVec Ideal S256x2048 .f32) (i : Fin 256) : k0_pay3 (F := Ideal) x (ix2 i 0) = inv (row x i) := by
  pointwise [k0_pay3]
  rfl

/-- The normalized rows. -/
theorem pay4 (x : FVec Ideal S256x2048 .f32) (i : Fin 256) (j : Fin 2048) :
    k0_pay4 (F := Ideal) x (ix2 i j) = row x i j * inv (row x i) := by
  have h := pay3 x i
  generalize hP : k0_pay3 (F := Ideal) x = P at h
  pointwise [k0_pay4]
  rw [hP, h]
  rfl

/-- The gain's gradient, added to what the output held. -/
theorem pay7 (x : FVec Ideal S256x2048 .f32) (d : FVec Ideal S256x2048 .bf16) (a : FVec Ideal S1x2048 .f32) (j : Fin 2048) :
    k0_pay7 (F := Ideal) x d a (ix2 0 j) = a (ix2 0 j) + dg x d j := by
  have h := fun i => pay4 x i j
  generalize hP : k0_pay4 (F := Ideal) x = P at h
  pointwise [k0_pay7, k0_pay5]
  rw [hP]
  simp only [h]
  rfl

/-- The rows' gradient. -/
theorem pay8 (x : FVec Ideal S256x2048 .f32) (g : FVec Ideal S1x2048 .f32) (d : FVec Ideal S256x2048 .bf16) (i : Fin 256) (j : Fin 2048) :
    k0_pay8 (F := Ideal) x d g (ix2 i j) = grad (row x i) (fun k => row d i k * row g 0 k) j := by
  have h := fun j => pay4 x i j
  have h3 := pay3 x i
  generalize hP : k0_pay4 (F := Ideal) x = P at h
  generalize hQ : k0_pay3 (F := Ideal) x = Q at h3
  pointwise [k0_pay8, k0_pay5]
  rw [hP, hQ]
  simp only [h, h3]
  rfl

theorem pay1 (x : FVec Ideal S256x2048 .f32) (g : FVec Ideal S1x2048 .f32) (d : FVec Ideal S256x2048 .bf16) (e : FVec Ideal S256x2048 .f32)
    (i : Fin 256) (j : Fin 2048) : k0_pay1 (F := Ideal) (k0_pay8 x d g) e (ix2 i j) = dh x g d e i j := by
  have h := pay8 x g d i j
  generalize k0_pay8 (F := Ideal) x d g = P at h
  pointwise [k0_pay1]
  rw [h]
  rfl

theorem pay2 (x : FVec Ideal S256x2048 .f32) (g : FVec Ideal S1x2048 .f32) (d : FVec Ideal S256x2048 .bf16) (e : FVec Ideal S256x2048 .f32)
    (i : Fin 256) (j : Fin 2048) : k0_pay2 (F := Ideal) (k0_pay8 x d g) e (ix2 i j) = dh x g d e i j := by
  have h := pay1 x g d e i j
  generalize hP : k0_pay1 (F := Ideal) (k0_pay8 x d g) e = P at h
  pointwise [k0_pay2]
  rw [hP, h]

/-- A load of a whole block reads the block. -/
theorem load_all {e : EltTy} {n N : ℕ} (a : Memref sig .tc .vmem ⟨2, ![n, N]⟩ e) (ha : a.IsWhole) (x : Vec Ideal ⟨2, ![n, N]⟩ e) (inb) :
    View.readAt (Elt Ideal) a.view (Rect.unit (s := ⟨2, ![n, N]⟩) ![0, 0] ![n, N] inb).toLoadRect (ha.unread x) = x := by
  funext y
  obtain ⟨r, d, rfl⟩ : ∃ (r : Fin n) (d : Fin N), y = ix2 r d := ⟨y 0, y 1, eq_ix2 y⟩
  exact Cert.Loads.all a ha x inb r d

section Points

variable (c : Dev nD) (t : grid0.Coords) (arg1 : Memref sig .tc .vmem S256x2048 .f32) (harg1 : arg1.IsWhole)
  (arg2 : Memref sig .tc .vmem S1x2048 .f32) (harg2 : arg2.IsWhole) (arg3 : Memref sig .tc .vmem S256x2048 .bf16) (harg3 : arg3.IsWhole)
  (arg4 : Memref sig .tc .vmem S256x2048 .f32) (harg4 : arg4.IsWhole) (arg5 : Memref sig .tc .vmem S256x2048 .f32) (harg5 : arg5.IsWhole)
  (arg6 : Memref sig .tc .vmem S256x2048 .bf16) (harg6 : arg6.IsWhole) (arg7 : Memref sig .tc .vmem S1x2048 .f32) (harg7 : arg7.IsWhole)
  (x0 : FVec Ideal S256x2048 .f32) (x1 : FVec Ideal S1x2048 .f32) (x2 : FVec Ideal S256x2048 .bf16) (x3 : FVec Ideal S256x2048 .f32)

theorem out_A_dh (hc0 : cond0_0 t) (i : Fin 256) (j : Fin 2048) :
    out0_A_4 (F := Ideal) c t arg1 harg1 arg2 harg2 arg3 harg3 arg4 harg4 arg5 harg5 arg6 harg6 arg7 harg7 hc0 x0 x1 x2 x3 (ix2 i j)
      = dh x0 x1 x2 x3 i j := by
  unfold out0_A_4 kernelRun0_A
  dsimp only
  sl_unfold_run_names
  refine (congrFun (View.read_writes_full (Val := Elt Ideal) _ _ _ _ _) _).trans ?_
  rw [load_all arg1 harg1, load_all arg2 harg2, load_all arg3 harg3, load_all arg4 harg4]
  exact pay1 ..

theorem out_A_dhb (hc0 : cond0_0 t) (i : Fin 256) (j : Fin 2048) :
    out0_A_5 (F := Ideal) c t arg1 harg1 arg2 harg2 arg3 harg3 arg4 harg4 arg5 harg5 arg6 harg6 arg7 harg7 hc0 x0 x1 x2 x3 (ix2 i j)
      = dh x0 x1 x2 x3 i j := by
  unfold out0_A_5 kernelRun0_A
  dsimp only
  sl_unfold_run_names
  refine (congrFun (View.read_writes_full (Val := Elt Ideal) _ _ _ _ _) _).trans ?_
  rw [load_all arg1 harg1, load_all arg2 harg2, load_all arg3 harg3, load_all arg4 harg4]
  exact pay2 ..

/-- A load from the output just filled with zeros reads zero. -/
theorem readCov_fill_zero (v : View sig .tc .vmem S1x2048 .f32) (r : Rect S1x2048) (x : r.toLoadRect.shape.Idx) :
    v.readCov (Val := Elt Ideal) [⟨Rect.unit ![0, 0] S1x2048.size inb_S1x2048_S1x2048_0_0, (k0_pay6 (F := Ideal) : S1x2048.Idx → Elt Ideal .f32)⟩] r.toLoadRect x = (0 : EReal) :=
  (congrFun (View.readCov_fill (Val := Elt Ideal) v inb_S1x2048_S1x2048_0_0 (k0_pay6 (F := Ideal)) [] r
    (fun a => by match a with | ⟨0, _⟩ => rfl | ⟨1, _⟩ => rfl)) x).trans Ideal.ofBits_zero_f32

/-- The gain's gradient starts from zero. -/
theorem out_A_dg (hc0 : cond0_0 t) (j : Fin 2048) :
    out0_A_6 (F := Ideal) c t arg1 harg1 arg2 harg2 arg3 harg3 arg4 harg4 arg5 harg5 arg6 harg6 arg7 harg7 hc0 x0 x1 x2 x3 (ix2 0 j)
      = 0 + dg x0 x2 j := by
  unfold out0_A_6 kernelRun0_A
  dsimp only
  sl_unfold_run_names
  refine (congrFun (View.read_writes_full (Val := Elt Ideal) _ _ _ _ _) _).trans ?_
  rw [load_all arg1 harg1, load_all arg3 harg3]
  exact (pay7 ..).trans (congrArg (· + dg x0 x2 j) (readCov_fill_zero _ (Rect.unit ![0, 0] S1x2048.size inb_S1x2048_S1x2048_0_0) _))

end Points

end Cert.DtokBlock

end
-- ==== Proof.DtokArray.lean ====
/- What the backward kernel of the memory tokens' normalization leaves in its three result arrays. -/
module

public import proofs.«01_k».proof.Proof.DtokBlock
public import Idealize.ShloMosaic.Lib.Pipeline.Value
public import Idealize.ShloMosaic.Lib.Pipeline.ValueKit

@[expose] public section

noncomputable section

namespace Cert.DtokArray

open Cert.DtokBwdIdeal Cert.DtokBwdIdeal.Gen Idealize.ShloMosaic Idealize.ShloMosaic.TcCoe Idealize.ShloMosaic.Tactic Cert.Rms Cert.DtokBlock
open Idealize.ShloMosaic.Pipeline (Dat)

/-- The gradient of the rows. -/
def dhAll (x : FVec Ideal S256x2048 .f32) (g : FVec Ideal S1x2048 .f32) (d : FVec Ideal S256x2048 .bf16) (e : FVec Ideal S256x2048 .f32)
    (i : Fin 256) (j : Fin 2048) : EReal :=
  grad (row x i) (fun k => row d i k * row g 0 k) j + row e i j

/-- Row `i`'s summand of the gain's gradient. -/
def dgTerm (x : FVec Ideal S256x2048 .f32) (d : FVec Ideal S256x2048 .bf16) (j : Fin 2048) (i : Fin 256) : EReal :=
  row d i j * (row x i j * inv (row x i))

variable (m : (ℓ : Loc nD τ sig) → Buf (Elt Ideal) ℓ) (c : Dev nD)

/-- The rows, the gain, the gradient of the normalized rows, and the residual's. -/
abbrev X : FVec Ideal S256x2048 .f32 := m ((c : Thread nD τ).loc main_arg0)
abbrev G : FVec Ideal S1x2048 .f32 := m ((c : Thread nD τ).loc main_arg1)
abbrev D : FVec Ideal S256x2048 .bf16 := m ((c : Thread nD τ).loc main_arg2)
abbrev E : FVec Ideal S256x2048 .f32 := m ((c : Thread nD τ).loc main_arg3)

theorem index0 : ∀ t : Fin cfg0.N, win0_0.index t 0 = 0 ∧ win0_0.index t 1 = 0 := by
  show ∀ t : Fin grid0.N, _; decide +kernel
theorem index1 : ∀ t : Fin cfg0.N, win0_1.index t 0 = 0 ∧ win0_1.index t 1 = 0 := by
  show ∀ t : Fin grid0.N, _; decide +kernel
theorem index2 : ∀ t : Fin cfg0.N, win0_2.index t 0 = 0 ∧ win0_2.index t 1 = 0 := by
  show ∀ t : Fin grid0.N, _; decide +kernel
theorem index3 : ∀ t : Fin cfg0.N, win0_3.index t 0 = 0 ∧ win0_3.index t 1 = 0 := by
  show ∀ t : Fin grid0.N, _; decide +kernel
theorem index4 : ∀ t : Fin cfg0.N, win0_4.index t 0 = 0 ∧ win0_4.index t 1 = 0 := by
  show ∀ t : Fin grid0.N, _; decide +kernel
theorem index5 : ∀ t : Fin cfg0.N, win0_5.index t 0 = 0 ∧ win0_5.index t 1 = 0 := by
  show ∀ t : Fin grid0.N, _; decide +kernel
theorem index6 : ∀ t : Fin cfg0.N, win0_6.index t 0 = 0 ∧ win0_6.index t 1 = 0 := by
  show ∀ t : Fin grid0.N, _; decide +kernel

theorem row0 (t : Fin cfg0.N) (i : Fin 256) : row (φ := .f32) (iblk m c 0 t) i = row (X m c) i := by
  funext j
  have hi := index0 t
  show iblk m c 0 t (ix2 i j) = _
  refine (congrFun (V_main_arg0 m c) _).trans (congrArg (m _) (funext fun a => Fin.ext ?_))
  match a with
  | ⟨0, _⟩ => show win0_0.index t 0 * 256 + 1 * i.val = i.val; rw [hi.1]; omega
  | ⟨1, _⟩ => show win0_0.index t 1 * 2048 + 1 * j.val = j.val; rw [hi.2]; omega

theorem row1 (t : Fin cfg0.N) : row (φ := .f32) (iblk m c 1 t) 0 = row (G m c) 0 := by
  funext j
  have hi := index1 t
  show iblk m c 1 t (ix2 0 j) = _
  refine (congrFun (V_main_arg1 m c) _).trans (congrArg (m _) (funext fun a => Fin.ext ?_))
  match a with
  | ⟨0, _⟩ => show win0_1.index t 0 * 1 + 1 * 0 = 0; rw [hi.1]
  | ⟨1, _⟩ => show win0_1.index t 1 * 2048 + 1 * j.val = j.val; rw [hi.2]; omega

theorem row2 (t : Fin cfg0.N) (i : Fin 256) : row (φ := .bf16) (iblk m c 2 t) i = row (D m c) i := by
  funext j
  have hi := index2 t
  show iblk m c 2 t (ix2 i j) = _
  refine (congrFun (V_main_arg2 m c) _).trans (congrArg (m _) (funext fun a => Fin.ext ?_))
  match a with
  | ⟨0, _⟩ => show win0_2.index t 0 * 256 + 1 * i.val = i.val; rw [hi.1]; omega
  | ⟨1, _⟩ => show win0_2.index t 1 * 2048 + 1 * j.val = j.val; rw [hi.2]; omega

theorem row3 (t : Fin cfg0.N) (i : Fin 256) : row (φ := .f32) (iblk m c 3 t) i = row (E m c) i := by
  funext j
  have hi := index3 t
  show iblk m c 3 t (ix2 i j) = _
  refine (congrFun (V_main_arg3 m c) _).trans (congrArg (m _) (funext fun a => Fin.ext ?_))
  match a with
  | ⟨0, _⟩ => show win0_3.index t 0 * 256 + 1 * i.val = i.val; rw [hi.1]; omega
  | ⟨1, _⟩ => show win0_3.index t 1 * 2048 + 1 * j.val = j.val; rw [hi.2]; omega

theorem dh_point (t : Fin cfg0.N) (i : Fin 256) (j : Fin 2048) :
    dh (iblk m c 0 t) (iblk m c 1 t) (iblk m c 2 t) (iblk m c 3 t) i j = dhAll (X m c) (G m c) (D m c) (E m c) i j := by
  unfold dh dhAll
  rw [row0, row1, row2, row3]

theorem dg_point (t : Fin cfg0.N) (j : Fin 2048) : dg (iblk m c 0 t) (iblk m c 2 t) j = ∑ i, dgTerm (X m c) (D m c) j i := by
  unfold dg dgTerm
  refine Finset.sum_congr rfl fun i _ => ?_
  rw [row0, row2]

theorem outs_dh (t : Fin cfg0.N) (i : Fin 256) (j : Fin 2048) :
    (outsAt0 m c t).1 (ix2 i j) = dhAll (X m c) (G m c) (D m c) (E m c) i j := by
  rw [← dh_point]
  unfold outsAt0
  dsimp only
  exact out_A_dh ..

theorem outs_dhb (t : Fin cfg0.N) (i : Fin 256) (j : Fin 2048) :
    (outsAt0 m c t).2.1 (ix2 i j) = dhAll (X m c) (G m c) (D m c) (E m c) i j := by
  rw [← dh_point]
  unfold outsAt0
  dsimp only
  exact out_A_dhb ..

theorem outs_dg (t : Fin cfg0.N) (j : Fin 2048) : (outsAt0 m c t).2.2 (ix2 0 j) = ∑ i, dgTerm (X m c) (D m c) j i := by
  rw [← dg_point m c t, ← zero_add (dg _ _ _)]
  unfold outsAt0
  dsimp only
  exact out_A_dg ..

/-- THE FIRST RESULT: the rows' gradient. -/
theorem array_dh : (dats m 0 c).arrAt 4 cfg0.N
    = fun y : S256x2048.Idx => dhAll (X m c) (G m c) (D m c) (E m c) (y 0) (y 1) := by
  refine (dats m 0 c).arrAt_eq_of_covers 4 _ (by decide +kernel) fun t hf y => ?_
  show (dats m 0 c).after 4 t y = _
  have hi := index4 t
  obtain ⟨i, j, rfl⟩ : ∃ (i : Fin 256) (j : Fin 2048), y = ix2 i j := ⟨y 0, y 1, eq_ix2 y⟩
  rw [after0_4, outs_dh]
  refine congr (congrArg _ (Fin.ext ?_)) (Fin.ext ?_)
  · show i.val = win0_4.index t 0 * 256 + 1 * i.val
    rw [hi.1]; omega
  · show j.val = win0_4.index t 1 * 2048 + 1 * j.val
    rw [hi.2]; omega

/-- THE SECOND RESULT: the same. -/
theorem array_dhb : (dats m 0 c).arrAt 5 cfg0.N
    = fun y : S256x2048.Idx => dhAll (X m c) (G m c) (D m c) (E m c) (y 0) (y 1) := by
  refine (dats m 0 c).arrAt_eq_of_covers 5 _ (by decide +kernel) fun t hf y => ?_
  show (dats m 0 c).after 5 t y = _
  have hi := index5 t
  obtain ⟨i, j, rfl⟩ : ∃ (i : Fin 256) (j : Fin 2048), y = ix2 i j := ⟨y 0, y 1, eq_ix2 y⟩
  rw [after0_5, outs_dhb]
  refine congr (congrArg _ (Fin.ext ?_)) (Fin.ext ?_)
  · show i.val = win0_5.index t 0 * 256 + 1 * i.val
    rw [hi.1]; omega
  · show j.val = win0_5.index t 1 * 2048 + 1 * j.val
    rw [hi.2]; omega

/-- THE THIRD RESULT: the gain's gradient. -/
theorem array_dg : (dats m 0 c).arrAt 6 cfg0.N = fun y : S1x2048.Idx => ∑ i, dgTerm (X m c) (D m c) (y 1) i := by
  refine (dats m 0 c).arrAt_eq_of_covers 6 _ (by decide +kernel) fun t hf y => ?_
  show (dats m 0 c).after 6 t y = _
  have hi := index6 t
  obtain ⟨i, j, rfl⟩ : ∃ (i : Fin 1) (j : Fin 2048), y = ix2 i j := ⟨y 0, y 1, eq_ix2 y⟩
  obtain rfl : i = 0 := Subsingleton.elim _ _
  rw [after0_6, outs_dg]
  refine congrArg (fun e : Fin 2048 => ∑ k, dgTerm (X m c) (D m c) e k) (Fin.ext ?_)
  show j.val = win0_6.index t 1 * 2048 + 1 * j.val
  rw [hi.2]; omega

end Cert.DtokArray

end
-- ==== Proof.DtokClaim.lean ====
/- The memory tokens' normalization's backward pass: what its reference computes, and the claims. -/
module

public import proofs.«01_k».proof.Defs
public import proofs.«01_k».proof.Proof.DtokArray
public import proofs.«01_k».proof.Proof.Gen.DtokBwd
public import proofs.«01_k».proof.Proof.Gen.DtokBwd.Frame
public import proofs.«01_k».proof.Proof.Gen.DtokGradIdeal.Run
public import proofs.«01_k».proof.Proof.Gen.DtokGradIdeal.Read
public import Idealize.ShloMosaic.Lib.KernelVsHost
public import Idealize.ShloMosaic.Lib.IdealHost

@[expose] public section

noncomputable section

namespace Cert.DtokClaim

open Idealize.ShloMosaic Idealize.SL.Sem Cert.Rms Cert.DtokArray

section Reference

open Cert.DtokGradIdeal Cert.DtokGradIdeal.Gen Cert.DtokGradIdeal.Read

variable (x0 : FVec Ideal S256x2048 .f32) (x1 : FVec Ideal S1x2048 .f32) (x2 : FVec Ideal S256x2048 .bf16) (x3 : FVec Ideal S256x2048 .f32)

theorem v2 (i : S256.Idx) : val_main_v2 (F := Ideal) x0 i = ∑ k, row x0 (i 0) k * row x0 (i 0) k := by
  rw [val_main_v2_apply, val_main_cst_apply]
  show Ideal.ofBits .f32 0x00000000#32 + _ = _
  rw [Ideal.ofBits_zero_f32, zero_add]
  refine Finset.sum_congr rfl fun k _ => ?_
  rw [val_main_v1_apply, show idx_main_v2 i k = ix2 (i 0) k from (eq_ix2 _).trans rfl]
  rfl

theorem v7 (i : S256x1.Idx) : val_main_v7 (F := Ideal) x0 i = var (row x0 (i 0)) := by
  rw [val_main_v7_apply, val_main_v5_apply, val_main_v3_apply, val_main_v4_apply, val_main_v6_apply, val_main_cst_0_apply, val_main_cst_1_apply, v2]
  rfl

theorem v8 (i : S256x1.Idx) : val_main_v8 (F := Ideal) x0 i = inv (row x0 (i 0)) := by
  rw [val_main_v8_apply, v7]
  rfl

theorem v11 (i : S256x1.Idx) : val_main_v11 (F := Ideal) x0 i = cHalf * Ideal.div (inv (row x0 (i 0))) (var (row x0 (i 0))) := by
  rw [val_main_v11_apply, val_main_v10_apply, val_main_v9_apply, val_main_cst_2_apply, v8, v7]
  rfl

theorem v13 (i : S256x2048.Idx) : val_main_v13 (F := Ideal) x0 i = row x0 (i 0) (i 1) * inv (row x0 (i 0)) := by
  rw [val_main_v13_apply, val_main_v12_apply, v8]
  obtain ⟨r, d, rfl⟩ : ∃ (r : Fin 256) (d : Fin 2048), i = ix2 r d := ⟨i 0, i 1, eq_ix2 i⟩
  rfl

theorem v22 (i : S256x2048.Idx) : val_main_v22 (F := Ideal) x1 x2 i = row x2 (i 0) (i 1) * row x1 0 (i 1) := by
  rw [val_main_v22_apply, val_main_v17_apply, val_main_v21_apply, val_main_v14_apply, val_main_v0_apply]
  obtain ⟨r, d, rfl⟩ : ∃ (r : Fin 256) (d : Fin 2048), i = ix2 r d := ⟨i 0, i 1, eq_ix2 i⟩
  refine congrArg (fun z : EReal => x2 (ix2 r d) * z) (congrArg x1 (funext fun a => Fin.ext ?_))
  have h1 := d.isLt
  match a with
  | ⟨0, _⟩ => rfl
  | ⟨1, _⟩ => show d.val % 2048 = d.val; omega

theorem v25 (i : S256.Idx) : val_main_v25 (F := Ideal) x0 x1 x2 i = ∑ k, row x0 (i 0) k * (row x2 (i 0) k * row x1 0 k) := by
  rw [val_main_v25_apply, val_main_cst_5_apply]
  show Ideal.ofBits .f32 0x00000000#32 + _ = _
  rw [Ideal.ofBits_zero_f32, zero_add]
  refine Finset.sum_congr rfl fun k _ => ?_
  rw [val_main_v24_apply, v22, show idx_main_v25 i k = ix2 (i 0) k from (eq_ix2 _).trans rfl]
  rfl

theorem v33 (i : S256x2048.Idx) :
    val_main_v33 (F := Ideal) x0 x1 x2 i = gradSq (row x0 (i 0)) (fun k => row x2 (i 0) k * row x1 0 k) := by
  rw [val_main_v33_apply, val_main_v32_apply, val_main_cst_7_apply]
  show Ideal.ofBits .f32 0x00000000#32 + _ = _
  rw [Ideal.ofBits_zero_f32, zero_add, Fin.sum_univ_one, val_main_v31_apply, val_main_v29_apply, val_main_v30_apply, val_main_cst_6_apply,
    val_main_v26_apply, v11, v25]
  rw [show idx_main_v26 (idx_main_v32 (idx_main_v33 i) 0) 0 = i 0 from Fin.ext (show (i 0).val * 1 + 0 = (i 0).val by omega)]
  rfl

theorem v38 (i : S256x2048.Idx) : val_main_v38 (F := Ideal) x0 x1 x2 x3 i = dhAll x0 x1 x2 x3 (i 0) (i 1) := by
  rw [val_main_v38_apply, val_main_v37_apply, val_main_v36_apply, val_main_v35_apply, val_main_v34_apply, val_main_v28_apply, val_main_v27_apply,
    v8, v22, v33]
  obtain ⟨r, d, rfl⟩ : ∃ (r : Fin 256) (d : Fin 2048), i = ix2 r d := ⟨i 0, i 1, eq_ix2 i⟩
  exact congrArg (· + row x3 r d) (gradRef_eq (row x0 r) (fun k => row x2 r k * row x1 0 k) d)

theorem v40 (i : S1x2048.Idx) : val_main_v40 (F := Ideal) x0 x2 i = ∑ k, dgTerm x0 x2 (i 1) k := by
  rw [val_main_v40_apply, val_main_v23_apply, val_main_cst_4_apply]
  show Ideal.ofBits .f32 0x00000000#32 + _ = _
  rw [Ideal.ofBits_zero_f32, zero_add, Fin.sum_univ_one, val_main_v20_apply, val_main_v19_apply, val_main_cst_3_apply]
  show Ideal.ofBits .f32 0x00000000#32 + _ = _
  rw [Ideal.ofBits_zero_f32, zero_add]
  refine Finset.sum_congr rfl fun k _ => ?_
  rw [val_main_v18_apply, val_main_v17_apply, v13]
  obtain ⟨r, d, rfl⟩ : ∃ (r : Fin 1) (d : Fin 2048), i = ix2 r d := ⟨i 0, i 1, eq_ix2 i⟩
  have h1 := d.isLt
  rw [show idx_main_v19 (idx_main_v20 (idx_main_v23 (idx_main_v40 (ix2 r d)) 0)) k = ix2 k d from
    funext fun a => Fin.ext (by match a with | ⟨0, _⟩ => rfl | ⟨1, _⟩ => show 0 * 2048 + d.val = d.val; omega)]
  exact mul_comm _ _

end Reference

/-- The kernel's three results are the reference's. -/
theorem algebraic : algebraic_DtokBwdIdeal_DtokGradIdeal (hDtokBwdIdeal := Cert.DtokBwdIdeal.Gen.facts)
    (hDtokGradIdeal := Cert.DtokGradIdeal.Gen.facts) := by
  intro m ρ m' ρ' hm hagree
  refine ⟨fun c => (Cert.DtokBwdIdeal.Gen.dats m 0 c).arrAt 4 Cert.DtokBwdIdeal.cfg0.N,
    fun c => (Cert.DtokBwdIdeal.Gen.dats m 0 c).arrAt 5 Cert.DtokBwdIdeal.cfg0.N,
    fun c => (Cert.DtokBwdIdeal.Gen.dats m 0 c).arrAt 6 Cert.DtokBwdIdeal.cfg0.N, Cert.DtokBwdIdeal.Value.run_blocks m ρ, ?_⟩
  refine (θ_run _ _ _).mono (fun r h c => ?_) (Cert.DtokGradIdeal.Value.run (F := Ideal) m' ρ')
  obtain ⟨h38, h39, h40, hargs⟩ := h c
  obtain ⟨a0, a1, a2, a3⟩ := hagree c
  refine ⟨h38.trans ?_, h39.trans ?_, h40.trans ?_, hargs⟩
  · rw [Cert.DtokGradIdeal.Read.val_main_v38_eq, a0, a1, a2, a3]
    exact Eq.trans (funext fun i => v38 (X m c) (G m c) (D m c) (E m c) i) (array_dh m c).symm
  · rw [Cert.DtokGradIdeal.Read.val_main_v39_eq, a0, a1, a2, a3]
    exact Eq.trans (funext fun i => (Cert.DtokGradIdeal.Read.val_main_v39_apply ..).trans (v38 (X m c) (G m c) (D m c) (E m c) i)) (array_dhb m c).symm
  · rw [Cert.DtokGradIdeal.Read.val_main_v40_eq, a0, a2]
    exact Eq.trans (funext fun i => v40 (X m c) (D m c) i) (array_dg m c).symm

theorem frame_p : quiescent_DtokBwd (hDtokBwd := Cert.DtokBwd.Gen.facts) := fun m ρ _ => Cert.DtokBwd.Gen.frame m ρ

theorem frame_pi : quiescent_DtokBwdIdeal (hDtokBwdIdeal := Cert.DtokBwdIdeal.Gen.facts) := fun m ρ _ => Cert.DtokBwdIdeal.Gen.frame m ρ

/-- The reference runs to its end and leaves its arguments; it declares no semaphore. -/
theorem frame_ri : quiescent_DtokGradIdeal (hDtokGradIdeal := Cert.DtokGradIdeal.Gen.facts) := fun m ρ _ =>
  (θ_run _ _ _).mono (fun r h => And.intro (fun c => (h c).2.2.2) (sem_eq_zero_of_no_sems (by decide) r.2))
    (Cert.DtokGradIdeal.Value.run (F := Ideal) m ρ)

end Cert.DtokClaim

end
-- ==== Proof.LossBlock.lean ====
/- What one point of the kernel `loss_head` leaves in its four outputs. -/
module

public import proofs.«01_k».proof.Proof.Gen.LossBwdIdeal.Value
public import proofs.«01_k».proof.Proof.Rms
public import proofs.«01_k».proof.Proof.Loads
public import Idealize.ShloMosaic.Lib.Tactic
public import Idealize.ShloMosaic.Lib.VecWindow
public import Idealize.ShloMosaic.Lib.Pointwise
public import Idealize.ShloMosaic.Lib.Pipeline.ReadBack

@[expose] public section

noncomputable section

namespace Cert.LossBlock

open Cert.LossBwdIdeal Cert.LossBwdIdeal.Gen Idealize.ShloMosaic Idealize.ShloMosaic.Tactic Cert.Rms

/-- The reciprocal of the number of columns, and a half. -/
abbrev cInv : EReal := Ideal.ofBits .f32 0x3A000000#32
abbrev cHf : EReal := Ideal.ofBits .f32 0x3F000000#32

/-- A row's error: the normalized row times the gain, less the target. -/
def err {J : Type} [Fintype J] (x g t : J → EReal) (k : J) : EReal := x k * inv x * g k - t k

/-- The mean of the error's squares. -/
def rowLoss {J : Type} [Fintype J] (x g t : J → EReal) : EReal := Ideal.div (∑ k, err x g t k * err x g t k) cD

/-- The gradient of the loss by the normalized row times the gain. -/
def dy {J : Type} [Fintype J] (x g t : J → EReal) (k : J) : EReal := err x g t k * cInv

/-- The gradient of the loss by the row. -/
def dhRow {J : Type} [Fintype J] (x g t : J → EReal) (j : J) : EReal := grad x (fun k => dy x g t k * g k) j

/-- The row's part of the gain's gradient. -/
def dgRow {J : Type} [Fintype J] (x g t : J → EReal) (j : J) : EReal := dy x g t j * (x j * inv x)

variable (x : FVec Ideal S256x2048 .f32) (g : FVec Ideal S1x2048 .f32) (d : FVec Ideal S256x2048 .f32)

/-- The block's part of the loss. -/
def lossPart : EReal := cHf * ∑ i, rowLoss (row x i) (row g 0) (row d i)

/-- The block's part of the gain's gradient. -/
def dgPart (j : Fin 2048) : EReal := ∑ i, dgRow (row x i) (row g 0) (row d i) j

/-- The reciprocal roots of the rows. -/
theorem pay4 (i : Fin 256) : k0_pay4 (F := Ideal) x (ix2 i 0) = inv (row x i) := by
  pointwise [k0_pay4]
  rfl

/-- The normalized rows. -/
theorem pay5 (i : Fin 256) (j : Fin 2048) : k0_pay5 (F := Ideal) x (ix2 i j) = row x i j * inv (row x i) := by
  have h := pay4 x i
  generalize hP : k0_pay4 (F := Ideal) x = P at h
  pointwise [k0_pay5]
  rw [hP, h]
  rfl

/-- The rows' errors. -/
theorem pay6 (i : Fin 256) (j : Fin 2048) : k0_pay6 (F := Ideal) x g d (ix2 i j) = err (row x i) (row g 0) (row d i) j := by
  have h := pay5 x i j
  generalize hP : k0_pay5 (F := Ideal) x = P at h
  pointwise [k0_pay6]
  rw [hP, h]
  rfl

theorem pay10 (i : Fin 256) (j : Fin 2048) : k0_pay10 (F := Ideal) x g d (ix2 i j) = dy (row x i) (row g 0) (row d i) j := by
  have h := pay6 x g d i j
  generalize hP : k0_pay6 (F := Ideal) x g d = P at h
  pointwise [k0_pay10]
  rw [hP, h]
  rfl

/-- The loss, added to what the output held. -/
theorem pay9 (a : FVec Ideal S8x128 .f32) (p : Fin 8) (q : Fin 128) : k0_pay9 (F := Ideal) x g d a (ix2 p q) = a (ix2 p q) + lossPart x g d := by
  have h := pay6 x g d
  generalize hP : k0_pay6 (F := Ideal) x g d = P at h
  pointwise [k0_pay9]
  rw [hP]
  simp only [h, Finset.sum_const, Finset.card_univ, Fintype.card_fin, one_smul]
  rfl

/-- The gain's gradient, added to what the output held. -/
theorem pay1 (a : FVec Ideal S1x2048 .f32) (j : Fin 2048) :
    k0_pay1 (F := Ideal) (k0_pay5 x) (k0_pay10 x g d) a (ix2 0 j) = a (ix2 0 j) + dgPart x g d j := by
  have h := fun i => pay5 x i j
  have h' := fun i => pay10 x g d i j
  generalize k0_pay5 (F := Ideal) x = P at h
  generalize k0_pay10 (F := Ideal) x g d = Q at h'
  pointwise [k0_pay1]
  simp only [h, h']
  rfl

/-- The rows' gradient. -/
theorem pay2 (i : Fin 256) (j : Fin 2048) :
    k0_pay2 (F := Ideal) (k0_pay4 x) (k0_pay5 x) g (k0_pay10 x g d) (ix2 i j) = dhRow (row x i) (row g 0) (row d i) j := by
  have h := fun j => pay5 x i j
  have h' := fun j => pay10 x g d i j
  have h4 := pay4 x i
  generalize k0_pay5 (F := Ideal) x = P at h
  generalize k0_pay10 (F := Ideal) x g d = Q at h'
  generalize k0_pay4 (F := Ideal) x = R at h4
  pointwise [k0_pay2]
  simp only [h, h', h4]
  rfl

theorem pay3 (i : Fin 256) (j : Fin 2048) :
    k0_pay3 (F := Ideal) (k0_pay4 x) (k0_pay5 x) g (k0_pay10 x g d) (ix2 i j) = dhRow (row x i) (row g 0) (row d i) j := by
  have h := pay2 x g d i j
  generalize hP : k0_pay2 (F := Ideal) (k0_pay4 x) (k0_pay5 x) g (k0_pay10 x g d) = P at h
  pointwise [k0_pay3]
  rw [hP, h]

/-- A load of a whole block reads the block. -/
theorem load_all {e : EltTy} {n N : ℕ} (a : Memref sig .tc .vmem ⟨2, ![n, N]⟩ e) (ha : a.IsWhole) (x : Vec Ideal ⟨2, ![n, N]⟩ e) (inb) :
    View.readAt (Elt Ideal) a.view (Rect.unit (s := ⟨2, ![n, N]⟩) ![0, 0] ![n, N] inb).toLoadRect (ha.unread x) = x := by
  funext y
  obtain ⟨r, d, rfl⟩ : ∃ (r : Fin n) (d : Fin N), y = ix2 r d := ⟨y 0, y 1, eq_ix2 y⟩
  exact Cert.Loads.all a ha x inb r d

/-- A load from an output just filled with zeros reads zero. -/
theorem readCov_fill_dg (v : View sig .tc .vmem S1x2048 .f32) (r : Rect S1x2048) (y : r.toLoadRect.shape.Idx) :
    v.readCov (Val := Elt Ideal) [⟨Rect.unit ![0, 0] S1x2048.size inb_S1x2048_S1x2048_0_0, (k0_pay7 (F := Ideal) : S1x2048.Idx → Elt Ideal .f32)⟩] r.toLoadRect y = (0 : EReal) :=
  (congrFun (View.readCov_fill (Val := Elt Ideal) v inb_S1x2048_S1x2048_0_0 (k0_pay7 (F := Ideal)) [] r
    (fun a => by match a with | ⟨0, _⟩ => rfl | ⟨1, _⟩ => rfl)) y).trans Ideal.ofBits_zero_f32

theorem readCov_fill_loss (v : View sig .tc .vmem S8x128 .f32) (r : Rect S8x128) (y : r.toLoadRect.shape.Idx) :
    v.readCov (Val := Elt Ideal) [⟨Rect.unit ![0, 0] S8x128.size inb_S8x128_S8x128_0_0, (k0_pay8 (F := Ideal) : S8x128.Idx → Elt Ideal .f32)⟩] r.toLoadRect y = (0 : EReal) :=
  (congrFun (View.readCov_fill (Val := Elt Ideal) v inb_S8x128_S8x128_0_0 (k0_pay8 (F := Ideal)) [] r
    (fun a => by match a with | ⟨0, _⟩ => rfl | ⟨1, _⟩ => rfl)) y).trans Ideal.ofBits_zero_f32

section Points

variable (c : Dev nD) (t : grid0.Coords) (arg1 : Memref sig .tc .vmem S256x2048 .f32) (harg1 : arg1.IsWhole)
  (arg2 : Memref sig .tc .vmem S1x2048 .f32) (harg2 : arg2.IsWhole) (arg3 : Memref sig .tc .vmem S256x2048 .f32) (harg3 : arg3.IsWhole)
  (arg4 : Memref sig .tc .vmem S8x128 .f32) (harg4 : arg4.IsWhole) (arg5 : Memref sig .tc .vmem S256x2048 .f32) (harg5 : arg5.IsWhole)
  (arg6 : Memref sig .tc .vmem S256x2048 .bf16) (harg6 : arg6.IsWhole) (arg7 : Memref sig .tc .vmem S1x2048 .f32) (harg7 : arg7.IsWhole)
  (l : FVec Ideal S8x128 .f32) (a : FVec Ideal S1x2048 .f32)

/-- The first point starts the loss from zero. -/
theorem out_A_loss (hc0 : cond0_0 t) (p : Fin 8) (q : Fin 128) :
    out0_A_3 (F := Ideal) c t arg1 harg1 arg2 harg2 arg3 harg3 arg4 harg4 arg5 harg5 arg6 harg6 arg7 harg7 hc0 x g d (ix2 p q)
      = 0 + lossPart x g d := by
  unfold out0_A_3 kernelRun0_A
  dsimp only
  sl_unfold_run_names
  refine (congrFun (View.read_writes_full (Val := Elt Ideal) _ _ _ _ _) _).trans ?_
  rw [load_all arg1 harg1, load_all arg2 harg2, load_all arg3 harg3]
  exact (pay9 ..).trans (congrArg (· + lossPart x g d) (readCov_fill_loss _ (Rect.unit ![0, 0] S8x128.size inb_S8x128_S8x128_0_0) _))

theorem out_A_dh (hc0 : cond0_0 t) (i : Fin 256) (j : Fin 2048) :
    out0_A_4 (F := Ideal) c t arg1 harg1 arg2 harg2 arg3 harg3 arg4 harg4 arg5 harg5 arg6 harg6 arg7 harg7 hc0 x g d (ix2 i j)
      = dhRow (row x i) (row g 0) (row d i) j := by
  unfold out0_A_4 kernelRun0_A
  dsimp only
  sl_unfold_run_names
  refine (congrFun (View.read_writes_full (Val := Elt Ideal) _ _ _ _ _) _).trans ?_
  rw [load_all arg1 harg1, load_all arg2 harg2, load_all arg3 harg3]
  exact pay2 ..

theorem out_A_dhb (hc0 : cond0_0 t) (i : Fin 256) (j : Fin 2048) :
    out0_A_5 (F := Ideal) c t arg1 harg1 arg2 harg2 arg3 harg3 arg4 harg4 arg5 harg5 arg6 harg6 arg7 harg7 hc0 x g d (ix2 i j)
      = dhRow (row x i) (row g 0) (row d i) j := by
  unfold out0_A_5 kernelRun0_A
  dsimp only
  sl_unfold_run_names
  refine (congrFun (View.read_writes_full (Val := Elt Ideal) _ _ _ _ _) _).trans ?_
  rw [load_all arg1 harg1, load_all arg2 harg2, load_all arg3 harg3]
  exact pay3 ..

/-- The first point starts the gain's gradient from zero. -/
theorem out_A_dg (hc0 : cond0_0 t) (j : Fin 2048) :
    out0_A_6 (F := Ideal) c t arg1 harg1 arg2 harg2 arg3 harg3 arg4 harg4 arg5 harg5 arg6 harg6 arg7 harg7 hc0 x g d (ix2 0 j)
      = 0 + dgPart x g d j := by
  unfold out0_A_6 kernelRun0_A
  dsimp only
  sl_unfold_run_names
  refine (congrFun (View.read_writes_full (Val := Elt Ideal) _ _ _ _ _) _).trans ?_
  rw [load_all arg1 harg1, load_all arg2 harg2, load_all arg3 harg3]
  exact (pay1 ..).trans (congrArg (· + dgPart x g d j) (readCov_fill_dg _ (Rect.unit ![0, 0] S1x2048.size inb_S1x2048_S1x2048_0_0) _))

/-- A later point adds its part of the loss. -/
theorem out_B_loss (hc0 : ¬cond0_0 t) (p : Fin 8) (q : Fin 128) :
    out0_B_3 (F := Ideal) c t arg1 harg1 arg2 harg2 arg3 harg3 arg4 harg4 arg5 harg5 arg6 harg6 arg7 harg7 hc0 x g d l a (ix2 p q)
      = l (ix2 p q) + lossPart x g d := by
  unfold out0_B_3 kernelRun0_B
  dsimp only
  sl_unfold_run_names
  refine (congrFun (View.read_writes_full (Val := Elt Ideal) _ _ _ _ _) _).trans ?_
  rw [load_all arg1 harg1, load_all arg2 harg2, load_all arg3 harg3, load_all arg4 harg4]
  exact pay9 ..

theorem out_B_dh (hc0 : ¬cond0_0 t) (i : Fin 256) (j : Fin 2048) :
    out0_B_4 (F := Ideal) c t arg1 harg1 arg2 harg2 arg3 harg3 arg4 harg4 arg5 harg5 arg6 harg6 arg7 harg7 hc0 x g d l a (ix2 i j)
      = dhRow (row x i) (row g 0) (row d i) j := by
  unfold out0_B_4 kernelRun0_B
  dsimp only
  sl_unfold_run_names
  refine (congrFun (View.read_writes_full (Val := Elt Ideal) _ _ _ _ _) _).trans ?_
  rw [load_all arg1 harg1, load_all arg2 harg2, load_all arg3 harg3]
  exact pay2 ..

theorem out_B_dhb (hc0 : ¬cond0_0 t) (i : Fin 256) (j : Fin 2048) :
    out0_B_5 (F := Ideal) c t arg1 harg1 arg2 harg2 arg3 harg3 arg4 harg4 arg5 harg5 arg6 harg6 arg7 harg7 hc0 x g d l a (ix2 i j)
      = dhRow (row x i) (row g 0) (row d i) j := by
  unfold out0_B_5 kernelRun0_B
  dsimp only
  sl_unfold_run_names
  refine (congrFun (View.read_writes_full (Val := Elt Ideal) _ _ _ _ _) _).trans ?_
  rw [load_all arg1 harg1, load_all arg2 harg2, load_all arg3 harg3]
  exact pay3 ..

/-- A later point adds its part of the gain's gradient. -/
theorem out_B_dg (hc0 : ¬cond0_0 t) (j : Fin 2048) :
    out0_B_6 (F := Ideal) c t arg1 harg1 arg2 harg2 arg3 harg3 arg4 harg4 arg5 harg5 arg6 harg6 arg7 harg7 hc0 x g d l a (ix2 0 j)
      = a (ix2 0 j) + dgPart x g d j := by
  unfold out0_B_6 kernelRun0_B
  dsimp only
  sl_unfold_run_names
  refine (congrFun (View.read_writes_full (Val := Elt Ideal) _ _ _ _ _) _).trans ?_
  rw [load_all arg1 harg1, load_all arg2 harg2, load_all arg3 harg3, load_all arg7 harg7]
  exact pay1 ..

end Points

end Cert.LossBlock

end
-- ==== Proof.LossArray.lean ====
/- What the kernel `loss_head` leaves in its four result arrays. -/
module

public import proofs.«01_k».proof.Proof.LossBlock
public import proofs.«01_k».proof.Proof.Sums
public import Idealize.ShloMosaic.Lib.Pipeline.Value
public import Idealize.ShloMosaic.Lib.Pipeline.ValueKit

@[expose] public section

noncomputable section

namespace Cert.LossArray

open Cert.LossBwdIdeal Cert.LossBwdIdeal.Gen Idealize.ShloMosaic Idealize.ShloMosaic.TcCoe Idealize.ShloMosaic.Tactic Cert.Rms Cert.LossBlock
open Idealize.ShloMosaic.Pipeline (Dat)

/-- Row `i` of block `t`. -/
def rowAt (t : ℕ) (i : Fin 256) : Fin 8192 := Fin.ofNat 8192 (256 * t + i.val)

section Results

variable (x : FVec Ideal S8192x2048 .f32) (g : FVec Ideal S1x2048 .f32) (d : FVec Ideal S8192x2048 .f32)

/-- Row `i`'s summand of the loss. -/
def lossTerm (i : Fin 8192) : EReal := rowLoss (row x i) (row g 0) (row d i) * cHf

/-- The gradient of the rows. -/
def dhAll (i : Fin 8192) (j : Fin 2048) : EReal := dhRow (row x i) (row g 0) (row d i) j

/-- Row `i`'s summand of the gain's gradient. -/
def dgTerm (j : Fin 2048) (i : Fin 8192) : EReal := dgRow (row x i) (row g 0) (row d i) j

end Results

theorem cHf_eq : cHf = ((1 / 2 : ℝ) : EReal) := by
  simp [cHf, Ideal.ofBits, Ideal.ieee]; rw [← EReal.coe_mul]; norm_num

/-- The half of a sum is the sum of the halves. -/
theorem half_sum {J : Type} [Fintype J] (f : J → EReal) : cHf * ∑ i, f i = ∑ i, f i * cHf := by
  rw [mul_comm, cHf_eq]
  exact Softmax.sum_mul_real _ _ (by norm_num)

variable (m : (ℓ : Loc nD τ sig) → Buf (Elt Ideal) ℓ) (c : Dev nD)

/-- The rows, the gain and the target. -/
abbrev X : FVec Ideal S8192x2048 .f32 := m ((c : Thread nD τ).loc main_arg0)
abbrev G : FVec Ideal S1x2048 .f32 := m ((c : Thread nD τ).loc main_arg1)
abbrev D : FVec Ideal S8192x2048 .f32 := m ((c : Thread nD τ).loc main_arg2)

theorem index0 : ∀ t : Fin cfg0.N, win0_0.index t 0 = t.val ∧ win0_0.index t 1 = 0 := by
  show ∀ t : Fin grid0.N, _; decide +kernel
theorem index1 : ∀ t : Fin cfg0.N, win0_1.index t 0 = 0 ∧ win0_1.index t 1 = 0 := by
  show ∀ t : Fin grid0.N, _; decide +kernel
theorem index2 : ∀ t : Fin cfg0.N, win0_2.index t 0 = t.val ∧ win0_2.index t 1 = 0 := by
  show ∀ t : Fin grid0.N, _; decide +kernel
theorem index3 : ∀ t : Fin cfg0.N, win0_3.index t 0 = 0 ∧ win0_3.index t 1 = 0 := by
  show ∀ t : Fin grid0.N, _; decide +kernel
theorem index4 : ∀ t : Fin cfg0.N, win0_4.index t 0 = t.val ∧ win0_4.index t 1 = 0 := by
  show ∀ t : Fin grid0.N, _; decide +kernel
theorem index5 : ∀ t : Fin cfg0.N, win0_5.index t 0 = t.val ∧ win0_5.index t 1 = 0 := by
  show ∀ t : Fin grid0.N, _; decide +kernel
theorem index6 : ∀ t : Fin cfg0.N, win0_6.index t 0 = 0 ∧ win0_6.index t 1 = 0 := by
  show ∀ t : Fin grid0.N, _; decide +kernel

theorem lt32 (t : Fin cfg0.N) : t.val < 32 := lt_of_lt_of_eq t.isLt (show cfg0.N = 32 from N_0)

theorem row0 (t : Fin cfg0.N) (i : Fin 256) : row (φ := .f32) (iblk m c 0 t) i = row (X m c) (rowAt t.val i) := by
  funext j
  have hi := index0 t
  have ht := lt32 t
  show iblk m c 0 t (ix2 i j) = _
  refine (congrFun (V_main_arg0 m c) _).trans (congrArg (m _) (funext fun a => Fin.ext ?_))
  have h1 := i.isLt
  match a with
  | ⟨0, _⟩ => show win0_0.index t 0 * 256 + 1 * i.val = (256 * t.val + i.val) % 8192; rw [hi.1]; omega
  | ⟨1, _⟩ => show win0_0.index t 1 * 2048 + 1 * j.val = j.val; rw [hi.2]; omega

theorem row2 (t : Fin cfg0.N) (i : Fin 256) : row (φ := .f32) (iblk m c 2 t) i = row (D m c) (rowAt t.val i) := by
  funext j
  have hi := index2 t
  have ht := lt32 t
  show iblk m c 2 t (ix2 i j) = _
  refine (congrFun (V_main_arg2 m c) _).trans (congrArg (m _) (funext fun a => Fin.ext ?_))
  have h1 := i.isLt
  match a with
  | ⟨0, _⟩ => show win0_2.index t 0 * 256 + 1 * i.val = (256 * t.val + i.val) % 8192; rw [hi.1]; omega
  | ⟨1, _⟩ => show win0_2.index t 1 * 2048 + 1 * j.val = j.val; rw [hi.2]; omega

theorem row1 (t : Fin cfg0.N) : row (φ := .f32) (iblk m c 1 t) 0 = row (G m c) 0 := by
  funext j
  have hi := index1 t
  show iblk m c 1 t (ix2 0 j) = _
  refine (congrFun (V_main_arg1 m c) _).trans (congrArg (m _) (funext fun a => Fin.ext ?_))
  match a with
  | ⟨0, _⟩ => show win0_1.index t 0 * 1 + 1 * 0 = 0; rw [hi.1]
  | ⟨1, _⟩ => show win0_1.index t 1 * 2048 + 1 * j.val = j.val; rw [hi.2]; omega

theorem dh_point (t : Fin cfg0.N) (i : Fin 256) (j : Fin 2048) :
    dhRow (row (φ := .f32) (iblk m c 0 t) i) (row (φ := .f32) (iblk m c 1 t) 0) (row (φ := .f32) (iblk m c 2 t) i) j
      = dhAll (X m c) (G m c) (D m c) (rowAt t.val i) j := by
  unfold dhAll
  rw [row0, row1, row2]

/-- Point `t`'s parts of the gain's gradient and of the loss. -/
def part (t : ℕ) (j : Fin 2048) : EReal := ∑ i : Fin 256, dgTerm (X m c) (G m c) (D m c) j (rowAt t i)
def lpart (t : ℕ) : EReal := ∑ i : Fin 256, lossTerm (X m c) (G m c) (D m c) (rowAt t i)

theorem dg_point (t : Fin cfg0.N) (j : Fin 2048) : dgPart (iblk m c 0 t) (iblk m c 1 t) (iblk m c 2 t) j = part m c t.val j := by
  unfold dgPart part dgTerm
  refine Finset.sum_congr rfl fun i _ => ?_
  rw [row0, row1, row2]

theorem loss_point (t : Fin cfg0.N) : lossPart (iblk m c 0 t) (iblk m c 1 t) (iblk m c 2 t) = lpart m c t.val := by
  unfold lossPart lpart lossTerm
  rw [half_sum]
  refine Finset.sum_congr rfl fun i _ => ?_
  rw [row0, row1, row2]

theorem outs_dh (t : Fin cfg0.N) (i : Fin 256) (j : Fin 2048) :
    (outsAt0 m c t.val t.isLt).2.1 (ix2 i j) = dhAll (X m c) (G m c) (D m c) (rowAt t.val i) j := by
  rw [← dh_point]
  by_cases h0 : t.val % 32 = 0
  · rw [outsAt0_A m c t h0]
    dsimp only
    exact out_A_dh ..
  · rw [outsAt0_B m c t h0]
    dsimp only
    exact out_B_dh ..

theorem outs_dhb (t : Fin cfg0.N) (i : Fin 256) (j : Fin 2048) :
    (outsAt0 m c t.val t.isLt).2.2.1 (ix2 i j) = dhAll (X m c) (G m c) (D m c) (rowAt t.val i) j := by
  rw [← dh_point]
  by_cases h0 : t.val % 32 = 0
  · rw [outsAt0_A m c t h0]
    dsimp only
    exact out_A_dhb ..
  · rw [outsAt0_B m c t h0]
    dsimp only
    exact out_B_dhb ..

/-- After point `n` the gain's gradient holds the sum of the points' parts up to there. -/
theorem outs_dg (j : Fin 2048) : ∀ (n : ℕ) (h : n < cfg0.N), (outsAt0 m c n h).2.2.2 (ix2 0 j) = ∑ t ∈ Finset.range (n + 1), part m c t j
  | 0, h => by
    rw [Finset.sum_range_one, ← dg_point m c ⟨0, h⟩ j, ← zero_add (dgPart _ _ _ _)]
    rw [outsAt0_A m c ⟨0, h⟩ rfl]
    dsimp only
    exact out_A_dg ..
  | n + 1, h => by
    have h0 : ¬(⟨n + 1, h⟩ : Fin cfg0.N).val % 32 = 0 := by have := lt32 ⟨n + 1, h⟩; dsimp only at this ⊢; omega
    rw [Finset.sum_range_succ, ← dg_point m c ⟨n + 1, h⟩ j, ← outs_dg j n (Nat.lt_of_succ_lt h)]
    rw [outsAt0_B m c ⟨n + 1, h⟩ h0]
    dsimp only
    exact out_B_dg ..

/-- After point `n` every element of the loss holds the sum of the points' parts up to there. -/
theorem outs_loss (p : Fin 8) (q : Fin 128) : ∀ (n : ℕ) (h : n < cfg0.N), (outsAt0 m c n h).1 (ix2 p q) = ∑ t ∈ Finset.range (n + 1), lpart m c t
  | 0, h => by
    rw [Finset.sum_range_one, ← loss_point m c ⟨0, h⟩, ← zero_add (lossPart _ _ _)]
    rw [outsAt0_A m c ⟨0, h⟩ rfl]
    dsimp only
    exact out_A_loss ..
  | n + 1, h => by
    have h0 : ¬(⟨n + 1, h⟩ : Fin cfg0.N).val % 32 = 0 := by have := lt32 ⟨n + 1, h⟩; dsimp only at this ⊢; omega
    rw [Finset.sum_range_succ, ← loss_point m c ⟨n + 1, h⟩, ← outs_loss p q n (Nat.lt_of_succ_lt h)]
    rw [outsAt0_B m c ⟨n + 1, h⟩ h0]
    dsimp only
    exact out_B_loss ..

/-- THE FIRST RESULT: the loss, in every element. -/
theorem array_loss : (dats m 0 c).arrAt 3 cfg0.N = fun _ : S8x128.Idx => ∑ i, lossTerm (X m c) (G m c) (D m c) i := by
  refine (dats m 0 c).arrAt_eq_of_covers 3 _ (by decide +kernel) fun t hf y => ?_
  show (dats m 0 c).after 3 t y = _
  have h31 : t.val = 31 := by have := (flush0_3 t).mp hf; have := lt32 t; omega
  obtain ⟨p, q, rfl⟩ : ∃ (p : Fin 8) (q : Fin 128), y = ix2 p q := ⟨y 0, y 1, eq_ix2 y⟩
  rw [after0_3, outs_loss, h31]
  exact Cert.Sums.blocks 32 256 8192 (by norm_num) (lossTerm (X m c) (G m c) (D m c))

/-- THE SECOND RESULT: the rows' gradient. -/
theorem array_dh : (dats m 0 c).arrAt 4 cfg0.N
    = fun y : S8192x2048.Idx => dhAll (X m c) (G m c) (D m c) (y 0) (y 1) := by
  refine (dats m 0 c).arrAt_eq_of_covers 4 _ (by decide +kernel) fun t hf y => ?_
  show (dats m 0 c).after 4 t y = _
  have hi := index4 t
  have ht := lt32 t
  obtain ⟨i, j, rfl⟩ : ∃ (i : Fin 256) (j : Fin 2048), y = ix2 i j := ⟨y 0, y 1, eq_ix2 y⟩
  rw [after0_4, outs_dh]
  have h1 := i.isLt
  refine congr (congrArg _ (Fin.ext ?_)) (Fin.ext ?_)
  · show (256 * t.val + i.val) % 8192 = win0_4.index t 0 * 256 + 1 * i.val
    rw [hi.1]; omega
  · show j.val = win0_4.index t 1 * 2048 + 1 * j.val
    rw [hi.2]; omega

/-- THE THIRD RESULT: the same. -/
theorem array_dhb : (dats m 0 c).arrAt 5 cfg0.N
    = fun y : S8192x2048.Idx => dhAll (X m c) (G m c) (D m c) (y 0) (y 1) := by
  refine (dats m 0 c).arrAt_eq_of_covers 5 _ (by decide +kernel) fun t hf y => ?_
  show (dats m 0 c).after 5 t y = _
  have hi := index5 t
  have ht := lt32 t
  obtain ⟨i, j, rfl⟩ : ∃ (i : Fin 256) (j : Fin 2048), y = ix2 i j := ⟨y 0, y 1, eq_ix2 y⟩
  rw [after0_5, outs_dhb]
  have h1 := i.isLt
  refine congr (congrArg _ (Fin.ext ?_)) (Fin.ext ?_)
  · show (256 * t.val + i.val) % 8192 = win0_5.index t 0 * 256 + 1 * i.val
    rw [hi.1]; omega
  · show j.val = win0_5.index t 1 * 2048 + 1 * j.val
    rw [hi.2]; omega

/-- THE FOURTH RESULT: the gain's gradient. -/
theorem array_dg : (dats m 0 c).arrAt 6 cfg0.N = fun y : S1x2048.Idx => ∑ i, dgTerm (X m c) (G m c) (D m c) (y 1) i := by
  refine (dats m 0 c).arrAt_eq_of_covers 6 _ (by decide +kernel) fun t hf y => ?_
  show (dats m 0 c).after 6 t y = _
  have h31 : t.val = 31 := by have := (flush0_6 t).mp hf; have := lt32 t; omega
  have hi := index6 t
  obtain ⟨i, j, rfl⟩ : ∃ (i : Fin 1) (j : Fin 2048), y = ix2 i j := ⟨y 0, y 1, eq_ix2 y⟩
  obtain rfl : i = 0 := Subsingleton.elim _ _
  rw [after0_6, outs_dg, h31]
  refine (Cert.Sums.blocks 32 256 8192 (by norm_num) (dgTerm (X m c) (G m c) (D m c) j)).trans ?_
  refine Finset.sum_congr rfl fun k _ => congrArg (fun e => dgTerm (X m c) (G m c) (D m c) e k) (Fin.ext ?_)
  show j.val = win0_6.index t 1 * 2048 + 1 * j.val
  rw [hi.2]; omega

end Cert.LossArray

end
-- ==== Proof.LossClaim.lean ====
/- The loss head: what its reference, the loss and its gradients, computes, and the claims. -/
module

public import proofs.«01_k».proof.Defs
public import proofs.«01_k».proof.Proof.LossArray
public import proofs.«01_k».proof.Proof.Gen.LossBwd
public import proofs.«01_k».proof.Proof.Gen.LossBwd.Frame
public import proofs.«01_k».proof.Proof.Gen.LossGradIdeal.Run
public import proofs.«01_k».proof.Proof.Gen.LossGradIdeal.Read
public import Idealize.ShloMosaic.Lib.KernelVsHost
public import Idealize.ShloMosaic.Lib.IdealHost

@[expose] public section

noncomputable section

namespace Cert.LossClaim

open Idealize.ShloMosaic Idealize.SL.Sem Cert.Rms Cert.LossBlock Cert.LossArray

/-- The constants of the reference: one, and two. -/
abbrev cOne : EReal := Ideal.ofBits .f32 0x3F800000#32
abbrev cTwo : EReal := Ideal.ofBits .f32 0x40000000#32

theorem cOne_eq : cOne = ((1 : ℝ) : EReal) := by
  simp [cOne, Ideal.ofBits, Ideal.ieee]; rw [← EReal.coe_mul]; norm_num

theorem cTwo_eq : cTwo = ((2 : ℝ) : EReal) := by
  simp [cTwo, Ideal.ofBits, Ideal.ieee]; rw [← EReal.coe_mul]; norm_num

theorem cInv_eq : cInv = ((1 / 2048 : ℝ) : EReal) := by
  simp [cInv, Ideal.ofBits, Ideal.ieee]; rw [← EReal.coe_mul]; norm_num

/-- The gradient of the half of the mean of the squares, by one error: the two, the half and the count together. -/
theorem dy_eq (e : EReal) : Ideal.div (cHf * cOne) cD * (cTwo * e) = e * cInv := by
  rw [cHf_eq, cOne_eq, cTwo_eq, cInv_eq, cD_eq, Ideal.div_coe (by norm_num), mul_comm e, ← mul_assoc]
  congr 1
  rw [← EReal.coe_mul, ← EReal.coe_mul, ← EReal.coe_mul]
  congr 1
  norm_num

section Reference

open Cert.LossGradIdeal Cert.LossGradIdeal.Gen Cert.LossGradIdeal.Read

variable (x0 : FVec Ideal S8192x2048 .f32) (x1 : FVec Ideal S1x2048 .f32) (x2 : FVec Ideal S8192x2048 .f32)

theorem v2 (i : S8192.Idx) : val_main_v2 (F := Ideal) x0 i = ∑ k, row x0 (i 0) k * row x0 (i 0) k := by
  rw [val_main_v2_apply, val_main_cst_apply]
  show Ideal.ofBits .f32 0x00000000#32 + _ = _
  rw [Ideal.ofBits_zero_f32, zero_add]
  refine Finset.sum_congr rfl fun k _ => ?_
  rw [val_main_v1_apply, show idx_main_v2 i k = ix2 (i 0) k from (eq_ix2 _).trans rfl]
  rfl

theorem v7 (i : S8192x1.Idx) : val_main_v7 (F := Ideal) x0 i = var (row x0 (i 0)) := by
  rw [val_main_v7_apply, val_main_v5_apply, val_main_v3_apply, val_main_v4_apply, val_main_v6_apply, val_main_cst_0_apply, val_main_cst_1_apply, v2]
  rfl

theorem v8 (i : S8192x1.Idx) : val_main_v8 (F := Ideal) x0 i = inv (row x0 (i 0)) := by
  rw [val_main_v8_apply, v7]
  rfl

theorem v11 (i : S8192x1.Idx) : val_main_v11 (F := Ideal) x0 i = cHalf * Ideal.div (inv (row x0 (i 0))) (var (row x0 (i 0))) := by
  rw [val_main_v11_apply, val_main_v10_apply, val_main_v9_apply, val_main_cst_2_apply, v8, v7]
  rfl

theorem v13 (i : S8192x2048.Idx) : val_main_v13 (F := Ideal) x0 i = row x0 (i 0) (i 1) * inv (row x0 (i 0)) := by
  rw [val_main_v13_apply, val_main_v12_apply, v8]
  obtain ⟨r, d, rfl⟩ : ∃ (r : Fin 8192) (d : Fin 2048), i = ix2 r d := ⟨i 0, i 1, eq_ix2 i⟩
  rfl

/-- The gain, over every row. -/
theorem v14 (i : S1x2048.Idx) : val_main_v14 (F := Ideal) x1 i = row x1 0 (i 1) := by
  rw [val_main_v14_apply, val_main_v0_apply]
  obtain ⟨r, d, rfl⟩ : ∃ (r : Fin 1) (d : Fin 2048), i = ix2 r d := ⟨i 0, i 1, eq_ix2 i⟩
  refine congrArg x1 (funext fun a => Fin.ext ?_)
  have h1 := d.isLt
  match a with
  | ⟨0, _⟩ => rfl
  | ⟨1, _⟩ => show d.val % 2048 = d.val; omega

theorem v17 (i : S8192x2048.Idx) : val_main_v17 (F := Ideal) x0 x1 x2 i = err (row x0 (i 0)) (row x1 0) (row x2 (i 0)) (i 1) := by
  rw [val_main_v17_apply, val_main_v16_apply, val_main_v15_apply, v13, v14]
  obtain ⟨r, d, rfl⟩ : ∃ (r : Fin 8192) (d : Fin 2048), i = ix2 r d := ⟨i 0, i 1, eq_ix2 i⟩
  rfl

theorem v23 (i : S8192.Idx) : val_main_v23 (F := Ideal) x0 x1 x2 i = rowLoss (row x0 (i 0)) (row x1 0) (row x2 (i 0)) := by
  rw [val_main_v23_apply, val_main_v22_apply, val_main_cst_5_apply, val_main_v21_apply, val_main_cst_4_apply]
  refine congrArg (fun z : EReal => Ideal.div z cD) ?_
  show Ideal.ofBits .f32 0x00000000#32 + _ = _
  rw [Ideal.ofBits_zero_f32, zero_add]
  refine Finset.sum_congr rfl fun k _ => ?_
  rw [val_main_v18_apply, v17]
  rfl

/-- An index of a rank-one array is its number. -/
def num : S8192.Idx ≃ Fin 8192 where
  toFun i := i 0
  invFun k := fun a => match a with | ⟨0, _⟩ => k
  left_inv i := funext fun a => by match a with | ⟨0, _⟩ => rfl
  right_inv _ := rfl

theorem v52 (i : S8x128.Idx) : val_main_v52 (F := Ideal) x0 x1 x2 i = ∑ k, lossTerm x0 x1 x2 k := by
  rw [val_main_v52_apply, val_main_v25_apply, val_main_cst_7_apply, val_main_v24_apply, val_main_cst_6_apply]
  show cHf * (Ideal.ofBits .f32 0x00000000#32 + _) = _
  rw [Ideal.ofBits_zero_f32, zero_add, half_sum]
  refine Fintype.sum_equiv num _ _ fun k => ?_
  rw [v23]
  rfl

theorem v31 (i : S8192x2048.Idx) : val_main_v31 (F := Ideal) x0 x1 x2 i = dy (row x0 (i 0)) (row x1 0) (row x2 (i 0)) (i 1) := by
  rw [val_main_v31_apply, val_main_v30_apply, val_main_v29_apply, val_main_v27_apply, val_main_v26_apply, val_main_cst_8_apply, val_main_cst_9_apply,
    val_main_v28_apply, val_main_cst_10_apply, val_main_v20_apply, val_main_v19_apply, val_main_cst_3_apply, v17]
  exact dy_eq _

theorem v36 (i : S8192x2048.Idx) :
    val_main_v36 (F := Ideal) x0 x1 x2 i = dy (row x0 (i 0)) (row x1 0) (row x2 (i 0)) (i 1) * row x1 0 (i 1) := by
  rw [val_main_v36_apply, v31, val_main_v35_apply, v14]
  rfl

theorem v39 (i : S8192.Idx) :
    val_main_v39 (F := Ideal) x0 x1 x2 i = ∑ k, row x0 (i 0) k * (dy (row x0 (i 0)) (row x1 0) (row x2 (i 0)) k * row x1 0 k) := by
  rw [val_main_v39_apply, val_main_cst_13_apply]
  show Ideal.ofBits .f32 0x00000000#32 + _ = _
  rw [Ideal.ofBits_zero_f32, zero_add]
  refine Finset.sum_congr rfl fun k _ => ?_
  rw [val_main_v38_apply, v36, show idx_main_v39 i k = ix2 (i 0) k from (eq_ix2 _).trans rfl]
  rfl

theorem v47 (i : S8192x2048.Idx) :
    val_main_v47 (F := Ideal) x0 x1 x2 i = gradSq (row x0 (i 0)) (fun k => dy (row x0 (i 0)) (row x1 0) (row x2 (i 0)) k * row x1 0 k) := by
  rw [val_main_v47_apply, val_main_v46_apply, val_main_cst_15_apply]
  show Ideal.ofBits .f32 0x00000000#32 + _ = _
  rw [Ideal.ofBits_zero_f32, zero_add, Fin.sum_univ_one, val_main_v45_apply, val_main_v43_apply, val_main_v44_apply, val_main_cst_14_apply,
    val_main_v40_apply, v11, v39]
  rw [show idx_main_v40 (idx_main_v46 (idx_main_v47 i) 0) 0 = i 0 from Fin.ext (show (i 0).val * 1 + 0 = (i 0).val by omega)]
  rfl

theorem v51 (i : S8192x2048.Idx) : val_main_v51 (F := Ideal) x0 x1 x2 i = dhAll x0 x1 x2 (i 0) (i 1) := by
  rw [val_main_v51_apply, val_main_v50_apply, val_main_v49_apply, val_main_v48_apply, val_main_v42_apply, val_main_v41_apply, v8, v36, v47]
  obtain ⟨r, d, rfl⟩ : ∃ (r : Fin 8192) (d : Fin 2048), i = ix2 r d := ⟨i 0, i 1, eq_ix2 i⟩
  exact gradRef_eq (row x0 r) (fun k => dy (row x0 r) (row x1 0) (row x2 r) k * row x1 0 k) d

theorem v54 (i : S1x2048.Idx) : val_main_v54 (F := Ideal) x0 x1 x2 i = ∑ k, dgTerm x0 x1 x2 (i 1) k := by
  rw [val_main_v54_apply, val_main_v37_apply, val_main_cst_12_apply]
  show Ideal.ofBits .f32 0x00000000#32 + _ = _
  rw [Ideal.ofBits_zero_f32, zero_add, Fin.sum_univ_one, val_main_v34_apply, val_main_v33_apply, val_main_cst_11_apply]
  show Ideal.ofBits .f32 0x00000000#32 + _ = _
  rw [Ideal.ofBits_zero_f32, zero_add]
  refine Finset.sum_congr rfl fun k _ => ?_
  rw [val_main_v32_apply, v13, v31]
  obtain ⟨r, d, rfl⟩ : ∃ (r : Fin 1) (d : Fin 2048), i = ix2 r d := ⟨i 0, i 1, eq_ix2 i⟩
  have h1 := d.isLt
  rw [show idx_main_v33 (idx_main_v34 (idx_main_v37 (idx_main_v54 (ix2 r d)) 0)) k = ix2 k d from
    funext fun a => Fin.ext (by match a with | ⟨0, _⟩ => rfl | ⟨1, _⟩ => show 0 * 2048 + d.val = d.val; omega)]
  exact mul_comm _ _

end Reference

/-- The kernel's four results are the reference's. -/
theorem algebraic : algebraic_LossBwdIdeal_LossGradIdeal (hLossBwdIdeal := Cert.LossBwdIdeal.Gen.facts)
    (hLossGradIdeal := Cert.LossGradIdeal.Gen.facts) := by
  intro m ρ m' ρ' hm hagree
  refine ⟨fun c => (Cert.LossBwdIdeal.Gen.dats m 0 c).arrAt 3 Cert.LossBwdIdeal.cfg0.N,
    fun c => (Cert.LossBwdIdeal.Gen.dats m 0 c).arrAt 4 Cert.LossBwdIdeal.cfg0.N,
    fun c => (Cert.LossBwdIdeal.Gen.dats m 0 c).arrAt 5 Cert.LossBwdIdeal.cfg0.N,
    fun c => (Cert.LossBwdIdeal.Gen.dats m 0 c).arrAt 6 Cert.LossBwdIdeal.cfg0.N, Cert.LossBwdIdeal.Value.run_blocks m ρ, ?_⟩
  refine (θ_run _ _ _).mono (fun r h c => ?_) (Cert.LossGradIdeal.Value.run (F := Ideal) m' ρ')
  obtain ⟨h52, h51, h53, h54, hargs⟩ := h c
  obtain ⟨a0, a1, a2⟩ := hagree c
  refine ⟨h52.trans ?_, h51.trans ?_, h53.trans ?_, h54.trans ?_, hargs⟩
  · rw [Cert.LossGradIdeal.Read.val_main_v52_eq, a0, a1, a2]
    exact Eq.trans (funext fun i => v52 (X m c) (G m c) (D m c) i) (array_loss m c).symm
  · rw [Cert.LossGradIdeal.Read.val_main_v51_eq, a0, a1, a2]
    exact Eq.trans (funext fun i => v51 (X m c) (G m c) (D m c) i) (array_dh m c).symm
  · rw [Cert.LossGradIdeal.Read.val_main_v53_eq, a0, a1, a2]
    exact Eq.trans (funext fun i => (Cert.LossGradIdeal.Read.val_main_v53_apply ..).trans (v51 (X m c) (G m c) (D m c) i)) (array_dhb m c).symm
  · rw [Cert.LossGradIdeal.Read.val_main_v54_eq, a0, a1, a2]
    exact Eq.trans (funext fun i => v54 (X m c) (G m c) (D m c) i) (array_dg m c).symm

theorem frame_p : quiescent_LossBwd (hLossBwd := Cert.LossBwd.Gen.facts) := fun m ρ _ => Cert.LossBwd.Gen.frame m ρ

theorem frame_pi : quiescent_LossBwdIdeal (hLossBwdIdeal := Cert.LossBwdIdeal.Gen.facts) := fun m ρ _ => Cert.LossBwdIdeal.Gen.frame m ρ

/-- The reference runs to its end and leaves its arguments; it declares no semaphore. -/
theorem frame_ri : quiescent_LossGradIdeal (hLossGradIdeal := Cert.LossGradIdeal.Gen.facts) := fun m ρ _ =>
  (θ_run _ _ _).mono (fun r h => And.intro (fun c => (h c).2.2.2.2) (sem_eq_zero_of_no_sems (by decide) r.2))
    (Cert.LossGradIdeal.Value.run (F := Ideal) m ρ)

end Cert.LossClaim

end
-- ==== Proof.Lnorm.lean ====
/- One row of the normalization by mean and variance and of the activation after it, over the extended reals: what their
   gradient is, and that the reverse of the definition computes the same on finite gradients. -/
module

public import proofs.«01_k».proof.Proof.Rms

@[expose] public section

noncomputable section

namespace Cert.Lnorm

open Idealize.ShloMosaic Cert.Rms

variable {J : Type} [Fintype J]

/-- The number of columns, one, and two. -/
abbrev cN : EReal := Ideal.ofBits .f32 0x44800000#32
abbrev cOne : EReal := Ideal.ofBits .f32 0x3F800000#32
abbrev cTwo : EReal := Ideal.ofBits .f32 0x40000000#32

theorem cN_eq : cN = ((1024 : ℝ) : EReal) := by
  simp [cN, Ideal.ofBits, Ideal.ieee]; rw [← EReal.coe_mul]; norm_num

theorem cOne_eq : cOne = 1 := by
  rw [← EReal.coe_one]
  simp [cOne, Ideal.ofBits, Ideal.ieee]; rw [← EReal.coe_mul]; norm_num

theorem cTwo_eq : cTwo = ((2 : ℝ) : EReal) := by
  simp [cTwo, Ideal.ofBits, Ideal.ieee]; rw [← EReal.coe_mul]; norm_num

/-- The row less its mean. -/
def cen (x : J → EReal) (j : J) : EReal := x j - Ideal.div (∑ k, x k) cN

/-- The mean of the squares of the row less its mean, and the constant. -/
def lvar (x : J → EReal) : EReal := Ideal.div (∑ j, cen x j * cen x j) cN + cEps

/-- The reciprocal root. -/
def linv (x : J → EReal) : EReal := Ideal.rsqrt (lvar x)

/-- The normalized row. -/
def nrm (x : J → EReal) (j : J) : EReal := cen x j * linv x

/-- The gradient `d` of the activation `y · logistic y`, taken to `y`. -/
def act (d y : EReal) : EReal := d * (Ideal.logistic y * (1 + y * (1 - Ideal.logistic y)))

/-- The same, as the reverse of the product gives it. -/
def actRef (d y : EReal) : EReal := d * Ideal.logistic y + y * d * (Ideal.logistic y * (1 - Ideal.logistic y))

/-- The gradient of the normalized row times the gain, plus the bias. -/
def dyRow (x g b d : J → EReal) (k : J) : EReal := act (d k) (nrm x k * g k + b k)

def dyRef (x g b d : J → EReal) (k : J) : EReal := actRef (d k) (nrm x k * g k + b k)

/-- The gradient of the row, from the gradient `a` of the normalized row. -/
def lgrad (x a : J → EReal) (j : J) : EReal :=
  linv x * (a j - Ideal.div (∑ k, a k) cN - nrm x j * Ideal.div (∑ k, a k * nrm x k) cN)

/-- The gradient of each square of the centred row, as the reverse of the root, the sum and the division gives it. -/
def lgradSq (x a : J → EReal) : EReal :=
  Ideal.div ((∑ k, cen x k * a k) * (cHalf * Ideal.div (linv x) (lvar x))) cN

/-- The gradient of the row as the reverse of the product, the square, the root and the mean gives it. -/
def lgradRef (x a : J → EReal) (j : J) : EReal :=
  a j * linv x + lgradSq x a * (cTwo * cen x j)
    + Ideal.div (∑ k, -(a k * linv x) + ∑ k, -(lgradSq x a * (cTwo * cen x k))) cN

/-- The row's gradient, and its part of the gain's. -/
def dcRow (x g b d : J → EReal) (j : J) : EReal := lgrad x (fun k => dyRow x g b d k * g k) j
def dgRow (x g b d : J → EReal) (j : J) : EReal := dyRow x g b d j * nrm x j

/-- The logistic of an extended real is real. -/
theorem logistic_real (y : EReal) : ∃ s : ℝ, Ideal.logistic y = (s : EReal) := by
  induction y with
  | bot => exact ⟨0, by simp⟩
  | top => exact ⟨1, by simp⟩
  | coe r => exact ⟨_, Ideal.logistic_coe r⟩

/-- The two forms of the activation's gradient are equal, on a finite gradient. -/
theorem actRef_eq (d : ℝ) (y : EReal) : actRef (d : EReal) y = act (d : EReal) y := by
  have h1 : (1 : EReal) - 1 = 0 := by
    rw [← EReal.coe_one, ← EReal.coe_sub]; norm_num
  rw [actRef, act]
  induction y with
  | bot => simp
  | top => simp [h1]
  | coe r =>
    obtain ⟨s, hs⟩ := logistic_real (r : EReal)
    rw [hs]
    norm_cast
    ring

/-- A finite gradient leaves the activation finite. -/
theorem act_real (d : ℝ) (y : EReal) : ∃ r : ℝ, act (d : EReal) y = (r : EReal) := by
  have h1 : (1 : EReal) - 1 = 0 := by
    rw [← EReal.coe_one, ← EReal.coe_sub]; norm_num
  rw [act]
  induction y with
  | bot => exact ⟨0, by simp⟩
  | top => exact ⟨d, by simp [h1]⟩
  | coe r =>
    obtain ⟨s, hs⟩ := logistic_real (r : EReal)
    rw [hs]
    exact ⟨d * (s * (1 + r * (1 - s))), by push_cast; rfl⟩

theorem coe_sum (f : J → ℝ) : ((∑ j, f j : ℝ) : EReal) = ∑ j, (f j : EReal) :=
  map_sum (⟨⟨((↑) : ℝ → EReal), rfl⟩, EReal.coe_add⟩ : ℝ →+ EReal) _ _

/-- Either the mean of the squares is infinite and the reciprocal root zero, or the centred row is finite, the mean of the
    squares positive and the reciprocal root its real one. -/
theorem cases (x : J → EReal) : lvar x = ⊤ ∧ linv x = 0
    ∨ (∀ j, ∃ r : ℝ, cen x j = (r : EReal)) ∧ ∃ v : ℝ, 0 < v ∧ lvar x = (v : EReal) ∧ linv x = (((Real.sqrt v)⁻¹ : ℝ) : EReal) := by
  obtain ⟨e, he, hE⟩ := cEps_eq
  have hv : lvar x = (∑ j, cen x j * cen x j) * ((1 / 1024 : ℝ) : EReal) + (e : EReal) := by
    rw [lvar, cN_eq, Ideal.div_coe (by norm_num), hE]
  have hs : 0 ≤ ∑ j, cen x j * cen x j := Finset.sum_nonneg fun j _ => sq_nonneg _
  rcases eq_or_ne (∑ j, cen x j * cen x j) ⊤ with h | h
  · left
    have : lvar x = ⊤ := by
      rw [hv, h, EReal.top_mul_coe_of_pos (by norm_num), EReal.top_add_coe]
    exact ⟨this, by rw [linv, this, Ideal.rsqrt_top]⟩
  · right
    refine ⟨fun j => ?_, ?_⟩
    · have hj : cen x j * cen x j ≠ ⊤ := fun hj => h (top_le_iff.mp (hj ▸ Finset.single_le_sum (f := fun j => cen x j * cen x j) (fun j _ => sq_nonneg _) (Finset.mem_univ j)))
      obtain ⟨h1, h2⟩ := sq_eq_top hj
      exact ⟨_, (EReal.coe_toReal h2 h1).symm⟩
    · have hb : ∑ j, cen x j * cen x j ≠ ⊥ := fun hb => by rw [hb] at hs; exact absurd hs (by simp)
      generalize ∑ j, cen x j * cen x j = s at *
      lift s to ℝ using ⟨h, hb⟩
      have hs' : 0 ≤ s := by exact_mod_cast hs
      have hpos : 0 < s * (1 / 1024) + e := by positivity
      have hvr : lvar x = ((s * (1 / 1024) + e : ℝ) : EReal) := by rw [hv]; norm_cast
      refine ⟨s * (1 / 1024) + e, hpos, hvr, ?_⟩
      rw [linv, hvr, Ideal.rsqrt_coe, if_neg hpos.not_gt, if_neg hpos.ne']

/-- An extended real from which another leaves a real one is real. -/
theorem real_of_sub {x m : EReal} {r : ℝ} (h : x - m = (r : EReal)) : x ≠ ⊤ ∧ x ≠ ⊥ := by
  constructor
  · rintro rfl
    induction m with
    | bot => simp at h
    | top => simp at h
    | coe m => simp at h
  · rintro rfl
    simp at h

/-- A finite centred row is a finite row's, and sums to zero. -/
theorem cen_real (hN : (Fintype.card J : ℝ) = 1024) (x : J → EReal) (h : ∀ j, ∃ r : ℝ, cen x j = (r : EReal)) :
    ∃ η : J → ℝ, (∀ j, cen x j = (η j : EReal)) ∧ ∑ j, η j = 0 := by
  have hx : ∀ j, ∃ r : ℝ, x j = (r : EReal) := fun j => by
    obtain ⟨r, hr⟩ := h j
    obtain ⟨h1, h2⟩ := real_of_sub hr
    exact ⟨_, (EReal.coe_toReal h1 h2).symm⟩
  choose ξ hξ using hx
  have hm : Ideal.div (∑ k, x k) cN = (((∑ k, ξ k) * (1 / 1024) : ℝ) : EReal) := by
    rw [cN_eq, Ideal.div_coe (by norm_num), EReal.coe_mul, coe_sum]
    simp only [hξ]
  refine ⟨fun j => ξ j - (∑ k, ξ k) * (1 / 1024), fun j => ?_, ?_⟩
  · rw [cen, hm, hξ, EReal.coe_sub]
  · rw [Finset.sum_sub_distrib, Finset.sum_const, Finset.card_univ, nsmul_eq_mul, hN]
    ring

/-- The two forms of the gradient are equal, on a finite gradient of the normalized row. -/
theorem lgradRef_eq (hN : (Fintype.card J : ℝ) = 1024) (x : J → EReal) (α : J → ℝ) (j : J) :
    lgradRef x (fun k => (α k : EReal)) j = lgrad x (fun k => (α k : EReal)) j := by
  rcases cases x with ⟨hv, hr⟩ | ⟨hx, v, hv0, hv, hr⟩
  · have hd : Ideal.div (0 : EReal) ⊤ = 0 := by simp [Ideal.div]
    have hc : lgradSq x (fun k => (α k : EReal)) = 0 := by
      rw [lgradSq, hr, hv, hd, mul_zero, mul_zero, cN_eq, Ideal.div_coe (by norm_num), zero_mul]
    rw [lgradRef, lgrad, hc, hr, cN_eq, Ideal.div_coe (by norm_num)]
    simp
  · obtain ⟨η, hη, hs⟩ := cen_real hN x hx
    set r : ℝ := (Real.sqrt v)⁻¹ with hrdef
    have hrr : r * r = 1 / v := by
      rw [hrdef, ← mul_inv, Real.mul_self_sqrt hv0.le, one_div]
    set q : ℝ := (∑ k, η k * α k) * (-(1 / 2) * (r * (1 / v))) * (1 / 1024) with hq
    have hc : lgradSq x (fun k => (α k : EReal)) = (q : EReal) := by
      rw [lgradSq, hr, hv, cHalf_eq, cN_eq, Ideal.div_coe hv0.ne', Ideal.div_coe (by norm_num), hq]
      simp only [hη, EReal.coe_mul, coe_sum]
    have hL : lgradRef x (fun k => (α k : EReal)) j
        = ((α j * r + q * (2 * η j) + (∑ k, -(α k * r) + ∑ k, -(q * (2 * η k))) * (1 / 1024) : ℝ) : EReal) := by
      rw [lgradRef, hc, hr, cN_eq, cTwo_eq, Ideal.div_coe (by norm_num)]
      simp only [hη, EReal.coe_mul, EReal.coe_add, EReal.coe_neg, coe_sum]
    have hR : lgrad x (fun k => (α k : EReal)) j
        = ((r * (α j - (∑ k, α k) * (1 / 1024) - η j * r * ((∑ k, α k * (η k * r)) * (1 / 1024))) : ℝ) : EReal) := by
      rw [lgrad, cN_eq, Ideal.div_coe (by norm_num), Ideal.div_coe (by norm_num)]
      simp only [nrm, hr, hη, EReal.coe_mul, EReal.coe_sub, coe_sum]
    rw [hL, hR]
    congr 1
    have e1 : ∑ k, -(α k * r) = -((∑ k, α k) * r) := by rw [Finset.sum_neg_distrib, Finset.sum_mul]
    have e2 : ∑ k, -(q * (2 * η k)) = 0 := by
      rw [Finset.sum_neg_distrib, ← Finset.mul_sum, ← Finset.mul_sum, hs]; ring
    have e3 : ∑ k, α k * (η k * r) = (∑ k, η k * α k) * r := by
      rw [Finset.sum_mul]; exact Finset.sum_congr rfl fun k _ => by ring
    rw [e1, e2, e3, hq, ← hrr]
    ring

/-- On finite gradients and gains the reverse of the definition gives the row's gradient. -/
theorem dcRef_eq (hN : (Fintype.card J : ℝ) = 1024) (x g b d : J → EReal) (hd : ∀ k, ∃ r : ℝ, d k = (r : EReal))
    (hg : ∀ k, ∃ r : ℝ, g k = (r : EReal)) (j : J) : lgradRef x (fun k => dyRef x g b d k * g k) j = dcRow x g b d j := by
  have h : ∀ k, ∃ r : ℝ, dyRow x g b d k * g k = (r : EReal) := fun k => by
    obtain ⟨δ, hδ⟩ := hd k
    obtain ⟨γ, hγ⟩ := hg k
    obtain ⟨r, hr⟩ := act_real δ (nrm x k * g k + b k)
    exact ⟨r * γ, by rw [dyRow, hδ, hr, hγ, EReal.coe_mul]⟩
  have h' : (fun k => dyRef x g b d k * g k) = fun k => dyRow x g b d k * g k := funext fun k => by
    obtain ⟨δ, hδ⟩ := hd k
    rw [dyRef, dyRow, hδ, actRef_eq]
  choose α hα using h
  rw [dcRow, h', show (fun k => dyRow x g b d k * g k) = fun k => (α k : EReal) from funext hα]
  exact lgradRef_eq hN x α j

theorem dyRef_eq (x g b d : J → EReal) (hd : ∀ k, ∃ r : ℝ, d k = (r : EReal)) (k : J) : dyRef x g b d k = dyRow x g b d k := by
  obtain ⟨δ, hδ⟩ := hd k
  rw [dyRef, dyRow, hδ, actRef_eq]

end Cert.Lnorm

end
-- ==== Proof.DlnBlock.lean ====
/- What one point of the kernel `conv_ln_bwd` leaves in its three outputs. -/
module

public import proofs.«01_k».proof.Proof.Gen.DlnBwdIdeal.Value
public import proofs.«01_k».proof.Proof.Lnorm
public import proofs.«01_k».proof.Proof.Loads
public import Idealize.ShloMosaic.Lib.Tactic
public import Idealize.ShloMosaic.Lib.VecWindow
public import Idealize.ShloMosaic.Lib.Pointwise
public import Idealize.ShloMosaic.Lib.Pipeline.ReadBack

@[expose] public section

noncomputable section

namespace Cert.DlnBlock

open Cert.DlnBwdIdeal Cert.DlnBwdIdeal.Gen Idealize.ShloMosaic Idealize.ShloMosaic.Tactic Cert.Rms Cert.Lnorm

variable (d : FVec Ideal S256x1024 .bf16) (x : FVec Ideal S256x1024 .f32) (g b : FVec Ideal S1x1024 .f32)

/-- The block's parts of the gain's and the bias's gradients. -/
def dgPart (j : Fin 1024) : EReal := ∑ i, dgRow (row x i) (row g 0) (row b 0) (row d i) j
def dbPart (j : Fin 1024) : EReal := ∑ i, dyRow (row x i) (row g 0) (row b 0) (row d i) j

/-- The centred rows. -/
theorem pay4 (i : Fin 256) (j : Fin 1024) : k0_pay4 (F := Ideal) x (ix2 i j) = cen (row x i) j := by
  pointwise [k0_pay4]
  rfl

/-- The reciprocal roots of the rows. -/
theorem pay5 (i : Fin 256) : k0_pay5 (F := Ideal) x (ix2 i 0) = linv (row x i) := by
  have h := fun j => pay4 x i j
  generalize hP : k0_pay4 (F := Ideal) x = P at h
  pointwise [k0_pay5]
  rw [hP]
  simp only [h]
  rfl

/-- The normalized rows. -/
theorem pay6 (i : Fin 256) (j : Fin 1024) : k0_pay6 (F := Ideal) x (ix2 i j) = nrm (row x i) j := by
  have h := pay4 x i j
  have h5 := pay5 x i
  generalize hP : k0_pay4 (F := Ideal) x = P at h
  generalize hQ : k0_pay5 (F := Ideal) x = Q at h5
  pointwise [k0_pay6]
  rw [hP, hQ, h, h5]
  rfl

theorem pay7 (i : Fin 256) (j : Fin 1024) :
    k0_pay7 (F := Ideal) x g b d (ix2 i j) = dyRow (row x i) (row g 0) (row b 0) (row d i) j := by
  have h := pay6 x i j
  generalize hP : k0_pay6 (F := Ideal) x = P at h
  pointwise [k0_pay7]
  rw [hP, h]
  rfl

theorem pay10 (a : FVec Ideal S1x1024 .f32) (j : Fin 1024) : k0_pay10 (F := Ideal) a (ix2 0 j) = a (ix2 0 j) := by
  pointwise [k0_pay10]

/-- The bias's gradient, added to what the output held. -/
theorem pay1 (a : FVec Ideal S1x1024 .f32) (j : Fin 1024) :
    k0_pay1 (F := Ideal) (k0_pay7 x g b d) (k0_pay10 a) (ix2 0 j) = a (ix2 0 j) + dbPart d x g b j := by
  have h := fun i => pay7 d x g b i j
  have h' := pay10 a j
  generalize k0_pay7 (F := Ideal) x g b d = P at h
  generalize k0_pay10 (F := Ideal) a = Q at h'
  pointwise [k0_pay1]
  simp only [h, h']
  rfl

/-- The gain's gradient, added to what the output held. -/
theorem pay2 (a : FVec Ideal S1x1024 .f32) (j : Fin 1024) :
    k0_pay2 (F := Ideal) (k0_pay6 x) (k0_pay7 x g b d) a (ix2 0 j) = a (ix2 0 j) + dgPart d x g b j := by
  have h := fun i => pay7 d x g b i j
  have h' := fun i => pay6 x i j
  generalize k0_pay7 (F := Ideal) x g b d = P at h
  generalize k0_pay6 (F := Ideal) x = Q at h'
  pointwise [k0_pay2]
  simp only [h, h']
  rfl

/-- The rows' gradient. -/
theorem pay3 (i : Fin 256) (j : Fin 1024) :
    k0_pay3 (F := Ideal) (k0_pay5 x) (k0_pay6 x) (k0_pay7 x g b d) g (ix2 i j) = dcRow (row x i) (row g 0) (row b 0) (row d i) j := by
  have h := fun j => pay7 d x g b i j
  have h' := fun j => pay6 x i j
  have h5 := pay5 x i
  generalize k0_pay7 (F := Ideal) x g b d = P at h
  generalize k0_pay6 (F := Ideal) x = Q at h'
  generalize k0_pay5 (F := Ideal) x = R at h5
  pointwise [k0_pay3]
  simp only [h, h', h5]
  rfl

/-- A load of a whole block reads the block. -/
theorem load_all {e : EltTy} {n N : ℕ} (a : Memref sig .tc .vmem ⟨2, ![n, N]⟩ e) (ha : a.IsWhole) (x : Vec Ideal ⟨2, ![n, N]⟩ e) (inb) :
    View.readAt (Elt Ideal) a.view (Rect.unit (s := ⟨2, ![n, N]⟩) ![0, 0] ![n, N] inb).toLoadRect (ha.unread x) = x := by
  funext y
  obtain ⟨r, d, rfl⟩ : ∃ (r : Fin n) (d : Fin N), y = ix2 r d := ⟨y 0, y 1, eq_ix2 y⟩
  exact Cert.Loads.all a ha x inb r d

/-- A load from an output just filled with zeros reads zero. -/
theorem readCov_fill_dg (v : View sig .tc .vmem S1x1024 .f32) (r : Rect S1x1024) (y : r.toLoadRect.shape.Idx) :
    v.readCov (Val := Elt Ideal) [⟨Rect.unit ![0, 0] S1x1024.size inb_S1x1024_S1x1024_0_0, (k0_pay8 (F := Ideal) : S1x1024.Idx → Elt Ideal .f32)⟩] r.toLoadRect y = (0 : EReal) :=
  (congrFun (View.readCov_fill (Val := Elt Ideal) v inb_S1x1024_S1x1024_0_0 (k0_pay8 (F := Ideal)) [] r
    (fun a => by match a with | ⟨0, _⟩ => rfl | ⟨1, _⟩ => rfl)) y).trans Ideal.ofBits_zero_f32

theorem readCov_fill_db (v : View sig .tc .vmem S1x1024 .f32) (r : Rect S1x1024) (y : r.toLoadRect.shape.Idx) :
    v.readCov (Val := Elt Ideal) [⟨Rect.unit ![0, 0] S1x1024.size inb_S1x1024_S1x1024_0_0, (k0_pay9 (F := Ideal) : S1x1024.Idx → Elt Ideal .f32)⟩] r.toLoadRect y = (0 : EReal) :=
  (congrFun (View.readCov_fill (Val := Elt Ideal) v inb_S1x1024_S1x1024_0_0 (k0_pay9 (F := Ideal)) [] r
    (fun a => by match a with | ⟨0, _⟩ => rfl | ⟨1, _⟩ => rfl)) y).trans Ideal.ofBits_zero_f32

section Points

variable (c : Dev nD) (t : grid0.Coords) (arg1 : Memref sig .tc .vmem S256x1024 .bf16) (harg1 : arg1.IsWhole)
  (arg2 : Memref sig .tc .vmem S256x1024 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S256x1024 .f32) (harg5 : arg5.IsWhole)
  (arg6 : Memref sig .tc .vmem S1x1024 .f32) (harg6 : arg6.IsWhole) (arg7 : Memref sig .tc .vmem S1x1024 .f32) (harg7 : arg7.IsWhole)
  (a a' : FVec Ideal S1x1024 .f32)

theorem out_A_dc (hc0 : cond0_0 t) (i : Fin 256) (j : Fin 1024) :
    out0_A_4 (F := Ideal) c t arg1 harg1 arg2 harg2 arg3 harg3 arg4 harg4 arg5 harg5 arg6 harg6 arg7 harg7 hc0 d x g b (ix2 i j)
      = dcRow (row x i) (row g 0) (row b 0) (row d i) j := by
  unfold out0_A_4 kernelRun0_A
  dsimp only
  sl_unfold_run_names
  refine (congrFun (View.read_writes_full (Val := Elt Ideal) _ _ _ _ _) _).trans ?_
  rw [load_all arg1 harg1, load_all arg2 harg2, load_all arg3 harg3, load_all arg4 harg4]
  exact pay3 ..

/-- The first point starts the gain's and the bias's gradients from zero. -/
theorem out_A_dg (hc0 : cond0_0 t) (j : Fin 1024) :
    out0_A_5 (F := Ideal) c t arg1 harg1 arg2 harg2 arg3 harg3 arg4 harg4 arg5 harg5 arg6 harg6 arg7 harg7 hc0 d x g b (ix2 0 j)
      = 0 + dgPart d x g b j := by
  unfold out0_A_5 kernelRun0_A
  dsimp only
  sl_unfold_run_names
  refine (congrFun (View.read_writes_full (Val := Elt Ideal) _ _ _ _ _) _).trans ?_
  rw [load_all arg1 harg1, load_all arg2 harg2, load_all arg3 harg3, load_all arg4 harg4]
  exact (pay2 ..).trans (congrArg (· + dgPart d x g b j) (readCov_fill_dg _ (Rect.unit ![0, 0] S1x1024.size inb_S1x1024_S1x1024_0_0) _))

theorem out_A_db (hc0 : cond0_0 t) (j : Fin 1024) :
    out0_A_6 (F := Ideal) c t arg1 harg1 arg2 harg2 arg3 harg3 arg4 harg4 arg5 harg5 arg6 harg6 arg7 harg7 hc0 d x g b (ix2 0 j)
      = 0 + dbPart d x g b j := by
  unfold out0_A_6 kernelRun0_A
  dsimp only
  sl_unfold_run_names
  refine (congrFun (View.read_writes_full (Val := Elt Ideal) _ _ _ _ _) _).trans ?_
  rw [load_all arg1 harg1, load_all arg2 harg2, load_all arg3 harg3, load_all arg4 harg4]
  exact (pay1 ..).trans (congrArg (· + dbPart d x g b j) (readCov_fill_db _ (Rect.unit ![0, 0] S1x1024.size inb_S1x1024_S1x1024_0_0) _))

theorem out_B_dc (hc0 : ¬cond0_0 t) (i : Fin 256) (j : Fin 1024) :
    out0_B_4 (F := Ideal) c t arg1 harg1 arg2 harg2 arg3 harg3 arg4 harg4 arg5 harg5 arg6 harg6 arg7 harg7 hc0 d x g b a a' (ix2 i j)
      = dcRow (row x i) (row g 0) (row b 0) (row d i) j := by
  unfold out0_B_4 kernelRun0_B
  dsimp only
  sl_unfold_run_names
  refine (congrFun (View.read_writes_full (Val := Elt Ideal) _ _ _ _ _) _).trans ?_
  rw [load_all arg1 harg1, load_all arg2 harg2, load_all arg3 harg3, load_all arg4 harg4]
  exact pay3 ..

/-- A later point adds its parts. -/
theorem out_B_dg (hc0 : ¬cond0_0 t) (j : Fin 1024) :
    out0_B_5 (F := Ideal) c t arg1 harg1 arg2 harg2 arg3 harg3 arg4 harg4 arg5 harg5 arg6 harg6 arg7 harg7 hc0 d x g b a a' (ix2 0 j)
      = a (ix2 0 j) + dgPart d x g b j := by
  unfold out0_B_5 kernelRun0_B
  dsimp only
  sl_unfold_run_names
  refine (congrFun (View.read_writes_full (Val := Elt Ideal) _ _ _ _ _) _).trans ?_
  rw [load_all arg1 harg1, load_all arg2 harg2, load_all arg3 harg3, load_all arg4 harg4, load_all arg6 harg6]
  exact pay2 ..

theorem out_B_db (hc0 : ¬cond0_0 t) (j : Fin 1024) :
    out0_B_6 (F := Ideal) c t arg1 harg1 arg2 harg2 arg3 harg3 arg4 harg4 arg5 harg5 arg6 harg6 arg7 harg7 hc0 d x g b a a' (ix2 0 j)
      = a' (ix2 0 j) + dbPart d x g b j := by
  unfold out0_B_6 kernelRun0_B
  dsimp only
  sl_unfold_run_names
  refine (congrFun (View.read_writes_full (Val := Elt Ideal) _ _ _ _ _) _).trans ?_
  rw [load_all arg1 harg1, load_all arg2 harg2, load_all arg3 harg3, load_all arg4 harg4, load_all arg7 harg7]
  exact pay1 ..

end Points

end Cert.DlnBlock

end
-- ==== Proof.DlnArray.lean ====
/- What the kernel `conv_ln_bwd` leaves in its three result arrays. -/
module

public import proofs.«01_k».proof.Proof.DlnBlock
public import proofs.«01_k».proof.Proof.Sums
public import Idealize.ShloMosaic.Lib.Pipeline.Value
public import Idealize.ShloMosaic.Lib.Pipeline.ValueKit

@[expose] public section

noncomputable section

namespace Cert.DlnArray

open Cert.DlnBwdIdeal Cert.DlnBwdIdeal.Gen Idealize.ShloMosaic Idealize.ShloMosaic.TcCoe Idealize.ShloMosaic.Tactic Cert.Rms Cert.Lnorm Cert.DlnBlock
open Idealize.ShloMosaic.Pipeline (Dat)

/-- Row `i` of block `t`. -/
def rowAt (t : ℕ) (i : Fin 256) : Fin 8192 := Fin.ofNat 8192 (256 * t + i.val)

section Results

variable (d : FVec Ideal S8192x1024 .bf16) (x : FVec Ideal S8192x1024 .f32) (g b : FVec Ideal S1x1024 .f32)

/-- The gradient of the rows. -/
def dcAll (i : Fin 8192) (j : Fin 1024) : EReal := dcRow (row x i) (row g 0) (row b 0) (row d i) j

/-- Row `i`'s summands of the gain's and the bias's gradients. -/
def dgTerm (j : Fin 1024) (i : Fin 8192) : EReal := dgRow (row x i) (row g 0) (row b 0) (row d i) j
def dbTerm (j : Fin 1024) (i : Fin 8192) : EReal := dyRow (row x i) (row g 0) (row b 0) (row d i) j

end Results

variable (m : (ℓ : Loc nD τ sig) → Buf (Elt Ideal) ℓ) (c : Dev nD)

/-- The gradient, the convolution's result, the gain and the bias. -/
abbrev D : FVec Ideal S8192x1024 .bf16 := m ((c : Thread nD τ).loc main_arg0)
abbrev X : FVec Ideal S8192x1024 .f32 := m ((c : Thread nD τ).loc main_arg1)
abbrev G : FVec Ideal S1x1024 .f32 := m ((c : Thread nD τ).loc main_arg2)
abbrev B : FVec Ideal S1x1024 .f32 := m ((c : Thread nD τ).loc main_arg3)

theorem index0 : ∀ t : Fin cfg0.N, win0_0.index t 0 = t.val ∧ win0_0.index t 1 = 0 := by
  show ∀ t : Fin grid0.N, _; decide +kernel
theorem index1 : ∀ t : Fin cfg0.N, win0_1.index t 0 = t.val ∧ win0_1.index t 1 = 0 := by
  show ∀ t : Fin grid0.N, _; decide +kernel
theorem index2 : ∀ t : Fin cfg0.N, win0_2.index t 0 = 0 ∧ win0_2.index t 1 = 0 := by
  show ∀ t : Fin grid0.N, _; decide +kernel
theorem index3 : ∀ t : Fin cfg0.N, win0_3.index t 0 = 0 ∧ win0_3.index t 1 = 0 := by
  show ∀ t : Fin grid0.N, _; decide +kernel
theorem index4 : ∀ t : Fin cfg0.N, win0_4.index t 0 = t.val ∧ win0_4.index t 1 = 0 := by
  show ∀ t : Fin grid0.N, _; decide +kernel
theorem index5 : ∀ t : Fin cfg0.N, win0_5.index t 0 = 0 ∧ win0_5.index t 1 = 0 := by
  show ∀ t : Fin grid0.N, _; decide +kernel
theorem index6 : ∀ t : Fin cfg0.N, win0_6.index t 0 = 0 ∧ win0_6.index t 1 = 0 := by
  show ∀ t : Fin grid0.N, _; decide +kernel

theorem lt32 (t : Fin cfg0.N) : t.val < 32 := lt_of_lt_of_eq t.isLt (show cfg0.N = 32 from N_0)

theorem row0 (t : Fin cfg0.N) (i : Fin 256) : row (φ := .bf16) (iblk m c 0 t) i = row (D m c) (rowAt t.val i) := by
  funext j
  have hi := index0 t
  have ht := lt32 t
  show iblk m c 0 t (ix2 i j) = _
  refine (congrFun (V_main_arg0 m c) _).trans (congrArg (m _) (funext fun a => Fin.ext ?_))
  have h1 := i.isLt
  match a with
  | ⟨0, _⟩ => show win0_0.index t 0 * 256 + 1 * i.val = (256 * t.val + i.val) % 8192; rw [hi.1]; omega
  | ⟨1, _⟩ => show win0_0.index t 1 * 1024 + 1 * j.val = j.val; rw [hi.2]; omega

theorem row1 (t : Fin cfg0.N) (i : Fin 256) : row (φ := .f32) (iblk m c 1 t) i = row (X m c) (rowAt t.val i) := by
  funext j
  have hi := index1 t
  have ht := lt32 t
  show iblk m c 1 t (ix2 i j) = _
  refine (congrFun (V_main_arg1 m c) _).trans (congrArg (m _) (funext fun a => Fin.ext ?_))
  have h1 := i.isLt
  match a with
  | ⟨0, _⟩ => show win0_1.index t 0 * 256 + 1 * i.val = (256 * t.val + i.val) % 8192; rw [hi.1]; omega
  | ⟨1, _⟩ => show win0_1.index t 1 * 1024 + 1 * j.val = j.val; rw [hi.2]; omega

theorem row2 (t : Fin cfg0.N) : row (φ := .f32) (iblk m c 2 t) 0 = row (G m c) 0 := by
  funext j
  have hi := index2 t
  show iblk m c 2 t (ix2 0 j) = _
  refine (congrFun (V_main_arg2 m c) _).trans (congrArg (m _) (funext fun a => Fin.ext ?_))
  match a with
  | ⟨0, _⟩ => show win0_2.index t 0 * 1 + 1 * 0 = 0; rw [hi.1]
  | ⟨1, _⟩ => show win0_2.index t 1 * 1024 + 1 * j.val = j.val; rw [hi.2]; omega

theorem row3 (t : Fin cfg0.N) : row (φ := .f32) (iblk m c 3 t) 0 = row (B m c) 0 := by
  funext j
  have hi := index3 t
  show iblk m c 3 t (ix2 0 j) = _
  refine (congrFun (V_main_arg3 m c) _).trans (congrArg (m _) (funext fun a => Fin.ext ?_))
  match a with
  | ⟨0, _⟩ => show win0_3.index t 0 * 1 + 1 * 0 = 0; rw [hi.1]
  | ⟨1, _⟩ => show win0_3.index t 1 * 1024 + 1 * j.val = j.val; rw [hi.2]; omega

theorem dc_point (t : Fin cfg0.N) (i : Fin 256) (j : Fin 1024) :
    dcRow (row (φ := .f32) (iblk m c 1 t) i) (row (φ := .f32) (iblk m c 2 t) 0) (row (φ := .f32) (iblk m c 3 t) 0) (row (φ := .bf16) (iblk m c 0 t) i) j
      = dcAll (D m c) (X m c) (G m c) (B m c) (rowAt t.val i) j := by
  unfold dcAll
  rw [row0, row1, row2, row3]

/-- Point `t`'s parts of the gain's and the bias's gradients. -/
def gpart (t : ℕ) (j : Fin 1024) : EReal := ∑ i : Fin 256, dgTerm (D m c) (X m c) (G m c) (B m c) j (rowAt t i)
def bpart (t : ℕ) (j : Fin 1024) : EReal := ∑ i : Fin 256, dbTerm (D m c) (X m c) (G m c) (B m c) j (rowAt t i)

theorem dg_point (t : Fin cfg0.N) (j : Fin 1024) : dgPart (iblk m c 0 t) (iblk m c 1 t) (iblk m c 2 t) (iblk m c 3 t) j = gpart m c t.val j := by
  unfold dgPart gpart dgTerm
  refine Finset.sum_congr rfl fun i _ => ?_
  rw [row0, row1, row2, row3]

theorem db_point (t : Fin cfg0.N) (j : Fin 1024) : dbPart (iblk m c 0 t) (iblk m c 1 t) (iblk m c 2 t) (iblk m c 3 t) j = bpart m c t.val j := by
  unfold dbPart bpart dbTerm
  refine Finset.sum_congr rfl fun i _ => ?_
  rw [row0, row1, row2, row3]

theorem outs_dc (t : Fin cfg0.N) (i : Fin 256) (j : Fin 1024) :
    (outsAt0 m c t.val t.isLt).1 (ix2 i j) = dcAll (D m c) (X m c) (G m c) (B m c) (rowAt t.val i) j := by
  rw [← dc_point]
  by_cases h0 : t.val % 32 = 0
  · rw [outsAt0_A m c t h0]
    dsimp only
    exact out_A_dc ..
  · rw [outsAt0_B m c t h0]
    dsimp only
    exact out_B_dc ..

/-- After point `n` the output holds the sum of the points' parts up to there. -/
theorem outs_dg (j : Fin 1024) : ∀ (n : ℕ) (h : n < cfg0.N), (outsAt0 m c n h).2.1 (ix2 0 j) = ∑ t ∈ Finset.range (n + 1), gpart m c t j
  | 0, h => by
    rw [Finset.sum_range_one, ← dg_point m c ⟨0, h⟩ j, ← zero_add (dgPart _ _ _ _ _)]
    rw [outsAt0_A m c ⟨0, h⟩ rfl]
    dsimp only
    exact out_A_dg ..
  | n + 1, h => by
    have h0 : ¬(⟨n + 1, h⟩ : Fin cfg0.N).val % 32 = 0 := by have := lt32 ⟨n + 1, h⟩; dsimp only at this ⊢; omega
    rw [Finset.sum_range_succ, ← dg_point m c ⟨n + 1, h⟩ j, ← outs_dg j n (Nat.lt_of_succ_lt h)]
    rw [outsAt0_B m c ⟨n + 1, h⟩ h0]
    dsimp only
    exact out_B_dg ..

/-- After point `n` the output holds the sum of the points' parts up to there. -/
theorem outs_db (j : Fin 1024) : ∀ (n : ℕ) (h : n < cfg0.N), (outsAt0 m c n h).2.2 (ix2 0 j) = ∑ t ∈ Finset.range (n + 1), bpart m c t j
  | 0, h => by
    rw [Finset.sum_range_one, ← db_point m c ⟨0, h⟩ j, ← zero_add (dbPart _ _ _ _ _)]
    rw [outsAt0_A m c ⟨0, h⟩ rfl]
    dsimp only
    exact out_A_db ..
  | n + 1, h => by
    have h0 : ¬(⟨n + 1, h⟩ : Fin cfg0.N).val % 32 = 0 := by have := lt32 ⟨n + 1, h⟩; dsimp only at this ⊢; omega
    rw [Finset.sum_range_succ, ← db_point m c ⟨n + 1, h⟩ j, ← outs_db j n (Nat.lt_of_succ_lt h)]
    rw [outsAt0_B m c ⟨n + 1, h⟩ h0]
    dsimp only
    exact out_B_db ..

/-- THE FIRST RESULT: the rows' gradient. -/
theorem array_dc : (dats m 0 c).arrAt 4 cfg0.N
    = fun y : S8192x1024.Idx => dcAll (D m c) (X m c) (G m c) (B m c) (y 0) (y 1) := by
  refine (dats m 0 c).arrAt_eq_of_covers 4 _ (by decide +kernel) fun t hf y => ?_
  show (dats m 0 c).after 4 t y = _
  have hi := index4 t
  have ht := lt32 t
  obtain ⟨i, j, rfl⟩ : ∃ (i : Fin 256) (j : Fin 1024), y = ix2 i j := ⟨y 0, y 1, eq_ix2 y⟩
  rw [after0_4, outs_dc]
  have h1 := i.isLt
  refine congr (congrArg _ (Fin.ext ?_)) (Fin.ext ?_)
  · show (256 * t.val + i.val) % 8192 = win0_4.index t 0 * 256 + 1 * i.val
    rw [hi.1]; omega
  · show j.val = win0_4.index t 1 * 1024 + 1 * j.val
    rw [hi.2]; omega

/-- THE SECOND RESULT: the gain's gradient. -/
theorem array_dg : (dats m 0 c).arrAt 5 cfg0.N = fun y : S1x1024.Idx => ∑ i, dgTerm (D m c) (X m c) (G m c) (B m c) (y 1) i := by
  refine (dats m 0 c).arrAt_eq_of_covers 5 _ (by decide +kernel) fun t hf y => ?_
  show (dats m 0 c).after 5 t y = _
  have h31 : t.val = 31 := by have := (flush0_5 t).mp hf; have := lt32 t; omega
  have hi := index5 t
  obtain ⟨i, j, rfl⟩ : ∃ (i : Fin 1) (j : Fin 1024), y = ix2 i j := ⟨y 0, y 1, eq_ix2 y⟩
  obtain rfl : i = 0 := Subsingleton.elim _ _
  rw [after0_5, outs_dg, h31]
  refine (Cert.Sums.blocks 32 256 8192 (by norm_num) (dgTerm (D m c) (X m c) (G m c) (B m c) j)).trans ?_
  refine Finset.sum_congr rfl fun k _ => congrArg (fun e => dgTerm (D m c) (X m c) (G m c) (B m c) e k) (Fin.ext ?_)
  show j.val = win0_5.index t 1 * 1024 + 1 * j.val
  rw [hi.2]; omega

/-- THE THIRD RESULT: the bias's gradient. -/
theorem array_db : (dats m 0 c).arrAt 6 cfg0.N = fun y : S1x1024.Idx => ∑ i, dbTerm (D m c) (X m c) (G m c) (B m c) (y 1) i := by
  refine (dats m 0 c).arrAt_eq_of_covers 6 _ (by decide +kernel) fun t hf y => ?_
  show (dats m 0 c).after 6 t y = _
  have h31 : t.val = 31 := by have := (flush0_6 t).mp hf; have := lt32 t; omega
  have hi := index6 t
  obtain ⟨i, j, rfl⟩ : ∃ (i : Fin 1) (j : Fin 1024), y = ix2 i j := ⟨y 0, y 1, eq_ix2 y⟩
  obtain rfl : i = 0 := Subsingleton.elim _ _
  rw [after0_6, outs_db, h31]
  refine (Cert.Sums.blocks 32 256 8192 (by norm_num) (dbTerm (D m c) (X m c) (G m c) (B m c) j)).trans ?_
  refine Finset.sum_congr rfl fun k _ => congrArg (fun e => dbTerm (D m c) (X m c) (G m c) (B m c) e k) (Fin.ext ?_)
  show j.val = win0_6.index t 1 * 1024 + 1 * j.val
  rw [hi.2]; omega

end Cert.DlnArray

end
-- ==== Proof.DlnClaim.lean ====
/- The normalization and activation of the convolution branch, backward: what the reference, the reverse of their definition,
   computes, and the claims. -/
module

public import proofs.«01_k».proof.Defs
public import proofs.«01_k».proof.Proof.DlnArray
public import proofs.«01_k».proof.Proof.MemClaim
public import proofs.«01_k».proof.Proof.Gen.DlnBwd
public import proofs.«01_k».proof.Proof.Gen.DlnBwd.Frame
public import proofs.«01_k».proof.Proof.Gen.DlnGradIdeal.Run
public import proofs.«01_k».proof.Proof.Gen.DlnGradIdeal.Read
public import Idealize.ShloMosaic.Lib.KernelVsHost
public import Idealize.ShloMosaic.Lib.IdealHost

@[expose] public section

noncomputable section

namespace Cert.DlnClaim

open Idealize.ShloMosaic Idealize.SL.Sem Cert.Rms Cert.Lnorm Cert.DlnBlock Cert.DlnArray

theorem preFacts : Cert.Pre_finite_grads.Facts := ⟨by decide, by decide, by decide⟩

section Reference

open Cert.DlnGradIdeal Cert.DlnGradIdeal.Gen Cert.DlnGradIdeal.Read

variable (x0 : FVec Ideal S8192x1024 .bf16) (x1 : FVec Ideal S8192x1024 .f32) (x2 x3 : FVec Ideal S1x1024 .f32)

theorem v2 (i : S8192.Idx) : val_main_v2 (F := Ideal) x1 i = ∑ k, row x1 (i 0) k := by
  rw [val_main_v2_apply, val_main_cst_apply]
  show Ideal.ofBits .f32 0x00000000#32 + _ = _
  rw [Ideal.ofBits_zero_f32, zero_add]
  refine Finset.sum_congr rfl fun k _ => ?_
  rw [show idx_main_v2 i k = ix2 (i 0) k from (eq_ix2 _).trans rfl]
  rfl

theorem v5 (i : S8192x1.Idx) : val_main_v5 (F := Ideal) x1 i = Ideal.div (∑ k, row x1 (i 0) k) cN := by
  rw [val_main_v5_apply, val_main_v3_apply, val_main_v4_apply, val_main_cst_0_apply, v2]
  rfl

/-- The centred rows, twice. -/
theorem v7 (i : S8192x1024.Idx) : val_main_v7 (F := Ideal) x1 i = cen (row x1 (i 0)) (i 1) := by
  rw [val_main_v7_apply, val_main_v6_apply, v5]
  obtain ⟨r, d, rfl⟩ : ∃ (r : Fin 8192) (d : Fin 1024), i = ix2 r d := ⟨i 0, i 1, eq_ix2 i⟩
  rfl

theorem v16 (i : S8192x1024.Idx) : val_main_v16 (F := Ideal) x1 i = cen (row x1 (i 0)) (i 1) := by
  rw [val_main_v16_apply, val_main_v15_apply, v5]
  obtain ⟨r, d, rfl⟩ : ∃ (r : Fin 8192) (d : Fin 1024), i = ix2 r d := ⟨i 0, i 1, eq_ix2 i⟩
  rfl

theorem v10 (i : S8192x1024.Idx) : val_main_v10 (F := Ideal) x1 i = cTwo * cen (row x1 (i 0)) (i 1) := by
  rw [val_main_v10_apply, val_main_v9_apply, val_main_cst_1_apply, v7]
  rfl

theorem v11 (i : S8192.Idx) : val_main_v11 (F := Ideal) x1 i = ∑ k, cen (row x1 (i 0)) k * cen (row x1 (i 0)) k := by
  rw [val_main_v11_apply, val_main_cst_2_apply]
  show Ideal.ofBits .f32 0x00000000#32 + _ = _
  rw [Ideal.ofBits_zero_f32, zero_add]
  refine Finset.sum_congr rfl fun k _ => ?_
  rw [val_main_v8_apply, v7]
  rfl

theorem v18 (i : S8192x1.Idx) : val_main_v18 (F := Ideal) x1 i = lvar (row x1 (i 0)) := by
  rw [val_main_v18_apply, val_main_v14_apply, val_main_v12_apply, val_main_v13_apply, val_main_cst_3_apply, val_main_v17_apply, val_main_cst_4_apply, v11]
  rfl

theorem v19 (i : S8192x1.Idx) : val_main_v19 (F := Ideal) x1 i = linv (row x1 (i 0)) := by
  rw [val_main_v19_apply, v18]
  rfl

theorem v22 (i : S8192x1.Idx) : val_main_v22 (F := Ideal) x1 i = cHalf * Ideal.div (linv (row x1 (i 0))) (lvar (row x1 (i 0))) := by
  rw [val_main_v22_apply, val_main_v21_apply, val_main_v20_apply, val_main_cst_5_apply, v19, v18]
  rfl

theorem v24 (i : S8192x1024.Idx) : val_main_v24 (F := Ideal) x1 i = nrm (row x1 (i 0)) (i 1) := by
  rw [val_main_v24_apply, val_main_v23_apply, v19, v16]
  rfl

/-- The gain, and the bias, over every row. -/
theorem v25 (i : S1x1024.Idx) : val_main_v25 (F := Ideal) x2 i = row x2 0 (i 1) := by
  rw [val_main_v25_apply, val_main_v0_apply]
  obtain ⟨r, d, rfl⟩ : ∃ (r : Fin 1) (d : Fin 1024), i = ix2 r d := ⟨i 0, i 1, eq_ix2 i⟩
  refine congrArg x2 (funext fun a => Fin.ext ?_)
  have h1 := d.isLt
  match a with
  | ⟨0, _⟩ => rfl
  | ⟨1, _⟩ => show d.val % 1024 = d.val; omega

theorem v28 (i : S1x1024.Idx) : val_main_v28 (F := Ideal) x3 i = row x3 0 (i 1) := by
  rw [val_main_v28_apply, val_main_v1_apply]
  obtain ⟨r, d, rfl⟩ : ∃ (r : Fin 1) (d : Fin 1024), i = ix2 r d := ⟨i 0, i 1, eq_ix2 i⟩
  refine congrArg x3 (funext fun a => Fin.ext ?_)
  have h1 := d.isLt
  match a with
  | ⟨0, _⟩ => rfl
  | ⟨1, _⟩ => show d.val % 1024 = d.val; omega

theorem v30 (i : S8192x1024.Idx) :
    val_main_v30 (F := Ideal) x1 x2 x3 i = nrm (row x1 (i 0)) (i 1) * row x2 0 (i 1) + row x3 0 (i 1) := by
  rw [val_main_v30_apply, val_main_v27_apply, val_main_v26_apply, val_main_v29_apply, v24, v25, v28]
  rfl

theorem sg (i : S8192x1024.Idx) :
    val_main_v31_2 (F := Ideal) x1 x2 x3 i = Ideal.logistic (nrm (row x1 (i 0)) (i 1) * row x2 0 (i 1) + row x3 0 (i 1)) := by
  rw [val_main_v31_2_apply, val_main_call0_v4_apply, val_main_call0_cst_0_apply, val_main_call0_v3_apply, val_main_call0_v2_apply,
    val_main_call0_cst_apply, val_main_call0_v1_apply, val_main_call0_v0_apply, v30]
  show Ideal.div cOne (cOne + _) = _
  rw [cOne_eq]
  rfl

theorem v33 (i : S8192x1024.Idx) :
    val_main_v33 (F := Ideal) x0 x1 x2 x3 i = dyRef (row x1 (i 0)) (row x2 0) (row x3 0) (row x0 (i 0)) (i 1) := by
  rw [val_main_v33_apply, val_main_call1_v1_apply, val_main_call1_v2_apply, val_main_call1_v0_apply, val_main_v31_1_apply, val_main_call0_v7_apply,
    val_main_call0_v6_apply, val_main_call0_cst_1_apply, val_main_v32_apply, sg, v30]
  obtain ⟨r, d, rfl⟩ : ∃ (r : Fin 8192) (d : Fin 1024), i = ix2 r d := ⟨i 0, i 1, eq_ix2 i⟩
  show row x0 r d * _ + _ * row x0 r d * (_ * (cOne - _)) = _
  rw [cOne_eq]
  rfl

theorem v41 (i : S8192x1024.Idx) :
    val_main_v41 (F := Ideal) x0 x1 x2 x3 i = dyRef (row x1 (i 0)) (row x2 0) (row x3 0) (row x0 (i 0)) (i 1) * row x2 0 (i 1) := by
  rw [val_main_v41_apply, val_main_v40_apply, v33, v25]
  rfl

/-- The gradient of the normalized row. -/
abbrev aRow (r : Fin 8192) (k : Fin 1024) : EReal := dyRef (row x1 r) (row x2 0) (row x3 0) (row x0 r) k * row x2 0 k

theorem v44 (i : S8192.Idx) :
    val_main_v44 (F := Ideal) x0 x1 x2 x3 i = ∑ k, cen (row x1 (i 0)) k * aRow x0 x1 x2 x3 (i 0) k := by
  rw [val_main_v44_apply, val_main_cst_10_apply]
  show Ideal.ofBits .f32 0x00000000#32 + _ = _
  rw [Ideal.ofBits_zero_f32, zero_add]
  refine Finset.sum_congr rfl fun k _ => ?_
  rw [val_main_v43_apply, v41, v16]
  rfl

theorem v47 (i : S8192x1024.Idx) :
    val_main_v47 (F := Ideal) x0 x1 x2 x3 i = aRow x0 x1 x2 x3 (i 0) (i 1) * linv (row x1 (i 0)) := by
  rw [val_main_v47_apply, val_main_v46_apply, v41, v19]
  rfl

theorem v53 (i : S8192x1.Idx) : val_main_v53 (F := Ideal) x0 x1 x2 x3 i = lgradSq (row x1 (i 0)) (aRow x0 x1 x2 x3 (i 0)) := by
  rw [val_main_v53_apply, val_main_v52_apply, val_main_cst_12_apply, val_main_v48_apply, val_main_v45_apply, v22, v44]
  obtain ⟨r, d, rfl⟩ : ∃ (r : Fin 8192) (d : Fin 1), i = ix2 r d := ⟨i 0, i 1, eq_ix2 i⟩
  rw [show idx_main_v45 (ix2 r d) 0 = r from Fin.ext (show r.val * 1 + d.val = r.val by omega)]
  rfl

theorem v56 (i : S8192x1024.Idx) :
    val_main_v56 (F := Ideal) x0 x1 x2 x3 i = lgradSq (row x1 (i 0)) (aRow x0 x1 x2 x3 (i 0)) * (cTwo * cen (row x1 (i 0)) (i 1)) := by
  rw [val_main_v56_apply, v10, val_main_v55_apply, val_main_v54_apply, val_main_cst_13_apply, Fin.sum_univ_one, v53]
  show (Ideal.ofBits .f32 0x00000000#32 + _) * _ = _
  rw [Ideal.ofBits_zero_f32, zero_add]
  rfl

theorem v50 (i : S8192.Idx) :
    val_main_v50 (F := Ideal) x0 x1 x2 x3 i = ∑ k, -(aRow x0 x1 x2 x3 (i 0) k * linv (row x1 (i 0))) := by
  rw [val_main_v50_apply, val_main_cst_11_apply]
  show Ideal.ofBits .f32 0x00000000#32 + _ = _
  rw [Ideal.ofBits_zero_f32, zero_add]
  refine Finset.sum_congr rfl fun k _ => ?_
  rw [val_main_v49_apply, v47]
  rfl

theorem v58 (i : S8192.Idx) :
    val_main_v58 (F := Ideal) x0 x1 x2 x3 i
      = ∑ k, -(lgradSq (row x1 (i 0)) (aRow x0 x1 x2 x3 (i 0)) * (cTwo * cen (row x1 (i 0)) k)) := by
  rw [val_main_v58_apply, val_main_cst_14_apply]
  show Ideal.ofBits .f32 0x00000000#32 + _ = _
  rw [Ideal.ofBits_zero_f32, zero_add]
  refine Finset.sum_congr rfl fun k _ => ?_
  rw [val_main_v57_apply, v56]
  rfl

theorem v63 (i : S8192x1.Idx) :
    val_main_v63 (F := Ideal) x0 x1 x2 x3 i
      = Ideal.div (∑ k, -(aRow x0 x1 x2 x3 (i 0) k * linv (row x1 (i 0)))
          + ∑ k, -(lgradSq (row x1 (i 0)) (aRow x0 x1 x2 x3 (i 0)) * (cTwo * cen (row x1 (i 0)) k))) cN := by
  rw [val_main_v63_apply, val_main_v62_apply, val_main_cst_15_apply, val_main_v61_apply, val_main_v51_apply, val_main_v59_apply, v50, v58]
  obtain ⟨r, d, rfl⟩ : ∃ (r : Fin 8192) (d : Fin 1), i = ix2 r d := ⟨i 0, i 1, eq_ix2 i⟩
  rw [show idx_main_v51 (ix2 r d) 0 = r from Fin.ext (show r.val * 1 + d.val = r.val by omega),
    show idx_main_v59 (ix2 r d) 0 = r from Fin.ext (show r.val * 1 + d.val = r.val by omega)]
  rfl

theorem v66 (i : S8192x1024.Idx) :
    val_main_v66 (F := Ideal) x0 x1 x2 x3 i = lgradRef (row x1 (i 0)) (aRow x0 x1 x2 x3 (i 0)) (i 1) := by
  rw [val_main_v66_apply, val_main_v60_apply, v47, v56, val_main_v65_apply, val_main_v64_apply, val_main_cst_16_apply, Fin.sum_univ_one, v63]
  show _ + (Ideal.ofBits .f32 0x00000000#32 + _) = _
  rw [Ideal.ofBits_zero_f32, zero_add]
  rfl

/-- The bias's gradient. -/
theorem v68 (i : S1x1024.Idx) :
    val_main_v68 (F := Ideal) x0 x1 x2 x3 i = ∑ k, dyRef (row x1 k) (row x2 0) (row x3 0) (row x0 k) (i 1) := by
  rw [val_main_v68_apply, val_main_v36_apply, val_main_cst_7_apply]
  show Ideal.ofBits .f32 0x00000000#32 + _ = _
  rw [Ideal.ofBits_zero_f32, zero_add, Fin.sum_univ_one, val_main_v35_apply, val_main_v34_apply, val_main_cst_6_apply]
  show Ideal.ofBits .f32 0x00000000#32 + _ = _
  rw [Ideal.ofBits_zero_f32, zero_add]
  refine Finset.sum_congr rfl fun k _ => ?_
  rw [v33]
  obtain ⟨r, d, rfl⟩ : ∃ (r : Fin 1) (d : Fin 1024), i = ix2 r d := ⟨i 0, i 1, eq_ix2 i⟩
  have h1 := d.isLt
  rw [show idx_main_v34 (idx_main_v35 (idx_main_v36 (idx_main_v68 (ix2 r d)) 0)) k = ix2 k d from
    funext fun a => Fin.ext (by match a with | ⟨0, _⟩ => rfl | ⟨1, _⟩ => show 0 * 1024 + d.val = d.val; omega)]
  rfl

/-- The gain's gradient. -/
theorem v67 (i : S1x1024.Idx) :
    val_main_v67 (F := Ideal) x0 x1 x2 x3 i = ∑ k, nrm (row x1 k) (i 1) * dyRef (row x1 k) (row x2 0) (row x3 0) (row x0 k) (i 1) := by
  rw [val_main_v67_apply, val_main_v42_apply, val_main_cst_9_apply]
  show Ideal.ofBits .f32 0x00000000#32 + _ = _
  rw [Ideal.ofBits_zero_f32, zero_add, Fin.sum_univ_one, val_main_v39_apply, val_main_v38_apply, val_main_cst_8_apply]
  show Ideal.ofBits .f32 0x00000000#32 + _ = _
  rw [Ideal.ofBits_zero_f32, zero_add]
  refine Finset.sum_congr rfl fun k _ => ?_
  rw [val_main_v37_apply, v24, v33]
  obtain ⟨r, d, rfl⟩ : ∃ (r : Fin 1) (d : Fin 1024), i = ix2 r d := ⟨i 0, i 1, eq_ix2 i⟩
  have h1 := d.isLt
  rw [show idx_main_v38 (idx_main_v39 (idx_main_v42 (idx_main_v67 (ix2 r d)) 0)) k = ix2 k d from
    funext fun a => Fin.ext (by match a with | ⟨0, _⟩ => rfl | ⟨1, _⟩ => show 0 * 1024 + d.val = d.val; omega)]
  rfl

variable (hd : ∀ i k, ∃ r : ℝ, row x0 i k = (r : EReal)) (hg : ∀ k, ∃ r : ℝ, row x2 0 k = (r : EReal))

include hd hg in
/-- On finite gradients and gains the reference's results are the kernel's. -/
theorem res_dc (i : S8192x1024.Idx) : val_main_v66 (F := Ideal) x0 x1 x2 x3 i = dcAll x0 x1 x2 x3 (i 0) (i 1) := by
  rw [v66]
  obtain ⟨r, d, rfl⟩ : ∃ (r : Fin 8192) (d : Fin 1024), i = ix2 r d := ⟨i 0, i 1, eq_ix2 i⟩
  exact dcRef_eq (by simp) (row x1 r) (row x2 0) (row x3 0) (row x0 r) (hd r) hg d

include hd in
theorem res_dg (i : S1x1024.Idx) : val_main_v67 (F := Ideal) x0 x1 x2 x3 i = ∑ k, dgTerm x0 x1 x2 x3 (i 1) k := by
  rw [v67]
  refine Finset.sum_congr rfl fun k _ => ?_
  exact (mul_comm _ _).trans (congrArg (· * nrm (row x1 k) (i 1)) (dyRef_eq (row x1 k) (row x2 0) (row x3 0) (row x0 k) (hd k) (i 1)))

include hd in
theorem res_db (i : S1x1024.Idx) : val_main_v68 (F := Ideal) x0 x1 x2 x3 i = ∑ k, dbTerm x0 x1 x2 x3 (i 1) k := by
  rw [v68]
  refine Finset.sum_congr rfl fun k _ => ?_
  exact dyRef_eq (row x1 k) (row x2 0) (row x3 0) (row x0 k) (hd k) (i 1)

end Reference

/-- An extended real whose absolute value compares below infinity is real. -/
theorem real_of_cmp (x : EReal) (h : FloatOps.cmpf (F := Ideal) (φ := .f32) .olt (FloatOps.absf (F := Ideal) (φ := .f32) x) (Ideal.ofBits .f32 0x7F800000#32) = 1#1) :
    ∃ r : ℝ, x = (r : EReal) := by
  obtain ⟨h1, h2⟩ := Cert.MemClaim.finite_of_cmp x h
  exact ⟨_, (EReal.coe_toReal h2 h1).symm⟩

/-- The precondition makes the gradient and the gain finite. -/
theorem finite_of_pre (m : (ℓ : Loc Cert.DlnBwdIdeal.nD Cert.DlnBwdIdeal.τ Cert.DlnBwdIdeal.sig) → Buf (Elt Ideal) ℓ)
    (hm : Pre_DlnBwdIdeal_finite_grads (hPre_finite_grads := preFacts) m) (c : Dev Cert.DlnBwdIdeal.nD) :
    (∀ i k, ∃ r : ℝ, row (D m c) i k = (r : EReal)) ∧ ∀ k, ∃ r : ℝ, row (G m c) 0 k = (r : EReal) := by
  obtain ⟨hd, hg⟩ := hm c
  exact ⟨fun i k => real_of_cmp _ (congrFun hd (ix2 i k)), fun k => real_of_cmp _ (congrFun hg (ix2 0 k))⟩

/-- The kernel's three results are the reference's, on finite gradients and gains. -/
theorem algebraic : algebraic_DlnBwdIdeal_DlnGradIdeal_pre_finite_grads (hDlnBwdIdeal := Cert.DlnBwdIdeal.Gen.facts)
    (hDlnGradIdeal := Cert.DlnGradIdeal.Gen.facts) (hPre_finite_grads := preFacts) := by
  intro m ρ m' ρ' hm hagree
  refine ⟨fun c => (Cert.DlnBwdIdeal.Gen.dats m 0 c).arrAt 4 Cert.DlnBwdIdeal.cfg0.N,
    fun c => (Cert.DlnBwdIdeal.Gen.dats m 0 c).arrAt 5 Cert.DlnBwdIdeal.cfg0.N,
    fun c => (Cert.DlnBwdIdeal.Gen.dats m 0 c).arrAt 6 Cert.DlnBwdIdeal.cfg0.N, Cert.DlnBwdIdeal.Value.run_blocks m ρ, ?_⟩
  refine (θ_run _ _ _).mono (fun r h c => ?_) (Cert.DlnGradIdeal.Value.run (F := Ideal) m' ρ')
  obtain ⟨h66, h67, h68, hargs⟩ := h c
  obtain ⟨a0, a1, a2, a3⟩ := hagree c
  obtain ⟨hd, hg⟩ := finite_of_pre m hm c
  refine ⟨h66.trans ?_, h67.trans ?_, h68.trans ?_, hargs⟩
  · rw [Cert.DlnGradIdeal.Read.val_main_v66_eq, a0, a1, a2, a3]
    exact Eq.trans (funext fun i => res_dc (D m c) (X m c) (G m c) (B m c) hd hg i) (array_dc m c).symm
  · rw [Cert.DlnGradIdeal.Read.val_main_v67_eq, a0, a1, a2, a3]
    exact Eq.trans (funext fun i => res_dg (D m c) (X m c) (G m c) (B m c) hd i) (array_dg m c).symm
  · rw [Cert.DlnGradIdeal.Read.val_main_v68_eq, a0, a1, a2, a3]
    exact Eq.trans (funext fun i => res_db (D m c) (X m c) (G m c) (B m c) hd i) (array_db m c).symm

theorem frame_p : quiescent_DlnBwd (hDlnBwd := Cert.DlnBwd.Gen.facts) := fun m ρ _ => Cert.DlnBwd.Gen.frame m ρ

theorem frame_pi : quiescent_DlnBwdIdeal (hDlnBwdIdeal := Cert.DlnBwdIdeal.Gen.facts) := fun m ρ _ => Cert.DlnBwdIdeal.Gen.frame m ρ

theorem frame_pi_pre : quiescent_DlnBwdIdeal_pre_finite_grads (hDlnBwdIdeal := Cert.DlnBwdIdeal.Gen.facts)
    (hPre_finite_grads := preFacts) := fun m ρ _ => Cert.DlnBwdIdeal.Gen.frame m ρ

/-- The reference runs to its end and leaves its arguments; it declares no semaphore. -/
theorem frame_ri : quiescent_DlnGradIdeal (hDlnGradIdeal := Cert.DlnGradIdeal.Gen.facts) := fun m ρ _ =>
  (θ_run _ _ _).mono (fun r h => And.intro (fun c => (h c).2.2.2) (sem_eq_zero_of_no_sems (by decide) r.2))
    (Cert.DlnGradIdeal.Value.run (F := Ideal) m ρ)

theorem frame_ri_pre : quiescent_DlnGradIdeal_pre_finite_grads (hDlnGradIdeal := Cert.DlnGradIdeal.Gen.facts)
    (hPre_finite_grads := preFacts) := fun m ρ _ =>
  (θ_run _ _ _).mono (fun r h => And.intro (fun c => (h c).2.2.2) (sem_eq_zero_of_no_sems (by decide) r.2))
    (Cert.DlnGradIdeal.Value.run (F := Ideal) m ρ)

end Cert.DlnClaim

end
-- ==== Proof.DkeysBlock.lean ====
/- The block the kernel `dk_windows` leaves: a window's own rows and, where those windows exist, the overlapping rows of the next two. -/
module

public import proofs.«01_k».proof.Proof.Loads
public import proofs.«01_k».proof.Proof.Gen.DkeysBwdIdeal.Value
public import Idealize.ShloMosaic.Lib.Tactic
public import Idealize.ShloMosaic.Lib.VecWindow
public import Idealize.ShloMosaic.Lib.Pipeline.ReadBack
public import Idealize.ShloMosaic.Lib.IdealHost
public import Idealize.ShloMosaic.Lib.Pointwise

@[expose] public section

noncomputable section

namespace Cert.DkeysBlock

open Cert.DkeysBwdIdeal Cert.DkeysBwdIdeal.Gen Idealize.ShloMosaic Idealize.ShloMosaic.Tactic

/-- The sum over the windows that hold a row, of which window `n` is the first. -/
def over (n : ℕ) (a b d : EReal) : EReal := a + (if n + 1 < 32 then b else 0) + (if n + 2 < 32 then d else 0)

theorem slt1 (n : Fin 32) : (Scalar.cmpi .slt (Scalar.addi (BitVec.ofNat 32 n.val) 1#32) 32#32 : BitVec 1) = if n.val + 1 < 32 then 1#1 else 0#1 := by
  revert n; decide

theorem slt2 (n : Fin 32) : (Scalar.cmpi .slt (Scalar.addi (BitVec.ofNat 32 n.val) 2#32) 32#32 : BitVec 1) = if n.val + 2 < 32 then 1#1 else 0#1 := by
  revert n; decide

theorem plane (x : FVec Ideal S1x256x1024 .f32) (p : Fin 256) (q : Fin 1024) :
    shapeCast S256x1024 x shapeCasts_S1x256x1024_S256x1024 (ix2 p q) = x (ix3 0 p q) := by
  pointwise []

/-- A plane chosen by a comparison, or zero. -/
theorem chosen (P : Prop) [Decidable P] (z : BitVec 1) (hz : z = if P then 1#1 else 0#1) (x : FVec Ideal S1x256x1024 .f32) (p : Fin 256) (q : Fin 1024) :
    (Scalar.select z (shapeCast S256x1024 x shapeCasts_S1x256x1024_S256x1024 : FVec Ideal S256x1024 .f32)
      (broadcast S256x1024 (Scalar.ofBits (F := Ideal) .f32 0x00000000#32))) (ix2 p q) = if P then x (ix3 0 p q) else 0 := by
  subst hz
  by_cases h : P
  · simp only [h, if_true]
    exact plane x p q
  · simp only [h, if_false]
    exact Ideal.ofBits_zero_f32

theorem pay (i : grid0.Coords) (x0 x1 x2 : FVec Ideal S1x256x1024 .f32) (p : Fin 256) (q : Fin 1024) :
    k0_pay1 (F := Ideal) i x0 x1 x2 (ix2 p q) = over (i 0).val (x0 (ix3 0 p q)) (x1 (ix3 0 p q)) (x2 (ix3 0 p q)) := by
  unfold over
  rw [← plane x0 p q, ← chosen _ _ (slt1 (i 0)) x1 p q, ← chosen _ _ (slt2 (i 0)) x2 p q]
  rfl

/-- THE BLOCK. -/
theorem out (c : Dev nD) (i : grid0.Coords) (arg1 : Memref sig .tc .vmem S1x256x1024 .f32) (harg1 : arg1.IsWhole)
    (arg2 : Memref sig .tc .vmem S1x256x1024 .f32) (harg2 : arg2.IsWhole) (arg3 : Memref sig .tc .vmem S1x256x1024 .f32) (harg3 : arg3.IsWhole)
    (arg5 : Memref sig .tc .vmem S256x1024 .bf16) (harg5 : arg5.IsWhole) (x0 x1 x2 : FVec Ideal S1x256x1024 .f32) (p : Fin 256) (q : Fin 1024) :
    out0_A_3 (F := Ideal) c i arg1 harg1 arg2 harg2 arg3 harg3 arg5 harg5 x0 x1 x2 (ix2 p q)
      = over (i 0).val (x0 (ix3 0 p q)) (x1 (ix3 0 p q)) (x2 (ix3 0 p q)) := by
  unfold out0_A_3 kernelRun0_A
  dsimp only
  sl_unfold_run_names
  refine (congrFun (View.read_writes_full (Val := Elt Ideal) _ _ _ _ _) _).trans ?_
  refine (pay i _ _ _ p q).trans ?_
  exact congr (congr (congrArg (over (i 0).val) (Cert.Loads.slot arg1 harg1 x0 0 (by decide) _ p q)) (Cert.Loads.slot arg2 harg2 x1 0 (by decide) _ p q))
    (Cert.Loads.slot arg3 harg3 x2 0 (by decide) _ p q)

end Cert.DkeysBlock

end
-- ==== Proof.DkeysArray.lean ====
/- The array the kernel `dk_windows` leaves: the windows' keys' gradients summed over their overlaps, in the columns of the keys. -/
module

public import proofs.«01_k».proof.Proof.DkeysBlock
public import Idealize.ShloMosaic.Lib.Pipeline.ValueKit

@[expose] public section

noncomputable section

namespace Cert.DkeysArray

open Cert.DkeysBwdIdeal Cert.DkeysBwdIdeal.Gen Idealize.ShloMosaic Idealize.ShloMosaic.TcCoe Cert.DkeysBlock
open Idealize.ShloMosaic.Pipeline (Dat)

/-- Row `p` of part `s` of window `n`. -/
def part (w : FVec Ideal S32x768x1024 .f32) (n s p : ℕ) (q : Fin 1024) : EReal := w (ix3 (Fin.ofNat 32 n) (Fin.ofNat 768 (256 * s + p)) q)

/-- The sum over the windows that hold row `r`. -/
def total (w : FVec Ideal S32x768x1024 .f32) (r : ℕ) (q : Fin 1024) : EReal :=
  over (r / 256) (part w (r / 256) 2 (r % 256) q) (part w (r / 256 + 1) 1 (r % 256) q) (part w (r / 256 + 2) 0 (r % 256) q)

/-- `over` reads a window only where it exists. -/
theorem over_congr {n : ℕ} {a b d b' d' : EReal} (hb : n + 1 < 32 → b = b') (hd : n + 2 < 32 → d = d') : over n a b d = over n a b' d' := by
  unfold over
  refine congr (congrArg _ (congrArg (a + ·) ?_)) ?_
  · by_cases h : n + 1 < 32
    · rw [if_pos h, if_pos h, hb h]
    · rw [if_neg h, if_neg h]
  · by_cases h : n + 2 < 32
    · rw [if_pos h, if_pos h, hd h]
    · rw [if_neg h, if_neg h]

variable (m : (ℓ : Loc nD τ sig) → Buf (Elt Ideal) ℓ) (c : Dev nD)

/-- The windows' gradients. -/
abbrev arg0 : FVec Ideal S32x768x1024 .f32 := m ((c : Thread nD τ).loc main_arg0)

theorem coord0 : ∀ t : Fin cfg0.N, (grid0.coords t 0).val = t.val := by
  show ∀ t : Fin grid0.N, _; decide +kernel
theorem index0 : ∀ t : Fin cfg0.N, win0_0.index t 0 = t.val ∧ win0_0.index t 1 = 2 ∧ win0_0.index t 2 = 0 := by
  show ∀ t : Fin grid0.N, _; decide +kernel
theorem index1 : ∀ t : Fin cfg0.N, win0_1.index t 0 = min (t.val + 1) 31 ∧ win0_1.index t 1 = 1 ∧ win0_1.index t 2 = 0 := by
  show ∀ t : Fin grid0.N, _; decide +kernel
theorem index2 : ∀ t : Fin cfg0.N, win0_2.index t 0 = min (t.val + 2) 31 ∧ win0_2.index t 1 = 0 ∧ win0_2.index t 2 = 0 := by
  show ∀ t : Fin grid0.N, _; decide +kernel
theorem index3 : ∀ t : Fin cfg0.N, win0_3.index t 0 = t.val ∧ win0_3.index t 1 = 3 := by
  show ∀ t : Fin grid0.N, _; decide +kernel

theorem lt_pts (t : Fin cfg0.N) : t.val < 32 := lt_of_lt_of_eq t.isLt (show cfg0.N = 32 from N_0)

theorem iblk0 (t : Fin cfg0.N) (p : Fin 256) (q : Fin 1024) : iblk m c 0 t (ix3 0 p q) = part (arg0 m c) t.val 2 p.val q := by
  have hi := index0 t
  have ht := lt_pts t
  have hp := p.isLt
  refine (congrFun (V_main_arg0 m c) _).trans (congrArg (m _) (funext fun a => Fin.ext ?_))
  match a with
  | ⟨0, _⟩ => show win0_0.index t 0 * 1 + 1 * 0 = t.val % 32; rw [hi.1]; omega
  | ⟨1, _⟩ => show win0_0.index t 1 * 256 + 1 * p.val = (256 * 2 + p.val) % 768; rw [hi.2.1]; omega
  | ⟨2, _⟩ => show win0_0.index t 2 * 1024 + 1 * q.val = q.val; rw [hi.2.2]; omega

theorem iblk1 (t : Fin cfg0.N) (h : t.val + 1 < 32) (p : Fin 256) (q : Fin 1024) :
    iblk m c 1 t (ix3 0 p q) = part (arg0 m c) (t.val + 1) 1 p.val q := by
  have hi := index1 t
  have hp := p.isLt
  refine (congrFun (V_main_arg0 m c) _).trans (congrArg (m _) (funext fun a => Fin.ext ?_))
  match a with
  | ⟨0, _⟩ => show win0_1.index t 0 * 1 + 1 * 0 = (t.val + 1) % 32; rw [hi.1]; omega
  | ⟨1, _⟩ => show win0_1.index t 1 * 256 + 1 * p.val = (256 * 1 + p.val) % 768; rw [hi.2.1]; omega
  | ⟨2, _⟩ => show win0_1.index t 2 * 1024 + 1 * q.val = q.val; rw [hi.2.2]; omega

theorem iblk2 (t : Fin cfg0.N) (h : t.val + 2 < 32) (p : Fin 256) (q : Fin 1024) :
    iblk m c 2 t (ix3 0 p q) = part (arg0 m c) (t.val + 2) 0 p.val q := by
  have hi := index2 t
  have hp := p.isLt
  refine (congrFun (V_main_arg0 m c) _).trans (congrArg (m _) (funext fun a => Fin.ext ?_))
  match a with
  | ⟨0, _⟩ => show win0_2.index t 0 * 1 + 1 * 0 = (t.val + 2) % 32; rw [hi.1]; omega
  | ⟨1, _⟩ => show win0_2.index t 1 * 256 + 1 * p.val = (256 * 0 + p.val) % 768; rw [hi.2.1]; omega
  | ⟨2, _⟩ => show win0_2.index t 2 * 1024 + 1 * q.val = q.val; rw [hi.2.2]; omega

/-- A point's block. -/
theorem outs (t : Fin cfg0.N) (p : Fin 256) (q : Fin 1024) : outsAt0 m c t (ix2 p q) = total (arg0 m c) (256 * t.val + p.val) q := by
  have hp := p.isLt
  unfold outsAt0
  rw [out, coord0, iblk0]
  unfold total
  rw [show (256 * t.val + p.val) / 256 = t.val by omega, show (256 * t.val + p.val) % 256 = p.val by omega]
  exact over_congr (fun h => iblk1 m c t h p q) (fun h => iblk2 m c t h p q)

/-- The region finds the aliased array as launched. -/
theorem V_alias : V m c main_v0 = m ((c : Thread nD τ).loc main_arg1) := rfl

/-- THE ARRAY: columns 3072 to 4095 hold the keys' gradient, the others what the last argument holds. -/
theorem array : (dats m 0 c).arrAt 3 cfg0.N = fun i : S8192x12288.Idx =>
    if (i 1).val / 1024 = 3 then total (arg0 m c) (i 0).val (Fin.ofNat 1024 (i 1).val) else m ((c : Thread nD τ).loc main_arg1) i := by
  refine ((dats m 0 c).arrAt_eq_of_coversWhere 3 (fun i : S8192x12288.Idx => total (arg0 m c) (i 0).val (Fin.ofNat 1024 (i 1).val))
    (P := fun i : S8192x12288.Idx => (i 1).val / 1024 = 3)
    (fun β => β (1 : Fin 2) = 3) (by decide +kernel) (fun t hf y => ?_) (fun j => Iff.rfl)).trans ?_
  · show (dats m 0 c).after 3 t y = _
    rw [after0_3]
    obtain ⟨p, q, rfl⟩ : ∃ (p : Fin 256) (q : Fin 1024), y = ix2 p q := ⟨y 0, y 1, eq_ix2 y⟩
    rw [outs]
    have hi := index3 t
    have hq := q.isLt
    refine congr (congrArg _ ?_) (Fin.ext ?_)
    · show 256 * t.val + p.val = win0_3.index t 0 * 256 + 1 * p.val
      rw [hi.1]; omega
    · show q.val = (win0_3.index t 1 * 1024 + 1 * q.val) % 1024
      rw [hi.2]; omega
  · rw [A_eq]
    rfl

end Cert.DkeysArray

end
-- ==== Proof.DkeysClaim.lean ====
/- The gradient of the windows' keys: what the reference, the reverse of the windows' cutting, computes, and the claims. -/
module

public import proofs.«01_k».proof.Defs
public import proofs.«01_k».proof.Proof.DkeysArray
public import proofs.«01_k».proof.Proof.Gen.DkeysBwd
public import proofs.«01_k».proof.Proof.Gen.DkeysBwd.Frame
public import proofs.«01_k».proof.Proof.Gen.DkeysGradIdeal.Run
public import proofs.«01_k».proof.Proof.Gen.DkeysGradIdeal.Read
public import Idealize.ShloMosaic.Lib.KernelVsHost
public import Idealize.ShloMosaic.Lib.IdealHost

@[expose] public section

noncomputable section

namespace Cert.DkeysClaim

open Idealize.ShloMosaic Idealize.SL.Sem Cert.DkeysBlock Cert.DkeysArray

section Reference

open Cert.DkeysGradIdeal Cert.DkeysGradIdeal.Gen Cert.DkeysGradIdeal.Read

variable (x0 : FVec Ideal S32x768x1024 .f32) (x1 : FVec Ideal S8192x12288 .bf16)

/-- The last parts of the windows, two blocks on. -/
theorem v13 (n : Fin 34) (p : Fin 256) (q : Fin 1024) (h : 2 ≤ n.val) :
    val_main_v13 (F := Ideal) x0 (ix3 n p q) = part x0 (n.val - 2) 2 p.val q := by
  have hn := n.isLt
  have hp := p.isLt
  unfold val_main_v13
  refine (pad_apply_of_inside _ _ _ _ _ _ _ _ (ix3 (Fin.ofNat 32 (n.val - 2)) p q) (fun a => ?_)).trans ?_
  · match a with
    | ⟨0, _⟩ => show n.val = 2 + (n.val - 2) % 32 * (0 + 1); omega
    | ⟨1, _⟩ => show p.val = 0 + p.val * (0 + 1); omega
    | ⟨2, _⟩ => show q.val = 0 + q.val * (0 + 1); omega
  · rw [val_main_v12_apply]
    refine congrArg x0 (funext fun a => Fin.ext ?_)
    match a with
    | ⟨0, _⟩ => rfl
    | ⟨1, _⟩ => show 512 + p.val = (256 * 2 + p.val) % 768; omega
    | ⟨2, _⟩ => rfl

/-- The middle parts, one block on. -/
theorem v14 (n : Fin 34) (p : Fin 256) (q : Fin 1024) (h : 2 ≤ n.val) :
    val_main_v14 (F := Ideal) x0 (ix3 n p q) = if n.val - 2 + 1 < 32 then part x0 (n.val - 2 + 1) 1 p.val q else 0 := by
  have hn := n.isLt
  have hp := p.isLt
  unfold val_main_v14
  by_cases h1 : n.val - 2 + 1 < 32
  · rw [if_pos h1]
    refine (pad_apply_of_inside _ _ _ _ _ _ _ _ (ix3 (Fin.ofNat 32 (n.val - 2 + 1)) p q) (fun a => ?_)).trans ?_
    · match a with
      | ⟨0, _⟩ => show n.val = 1 + (n.val - 2 + 1) % 32 * (0 + 1); omega
      | ⟨1, _⟩ => show p.val = 0 + p.val * (0 + 1); omega
      | ⟨2, _⟩ => show q.val = 0 + q.val * (0 + 1); omega
    · rw [val_main_v11_apply]
      refine congrArg x0 (funext fun a => Fin.ext ?_)
      match a with
      | ⟨0, _⟩ => rfl
      | ⟨1, _⟩ => show 256 + p.val = (256 * 1 + p.val) % 768; omega
      | ⟨2, _⟩ => rfl
  · rw [if_neg h1, pad_apply_of_not_inside _ _ _ _ _ _ _ _ 0
      (by show ¬(1 ≤ n.val ∧ (n.val - 1) % (0 + 1) = 0 ∧ (n.val - 1) / (0 + 1) < 32); omega)]
    exact Ideal.ofBits_zero_f32

/-- The first parts. -/
theorem v16 (n : Fin 34) (p : Fin 256) (q : Fin 1024) (h : 2 ≤ n.val) :
    val_main_v16 (F := Ideal) x0 (ix3 n p q) = if n.val - 2 + 2 < 32 then part x0 (n.val - 2 + 2) 0 p.val q else 0 := by
  have hn := n.isLt
  have hp := p.isLt
  unfold val_main_v16
  by_cases h1 : n.val - 2 + 2 < 32
  · rw [if_pos h1]
    refine (pad_apply_of_inside _ _ _ _ _ _ _ _ (ix3 (Fin.ofNat 32 (n.val - 2 + 2)) p q) (fun a => ?_)).trans ?_
    · match a with
      | ⟨0, _⟩ => show n.val = 0 + (n.val - 2 + 2) % 32 * (0 + 1); omega
      | ⟨1, _⟩ => show p.val = 0 + p.val * (0 + 1); omega
      | ⟨2, _⟩ => show q.val = 0 + q.val * (0 + 1); omega
    · rw [val_main_v10_apply]
      refine congrArg x0 (funext fun a => Fin.ext ?_)
      match a with
      | ⟨0, _⟩ => rfl
      | ⟨1, _⟩ => show p.val = (256 * 0 + p.val) % 768; omega
      | ⟨2, _⟩ => rfl
  · rw [if_neg h1, pad_apply_of_not_inside _ _ _ _ _ _ _ _ 0
      (by show ¬(0 ≤ n.val ∧ (n.val - 0) % (0 + 1) = 0 ∧ (n.val - 0) / (0 + 1) < 32); omega)]
    exact Ideal.ofBits_zero_f32

/-- The windows' gradients summed over their overlaps. -/
theorem v21 (r : Fin 8192) (q : Fin 1024) : val_main_v21 (F := Ideal) x0 (ix2 r q) = total x0 r.val q := by
  have hr := r.isLt
  have hq := q.isLt
  have hix : idx_main_v18 (idx_main_v20 (ix2 r q)) = ix3 (⟨r.val / 256 + 2, by omega⟩ : Fin 34) (⟨r.val % 256, by omega⟩ : Fin 256) q := by
    refine funext fun a => Fin.ext ?_
    match a with
    | ⟨0, _⟩ => show ((512 + r.val) * 1024 + q.val) / 262144 = r.val / 256 + 2; omega
    | ⟨1, _⟩ => show ((512 + r.val) * 1024 + q.val) / 1024 % 256 = r.val % 256; omega
    | ⟨2, _⟩ => show ((512 + r.val) * 1024 + q.val) % 1024 = q.val; omega
  rw [val_main_v21_apply, val_main_v20_apply, val_main_v18_apply, val_main_v17_apply, val_main_v15_apply, hix,
    v13 x0 _ _ _ (by show 2 ≤ r.val / 256 + 2; omega), v14 x0 _ _ _ (by show 2 ≤ r.val / 256 + 2; omega), v16 x0 _ _ _ (by show 2 ≤ r.val / 256 + 2; omega)]
  rfl

/-- THE RESULT: columns 3072 to 4095 hold the keys' gradient, the others what the last argument holds. -/
theorem v23 (i : S8192x12288.Idx) : val_main_v23 (F := Ideal) x0 x1 i
    = if (i 1).val / 1024 = 3 then total x0 (i 0).val (Fin.ofNat 1024 (i 1).val) else x1 i := by
  have h0 : (i 0).val < 8192 := (i 0).isLt
  have h1 : (i 1).val < 12288 := (i 1).isLt
  unfold val_main_v23
  rcases Nat.lt_or_ge (i 1).val 3072 with hlo | hlo
  · let k : S8192x3072.Idx := ix2 (i 0) (⟨(i 1).val, hlo⟩ : Fin 3072)
    rw [if_neg (by omega), concatenate_apply_piece 1 _ _ i 0 (by simp) S8192x3072 _ rfl rfl 0 rfl k
      (fun b hb => match b with
        | ⟨0, _⟩ => rfl
        | ⟨1, _⟩ => absurd rfl hb) (show 0 + (i 1).val = (i 1).val by omega)]
    rw [val_main_v0_apply]
    exact congrArg x1 (funext fun a => Fin.ext (match a with
      | ⟨0, _⟩ => rfl
      | ⟨1, _⟩ => rfl))
  rcases Nat.lt_or_ge (i 1).val 4096 with hhi | hhi
  · let k : S8192x1024.Idx := ix2 (i 0) (⟨(i 1).val - 3072, by omega⟩ : Fin 1024)
    rw [if_pos (by omega), concatenate_apply_piece 1 _ _ i 1 (by simp) S8192x1024 _ rfl rfl 3072 rfl k
      (fun b hb => match b with
        | ⟨0, _⟩ => rfl
        | ⟨1, _⟩ => absurd rfl hb) (show 3072 + ((i 1).val - 3072) = (i 1).val by omega)]
    refine (v21 x0 (i 0) _).trans (congrArg (total x0 (i 0).val) (Fin.ext ?_))
    show (i 1).val - 3072 = (i 1).val % 1024
    omega
  · let k : S8192x8192.Idx := ix2 (i 0) (⟨(i 1).val - 4096, by omega⟩ : Fin 8192)
    rw [if_neg (by omega), concatenate_apply_piece 1 _ _ i 2 (by simp) S8192x8192 _ rfl rfl 4096 rfl k
      (fun b hb => match b with
        | ⟨0, _⟩ => rfl
        | ⟨1, _⟩ => absurd rfl hb) (show 4096 + ((i 1).val - 4096) = (i 1).val by omega)]
    rw [val_main_v22_apply]
    exact congrArg x1 (funext fun a => Fin.ext (match a with
      | ⟨0, _⟩ => rfl
      | ⟨1, _⟩ => show 4096 + ((i 1).val - 4096) = (i 1).val by omega))

end Reference

/-- The kernel's result is the reference's. -/
theorem algebraic : algebraic_DkeysBwdIdeal_DkeysGradIdeal (hDkeysBwdIdeal := Cert.DkeysBwdIdeal.Gen.facts)
    (hDkeysGradIdeal := Cert.DkeysGradIdeal.Gen.facts) := by
  intro m ρ m' ρ' _ hagree
  refine ⟨fun c => (Cert.DkeysBwdIdeal.Gen.dats m 0 c).arrAt 3 Cert.DkeysBwdIdeal.cfg0.N, Cert.DkeysBwdIdeal.Value.run_blocks m ρ, ?_⟩
  refine (θ_run _ _ _).mono (fun r h c => ?_) (Cert.DkeysGradIdeal.Value.run (F := Ideal) m' ρ')
  obtain ⟨hv, hargs⟩ := h c
  obtain ⟨a0, a1⟩ := hagree c
  refine ⟨hv.trans ?_, hargs⟩
  rw [Cert.DkeysGradIdeal.Read.val_main_v23_eq, a0, a1]
  exact Eq.trans (funext fun y => v23 (arg0 m c) _ y) (array m c).symm

theorem frame_p : quiescent_DkeysBwd (hDkeysBwd := Cert.DkeysBwd.Gen.facts) := fun m ρ _ => Cert.DkeysBwd.Gen.frame m ρ

theorem frame_pi : quiescent_DkeysBwdIdeal (hDkeysBwdIdeal := Cert.DkeysBwdIdeal.Gen.facts) := fun m ρ _ => Cert.DkeysBwdIdeal.Gen.frame m ρ

/-- The reference runs to its end and leaves its arguments; it declares no semaphore. -/
theorem frame_ri : quiescent_DkeysGradIdeal (hDkeysGradIdeal := Cert.DkeysGradIdeal.Gen.facts) := fun m ρ _ =>
  (θ_run _ _ _).mono (fun r h => And.intro (fun c => (h c).2) (sem_eq_zero_of_no_sems (by decide) r.2))
    (Cert.DkeysGradIdeal.Value.run (F := Ideal) m ρ)

end Cert.DkeysClaim

end
-- ==== Proof.DvalsArray.lean ====
/- The block and the array the kernel `dv_windows` leaves: the windows' values' gradients summed over their overlaps, in the columns of
   the values. -/
module

public import proofs.«01_k».proof.Proof.DkeysArray
public import proofs.«01_k».proof.Proof.Gen.DvalsBwdIdeal.Value

@[expose] public section

noncomputable section

namespace Cert.DvalsArray

open Cert.DvalsBwdIdeal Cert.DvalsBwdIdeal.Gen Idealize.ShloMosaic Idealize.ShloMosaic.Tactic Idealize.ShloMosaic.TcCoe
open Cert.DkeysBlock (over)
open Cert.DkeysArray (part total over_congr)
open Idealize.ShloMosaic.Pipeline (Dat)

/-- THE BLOCK. -/
theorem out (c : Dev nD) (i : grid0.Coords) (arg1 : Memref sig .tc .vmem S1x256x1024 .f32) (harg1 : arg1.IsWhole)
    (arg2 : Memref sig .tc .vmem S1x256x1024 .f32) (harg2 : arg2.IsWhole) (arg3 : Memref sig .tc .vmem S1x256x1024 .f32) (harg3 : arg3.IsWhole)
    (arg5 : Memref sig .tc .vmem S256x1024 .bf16) (harg5 : arg5.IsWhole) (x0 x1 x2 : FVec Ideal S1x256x1024 .f32) (p : Fin 256) (q : Fin 1024) :
    out0_A_3 (F := Ideal) c i arg1 harg1 arg2 harg2 arg3 harg3 arg5 harg5 x0 x1 x2 (ix2 p q)
      = over (i 0).val (x0 (ix3 0 p q)) (x1 (ix3 0 p q)) (x2 (ix3 0 p q)) := by
  unfold out0_A_3 kernelRun0_A
  dsimp only
  sl_unfold_run_names
  refine (congrFun (View.read_writes_full (Val := Elt Ideal) _ _ _ _ _) _).trans ?_
  refine (Cert.DkeysBlock.pay i _ _ _ p q).trans ?_
  exact congr (congr (congrArg (over (i 0).val) (Cert.Loads.slot arg1 harg1 x0 0 (by decide) _ p q)) (Cert.Loads.slot arg2 harg2 x1 0 (by decide) _ p q))
    (Cert.Loads.slot arg3 harg3 x2 0 (by decide) _ p q)

variable (m : (ℓ : Loc nD τ sig) → Buf (Elt Ideal) ℓ) (c : Dev nD)

/-- The windows' gradients. -/
abbrev arg0 : FVec Ideal S32x768x1024 .f32 := m ((c : Thread nD τ).loc main_arg0)

theorem coord0 : ∀ t : Fin cfg0.N, (grid0.coords t 0).val = t.val := by
  show ∀ t : Fin grid0.N, _; decide +kernel
theorem index0 : ∀ t : Fin cfg0.N, win0_0.index t 0 = t.val ∧ win0_0.index t 1 = 2 ∧ win0_0.index t 2 = 0 := by
  show ∀ t : Fin grid0.N, _; decide +kernel
theorem index1 : ∀ t : Fin cfg0.N, win0_1.index t 0 = min (t.val + 1) 31 ∧ win0_1.index t 1 = 1 ∧ win0_1.index t 2 = 0 := by
  show ∀ t : Fin grid0.N, _; decide +kernel
theorem index2 : ∀ t : Fin cfg0.N, win0_2.index t 0 = min (t.val + 2) 31 ∧ win0_2.index t 1 = 0 ∧ win0_2.index t 2 = 0 := by
  show ∀ t : Fin grid0.N, _; decide +kernel
theorem index3 : ∀ t : Fin cfg0.N, win0_3.index t 0 = t.val ∧ win0_3.index t 1 = 4 := by
  show ∀ t : Fin grid0.N, _; decide +kernel

theorem lt_pts (t : Fin cfg0.N) : t.val < 32 := lt_of_lt_of_eq t.isLt (show cfg0.N = 32 from N_0)

theorem iblk0 (t : Fin cfg0.N) (p : Fin 256) (q : Fin 1024) : iblk m c 0 t (ix3 0 p q) = part (arg0 m c) t.val 2 p.val q := by
  have hi := index0 t
  have ht := lt_pts t
  have hp := p.isLt
  refine (congrFun (V_main_arg0 m c) _).trans (congrArg (m _) (funext fun a => Fin.ext ?_))
  match a with
  | ⟨0, _⟩ => show win0_0.index t 0 * 1 + 1 * 0 = t.val % 32; rw [hi.1]; omega
  | ⟨1, _⟩ => show win0_0.index t 1 * 256 + 1 * p.val = (256 * 2 + p.val) % 768; rw [hi.2.1]; omega
  | ⟨2, _⟩ => show win0_0.index t 2 * 1024 + 1 * q.val = q.val; rw [hi.2.2]; omega

theorem iblk1 (t : Fin cfg0.N) (h : t.val + 1 < 32) (p : Fin 256) (q : Fin 1024) :
    iblk m c 1 t (ix3 0 p q) = part (arg0 m c) (t.val + 1) 1 p.val q := by
  have hi := index1 t
  have hp := p.isLt
  refine (congrFun (V_main_arg0 m c) _).trans (congrArg (m _) (funext fun a => Fin.ext ?_))
  match a with
  | ⟨0, _⟩ => show win0_1.index t 0 * 1 + 1 * 0 = (t.val + 1) % 32; rw [hi.1]; omega
  | ⟨1, _⟩ => show win0_1.index t 1 * 256 + 1 * p.val = (256 * 1 + p.val) % 768; rw [hi.2.1]; omega
  | ⟨2, _⟩ => show win0_1.index t 2 * 1024 + 1 * q.val = q.val; rw [hi.2.2]; omega

theorem iblk2 (t : Fin cfg0.N) (h : t.val + 2 < 32) (p : Fin 256) (q : Fin 1024) :
    iblk m c 2 t (ix3 0 p q) = part (arg0 m c) (t.val + 2) 0 p.val q := by
  have hi := index2 t
  have hp := p.isLt
  refine (congrFun (V_main_arg0 m c) _).trans (congrArg (m _) (funext fun a => Fin.ext ?_))
  match a with
  | ⟨0, _⟩ => show win0_2.index t 0 * 1 + 1 * 0 = (t.val + 2) % 32; rw [hi.1]; omega
  | ⟨1, _⟩ => show win0_2.index t 1 * 256 + 1 * p.val = (256 * 0 + p.val) % 768; rw [hi.2.1]; omega
  | ⟨2, _⟩ => show win0_2.index t 2 * 1024 + 1 * q.val = q.val; rw [hi.2.2]; omega

/-- A point's block. -/
theorem outs (t : Fin cfg0.N) (p : Fin 256) (q : Fin 1024) : outsAt0 m c t (ix2 p q) = total (arg0 m c) (256 * t.val + p.val) q := by
  have hp := p.isLt
  unfold outsAt0
  rw [out, coord0, iblk0]
  unfold total
  rw [show (256 * t.val + p.val) / 256 = t.val by omega, show (256 * t.val + p.val) % 256 = p.val by omega]
  exact over_congr (fun h => iblk1 m c t h p q) (fun h => iblk2 m c t h p q)

/-- The region finds the aliased array as launched. -/
theorem V_alias : V m c main_v0 = m ((c : Thread nD τ).loc main_arg1) := rfl

/-- THE ARRAY: columns 4096 to 5119 hold the values' gradient, the others what the last argument holds. -/
theorem array : (dats m 0 c).arrAt 3 cfg0.N = fun i : S8192x12288.Idx =>
    if (i 1).val / 1024 = 4 then total (arg0 m c) (i 0).val (Fin.ofNat 1024 (i 1).val) else m ((c : Thread nD τ).loc main_arg1) i := by
  refine ((dats m 0 c).arrAt_eq_of_coversWhere 3 (fun i : S8192x12288.Idx => total (arg0 m c) (i 0).val (Fin.ofNat 1024 (i 1).val))
    (P := fun i : S8192x12288.Idx => (i 1).val / 1024 = 4)
    (fun β => β (1 : Fin 2) = 4) (by decide +kernel) (fun t hf y => ?_) (fun j => Iff.rfl)).trans ?_
  · show (dats m 0 c).after 3 t y = _
    rw [after0_3]
    obtain ⟨p, q, rfl⟩ : ∃ (p : Fin 256) (q : Fin 1024), y = ix2 p q := ⟨y 0, y 1, eq_ix2 y⟩
    rw [outs]
    have hi := index3 t
    have hq := q.isLt
    refine congr (congrArg _ ?_) (Fin.ext ?_)
    · show 256 * t.val + p.val = win0_3.index t 0 * 256 + 1 * p.val
      rw [hi.1]; omega
    · show q.val = (win0_3.index t 1 * 1024 + 1 * q.val) % 1024
      rw [hi.2]; omega
  · rw [A_eq]
    rfl

end Cert.DvalsArray

end
-- ==== Proof.DvalsClaim.lean ====
/- The gradient of the windows' values: what the reference, the reverse of the windows' cutting, computes, and the claims. -/
module

public import proofs.«01_k».proof.Proof.DkeysClaim
public import proofs.«01_k».proof.Proof.DvalsArray
public import proofs.«01_k».proof.Proof.Gen.DvalsBwd
public import proofs.«01_k».proof.Proof.Gen.DvalsBwd.Frame
public import proofs.«01_k».proof.Proof.Gen.DvalsGradIdeal.Run
public import proofs.«01_k».proof.Proof.Gen.DvalsGradIdeal.Read

@[expose] public section

noncomputable section

namespace Cert.DvalsClaim

open Idealize.ShloMosaic Idealize.SL.Sem Cert.DvalsArray
open Cert.DkeysArray (total)

section Reference

open Cert.DvalsGradIdeal Cert.DvalsGradIdeal.Gen Cert.DvalsGradIdeal.Read

variable (x0 : FVec Ideal S32x768x1024 .f32) (x1 : FVec Ideal S8192x12288 .bf16)

/-- The windows' gradients summed over their overlaps, as for the keys. -/
theorem v21 (r : Fin 8192) (q : Fin 1024) : val_main_v21 (F := Ideal) x0 (ix2 r q) = total x0 r.val q :=
  Cert.DkeysClaim.v21 x0 r q

/-- THE RESULT: columns 4096 to 5119 hold the values' gradient, the others what the last argument holds. -/
theorem v23 (i : S8192x12288.Idx) : val_main_v23 (F := Ideal) x0 x1 i
    = if (i 1).val / 1024 = 4 then total x0 (i 0).val (Fin.ofNat 1024 (i 1).val) else x1 i := by
  have h0 : (i 0).val < 8192 := (i 0).isLt
  have h1 : (i 1).val < 12288 := (i 1).isLt
  unfold val_main_v23
  rcases Nat.lt_or_ge (i 1).val 4096 with hlo | hlo
  · let k : S8192x4096.Idx := ix2 (i 0) (⟨(i 1).val, hlo⟩ : Fin 4096)
    rw [if_neg (by omega), concatenate_apply_piece 1 _ _ i 0 (by simp) S8192x4096 _ rfl rfl 0 rfl k
      (fun b hb => match b with
        | ⟨0, _⟩ => rfl
        | ⟨1, _⟩ => absurd rfl hb) (show 0 + (i 1).val = (i 1).val by omega)]
    rw [val_main_v0_apply]
    exact congrArg x1 (funext fun a => Fin.ext (match a with
      | ⟨0, _⟩ => rfl
      | ⟨1, _⟩ => rfl))
  rcases Nat.lt_or_ge (i 1).val 5120 with hhi | hhi
  · let k : S8192x1024.Idx := ix2 (i 0) (⟨(i 1).val - 4096, by omega⟩ : Fin 1024)
    rw [if_pos (by omega), concatenate_apply_piece 1 _ _ i 1 (by simp) S8192x1024 _ rfl rfl 4096 rfl k
      (fun b hb => match b with
        | ⟨0, _⟩ => rfl
        | ⟨1, _⟩ => absurd rfl hb) (show 4096 + ((i 1).val - 4096) = (i 1).val by omega)]
    refine (v21 x0 (i 0) _).trans (congrArg (total x0 (i 0).val) (Fin.ext ?_))
    show (i 1).val - 4096 = (i 1).val % 1024
    omega
  · let k : S8192x7168.Idx := ix2 (i 0) (⟨(i 1).val - 5120, by omega⟩ : Fin 7168)
    rw [if_neg (by omega), concatenate_apply_piece 1 _ _ i 2 (by simp) S8192x7168 _ rfl rfl 5120 rfl k
      (fun b hb => match b with
        | ⟨0, _⟩ => rfl
        | ⟨1, _⟩ => absurd rfl hb) (show 5120 + ((i 1).val - 5120) = (i 1).val by omega)]
    rw [val_main_v22_apply]
    exact congrArg x1 (funext fun a => Fin.ext (match a with
      | ⟨0, _⟩ => rfl
      | ⟨1, _⟩ => show 5120 + ((i 1).val - 5120) = (i 1).val by omega))

end Reference

/-- The kernel's result is the reference's. -/
theorem algebraic : algebraic_DvalsBwdIdeal_DvalsGradIdeal (hDvalsBwdIdeal := Cert.DvalsBwdIdeal.Gen.facts)
    (hDvalsGradIdeal := Cert.DvalsGradIdeal.Gen.facts) := by
  intro m ρ m' ρ' _ hagree
  refine ⟨fun c => (Cert.DvalsBwdIdeal.Gen.dats m 0 c).arrAt 3 Cert.DvalsBwdIdeal.cfg0.N, Cert.DvalsBwdIdeal.Value.run_blocks m ρ, ?_⟩
  refine (θ_run _ _ _).mono (fun r h c => ?_) (Cert.DvalsGradIdeal.Value.run (F := Ideal) m' ρ')
  obtain ⟨hv, hargs⟩ := h c
  obtain ⟨a0, a1⟩ := hagree c
  refine ⟨hv.trans ?_, hargs⟩
  rw [Cert.DvalsGradIdeal.Read.val_main_v23_eq, a0, a1]
  exact Eq.trans (funext fun y => v23 (arg0 m c) _ y) (array m c).symm

theorem frame_p : quiescent_DvalsBwd (hDvalsBwd := Cert.DvalsBwd.Gen.facts) := fun m ρ _ => Cert.DvalsBwd.Gen.frame m ρ

theorem frame_pi : quiescent_DvalsBwdIdeal (hDvalsBwdIdeal := Cert.DvalsBwdIdeal.Gen.facts) := fun m ρ _ => Cert.DvalsBwdIdeal.Gen.frame m ρ

/-- The reference runs to its end and leaves its arguments; it declares no semaphore. -/
theorem frame_ri : quiescent_DvalsGradIdeal (hDvalsGradIdeal := Cert.DvalsGradIdeal.Gen.facts) := fun m ρ _ =>
  (θ_run _ _ _).mono (fun r h => And.intro (fun c => (h c).2) (sem_eq_zero_of_no_sems (by decide) r.2))
    (Cert.DvalsGradIdeal.Value.run (F := Ideal) m ρ)

end Cert.DvalsClaim

end
-- ==== Proof.FfnBlock.lean ====
/- What one point of the kernel `ffn_act` leaves: a causal convolution of three taps over its rows and the rows before
   them, of a value and of a gate, and the gate's silu times the value. -/
module

public import proofs.«01_k».proof.Proof.Gen.FfnFwdIdeal.Value
public import proofs.«01_k».proof.Proof.Loads
public import Idealize.ShloMosaic.Lib.Tactic
public import Idealize.ShloMosaic.Lib.VecWindow
public import Idealize.ShloMosaic.Lib.Pointwise
public import Idealize.ShloMosaic.Lib.WritesUnit
public import Idealize.ShloMosaic.Lib.Pipeline.ReadBack

@[expose] public section

noncomputable section

namespace Cert.FfnBlock

open Cert.FfnFwdIdeal Cert.FfnFwdIdeal.Gen Idealize.ShloMosaic Idealize.ShloMosaic.Tactic

/-- Rows `x` with the eight rows `T` before them, counted from the first of the eight. -/
def ext {N : ℕ} [NeZero N] {e : FTy} (T : FVec Ideal S8x256 .f32) (x : FVec Ideal ⟨2, ![N, 256]⟩ e) (n : ℕ) (q : Fin 256) : EReal :=
  if n < 8 then T (ix2 (Fin.ofNat 8 n) q) else x (ix2 (Fin.ofNat N (n - 8)) q)

/-- Three taps at a row of an extended array, and the bias. -/
def taps (w0 w1 w2 b : EReal) (E : ℕ → EReal) (n : ℕ) : EReal := w0 * E (n + 6) + w1 * E (n + 7) + w2 * E (n + 8) + b

/-- The gate's silu times the value. -/
def gated (g v : EReal) : EReal := g * Ideal.logistic g * v

theorem mod40 (r s : ℕ) (hr : r < 32) (hs : 1 ≤ s) (hs' : s ≤ 8) : (8 + r + 40 - s) % 40 = r + 8 - s := by
  rw [show 8 + r + 40 - s = 40 + (r + 8 - s) by omega, Nat.add_mod_left, Nat.mod_eq_of_lt (by omega)]

/-- The rows one before a chunk's. -/
theorem rot1 (T : FVec Ideal S8x256 .f32) (v : FVec Ideal S32x256 .f32) (r : Fin 32) (q : Fin 256) :
    extractStridedSlice S32x256 ![8, 0] (dynamicRotate 0 1#32 none (concatenate S40x256 0 [⟨S8x256, T⟩, ⟨S32x256, v⟩] concatenates_S8x256_S32x256_S40x256_d0) rotates_S40x256_d0) slices_S40x256_o8_0_S32x256 (ix2 r q)
      = ext (e := .f32) T v (r.val + 7) q := by
  have hr := r.isLt
  have h := mod40 r.val 1 hr (by omega) (by omega)
  pointwise []
  unfold ext
  by_cases h8 : r.val + 7 < 8
  · rw [dif_pos (by omega), if_pos h8]
    exact congrArg T (congrArg (fun z => ix2 z q) (Fin.ext (by show (8 + r.val + 40 - 1) % 40 = (r.val + 7) % 8; omega)))
  · rw [dif_neg (by omega), if_neg h8]
    exact congrArg v (congrArg (fun z => ix2 z q) (Fin.ext (by show (8 + r.val + 40 - 1) % 40 - 8 = (r.val + 7 - 8) % 32; omega)))

/-- The rows two before. -/
theorem rot2 (T : FVec Ideal S8x256 .f32) (v : FVec Ideal S32x256 .f32) (r : Fin 32) (q : Fin 256) :
    extractStridedSlice S32x256 ![8, 0] (dynamicRotate 0 2#32 none (concatenate S40x256 0 [⟨S8x256, T⟩, ⟨S32x256, v⟩] concatenates_S8x256_S32x256_S40x256_d0) rotates_S40x256_d0) slices_S40x256_o8_0_S32x256 (ix2 r q)
      = ext (e := .f32) T v (r.val + 6) q := by
  have hr := r.isLt
  have h := mod40 r.val 2 hr (by omega) (by omega)
  pointwise []
  unfold ext
  by_cases h8 : r.val + 6 < 8
  · rw [dif_pos (by omega), if_pos h8]
    exact congrArg T (congrArg (fun z => ix2 z q) (Fin.ext (by show (8 + r.val + 40 - 2) % 40 = (r.val + 6) % 8; omega)))
  · rw [dif_neg (by omega), if_neg h8]
    exact congrArg v (congrArg (fun z => ix2 z q) (Fin.ext (by show (8 + r.val + 40 - 2) % 40 - 8 = (r.val + 6 - 8) % 32; omega)))

/-- The chunk's own rows. -/
theorem rot0 {e : FTy} (T : FVec Ideal S8x256 .f32) (v : FVec Ideal S32x256 e) (r : Fin 32) (q : Fin 256) :
    v (ix2 r q) = ext T v (r.val + 8) q := by
  unfold ext
  rw [if_neg (by omega)]
  exact congrArg v (congrArg (fun z => ix2 z q) (Fin.ext (by have := r.isLt; show r.val = (r.val + 8 - 8) % 32; omega)))

/-- What a trip stores: `T` and `S` are the eight rows before its chunk. -/
theorem pay5 (v0 v1 v2 v3 v4 v5 v6 v7 : FVec Ideal S1x256 .f32) (T S : FVec Ideal S8x256 .f32) (v g : FVec Ideal S32x256 .bf16) (r : Fin 32) (q : Fin 256) :
    k0_pay5 (F := Ideal) v0 v1 v2 v3 v4 v5 v6 v7 T S v g (ix2 r q)
      = gated (taps (v4 (ix2 0 q)) (v5 (ix2 0 q)) (v6 (ix2 0 q)) (v7 (ix2 0 q)) (fun n => ext S g n q) r.val)
          (taps (v0 (ix2 0 q)) (v1 (ix2 0 q)) (v2 (ix2 0 q)) (v3 (ix2 0 q)) (fun n => ext T v n q) r.val) := by
  have h1 := rot1 T (k0_pay3 (F := Ideal) v) r q
  have h2 := rot2 T (k0_pay3 (F := Ideal) v) r q
  have h3 := rot1 S (k0_pay4 (F := Ideal) g) r q
  have h4 := rot2 S (k0_pay4 (F := Ideal) g) r q
  unfold k0_pay5
  dsimp only
  generalize extractStridedSlice S32x256 ![8, 0] (dynamicRotate 0 1#32 none (concatenate S40x256 0 [⟨S8x256, T⟩, ⟨S32x256, k0_pay3 (F := Ideal) v⟩] concatenates_S8x256_S32x256_S40x256_d0) rotates_S40x256_d0) slices_S40x256_o8_0_S32x256 = A at h1 ⊢
  generalize extractStridedSlice S32x256 ![8, 0] (dynamicRotate 0 2#32 none (concatenate S40x256 0 [⟨S8x256, T⟩, ⟨S32x256, k0_pay3 (F := Ideal) v⟩] concatenates_S8x256_S32x256_S40x256_d0) rotates_S40x256_d0) slices_S40x256_o8_0_S32x256 = B at h2 ⊢
  generalize extractStridedSlice S32x256 ![8, 0] (dynamicRotate 0 1#32 none (concatenate S40x256 0 [⟨S8x256, S⟩, ⟨S32x256, k0_pay4 (F := Ideal) g⟩] concatenates_S8x256_S32x256_S40x256_d0) rotates_S40x256_d0) slices_S40x256_o8_0_S32x256 = C at h3 ⊢
  generalize extractStridedSlice S32x256 ![8, 0] (dynamicRotate 0 2#32 none (concatenate S40x256 0 [⟨S8x256, S⟩, ⟨S32x256, k0_pay4 (F := Ideal) g⟩] concatenates_S8x256_S32x256_S40x256_d0) rotates_S40x256_d0) slices_S40x256_o8_0_S32x256 = D at h4 ⊢
  pointwise [k0_pay3, k0_pay4]
  rw [h1, h2, h3, h4, rot0 T v, rot0 S g]
  rfl

/-- A chunk's last eight rows. -/
theorem pay6 (v : FVec Ideal S32x256 .bf16) (n : Fin 8) (q : Fin 256) : k0_pay6 (F := Ideal) v (ix2 n q) = v (ix2 (Fin.ofNat 32 (24 + n.val)) q) := by
  pointwise [k0_pay6, k0_pay3]
  exact congrArg v (congrArg (fun z => ix2 z q) (Fin.ext (by have := n.isLt; show 24 + n.val = (24 + n.val) % 32; omega)))

theorem pay7 (v : FVec Ideal S32x256 .bf16) (n : Fin 8) (q : Fin 256) : k0_pay7 (F := Ideal) v (ix2 n q) = v (ix2 (Fin.ofNat 32 (24 + n.val)) q) := by
  pointwise [k0_pay7, k0_pay4]
  exact congrArg v (congrArg (fun z => ix2 z q) (Fin.ext (by have := n.isLt; show 24 + n.val = (24 + n.val) % 32; omega)))

/-- The rows before a block's first, of the sixteen at hand: zeros before the array's first block. -/
def before (i : grid0.Coords) (h : FVec Ideal S16x256 .bf16) (n : ℕ) (q : Fin 256) : EReal :=
  if (i 0).val = 0 then 0 else h (ix2 (Fin.ofNat 16 (8 + n)) q)

theorem sgt0 (i : grid0.Coords) : (Scalar.cmpi .sgt (BitVec.ofNat 32 (i 0).val) 0#32 : BitVec 1) = if (i 0).val = 0 then 0#1 else 1#1 := by
  have h : ∀ n : Fin 8, (Scalar.cmpi .sgt (BitVec.ofNat 32 n.val) 0#32 : BitVec 1) = if n.val = 0 then 0#1 else 1#1 := by decide
  exact h (i 0)

theorem pay1 (i : grid0.Coords) (h : FVec Ideal S16x256 .bf16) (n : Fin 8) (q : Fin 256) : k0_pay1 (F := Ideal) i h (ix2 n q) = before i h n.val q := by
  unfold k0_pay1 before
  dsimp only
  rw [sgt0]
  by_cases h0 : (i 0).val = 0
  · simp only [h0, if_true]
    exact Ideal.ofBits_zero_f32
  · simp only [h0, if_false]
    show extractStridedSlice S8x256 ![8, 0] (extf (F := Ideal) .f32 h bitsLt_bf16_f32) slices_S16x256_o8_0_S8x256 (ix2 n q) = _
    pointwise []
    exact congrArg h (congrArg (fun z => ix2 z q) (Fin.ext (by have := n.isLt; show 8 + n.val = (8 + n.val) % 16; omega)))

theorem pay2 (i : grid0.Coords) (h : FVec Ideal S16x256 .bf16) (n : Fin 8) (q : Fin 256) : k0_pay2 (F := Ideal) i h (ix2 n q) = before i h n.val q :=
  pay1 i h n q

section Loop

variable (c : Dev nD) (i : grid0.Coords) (arg2 : Memref sig .tc .vmem S16x256 .bf16) (harg2 : arg2.IsWhole) (arg3 : Memref sig .tc .vmem S1024x256 .bf16) (harg3 : arg3.IsWhole)
  (arg4 : Memref sig .tc .vmem S16x256 .bf16) (harg4 : arg4.IsWhole) (arg5 : Memref sig .tc .vmem S1024x256 .bf16) (harg5 : arg5.IsWhole) (arg6 : Memref sig .tc .vmem S3x256 .f32) (harg6 : arg6.IsWhole)
  (arg7 : Memref sig .tc .vmem S3x256 .f32) (harg7 : arg7.IsWhole) (arg8 : Memref sig .tc .vmem S1x256 .f32) (harg8 : arg8.IsWhole) (arg9 : Memref sig .tc .vmem S1x256 .f32) (harg9 : arg9.IsWhole)
  (arg10 : Memref sig .tc .vmem S1024x256 .bf16) (harg10 : arg10.IsWhole)
  (v0 v1 v2 v3 v4 v5 v6 v7 : FVec Ideal S1x256 .f32) (h : FVec Ideal S16x256 .bf16) (x : FVec Ideal S1024x256 .bf16) (h' : FVec Ideal S16x256 .bf16) (x' : FVec Ideal S1024x256 .bf16)

/-- Trip `k`'s rows of a block. -/
def chunk (x : FVec Ideal S1024x256 .bf16) (k : ℕ) : FVec Ideal S32x256 .bf16 := fun y => x (ix2 (Fin.ofNat 1024 (32 * k + (y 0).val)) (y 1))

theorem load_chunk (a : Memref sig .tc .vmem S1024x256 .bf16) (ha : a.IsWhole) (x : FVec Ideal S1024x256 .bf16) (k : Fin k0_t1_loop.trips) :
    View.readAt (Elt Ideal) a.view (Rect.unit (s := S1024x256) (k0_off1 k) S32x256.size (k0_off1_inb k)).toLoadRect (ha.unread x) = chunk x k.val := by
  have hk : k.val < 32 := Nat.lt_of_lt_of_le k.isLt k0_t1_abs.2.1
  funext y
  have h0 : (y 0).val < 32 := (y 0).isLt
  have ho0 : k0_off1 k 0 = 32 * k.val := congrFun (k0_off1_eq k) 0
  have ho1 : k0_off1 k 1 = 0 := congrFun (k0_off1_eq k) 1
  refine (ha.readAt_unread (Val := Elt Ideal) x _ _).trans (congrArg x (funext fun a => Fin.ext ?_))
  match a with
  | ⟨0, _⟩ => show k0_off1 k 0 + 1 * (y 0).val = (32 * k.val + (y 0).val) % 1024; omega
  | ⟨1, _⟩ => show k0_off1 k 1 + 1 * (y 1).val = (y 1).val; omega

/-- The loop's state before trip `k`: the carried rows and the stores so far. -/
abbrev state : ℕ → (FVec Ideal S8x256 .f32 × FVec Ideal S8x256 .f32) × List (View.Piece (Elt Ideal) S1024x256 .bf16) :=
  st_k0_t1 (F := Ideal) Variants.none c none i arg2 harg2 arg3 harg3 arg4 harg4 arg5 harg5 arg6 harg6 arg7 harg7 arg8 harg8 arg9 harg9 arg10 harg10
    v0 v1 v2 v3 v4 v5 v6 v7 (harg3.unread x) (harg5.unread x') (k0_pay1 i h, k0_pay2 i h')

/-- A trip carries its chunks' last rows on, and stores its chunk's result. -/
theorem step (k : Fin k0_t1_loop.trips) :
    state c i arg2 harg2 arg3 harg3 arg4 harg4 arg5 harg5 arg6 harg6 arg7 harg7 arg8 harg8 arg9 harg9 arg10 harg10 v0 v1 v2 v3 v4 v5 v6 v7 h x h' x' (k.val + 1)
      = ((k0_pay6 (chunk x k.val), k0_pay7 (chunk x' k.val)),
        (⟨Rect.unit (s := S1024x256) (k0_off1 k) S32x256.size (k0_off1_inb k), k0_pay5 v0 v1 v2 v3 v4 v5 v6 v7
            (state c i arg2 harg2 arg3 harg3 arg4 harg4 arg5 harg5 arg6 harg6 arg7 harg7 arg8 harg8 arg9 harg9 arg10 harg10 v0 v1 v2 v3 v4 v5 v6 v7 h x h' x' k.val).1.1
            (state c i arg2 harg2 arg3 harg3 arg4 harg4 arg5 harg5 arg6 harg6 arg7 harg7 arg8 harg8 arg9 harg9 arg10 harg10 v0 v1 v2 v3 v4 v5 v6 v7 h x h' x' k.val).1.2
            (chunk x k.val) (chunk x' k.val)⟩ : View.Piece (Elt Ideal) S1024x256 .bf16)
          :: (state c i arg2 harg2 arg3 harg3 arg4 harg4 arg5 harg5 arg6 harg6 arg7 harg7 arg8 harg8 arg9 harg9 arg10 harg10 v0 v1 v2 v3 v4 v5 v6 v7 h x h' x' k.val).2) := by
  unfold state
  rw [st_k0_t1_succ]
  unfold tripR_k0_t1 tripL_k0_t1 trip_k0_t1
  sl_unfold_run_names
  have e := load_chunk arg3 harg3 x k
  have e' := load_chunk arg5 harg5 x' k
  dsimp only
  rw [e, e']
  rfl

/-- A block's rows with the eight before them. -/
def bext (i : grid0.Coords) (h : FVec Ideal S16x256 .bf16) (x : FVec Ideal S1024x256 .bf16) (n : ℕ) (q : Fin 256) : EReal :=
  if n < 8 then before i h n q else x (ix2 (Fin.ofNat 1024 (n - 8)) q)

/-- What a block's row `r` comes to. -/
def act (r : ℕ) (q : Fin 256) : EReal :=
  gated (taps (v4 (ix2 0 q)) (v5 (ix2 0 q)) (v6 (ix2 0 q)) (v7 (ix2 0 q)) (fun n => bext i h' x' n q) r)
    (taps (v0 (ix2 0 q)) (v1 (ix2 0 q)) (v2 (ix2 0 q)) (v3 (ix2 0 q)) (fun n => bext i h x n q) r)

/-- A chunk with the rows carried to it is a stretch of the block's. -/
theorem ext_chunk (T : FVec Ideal S8x256 .f32) (k : ℕ) (hk : k < 32) (q : Fin 256) (hT : ∀ n : Fin 8, T (ix2 n q) = bext i h x (32 * k + n.val) q) (n : ℕ) (hn : n < 40) :
    ext T (chunk x k) n q = bext i h x (32 * k + n) q := by
  unfold ext
  by_cases h8 : n < 8
  · rw [if_pos h8, hT]
    exact congrArg (fun z => bext i h x z q) (by show 32 * k + n % 8 = 32 * k + n; omega)
  · rw [if_neg h8]
    unfold bext chunk
    rw [if_neg (by omega)]
    exact congrArg x (congrArg (fun z => ix2 z q) (Fin.ext (by show (32 * k + (n - 8) % 32) % 1024 = (32 * k + n - 8) % 1024; omega)))

theorem last_chunk (k : ℕ) (hk : k < 32) (n : Fin 8) (q : Fin 256) : chunk x k (ix2 (Fin.ofNat 32 (24 + n.val)) q) = bext i h x (32 * (k + 1) + n.val) q := by
  have hn := n.isLt
  unfold bext chunk
  rw [if_neg (by omega)]
  exact congrArg x (congrArg (fun z => ix2 z q) (Fin.ext (by show (32 * k + (24 + n.val) % 32) % 1024 = (32 * (k + 1) + n.val - 8) % 1024; omega)))

/-- Taps read three rows alone. -/
theorem taps_congr (w0 w1 w2 b : EReal) (E E' : ℕ → EReal) (n n' : ℕ) (h0 : E (n + 6) = E' (n' + 6)) (h1 : E (n + 7) = E' (n' + 7)) (h2 : E (n + 8) = E' (n' + 8)) :
    taps w0 w1 w2 b E n = taps w0 w1 w2 b E' n' := by
  unfold taps
  rw [h0, h1, h2]

/-- Before trip `k` the loop carries the eight rows before its chunk, and has stored every row before it. -/
theorem inv (k : ℕ) (hk : k ≤ 32) :
    (∀ (n : Fin 8) (q : Fin 256),
      (state c i arg2 harg2 arg3 harg3 arg4 harg4 arg5 harg5 arg6 harg6 arg7 harg7 arg8 harg8 arg9 harg9 arg10 harg10 v0 v1 v2 v3 v4 v5 v6 v7 h x h' x' k).1.1 (ix2 n q) = bext i h x (32 * k + n.val) q
      ∧ (state c i arg2 harg2 arg3 harg3 arg4 harg4 arg5 harg5 arg6 harg6 arg7 harg7 arg8 harg8 arg9 harg9 arg10 harg10 v0 v1 v2 v3 v4 v5 v6 v7 h x h' x' k).1.2 (ix2 n q) = bext i h' x' (32 * k + n.val) q)
    ∧ ∀ (r : Fin 1024) (q : Fin 256), r.val < 32 * k →
      VO0_8.read (Elt Ideal) (VO0_8.writes (Elt Ideal) VO0_8.junk
        (state c i arg2 harg2 arg3 harg3 arg4 harg4 arg5 harg5 arg6 harg6 arg7 harg7 arg8 harg8 arg9 harg9 arg10 harg10 v0 v1 v2 v3 v4 v5 v6 v7 h x h' x' k).2) (ix2 r q)
        = act i v0 v1 v2 v3 v4 v5 v6 v7 h x h' x' r.val q := by
  induction k with
  | zero =>
    refine ⟨fun n q => ?_, fun r q hr => absurd hr (by omega)⟩
    have hn : 32 * 0 + n.val < 8 := by have := n.isLt; omega
    unfold bext
    rw [if_pos hn, if_pos hn, show 32 * 0 + n.val = n.val by omega]
    exact ⟨pay1 i h n q, pay2 i h' n q⟩
  | succ k ih =>
    obtain ⟨hT, hR⟩ := ih (by omega)
    have ht : k < k0_t1_loop.trips := lt_of_lt_of_eq (by omega : k < 32) (by decide +kernel : 32 = k0_t1_loop.trips)
    rw [step c i arg2 harg2 arg3 harg3 arg4 harg4 arg5 harg5 arg6 harg6 arg7 harg7 arg8 harg8 arg9 harg9 arg10 harg10 v0 v1 v2 v3 v4 v5 v6 v7 h x h' x' ⟨k, ht⟩]
    refine ⟨fun n q => ⟨(pay6 _ n q).trans (last_chunk i h x k (by omega) n q), (pay7 _ n q).trans (last_chunk i h' x' k (by omega) n q)⟩, fun r q hr => ?_⟩
    by_cases hlt : r.val < 32 * k
    · exact (View.read_writes_cons_rows_of_not_mem (Val := Elt Ideal) VO0_8 VO0_8.junk (o := 32 * k) (W := 32) (k0_off1_inb ⟨k, ht⟩) _ _ (ix2 r q) (k0_off1_eq ⟨k, ht⟩) rfl
        (Or.inl hlt)).trans (hR r q hlt)
    · refine (View.read_writes_cons_rows_of_mem (Val := Elt Ideal) VO0_8 VO0_8.junk (o := 32 * k) (k0_off1_inb ⟨k, ht⟩) _ _ (ix2 r q)
        (ix2 (⟨r.val - 32 * k, by omega⟩ : Fin 32) q) (k0_off1_eq ⟨k, ht⟩) (by show r.val = 32 * k + (r.val - 32 * k); omega) rfl).trans ?_
      refine (pay5 ..).trans ?_
      have e := ext_chunk i h x _ k (by omega) q (fun n => (hT n q).1)
      have e' := ext_chunk i h' x' _ k (by omega) q (fun n => (hT n q).2)
      have a : ∀ m, 32 * k + (r.val - 32 * k + m) = r.val + m := fun m => by omega
      refine congr (congrArg gated (taps_congr _ _ _ _ _ _ _ _ ?_ ?_ ?_)) (taps_congr _ _ _ _ _ _ _ _ ?_ ?_ ?_)
      · exact (e' _ (by show r.val - 32 * k + 6 < 40; omega)).trans (congrArg (fun z => bext i h' x' z q) (a 6))
      · exact (e' _ (by show r.val - 32 * k + 7 < 40; omega)).trans (congrArg (fun z => bext i h' x' z q) (a 7))
      · exact (e' _ (by show r.val - 32 * k + 8 < 40; omega)).trans (congrArg (fun z => bext i h' x' z q) (a 8))
      · exact (e _ (by show r.val - 32 * k + 6 < 40; omega)).trans (congrArg (fun z => bext i h x z q) (a 6))
      · exact (e _ (by show r.val - 32 * k + 7 < 40; omega)).trans (congrArg (fun z => bext i h x z q) (a 7))
      · exact (e _ (by show r.val - 32 * k + 8 < 40; omega)).trans (congrArg (fun z => bext i h x z q) (a 8))

/-- A row of a memref of taps, loaded. -/
theorem load_tap (a : Memref sig .tc .vmem S3x256 .f32) (ha : a.IsWhole) (w : FVec Ideal S3x256 .f32) (k : Fin 3) (o : ℕ) (hk : k.val = o) (inb) (q : Fin 256) :
    View.readAt (Elt Ideal) a.view (Rect.unit (s := S3x256) ![o, 0] ![1, 256] inb).toLoadRect (ha.unread w) (ix2 0 q) = w (ix2 k q) := by
  refine (ha.readAt_unread (Val := Elt Ideal) w _ _).trans (congrArg w (funext fun a => Fin.ext ?_))
  match a with
  | ⟨0, _⟩ => show o + 1 * 0 = k.val; omega
  | ⟨1, _⟩ => show 0 + 1 * q.val = q.val; omega

theorem load_all {e : EltTy} {n N : ℕ} (a : Memref sig .tc .vmem ⟨2, ![n, N]⟩ e) (ha : a.IsWhole) (x : Vec Ideal ⟨2, ![n, N]⟩ e) (inb) :
    View.readAt (Elt Ideal) a.view (Rect.unit (s := ⟨2, ![n, N]⟩) ![0, 0] ![n, N] inb).toLoadRect (ha.unread x) = x := by
  funext y
  obtain ⟨r, d, rfl⟩ : ∃ (r : Fin n) (d : Fin N), y = ix2 r d := ⟨y 0, y 1, eq_ix2 y⟩
  exact Cert.Loads.all a ha x inb r d

variable (w w' : FVec Ideal S3x256 .f32) (b b' : FVec Ideal S1x256 .f32)

/-- THE BLOCK: every row is the gate's silu times the value, both convolved. -/
theorem out (r : Fin 1024) (q : Fin 256) :
    out0_A_8 (F := Ideal) c i arg2 harg2 arg3 harg3 arg4 harg4 arg5 harg5 arg6 harg6 arg7 harg7 arg8 harg8 arg9 harg9 arg10 harg10 h x h' x' w w' b b' (ix2 r q)
      = gated (taps (w' (ix2 0 q)) (w' (ix2 1 q)) (w' (ix2 2 q)) (b' (ix2 0 q)) (fun n => bext i h' x' n q) r.val)
          (taps (w (ix2 0 q)) (w (ix2 1 q)) (w (ix2 2 q)) (b (ix2 0 q)) (fun n => bext i h x n q) r.val) := by
  unfold out0_A_8 kernelRun0_A
  dsimp only
  sl_unfold_run_names
  rw [load_all arg2 harg2, load_all arg4 harg4, load_all arg8 harg8, load_all arg9 harg9]
  have ht : Scf.trips (0#32) (Scalar.addi 0#32 32#32) 1#32 = 32 := by decide +kernel
  rw [ht]
  refine ((inv c i arg2 harg2 arg3 harg3 arg4 harg4 arg5 harg5 arg6 harg6 arg7 harg7 arg8 harg8 arg9 harg9 arg10 harg10 _ _ _ _ _ _ _ _ h x h' x' 32 le_rfl).2 r q
    (by have := r.isLt; omega)).trans ?_
  unfold act
  rw [load_tap arg6 harg6 w 0 0 rfl, load_tap arg6 harg6 w 1 1 rfl, load_tap arg6 harg6 w 2 2 rfl, load_tap arg7 harg7 w' 0 0 rfl, load_tap arg7 harg7 w' 1 1 rfl, load_tap arg7 harg7 w' 2 2 rfl]

end Loop

end Cert.FfnBlock

end
-- ==== Proof.FfnArray.lean ====
/- The array the kernel `ffn_act` leaves: the gate's silu times the value, both convolved over the rows. -/
module

public import proofs.«01_k».proof.Proof.FfnBlock
public import Idealize.ShloMosaic.Lib.Pipeline.ValueKit

@[expose] public section

noncomputable section

namespace Cert.FfnArray

open Cert.FfnFwdIdeal Cert.FfnFwdIdeal.Gen Idealize.ShloMosaic Idealize.ShloMosaic.TcCoe Cert.FfnBlock
open Idealize.ShloMosaic.Pipeline (Dat)

/-- Column `q` of the value (`s = 0`) or of the gate (`s = 1`). -/
def half (s : ℕ) (q : Fin 5632) : Fin 11264 := Fin.ofNat 11264 (5632 * s + q.val)

/-- The array's rows with eight rows of zeros before them. -/
def rows (u : FVec Ideal S8192x11264 .bf16) (q : Fin 11264) (n : ℕ) : EReal := if n < 8 then 0 else u (ix2 (Fin.ofNat 8192 (n - 8)) q)

/-- The convolution at row `r`. -/
def conv (u : FVec Ideal S8192x11264 .bf16) (w : FVec Ideal S3x11264 .f32) (b : FVec Ideal S1x11264 .f32) (r : ℕ) (q : Fin 11264) : EReal :=
  taps (w (ix2 0 q)) (w (ix2 1 q)) (w (ix2 2 q)) (b (ix2 0 q)) (rows u q) r

/-- The result at an entry. -/
def total (u : FVec Ideal S8192x11264 .bf16) (w : FVec Ideal S3x11264 .f32) (b : FVec Ideal S1x11264 .f32) (r : Fin 8192) (q : Fin 5632) : EReal :=
  gated (conv u w b r.val (half 1 q)) (conv u w b r.val (half 0 q))

variable (m : (ℓ : Loc nD τ sig) → Buf (Elt Ideal) ℓ) (c : Dev nD)

/-- The rows, their taps and their bias. -/
abbrev arg0 : FVec Ideal S8192x11264 .bf16 := m ((c : Thread nD τ).loc main_arg0)
abbrev arg1 : FVec Ideal S3x11264 .f32 := m ((c : Thread nD τ).loc main_arg1)
abbrev arg2 : FVec Ideal S1x11264 .f32 := m ((c : Thread nD τ).loc main_arg2)

theorem coord0 : ∀ t : Fin cfg0.N, (grid0.coords t 0).val = t.val / 22 := by
  show ∀ t : Fin grid0.N, _; decide +kernel

theorem index0 : ∀ t : Fin cfg0.N, win0_0.index t 0 = 64 * (t.val / 22) - 1 ∧ win0_0.index t 1 = t.val % 22 := by
  show ∀ t : Fin grid0.N, _; decide +kernel
theorem index1 : ∀ t : Fin cfg0.N, win0_1.index t 0 = t.val / 22 ∧ win0_1.index t 1 = t.val % 22 := by
  show ∀ t : Fin grid0.N, _; decide +kernel
theorem index2 : ∀ t : Fin cfg0.N, win0_2.index t 0 = 64 * (t.val / 22) - 1 ∧ win0_2.index t 1 = 22 + t.val % 22 := by
  show ∀ t : Fin grid0.N, _; decide +kernel
theorem index3 : ∀ t : Fin cfg0.N, win0_3.index t 0 = t.val / 22 ∧ win0_3.index t 1 = 22 + t.val % 22 := by
  show ∀ t : Fin grid0.N, _; decide +kernel
theorem index4 : ∀ t : Fin cfg0.N, win0_4.index t 0 = 0 ∧ win0_4.index t 1 = t.val % 22 := by
  show ∀ t : Fin grid0.N, _; decide +kernel
theorem index5 : ∀ t : Fin cfg0.N, win0_5.index t 0 = 0 ∧ win0_5.index t 1 = 22 + t.val % 22 := by
  show ∀ t : Fin grid0.N, _; decide +kernel
theorem index6 : ∀ t : Fin cfg0.N, win0_6.index t 0 = 0 ∧ win0_6.index t 1 = t.val % 22 := by
  show ∀ t : Fin grid0.N, _; decide +kernel
theorem index7 : ∀ t : Fin cfg0.N, win0_7.index t 0 = 0 ∧ win0_7.index t 1 = 22 + t.val % 22 := by
  show ∀ t : Fin grid0.N, _; decide +kernel
theorem index8 : ∀ t : Fin cfg0.N, win0_8.index t 0 = t.val / 22 ∧ win0_8.index t 1 = t.val % 22 := by
  show ∀ t : Fin grid0.N, _; decide +kernel

theorem lt_pts (t : Fin cfg0.N) : t.val < 176 := lt_of_lt_of_eq t.isLt (show cfg0.N = 176 from N_0)

/-- Column `j` of point `t`'s block. -/
def colOf (t : ℕ) (j : Fin 256) : Fin 5632 := Fin.ofNat 5632 (256 * (t % 22) + j.val)

theorem iblk0 (t : Fin cfg0.N) (h : t.val / 22 ≠ 0) (i : Fin 16) (j : Fin 256) :
    iblk m c 0 t (ix2 i j) = arg0 m c (ix2 (Fin.ofNat 8192 (1024 * (t.val / 22) - 16 + i.val)) (half 0 (colOf t.val j))) := by
  have hi := index0 t
  have ht := lt_pts t
  refine (congrFun (V_main_arg0 m c) _).trans (congrArg (m _) (funext fun a => Fin.ext ?_))
  have h1 := i.isLt
  have h2 := j.isLt
  match a with
  | ⟨0, _⟩ => show win0_0.index t 0 * 16 + 1 * i.val = (1024 * (t.val / 22) - 16 + i.val) % 8192; rw [hi.1]; omega
  | ⟨1, _⟩ => show win0_0.index t 1 * 256 + 1 * j.val = (5632 * 0 + (256 * (t.val % 22) + j.val) % 5632) % 11264; rw [hi.2]; omega

theorem iblk1 (t : Fin cfg0.N) (i : Fin 1024) (j : Fin 256) :
    iblk m c 1 t (ix2 i j) = arg0 m c (ix2 (Fin.ofNat 8192 (1024 * (t.val / 22) + i.val)) (half 0 (colOf t.val j))) := by
  have hi := index1 t
  have ht := lt_pts t
  refine (congrFun (V_main_arg0 m c) _).trans (congrArg (m _) (funext fun a => Fin.ext ?_))
  have h1 := i.isLt
  have h2 := j.isLt
  match a with
  | ⟨0, _⟩ => show win0_1.index t 0 * 1024 + 1 * i.val = (1024 * (t.val / 22) + i.val) % 8192; rw [hi.1]; omega
  | ⟨1, _⟩ => show win0_1.index t 1 * 256 + 1 * j.val = (5632 * 0 + (256 * (t.val % 22) + j.val) % 5632) % 11264; rw [hi.2]; omega

theorem iblk2 (t : Fin cfg0.N) (h : t.val / 22 ≠ 0) (i : Fin 16) (j : Fin 256) :
    iblk m c 2 t (ix2 i j) = arg0 m c (ix2 (Fin.ofNat 8192 (1024 * (t.val / 22) - 16 + i.val)) (half 1 (colOf t.val j))) := by
  have hi := index2 t
  have ht := lt_pts t
  refine (congrFun (V_main_arg0 m c) _).trans (congrArg (m _) (funext fun a => Fin.ext ?_))
  have h1 := i.isLt
  have h2 := j.isLt
  match a with
  | ⟨0, _⟩ => show win0_2.index t 0 * 16 + 1 * i.val = (1024 * (t.val / 22) - 16 + i.val) % 8192; rw [hi.1]; omega
  | ⟨1, _⟩ => show win0_2.index t 1 * 256 + 1 * j.val = (5632 * 1 + (256 * (t.val % 22) + j.val) % 5632) % 11264; rw [hi.2]; omega

theorem iblk3 (t : Fin cfg0.N) (i : Fin 1024) (j : Fin 256) :
    iblk m c 3 t (ix2 i j) = arg0 m c (ix2 (Fin.ofNat 8192 (1024 * (t.val / 22) + i.val)) (half 1 (colOf t.val j))) := by
  have hi := index3 t
  have ht := lt_pts t
  refine (congrFun (V_main_arg0 m c) _).trans (congrArg (m _) (funext fun a => Fin.ext ?_))
  have h1 := i.isLt
  have h2 := j.isLt
  match a with
  | ⟨0, _⟩ => show win0_3.index t 0 * 1024 + 1 * i.val = (1024 * (t.val / 22) + i.val) % 8192; rw [hi.1]; omega
  | ⟨1, _⟩ => show win0_3.index t 1 * 256 + 1 * j.val = (5632 * 1 + (256 * (t.val % 22) + j.val) % 5632) % 11264; rw [hi.2]; omega

theorem iblk4 (t : Fin cfg0.N) (i : Fin 3) (j : Fin 256) : iblk m c 4 t (ix2 i j) = arg1 m c (ix2 i (half 0 (colOf t.val j))) := by
  have hi := index4 t
  have ht := lt_pts t
  refine (congrFun (V_main_arg1 m c) _).trans (congrArg (m _) (funext fun a => Fin.ext ?_))
  have h2 := j.isLt
  match a with
  | ⟨0, _⟩ => show win0_4.index t 0 * 3 + 1 * i.val = i.val; rw [hi.1]; omega
  | ⟨1, _⟩ => show win0_4.index t 1 * 256 + 1 * j.val = (5632 * 0 + (256 * (t.val % 22) + j.val) % 5632) % 11264; rw [hi.2]; omega

theorem iblk5 (t : Fin cfg0.N) (i : Fin 3) (j : Fin 256) : iblk m c 5 t (ix2 i j) = arg1 m c (ix2 i (half 1 (colOf t.val j))) := by
  have hi := index5 t
  have ht := lt_pts t
  refine (congrFun (V_main_arg1 m c) _).trans (congrArg (m _) (funext fun a => Fin.ext ?_))
  have h2 := j.isLt
  match a with
  | ⟨0, _⟩ => show win0_5.index t 0 * 3 + 1 * i.val = i.val; rw [hi.1]; omega
  | ⟨1, _⟩ => show win0_5.index t 1 * 256 + 1 * j.val = (5632 * 1 + (256 * (t.val % 22) + j.val) % 5632) % 11264; rw [hi.2]; omega

theorem iblk6 (t : Fin cfg0.N) (j : Fin 256) : iblk m c 6 t (ix2 0 j) = arg2 m c (ix2 0 (half 0 (colOf t.val j))) := by
  have hi := index6 t
  have ht := lt_pts t
  refine (congrFun (V_main_arg2 m c) _).trans (congrArg (m _) (funext fun a => Fin.ext ?_))
  have h2 := j.isLt
  match a with
  | ⟨0, _⟩ => show win0_6.index t 0 * 1 + 1 * 0 = 0; rw [hi.1]
  | ⟨1, _⟩ => show win0_6.index t 1 * 256 + 1 * j.val = (5632 * 0 + (256 * (t.val % 22) + j.val) % 5632) % 11264; rw [hi.2]; omega

theorem iblk7 (t : Fin cfg0.N) (j : Fin 256) : iblk m c 7 t (ix2 0 j) = arg2 m c (ix2 0 (half 1 (colOf t.val j))) := by
  have hi := index7 t
  have ht := lt_pts t
  refine (congrFun (V_main_arg2 m c) _).trans (congrArg (m _) (funext fun a => Fin.ext ?_))
  have h2 := j.isLt
  match a with
  | ⟨0, _⟩ => show win0_7.index t 0 * 1 + 1 * 0 = 0; rw [hi.1]
  | ⟨1, _⟩ => show win0_7.index t 1 * 256 + 1 * j.val = (5632 * 1 + (256 * (t.val % 22) + j.val) % 5632) % 11264; rw [hi.2]; omega

/-- A block's rows with the eight before them are the array's. -/
theorem bext_rows (u : FVec Ideal S8192x11264 .bf16) (t : Fin cfg0.N) (q : Fin 256) (Q : Fin 11264) (h : FVec Ideal S16x256 .bf16) (x : FVec Ideal S1024x256 .bf16)
    (hh : t.val / 22 ≠ 0 → ∀ i : Fin 16, h (ix2 i q) = u (ix2 (Fin.ofNat 8192 (1024 * (t.val / 22) - 16 + i.val)) Q))
    (hx : ∀ i : Fin 1024, x (ix2 i q) = u (ix2 (Fin.ofNat 8192 (1024 * (t.val / 22) + i.val)) Q)) (n : ℕ) (hn : n < 1032) :
    bext (grid0.coords t) h x n q = rows u Q (1024 * (t.val / 22) + n) := by
  have ht := lt_pts t
  have h0 := coord0 t
  unfold bext before rows
  rw [h0]
  by_cases h8 : n < 8
  · rw [if_pos h8]
    by_cases hz : t.val / 22 = 0
    · rw [if_pos hz, if_pos (by omega)]
    · rw [if_neg hz, if_neg (by omega), hh hz]
      exact congrArg u (congrArg (fun z => ix2 z Q) (Fin.ext (by
        show (1024 * (t.val / 22) - 16 + (8 + n) % 16) % 8192 = (1024 * (t.val / 22) + n - 8) % 8192; omega)))
  · rw [if_neg h8, if_neg (by omega), hx]
    exact congrArg u (congrArg (fun z => ix2 z Q) (Fin.ext (by
      show (1024 * (t.val / 22) + (n - 8) % 1024) % 8192 = (1024 * (t.val / 22) + n - 8) % 8192; omega)))

/-- A block's convolution is the array's. -/
theorem taps_rows (u : FVec Ideal S8192x11264 .bf16) (t : Fin cfg0.N) (q : Fin 256) (Q : Fin 11264) (h : FVec Ideal S16x256 .bf16) (x : FVec Ideal S1024x256 .bf16)
    (hh : t.val / 22 ≠ 0 → ∀ i : Fin 16, h (ix2 i q) = u (ix2 (Fin.ofNat 8192 (1024 * (t.val / 22) - 16 + i.val)) Q))
    (hx : ∀ i : Fin 1024, x (ix2 i q) = u (ix2 (Fin.ofNat 8192 (1024 * (t.val / 22) + i.val)) Q)) (w0 w1 w2 b : EReal) (r : Fin 1024) :
    taps w0 w1 w2 b (fun n => bext (grid0.coords t) h x n q) r.val = taps w0 w1 w2 b (rows u Q) (1024 * (t.val / 22) + r.val) := by
  have hr := r.isLt
  have e := bext_rows u t q Q h x hh hx
  exact taps_congr _ _ _ _ _ _ _ _ (e _ (by omega)) (e _ (by omega)) (e _ (by omega))

/-- THE RESULT: every entry is the gate's silu times the value. -/
theorem array : (dats m 0 c).arrAt 8 cfg0.N = fun y : S8192x5632.Idx => total (arg0 m c) (arg1 m c) (arg2 m c) (y 0) (y 1) := by
  refine (dats m 0 c).arrAt_eq_of_covers 8 _ (by decide +kernel) fun t hf y => ?_
  show (dats m 0 c).after 8 t y = _
  have hi := index8 t
  have ht := lt_pts t
  obtain ⟨i, j, rfl⟩ : ∃ (i : Fin 1024) (j : Fin 256), y = ix2 i j := ⟨y 0, y 1, eq_ix2 y⟩
  rw [after0_8]
  unfold outsAt0
  rw [out, iblk4, iblk4, iblk4, iblk5, iblk5, iblk5, iblk6, iblk7,
    taps_rows (arg0 m c) t j (half 1 (colOf t.val j)) (iblk m c 2 t) (iblk m c 3 t) (fun h i => iblk2 m c t h i j) (fun i => iblk3 m c t i j),
    taps_rows (arg0 m c) t j (half 0 (colOf t.val j)) (iblk m c 0 t) (iblk m c 1 t) (fun h i => iblk0 m c t h i j) (fun i => iblk1 m c t i j)]
  have h1 := i.isLt
  have h2 := j.isLt
  have e : ∀ (R : Fin 8192) (Q : Fin 5632), R.val = 1024 * (t.val / 22) + i.val → Q = colOf t.val j →
      gated (conv (arg0 m c) (arg1 m c) (arg2 m c) (1024 * (t.val / 22) + i.val) (half 1 (colOf t.val j))) (conv (arg0 m c) (arg1 m c) (arg2 m c) (1024 * (t.val / 22) + i.val) (half 0 (colOf t.val j)))
        = total (arg0 m c) (arg1 m c) (arg2 m c) R Q := fun R Q hR hQ => by
    unfold total
    rw [hR, hQ]
  refine e _ _ ?_ (Fin.ext ?_)
  · show win0_8.index t 0 * 1024 + 1 * i.val = 1024 * (t.val / 22) + i.val
    rw [hi.1]; omega
  · show win0_8.index t 1 * 256 + 1 * j.val = (256 * (t.val % 22) + j.val) % 5632
    rw [hi.2]; omega

end Cert.FfnArray

end
-- ==== Proof.FfnClaim.lean ====
/- The kernel `ffn_act`: what its reference computes, at an index, and the claims. -/
module

public import proofs.«01_k».proof.Defs
public import proofs.«01_k».proof.Proof.FfnArray
public import proofs.«01_k».proof.Proof.Gen.FfnFwd
public import proofs.«01_k».proof.Proof.Gen.FfnFwd.Frame
public import proofs.«01_k».proof.Proof.Gen.FfnRefIdeal.Run
public import proofs.«01_k».proof.Proof.Gen.FfnRefIdeal.Read
public import Idealize.ShloMosaic.Lib.KernelVsHost
public import Idealize.ShloMosaic.Lib.IdealHost

@[expose] public section

noncomputable section

namespace Cert.FfnClaim

open Idealize.ShloMosaic Idealize.SL.Sem Cert.FfnBlock Cert.FfnArray

section Reference

open Cert.FfnRefIdeal Cert.FfnRefIdeal.Gen Cert.FfnRefIdeal.Read

variable (x0 : FVec Ideal S8192x11264 .bf16) (x1 : FVec Ideal S3x11264 .f32) (x2 : FVec Ideal S1x11264 .f32)

theorem one : Ideal.ofBits .f32 0x3F800000#32 = 1 := by
  simp [Ideal.ofBits, Ideal.ieee]; rw [← EReal.coe_mul]; norm_num

/-- The padded rows: two rows of zeros before the array's. -/
theorem v2 (i : S8194x11264.Idx) : val_main_v2 (F := Ideal) x0 i = rows x0 (i 1) ((i 0).val + 6) := by
  have h0 : (i 0).val < 8194 := (i 0).isLt
  unfold val_main_v2 rows
  by_cases h : (i 0).val + 6 < 8
  · rw [if_pos h]
    refine (pad_apply_of_not_inside _ _ _ _ _ _ _ _ 0 (fun hc => ?_)).trans ?_
    · have : 2 ≤ (i 0).val := hc.1
      omega
    · show ((((0#32 : BitVec 32).toInt : ℝ)) : EReal) = 0
      simp
  · rw [if_neg h]
    refine (pad_apply_of_inside _ _ _ _ _ _ _ _ (ix2 (Fin.ofNat 8192 ((i 0).val + 6 - 8)) (i 1)) (fun a => ?_)).trans rfl
    match a with
    | ⟨0, _⟩ => show (i 0).val = 2 + ((i 0).val + 6 - 8) % 8192 * (0 + 1); omega
    | ⟨1, _⟩ => show (i 1).val = 0 + (i 1).val * (0 + 1); omega

/-- A tap's row, spread over the rows. -/
theorem v7 (i : S8192x11264.Idx) : val_main_v7 (F := Ideal) x1 i = x1 (ix2 0 (i 1)) := by
  rw [val_main_v7_apply, val_main_v6_apply, val_main_v5_apply, val_main_v4_apply]
  refine congrArg x1 (funext fun a => Fin.ext ?_)
  match a with
  | ⟨0, _⟩ => rfl
  | ⟨1, _⟩ => show (i 1).val % 11264 = (i 1).val; exact Nat.mod_eq_of_lt (i 1).isLt

theorem v15 (i : S8192x11264.Idx) : val_main_v15 (F := Ideal) x1 i = x1 (ix2 1 (i 1)) := by
  rw [val_main_v15_apply, val_main_v14_apply, val_main_v13_apply, val_main_v12_apply]
  refine congrArg x1 (funext fun a => Fin.ext ?_)
  match a with
  | ⟨0, _⟩ => rfl
  | ⟨1, _⟩ => show (i 1).val % 11264 = (i 1).val; exact Nat.mod_eq_of_lt (i 1).isLt

theorem v22 (i : S8192x11264.Idx) : val_main_v22 (F := Ideal) x1 i = x1 (ix2 2 (i 1)) := by
  rw [val_main_v22_apply, val_main_v21_apply, val_main_v20_apply, val_main_v19_apply]
  refine congrArg x1 (funext fun a => Fin.ext ?_)
  match a with
  | ⟨0, _⟩ => rfl
  | ⟨1, _⟩ => show (i 1).val % 11264 = (i 1).val; exact Nat.mod_eq_of_lt (i 1).isLt

theorem v26 (i : S8192x11264.Idx) : val_main_v26 (F := Ideal) x2 i = x2 (ix2 0 (i 1)) := by
  rw [val_main_v26_apply, val_main_v25_apply, val_main_v1_apply]
  refine congrArg x2 (funext fun a => Fin.ext ?_)
  match a with
  | ⟨0, _⟩ => rfl
  | ⟨1, _⟩ => show (i 1).val % 11264 = (i 1).val; exact Nat.mod_eq_of_lt (i 1).isLt

theorem v3 (i : S8192x11264.Idx) : val_main_v3 (F := Ideal) x0 i = rows x0 (i 1) ((i 0).val + 6) := by
  rw [val_main_v3_apply, v2]
  rfl

theorem v11 (i : S8192x11264.Idx) : val_main_v11 (F := Ideal) x0 i = rows x0 (i 1) ((i 0).val + 7) := by
  rw [val_main_v11_apply, v2]
  exact congrArg (rows x0 (i 1)) (by show 1 + (i 0).val + 6 = (i 0).val + 7; omega)

theorem v18 (i : S8192x11264.Idx) : val_main_v18 (F := Ideal) x0 i = rows x0 (i 1) ((i 0).val + 8) := by
  rw [val_main_v18_apply, v2]
  exact congrArg (rows x0 (i 1)) (by show 2 + (i 0).val + 6 = (i 0).val + 8; omega)

/-- The convolution. -/
theorem v27 (i : S8192x11264.Idx) : val_main_v27 (F := Ideal) x0 x1 x2 i = conv x0 x1 x2 (i 0).val (i 1) := by
  rw [val_main_v27_apply, val_main_v24_apply, val_main_v17_apply, val_main_v10_apply, val_main_v9_apply, val_main_cst_apply, val_main_v8_apply,
    val_main_v16_apply, val_main_v23_apply, v3, v7, v11, v15, v18, v22, v26]
  show Ideal.ofBits .f32 0x00000000#32 + rows x0 (i 1) ((i 0).val + 6) * x1 (ix2 0 (i 1)) + rows x0 (i 1) ((i 0).val + 7) * x1 (ix2 1 (i 1))
    + rows x0 (i 1) ((i 0).val + 8) * x1 (ix2 2 (i 1)) + x2 (ix2 0 (i 1)) = _
  unfold conv taps
  rw [Ideal.ofBits_zero_f32, zero_add, mul_comm (x1 (ix2 0 (i 1))), mul_comm (x1 (ix2 1 (i 1))), mul_comm (x1 (ix2 2 (i 1)))]

theorem v28 (r : Fin 8192) (q : Fin 5632) : val_main_v28 (F := Ideal) x0 x1 x2 (ix2 r q) = conv x0 x1 x2 r.val (half 0 q) := by
  rw [val_main_v28_apply, v27]
  refine congrArg (conv x0 x1 x2 r.val) (Fin.ext ?_)
  have hq := q.isLt
  show q.val = (5632 * 0 + q.val) % 11264
  omega

theorem v29 (r : Fin 8192) (q : Fin 5632) : val_main_v29 (F := Ideal) x0 x1 x2 (ix2 r q) = conv x0 x1 x2 r.val (half 1 q) := by
  rw [val_main_v29_apply, v27]
  refine congrArg (conv x0 x1 x2 r.val) (Fin.ext ?_)
  have hq := q.isLt
  show 5632 + q.val = (5632 * 1 + q.val) % 11264
  omega

/-- The gate's silu. -/
theorem v30 (i : S8192x5632.Idx) :
    val_main_v30 (F := Ideal) x0 x1 x2 i = val_main_v29 (F := Ideal) x0 x1 x2 i * Ideal.logistic (val_main_v29 (F := Ideal) x0 x1 x2 i) := by
  rw [val_main_v30_apply, val_main_call1_v5_apply, val_main_call1_v4_apply, val_main_call1_cst_0_apply, val_main_call1_v3_apply, val_main_call1_v2_apply, val_main_call1_cst_apply,
    val_main_call1_v1_apply, val_main_call1_v0_apply]
  show _ * Ideal.div (Ideal.ofBits .f32 0x3F800000#32) (Ideal.ofBits .f32 0x3F800000#32 + _) = _
  rw [one]
  rfl

theorem v32 (i : S8192x5632.Idx) : val_main_v32 (F := Ideal) x0 x1 x2 i = total x0 x1 x2 (i 0) (i 1) := by
  obtain ⟨r, q, rfl⟩ : ∃ (r : Fin 8192) (q : Fin 5632), i = ix2 r q := ⟨i 0, i 1, eq_ix2 i⟩
  rw [val_main_v32_apply, val_main_v31_apply, v30, v28, v29]
  rfl

end Reference

/-- The kernel's result is the reference's. -/
theorem algebraic : algebraic_FfnFwdIdeal_FfnRefIdeal (hFfnFwdIdeal := Cert.FfnFwdIdeal.Gen.facts)
    (hFfnRefIdeal := Cert.FfnRefIdeal.Gen.facts) := by
  intro m ρ m' ρ' _ hagree
  refine ⟨fun c => (Cert.FfnFwdIdeal.Gen.dats m 0 c).arrAt 8 Cert.FfnFwdIdeal.cfg0.N, Cert.FfnFwdIdeal.Value.run_blocks m ρ, ?_⟩
  refine (θ_run _ _ _).mono (fun r h c => ?_) (Cert.FfnRefIdeal.Value.run (F := Ideal) m' ρ')
  obtain ⟨hv, hargs⟩ := h c
  obtain ⟨a0, a1, a2⟩ := hagree c
  refine ⟨hv.trans ?_, hargs⟩
  rw [Cert.FfnRefIdeal.Read.val_main_v32_eq, a0, a1, a2]
  exact Eq.trans (funext fun y => v32 (arg0 m c) (arg1 m c) (arg2 m c) y) (array m c).symm

theorem frame_p : quiescent_FfnFwd (hFfnFwd := Cert.FfnFwd.Gen.facts) := fun m ρ _ => Cert.FfnFwd.Gen.frame m ρ

theorem frame_pi : quiescent_FfnFwdIdeal (hFfnFwdIdeal := Cert.FfnFwdIdeal.Gen.facts) := fun m ρ _ => Cert.FfnFwdIdeal.Gen.frame m ρ

/-- The reference runs to its end and leaves its arguments; it declares no semaphore. -/
theorem frame_ri : quiescent_FfnRefIdeal (hFfnRefIdeal := Cert.FfnRefIdeal.Gen.facts) := fun m ρ _ =>
  (θ_run _ _ _).mono (fun r h => And.intro (fun c => (h c).2) (sem_eq_zero_of_no_sems (by decide) r.2))
    (Cert.FfnRefIdeal.Value.run (F := Ideal) m ρ)

end Cert.FfnClaim

end
-- ==== Proof.NormBlock.lean ====
/- What one point of the kernel `mix_norm` leaves in its output. -/
module

public import proofs.«01_k».proof.Proof.Gen.NormFwdIdeal.Value
public import proofs.«01_k».proof.Proof.Rms
public import Idealize.ShloMosaic.Lib.Pipeline.Value
public import Idealize.ShloMosaic.Lib.Pipeline.ValueKit
public import Idealize.ShloMosaic.Lib.Pointwise

@[expose] public section

noncomputable section

namespace Cert.NormBlock

open Cert.NormFwdIdeal Cert.NormFwdIdeal.Gen Idealize.ShloMosaic Cert.Rms

variable (x0 : FVec Ideal S256x2048 .f32) (x1 : FVec Ideal S1x2048 .f32) (i : Fin 256) (j : Fin 2048)

/-- What a point stores: the normalized row, times the gain. -/
theorem pay1 : k0_pay1 (F := Ideal) x0 x1 (ix2 i j) = row x0 i j * inv (row x0 i) * row x1 0 j := by
  pointwise [k0_pay1]
  rfl

/-- The output's block after the point. -/
theorem out : out0_2 (F := Ideal) x0 x1 (ix2 i j) = row x0 i j * inv (row x0 i) * row x1 0 j := by
  unfold out0_2
  refine (congrFun (View.canon_cons_unit_lit (Val := Elt Ideal) _ _ _ (by decide)) _).trans ?_
  have h0 : View.ld (Val := Elt Ideal) (e' := .f32) x0 r0_0 = x0 := View.ld_unit_lit (Val := Elt Ideal) (e := .f32) (S := S256x2048) inb_S256x2048_S256x2048_0_0 x0 (by decide)
  have h1 : View.ld (Val := Elt Ideal) (e' := .f32) x1 r0_1 = x1 := View.ld_unit_lit (Val := Elt Ideal) (e := .f32) (S := S1x2048) inb_S1x2048_S1x2048_0_0 x1 (by decide)
  exact (congrFun (congr (congrArg (k0_pay1 (F := Ideal)) h0) h1) _).trans (pay1 x0 x1 i j)

end Cert.NormBlock

end
-- ==== Proof.NormArray.lean ====
/- The array the kernel `mix_norm` leaves: the normalized rows. -/
module

public import proofs.«01_k».proof.Proof.NormBlock

@[expose] public section

noncomputable section

namespace Cert.NormArray

open Cert.NormFwdIdeal Cert.NormFwdIdeal.Gen Idealize.ShloMosaic Idealize.ShloMosaic.TcCoe Cert.Rms Cert.NormBlock
open Idealize.ShloMosaic.Pipeline (Dat)

/-- The normalized row `r`, times the gain. -/
def normed (x : FVec Ideal S8192x2048 .f32) (g : FVec Ideal S1x2048 .f32) (r : Fin 8192) (j : Fin 2048) : EReal :=
  row x r j * inv (row x r) * row g 0 j

variable (m : (ℓ : Loc nD τ sig) → Buf (Elt Ideal) ℓ) (c : Dev nD)

/-- The rows. -/
abbrev arg0 : FVec Ideal S8192x2048 .f32 := m ((c : Thread nD τ).loc main_arg0)
/-- The gain. -/
abbrev arg1 : FVec Ideal S1x2048 .f32 := m ((c : Thread nD τ).loc main_arg1)

theorem index0 : ∀ t : Fin cfg0.N, win0_0.index t 0 = t.val ∧ win0_0.index t 1 = 0 := by
  show ∀ t : Fin grid0.N, _; decide +kernel
theorem index1 : ∀ t : Fin cfg0.N, win0_1.index t 0 = 0 ∧ win0_1.index t 1 = 0 := by
  show ∀ t : Fin grid0.N, _; decide +kernel
theorem index2 : ∀ t : Fin cfg0.N, win0_2.index t 0 = t.val ∧ win0_2.index t 1 = 0 := by
  show ∀ t : Fin grid0.N, _; decide +kernel

theorem lt_pts (t : Fin cfg0.N) : t.val < 32 := lt_of_lt_of_eq t.isLt (show cfg0.N = 32 from N_0)

/-- Row `i` of point `t`'s block. -/
def rowOf (t : ℕ) (i : Fin 256) : Fin 8192 := Fin.ofNat 8192 (256 * t + i.val)

theorem iblk0 (t : Fin cfg0.N) (i : Fin 256) (e : Fin 2048) : iblk m c 0 t (ix2 i e) = arg0 m c (ix2 (rowOf t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 256 + 1 * i.val = (256 * t.val + i.val) % 8192; rw [hi.1]; omega
  | ⟨1, _⟩ => show win0_0.index t 1 * 2048 + 1 * e.val = e.val; rw [hi.2]; omega

theorem iblk1 (t : Fin cfg0.N) (e : Fin 2048) : iblk m c 1 t (ix2 0 e) = arg1 m c (ix2 0 e) := by
  have hi := index1 t
  refine (congrFun (V_main_arg1 m c) _).trans (congrArg (m _) (funext fun a => Fin.ext ?_))
  match a with
  | ⟨0, _⟩ => show win0_1.index t 0 * 1 + 1 * 0 = 0; rw [hi.1]
  | ⟨1, _⟩ => show win0_1.index t 1 * 2048 + 1 * e.val = e.val; rw [hi.2]; omega

/-- THE RESULT: every row is normalized. -/
theorem array : (dats m 0 c).arrAt 2 cfg0.N = fun y : S8192x2048.Idx => normed (arg0 m c) (arg1 m c) (y 0) (y 1) := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 256) (j : Fin 2048), y = ix2 i j := ⟨y 0, y 1, eq_ix2 y⟩
  rw [after0_2]
  have h0 : row (φ := .f32) (iblk m c 0 t) i = row (arg0 m c) (rowOf t.val i) := funext fun e => iblk0 m c t i e
  have h1 : row (φ := .f32) (iblk m c 1 t) 0 = row (arg1 m c) 0 := funext fun e => iblk1 m c t e
  refine (out ..).trans ?_
  rw [h0, h1]
  have h2 := i.isLt
  show normed (arg0 m c) (arg1 m c) (rowOf t.val i) j = _
  refine congr (congrArg (normed (arg0 m c) (arg1 m c)) (Fin.ext ?_)) (Fin.ext ?_)
  · show (256 * t.val + i.val) % 8192 = win0_2.index t 0 * 256 + 1 * i.val
    rw [hi.1]; omega
  · show j.val = win0_2.index t 1 * 2048 + 1 * j.val
    rw [hi.2]; omega

end Cert.NormArray

end
-- ==== Proof.NormClaim.lean ====
/- The kernel `mix_norm`: what its reference computes, at an index, and the claims. -/
module

public import proofs.«01_k».proof.Defs
public import proofs.«01_k».proof.Proof.NormArray
public import proofs.«01_k».proof.Proof.Gen.NormFwd
public import proofs.«01_k».proof.Proof.Gen.NormFwd.Frame
public import proofs.«01_k».proof.Proof.Gen.NormRefIdeal.Run
public import proofs.«01_k».proof.Proof.Gen.NormRefIdeal.Read
public import Idealize.ShloMosaic.Lib.KernelVsHost
public import Idealize.ShloMosaic.Lib.IdealHost

@[expose] public section

noncomputable section

namespace Cert.NormClaim

open Idealize.ShloMosaic Idealize.SL.Sem Cert.Rms Cert.NormArray

section Reference

open Cert.NormRefIdeal Cert.NormRefIdeal.Gen Cert.NormRefIdeal.Read

variable (x0 : FVec Ideal S8192x2048 .f32) (x1 : FVec Ideal S1x2048 .f32)

theorem v2 (i : S8192.Idx) : val_main_v2 (F := Ideal) x0 i = ∑ k, row x0 (i 0) k * row x0 (i 0) k := by
  rw [val_main_v2_apply, val_main_cst_apply]
  show Ideal.ofBits .f32 0x00000000#32 + _ = _
  rw [Ideal.ofBits_zero_f32, zero_add]
  refine Finset.sum_congr rfl fun k _ => ?_
  rw [val_main_v1_apply, show idx_main_v2 i k = ix2 (i 0) k from (eq_ix2 _).trans rfl]
  rfl

theorem v7 (i : S8192x1.Idx) : val_main_v7 (F := Ideal) x0 i = var (row x0 (i 0)) := by
  rw [val_main_v7_apply, val_main_v5_apply, val_main_v3_apply, val_main_v4_apply, val_main_v6_apply, val_main_cst_0_apply, val_main_cst_1_apply, v2]
  rfl

theorem v8 (i : S8192x1.Idx) : val_main_v8 (F := Ideal) x0 i = inv (row x0 (i 0)) := by
  rw [val_main_v8_apply, v7]
  rfl

theorem v10 (i : S8192x2048.Idx) : val_main_v10 (F := Ideal) x0 i = row x0 (i 0) (i 1) * inv (row x0 (i 0)) := by
  rw [val_main_v10_apply, val_main_v9_apply, v8]
  obtain ⟨r, d, rfl⟩ : ∃ (r : Fin 8192) (d : Fin 2048), i = ix2 r d := ⟨i 0, i 1, eq_ix2 i⟩
  rfl

theorem v12 (i : S8192x2048.Idx) : val_main_v12 (F := Ideal) x1 i = row x1 0 (i 1) := by
  rw [val_main_v12_apply, val_main_v11_apply, val_main_v0_apply]
  refine congrArg x1 (funext fun a => Fin.ext ?_)
  have h1 : (i 1).val < 2048 := (i 1).isLt
  match a with
  | ⟨0, _⟩ => rfl
  | ⟨1, _⟩ => show (i 1).val % 2048 = (i 1).val; omega

theorem v14 (i : S8192x2048.Idx) : val_main_v14 (F := Ideal) x0 x1 i = normed x0 x1 (i 0) (i 1) := by
  rw [val_main_v14_apply, val_main_v13_apply, v10, v12]
  rfl

end Reference

/-- The kernel's result is the reference's. -/
theorem algebraic : algebraic_NormFwdIdeal_NormRefIdeal (hNormFwdIdeal := Cert.NormFwdIdeal.Gen.facts)
    (hNormRefIdeal := Cert.NormRefIdeal.Gen.facts) := by
  intro m ρ m' ρ' _ hagree
  refine ⟨fun c => (Cert.NormFwdIdeal.Gen.dats m 0 c).arrAt 2 Cert.NormFwdIdeal.cfg0.N, Cert.NormFwdIdeal.Value.run_blocks m ρ, ?_⟩
  refine (θ_run _ _ _).mono (fun r h c => ?_) (Cert.NormRefIdeal.Value.run (F := Ideal) m' ρ')
  obtain ⟨hv, hargs⟩ := h c
  obtain ⟨a0, a1⟩ := hagree c
  refine ⟨hv.trans ?_, hargs⟩
  rw [Cert.NormRefIdeal.Read.val_main_v14_eq, a0, a1]
  exact Eq.trans (funext fun y => v14 (arg0 m c) (arg1 m c) y) (array m c).symm

theorem frame_p : quiescent_NormFwd (hNormFwd := Cert.NormFwd.Gen.facts) := fun m ρ _ => Cert.NormFwd.Gen.frame m ρ

theorem frame_pi : quiescent_NormFwdIdeal (hNormFwdIdeal := Cert.NormFwdIdeal.Gen.facts) := fun m ρ _ => Cert.NormFwdIdeal.Gen.frame m ρ

/-- The reference runs to its end and leaves its arguments; it declares no semaphore. -/
theorem frame_ri : quiescent_NormRefIdeal (hNormRefIdeal := Cert.NormRefIdeal.Gen.facts) := fun m ρ _ =>
  (θ_run _ _ _).mono (fun r h => And.intro (fun c => (h c).2) (sem_eq_zero_of_no_sems (by decide) r.2))
    (Cert.NormRefIdeal.Value.run (F := Ideal) m ρ)

end Cert.NormClaim

end
-- ==== Proof.TokBlock.lean ====
/- What one point of the kernel `mem_norm` leaves in its output. -/
module

public import proofs.«01_k».proof.Proof.Gen.TokFwdIdeal.Value
public import proofs.«01_k».proof.Proof.Rms
public import Idealize.ShloMosaic.Lib.Pipeline.Value
public import Idealize.ShloMosaic.Lib.Pipeline.ValueKit
public import Idealize.ShloMosaic.Lib.Pointwise

@[expose] public section

noncomputable section

namespace Cert.TokBlock

open Cert.TokFwdIdeal Cert.TokFwdIdeal.Gen Idealize.ShloMosaic Cert.Rms

variable (x0 : FVec Ideal S256x2048 .f32) (x1 : FVec Ideal S1x2048 .f32) (i : Fin 256) (j : Fin 2048)

/-- What a point stores: the normalized row, times the gain. -/
theorem pay1 : k0_pay1 (F := Ideal) x0 x1 (ix2 i j) = row x0 i j * inv (row x0 i) * row x1 0 j := by
  pointwise [k0_pay1]
  rfl

/-- The output's block after the point. -/
theorem out : out0_2 (F := Ideal) x0 x1 (ix2 i j) = row x0 i j * inv (row x0 i) * row x1 0 j := by
  unfold out0_2
  refine (congrFun (View.canon_cons_unit_lit (Val := Elt Ideal) _ _ _ (by decide)) _).trans ?_
  have h0 : View.ld (Val := Elt Ideal) (e' := .f32) x0 r0_0 = x0 := View.ld_unit_lit (Val := Elt Ideal) (e := .f32) (S := S256x2048) inb_S256x2048_S256x2048_0_0 x0 (by decide)
  have h1 : View.ld (Val := Elt Ideal) (e' := .f32) x1 r0_1 = x1 := View.ld_unit_lit (Val := Elt Ideal) (e := .f32) (S := S1x2048) inb_S1x2048_S1x2048_0_0 x1 (by decide)
  exact (congrFun (congr (congrArg (k0_pay1 (F := Ideal)) h0) h1) _).trans (pay1 x0 x1 i j)

end Cert.TokBlock

end
-- ==== Proof.TokArray.lean ====
/- The array the kernel `mem_norm` leaves: the normalized rows. -/
module

public import proofs.«01_k».proof.Proof.TokBlock

@[expose] public section

noncomputable section

namespace Cert.TokArray

open Cert.TokFwdIdeal Cert.TokFwdIdeal.Gen Idealize.ShloMosaic Idealize.ShloMosaic.TcCoe Cert.Rms Cert.TokBlock
open Idealize.ShloMosaic.Pipeline (Dat)

/-- The normalized row `r`, times the gain. -/
def normed (x : FVec Ideal S256x2048 .f32) (g : FVec Ideal S1x2048 .f32) (r : Fin 256) (j : Fin 2048) : EReal :=
  row x r j * inv (row x r) * row g 0 j

variable (m : (ℓ : Loc nD τ sig) → Buf (Elt Ideal) ℓ) (c : Dev nD)

/-- The rows. -/
abbrev arg0 : FVec Ideal S256x2048 .f32 := m ((c : Thread nD τ).loc main_arg0)
/-- The gain. -/
abbrev arg1 : FVec Ideal S1x2048 .f32 := m ((c : Thread nD τ).loc main_arg1)

theorem index0 : ∀ t : Fin cfg0.N, win0_0.index t 0 = t.val ∧ win0_0.index t 1 = 0 := by
  show ∀ t : Fin grid0.N, _; decide +kernel
theorem index1 : ∀ t : Fin cfg0.N, win0_1.index t 0 = 0 ∧ win0_1.index t 1 = 0 := by
  show ∀ t : Fin grid0.N, _; decide +kernel
theorem index2 : ∀ t : Fin cfg0.N, win0_2.index t 0 = t.val ∧ win0_2.index t 1 = 0 := by
  show ∀ t : Fin grid0.N, _; decide +kernel

theorem lt_pts (t : Fin cfg0.N) : t.val < 1 := lt_of_lt_of_eq t.isLt (show cfg0.N = 1 from N_0)

/-- Row `i` of point `t`'s block. -/
def rowOf (t : ℕ) (i : Fin 256) : Fin 256 := Fin.ofNat 256 (256 * t + i.val)

theorem iblk0 (t : Fin cfg0.N) (i : Fin 256) (e : Fin 2048) : iblk m c 0 t (ix2 i e) = arg0 m c (ix2 (rowOf t.val i) e) := by
  have hi := index0 t
  have ht := lt_pts t
  refine (congrFun (V_main_arg0 m c) _).trans (congrArg (m _) (funext fun a => Fin.ext ?_))
  have h1 := i.isLt
  match a with
  | ⟨0, _⟩ => show win0_0.index t 0 * 256 + 1 * i.val = (256 * t.val + i.val) % 256; rw [hi.1]; omega
  | ⟨1, _⟩ => show win0_0.index t 1 * 2048 + 1 * e.val = e.val; rw [hi.2]; omega

theorem iblk1 (t : Fin cfg0.N) (e : Fin 2048) : iblk m c 1 t (ix2 0 e) = arg1 m c (ix2 0 e) := by
  have hi := index1 t
  refine (congrFun (V_main_arg1 m c) _).trans (congrArg (m _) (funext fun a => Fin.ext ?_))
  match a with
  | ⟨0, _⟩ => show win0_1.index t 0 * 1 + 1 * 0 = 0; rw [hi.1]
  | ⟨1, _⟩ => show win0_1.index t 1 * 2048 + 1 * e.val = e.val; rw [hi.2]; omega

/-- THE RESULT: every row is normalized. -/
theorem array : (dats m 0 c).arrAt 2 cfg0.N = fun y : S256x2048.Idx => normed (arg0 m c) (arg1 m c) (y 0) (y 1) := by
  refine (dats m 0 c).arrAt_eq_of_covers 2 _ (by decide +kernel) fun t hf y => ?_
  show (dats m 0 c).after 2 t y = _
  have hi := index2 t
  have ht := lt_pts t
  obtain ⟨i, j, rfl⟩ : ∃ (i : Fin 256) (j : Fin 2048), y = ix2 i j := ⟨y 0, y 1, eq_ix2 y⟩
  rw [after0_2]
  have h0 : row (φ := .f32) (iblk m c 0 t) i = row (arg0 m c) (rowOf t.val i) := funext fun e => iblk0 m c t i e
  have h1 : row (φ := .f32) (iblk m c 1 t) 0 = row (arg1 m c) 0 := funext fun e => iblk1 m c t e
  refine (out ..).trans ?_
  rw [h0, h1]
  have h2 := i.isLt
  show normed (arg0 m c) (arg1 m c) (rowOf t.val i) j = _
  refine congr (congrArg (normed (arg0 m c) (arg1 m c)) (Fin.ext ?_)) (Fin.ext ?_)
  · show (256 * t.val + i.val) % 256 = win0_2.index t 0 * 256 + 1 * i.val
    rw [hi.1]; omega
  · show j.val = win0_2.index t 1 * 2048 + 1 * j.val
    rw [hi.2]; omega

end Cert.TokArray

end
-- ==== Proof.TokClaim.lean ====
/- The kernel `mem_norm`: what its reference computes, at an index, and the claims. -/
module

public import proofs.«01_k».proof.Defs
public import proofs.«01_k».proof.Proof.TokArray
public import proofs.«01_k».proof.Proof.Gen.TokFwd
public import proofs.«01_k».proof.Proof.Gen.TokFwd.Frame
public import proofs.«01_k».proof.Proof.Gen.TokRefIdeal.Run
public import proofs.«01_k».proof.Proof.Gen.TokRefIdeal.Read
public import Idealize.ShloMosaic.Lib.KernelVsHost
public import Idealize.ShloMosaic.Lib.IdealHost

@[expose] public section

noncomputable section

namespace Cert.TokClaim

open Idealize.ShloMosaic Idealize.SL.Sem Cert.Rms Cert.TokArray

section Reference

open Cert.TokRefIdeal Cert.TokRefIdeal.Gen Cert.TokRefIdeal.Read

variable (x0 : FVec Ideal S256x2048 .f32) (x1 : FVec Ideal S1x2048 .f32)

theorem v2 (i : S256.Idx) : val_main_v2 (F := Ideal) x0 i = ∑ k, row x0 (i 0) k * row x0 (i 0) k := by
  rw [val_main_v2_apply, val_main_cst_apply]
  show Ideal.ofBits .f32 0x00000000#32 + _ = _
  rw [Ideal.ofBits_zero_f32, zero_add]
  refine Finset.sum_congr rfl fun k _ => ?_
  rw [val_main_v1_apply, show idx_main_v2 i k = ix2 (i 0) k from (eq_ix2 _).trans rfl]
  rfl

theorem v7 (i : S256x1.Idx) : val_main_v7 (F := Ideal) x0 i = var (row x0 (i 0)) := by
  rw [val_main_v7_apply, val_main_v5_apply, val_main_v3_apply, val_main_v4_apply, val_main_v6_apply, val_main_cst_0_apply, val_main_cst_1_apply, v2]
  rfl

theorem v8 (i : S256x1.Idx) : val_main_v8 (F := Ideal) x0 i = inv (row x0 (i 0)) := by
  rw [val_main_v8_apply, v7]
  rfl

theorem v10 (i : S256x2048.Idx) : val_main_v10 (F := Ideal) x0 i = row x0 (i 0) (i 1) * inv (row x0 (i 0)) := by
  rw [val_main_v10_apply, val_main_v9_apply, v8]
  obtain ⟨r, d, rfl⟩ : ∃ (r : Fin 256) (d : Fin 2048), i = ix2 r d := ⟨i 0, i 1, eq_ix2 i⟩
  rfl

theorem v12 (i : S256x2048.Idx) : val_main_v12 (F := Ideal) x1 i = row x1 0 (i 1) := by
  rw [val_main_v12_apply, val_main_v11_apply, val_main_v0_apply]
  refine congrArg x1 (funext fun a => Fin.ext ?_)
  have h1 : (i 1).val < 2048 := (i 1).isLt
  match a with
  | ⟨0, _⟩ => rfl
  | ⟨1, _⟩ => show (i 1).val % 2048 = (i 1).val; omega

theorem v14 (i : S256x2048.Idx) : val_main_v14 (F := Ideal) x0 x1 i = normed x0 x1 (i 0) (i 1) := by
  rw [val_main_v14_apply, val_main_v13_apply, v10, v12]
  rfl

end Reference

/-- The kernel's result is the reference's. -/
theorem algebraic : algebraic_TokFwdIdeal_TokRefIdeal (hTokFwdIdeal := Cert.TokFwdIdeal.Gen.facts)
    (hTokRefIdeal := Cert.TokRefIdeal.Gen.facts) := by
  intro m ρ m' ρ' _ hagree
  refine ⟨fun c => (Cert.TokFwdIdeal.Gen.dats m 0 c).arrAt 2 Cert.TokFwdIdeal.cfg0.N, Cert.TokFwdIdeal.Value.run_blocks m ρ, ?_⟩
  refine (θ_run _ _ _).mono (fun r h c => ?_) (Cert.TokRefIdeal.Value.run (F := Ideal) m' ρ')
  obtain ⟨hv, hargs⟩ := h c
  obtain ⟨a0, a1⟩ := hagree c
  refine ⟨hv.trans ?_, hargs⟩
  rw [Cert.TokRefIdeal.Read.val_main_v14_eq, a0, a1]
  exact Eq.trans (funext fun y => v14 (arg0 m c) (arg1 m c) y) (array m c).symm

theorem frame_p : quiescent_TokFwd (hTokFwd := Cert.TokFwd.Gen.facts) := fun m ρ _ => Cert.TokFwd.Gen.frame m ρ

theorem frame_pi : quiescent_TokFwdIdeal (hTokFwdIdeal := Cert.TokFwdIdeal.Gen.facts) := fun m ρ _ => Cert.TokFwdIdeal.Gen.frame m ρ

/-- The reference runs to its end and leaves its arguments; it declares no semaphore. -/
theorem frame_ri : quiescent_TokRefIdeal (hTokRefIdeal := Cert.TokRefIdeal.Gen.facts) := fun m ρ _ =>
  (θ_run _ _ _).mono (fun r h => And.intro (fun c => (h c).2) (sem_eq_zero_of_no_sems (by decide) r.2))
    (Cert.TokRefIdeal.Value.run (F := Ideal) m ρ)

end Cert.TokClaim

end
-- ==== Proof.MergeBlock.lean ====
/- What one point of the kernel `merge` leaves in its output. -/
module

public import proofs.«01_k».proof.Proof.Gen.MergeFwdIdeal.Value
public import Idealize.ShloMosaic.Lib.Pipeline.Value
public import Idealize.ShloMosaic.Lib.Pipeline.ValueKit
public import Idealize.ShloMosaic.Lib.Pointwise

@[expose] public section

noncomputable section

namespace Cert.MergeBlock

open Cert.MergeFwdIdeal Cert.MergeFwdIdeal.Gen Idealize.ShloMosaic

/-- One branch: the gate's sigmoid, times the branch. -/
def branch (z b y : EReal) : EReal := Ideal.logistic (z + b) * y

variable (x0 x1 x2 : FVec Ideal S512x512 .bf16) (x3 x4 x5 : FVec Ideal S1x512 .f32) (x6 x7 x8 : FVec Ideal S512x512 .bf16) (i j : Fin 512)

/-- The three branches' sum, at an entry of the block. -/
def merged : EReal :=
  branch (x0 (ix2 i j)) (x3 (ix2 0 j)) (x6 (ix2 i j)) + branch (x1 (ix2 i j)) (x4 (ix2 0 j)) (x7 (ix2 i j))
    + branch (x2 (ix2 i j)) (x5 (ix2 0 j)) (x8 (ix2 i j))

/-- What a point stores. -/
theorem pay1 : k0_pay1 (F := Ideal) x0 x3 x6 x1 x4 x7 x2 x5 x8 (ix2 i j) = merged x0 x1 x2 x3 x4 x5 x6 x7 x8 i j := by
  unfold merged branch
  pointwise [k0_pay1]

theorem ld_gate (x : FVec Ideal S512x512 .bf16) : View.ld (Val := Elt Ideal) (e' := .bf16) x r0_0 = x :=
  View.ld_unit_lit (Val := Elt Ideal) (e := .bf16) (S := S512x512) inb_S512x512_S512x512_0_0 x (by decide)

theorem ld_bias (x : FVec Ideal S1x512 .f32) : View.ld (Val := Elt Ideal) (e' := .f32) x r0_1 = x :=
  View.ld_unit_lit (Val := Elt Ideal) (e := .f32) (S := S1x512) inb_S1x512_S1x512_0_0 x (by decide)

/-- The output's block after the point. -/
theorem out : out0_9 (F := Ideal) x0 x1 x2 x3 x4 x5 x6 x7 x8 (ix2 i j) = merged x0 x1 x2 x3 x4 x5 x6 x7 x8 i j := by
  unfold out0_9
  refine (congrFun (View.canon_cons_unit_lit (Val := Elt Ideal) _ _ _ (by decide)) _).trans ?_
  refine (congrFun ?_ _).trans (pay1 x0 x1 x2 x3 x4 x5 x6 x7 x8 i j)
  exact congr (congr (congr (congr (congr (congr (congr (congr (congrArg (k0_pay1 (F := Ideal)) (ld_gate x0)) (ld_bias x3)) (ld_gate x6))
    (ld_gate x1)) (ld_bias x4)) (ld_gate x7)) (ld_gate x2)) (ld_bias x5)) (ld_gate x8)

end Cert.MergeBlock

end
-- ==== Proof.MergeArray.lean ====
/- The array the kernel `merge` leaves: the gated sum of the three branches. -/
module

public import proofs.«01_k».proof.Proof.MergeBlock

@[expose] public section

noncomputable section

namespace Cert.MergeArray

open Cert.MergeFwdIdeal Cert.MergeFwdIdeal.Gen Idealize.ShloMosaic Idealize.ShloMosaic.TcCoe Cert.MergeBlock
open Idealize.ShloMosaic.Pipeline (Dat)

/-- Branch `b`'s gate: its columns follow the projection's first 6144. -/
def gate (p : FVec Ideal S8192x12288 .bf16) (b : ℕ) (r : Fin 8192) (q : Fin 2048) : EReal := p (ix2 r (Fin.ofNat 12288 (6144 + 2048 * b + q.val)))

/-- Branch `b`'s bias. -/
def bias (p : FVec Ideal S1x6144 .f32) (b : ℕ) (q : Fin 2048) : EReal := p (ix2 0 (Fin.ofNat 6144 (2048 * b + q.val)))

/-- The three branches' sum, at an entry of the array. -/
def total (p : FVec Ideal S8192x12288 .bf16) (g : FVec Ideal S1x6144 .f32) (y0 y1 y2 : FVec Ideal S8192x2048 .bf16) (r : Fin 8192) (q : Fin 2048) : EReal :=
  branch (gate p 0 r q) (bias g 0 q) (y0 (ix2 r q)) + branch (gate p 1 r q) (bias g 1 q) (y1 (ix2 r q))
    + branch (gate p 2 r q) (bias g 2 q) (y2 (ix2 r q))

variable (m : (ℓ : Loc nD τ sig) → Buf (Elt Ideal) ℓ) (c : Dev nD)

/-- The projection, whose last columns are the gates. -/
abbrev arg0 : FVec Ideal S8192x12288 .bf16 := m ((c : Thread nD τ).loc main_arg0)
/-- The biases. -/
abbrev arg1 : FVec Ideal S1x6144 .f32 := m ((c : Thread nD τ).loc main_arg1)
/-- The three branches. -/
abbrev arg2 : FVec Ideal S8192x2048 .bf16 := m ((c : Thread nD τ).loc main_arg2)
abbrev arg3 : FVec Ideal S8192x2048 .bf16 := m ((c : Thread nD τ).loc main_arg3)
abbrev arg4 : FVec Ideal S8192x2048 .bf16 := m ((c : Thread nD τ).loc main_arg4)

theorem index0 : ∀ t : Fin cfg0.N, win0_0.index t 0 = t.val / 4 ∧ win0_0.index t 1 = 12 + t.val % 4 := by
  show ∀ t : Fin grid0.N, _; decide +kernel
theorem index1 : ∀ t : Fin cfg0.N, win0_1.index t 0 = t.val / 4 ∧ win0_1.index t 1 = 16 + t.val % 4 := by
  show ∀ t : Fin grid0.N, _; decide +kernel
theorem index2 : ∀ t : Fin cfg0.N, win0_2.index t 0 = t.val / 4 ∧ win0_2.index t 1 = 20 + t.val % 4 := by
  show ∀ t : Fin grid0.N, _; decide +kernel
theorem index3 : ∀ t : Fin cfg0.N, win0_3.index t 0 = 0 ∧ win0_3.index t 1 = 0 + t.val % 4 := by
  show ∀ t : Fin grid0.N, _; decide +kernel
theorem index4 : ∀ t : Fin cfg0.N, win0_4.index t 0 = 0 ∧ win0_4.index t 1 = 4 + t.val % 4 := by
  show ∀ t : Fin grid0.N, _; decide +kernel
theorem index5 : ∀ t : Fin cfg0.N, win0_5.index t 0 = 0 ∧ win0_5.index t 1 = 8 + t.val % 4 := by
  show ∀ t : Fin grid0.N, _; decide +kernel
theorem index6 : ∀ t : Fin cfg0.N, win0_6.index t 0 = t.val / 4 ∧ win0_6.index t 1 = t.val % 4 := by
  show ∀ t : Fin grid0.N, _; decide +kernel
theorem index7 : ∀ t : Fin cfg0.N, win0_7.index t 0 = t.val / 4 ∧ win0_7.index t 1 = t.val % 4 := by
  show ∀ t : Fin grid0.N, _; decide +kernel
theorem index8 : ∀ t : Fin cfg0.N, win0_8.index t 0 = t.val / 4 ∧ win0_8.index t 1 = t.val % 4 := by
  show ∀ t : Fin grid0.N, _; decide +kernel
theorem index9 : ∀ t : Fin cfg0.N, win0_9.index t 0 = t.val / 4 ∧ win0_9.index t 1 = t.val % 4 := by
  show ∀ t : Fin grid0.N, _; decide +kernel

theorem lt_pts (t : Fin cfg0.N) : t.val < 64 := lt_of_lt_of_eq t.isLt (show cfg0.N = 64 from N_0)

/-- Row `i` of point `t`'s block. -/
def rowOf (t : ℕ) (i : Fin 512) : Fin 8192 := Fin.ofNat 8192 (512 * (t / 4) + i.val)
/-- Column `j` of point `t`'s block. -/
def colOf (t : ℕ) (j : Fin 512) : Fin 2048 := Fin.ofNat 2048 (512 * (t % 4) + j.val)

theorem iblk0 (t : Fin cfg0.N) (i j : Fin 512) : iblk m c 0 t (ix2 i j) = gate (arg0 m c) 0 (rowOf t.val i) (colOf t.val j) := by
  have hi := index0 t
  have ht := lt_pts t
  refine (congrFun (V_main_arg0 m c) _).trans (congrArg (m _) (funext fun a => Fin.ext ?_))
  have h1 := i.isLt
  have h2 := j.isLt
  match a with
  | ⟨0, _⟩ => show win0_0.index t 0 * 512 + 1 * i.val = (512 * (t.val / 4) + i.val) % 8192; rw [hi.1]; omega
  | ⟨1, _⟩ => show win0_0.index t 1 * 512 + 1 * j.val = (6144 + 2048 * 0 + (512 * (t.val % 4) + j.val) % 2048) % 12288; rw [hi.2]; omega

theorem iblk1 (t : Fin cfg0.N) (i j : Fin 512) : iblk m c 1 t (ix2 i j) = gate (arg0 m c) 1 (rowOf t.val i) (colOf t.val j) := by
  have hi := index1 t
  have ht := lt_pts t
  refine (congrFun (V_main_arg0 m c) _).trans (congrArg (m _) (funext fun a => Fin.ext ?_))
  have h1 := i.isLt
  have h2 := j.isLt
  match a with
  | ⟨0, _⟩ => show win0_1.index t 0 * 512 + 1 * i.val = (512 * (t.val / 4) + i.val) % 8192; rw [hi.1]; omega
  | ⟨1, _⟩ => show win0_1.index t 1 * 512 + 1 * j.val = (6144 + 2048 * 1 + (512 * (t.val % 4) + j.val) % 2048) % 12288; rw [hi.2]; omega

theorem iblk2 (t : Fin cfg0.N) (i j : Fin 512) : iblk m c 2 t (ix2 i j) = gate (arg0 m c) 2 (rowOf t.val i) (colOf t.val j) := by
  have hi := index2 t
  have ht := lt_pts t
  refine (congrFun (V_main_arg0 m c) _).trans (congrArg (m _) (funext fun a => Fin.ext ?_))
  have h1 := i.isLt
  have h2 := j.isLt
  match a with
  | ⟨0, _⟩ => show win0_2.index t 0 * 512 + 1 * i.val = (512 * (t.val / 4) + i.val) % 8192; rw [hi.1]; omega
  | ⟨1, _⟩ => show win0_2.index t 1 * 512 + 1 * j.val = (6144 + 2048 * 2 + (512 * (t.val % 4) + j.val) % 2048) % 12288; rw [hi.2]; omega

theorem iblk3 (t : Fin cfg0.N) (j : Fin 512) : iblk m c 3 t (ix2 0 j) = bias (arg1 m c) 0 (colOf t.val j) := by
  have hi := index3 t
  have ht := lt_pts t
  refine (congrFun (V_main_arg1 m c) _).trans (congrArg (m _) (funext fun a => Fin.ext ?_))
  have h2 := j.isLt
  match a with
  | ⟨0, _⟩ => show win0_3.index t 0 * 1 + 1 * 0 = 0; rw [hi.1]
  | ⟨1, _⟩ => show win0_3.index t 1 * 512 + 1 * j.val = (2048 * 0 + (512 * (t.val % 4) + j.val) % 2048) % 6144; rw [hi.2]; omega

theorem iblk4 (t : Fin cfg0.N) (j : Fin 512) : iblk m c 4 t (ix2 0 j) = bias (arg1 m c) 1 (colOf t.val j) := by
  have hi := index4 t
  have ht := lt_pts t
  refine (congrFun (V_main_arg1 m c) _).trans (congrArg (m _) (funext fun a => Fin.ext ?_))
  have h2 := j.isLt
  match a with
  | ⟨0, _⟩ => show win0_4.index t 0 * 1 + 1 * 0 = 0; rw [hi.1]
  | ⟨1, _⟩ => show win0_4.index t 1 * 512 + 1 * j.val = (2048 * 1 + (512 * (t.val % 4) + j.val) % 2048) % 6144; rw [hi.2]; omega

theorem iblk5 (t : Fin cfg0.N) (j : Fin 512) : iblk m c 5 t (ix2 0 j) = bias (arg1 m c) 2 (colOf t.val j) := by
  have hi := index5 t
  have ht := lt_pts t
  refine (congrFun (V_main_arg1 m c) _).trans (congrArg (m _) (funext fun a => Fin.ext ?_))
  have h2 := j.isLt
  match a with
  | ⟨0, _⟩ => show win0_5.index t 0 * 1 + 1 * 0 = 0; rw [hi.1]
  | ⟨1, _⟩ => show win0_5.index t 1 * 512 + 1 * j.val = (2048 * 2 + (512 * (t.val % 4) + j.val) % 2048) % 6144; rw [hi.2]; omega

theorem iblk6 (t : Fin cfg0.N) (i j : Fin 512) : iblk m c 6 t (ix2 i j) = arg2 m c (ix2 (rowOf t.val i) (colOf t.val j)) := by
  have hi := index6 t
  have ht := lt_pts t
  refine (congrFun (V_main_arg2 m c) _).trans (congrArg (m _) (funext fun a => Fin.ext ?_))
  have h1 := i.isLt
  have h2 := j.isLt
  match a with
  | ⟨0, _⟩ => show win0_6.index t 0 * 512 + 1 * i.val = (512 * (t.val / 4) + i.val) % 8192; rw [hi.1]; omega
  | ⟨1, _⟩ => show win0_6.index t 1 * 512 + 1 * j.val = (512 * (t.val % 4) + j.val) % 2048; rw [hi.2]; omega

theorem iblk7 (t : Fin cfg0.N) (i j : Fin 512) : iblk m c 7 t (ix2 i j) = arg3 m c (ix2 (rowOf t.val i) (colOf t.val j)) := by
  have hi := index7 t
  have ht := lt_pts t
  refine (congrFun (V_main_arg3 m c) _).trans (congrArg (m _) (funext fun a => Fin.ext ?_))
  have h1 := i.isLt
  have h2 := j.isLt
  match a with
  | ⟨0, _⟩ => show win0_7.index t 0 * 512 + 1 * i.val = (512 * (t.val / 4) + i.val) % 8192; rw [hi.1]; omega
  | ⟨1, _⟩ => show win0_7.index t 1 * 512 + 1 * j.val = (512 * (t.val % 4) + j.val) % 2048; rw [hi.2]; omega

theorem iblk8 (t : Fin cfg0.N) (i j : Fin 512) : iblk m c 8 t (ix2 i j) = arg4 m c (ix2 (rowOf t.val i) (colOf t.val j)) := by
  have hi := index8 t
  have ht := lt_pts t
  refine (congrFun (V_main_arg4 m c) _).trans (congrArg (m _) (funext fun a => Fin.ext ?_))
  have h1 := i.isLt
  have h2 := j.isLt
  match a with
  | ⟨0, _⟩ => show win0_8.index t 0 * 512 + 1 * i.val = (512 * (t.val / 4) + i.val) % 8192; rw [hi.1]; omega
  | ⟨1, _⟩ => show win0_8.index t 1 * 512 + 1 * j.val = (512 * (t.val % 4) + j.val) % 2048; rw [hi.2]; omega

/-- A point's sum in the arrays' entries. -/
theorem merged_point (t : Fin cfg0.N) (i j : Fin 512) :
    merged (iblk m c 0 t) (iblk m c 1 t) (iblk m c 2 t) (iblk m c 3 t) (iblk m c 4 t) (iblk m c 5 t) (iblk m c 6 t) (iblk m c 7 t) (iblk m c 8 t) i j
      = total (arg0 m c) (arg1 m c) (arg2 m c) (arg3 m c) (arg4 m c) (rowOf t.val i) (colOf t.val j) := by
  unfold merged total
  rw [iblk0, iblk1, iblk2, iblk3, iblk4, iblk5, iblk6, iblk7, iblk8]

/-- THE RESULT: every entry is the three branches' sum. -/
theorem array : (dats m 0 c).arrAt 9 cfg0.N
    = fun y : S8192x2048.Idx => total (arg0 m c) (arg1 m c) (arg2 m c) (arg3 m c) (arg4 m c) (y 0) (y 1) := by
  refine (dats m 0 c).arrAt_eq_of_covers 9 _ (by decide +kernel) fun t hf y => ?_
  show (dats m 0 c).after 9 t y = _
  have hi := index9 t
  have ht := lt_pts t
  obtain ⟨i, j, rfl⟩ : ∃ (i j : Fin 512), y = ix2 i j := ⟨y 0, y 1, eq_ix2 y⟩
  rw [after0_9]
  refine (out ..).trans ((merged_point m c t i j).trans ?_)
  have h1 := i.isLt
  have h2 := j.isLt
  refine congr (congrArg (total (arg0 m c) (arg1 m c) (arg2 m c) (arg3 m c) (arg4 m c)) (Fin.ext ?_)) (Fin.ext ?_)
  · show (512 * (t.val / 4) + i.val) % 8192 = win0_9.index t 0 * 512 + 1 * i.val
    rw [hi.1]; omega
  · show (512 * (t.val % 4) + j.val) % 2048 = win0_9.index t 1 * 512 + 1 * j.val
    rw [hi.2]; omega

end Cert.MergeArray

end
-- ==== Proof.MergeClaim.lean ====
/- The kernel `merge`: what its reference computes, at an index, and the claims. -/
module

public import proofs.«01_k».proof.Defs
public import proofs.«01_k».proof.Proof.MergeArray
public import proofs.«01_k».proof.Proof.Gen.MergeFwd
public import proofs.«01_k».proof.Proof.Gen.MergeFwd.Frame
public import proofs.«01_k».proof.Proof.Gen.MergeRefIdeal.Run
public import proofs.«01_k».proof.Proof.Gen.MergeRefIdeal.Read
public import Idealize.ShloMosaic.Lib.KernelVsHost
public import Idealize.ShloMosaic.Lib.IdealHost

@[expose] public section

noncomputable section

namespace Cert.MergeClaim

open Idealize.ShloMosaic Idealize.SL.Sem Cert.MergeBlock Cert.MergeArray

section Reference

open Cert.MergeRefIdeal Cert.MergeRefIdeal.Gen Cert.MergeRefIdeal.Read

variable (x0 : FVec Ideal S8192x12288 .bf16) (x1 : FVec Ideal S1x6144 .f32) (x2 x3 x4 : FVec Ideal S8192x2048 .bf16)

theorem one : Ideal.ofBits .f32 0x3F800000#32 = 1 := by
  simp [Ideal.ofBits, Ideal.ieee]; rw [← EReal.coe_mul]; norm_num

/-- The sigmoid of a gate and its bias. -/
theorem v14 (i : S8192x6144.Idx) :
    val_main_v14 (F := Ideal) x0 x1 i = Ideal.logistic (x0 (idx_main_v0 i) + x1 (idx_main_v5 (idx_main_v6 (idx_main_v7 i)))) := by
  rw [val_main_v14_apply, val_main_v13_apply, val_main_cst_0_apply, val_main_v12_apply, val_main_v11_apply, val_main_cst_apply, val_main_v10_apply,
    val_main_v9_apply, val_main_v8_apply, val_main_v7_apply, val_main_v6_apply, val_main_v5_apply, val_main_v1_apply, val_main_v0_apply]
  show Ideal.div (Ideal.ofBits .f32 0x3F800000#32) (Ideal.ofBits .f32 0x3F800000#32 + _) = _
  rw [one]
  rfl

/-- Branch `b`'s sigmoid at row `r` and column `q`. -/
theorem v15 (b : ℕ) (hb : b < 3) (r : Fin 8192) (q : Fin 2048) (i : S8192x3x2048.Idx) (h0 : (i 0).val = r.val) (h1 : (i 1).val = b) (h2 : (i 2).val = q.val) :
    val_main_v15 (F := Ideal) x0 x1 i = Ideal.logistic (gate x0 b r q + bias x1 b q) := by
  rw [val_main_v15_apply, v14]
  have hr := r.isLt
  have hq := q.isLt
  refine congrArg Ideal.logistic (congr (congrArg HAdd.hAdd (congrArg x0 (funext fun a => Fin.ext ?_))) (congrArg x1 (funext fun a => Fin.ext ?_)))
  · match a with
    | ⟨0, _⟩ =>
      show (((i 0).val * 3 + (i 1).val) * 2048 + (i 2).val) / 6144 = r.val
      rw [h0, h1, h2]; omega
    | ⟨1, _⟩ =>
      show 6144 + (((i 0).val * 3 + (i 1).val) * 2048 + (i 2).val) % 6144 = (6144 + 2048 * b + q.val) % 12288
      rw [h0, h1, h2]; omega
  · match a with
    | ⟨0, _⟩ => rfl
    | ⟨1, _⟩ =>
      show (((i 0).val * 3 + (i 1).val) * 2048 + (i 2).val) % 6144 % 6144 = (2048 * b + q.val) % 6144
      rw [h0, h1, h2]; omega

theorem v18 (r : Fin 8192) (q : Fin 2048) : val_main_v18 (F := Ideal) x0 x1 x2 (ix2 r q) = branch (gate x0 0 r q) (bias x1 0 q) (x2 (ix2 r q)) := by
  have hr := r.isLt
  have hq := q.isLt
  rw [val_main_v18_apply, val_main_v17_apply, val_main_v16_apply, val_main_v2_apply]
  refine congrArg (fun z : EReal => z * x2 (ix2 r q)) (v15 x0 x1 0 (by omega) r q _ ?_ ?_ ?_)
  · show (r.val * 2048 + q.val) / 2048 = r.val
    omega
  · rfl
  · show (r.val * 2048 + q.val) % 2048 = q.val
    omega

theorem v21 (r : Fin 8192) (q : Fin 2048) : val_main_v21 (F := Ideal) x0 x1 x3 (ix2 r q) = branch (gate x0 1 r q) (bias x1 1 q) (x3 (ix2 r q)) := by
  have hr := r.isLt
  have hq := q.isLt
  rw [val_main_v21_apply, val_main_v20_apply, val_main_v19_apply, val_main_v3_apply]
  refine congrArg (fun z : EReal => z * x3 (ix2 r q)) (v15 x0 x1 1 (by omega) r q _ ?_ ?_ ?_)
  · show (r.val * 2048 + q.val) / 2048 = r.val
    omega
  · rfl
  · show (r.val * 2048 + q.val) % 2048 = q.val
    omega

theorem v25 (r : Fin 8192) (q : Fin 2048) : val_main_v25 (F := Ideal) x0 x1 x4 (ix2 r q) = branch (gate x0 2 r q) (bias x1 2 q) (x4 (ix2 r q)) := by
  have hr := r.isLt
  have hq := q.isLt
  rw [val_main_v25_apply, val_main_v24_apply, val_main_v23_apply, val_main_v4_apply]
  refine congrArg (fun z : EReal => z * x4 (ix2 r q)) (v15 x0 x1 2 (by omega) r q _ ?_ ?_ ?_)
  · show (r.val * 2048 + q.val) / 2048 = r.val
    omega
  · rfl
  · show (r.val * 2048 + q.val) % 2048 = q.val
    omega

theorem v27 (i : S8192x2048.Idx) : val_main_v27 (F := Ideal) x0 x1 x2 x3 x4 i = total x0 x1 x2 x3 x4 (i 0) (i 1) := by
  obtain ⟨r, q, rfl⟩ : ∃ (r : Fin 8192) (q : Fin 2048), i = ix2 r q := ⟨i 0, i 1, eq_ix2 i⟩
  rw [val_main_v27_apply, val_main_v26_apply, val_main_v22_apply, v18, v21, v25]
  rfl

end Reference

/-- The kernel's result is the reference's. -/
theorem algebraic : algebraic_MergeFwdIdeal_MergeRefIdeal (hMergeFwdIdeal := Cert.MergeFwdIdeal.Gen.facts)
    (hMergeRefIdeal := Cert.MergeRefIdeal.Gen.facts) := by
  intro m ρ m' ρ' _ hagree
  refine ⟨fun c => (Cert.MergeFwdIdeal.Gen.dats m 0 c).arrAt 9 Cert.MergeFwdIdeal.cfg0.N, Cert.MergeFwdIdeal.Value.run_blocks m ρ, ?_⟩
  refine (θ_run _ _ _).mono (fun r h c => ?_) (Cert.MergeRefIdeal.Value.run (F := Ideal) m' ρ')
  obtain ⟨hv, hargs⟩ := h c
  obtain ⟨a0, a1, a2, a3, a4⟩ := hagree c
  refine ⟨hv.trans ?_, hargs⟩
  rw [Cert.MergeRefIdeal.Read.val_main_v27_eq, a0, a1, a2, a3, a4]
  exact Eq.trans (funext fun y => v27 (arg0 m c) (arg1 m c) (arg2 m c) (arg3 m c) (arg4 m c) y) (array m c).symm

theorem frame_p : quiescent_MergeFwd (hMergeFwd := Cert.MergeFwd.Gen.facts) := fun m ρ _ => Cert.MergeFwd.Gen.frame m ρ

theorem frame_pi : quiescent_MergeFwdIdeal (hMergeFwdIdeal := Cert.MergeFwdIdeal.Gen.facts) := fun m ρ _ => Cert.MergeFwdIdeal.Gen.frame m ρ

/-- The reference runs to its end and leaves its arguments; it declares no semaphore. -/
theorem frame_ri : quiescent_MergeRefIdeal (hMergeRefIdeal := Cert.MergeRefIdeal.Gen.facts) := fun m ρ _ =>
  (θ_run _ _ _).mono (fun r h => And.intro (fun c => (h c).2) (sem_eq_zero_of_no_sems (by decide) r.2))
    (Cert.MergeRefIdeal.Value.run (F := Ideal) m ρ)

end Cert.MergeClaim

end
-- ==== Proof.lean ====
module

public import proofs.«01_k».proof.Defs
public import proofs.«01_k».proof.Proof.Gen.MemBwd
public import proofs.«01_k».proof.Proof.Gen.MemBwd.Skeleton
public import proofs.«01_k».proof.Proof.Gen.MemBwd.Launch
public import proofs.«01_k».proof.Proof.Gen.MemBwd.Points
public import proofs.«01_k».proof.Proof.Gen.MemBwd.Frame
public import proofs.«01_k».proof.Proof.Gen.MemBwdIdeal
public import proofs.«01_k».proof.Proof.Gen.MemBwdIdeal.Skeleton
public import proofs.«01_k».proof.Proof.Gen.MemBwdIdeal.Launch
public import proofs.«01_k».proof.Proof.Gen.MemBwdIdeal.Points
public import proofs.«01_k».proof.Proof.Gen.MemBwdIdeal.Frame
public import proofs.«01_k».proof.Proof.Gen.MemGradIdeal
public import proofs.«01_k».proof.Proof.Gen.MemBwdIdeal.Value
public import proofs.«01_k».proof.Proof.Gen.MemGradIdeal.Run
public import proofs.«01_k».proof.Proof.Gen.MemGradIdeal.Read
public import proofs.«01_k».proof.Proof.Gen.DxnBwd.Frame
public import proofs.«01_k».proof.Proof.Gen.DxnBwdIdeal.Value
public import proofs.«01_k».proof.Proof.Gen.DxnGradIdeal.Run
public import proofs.«01_k».proof.Proof.Gen.DxnGradIdeal.Read
public import proofs.«01_k».proof.Proof.Gen.GwinBwd.Frame
public import proofs.«01_k».proof.Proof.Gen.GwinBwdIdeal.Value
public import proofs.«01_k».proof.Proof.Gen.GwinGradIdeal.Run
public import proofs.«01_k».proof.Proof.Gen.GwinGradIdeal.Read
public import proofs.«01_k».proof.Proof.Gen.DhnBwd.Frame
public import proofs.«01_k».proof.Proof.Gen.DhnBwdIdeal.Value
public import proofs.«01_k».proof.Proof.Gen.DhnGradIdeal.Run
public import proofs.«01_k».proof.Proof.Gen.DhnGradIdeal.Read
public import proofs.«01_k».proof.Proof.Gen.GwupBwd.Frame
public import proofs.«01_k».proof.Proof.Gen.GwupBwdIdeal.Value
public import proofs.«01_k».proof.Proof.Gen.GwupGradIdeal.Run
public import proofs.«01_k».proof.Proof.Gen.GwupGradIdeal.Read
public import proofs.«01_k».proof.Proof.Gen.DactBwd.Frame
public import proofs.«01_k».proof.Proof.Gen.DactBwdIdeal.Value
public import proofs.«01_k».proof.Proof.Gen.DactGradIdeal.Run
public import proofs.«01_k».proof.Proof.Gen.DactGradIdeal.Read
public import proofs.«01_k».proof.Proof.Gen.GwdownBwd.Frame
public import proofs.«01_k».proof.Proof.Gen.GwdownBwdIdeal.Value
public import proofs.«01_k».proof.Proof.Gen.GwdownGradIdeal.Run
public import proofs.«01_k».proof.Proof.Gen.GwdownGradIdeal.Read
public import proofs.«01_k».proof.Proof.Gen.DmergedBwd.Frame
public import proofs.«01_k».proof.Proof.Gen.DmergedBwdIdeal.Value
public import proofs.«01_k».proof.Proof.Gen.DmergedGradIdeal.Run
public import proofs.«01_k».proof.Proof.Gen.DmergedGradIdeal.Read
public import proofs.«01_k».proof.Proof.Gen.GwoBwd.Frame
public import proofs.«01_k».proof.Proof.Gen.GwoBwdIdeal.Value
public import proofs.«01_k».proof.Proof.Gen.GwoGradIdeal.Run
public import proofs.«01_k».proof.Proof.Gen.GwoGradIdeal.Read
public import proofs.«01_k».proof.Proof.Gen.WinFwd.Frame
public import proofs.«01_k».proof.Proof.Gen.WinFwdIdeal.Value
public import proofs.«01_k».proof.Proof.Gen.WinRefIdeal.Run
public import proofs.«01_k».proof.Proof.Gen.WinRefIdeal.Read
public import proofs.«01_k».proof.Proof.Gen.WupFwd.Frame
public import proofs.«01_k».proof.Proof.Gen.WupFwdIdeal.Value
public import proofs.«01_k».proof.Proof.Gen.WupRefIdeal.Run
public import proofs.«01_k».proof.Proof.Gen.WupRefIdeal.Read
public import proofs.«01_k».proof.Proof.Gen.WdownFwd.Frame
public import proofs.«01_k».proof.Proof.Gen.WdownFwdIdeal.Value
public import proofs.«01_k».proof.Proof.Gen.WdownRefIdeal.Run
public import proofs.«01_k».proof.Proof.Gen.WdownRefIdeal.Read
public import proofs.«01_k».proof.Proof.Gen.WoFwd.Frame
public import proofs.«01_k».proof.Proof.Gen.WoFwdIdeal.Value
public import proofs.«01_k».proof.Proof.Gen.WoRefIdeal.Run
public import proofs.«01_k».proof.Proof.Gen.WoRefIdeal.Read
public import proofs.«01_k».proof.Proof.Gen.BranchFwd.Frame
public import proofs.«01_k».proof.Proof.Gen.BranchFwdIdeal.Value
public import proofs.«01_k».proof.Proof.Gen.BranchRefIdeal.Run
public import proofs.«01_k».proof.Proof.Gen.BranchRefIdeal.Read
public import proofs.«01_k».proof.Proof.Gen.DconvBwd.Frame
public import proofs.«01_k».proof.Proof.Gen.DconvBwdIdeal.Value
public import proofs.«01_k».proof.Proof.Gen.DconvGradIdeal.Run
public import proofs.«01_k».proof.Proof.Gen.DconvGradIdeal.Read
public import proofs.«01_k».proof.Proof.Gen.GconvBwd.Frame
public import proofs.«01_k».proof.Proof.Gen.GconvBwdIdeal.Value
public import proofs.«01_k».proof.Proof.Gen.GconvGradIdeal.Run
public import proofs.«01_k».proof.Proof.Gen.GconvGradIdeal.Read
public import proofs.«01_k».proof.Proof.Gen.DattnBwd.Frame
public import proofs.«01_k».proof.Proof.Gen.DattnBwdIdeal.Value
public import proofs.«01_k».proof.Proof.Gen.DattnGradIdeal.Run
public import proofs.«01_k».proof.Proof.Gen.DattnGradIdeal.Read
public import proofs.«01_k».proof.Proof.Gen.GattnBwd.Frame
public import proofs.«01_k».proof.Proof.Gen.GattnBwdIdeal.Value
public import proofs.«01_k».proof.Proof.Gen.GattnGradIdeal.Run
public import proofs.«01_k».proof.Proof.Gen.GattnGradIdeal.Read
public import proofs.«01_k».proof.Proof.Gen.DmemBwd.Frame
public import proofs.«01_k».proof.Proof.Gen.DmemBwdIdeal.Value
public import proofs.«01_k».proof.Proof.Gen.DmemGradIdeal.Run
public import proofs.«01_k».proof.Proof.Gen.DmemGradIdeal.Read
public import proofs.«01_k».proof.Proof.Gen.GmemBwd.Frame
public import proofs.«01_k».proof.Proof.Gen.GmemBwdIdeal.Value
public import proofs.«01_k».proof.Proof.Gen.GmemGradIdeal.Run
public import proofs.«01_k».proof.Proof.Gen.GmemGradIdeal.Read
public import proofs.«01_k».proof.Proof.Gen.WkvFwd.Frame
public import proofs.«01_k».proof.Proof.Gen.WkvFwdIdeal.Value
public import proofs.«01_k».proof.Proof.Gen.WkvRefIdeal.Run
public import proofs.«01_k».proof.Proof.Gen.WkvRefIdeal.Read
public import proofs.«01_k».proof.Proof.Gen.DkvBwd.Frame
public import proofs.«01_k».proof.Proof.Gen.DkvBwdIdeal.Value
public import proofs.«01_k».proof.Proof.Gen.DkvGradIdeal.Run
public import proofs.«01_k».proof.Proof.Gen.DkvGradIdeal.Read
public import proofs.«01_k».proof.Proof.Gen.GkvBwd.Frame
public import proofs.«01_k».proof.Proof.Gen.GkvBwdIdeal.Value
public import proofs.«01_k».proof.Proof.Gen.GkvGradIdeal.Run
public import proofs.«01_k».proof.Proof.Gen.GkvGradIdeal.Read
public import proofs.«01_k».proof.Proof.Gen.MemFwd.Frame
public import proofs.«01_k».proof.Proof.Gen.MemFwdIdeal.Value
public import proofs.«01_k».proof.Proof.Gen.MemOutIdeal.Run
public import proofs.«01_k».proof.Proof.Gen.MemOutIdeal.Read
public import proofs.«01_k».proof.Proof.Gen.DnormBwd.Frame
public import proofs.«01_k».proof.Proof.Gen.DnormBwdIdeal.Value
public import proofs.«01_k».proof.Proof.Gen.DnormGradIdeal.Run
public import proofs.«01_k».proof.Proof.Gen.DnormGradIdeal.Read
public import proofs.«01_k».proof.Proof.Gen.DtokBwd.Frame
public import proofs.«01_k».proof.Proof.Gen.DtokBwdIdeal.Value
public import proofs.«01_k».proof.Proof.Gen.DtokGradIdeal.Run
public import proofs.«01_k».proof.Proof.Gen.DtokGradIdeal.Read
public import proofs.«01_k».proof.Proof.Gen.LossBwd.Frame
public import proofs.«01_k».proof.Proof.Gen.LossBwdIdeal.Value
public import proofs.«01_k».proof.Proof.Gen.LossGradIdeal.Run
public import proofs.«01_k».proof.Proof.Gen.LossGradIdeal.Read
public import proofs.«01_k».proof.Proof.Gen.DlnBwd.Frame
public import proofs.«01_k».proof.Proof.Gen.DlnBwdIdeal.Value
public import proofs.«01_k».proof.Proof.Gen.DlnGradIdeal.Run
public import proofs.«01_k».proof.Proof.Gen.DlnGradIdeal.Read
public import proofs.«01_k».proof.Proof.Gen.DkeysBwd.Frame
public import proofs.«01_k».proof.Proof.Gen.DkeysBwdIdeal.Value
public import proofs.«01_k».proof.Proof.Gen.DkeysGradIdeal.Run
public import proofs.«01_k».proof.Proof.Gen.DkeysGradIdeal.Read
public import proofs.«01_k».proof.Proof.Gen.DvalsBwd.Frame
public import proofs.«01_k».proof.Proof.Gen.DvalsBwdIdeal.Value
public import proofs.«01_k».proof.Proof.Gen.DvalsGradIdeal.Run
public import proofs.«01_k».proof.Proof.Gen.DvalsGradIdeal.Read
public import proofs.«01_k».proof.Proof.Gen.FfnFwd.Frame
public import proofs.«01_k».proof.Proof.Gen.FfnFwdIdeal.Value
public import proofs.«01_k».proof.Proof.Gen.FfnRefIdeal.Run
public import proofs.«01_k».proof.Proof.Gen.FfnRefIdeal.Read
public import proofs.«01_k».proof.Proof.Gen.NormFwd.Frame
public import proofs.«01_k».proof.Proof.Gen.NormFwdIdeal.Value
public import proofs.«01_k».proof.Proof.Gen.NormRefIdeal.Run
public import proofs.«01_k».proof.Proof.Gen.NormRefIdeal.Read
public import proofs.«01_k».proof.Proof.Gen.TokFwd.Frame
public import proofs.«01_k».proof.Proof.Gen.TokFwdIdeal.Value
public import proofs.«01_k».proof.Proof.Gen.TokRefIdeal.Run
public import proofs.«01_k».proof.Proof.Gen.TokRefIdeal.Read
public import proofs.«01_k».proof.Proof.Gen.MergeFwd.Frame
public import proofs.«01_k».proof.Proof.Gen.MergeFwdIdeal.Value
public import proofs.«01_k».proof.Proof.Gen.MergeRefIdeal.Run
public import proofs.«01_k».proof.Proof.Gen.MergeRefIdeal.Read
public import proofs.«01_k».proof.Proof.MemClaim
public import proofs.«01_k».proof.Proof.DxnClaim
public import proofs.«01_k».proof.Proof.GwinClaim
public import proofs.«01_k».proof.Proof.DhnClaim
public import proofs.«01_k».proof.Proof.GwupClaim
public import proofs.«01_k».proof.Proof.DactClaim
public import proofs.«01_k».proof.Proof.GwdownClaim
public import proofs.«01_k».proof.Proof.DmergedClaim
public import proofs.«01_k».proof.Proof.GwoClaim
public import proofs.«01_k».proof.Proof.WinClaim
public import proofs.«01_k».proof.Proof.WupClaim
public import proofs.«01_k».proof.Proof.WdownClaim
public import proofs.«01_k».proof.Proof.WoClaim
public import proofs.«01_k».proof.Proof.BranchClaim
public import proofs.«01_k».proof.Proof.DconvClaim
public import proofs.«01_k».proof.Proof.GconvClaim
public import proofs.«01_k».proof.Proof.DattnClaim
public import proofs.«01_k».proof.Proof.GattnClaim
public import proofs.«01_k».proof.Proof.DmemClaim
public import proofs.«01_k».proof.Proof.GmemClaim
public import proofs.«01_k».proof.Proof.WkvClaim
public import proofs.«01_k».proof.Proof.DkvClaim
public import proofs.«01_k».proof.Proof.GkvClaim
public import proofs.«01_k».proof.Proof.MemfClaim
public import proofs.«01_k».proof.Proof.DnormClaim
public import proofs.«01_k».proof.Proof.DtokClaim
public import proofs.«01_k».proof.Proof.LossClaim
public import proofs.«01_k».proof.Proof.DlnClaim
public import proofs.«01_k».proof.Proof.DkeysClaim
public import proofs.«01_k».proof.Proof.DvalsClaim
public import proofs.«01_k».proof.Proof.FfnClaim
public import proofs.«01_k».proof.Proof.NormClaim
public import proofs.«01_k».proof.Proof.TokClaim
public import proofs.«01_k».proof.Proof.MergeClaim
public import Idealize.ShloMosaic.Adequacy
public import Idealize.ShloMosaic.Init

@[expose] public section

noncomputable section

namespace Cert.Proof

open Idealize.ShloMosaic Idealize.SL.Sem Cert.MemBwd

theorem claim : Cert.Claim :=
  ⟨Cert.MemBwd.Gen.facts, Cert.MemBwdIdeal.Gen.facts, Cert.MemGradIdeal.Gen.facts,
    Cert.DxnBwd.Gen.facts, Cert.DxnBwdIdeal.Gen.facts, Cert.DxnGradIdeal.Gen.facts,
    Cert.GwinBwd.Gen.facts, Cert.GwinBwdIdeal.Gen.facts, Cert.GwinGradIdeal.Gen.facts,
    Cert.DhnBwd.Gen.facts, Cert.DhnBwdIdeal.Gen.facts, Cert.DhnGradIdeal.Gen.facts,
    Cert.GwupBwd.Gen.facts, Cert.GwupBwdIdeal.Gen.facts, Cert.GwupGradIdeal.Gen.facts,
    Cert.DactBwd.Gen.facts, Cert.DactBwdIdeal.Gen.facts, Cert.DactGradIdeal.Gen.facts,
    Cert.GwdownBwd.Gen.facts, Cert.GwdownBwdIdeal.Gen.facts, Cert.GwdownGradIdeal.Gen.facts,
    Cert.DmergedBwd.Gen.facts, Cert.DmergedBwdIdeal.Gen.facts, Cert.DmergedGradIdeal.Gen.facts,
    Cert.GwoBwd.Gen.facts, Cert.GwoBwdIdeal.Gen.facts, Cert.GwoGradIdeal.Gen.facts,
    Cert.WinFwd.Gen.facts, Cert.WinFwdIdeal.Gen.facts, Cert.WinRefIdeal.Gen.facts,
    Cert.WupFwd.Gen.facts, Cert.WupFwdIdeal.Gen.facts, Cert.WupRefIdeal.Gen.facts,
    Cert.WdownFwd.Gen.facts, Cert.WdownFwdIdeal.Gen.facts, Cert.WdownRefIdeal.Gen.facts,
    Cert.WoFwd.Gen.facts, Cert.WoFwdIdeal.Gen.facts, Cert.WoRefIdeal.Gen.facts,
    Cert.BranchFwd.Gen.facts, Cert.BranchFwdIdeal.Gen.facts, Cert.BranchRefIdeal.Gen.facts,
    Cert.DconvBwd.Gen.facts, Cert.DconvBwdIdeal.Gen.facts, Cert.DconvGradIdeal.Gen.facts,
    Cert.GconvBwd.Gen.facts, Cert.GconvBwdIdeal.Gen.facts, Cert.GconvGradIdeal.Gen.facts,
    Cert.DattnBwd.Gen.facts, Cert.DattnBwdIdeal.Gen.facts, Cert.DattnGradIdeal.Gen.facts,
    Cert.GattnBwd.Gen.facts, Cert.GattnBwdIdeal.Gen.facts, Cert.GattnGradIdeal.Gen.facts,
    Cert.DmemBwd.Gen.facts, Cert.DmemBwdIdeal.Gen.facts, Cert.DmemGradIdeal.Gen.facts,
    Cert.GmemBwd.Gen.facts, Cert.GmemBwdIdeal.Gen.facts, Cert.GmemGradIdeal.Gen.facts,
    Cert.WkvFwd.Gen.facts, Cert.WkvFwdIdeal.Gen.facts, Cert.WkvRefIdeal.Gen.facts,
    Cert.DkvBwd.Gen.facts, Cert.DkvBwdIdeal.Gen.facts, Cert.DkvGradIdeal.Gen.facts,
    Cert.GkvBwd.Gen.facts, Cert.GkvBwdIdeal.Gen.facts, Cert.GkvGradIdeal.Gen.facts,
    Cert.MemFwd.Gen.facts, Cert.MemFwdIdeal.Gen.facts, Cert.MemOutIdeal.Gen.facts,
    Cert.DnormBwd.Gen.facts, Cert.DnormBwdIdeal.Gen.facts, Cert.DnormGradIdeal.Gen.facts,
    Cert.DtokBwd.Gen.facts, Cert.DtokBwdIdeal.Gen.facts, Cert.DtokGradIdeal.Gen.facts,
    Cert.LossBwd.Gen.facts, Cert.LossBwdIdeal.Gen.facts, Cert.LossGradIdeal.Gen.facts,
    Cert.DlnBwd.Gen.facts, Cert.DlnBwdIdeal.Gen.facts, Cert.DlnGradIdeal.Gen.facts,
    Cert.DkeysBwd.Gen.facts, Cert.DkeysBwdIdeal.Gen.facts, Cert.DkeysGradIdeal.Gen.facts,
    Cert.DvalsBwd.Gen.facts, Cert.DvalsBwdIdeal.Gen.facts, Cert.DvalsGradIdeal.Gen.facts,
    Cert.FfnFwd.Gen.facts, Cert.FfnFwdIdeal.Gen.facts, Cert.FfnRefIdeal.Gen.facts,
    Cert.NormFwd.Gen.facts, Cert.NormFwdIdeal.Gen.facts, Cert.NormRefIdeal.Gen.facts,
    Cert.TokFwd.Gen.facts, Cert.TokFwdIdeal.Gen.facts, Cert.TokRefIdeal.Gen.facts,
    Cert.MergeFwd.Gen.facts, Cert.MergeFwdIdeal.Gen.facts, Cert.MergeRefIdeal.Gen.facts,
    MemClaim.preFacts, MemfClaim.preFacts, DlnClaim.preFacts,
    MemClaim.frame_p, MemClaim.frame_pi, MemClaim.frame_pi_pre, MemClaim.frame_ri, MemClaim.frame_ri_pre,
    DxnClaim.frame_p, DxnClaim.frame_pi, DxnClaim.frame_ri,
    GwinClaim.frame_p, GwinClaim.frame_pi, GwinClaim.frame_ri,
    DhnClaim.frame_p, DhnClaim.frame_pi, DhnClaim.frame_ri,
    GwupClaim.frame_p, GwupClaim.frame_pi, GwupClaim.frame_ri,
    DactClaim.frame_p, DactClaim.frame_pi, DactClaim.frame_ri,
    GwdownClaim.frame_p, GwdownClaim.frame_pi, GwdownClaim.frame_ri,
    DmergedClaim.frame_p, DmergedClaim.frame_pi, DmergedClaim.frame_ri,
    GwoClaim.frame_p, GwoClaim.frame_pi, GwoClaim.frame_ri,
    WinClaim.frame_p, WinClaim.frame_pi, WinClaim.frame_ri,
    WupClaim.frame_p, WupClaim.frame_pi, WupClaim.frame_ri,
    WdownClaim.frame_p, WdownClaim.frame_pi, WdownClaim.frame_ri,
    WoClaim.frame_p, WoClaim.frame_pi, WoClaim.frame_ri,
    BranchClaim.frame_p, BranchClaim.frame_pi, BranchClaim.frame_ri,
    DconvClaim.frame_p, DconvClaim.frame_pi, DconvClaim.frame_ri,
    GconvClaim.frame_p, GconvClaim.frame_pi, GconvClaim.frame_ri,
    DattnClaim.frame_p, DattnClaim.frame_pi, DattnClaim.frame_ri,
    GattnClaim.frame_p, GattnClaim.frame_pi, GattnClaim.frame_ri,
    DmemClaim.frame_p, DmemClaim.frame_pi, DmemClaim.frame_ri,
    GmemClaim.frame_p, GmemClaim.frame_pi, GmemClaim.frame_ri,
    WkvClaim.frame_p, WkvClaim.frame_pi, WkvClaim.frame_ri,
    DkvClaim.frame_p, DkvClaim.frame_pi, DkvClaim.frame_ri,
    GkvClaim.frame_p, GkvClaim.frame_pi, GkvClaim.frame_ri,
    MemfClaim.frame_p, MemfClaim.frame_pi, MemfClaim.frame_pi_pre, MemfClaim.frame_ri, MemfClaim.frame_ri_pre,
    DnormClaim.frame_p, DnormClaim.frame_pi, DnormClaim.frame_ri,
    DtokClaim.frame_p, DtokClaim.frame_pi, DtokClaim.frame_ri,
    LossClaim.frame_p, LossClaim.frame_pi, LossClaim.frame_ri,
    DlnClaim.frame_p, DlnClaim.frame_pi, DlnClaim.frame_pi_pre, DlnClaim.frame_ri, DlnClaim.frame_ri_pre,
    DkeysClaim.frame_p, DkeysClaim.frame_pi, DkeysClaim.frame_ri,
    DvalsClaim.frame_p, DvalsClaim.frame_pi, DvalsClaim.frame_ri,
    FfnClaim.frame_p, FfnClaim.frame_pi, FfnClaim.frame_ri,
    NormClaim.frame_p, NormClaim.frame_pi, NormClaim.frame_ri,
    TokClaim.frame_p, TokClaim.frame_pi, TokClaim.frame_ri,
    MergeClaim.frame_p, MergeClaim.frame_pi, MergeClaim.frame_ri,
    trivial, MemClaim.algebraic,
    trivial, DxnClaim.algebraic,
    trivial, GwinClaim.algebraic,
    trivial, DhnClaim.algebraic,
    trivial, GwupClaim.algebraic,
    trivial, DactClaim.algebraic,
    trivial, GwdownClaim.algebraic,
    trivial, DmergedClaim.algebraic,
    trivial, GwoClaim.algebraic,
    trivial, WinClaim.algebraic,
    trivial, WupClaim.algebraic,
    trivial, WdownClaim.algebraic,
    trivial, WoClaim.algebraic,
    trivial, BranchClaim.algebraic,
    trivial, DconvClaim.algebraic,
    trivial, GconvClaim.algebraic,
    trivial, DattnClaim.algebraic,
    trivial, GattnClaim.algebraic,
    trivial, DmemClaim.algebraic,
    trivial, GmemClaim.algebraic,
    trivial, WkvClaim.algebraic,
    trivial, DkvClaim.algebraic,
    trivial, GkvClaim.algebraic,
    trivial, MemfClaim.algebraic,
    trivial, DnormClaim.algebraic,
    trivial, DtokClaim.algebraic,
    trivial, LossClaim.algebraic,
    trivial, DlnClaim.algebraic,
    trivial, DkeysClaim.algebraic,
    trivial, DvalsClaim.algebraic,
    trivial, FfnClaim.algebraic,
    trivial, NormClaim.algebraic,
    trivial, TokClaim.algebraic,
    trivial, MergeClaim.algebraic⟩

end Cert.Proof

end
